-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_RmsGrad (m : (ℓ : Loc Cert.RmsGrad.nD Cert.RmsGrad.τ Cert.RmsGrad.sig) → Buf (Elt Bits) ℓ) : Prop :=
  True

def Pre_RmsGradIdeal (m : (ℓ : Loc Cert.RmsGradIdeal.nD Cert.RmsGradIdeal.τ Cert.RmsGradIdeal.sig) → Buf (Elt Ideal) ℓ) : Prop :=
  True

def Pre_RmsGradRefIdeal (m : (ℓ : Loc Cert.RmsGradRefIdeal.nD Cert.RmsGradRefIdeal.τ Cert.RmsGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_HeadGrad (m : (ℓ : Loc Cert.HeadGrad.nD Cert.HeadGrad.τ Cert.HeadGrad.sig) → Buf (Elt Bits) ℓ) : Prop :=
  True

def Pre_HeadGradIdeal (m : (ℓ : Loc Cert.HeadGradIdeal.nD Cert.HeadGradIdeal.τ Cert.HeadGradIdeal.sig) → Buf (Elt Ideal) ℓ) : Prop :=
  True

def Pre_HeadGradRefIdeal (m : (ℓ : Loc Cert.HeadGradRefIdeal.nD Cert.HeadGradRefIdeal.τ Cert.HeadGradRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_RmsGrad [hRmsGrad : Cert.RmsGrad.Facts] : Prop :=
  ∀ (m : (ℓ : Loc Cert.RmsGrad.nD Cert.RmsGrad.τ Cert.RmsGrad.sig) → Buf (Elt Bits) ℓ) (g : Dev Cert.RmsGrad.nD → PrngReg), Pre_RmsGrad m →
    θ_run (Cert.RmsGrad.defs (F := Bits)) (onTc (τ := Cert.RmsGrad.τ) (Cert.RmsGrad.main (F := Bits))) ⟨m, fun _ => 0, g⟩ (fun r => (∀ c : Dev Cert.RmsGrad.nD,
      r.2.mem ((c.tc : Thread Cert.RmsGrad.nD Cert.RmsGrad.τ).loc Cert.RmsGrad.main_arg0) = m ((c.tc : Thread Cert.RmsGrad.nD Cert.RmsGrad.τ).loc Cert.RmsGrad.main_arg0)
      ∧ r.2.mem ((c.tc : Thread Cert.RmsGrad.nD Cert.RmsGrad.τ).loc Cert.RmsGrad.main_arg1) = m ((c.tc : Thread Cert.RmsGrad.nD Cert.RmsGrad.τ).loc Cert.RmsGrad.main_arg1)
      ∧ r.2.mem ((c.tc : Thread Cert.RmsGrad.nD Cert.RmsGrad.τ).loc Cert.RmsGrad.main_arg2) = m ((c.tc : Thread Cert.RmsGrad.nD Cert.RmsGrad.τ).loc Cert.RmsGrad.main_arg2)
      ∧ r.2.mem ((c.tc : Thread Cert.RmsGrad.nD Cert.RmsGrad.τ).loc Cert.RmsGrad.main_arg3) = m ((c.tc : Thread Cert.RmsGrad.nD Cert.RmsGrad.τ).loc Cert.RmsGrad.main_arg3))
      ∧ r.2.sem = fun _ => 0)

def quiescent_RmsGradIdeal [hRmsGradIdeal : Cert.RmsGradIdeal.Facts] : Prop :=
  ∀ (m : (ℓ : Loc Cert.RmsGradIdeal.nD Cert.RmsGradIdeal.τ Cert.RmsGradIdeal.sig) → Buf (Elt Ideal) ℓ) (g : Dev Cert.RmsGradIdeal.nD → PrngReg), Pre_RmsGradIdeal m →
    θ_run (Cert.RmsGradIdeal.defs (F := Ideal)) (onTc (τ := Cert.RmsGradIdeal.τ) (Cert.RmsGradIdeal.main (F := Ideal))) ⟨m, fun _ => 0, g⟩ (fun r => (∀ c : Dev Cert.RmsGradIdeal.nD,
      r.2.mem ((c.tc : Thread Cert.RmsGradIdeal.nD Cert.RmsGradIdeal.τ).loc Cert.RmsGradIdeal.main_arg0) = m ((c.tc : Thread Cert.RmsGradIdeal.nD Cert.RmsGradIdeal.τ).loc Cert.RmsGradIdeal.main_arg0)
      ∧ r.2.mem ((c.tc : Thread Cert.RmsGradIdeal.nD Cert.RmsGradIdeal.τ).loc Cert.RmsGradIdeal.main_arg1) = m ((c.tc : Thread Cert.RmsGradIdeal.nD Cert.RmsGradIdeal.τ).loc Cert.RmsGradIdeal.main_arg1)
      ∧ r.2.mem ((c.tc : Thread Cert.RmsGradIdeal.nD Cert.RmsGradIdeal.τ).loc Cert.RmsGradIdeal.main_arg2) = m ((c.tc : Thread Cert.RmsGradIdeal.nD Cert.RmsGradIdeal.τ).loc Cert.RmsGradIdeal.main_arg2)
      ∧ r.2.mem ((c.tc : Thread Cert.RmsGradIdeal.nD Cert.RmsGradIdeal.τ).loc Cert.RmsGradIdeal.main_arg3) = m ((c.tc : Thread Cert.RmsGradIdeal.nD Cert.RmsGradIdeal.τ).loc Cert.RmsGradIdeal.main_arg3))
      ∧ r.2.sem = fun _ => 0)

def quiescent_RmsGradRefIdeal [hRmsGradRefIdeal : Cert.RmsGradRefIdeal.Facts] : Prop :=
  ∀ (m : (ℓ : Loc Cert.RmsGradRefIdeal.nD Cert.RmsGradRefIdeal.τ Cert.RmsGradRefIdeal.sig) → Buf (Elt Ideal) ℓ) (g : Dev Cert.RmsGradRefIdeal.nD → PrngReg), Pre_RmsGradRefIdeal m →
    θ_run (Cert.RmsGradRefIdeal.defs (F := Ideal)) (onTc (τ := Cert.RmsGradRefIdeal.τ) (Cert.RmsGradRefIdeal.main (F := Ideal))) ⟨m, fun _ => 0, g⟩ (fun r => (∀ c : Dev Cert.RmsGradRefIdeal.nD,
      r.2.mem ((c.tc : Thread Cert.RmsGradRefIdeal.nD Cert.RmsGradRefIdeal.τ).loc Cert.RmsGradRefIdeal.main_arg0) = m ((c.tc : Thread Cert.RmsGradRefIdeal.nD Cert.RmsGradRefIdeal.τ).loc Cert.RmsGradRefIdeal.main_arg0)
      ∧ r.2.mem ((c.tc : Thread Cert.RmsGradRefIdeal.nD Cert.RmsGradRefIdeal.τ).loc Cert.RmsGradRefIdeal.main_arg1) = m ((c.tc : Thread Cert.RmsGradRefIdeal.nD Cert.RmsGradRefIdeal.τ).loc Cert.RmsGradRefIdeal.main_arg1)
      ∧ r.2.mem ((c.tc : Thread Cert.RmsGradRefIdeal.nD Cert.RmsGradRefIdeal.τ).loc Cert.RmsGradRefIdeal.main_arg2) = m ((c.tc : Thread Cert.RmsGradRefIdeal.nD Cert.RmsGradRefIdeal.τ).loc Cert.RmsGradRefIdeal.main_arg2)
      ∧ r.2.mem ((c.tc : Thread Cert.RmsGradRefIdeal.nD Cert.RmsGradRefIdeal.τ).loc Cert.RmsGradRefIdeal.main_arg3) = m ((c.tc : Thread Cert.RmsGradRefIdeal.nD Cert.RmsGradRefIdeal.τ).loc Cert.RmsGradRefIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4)
      ∧ r.2.mem ((c.tc : Thread Cert.MergeGrad.nD Cert.MergeGrad.τ).loc Cert.MergeGrad.main_arg5) = m ((c.tc : Thread Cert.MergeGrad.nD Cert.MergeGrad.τ).loc Cert.MergeGrad.main_arg5))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
      ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3)
      ∧ r.2.mem ((c.tc : Thread Cert.MergeGradRefIdeal.nD Cert.MergeGradRefIdeal.τ).loc Cert.MergeGradRefIdeal.main_arg4) = m ((c.tc : Thread Cert.MergeGradRefIdeal.nD Cert.MergeGradRefIdeal.τ).loc Cert.MergeGradRefIdeal.main_arg4)
      ∧ r.2.mem ((c.tc : Thread Cert.MergeGradRefIdeal.nD Cert.MergeGradRefIdeal.τ).loc Cert.MergeGradRefIdeal.main_arg5) = m ((c.tc : Thread Cert.MergeGradRefIdeal.nD Cert.MergeGradRefIdeal.τ).loc Cert.MergeGradRefIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7)
      ∧ r.2.mem ((c.tc : Thread Cert.Forward.nD Cert.Forward.τ).loc Cert.Forward.main_arg8) = m ((c.tc : Thread Cert.Forward.nD Cert.Forward.τ).loc Cert.Forward.main_arg8)
      ∧ r.2.mem ((c.tc : Thread Cert.Forward.nD Cert.Forward.τ).loc Cert.Forward.main_arg9) = m ((c.tc : Thread Cert.Forward.nD Cert.Forward.τ).loc Cert.Forward.main_arg9)
      ∧ r.2.mem ((c.tc : Thread Cert.Forward.nD Cert.Forward.τ).loc Cert.Forward.main_arg10) = m ((c.tc : Thread Cert.Forward.nD Cert.Forward.τ).loc Cert.Forward.main_arg10))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6)
      ∧ r.2.mem ((c.tc : Thread Cert.ForwardRefIdeal.nD Cert.ForwardRefIdeal.τ).loc Cert.ForwardRefIdeal.main_arg7) = m ((c.tc : Thread Cert.ForwardRefIdeal.nD Cert.ForwardRefIdeal.τ).loc Cert.ForwardRefIdeal.main_arg7)
      ∧ r.2.mem ((c.tc : Thread Cert.ForwardRefIdeal.nD Cert.ForwardRefIdeal.τ).loc Cert.ForwardRefIdeal.main_arg8) = m ((c.tc : Thread Cert.ForwardRefIdeal.nD Cert.ForwardRefIdeal.τ).loc Cert.ForwardRefIdeal.main_arg8)
      ∧ r.2.mem ((c.tc : Thread Cert.ForwardRefIdeal.nD Cert.ForwardRefIdeal.τ).loc Cert.ForwardRefIdeal.main_arg9) = m ((c.tc : Thread Cert.ForwardRefIdeal.nD Cert.ForwardRefIdeal.τ).loc Cert.ForwardRefIdeal.main_arg9)
      ∧ r.2.mem ((c.tc : Thread Cert.ForwardRefIdeal.nD Cert.ForwardRefIdeal.τ).loc Cert.ForwardRefIdeal.main_arg10) = m ((c.tc : Thread Cert.ForwardRefIdeal.nD Cert.ForwardRefIdeal.τ).loc Cert.ForwardRefIdeal.main_arg10))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_HeadGrad [hHeadGrad : Cert.HeadGrad.Facts] : Prop :=
  ∀ (m : (ℓ : Loc Cert.HeadGrad.nD Cert.HeadGrad.τ Cert.HeadGrad.sig) → Buf (Elt Bits) ℓ) (g : Dev Cert.HeadGrad.nD → PrngReg), Pre_HeadGrad m →
    θ_run (Cert.HeadGrad.defs (F := Bits)) (onTc (τ := Cert.HeadGrad.τ) (Cert.HeadGrad.main (F := Bits))) ⟨m, fun _ => 0, g⟩ (fun r => (∀ c : Dev Cert.HeadGrad.nD,
      r.2.mem ((c.tc : Thread Cert.HeadGrad.nD Cert.HeadGrad.τ).loc Cert.HeadGrad.main_arg0) = m ((c.tc : Thread Cert.HeadGrad.nD Cert.HeadGrad.τ).loc Cert.HeadGrad.main_arg0)
      ∧ r.2.mem ((c.tc : Thread Cert.HeadGrad.nD Cert.HeadGrad.τ).loc Cert.HeadGrad.main_arg1) = m ((c.tc : Thread Cert.HeadGrad.nD Cert.HeadGrad.τ).loc Cert.HeadGrad.main_arg1)
      ∧ r.2.mem ((c.tc : Thread Cert.HeadGrad.nD Cert.HeadGrad.τ).loc Cert.HeadGrad.main_arg2) = m ((c.tc : Thread Cert.HeadGrad.nD Cert.HeadGrad.τ).loc Cert.HeadGrad.main_arg2)
      ∧ r.2.mem ((c.tc : Thread Cert.HeadGrad.nD Cert.HeadGrad.τ).loc Cert.HeadGrad.main_arg3) = m ((c.tc : Thread Cert.HeadGrad.nD Cert.HeadGrad.τ).loc Cert.HeadGrad.main_arg3)
      ∧ r.2.mem ((c.tc : Thread Cert.HeadGrad.nD Cert.HeadGrad.τ).loc Cert.HeadGrad.main_arg4) = m ((c.tc : Thread Cert.HeadGrad.nD Cert.HeadGrad.τ).loc Cert.HeadGrad.main_arg4)
      ∧ r.2.mem ((c.tc : Thread Cert.HeadGrad.nD Cert.HeadGrad.τ).loc Cert.HeadGrad.main_arg5) = m ((c.tc : Thread Cert.HeadGrad.nD Cert.HeadGrad.τ).loc Cert.HeadGrad.main_arg5))
      ∧ r.2.sem = fun _ => 0)

def quiescent_HeadGradIdeal [hHeadGradIdeal : Cert.HeadGradIdeal.Facts] : Prop :=
  ∀ (m : (ℓ : Loc Cert.HeadGradIdeal.nD Cert.HeadGradIdeal.τ Cert.HeadGradIdeal.sig) → Buf (Elt Ideal) ℓ) (g : Dev Cert.HeadGradIdeal.nD → PrngReg), Pre_HeadGradIdeal m →
    θ_run (Cert.HeadGradIdeal.defs (F := Ideal)) (onTc (τ := Cert.HeadGradIdeal.τ) (Cert.HeadGradIdeal.main (F := Ideal))) ⟨m, fun _ => 0, g⟩ (fun r => (∀ c : Dev Cert.HeadGradIdeal.nD,
      r.2.mem ((c.tc : Thread Cert.HeadGradIdeal.nD Cert.HeadGradIdeal.τ).loc Cert.HeadGradIdeal.main_arg0) = m ((c.tc : Thread Cert.HeadGradIdeal.nD Cert.HeadGradIdeal.τ).loc Cert.HeadGradIdeal.main_arg0)
      ∧ r.2.mem ((c.tc : Thread Cert.HeadGradIdeal.nD Cert.HeadGradIdeal.τ).loc Cert.HeadGradIdeal.main_arg1) = m ((c.tc : Thread Cert.HeadGradIdeal.nD Cert.HeadGradIdeal.τ).loc Cert.HeadGradIdeal.main_arg1)
      ∧ r.2.mem ((c.tc : Thread Cert.HeadGradIdeal.nD Cert.HeadGradIdeal.τ).loc Cert.HeadGradIdeal.main_arg2) = m ((c.tc : Thread Cert.HeadGradIdeal.nD Cert.HeadGradIdeal.τ).loc Cert.HeadGradIdeal.main_arg2)
      ∧ r.2.mem ((c.tc : Thread Cert.HeadGradIdeal.nD Cert.HeadGradIdeal.τ).loc Cert.HeadGradIdeal.main_arg3) = m ((c.tc : Thread Cert.HeadGradIdeal.nD Cert.HeadGradIdeal.τ).loc Cert.HeadGradIdeal.main_arg3)
      ∧ r.2.mem ((c.tc : Thread Cert.HeadGradIdeal.nD Cert.HeadGradIdeal.τ).loc Cert.HeadGradIdeal.main_arg4) = m ((c.tc : Thread Cert.HeadGradIdeal.nD Cert.HeadGradIdeal.τ).loc Cert.HeadGradIdeal.main_arg4)
      ∧ r.2.mem ((c.tc : Thread Cert.HeadGradIdeal.nD Cert.HeadGradIdeal.τ).loc Cert.HeadGradIdeal.main_arg5) = m ((c.tc : Thread Cert.HeadGradIdeal.nD Cert.HeadGradIdeal.τ).loc Cert.HeadGradIdeal.main_arg5))
      ∧ r.2.sem = fun _ => 0)

def quiescent_HeadGradRefIdeal [hHeadGradRefIdeal : Cert.HeadGradRefIdeal.Facts] : Prop :=
  ∀ (m : (ℓ : Loc Cert.HeadGradRefIdeal.nD Cert.HeadGradRefIdeal.τ Cert.HeadGradRefIdeal.sig) → Buf (Elt Ideal) ℓ) (g : Dev Cert.HeadGradRefIdeal.nD → PrngReg), Pre_HeadGradRefIdeal m →
    θ_run (Cert.HeadGradRefIdeal.defs (F := Ideal)) (onTc (τ := Cert.HeadGradRefIdeal.τ) (Cert.HeadGradRefIdeal.main (F := Ideal))) ⟨m, fun _ => 0, g⟩ (fun r => (∀ c : Dev Cert.HeadGradRefIdeal.nD,
      r.2.mem ((c.tc : Thread Cert.HeadGradRefIdeal.nD Cert.HeadGradRefIdeal.τ).loc Cert.HeadGradRefIdeal.main_arg0) = m ((c.tc : Thread Cert.HeadGradRefIdeal.nD Cert.HeadGradRefIdeal.τ).loc Cert.HeadGradRefIdeal.main_arg0)
      ∧ r.2.mem ((c.tc : Thread Cert.HeadGradRefIdeal.nD Cert.HeadGradRefIdeal.τ).loc Cert.HeadGradRefIdeal.main_arg1) = m ((c.tc : Thread Cert.HeadGradRefIdeal.nD Cert.HeadGradRefIdeal.τ).loc Cert.HeadGradRefIdeal.main_arg1)
      ∧ r.2.mem ((c.tc : Thread Cert.HeadGradRefIdeal.nD Cert.HeadGradRefIdeal.τ).loc Cert.HeadGradRefIdeal.main_arg2) = m ((c.tc : Thread Cert.HeadGradRefIdeal.nD Cert.HeadGradRefIdeal.τ).loc Cert.HeadGradRefIdeal.main_arg2)
      ∧ r.2.mem ((c.tc : Thread Cert.HeadGradRefIdeal.nD Cert.HeadGradRefIdeal.τ).loc Cert.HeadGradRefIdeal.main_arg3) = m ((c.tc : Thread Cert.HeadGradRefIdeal.nD Cert.HeadGradRefIdeal.τ).loc Cert.HeadGradRefIdeal.main_arg3)
      ∧ r.2.mem ((c.tc : Thread Cert.HeadGradRefIdeal.nD Cert.HeadGradRefIdeal.τ).loc Cert.HeadGradRefIdeal.main_arg4) = m ((c.tc : Thread Cert.HeadGradRefIdeal.nD Cert.HeadGradRefIdeal.τ).loc Cert.HeadGradRefIdeal.main_arg4)
      ∧ r.2.mem ((c.tc : Thread Cert.HeadGradRefIdeal.nD Cert.HeadGradRefIdeal.τ).loc Cert.HeadGradRefIdeal.main_arg5) = m ((c.tc : Thread Cert.HeadGradRefIdeal.nD Cert.HeadGradRefIdeal.τ).loc Cert.HeadGradRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3)
      ∧ r.2.mem ((c.tc : Thread Cert.GateGrad.nD Cert.GateGrad.τ).loc Cert.GateGrad.main_arg4) = m ((c.tc : Thread Cert.GateGrad.nD Cert.GateGrad.τ).loc Cert.GateGrad.main_arg4)
      ∧ r.2.mem ((c.tc : Thread Cert.GateGrad.nD Cert.GateGrad.τ).loc Cert.GateGrad.main_arg5) = m ((c.tc : Thread Cert.GateGrad.nD Cert.GateGrad.τ).loc Cert.GateGrad.main_arg5))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3)
      ∧ r.2.mem ((c.tc : Thread Cert.GateGradRefIdeal.nD Cert.GateGradRefIdeal.τ).loc Cert.GateGradRefIdeal.main_arg4) = m ((c.tc : Thread Cert.GateGradRefIdeal.nD Cert.GateGradRefIdeal.τ).loc Cert.GateGradRefIdeal.main_arg4)
      ∧ r.2.mem ((c.tc : Thread Cert.GateGradRefIdeal.nD Cert.GateGradRefIdeal.τ).loc Cert.GateGradRefIdeal.main_arg5) = m ((c.tc : Thread Cert.GateGradRefIdeal.nD Cert.GateGradRefIdeal.τ).loc Cert.GateGradRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4)) (v1 : (c : Dev Cert.InProjIdeal.nD) → Buf (Elt Ideal) ((c.tc : Thread Cert.InProjIdeal.nD Cert.InProjIdeal.τ).loc Cert.InProjIdeal.main_v5)) (v2 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_v5) = v1 c
          ∧ r.2.mem ((c.tc : Thread Cert.InProjIdeal.nD Cert.InProjIdeal.τ).loc Cert.InProjIdeal.main_v6) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_v6) = v1 c
          ∧ r.2.mem ((c.tc : Thread Cert.InProjRefIdeal.nD Cert.InProjRefIdeal.τ).loc Cert.InProjRefIdeal.main_v3) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)) (v2 : (c : Dev Cert.OutProjIdeal.nD) → Buf (Elt Ideal) ((c.tc : Thread Cert.OutProjIdeal.nD Cert.OutProjIdeal.τ).loc Cert.OutProjIdeal.main_v11_2)) (v3 : (c : Dev Cert.OutProjIdeal.nD) → Buf (Elt Ideal) ((c.tc : Thread Cert.OutProjIdeal.nD Cert.OutProjIdeal.τ).loc Cert.OutProjIdeal.main_v12)) (v4 : (c : Dev Cert.OutProjIdeal.nD) → Buf (Elt Ideal) ((c.tc : Thread Cert.OutProjIdeal.nD Cert.OutProjIdeal.τ).loc Cert.OutProjIdeal.main_v13)) (v5 : (c : Dev Cert.OutProjIdeal.nD) → Buf (Elt Ideal) ((c.tc : Thread Cert.OutProjIdeal.nD Cert.OutProjIdeal.τ).loc Cert.OutProjIdeal.main_v14)) (v6 : (c : Dev Cert.OutProjIdeal.nD) → Buf (Elt Ideal) ((c.tc : Thread Cert.OutProjIdeal.nD Cert.OutProjIdeal.τ).loc Cert.OutProjIdeal.main_v15_0)) (v7 : (c : Dev Cert.OutProjIdeal.nD) → Buf (Elt Ideal) ((c.tc : Thread Cert.OutProjIdeal.nD Cert.OutProjIdeal.τ).loc Cert.OutProjIdeal.main_v15_1)) (v8 : (c : Dev Cert.OutProjIdeal.nD) → Buf (Elt Ideal) ((c.tc : Thread Cert.OutProjIdeal.nD Cert.OutProjIdeal.τ).loc Cert.OutProjIdeal.main_v15_2)) (v9 : (c : Dev Cert.OutProjIdeal.nD) → Buf (Elt Ideal) ((c.tc : Thread Cert.OutProjIdeal.nD Cert.OutProjIdeal.τ).loc Cert.OutProjIdeal.main_v18)) (v10 : (c : Dev Cert.OutProjIdeal.nD) → Buf (Elt Ideal) ((c.tc : Thread Cert.OutProjIdeal.nD Cert.OutProjIdeal.τ).loc Cert.OutProjIdeal.main_v17)) (v11 : (c : Dev Cert.OutProjIdeal.nD) → Buf (Elt Ideal) ((c.tc : Thread Cert.OutProjIdeal.nD Cert.OutProjIdeal.τ).loc Cert.OutProjIdeal.main_v16)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_v11_2) = v2 c
          ∧ r.2.mem ((c.tc : Thread Cert.OutProjIdeal.nD Cert.OutProjIdeal.τ).loc Cert.OutProjIdeal.main_v12) = v3 c
          ∧ r.2.mem ((c.tc : Thread Cert.OutProjIdeal.nD Cert.OutProjIdeal.τ).loc Cert.OutProjIdeal.main_v13) = v4 c
          ∧ r.2.mem ((c.tc : Thread Cert.OutProjIdeal.nD Cert.OutProjIdeal.τ).loc Cert.OutProjIdeal.main_v14) = v5 c
          ∧ r.2.mem ((c.tc : Thread Cert.OutProjIdeal.nD Cert.OutProjIdeal.τ).loc Cert.OutProjIdeal.main_v15_0) = v6 c
          ∧ r.2.mem ((c.tc : Thread Cert.OutProjIdeal.nD Cert.OutProjIdeal.τ).loc Cert.OutProjIdeal.main_v15_1) = v7 c
          ∧ r.2.mem ((c.tc : Thread Cert.OutProjIdeal.nD Cert.OutProjIdeal.τ).loc Cert.OutProjIdeal.main_v15_2) = v8 c
          ∧ r.2.mem ((c.tc : Thread Cert.OutProjIdeal.nD Cert.OutProjIdeal.τ).loc Cert.OutProjIdeal.main_v18) = v9 c
          ∧ r.2.mem ((c.tc : Thread Cert.OutProjIdeal.nD Cert.OutProjIdeal.τ).loc Cert.OutProjIdeal.main_v17) = v10 c
          ∧ r.2.mem ((c.tc : Thread Cert.OutProjIdeal.nD Cert.OutProjIdeal.τ).loc Cert.OutProjIdeal.main_v16) = v11 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_v19) = v2 c
          ∧ r.2.mem ((c.tc : Thread Cert.OutProjRefIdeal.nD Cert.OutProjRefIdeal.τ).loc Cert.OutProjRefIdeal.main_v13) = v3 c
          ∧ r.2.mem ((c.tc : Thread Cert.OutProjRefIdeal.nD Cert.OutProjRefIdeal.τ).loc Cert.OutProjRefIdeal.main_v20) = v4 c
          ∧ r.2.mem ((c.tc : Thread Cert.OutProjRefIdeal.nD Cert.OutProjRefIdeal.τ).loc Cert.OutProjRefIdeal.main_v16) = v5 c
          ∧ r.2.mem ((c.tc : Thread Cert.OutProjRefIdeal.nD Cert.OutProjRefIdeal.τ).loc Cert.OutProjRefIdeal.main_v5) = v6 c
          ∧ r.2.mem ((c.tc : Thread Cert.OutProjRefIdeal.nD Cert.OutProjRefIdeal.τ).loc Cert.OutProjRefIdeal.main_v8) = v7 c
          ∧ r.2.mem ((c.tc : Thread Cert.OutProjRefIdeal.nD Cert.OutProjRefIdeal.τ).loc Cert.OutProjRefIdeal.main_v11) = v8 c
          ∧ r.2.mem ((c.tc : Thread Cert.OutProjRefIdeal.nD Cert.OutProjRefIdeal.τ).loc Cert.OutProjRefIdeal.main_v23) = v9 c
          ∧ r.2.mem ((c.tc : Thread Cert.OutProjRefIdeal.nD Cert.OutProjRefIdeal.τ).loc Cert.OutProjRefIdeal.main_v26) = v10 c
          ∧ r.2.mem ((c.tc : Thread Cert.OutProjRefIdeal.nD Cert.OutProjRefIdeal.τ).loc Cert.OutProjRefIdeal.main_v29) = v11 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11)
          ∧ r.2.mem ((c.tc : Thread Cert.OutProjRefIdeal.nD Cert.OutProjRefIdeal.τ).loc Cert.OutProjRefIdeal.main_arg12) = m' ((c.tc : Thread Cert.OutProjRefIdeal.nD Cert.OutProjRefIdeal.τ).loc Cert.OutProjRefIdeal.main_arg12))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v17)) (v1 : (c : Dev Cert.MixerIdeal.nD) → Buf (Elt Ideal) ((c.tc : Thread Cert.MixerIdeal.nD Cert.MixerIdeal.τ).loc Cert.MixerIdeal.main_v18)) (v2 : (c : Dev Cert.MixerIdeal.nD) → Buf (Elt Ideal) ((c.tc : Thread Cert.MixerIdeal.nD Cert.MixerIdeal.τ).loc Cert.MixerIdeal.main_v19)) (v3 : (c : Dev Cert.MixerIdeal.nD) → Buf (Elt Ideal) ((c.tc : Thread Cert.MixerIdeal.nD Cert.MixerIdeal.τ).loc Cert.MixerIdeal.main_v20)) (v4 : (c : Dev Cert.MixerIdeal.nD) → Buf (Elt Ideal) ((c.tc : Thread Cert.MixerIdeal.nD Cert.MixerIdeal.τ).loc Cert.MixerIdeal.main_v21)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v17) = v0 c
          ∧ r.2.mem ((c.tc : Thread Cert.MixerIdeal.nD Cert.MixerIdeal.τ).loc Cert.MixerIdeal.main_v18) = v1 c
          ∧ r.2.mem ((c.tc : Thread Cert.MixerIdeal.nD Cert.MixerIdeal.τ).loc Cert.MixerIdeal.main_v19) = v2 c
          ∧ r.2.mem ((c.tc : Thread Cert.MixerIdeal.nD Cert.MixerIdeal.τ).loc Cert.MixerIdeal.main_v20) = v3 c
          ∧ r.2.mem ((c.tc : Thread Cert.MixerIdeal.nD Cert.MixerIdeal.τ).loc Cert.MixerIdeal.main_v21) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v32) = v0 c
          ∧ r.2.mem ((c.tc : Thread Cert.MixerRefIdeal.nD Cert.MixerRefIdeal.τ).loc Cert.MixerRefIdeal.main_v39) = v1 c
          ∧ r.2.mem ((c.tc : Thread Cert.MixerRefIdeal.nD Cert.MixerRefIdeal.τ).loc Cert.MixerRefIdeal.main_v35) = v2 c
          ∧ r.2.mem ((c.tc : Thread Cert.MixerRefIdeal.nD Cert.MixerRefIdeal.τ).loc Cert.MixerRefIdeal.main_v41) = v3 c
          ∧ r.2.mem ((c.tc : Thread Cert.MixerRefIdeal.nD Cert.MixerRefIdeal.τ).loc Cert.MixerRefIdeal.main_v38) = v4 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7))

def preserves_RmsGrad_RmsGradIdeal : Prop :=
  True

def algebraic_RmsGradIdeal_RmsGradRefIdeal [hRmsGradIdeal : Cert.RmsGradIdeal.Facts] [hRmsGradRefIdeal : Cert.RmsGradRefIdeal.Facts] : Prop :=
  ∀ (m : (ℓ : Loc Cert.RmsGradIdeal.nD Cert.RmsGradIdeal.τ Cert.RmsGradIdeal.sig) → Buf (Elt Ideal) ℓ) (g : Dev Cert.RmsGradIdeal.nD → PrngReg)
    (m' : (ℓ : Loc Cert.RmsGradRefIdeal.nD Cert.RmsGradRefIdeal.τ Cert.RmsGradRefIdeal.sig) → Buf (Elt Ideal) ℓ) (g' : Dev Cert.RmsGradRefIdeal.nD → PrngReg), Pre_RmsGradIdeal m →
    (∀ c : Dev Cert.RmsGradIdeal.nD,
      m' ((c.tc : Thread Cert.RmsGradRefIdeal.nD Cert.RmsGradRefIdeal.τ).loc Cert.RmsGradRefIdeal.main_arg0) = m ((c.tc : Thread Cert.RmsGradIdeal.nD Cert.RmsGradIdeal.τ).loc Cert.RmsGradIdeal.main_arg0)
      ∧ m' ((c.tc : Thread Cert.RmsGradRefIdeal.nD Cert.RmsGradRefIdeal.τ).loc Cert.RmsGradRefIdeal.main_arg1) = m ((c.tc : Thread Cert.RmsGradIdeal.nD Cert.RmsGradIdeal.τ).loc Cert.RmsGradIdeal.main_arg1)
      ∧ m' ((c.tc : Thread Cert.RmsGradRefIdeal.nD Cert.RmsGradRefIdeal.τ).loc Cert.RmsGradRefIdeal.main_arg2) = m ((c.tc : Thread Cert.RmsGradIdeal.nD Cert.RmsGradIdeal.τ).loc Cert.RmsGradIdeal.main_arg2)
      ∧ m' ((c.tc : Thread Cert.RmsGradRefIdeal.nD Cert.RmsGradRefIdeal.τ).loc Cert.RmsGradRefIdeal.main_arg3) = m ((c.tc : Thread Cert.RmsGradIdeal.nD Cert.RmsGradIdeal.τ).loc Cert.RmsGradIdeal.main_arg3)) →
    ∃ (v0 : (c : Dev Cert.RmsGradIdeal.nD) → Buf (Elt Ideal) ((c.tc : Thread Cert.RmsGradIdeal.nD Cert.RmsGradIdeal.τ).loc Cert.RmsGradIdeal.main_v1_0)) (v1 : (c : Dev Cert.RmsGradIdeal.nD) → Buf (Elt Ideal) ((c.tc : Thread Cert.RmsGradIdeal.nD Cert.RmsGradIdeal.τ).loc Cert.RmsGradIdeal.main_v1_1)),
      θ_run (Cert.RmsGradIdeal.defs (F := Ideal)) (onTc (τ := Cert.RmsGradIdeal.τ) (Cert.RmsGradIdeal.main (F := Ideal))) ⟨m, fun _ => 0, g⟩ (fun r => ∀ c : Dev Cert.RmsGradIdeal.nD,
          r.2.mem ((c.tc : Thread Cert.RmsGradIdeal.nD Cert.RmsGradIdeal.τ).loc Cert.RmsGradIdeal.main_v1_0) = v0 c
          ∧ r.2.mem ((c.tc : Thread Cert.RmsGradIdeal.nD Cert.RmsGradIdeal.τ).loc Cert.RmsGradIdeal.main_v1_1) = v1 c
          ∧ r.2.mem ((c.tc : Thread Cert.RmsGradIdeal.nD Cert.RmsGradIdeal.τ).loc Cert.RmsGradIdeal.main_arg0) = m ((c.tc : Thread Cert.RmsGradIdeal.nD Cert.RmsGradIdeal.τ).loc Cert.RmsGradIdeal.main_arg0)
          ∧ r.2.mem ((c.tc : Thread Cert.RmsGradIdeal.nD Cert.RmsGradIdeal.τ).loc Cert.RmsGradIdeal.main_arg1) = m ((c.tc : Thread Cert.RmsGradIdeal.nD Cert.RmsGradIdeal.τ).loc Cert.RmsGradIdeal.main_arg1)
          ∧ r.2.mem ((c.tc : Thread Cert.RmsGradIdeal.nD Cert.RmsGradIdeal.τ).loc Cert.RmsGradIdeal.main_arg2) = m ((c.tc : Thread Cert.RmsGradIdeal.nD Cert.RmsGradIdeal.τ).loc Cert.RmsGradIdeal.main_arg2)
          ∧ r.2.mem ((c.tc : Thread Cert.RmsGradIdeal.nD Cert.RmsGradIdeal.τ).loc Cert.RmsGradIdeal.main_arg3) = m ((c.tc : Thread Cert.RmsGradIdeal.nD Cert.RmsGradIdeal.τ).loc Cert.RmsGradIdeal.main_arg3))
      ∧ θ_run (Cert.RmsGradRefIdeal.defs (F := Ideal)) (onTc (τ := Cert.RmsGradRefIdeal.τ) (Cert.RmsGradRefIdeal.main (F := Ideal))) ⟨m', fun _ => 0, g'⟩ (fun r => ∀ c : Dev Cert.RmsGradRefIdeal.nD,
          r.2.mem ((c.tc : Thread Cert.RmsGradRefIdeal.nD Cert.RmsGradRefIdeal.τ).loc Cert.RmsGradRefIdeal.main_v36) = v0 c
          ∧ r.2.mem ((c.tc : Thread Cert.RmsGradRefIdeal.nD Cert.RmsGradRefIdeal.τ).loc Cert.RmsGradRefIdeal.main_v37) = v1 c
          ∧ r.2.mem ((c.tc : Thread Cert.RmsGradRefIdeal.nD Cert.RmsGradRefIdeal.τ).loc Cert.RmsGradRefIdeal.main_arg0) = m' ((c.tc : Thread Cert.RmsGradRefIdeal.nD Cert.RmsGradRefIdeal.τ).loc Cert.RmsGradRefIdeal.main_arg0)
          ∧ r.2.mem ((c.tc : Thread Cert.RmsGradRefIdeal.nD Cert.RmsGradRefIdeal.τ).loc Cert.RmsGradRefIdeal.main_arg1) = m' ((c.tc : Thread Cert.RmsGradRefIdeal.nD Cert.RmsGradRefIdeal.τ).loc Cert.RmsGradRefIdeal.main_arg1)
          ∧ r.2.mem ((c.tc : Thread Cert.RmsGradRefIdeal.nD Cert.RmsGradRefIdeal.τ).loc Cert.RmsGradRefIdeal.main_arg2) = m' ((c.tc : Thread Cert.RmsGradRefIdeal.nD Cert.RmsGradRefIdeal.τ).loc Cert.RmsGradRefIdeal.main_arg2)
          ∧ r.2.mem ((c.tc : Thread Cert.RmsGradRefIdeal.nD Cert.RmsGradRefIdeal.τ).loc Cert.RmsGradRefIdeal.main_arg3) = m' ((c.tc : Thread Cert.RmsGradRefIdeal.nD Cert.RmsGradRefIdeal.τ).loc Cert.RmsGradRefIdeal.main_arg3))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v2_0)) (v1 : (c : Dev Cert.NormGradIdeal.nD) → Buf (Elt Ideal) ((c.tc : Thread Cert.NormGradIdeal.nD Cert.NormGradIdeal.τ).loc Cert.NormGradIdeal.main_v2_1)) (v2 : (c : Dev Cert.NormGradIdeal.nD) → Buf (Elt Ideal) ((c.tc : Thread Cert.NormGradIdeal.nD Cert.NormGradIdeal.τ).loc Cert.NormGradIdeal.main_v2_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v2_0) = v0 c
          ∧ r.2.mem ((c.tc : Thread Cert.NormGradIdeal.nD Cert.NormGradIdeal.τ).loc Cert.NormGradIdeal.main_v2_1) = v1 c
          ∧ r.2.mem ((c.tc : Thread Cert.NormGradIdeal.nD Cert.NormGradIdeal.τ).loc Cert.NormGradIdeal.main_v2_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v57) = v0 c
          ∧ r.2.mem ((c.tc : Thread Cert.NormGradRefIdeal.nD Cert.NormGradRefIdeal.τ).loc Cert.NormGradRefIdeal.main_v58) = v1 c
          ∧ r.2.mem ((c.tc : Thread Cert.NormGradRefIdeal.nD Cert.NormGradRefIdeal.τ).loc Cert.NormGradRefIdeal.main_v59) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)
      ∧ m' ((c.tc : Thread Cert.MergeGradRefIdeal.nD Cert.MergeGradRefIdeal.τ).loc Cert.MergeGradRefIdeal.main_arg4) = m ((c.tc : Thread Cert.MergeGradIdeal.nD Cert.MergeGradIdeal.τ).loc Cert.MergeGradIdeal.main_arg4)
      ∧ m' ((c.tc : Thread Cert.MergeGradRefIdeal.nD Cert.MergeGradRefIdeal.τ).loc Cert.MergeGradRefIdeal.main_arg5) = m ((c.tc : Thread Cert.MergeGradIdeal.nD Cert.MergeGradIdeal.τ).loc Cert.MergeGradIdeal.main_arg5)) →
    ∃ (v0 : (c : Dev Cert.MergeGradIdeal.nD) → Buf (Elt Ideal) ((c.tc : Thread Cert.MergeGradIdeal.nD Cert.MergeGradIdeal.τ).loc Cert.MergeGradIdeal.main_v13_0)) (v1 : (c : Dev Cert.MergeGradIdeal.nD) → Buf (Elt Ideal) ((c.tc : Thread Cert.MergeGradIdeal.nD Cert.MergeGradIdeal.τ).loc Cert.MergeGradIdeal.main_v13_1)) (v2 : (c : Dev Cert.MergeGradIdeal.nD) → Buf (Elt Ideal) ((c.tc : Thread Cert.MergeGradIdeal.nD Cert.MergeGradIdeal.τ).loc Cert.MergeGradIdeal.main_v13_2)) (v3 : (c : Dev Cert.MergeGradIdeal.nD) → Buf (Elt Ideal) ((c.tc : Thread Cert.MergeGradIdeal.nD Cert.MergeGradIdeal.τ).loc Cert.MergeGradIdeal.main_v13_3)) (v4 : (c : Dev Cert.MergeGradIdeal.nD) → Buf (Elt Ideal) ((c.tc : Thread Cert.MergeGradIdeal.nD Cert.MergeGradIdeal.τ).loc Cert.MergeGradIdeal.main_v13_4)) (v5 : (c : Dev Cert.MergeGradIdeal.nD) → Buf (Elt Ideal) ((c.tc : Thread Cert.MergeGradIdeal.nD Cert.MergeGradIdeal.τ).loc Cert.MergeGradIdeal.main_v13_5)) (v6 : (c : Dev Cert.MergeGradIdeal.nD) → Buf (Elt Ideal) ((c.tc : Thread Cert.MergeGradIdeal.nD Cert.MergeGradIdeal.τ).loc Cert.MergeGradIdeal.main_v13_6)) (v7 : (c : Dev Cert.MergeGradIdeal.nD) → Buf (Elt Ideal) ((c.tc : Thread Cert.MergeGradIdeal.nD Cert.MergeGradIdeal.τ).loc Cert.MergeGradIdeal.main_v13_7)) (v8 : (c : Dev Cert.MergeGradIdeal.nD) → Buf (Elt Ideal) ((c.tc : Thread Cert.MergeGradIdeal.nD Cert.MergeGradIdeal.τ).loc Cert.MergeGradIdeal.main_v13_8)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v13_0) = v0 c
          ∧ r.2.mem ((c.tc : Thread Cert.MergeGradIdeal.nD Cert.MergeGradIdeal.τ).loc Cert.MergeGradIdeal.main_v13_1) = v1 c
          ∧ r.2.mem ((c.tc : Thread Cert.MergeGradIdeal.nD Cert.MergeGradIdeal.τ).loc Cert.MergeGradIdeal.main_v13_2) = v2 c
          ∧ r.2.mem ((c.tc : Thread Cert.MergeGradIdeal.nD Cert.MergeGradIdeal.τ).loc Cert.MergeGradIdeal.main_v13_3) = v3 c
          ∧ r.2.mem ((c.tc : Thread Cert.MergeGradIdeal.nD Cert.MergeGradIdeal.τ).loc Cert.MergeGradIdeal.main_v13_4) = v4 c
          ∧ r.2.mem ((c.tc : Thread Cert.MergeGradIdeal.nD Cert.MergeGradIdeal.τ).loc Cert.MergeGradIdeal.main_v13_5) = v5 c
          ∧ r.2.mem ((c.tc : Thread Cert.MergeGradIdeal.nD Cert.MergeGradIdeal.τ).loc Cert.MergeGradIdeal.main_v13_6) = v6 c
          ∧ r.2.mem ((c.tc : Thread Cert.MergeGradIdeal.nD Cert.MergeGradIdeal.τ).loc Cert.MergeGradIdeal.main_v13_7) = v7 c
          ∧ r.2.mem ((c.tc : Thread Cert.MergeGradIdeal.nD Cert.MergeGradIdeal.τ).loc Cert.MergeGradIdeal.main_v13_8) = v8 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
          ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v52) = v0 c
          ∧ r.2.mem ((c.tc : Thread Cert.MergeGradRefIdeal.nD Cert.MergeGradRefIdeal.τ).loc Cert.MergeGradRefIdeal.main_v53) = v1 c
          ∧ r.2.mem ((c.tc : Thread Cert.MergeGradRefIdeal.nD Cert.MergeGradRefIdeal.τ).loc Cert.MergeGradRefIdeal.main_v54) = v2 c
          ∧ r.2.mem ((c.tc : Thread Cert.MergeGradRefIdeal.nD Cert.MergeGradRefIdeal.τ).loc Cert.MergeGradRefIdeal.main_v55) = v3 c
          ∧ r.2.mem ((c.tc : Thread Cert.MergeGradRefIdeal.nD Cert.MergeGradRefIdeal.τ).loc Cert.MergeGradRefIdeal.main_v56) = v4 c
          ∧ r.2.mem ((c.tc : Thread Cert.MergeGradRefIdeal.nD Cert.MergeGradRefIdeal.τ).loc Cert.MergeGradRefIdeal.main_v57) = v5 c
          ∧ r.2.mem ((c.tc : Thread Cert.MergeGradRefIdeal.nD Cert.MergeGradRefIdeal.τ).loc Cert.MergeGradRefIdeal.main_v58) = v6 c
          ∧ r.2.mem ((c.tc : Thread Cert.MergeGradRefIdeal.nD Cert.MergeGradRefIdeal.τ).loc Cert.MergeGradRefIdeal.main_v59) = v7 c
          ∧ r.2.mem ((c.tc : Thread Cert.MergeGradRefIdeal.nD Cert.MergeGradRefIdeal.τ).loc Cert.MergeGradRefIdeal.main_v60) = v8 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3)
          ∧ r.2.mem ((c.tc : Thread Cert.MergeGradRefIdeal.nD Cert.MergeGradRefIdeal.τ).loc Cert.MergeGradRefIdeal.main_arg4) = m' ((c.tc : Thread Cert.MergeGradRefIdeal.nD Cert.MergeGradRefIdeal.τ).loc Cert.MergeGradRefIdeal.main_arg4)
          ∧ r.2.mem ((c.tc : Thread Cert.MergeGradRefIdeal.nD Cert.MergeGradRefIdeal.τ).loc Cert.MergeGradRefIdeal.main_arg5) = m' ((c.tc : Thread Cert.MergeGradRefIdeal.nD Cert.MergeGradRefIdeal.τ).loc Cert.MergeGradRefIdeal.main_arg5))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)
      ∧ m' ((c.tc : Thread Cert.ForwardRefIdeal.nD Cert.ForwardRefIdeal.τ).loc Cert.ForwardRefIdeal.main_arg7) = m ((c.tc : Thread Cert.ForwardIdeal.nD Cert.ForwardIdeal.τ).loc Cert.ForwardIdeal.main_arg7)
      ∧ m' ((c.tc : Thread Cert.ForwardRefIdeal.nD Cert.ForwardRefIdeal.τ).loc Cert.ForwardRefIdeal.main_arg8) = m ((c.tc : Thread Cert.ForwardIdeal.nD Cert.ForwardIdeal.τ).loc Cert.ForwardIdeal.main_arg8)
      ∧ m' ((c.tc : Thread Cert.ForwardRefIdeal.nD Cert.ForwardRefIdeal.τ).loc Cert.ForwardRefIdeal.main_arg9) = m ((c.tc : Thread Cert.ForwardIdeal.nD Cert.ForwardIdeal.τ).loc Cert.ForwardIdeal.main_arg9)
      ∧ m' ((c.tc : Thread Cert.ForwardRefIdeal.nD Cert.ForwardRefIdeal.τ).loc Cert.ForwardRefIdeal.main_arg10) = m ((c.tc : Thread Cert.ForwardIdeal.nD Cert.ForwardIdeal.τ).loc Cert.ForwardIdeal.main_arg10)) →
    ∃ (v0 : (c : Dev Cert.ForwardIdeal.nD) → Buf (Elt Ideal) ((c.tc : Thread Cert.ForwardIdeal.nD Cert.ForwardIdeal.τ).loc Cert.ForwardIdeal.main_v14)) (v1 : (c : Dev Cert.ForwardIdeal.nD) → Buf (Elt Ideal) ((c.tc : Thread Cert.ForwardIdeal.nD Cert.ForwardIdeal.τ).loc Cert.ForwardIdeal.main_v15)) (v2 : (c : Dev Cert.ForwardIdeal.nD) → Buf (Elt Ideal) ((c.tc : Thread Cert.ForwardIdeal.nD Cert.ForwardIdeal.τ).loc Cert.ForwardIdeal.main_v16_0)) (v3 : (c : Dev Cert.ForwardIdeal.nD) → Buf (Elt Ideal) ((c.tc : Thread Cert.ForwardIdeal.nD Cert.ForwardIdeal.τ).loc Cert.ForwardIdeal.main_v16_1)) (v4 : (c : Dev Cert.ForwardIdeal.nD) → Buf (Elt Ideal) ((c.tc : Thread Cert.ForwardIdeal.nD Cert.ForwardIdeal.τ).loc Cert.ForwardIdeal.main_v19)) (v5 : (c : Dev Cert.ForwardIdeal.nD) → Buf (Elt Ideal) ((c.tc : Thread Cert.ForwardIdeal.nD Cert.ForwardIdeal.τ).loc Cert.ForwardIdeal.main_v20)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v14) = v0 c
          ∧ r.2.mem ((c.tc : Thread Cert.ForwardIdeal.nD Cert.ForwardIdeal.τ).loc Cert.ForwardIdeal.main_v15) = v1 c
          ∧ r.2.mem ((c.tc : Thread Cert.ForwardIdeal.nD Cert.ForwardIdeal.τ).loc Cert.ForwardIdeal.main_v16_0) = v2 c
          ∧ r.2.mem ((c.tc : Thread Cert.ForwardIdeal.nD Cert.ForwardIdeal.τ).loc Cert.ForwardIdeal.main_v16_1) = v3 c
          ∧ r.2.mem ((c.tc : Thread Cert.ForwardIdeal.nD Cert.ForwardIdeal.τ).loc Cert.ForwardIdeal.main_v19) = v4 c
          ∧ r.2.mem ((c.tc : Thread Cert.ForwardIdeal.nD Cert.ForwardIdeal.τ).loc Cert.ForwardIdeal.main_v20) = v5 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
          ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
          ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v76) = v0 c
          ∧ r.2.mem ((c.tc : Thread Cert.ForwardRefIdeal.nD Cert.ForwardRefIdeal.τ).loc Cert.ForwardRefIdeal.main_v15) = v1 c
          ∧ r.2.mem ((c.tc : Thread Cert.ForwardRefIdeal.nD Cert.ForwardRefIdeal.τ).loc Cert.ForwardRefIdeal.main_v77) = v2 c
          ∧ r.2.mem ((c.tc : Thread Cert.ForwardRefIdeal.nD Cert.ForwardRefIdeal.τ).loc Cert.ForwardRefIdeal.main_v78) = v3 c
          ∧ r.2.mem ((c.tc : Thread Cert.ForwardRefIdeal.nD Cert.ForwardRefIdeal.τ).loc Cert.ForwardRefIdeal.main_v79) = v4 c
          ∧ r.2.mem ((c.tc : Thread Cert.ForwardRefIdeal.nD Cert.ForwardRefIdeal.τ).loc Cert.ForwardRefIdeal.main_v80) = v5 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6)
          ∧ r.2.mem ((c.tc : Thread Cert.ForwardRefIdeal.nD Cert.ForwardRefIdeal.τ).loc Cert.ForwardRefIdeal.main_arg7) = m' ((c.tc : Thread Cert.ForwardRefIdeal.nD Cert.ForwardRefIdeal.τ).loc Cert.ForwardRefIdeal.main_arg7)
          ∧ r.2.mem ((c.tc : Thread Cert.ForwardRefIdeal.nD Cert.ForwardRefIdeal.τ).loc Cert.ForwardRefIdeal.main_arg8) = m' ((c.tc : Thread Cert.ForwardRefIdeal.nD Cert.ForwardRefIdeal.τ).loc Cert.ForwardRefIdeal.main_arg8)
          ∧ r.2.mem ((c.tc : Thread Cert.ForwardRefIdeal.nD Cert.ForwardRefIdeal.τ).loc Cert.ForwardRefIdeal.main_arg9) = m' ((c.tc : Thread Cert.ForwardRefIdeal.nD Cert.ForwardRefIdeal.τ).loc Cert.ForwardRefIdeal.main_arg9)
          ∧ r.2.mem ((c.tc : Thread Cert.ForwardRefIdeal.nD Cert.ForwardRefIdeal.τ).loc Cert.ForwardRefIdeal.main_arg10) = m' ((c.tc : Thread Cert.ForwardRefIdeal.nD Cert.ForwardRefIdeal.τ).loc Cert.ForwardRefIdeal.main_arg10))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v4)) (v1 : (c : Dev Cert.BranchIdeal.nD) → Buf (Elt Ideal) ((c.tc : Thread Cert.BranchIdeal.nD Cert.BranchIdeal.τ).loc Cert.BranchIdeal.main_v7_0)) (v2 : (c : Dev Cert.BranchIdeal.nD) → Buf (Elt Ideal) ((c.tc : Thread Cert.BranchIdeal.nD Cert.BranchIdeal.τ).loc Cert.BranchIdeal.main_v7_1)) (v3 : (c : Dev Cert.BranchIdeal.nD) → Buf (Elt Ideal) ((c.tc : Thread Cert.BranchIdeal.nD Cert.BranchIdeal.τ).loc Cert.BranchIdeal.main_v7_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v4) = v0 c
          ∧ r.2.mem ((c.tc : Thread Cert.BranchIdeal.nD Cert.BranchIdeal.τ).loc Cert.BranchIdeal.main_v7_0) = v1 c
          ∧ r.2.mem ((c.tc : Thread Cert.BranchIdeal.nD Cert.BranchIdeal.τ).loc Cert.BranchIdeal.main_v7_1) = v2 c
          ∧ r.2.mem ((c.tc : Thread Cert.BranchIdeal.nD Cert.BranchIdeal.τ).loc Cert.BranchIdeal.main_v7_2) = v3 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v91) = v0 c
          ∧ r.2.mem ((c.tc : Thread Cert.BranchRefIdeal.nD Cert.BranchRefIdeal.τ).loc Cert.BranchRefIdeal.main_v92) = v1 c
          ∧ r.2.mem ((c.tc : Thread Cert.BranchRefIdeal.nD Cert.BranchRefIdeal.τ).loc Cert.BranchRefIdeal.main_v93) = v2 c
          ∧ r.2.mem ((c.tc : Thread Cert.BranchRefIdeal.nD Cert.BranchRefIdeal.τ).loc Cert.BranchRefIdeal.main_v94) = v3 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_HeadGrad_HeadGradIdeal : Prop :=
  True

def algebraic_HeadGradIdeal_HeadGradRefIdeal [hHeadGradIdeal : Cert.HeadGradIdeal.Facts] [hHeadGradRefIdeal : Cert.HeadGradRefIdeal.Facts] : Prop :=
  ∀ (m : (ℓ : Loc Cert.HeadGradIdeal.nD Cert.HeadGradIdeal.τ Cert.HeadGradIdeal.sig) → Buf (Elt Ideal) ℓ) (g : Dev Cert.HeadGradIdeal.nD → PrngReg)
    (m' : (ℓ : Loc Cert.HeadGradRefIdeal.nD Cert.HeadGradRefIdeal.τ Cert.HeadGradRefIdeal.sig) → Buf (Elt Ideal) ℓ) (g' : Dev Cert.HeadGradRefIdeal.nD → PrngReg), Pre_HeadGradIdeal m →
    (∀ c : Dev Cert.HeadGradIdeal.nD,
      m' ((c.tc : Thread Cert.HeadGradRefIdeal.nD Cert.HeadGradRefIdeal.τ).loc Cert.HeadGradRefIdeal.main_arg0) = m ((c.tc : Thread Cert.HeadGradIdeal.nD Cert.HeadGradIdeal.τ).loc Cert.HeadGradIdeal.main_arg0)
      ∧ m' ((c.tc : Thread Cert.HeadGradRefIdeal.nD Cert.HeadGradRefIdeal.τ).loc Cert.HeadGradRefIdeal.main_arg1) = m ((c.tc : Thread Cert.HeadGradIdeal.nD Cert.HeadGradIdeal.τ).loc Cert.HeadGradIdeal.main_arg1)
      ∧ m' ((c.tc : Thread Cert.HeadGradRefIdeal.nD Cert.HeadGradRefIdeal.τ).loc Cert.HeadGradRefIdeal.main_arg2) = m ((c.tc : Thread Cert.HeadGradIdeal.nD Cert.HeadGradIdeal.τ).loc Cert.HeadGradIdeal.main_arg2)
      ∧ m' ((c.tc : Thread Cert.HeadGradRefIdeal.nD Cert.HeadGradRefIdeal.τ).loc Cert.HeadGradRefIdeal.main_arg3) = m ((c.tc : Thread Cert.HeadGradIdeal.nD Cert.HeadGradIdeal.τ).loc Cert.HeadGradIdeal.main_arg3)
      ∧ m' ((c.tc : Thread Cert.HeadGradRefIdeal.nD Cert.HeadGradRefIdeal.τ).loc Cert.HeadGradRefIdeal.main_arg4) = m ((c.tc : Thread Cert.HeadGradIdeal.nD Cert.HeadGradIdeal.τ).loc Cert.HeadGradIdeal.main_arg4)
      ∧ m' ((c.tc : Thread Cert.HeadGradRefIdeal.nD Cert.HeadGradRefIdeal.τ).loc Cert.HeadGradRefIdeal.main_arg5) = m ((c.tc : Thread Cert.HeadGradIdeal.nD Cert.HeadGradIdeal.τ).loc Cert.HeadGradIdeal.main_arg5)) →
    ∃ (v0 : (c : Dev Cert.HeadGradIdeal.nD) → Buf (Elt Ideal) ((c.tc : Thread Cert.HeadGradIdeal.nD Cert.HeadGradIdeal.τ).loc Cert.HeadGradIdeal.main_v3_0)) (v1 : (c : Dev Cert.HeadGradIdeal.nD) → Buf (Elt Ideal) ((c.tc : Thread Cert.HeadGradIdeal.nD Cert.HeadGradIdeal.τ).loc Cert.HeadGradIdeal.main_v3_1)) (v2 : (c : Dev Cert.HeadGradIdeal.nD) → Buf (Elt Ideal) ((c.tc : Thread Cert.HeadGradIdeal.nD Cert.HeadGradIdeal.τ).loc Cert.HeadGradIdeal.main_v3_2)) (v3 : (c : Dev Cert.HeadGradIdeal.nD) → Buf (Elt Ideal) ((c.tc : Thread Cert.HeadGradIdeal.nD Cert.HeadGradIdeal.τ).loc Cert.HeadGradIdeal.main_v3_3)) (v4 : (c : Dev Cert.HeadGradIdeal.nD) → Buf (Elt Ideal) ((c.tc : Thread Cert.HeadGradIdeal.nD Cert.HeadGradIdeal.τ).loc Cert.HeadGradIdeal.main_v3_4)),
      θ_run (Cert.HeadGradIdeal.defs (F := Ideal)) (onTc (τ := Cert.HeadGradIdeal.τ) (Cert.HeadGradIdeal.main (F := Ideal))) ⟨m, fun _ => 0, g⟩ (fun r => ∀ c : Dev Cert.HeadGradIdeal.nD,
          r.2.mem ((c.tc : Thread Cert.HeadGradIdeal.nD Cert.HeadGradIdeal.τ).loc Cert.HeadGradIdeal.main_v3_0) = v0 c
          ∧ r.2.mem ((c.tc : Thread Cert.HeadGradIdeal.nD Cert.HeadGradIdeal.τ).loc Cert.HeadGradIdeal.main_v3_1) = v1 c
          ∧ r.2.mem ((c.tc : Thread Cert.HeadGradIdeal.nD Cert.HeadGradIdeal.τ).loc Cert.HeadGradIdeal.main_v3_2) = v2 c
          ∧ r.2.mem ((c.tc : Thread Cert.HeadGradIdeal.nD Cert.HeadGradIdeal.τ).loc Cert.HeadGradIdeal.main_v3_3) = v3 c
          ∧ r.2.mem ((c.tc : Thread Cert.HeadGradIdeal.nD Cert.HeadGradIdeal.τ).loc Cert.HeadGradIdeal.main_v3_4) = v4 c
          ∧ r.2.mem ((c.tc : Thread Cert.HeadGradIdeal.nD Cert.HeadGradIdeal.τ).loc Cert.HeadGradIdeal.main_arg0) = m ((c.tc : Thread Cert.HeadGradIdeal.nD Cert.HeadGradIdeal.τ).loc Cert.HeadGradIdeal.main_arg0)
          ∧ r.2.mem ((c.tc : Thread Cert.HeadGradIdeal.nD Cert.HeadGradIdeal.τ).loc Cert.HeadGradIdeal.main_arg1) = m ((c.tc : Thread Cert.HeadGradIdeal.nD Cert.HeadGradIdeal.τ).loc Cert.HeadGradIdeal.main_arg1)
          ∧ r.2.mem ((c.tc : Thread Cert.HeadGradIdeal.nD Cert.HeadGradIdeal.τ).loc Cert.HeadGradIdeal.main_arg2) = m ((c.tc : Thread Cert.HeadGradIdeal.nD Cert.HeadGradIdeal.τ).loc Cert.HeadGradIdeal.main_arg2)
          ∧ r.2.mem ((c.tc : Thread Cert.HeadGradIdeal.nD Cert.HeadGradIdeal.τ).loc Cert.HeadGradIdeal.main_arg3) = m ((c.tc : Thread Cert.HeadGradIdeal.nD Cert.HeadGradIdeal.τ).loc Cert.HeadGradIdeal.main_arg3)
          ∧ r.2.mem ((c.tc : Thread Cert.HeadGradIdeal.nD Cert.HeadGradIdeal.τ).loc Cert.HeadGradIdeal.main_arg4) = m ((c.tc : Thread Cert.HeadGradIdeal.nD Cert.HeadGradIdeal.τ).loc Cert.HeadGradIdeal.main_arg4)
          ∧ r.2.mem ((c.tc : Thread Cert.HeadGradIdeal.nD Cert.HeadGradIdeal.τ).loc Cert.HeadGradIdeal.main_arg5) = m ((c.tc : Thread Cert.HeadGradIdeal.nD Cert.HeadGradIdeal.τ).loc Cert.HeadGradIdeal.main_arg5))
      ∧ θ_run (Cert.HeadGradRefIdeal.defs (F := Ideal)) (onTc (τ := Cert.HeadGradRefIdeal.τ) (Cert.HeadGradRefIdeal.main (F := Ideal))) ⟨m', fun _ => 0, g'⟩ (fun r => ∀ c : Dev Cert.HeadGradRefIdeal.nD,
          r.2.mem ((c.tc : Thread Cert.HeadGradRefIdeal.nD Cert.HeadGradRefIdeal.τ).loc Cert.HeadGradRefIdeal.main_v91) = v0 c
          ∧ r.2.mem ((c.tc : Thread Cert.HeadGradRefIdeal.nD Cert.HeadGradRefIdeal.τ).loc Cert.HeadGradRefIdeal.main_v92) = v1 c
          ∧ r.2.mem ((c.tc : Thread Cert.HeadGradRefIdeal.nD Cert.HeadGradRefIdeal.τ).loc Cert.HeadGradRefIdeal.main_v93) = v2 c
          ∧ r.2.mem ((c.tc : Thread Cert.HeadGradRefIdeal.nD Cert.HeadGradRefIdeal.τ).loc Cert.HeadGradRefIdeal.main_v94) = v3 c
          ∧ r.2.mem ((c.tc : Thread Cert.HeadGradRefIdeal.nD Cert.HeadGradRefIdeal.τ).loc Cert.HeadGradRefIdeal.main_v95) = v4 c
          ∧ r.2.mem ((c.tc : Thread Cert.HeadGradRefIdeal.nD Cert.HeadGradRefIdeal.τ).loc Cert.HeadGradRefIdeal.main_arg0) = m' ((c.tc : Thread Cert.HeadGradRefIdeal.nD Cert.HeadGradRefIdeal.τ).loc Cert.HeadGradRefIdeal.main_arg0)
          ∧ r.2.mem ((c.tc : Thread Cert.HeadGradRefIdeal.nD Cert.HeadGradRefIdeal.τ).loc Cert.HeadGradRefIdeal.main_arg1) = m' ((c.tc : Thread Cert.HeadGradRefIdeal.nD Cert.HeadGradRefIdeal.τ).loc Cert.HeadGradRefIdeal.main_arg1)
          ∧ r.2.mem ((c.tc : Thread Cert.HeadGradRefIdeal.nD Cert.HeadGradRefIdeal.τ).loc Cert.HeadGradRefIdeal.main_arg2) = m' ((c.tc : Thread Cert.HeadGradRefIdeal.nD Cert.HeadGradRefIdeal.τ).loc Cert.HeadGradRefIdeal.main_arg2)
          ∧ r.2.mem ((c.tc : Thread Cert.HeadGradRefIdeal.nD Cert.HeadGradRefIdeal.τ).loc Cert.HeadGradRefIdeal.main_arg3) = m' ((c.tc : Thread Cert.HeadGradRefIdeal.nD Cert.HeadGradRefIdeal.τ).loc Cert.HeadGradRefIdeal.main_arg3)
          ∧ r.2.mem ((c.tc : Thread Cert.HeadGradRefIdeal.nD Cert.HeadGradRefIdeal.τ).loc Cert.HeadGradRefIdeal.main_arg4) = m' ((c.tc : Thread Cert.HeadGradRefIdeal.nD Cert.HeadGradRefIdeal.τ).loc Cert.HeadGradRefIdeal.main_arg4)
          ∧ r.2.mem ((c.tc : Thread Cert.HeadGradRefIdeal.nD Cert.HeadGradRefIdeal.τ).loc Cert.HeadGradRefIdeal.main_arg5) = m' ((c.tc : Thread Cert.HeadGradRefIdeal.nD Cert.HeadGradRefIdeal.τ).loc Cert.HeadGradRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1)) (v1 : (c : Dev Cert.ConvIdeal.nD) → Buf (Elt Ideal) ((c.tc : Thread Cert.ConvIdeal.nD Cert.ConvIdeal.τ).loc Cert.ConvIdeal.main_v2_0)) (v2 : (c : Dev Cert.ConvIdeal.nD) → Buf (Elt Ideal) ((c.tc : Thread Cert.ConvIdeal.nD Cert.ConvIdeal.τ).loc Cert.ConvIdeal.main_v2_1)) (v3 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_v2_0) = v1 c
          ∧ r.2.mem ((c.tc : Thread Cert.ConvIdeal.nD Cert.ConvIdeal.τ).loc Cert.ConvIdeal.main_v2_1) = v2 c
          ∧ r.2.mem ((c.tc : Thread Cert.ConvIdeal.nD Cert.ConvIdeal.τ).loc Cert.ConvIdeal.main_v2_2) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v74) = v0 c
          ∧ r.2.mem ((c.tc : Thread Cert.ConvRefIdeal.nD Cert.ConvRefIdeal.τ).loc Cert.ConvRefIdeal.main_v210) = v1 c
          ∧ r.2.mem ((c.tc : Thread Cert.ConvRefIdeal.nD Cert.ConvRefIdeal.τ).loc Cert.ConvRefIdeal.main_v85) = v2 c
          ∧ r.2.mem ((c.tc : Thread Cert.ConvRefIdeal.nD Cert.ConvRefIdeal.τ).loc Cert.ConvRefIdeal.main_v211) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)
      ∧ m' ((c.tc : Thread Cert.GateGradRefIdeal.nD Cert.GateGradRefIdeal.τ).loc Cert.GateGradRefIdeal.main_arg3) = m ((c.tc : Thread Cert.GateGradIdeal.nD Cert.GateGradIdeal.τ).loc Cert.GateGradIdeal.main_arg3)
      ∧ m' ((c.tc : Thread Cert.GateGradRefIdeal.nD Cert.GateGradRefIdeal.τ).loc Cert.GateGradRefIdeal.main_arg4) = m ((c.tc : Thread Cert.GateGradIdeal.nD Cert.GateGradIdeal.τ).loc Cert.GateGradIdeal.main_arg4)
      ∧ m' ((c.tc : Thread Cert.GateGradRefIdeal.nD Cert.GateGradRefIdeal.τ).loc Cert.GateGradRefIdeal.main_arg5) = m ((c.tc : Thread Cert.GateGradIdeal.nD Cert.GateGradIdeal.τ).loc Cert.GateGradIdeal.main_arg5)) →
    ∃ (v0 : (c : Dev Cert.GateGradIdeal.nD) → Buf (Elt Ideal) ((c.tc : Thread Cert.GateGradIdeal.nD Cert.GateGradIdeal.τ).loc Cert.GateGradIdeal.main_v4_0)) (v1 : (c : Dev Cert.GateGradIdeal.nD) → Buf (Elt Ideal) ((c.tc : Thread Cert.GateGradIdeal.nD Cert.GateGradIdeal.τ).loc Cert.GateGradIdeal.main_v4_1)) (v2 : (c : Dev Cert.GateGradIdeal.nD) → Buf (Elt Ideal) ((c.tc : Thread Cert.GateGradIdeal.nD Cert.GateGradIdeal.τ).loc Cert.GateGradIdeal.main_v4_2)) (v3 : (c : Dev Cert.GateGradIdeal.nD) → Buf (Elt Ideal) ((c.tc : Thread Cert.GateGradIdeal.nD Cert.GateGradIdeal.τ).loc Cert.GateGradIdeal.main_v4_3)) (v4 : (c : Dev Cert.GateGradIdeal.nD) → Buf (Elt Ideal) ((c.tc : Thread Cert.GateGradIdeal.nD Cert.GateGradIdeal.τ).loc Cert.GateGradIdeal.main_v4_4)) (v5 : (c : Dev Cert.GateGradIdeal.nD) → Buf (Elt Ideal) ((c.tc : Thread Cert.GateGradIdeal.nD Cert.GateGradIdeal.τ).loc Cert.GateGradIdeal.main_v4_5)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v4_0) = v0 c
          ∧ r.2.mem ((c.tc : Thread Cert.GateGradIdeal.nD Cert.GateGradIdeal.τ).loc Cert.GateGradIdeal.main_v4_1) = v1 c
          ∧ r.2.mem ((c.tc : Thread Cert.GateGradIdeal.nD Cert.GateGradIdeal.τ).loc Cert.GateGradIdeal.main_v4_2) = v2 c
          ∧ r.2.mem ((c.tc : Thread Cert.GateGradIdeal.nD Cert.GateGradIdeal.τ).loc Cert.GateGradIdeal.main_v4_3) = v3 c
          ∧ r.2.mem ((c.tc : Thread Cert.GateGradIdeal.nD Cert.GateGradIdeal.τ).loc Cert.GateGradIdeal.main_v4_4) = v4 c
          ∧ r.2.mem ((c.tc : Thread Cert.GateGradIdeal.nD Cert.GateGradIdeal.τ).loc Cert.GateGradIdeal.main_v4_5) = v5 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
          ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v125) = v0 c
          ∧ r.2.mem ((c.tc : Thread Cert.GateGradRefIdeal.nD Cert.GateGradRefIdeal.τ).loc Cert.GateGradRefIdeal.main_v126) = v1 c
          ∧ r.2.mem ((c.tc : Thread Cert.GateGradRefIdeal.nD Cert.GateGradRefIdeal.τ).loc Cert.GateGradRefIdeal.main_v127) = v2 c
          ∧ r.2.mem ((c.tc : Thread Cert.GateGradRefIdeal.nD Cert.GateGradRefIdeal.τ).loc Cert.GateGradRefIdeal.main_v128) = v3 c
          ∧ r.2.mem ((c.tc : Thread Cert.GateGradRefIdeal.nD Cert.GateGradRefIdeal.τ).loc Cert.GateGradRefIdeal.main_v78) = v4 c
          ∧ r.2.mem ((c.tc : Thread Cert.GateGradRefIdeal.nD Cert.GateGradRefIdeal.τ).loc Cert.GateGradRefIdeal.main_v129) = v5 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2)
          ∧ r.2.mem ((c.tc : Thread Cert.GateGradRefIdeal.nD Cert.GateGradRefIdeal.τ).loc Cert.GateGradRefIdeal.main_arg3) = m' ((c.tc : Thread Cert.GateGradRefIdeal.nD Cert.GateGradRefIdeal.τ).loc Cert.GateGradRefIdeal.main_arg3)
          ∧ r.2.mem ((c.tc : Thread Cert.GateGradRefIdeal.nD Cert.GateGradRefIdeal.τ).loc Cert.GateGradRefIdeal.main_arg4) = m' ((c.tc : Thread Cert.GateGradRefIdeal.nD Cert.GateGradRefIdeal.τ).loc Cert.GateGradRefIdeal.main_arg4)
          ∧ r.2.mem ((c.tc : Thread Cert.GateGradRefIdeal.nD Cert.GateGradRefIdeal.τ).loc Cert.GateGradRefIdeal.main_arg5) = m' ((c.tc : Thread Cert.GateGradRefIdeal.nD Cert.GateGradRefIdeal.τ).loc Cert.GateGradRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMixer : Cert.Mixer.Facts) (hMixerIdeal : Cert.MixerIdeal.Facts) (hMixerRefIdeal : Cert.MixerRefIdeal.Facts) (hRmsGrad : Cert.RmsGrad.Facts) (hRmsGradIdeal : Cert.RmsGradIdeal.Facts) (hRmsGradRefIdeal : Cert.RmsGradRefIdeal.Facts) (hNormGrad : Cert.NormGrad.Facts) (hNormGradIdeal : Cert.NormGradIdeal.Facts) (hNormGradRefIdeal : Cert.NormGradRefIdeal.Facts) (hMergeGrad : Cert.MergeGrad.Facts) (hMergeGradIdeal : Cert.MergeGradIdeal.Facts) (hMergeGradRefIdeal : Cert.MergeGradRefIdeal.Facts) (hForward : Cert.Forward.Facts) (hForwardIdeal : Cert.ForwardIdeal.Facts) (hForwardRefIdeal : Cert.ForwardRefIdeal.Facts) (hBranch : Cert.Branch.Facts) (hBranchIdeal : Cert.BranchIdeal.Facts) (hBranchRefIdeal : Cert.BranchRefIdeal.Facts) (hHeadGrad : Cert.HeadGrad.Facts) (hHeadGradIdeal : Cert.HeadGradIdeal.Facts) (hHeadGradRefIdeal : Cert.HeadGradRefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hGateGrad : Cert.GateGrad.Facts) (hGateGradIdeal : Cert.GateGradIdeal.Facts) (hGateGradRefIdeal : Cert.GateGradRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mixer (hMixer := hMixer)
    ∧ quiescent_MixerIdeal (hMixerIdeal := hMixerIdeal)
    ∧ quiescent_MixerRefIdeal (hMixerRefIdeal := hMixerRefIdeal)
    ∧ quiescent_RmsGrad (hRmsGrad := hRmsGrad)
    ∧ quiescent_RmsGradIdeal (hRmsGradIdeal := hRmsGradIdeal)
    ∧ quiescent_RmsGradRefIdeal (hRmsGradRefIdeal := hRmsGradRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_Forward (hForward := hForward)
    ∧ quiescent_ForwardIdeal (hForwardIdeal := hForwardIdeal)
    ∧ quiescent_ForwardRefIdeal (hForwardRefIdeal := hForwardRefIdeal)
    ∧ quiescent_Branch (hBranch := hBranch)
    ∧ quiescent_BranchIdeal (hBranchIdeal := hBranchIdeal)
    ∧ quiescent_BranchRefIdeal (hBranchRefIdeal := hBranchRefIdeal)
    ∧ quiescent_HeadGrad (hHeadGrad := hHeadGrad)
    ∧ quiescent_HeadGradIdeal (hHeadGradIdeal := hHeadGradIdeal)
    ∧ quiescent_HeadGradRefIdeal (hHeadGradRefIdeal := hHeadGradRefIdeal)
    ∧ quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Mixer_MixerIdeal
    ∧ algebraic_MixerIdeal_MixerRefIdeal (hMixerIdeal := hMixerIdeal) (hMixerRefIdeal := hMixerRefIdeal)
    ∧ preserves_RmsGrad_RmsGradIdeal
    ∧ algebraic_RmsGradIdeal_RmsGradRefIdeal (hRmsGradIdeal := hRmsGradIdeal) (hRmsGradRefIdeal := hRmsGradRefIdeal)
    ∧ preserves_NormGrad_NormGradIdeal
    ∧ algebraic_NormGradIdeal_NormGradRefIdeal (hNormGradIdeal := hNormGradIdeal) (hNormGradRefIdeal := hNormGradRefIdeal)
    ∧ preserves_MergeGrad_MergeGradIdeal
    ∧ algebraic_MergeGradIdeal_MergeGradRefIdeal (hMergeGradIdeal := hMergeGradIdeal) (hMergeGradRefIdeal := hMergeGradRefIdeal)
    ∧ preserves_Forward_ForwardIdeal
    ∧ algebraic_ForwardIdeal_ForwardRefIdeal (hForwardIdeal := hForwardIdeal) (hForwardRefIdeal := hForwardRefIdeal)
    ∧ preserves_Branch_BranchIdeal
    ∧ algebraic_BranchIdeal_BranchRefIdeal (hBranchIdeal := hBranchIdeal) (hBranchRefIdeal := hBranchRefIdeal)
    ∧ preserves_HeadGrad_HeadGradIdeal
    ∧ algebraic_HeadGradIdeal_HeadGradRefIdeal (hHeadGradIdeal := hHeadGradIdeal) (hHeadGradRefIdeal := hHeadGradRefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_GateGrad_GateGradIdeal
    ∧ algebraic_GateGradIdeal_GateGradRefIdeal (hGateGradIdeal := hGateGradIdeal) (hGateGradRefIdeal := hGateGradRefIdeal)
-- ==== Pre_finite.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .f32) (main_arg1 : FVec F S2048x512 .f32) (main_arg2 : FVec F S2048x512 .f32) (main_arg3 : FVec F S2048x512 .f32) : IVec S2048x512 1 × IVec S2048x512 1 × IVec S2048x512 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  (main_v2, main_v5, main_v8, main_v11)
-- ==== Kernel.lean ====
abbrev S2048x512 : Shape := ⟨2, ![2048, 512]⟩
abbrev S_ : Shape := ⟨0, ![]⟩
abbrev S256x128 : Shape := ⟨2, ![256, 128]⟩
abbrev S2048x128 : Shape := ⟨2, ![2048, 128]⟩
abbrev S512x128 : Shape := ⟨2, ![512, 128]⟩
abbrev S512x256 : Shape := ⟨2, ![512, 256]⟩
abbrev S256x256 : Shape := ⟨2, ![256, 256]⟩
abbrev S512x1 : Shape := ⟨2, ![512, 1]⟩
abbrev S1024x256 : Shape := ⟨2, ![1024, 256]⟩
abbrev S512 : Shape := ⟨1, ![512]⟩
abbrev S256x1 : Shape := ⟨2, ![256, 1]⟩

abbrev nBuf : Space → Nat
  | .hbm => 15
  | .vmem => 26
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S2048x512, .bf16⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v22 : BitVec 32 := Scalar.muli arg1 c256_i32
  v22
def k0_off1 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v24 : Index := Scalar.indexCast v23
  let c0_3 : Index := 0#32
  ![v24.toNat, 0]
@[reducible] def k0_t1_loop (i : grid0.Coords) : Scf.Loop 32 :=
  let c0_i32_14 : BitVec 32 := 0#32
  let arg1 : BitVec 32 := BitVec.ofNat 32 (i 1).val
  let v68 : BitVec 32 := Scalar.subi arg1 c0_i32_14
  let c1_i32 : BitVec 32 := 1#32
  let v70 : BitVec 32 := Scalar.divsi v68 c1_i32
  let v71 : BitVec 32 := Scalar.muli v70 c1_i32
  let v72 : BitVec 32 := Scalar.addi c0_i32_14 v71
  let c1_i32_15 : BitVec 32 := 1#32
  ⟨c0_i32_14, v72, c1_i32_15⟩
def k0_mult2 (i : grid0.Coords) (k0_t1 : Fin (k0_t1_loop i).trips) : BitVec 32 :=
  let arg1 : BitVec 32 := BitVec.ofNat 32 (i 1).val
  let c1_i32_23 : BitVec 32 := 1#32
  let v92 : BitVec 32 := Scalar.subi arg1 c1_i32_23
  let c0_i32_14 : BitVec 32 := 0#32
  let c1_i32_15 : BitVec 32 := 1#32
  let arg7 : BitVec 32 := Scf.iv c0_i32_14 c1_i32_15 k0_t1
  let v93 : BitVec 32 := Scalar.subi v92 arg7
  let c256_i32_24 : BitVec 32 := 256#32
  let v94 : BitVec 32 := Scalar.muli v93 c256_i32_24
  v94
def k0_off2 (i : grid0.Coords) (k0_t1 : Fin (k0_t1_loop i).trips) : Fin 2 → Nat :=
  let arg1 : BitVec 32 := BitVec.ofNat 32 (i 1).val
  let c1_i32_23 : BitVec 32 := 1#32
  let v92 : BitVec 32 := Scalar.subi arg1 c1_i32_23
  let c0_i32_14 : BitVec 32 := 0#32
  let c1_i32_15 : BitVec 32 := 1#32
  let arg7 : BitVec 32 := Scf.iv c0_i32_14 c1_i32_15 k0_t1
  let v93 : BitVec 32 := Scalar.subi v92 arg7
  let c256_i32_24 : BitVec 32 := 256#32
  let v94 : BitVec 32 := Scalar.muli v93 c256_i32_24
  let v95 : BitVec 32 := v94
  let v96 : Index := Scalar.indexCast v95
  let c0_25 : Index := 0#32
  ![v96.toNat, 0]
@[reducible] def k0_t2_loop (i : grid0.Coords) : Scf.Loop 32 :=
  let c0_i32_14 : BitVec 32 := 0#32
  let arg1 : BitVec 32 := BitVec.ofNat 32 (i 1).val
  let v68 : BitVec 32 := Scalar.subi arg1 c0_i32_14
  let c1_i32 : BitVec 32 := 1#32
  let v70 : BitVec 32 := Scalar.divsi v68 c1_i32
  let v71 : BitVec 32 := Scalar.muli v70 c1_i32
  let v72 : BitVec 32 := Scalar.addi c0_i32_14 v71
  let v69 : BitVec 32 := Scalar.addi c0_i32_14 v68
  let c1_i32_16 : BitVec 32 := 1#32
  ⟨v72, v69, c1_i32_16⟩
def k0_mult3 (i : grid0.Coords) (k0_t2 : Fin (k0_t2_loop i).trips) : BitVec 32 :=
  let arg1 : BitVec 32 := BitVec.ofNat 32 (i 1).val
  let c1_i32_23 : BitVec 32 := 1#32
  let v92 : BitVec 32 := Scalar.subi arg1 c1_i32_23
  let c0_i32_14 : BitVec 32 := 0#32
  let v68 : BitVec 32 := Scalar.subi arg1 c0_i32_14
  let c1_i32 : BitVec 32 := 1#32
  let v70 : BitVec 32 := Scalar.divsi v68 c1_i32
  let v71 : BitVec 32 := Scalar.muli v70 c1_i32
  let v72 : BitVec 32 := Scalar.addi c0_i32_14 v71
  let c1_i32_16 : BitVec 32 := 1#32
  let arg7 : BitVec 32 := Scf.iv v72 c1_i32_16 k0_t2
  let v93 : BitVec 32 := Scalar.subi v92 arg7
  let c256_i32_24 : BitVec 32 := 256#32
  let v94 : BitVec 32 := Scalar.muli v93 c256_i32_24
  v94
def k0_off3 (i : grid0.Coords) (k0_t2 : Fin (k0_t2_loop i).trips) : Fin 2 → Nat :=
  let arg1 : BitVec 32 := BitVec.ofNat 32 (i 1).val
  let c1_i32_23 : BitVec 32 := 1#32
  let v92 : BitVec 32 := Scalar.subi arg1 c1_i32_23
  let c0_i32_14 : BitVec 32 := 0#32
  let v68 : BitVec 32 := Scalar.subi arg1 c0_i32_14
  let c1_i32 : BitVec 32 := 1#32
  let v70 : BitVec 32 := Scalar.divsi v68 c1_i32
  let v71 : BitVec 32 := Scalar.muli v70 c1_i32
  let v72 : BitVec 32 := Scalar.addi c0_i32_14 v71
  let c1_i32_16 : BitVec 32 := 1#32
  let arg7 : BitVec 32 := Scf.iv v72 c1_i32_16 k0_t2
  let v93 : BitVec 32 := Scalar.subi v92 arg7
  let c256_i32_24 : BitVec 32 := 256#32
  let v94 : BitVec 32 := Scalar.muli v93 c256_i32_24
  let v95 : BitVec 32 := v94
  let v96 : Index := Scalar.indexCast v95
  let c0_25 : Index := 0#32
  ![v96.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

@[reducible] def k1_t1_loop (i : grid1.Coords) : Scf.Loop 32 :=
  let c0_i32_10 : BitVec 32 := 0#32
  let arg1 : BitVec 32 := BitVec.ofNat 32 (i 1).val
  let v43 : BitVec 32 := Scalar.subi arg1 c0_i32_10
  let c1_i32 : BitVec 32 := 1#32
  let v45 : BitVec 32 := Scalar.divsi v43 c1_i32
  let v46 : BitVec 32 := Scalar.muli v45 c1_i32
  let v47 : BitVec 32 := Scalar.addi c0_i32_10 v46
  let c1_i32_11 : BitVec 32 := 1#32
  ⟨c0_i32_10, v47, c1_i32_11⟩
def k1_mult1 (i : grid1.Coords) (k1_t1 : Fin (k1_t1_loop i).trips) : BitVec 32 :=
  let c0_i32_10 : BitVec 32 := 0#32
  let c1_i32_11 : BitVec 32 := 1#32
  let arg10 : BitVec 32 := Scf.iv c0_i32_10 c1_i32_11 k1_t1
  let c256_i32_38 : BitVec 32 := 256#32
  let v144 : BitVec 32 := Scalar.muli arg10 c256_i32_38
  v144
def k1_off1 (i : grid1.Coords) (k1_t1 : Fin (k1_t1_loop i).trips) : Fin 2 → Nat :=
  let c0_i32_10 : BitVec 32 := 0#32
  let c1_i32_11 : BitVec 32 := 1#32
  let arg10 : BitVec 32 := Scf.iv c0_i32_10 c1_i32_11 k1_t1
  let c256_i32_38 : BitVec 32 := 256#32
  let v144 : BitVec 32 := Scalar.muli arg10 c256_i32_38
  let v145 : BitVec 32 := v144
  let v146 : Index := Scalar.indexCast v145
  let c0_39 : Index := 0#32
  ![v146.toNat, 0]
@[reducible] def k1_t2_loop (i : grid1.Coords) : Scf.Loop 32 :=
  let c0_i32_10 : BitVec 32 := 0#32
  let arg1 : BitVec 32 := BitVec.ofNat 32 (i 1).val
  let v43 : BitVec 32 := Scalar.subi arg1 c0_i32_10
  let c1_i32 : BitVec 32 := 1#32
  let v45 : BitVec 32 := Scalar.divsi v43 c1_i32
  let v46 : BitVec 32 := Scalar.muli v45 c1_i32
  let v47 : BitVec 32 := Scalar.addi c0_i32_10 v46
  let v44 : BitVec 32 := Scalar.addi c0_i32_10 v43
  let c1_i32_12 : BitVec 32 := 1#32
  ⟨v47, v44, c1_i32_12⟩
def k1_mult2 (i : grid1.Coords) (k1_t2 : Fin (k1_t2_loop i).trips) : BitVec 32 :=
  let c0_i32_10 : BitVec 32 := 0#32
  let arg1 : BitVec 32 := BitVec.ofNat 32 (i 1).val
  let v43 : BitVec 32 := Scalar.subi arg1 c0_i32_10
  let c1_i32 : BitVec 32 := 1#32
  let v45 : BitVec 32 := Scalar.divsi v43 c1_i32
  let v46 : BitVec 32 := Scalar.muli v45 c1_i32
  let v47 : BitVec 32 := Scalar.addi c0_i32_10 v46
  let c1_i32_12 : BitVec 32 := 1#32
  let arg10 : BitVec 32 := Scf.iv v47 c1_i32_12 k1_t2
  let c256_i32_38 : BitVec 32 := 256#32
  let v144 : BitVec 32 := Scalar.muli arg10 c256_i32_38
  v144
def k1_off2 (i : grid1.Coords) (k1_t2 : Fin (k1_t2_loop i).trips) : Fin 2 → Nat :=
  let c0_i32_10 : BitVec 32 := 0#32
  let arg1 : BitVec 32 := BitVec.ofNat 32 (i 1).val
  let v43 : BitVec 32 := Scalar.subi arg1 c0_i32_10
  let c1_i32 : BitVec 32 := 1#32
  let v45 : BitVec 32 := Scalar.divsi v43 c1_i32
  let v46 : BitVec 32 := Scalar.muli v45 c1_i32
  let v47 : BitVec 32 := Scalar.addi c0_i32_10 v46
  let c1_i32_12 : BitVec 32 := 1#32
  let arg10 : BitVec 32 := Scf.iv v47 c1_i32_12 k1_t2
  let c256_i32_38 : BitVec 32 := 256#32
  let v144 : BitVec 32 := Scalar.muli arg10 c256_i32_38
  let v145 : BitVec 32 := v144
  let v146 : Index := Scalar.indexCast v145
  let c0_39 : Index := 0#32
  ![v146.toNat, 0]
def k1_mult3 (i : grid1.Coords) : BitVec 32 :=
  let arg1 : BitVec 32 := BitVec.ofNat 32 (i 1).val
  let c256_i32 : BitVec 32 := 256#32
  let v50 : BitVec 32 := Scalar.muli arg1 c256_i32
  v50
def k1_off3 (i : grid1.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v52 : Index := Scalar.indexCast v51
  let c0_13 : Index := 0#32
  ![v52.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S8x64x2048 : Shape := ⟨3, ![8, 64, 2048]⟩
abbrev S8x2048 : Shape := ⟨2, ![8, 2048]⟩

abbrev nBuf : Space → Nat
  | .hbm => 187
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x8x64, .f32⟩
  | 5 => ⟨S8x2048x64, .f32⟩
  | 6 => ⟨S2048x8x64, .f32⟩
  | 7 => ⟨S8x2048x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .i1⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .i1⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x2048x2048, .f32⟩
  | 56 => ⟨S8x2048x2048, .i1⟩
  | 57 => ⟨S_, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S8x2048x2048, .f32⟩
  | 67 => ⟨S_, .f32⟩
  | 68 => ⟨S_, .f32⟩
  | 69 => ⟨S8x2048x2048, .i1⟩
  | 70 => ⟨S8x2048x2048, .f32⟩
  | 71 => ⟨S8x2048x2048, .f32⟩
  | 72 => ⟨S_, .f32⟩
  | 73 => ⟨S8x2048x2048, .f32⟩
  | 74 => ⟨S_, .f32⟩
  | 75 => ⟨S_, .f32⟩
  | 76 => ⟨S8x2048x2048, .f32⟩
  | 77 => ⟨S8x2048x2048, .f32⟩
  | 78 => ⟨S_, .f32⟩
  | 79 => ⟨S8x2048x2048, .f32⟩
  | 80 => ⟨S8x2048x2048, .f32⟩
  | 81 => ⟨S8x2048x2048, .f32⟩
  | 82 => ⟨S8x2048x2048, .f32⟩
  | 83 => ⟨S8x2048x2048, .i1⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S_, .f32⟩
  | 93 => ⟨S8x2048x2048, .f32⟩
  | 94 => ⟨S8x2048x2048, .i1⟩
  | 95 => ⟨S_, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S8x2048x2048, .f32⟩
  | 105 => ⟨S8x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x2048x2048, .f32⟩
  | 114 => ⟨S8x2048x2048, .i1⟩
  | 115 => ⟨S_, .f32⟩
  | 116 => ⟨S8x2048x2048, .f32⟩
  | 117 => ⟨S8x2048x2048, .f32⟩
  | 118 => ⟨S8x2048x2048, .f32⟩
  | 119 => ⟨S8x2048x2048, .f32⟩
  | 120 => ⟨S8x2048x2048, .f32⟩
  | 121 => ⟨S_, .f32⟩
  | 122 => ⟨S8x2048x2048, .f32⟩
  | 123 => ⟨S8x2048x2048, .f32⟩
  | 124 => ⟨S8x2048x2048, .f32⟩
  | 125 => ⟨S8x2048x1, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S_, .f32⟩
  | 4 => ⟨S8x2048x2048, .i1⟩
  | 5 => ⟨S8x2048x2048, .f32⟩
  | 6 => ⟨S8x2048x2048, .f32⟩
  | 7 => ⟨S_, .f32⟩
  | 8 => ⟨S8x2048x2048, .f32⟩
  | 9 => ⟨S2048x8x64, .f32⟩
  | 10 => ⟨S8x2048x64, .f32⟩
  | 11 => ⟨S8x2048x64, .f32⟩
  | 12 => ⟨S2048x8x64, .f32⟩
  | 13 => ⟨S2048x512, .f32⟩
  | 14 => ⟨S2048x8x64, .f32⟩
  | 15 => ⟨S8x2048x64, .f32⟩
  | 16 => ⟨S8x64x2048, .f32⟩
  | 17 => ⟨S8x2048x64, .f32⟩
  | 18 => ⟨S8x2048x2048, .f32⟩
  | 19 => ⟨S2048x8x64, .f32⟩
  | 20 => ⟨S2048x512, .f32⟩
  | 21 => ⟨S_, .f32⟩
  | 22 => ⟨S8x2048x2048, .f32⟩
  | 23 => ⟨S8x2048x2048, .f32⟩
  | 24 => ⟨S8x2048x2048, .f32⟩
  | 25 => ⟨S_, .f32⟩
  | 26 => ⟨S8x2048, .f32⟩
  | 27 => ⟨S8x2048x1, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S_, .f32⟩
  | 37 => ⟨S8x2048x2048, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S8x2048x64, .f32⟩
  | 50 => ⟨S8x2048x64, .f32⟩
  | 51 => ⟨S2048x8x64, .f32⟩
  | 52 => ⟨S2048x512, .f32⟩
  | 53 => ⟨S2048x8x64, .f32⟩
  | 54 => ⟨S2048x512, .f32⟩
  | 55 => ⟨S2048x512, .bf16⟩
  | 56 => ⟨S_, .f32⟩
  | 57 => ⟨S2048x512, .f32⟩
  | 58 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v17_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v17_2 : Ref sig .tc := ⟨.hbm, 123, rfl⟩
abbrev main_v17_0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call5_cst : Ref sig .tc := ⟨.hbm, 149, rfl⟩
abbrev main_call5_v0 : Ref sig .tc := ⟨.hbm, 150, rfl⟩
abbrev main_v36 : Ref sig .tc := ⟨.hbm, 151, rfl⟩
abbrev main_v37 : Ref sig .tc := ⟨.hbm, 152, rfl⟩
abbrev main_cst_2 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_cst_3 : Ref sig .tc := ⟨.hbm, 157, rfl⟩
abbrev main_v41 : Ref sig .tc := ⟨.hbm, 158, rfl⟩
abbrev main_v42 : Ref sig .tc := ⟨.hbm, 159, rfl⟩
abbrev main_call6_v0 : Ref sig .tc := ⟨.hbm, 160, rfl⟩
abbrev main_call6_v1 : Ref sig .tc := ⟨.hbm, 161, rfl⟩
abbrev main_v43 : Ref sig .tc := ⟨.hbm, 162, rfl⟩
abbrev main_call7_cst : Ref sig .tc := ⟨.hbm, 163, rfl⟩
abbrev main_call7_v0 : Ref sig .tc := ⟨.hbm, 164, rfl⟩
abbrev main_v44 : Ref sig .tc := ⟨.hbm, 165, rfl⟩
abbrev main_call8_cst : Ref sig .tc := ⟨.hbm, 166, rfl⟩
abbrev main_call8_v0 : Ref sig .tc := ⟨.hbm, 167, rfl⟩
abbrev main_v45 : Ref sig .tc := ⟨.hbm, 168, rfl⟩
abbrev main_call9_v0 : Ref sig .tc := ⟨.hbm, 169, rfl⟩
abbrev main_call9_v1 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_cst_4 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_cst_5 : Ref sig .tc := ⟨.hbm, 184, rfl⟩
abbrev main_v58 : Ref sig .tc := ⟨.hbm, 185, rfl⟩
abbrev main_v59 : Ref sig .tc := ⟨.hbm, 186, rfl⟩

abbrev nD : Nat := 1
abbrev τ : Topo := Topo.v7x

variable {F : FTy → Type} [FloatOps F]
-- ==== InProj.lean ====
abbrev S2048x1024 : Shape := ⟨2, ![2048, 1024]⟩
abbrev S1024x6656 : Shape := ⟨2, ![1024, 6656]⟩
abbrev S2048x6656 : Shape := ⟨2, ![2048, 6656]⟩
abbrev S6656x1024 : Shape := ⟨2, ![6656, 1024]⟩
abbrev S1024x1024 : Shape := ⟨2, ![1024, 1024]⟩
abbrev S1664x1024 : Shape := ⟨2, ![1664, 1024]⟩
abbrev S1024x1664 : Shape := ⟨2, ![1024, 1664]⟩
abbrev S2048x1664 : Shape := ⟨2, ![2048, 1664]⟩
abbrev S2048x512 : Shape := ⟨2, ![2048, 512]⟩
abbrev S1664x512 : Shape := ⟨2, ![1664, 512]⟩
abbrev S256x6656 : Shape := ⟨2, ![256, 6656]⟩
abbrev S256x1024 : Shape := ⟨2, ![256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x6656, .f32⟩
  | .hbm, ⟨2, _⟩ => ⟨S2048x6656, .f32⟩
  | .hbm, ⟨3, _⟩ => ⟨S2048x1024, .bf16⟩
  | .hbm, ⟨4, _⟩ => ⟨S6656x1024, .f32⟩
  | .hbm, ⟨5, _⟩ => ⟨S6656x1024, .bf16⟩
  | .hbm, ⟨6, _⟩ => ⟨S2048x6656, .bf16⟩
  | .hbm, ⟨7, _⟩ => ⟨S2048x6656, .bf16⟩
  | .hbm, ⟨8, _⟩ => ⟨S6656x1024, .bf16⟩
  | .hbm, ⟨9, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1664, .bf16⟩
  | .local _ .vmem, ⟨5, _⟩ => ⟨S1024x1664, .bf16⟩
  | .local _ .vmem, ⟨6, _⟩ => ⟨S2048x1664, .bf16⟩
  | .local _ .vmem, ⟨7, _⟩ => ⟨S2048x1664, .bf16⟩
  | .local _ .vmem, ⟨8, _⟩ => ⟨S2048x512, .bf16⟩
  | .local _ .vmem, ⟨9, _⟩ => ⟨S2048x512, .bf16⟩
  | .local _ .vmem, ⟨10, _⟩ => ⟨S1664x512, .bf16⟩
  | .local _ .vmem, ⟨11, _⟩ => ⟨S1664x512, .bf16⟩
  | .local _ .vmem, ⟨12, _⟩ => ⟨S256x6656, .bf16⟩
  | .local _ .vmem, ⟨13, _⟩ => ⟨S256x6656, .bf16⟩
  | .local _ .vmem, ⟨14, _⟩ => ⟨S6656x1024, .bf16⟩
  | .local _ .vmem, ⟨15, _⟩ => ⟨S256x1024, .f32⟩
  | .local _ .vmem, ⟨16, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x1664 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1664x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x6656 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S6656x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== InProjRefIdeal.lean ====
abbrev S2048x1024 : Shape := ⟨2, ![2048, 1024]⟩
abbrev S1024x6656 : Shape := ⟨2, ![1024, 6656]⟩
abbrev S2048x6656 : Shape := ⟨2, ![2048, 6656]⟩
abbrev S6656x1024 : Shape := ⟨2, ![6656, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6656, .f32⟩
  | .hbm, ⟨2, _⟩ => ⟨S2048x6656, .f32⟩
  | .hbm, ⟨3, _⟩ => ⟨S2048x6656, .f32⟩
  | .hbm, ⟨4, _⟩ => ⟨S6656x1024, .f32⟩
  | .hbm, ⟨5, _⟩ => ⟨S1024x6656, .f32⟩
  | .hbm, ⟨6, _⟩ => ⟨S2048x1024, .f32⟩
  | .hbm, ⟨7, _⟩ => ⟨S2048x6656, .bf16⟩
  | .hbm, ⟨8, _⟩ => ⟨S6656x1024, .f32⟩
  | .hbm, ⟨9, _⟩ => ⟨S6656x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S512x512 : Shape := ⟨2, ![512, 512]⟩
abbrev S256x1024 : Shape := ⟨2, ![256, 1024]⟩
abbrev S1024x512 : Shape := ⟨2, ![1024, 512]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 36
  | .vmem => 56
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x512, .bf16⟩
  | .hbm, ⟨14, _⟩ => ⟨S2048x512, .bf16⟩
  | .hbm, ⟨15, _⟩ => ⟨S2048x512, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S1024x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1024, .f32⟩
  | .hbm, ⟨28, _⟩ => ⟨S1024x1024, .bf16⟩
  | .hbm, ⟨29, _⟩ => ⟨S2048x1024, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S8x512x128, .bf16⟩
  | .hbm, ⟨34, _⟩ => ⟨S8x512x128, .bf16⟩
  | .hbm, ⟨35, _⟩ => ⟨S8x512x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S2048x1024, .bf16⟩
  | .local _ .vmem, ⟨23, _⟩ => ⟨S2048x512, .f32⟩
  | .local _ .vmem, ⟨24, _⟩ => ⟨S2048x512, .f32⟩
  | .local _ .vmem, ⟨25, _⟩ => ⟨S1024x512, .bf16⟩
  | .local _ .vmem, ⟨26, _⟩ => ⟨S1024x512, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S2048x512, .bf16⟩
  | .local _ .vmem, ⟨48, _⟩ => ⟨S2048x1024, .bf16⟩
  | .local _ .vmem, ⟨49, _⟩ => ⟨S8x512x128, .bf16⟩
  | .local _ .vmem, ⟨50, _⟩ => ⟨S2048x512, .bf16⟩
  | .local _ .vmem, ⟨51, _⟩ => ⟨S2048x1024, .bf16⟩
  | .local _ .vmem, ⟨52, _⟩ => ⟨S8x512x128, .bf16⟩
  | .local _ .vmem, ⟨53, _⟩ => ⟨S2048x512, .bf16⟩
  | .local _ .vmem, ⟨54, _⟩ => ⟨S2048x1024, .bf16⟩
  | .local _ .vmem, ⟨55, _⟩ => ⟨S8x512x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg6_1 : Ref sig .tc := ⟨.vmem, 42, rfl⟩
abbrev cc4_stg7_0 : Ref sig .tc := ⟨.vmem, 43, rfl⟩
abbrev cc4_stg7_1 : Ref sig .tc := ⟨.vmem, 44, rfl⟩
abbrev cc4_stg8_0 : Ref sig .tc := ⟨.vmem, 45, rfl⟩
abbrev cc4_stg8_1 : Ref sig .tc := ⟨.vmem, 46, rfl⟩
abbrev cc5_stg0_0 : Ref sig .tc := ⟨.vmem, 47, rfl⟩
abbrev cc5_stg1_0 : Ref sig .tc := ⟨.vmem, 48, rfl⟩
abbrev cc5_stg2_0 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg2_0 : Ref sig .tc := ⟨.vmem, 52, rfl⟩
abbrev cc7_stg0_0 : Ref sig .tc := ⟨.vmem, 53, rfl⟩
abbrev cc7_stg1_0 : Ref sig .tc := ⟨.vmem, 54, rfl⟩
abbrev cc7_stg2_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem6_1 : DmaSem sig := 42
abbrev cc4_sem7_0 : DmaSem sig := 43
abbrev cc4_sem7_1 : DmaSem sig := 44
abbrev cc4_sem8_0 : DmaSem sig := 45
abbrev cc4_sem8_1 : DmaSem sig := 46
abbrev cc5_sem0_0 : DmaSem sig := 47
abbrev cc5_sem1_0 : DmaSem sig := 48
abbrev cc5_sem2_0 : DmaSem sig := 49
abbrev cc6_sem0_0 : DmaSem sig := 50
abbrev cc6_sem1_0 : DmaSem sig := 51
abbrev cc6_sem2_0 : DmaSem sig := 52
abbrev cc7_sem0_0 : DmaSem sig := 53
abbrev cc7_sem1_0 : DmaSem sig := 54
abbrev cc7_sem2_0 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 1 → Memref sig .tc .vmem S2048x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S8x512x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage6_0 : Fin 1 → Memref sig .tc .vmem S2048x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S8x512x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage7_0 : Fin 1 → Memref sig .tc .vmem S2048x512 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S8x512x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]
-- ==== OutProjRefIdeal.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1024x512, .f32⟩
  | .hbm, ⟨17, _⟩ => ⟨S512x1024, .f32⟩
  | .hbm, ⟨18, _⟩ => ⟨S2048x512, .f32⟩
  | .hbm, ⟨19, _⟩ => ⟨S1024x512, .f32⟩
  | .hbm, ⟨20, _⟩ => ⟨S512x1024, .f32⟩
  | .hbm, ⟨21, _⟩ => ⟨S2048x512, .f32⟩
  | .hbm, ⟨22, _⟩ => ⟨S1024x512, .f32⟩
  | .hbm, ⟨23, _⟩ => ⟨S512x1024, .f32⟩
  | .hbm, ⟨24, _⟩ => ⟨S2048x512, .f32⟩
  | .hbm, ⟨25, _⟩ => ⟨S2048x1024, .f32⟩
  | .hbm, ⟨26, _⟩ => ⟨S2048x1024, .f32⟩
  | .hbm, ⟨27, _⟩ => ⟨S1024x1024, .f32⟩
  | .hbm, ⟨28, _⟩ => ⟨S1024x1024, .f32⟩
  | .hbm, ⟨29, _⟩ => ⟨S2048x1024, .f32⟩
  | .hbm, ⟨30, _⟩ => ⟨S2048x1024, .bf16⟩
  | .hbm, ⟨31, _⟩ => ⟨S2048x1024, .bf16⟩
  | .hbm, ⟨32, _⟩ => ⟨S2048x1024, .bf16⟩
  | .hbm, ⟨33, _⟩ => ⟨S1024x1024, .bf16⟩
  | .hbm, ⟨34, _⟩ => ⟨S512x8x128, .f32⟩
  | .hbm, ⟨35, _⟩ => ⟨S8x512x128, .f32⟩
  | .hbm, ⟨36, _⟩ => ⟨S8x512x128, .bf16⟩
  | .hbm, ⟨37, _⟩ => ⟨S512x8x128, .f32⟩
  | .hbm, ⟨38, _⟩ => ⟨S8x512x128, .f32⟩
  | .hbm, ⟨39, _⟩ => ⟨S8x512x128, .bf16⟩
  | .hbm, ⟨40, _⟩ => ⟨S512x8x128, .f32⟩
  | .hbm, ⟨41, _⟩ => ⟨S8x512x128, .f32⟩
  | .hbm, ⟨42, _⟩ => ⟨S8x512x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Mixer.lean ====
abbrev S2048x1024 : Shape := ⟨2, ![2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2048x5632 : Shape := ⟨2, ![2048, 5632]⟩
abbrev S5632x1024 : Shape := ⟨2, ![5632, 1024]⟩
abbrev S1x5632 : Shape := ⟨2, ![1, 5632]⟩
abbrev S256x1024 : Shape := ⟨2, ![256, 1024]⟩
abbrev S256x5632 : Shape := ⟨2, ![256, 5632]⟩
abbrev S2048x2816 : Shape := ⟨2, ![2048, 2816]⟩
abbrev S2048x128 : Shape := ⟨2, ![2048, 128]⟩
abbrev S1x128 : Shape := ⟨2, ![1, 128]⟩
abbrev S2056x128 : Shape := ⟨2, ![2056, 128]⟩
abbrev S8x128 : Shape := ⟨2, ![8, 128]⟩
abbrev S128x128 : Shape := ⟨2, ![128, 128]⟩
abbrev S256x2816 : Shape := ⟨2, ![256, 2816]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 30
  | .vmem => 58
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2048x1024, .f32⟩
  | .hbm, ⟨7, _⟩ => ⟨S2048x5632, .f32⟩
  | .hbm, ⟨8, _⟩ => ⟨S2048x1024, .bf16⟩
  | .hbm, ⟨9, _⟩ => ⟨S5632x1024, .f32⟩
  | .hbm, ⟨10, _⟩ => ⟨S5632x1024, .bf16⟩
  | .hbm, ⟨11, _⟩ => ⟨S2816x1024, .bf16⟩
  | .hbm, ⟨12, _⟩ => ⟨S2048x5632, .bf16⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S1x5632, .f32⟩
  | .hbm, ⟨23, _⟩ => ⟨S2048x5632, .bf16⟩
  | .hbm, ⟨24, _⟩ => ⟨S2048x2816, .bf16⟩
  | .hbm, ⟨25, _⟩ => ⟨S2048x1024, .f32⟩
  | .hbm, ⟨26, _⟩ => ⟨S2816x1024, .bf16⟩
  | .hbm, ⟨27, _⟩ => ⟨S2048x2816, .f32⟩
  | .hbm, ⟨28, _⟩ => ⟨S5632x1024, .bf16⟩
  | .hbm, ⟨29, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S256x5632, .bf16⟩
  | .local _ .vmem, ⟨4, _⟩ => ⟨S256x5632, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S2048x128, .bf16⟩
  | .local _ .vmem, ⟨26, _⟩ => ⟨S2048x128, .bf16⟩
  | .local _ .vmem, ⟨27, _⟩ => ⟨S2056x128, .f32⟩
  | .local _ .vmem, ⟨28, _⟩ => ⟨S2056x128, .f32⟩
  | .local _ .vmem, ⟨29, _⟩ => ⟨S256x2816, .bf16⟩
  | .local _ .vmem, ⟨30, _⟩ => ⟨S256x2816, .bf16⟩
  | .local _ .vmem, ⟨31, _⟩ => ⟨S2816x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S2048x1408, .bf16⟩
  | .local _ .vmem, ⟨37, _⟩ => ⟨S2048x1408, .bf16⟩
  | .local _ .vmem, ⟨38, _⟩ => ⟨S2048x512, .f32⟩
  | .local _ .vmem, ⟨39, _⟩ => ⟨S2048x512, .f32⟩
  | .local _ .vmem, ⟨40, _⟩ => ⟨S1408x512, .bf16⟩
  | .local _ .vmem, ⟨41, _⟩ => ⟨S1408x512, .bf16⟩
  | .local _ .vmem, ⟨42, _⟩ => ⟨S256x1024, .f32⟩
  | .local _ .vmem, ⟨43, _⟩ => ⟨S256x1024, .f32⟩
  | .local _ .vmem, ⟨44, _⟩ => ⟨S2816x1024, .bf16⟩
  | .local _ .vmem, ⟨45, _⟩ => ⟨S256x2816, .f32⟩
  | .local _ .vmem, ⟨46, _⟩ => ⟨S256x2816, .f32⟩
  | .local _ .vmem, ⟨47, _⟩ => ⟨S2048x1408, .bf16⟩
  | .local _ .vmem, ⟨48, _⟩ => ⟨S2048x1408, .bf16⟩
  | .local _ .vmem, ⟨49, _⟩ => ⟨S2048x512, .bf16⟩
  | .local _ .vmem, ⟨50, _⟩ => ⟨S2048x512, .bf16⟩
  | .local _ .vmem, ⟨51, _⟩ => ⟨S1408x512, .bf16⟩
  | .local _ .vmem, ⟨52, _⟩ => ⟨S1408x512, .bf16⟩
  | .local _ .vmem, ⟨53, _⟩ => ⟨S256x5632, .bf16⟩
  | .local _ .vmem, ⟨54, _⟩ => ⟨S256x5632, .bf16⟩
  | .local _ .vmem, ⟨55, _⟩ => ⟨S5632x1024, .bf16⟩
  | .local _ .vmem, ⟨56, _⟩ => ⟨S256x1024, .f32⟩
  | .local _ .vmem, ⟨57, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem2_1 : DmaSem sig := 55

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_9 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1408x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S256x2816 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S2048x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1408x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S256x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S5632x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== MixerRefIdeal.lean ====
abbrev S2048x1024 : Shape := ⟨2, ![2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2048x5632 : Shape := ⟨2, ![2048, 5632]⟩
abbrev S1x5632 : Shape := ⟨2, ![1, 5632]⟩
abbrev S_ : Shape := ⟨0, ![]⟩
abbrev S2x5632 : Shape := ⟨2, ![2, 5632]⟩
abbrev S2046x5632 : Shape := ⟨2, ![2046, 5632]⟩
abbrev S2047x5632 : Shape := ⟨2, ![2047, 5632]⟩
abbrev S2048x2816 : Shape := ⟨2, ![2048, 2816]⟩
abbrev S1024x2816 : Shape := ⟨2, ![1024, 2816]⟩
abbrev S5632x1024 : Shape := ⟨2, ![5632, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2048x1024, .f32⟩
  | .hbm, ⟨7, _⟩ => ⟨S2048x5632, .f32⟩
  | .hbm, ⟨8, _⟩ => ⟨S2048x5632, .f32⟩
  | .hbm, ⟨9, _⟩ => ⟨S1x5632, .f32⟩
  | .hbm, ⟨10, _⟩ => ⟨S5632, .f32⟩
  | .hbm, ⟨11, _⟩ => ⟨S_, .f32⟩
  | .hbm, ⟨12, _⟩ => ⟨S2x5632, .f32⟩
  | .hbm, ⟨13, _⟩ => ⟨S2046x5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S_, .f32⟩
  | .hbm, ⟨21, _⟩ => ⟨S1x5632, .f32⟩
  | .hbm, ⟨22, _⟩ => ⟨S2047x5632, .f32⟩
  | .hbm, ⟨23, _⟩ => ⟨S2048x5632, .f32⟩
  | .hbm, ⟨24, _⟩ => ⟨S1x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S1x5632, .f32⟩
  | .hbm, ⟨35, _⟩ => ⟨S2048x5632, .f32⟩
  | .hbm, ⟨36, _⟩ => ⟨S2048x5632, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x1024, .f32⟩
  | .hbm, ⟨50, _⟩ => ⟨S2048x1024, .f32⟩
  | .hbm, ⟨51, _⟩ => ⟨S1024x2816, .f32⟩
  | .hbm, ⟨52, _⟩ => ⟨S2816x1024, .f32⟩
  | .hbm, ⟨53, _⟩ => ⟨S2048x2816, .f32⟩
  | .hbm, ⟨54, _⟩ => ⟨S5632x1024, .f32⟩
  | .hbm, ⟨55, _⟩ => ⟨S1024x5632, .f32⟩
  | .hbm, ⟨56, _⟩ => ⟨S2048x1024, .f32⟩
  | .hbm, ⟨57, _⟩ => ⟨S2816x1024, .bf16⟩
  | .hbm, ⟨58, _⟩ => ⟨S5632x1024, .f32⟩
  | .hbm, ⟨59, _⟩ => ⟨S5632x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== RmsGrad.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg1 : BitVec 32 := BitVec.ofNat 32 (i 1).val
  let c0_i32_17 : BitVec 32 := 0#32
  let v43 : BitVec 1 := Scalar.cmpi .sgt arg1 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RmsGradRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormGrad.lean ====
abbrev S2048x512 : Shape := ⟨2, ![2048, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S512, .f32⟩
  | .hbm, ⟨3, _⟩ => ⟨S2048x512, .f32⟩
  | .hbm, ⟨4, _⟩ => ⟨S1x512, .f32⟩
  | .hbm, ⟨5, _⟩ => ⟨S1x512, .f32⟩
  | .hbm, ⟨6, _⟩ => ⟨S2048x512, .f32⟩
  | .hbm, ⟨7, _⟩ => ⟨S1x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v70 : BitVec 1 := Scalar.cmpi .eq arg1 c0_i32
  let v71 : BitVec 32 := Scalar.extui v70
  let c0_i32_24 : BitVec 32 := 0#32
  let v72 : BitVec 1 := Scalar.cmpi .ne v71 c0_i32_24
  v72

def k0_cond2 (i : grid0.Coords) : BitVec 1 :=
  let arg1 : BitVec 32 := BitVec.ofNat 32 (i 1).val
  let c0_i32_25 : BitVec 32 := 0#32
  let v73 : BitVec 1 := Scalar.cmpi .sgt arg1 c0_i32_25
  let v74 : BitVec 32 := Scalar.extui v73
  let c0_i32_26 : BitVec 32 := 0#32
  let v75 : BitVec 1 := Scalar.cmpi .ne v74 c0_i32_26
  v75

def k0_cond3 (i : grid0.Coords) : BitVec 1 :=
  let arg1 : BitVec 32 := BitVec.ofNat 32 (i 1).val
  let c0_i32_27 : BitVec 32 := 0#32
  let v76 : BitVec 1 := Scalar.cmpi .eq arg1 c0_i32_27
  let v77 : BitVec 32 := Scalar.extui v76
  let c0_i32_28 : BitVec 32 := 0#32
  let v78 : BitVec 1 := Scalar.cmpi .ne v77 c0_i32_28
  v78

def k0_cond4 (i : grid0.Coords) : BitVec 1 :=
  let arg1 : BitVec 32 := BitVec.ofNat 32 (i 1).val
  let c0_i32_29 : BitVec 32 := 0#32
  let v79 : BitVec 1 := Scalar.cmpi .sgt arg1 c0_i32_29
  let v80 : BitVec 32 := Scalar.extui v79
  let c0_i32_30 : BitVec 32 := 0#32
  let v81 : BitVec 1 := Scalar.cmpi .ne v80 c0_i32_30
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormGradRefIdeal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S2048x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S512, .f32⟩
  | .hbm, ⟨65, _⟩ => ⟨S2048x512, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x512, .f32⟩
  | .hbm, ⟨92, _⟩ => ⟨S2048x512, .f32⟩
  | .hbm, ⟨93, _⟩ => ⟨S1x512, .f32⟩
  | .hbm, ⟨94, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== MergeGrad.lean ====
abbrev S2048x6656 : Shape := ⟨2, ![2048, 6656]⟩
abbrev S2048x1024 : Shape := ⟨2, ![2048, 1024]⟩
abbrev S3x1024 : Shape := ⟨2, ![3, 1024]⟩
abbrev S1x1024 : Shape := ⟨2, ![1, 1024]⟩
abbrev S1024 : Shape := ⟨1, ![1024]⟩
abbrev S256x512 : Shape := ⟨2, ![256, 512]⟩
abbrev S1x512 : Shape := ⟨2, ![1, 512]⟩
abbrev S512 : Shape := ⟨1, ![512]⟩

abbrev nBuf : Space → Nat
  | .hbm => 28
  | .vmem => 38
  | .smem => 0
  | _ => 0

abbrev bufTy : (tb : Table) → Fin (tcTables nBuf tb) → BufTy
  | .hbm, ⟨0, _⟩ => ⟨S2048x6656, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S2048x1024, .f32⟩
  | .hbm, ⟨6, _⟩ => ⟨S2048x6656, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v72 : BitVec 1 := Scalar.cmpi .eq arg1 c0_i32
  let v73 : BitVec 32 := Scalar.extui v72
  let c0_i32_36 : BitVec 32 := 0#32
  let v74 : BitVec 1 := Scalar.cmpi .ne v73 c0_i32_36
  v74

def k0_cond2 (i : grid0.Coords) : BitVec 1 :=
  let arg1 : BitVec 32 := BitVec.ofNat 32 (i 1).val
  let c0_i32_37 : BitVec 32 := 0#32
  let v75 : BitVec 1 := Scalar.cmpi .sgt arg1 c0_i32_37
  let v76 : BitVec 32 := Scalar.extui v75
  let c0_i32_38 : BitVec 32 := 0#32
  let v77 : BitVec 1 := Scalar.cmpi .ne v76 c0_i32_38
  v77

def k0_cond3 (i : grid0.Coords) : BitVec 1 :=
  let arg1 : BitVec 32 := BitVec.ofNat 32 (i 1).val
  let c0_i32_39 : BitVec 32 := 0#32
  let v78 : BitVec 1 := Scalar.cmpi .eq arg1 c0_i32_39
  let v79 : BitVec 32 := Scalar.extui v78
  let c0_i32_40 : BitVec 32 := 0#32
  let v80 : BitVec 1 := Scalar.cmpi .ne v79 c0_i32_40
  v80

def k0_cond4 (i : grid0.Coords) : BitVec 1 :=
  let arg1 : BitVec 32 := BitVec.ofNat 32 (i 1).val
  let c0_i32_41 : BitVec 32 := 0#32
  let v81 : BitVec 1 := Scalar.cmpi .sgt arg1 c0_i32_41
  let v82 : BitVec 32 := Scalar.extui v81
  let c0_i32_42 : BitVec 32 := 0#32
  let v83 : BitVec 1 := Scalar.cmpi .ne v82 c0_i32_42
  v83

def k0_cond5 (i : grid0.Coords) : BitVec 1 :=
  let arg1 : BitVec 32 := BitVec.ofNat 32 (i 1).val
  let c0_i32_43 : BitVec 32 := 0#32
  let v84 : BitVec 1 := Scalar.cmpi .eq arg1 c0_i32_43
  let v85 : BitVec 32 := Scalar.extui v84
  let c0_i32_44 : BitVec 32 := 0#32
  let v86 : BitVec 1 := Scalar.cmpi .ne v85 c0_i32_44
  v86

def k0_cond6 (i : grid0.Coords) : BitVec 1 :=
  let arg1 : BitVec 32 := BitVec.ofNat 32 (i 1).val
  let c0_i32_45 : BitVec 32 := 0#32
  let v87 : BitVec 1 := Scalar.cmpi .sgt arg1 c0_i32_45
  let v88 : BitVec 32 := Scalar.extui v87
  let c0_i32_46 : BitVec 32 := 0#32
  let v89 : BitVec 1 := Scalar.cmpi .ne v88 c0_i32_46
  v89

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== MergeGradRefIdeal.lean ====
abbrev S2048x6656 : Shape := ⟨2, ![2048, 6656]⟩
abbrev S2048x1024 : Shape := ⟨2, ![2048, 1024]⟩
abbrev S3x1024 : Shape := ⟨2, ![3, 1024]⟩
abbrev S2048x1536 : Shape := ⟨2, ![2048, 1536]⟩
abbrev S2048x3072 : Shape := ⟨2, ![2048, 3072]⟩
abbrev S2048x3x1024 : Shape := ⟨3, ![2048, 3, 1024]⟩
abbrev S1x3x1024 : Shape := ⟨3, ![1, 3, 1024]⟩
abbrev S_ : Shape := ⟨0, ![]⟩
abbrev S2048x1x1024 : Shape := ⟨3, ![2048, 1, 1024]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1536, .f32⟩
  | .hbm, ⟨9, _⟩ => ⟨S2048x3072, .f32⟩
  | .hbm, ⟨10, _⟩ => ⟨S2048x3x1024, .f32⟩
  | .hbm, ⟨11, _⟩ => ⟨S1x3x1024, .f32⟩
  | .hbm, ⟨12, _⟩ => ⟨S2048x3x1024, .f32⟩
  | .hbm, ⟨13, _⟩ => ⟨S2048x3x1024, .f32⟩
  | .hbm, ⟨14, _⟩ => ⟨S2048x3x1024, .f32⟩
  | .hbm, ⟨15, _⟩ => ⟨S2048x3x1024, .f32⟩
  | .hbm, ⟨16, _⟩ => ⟨S_, .f32⟩
  | .hbm, ⟨17, _⟩ => ⟨S2048x3x1024, .f32⟩
  | .hbm, ⟨18, _⟩ => ⟨S2048x3x1024, .f32⟩
  | .hbm, ⟨19, _⟩ => ⟨S_, .f32⟩
  | .hbm, ⟨20, _⟩ => ⟨S2048x3x1024, .f32⟩
  | .hbm, ⟨21, _⟩ => ⟨S2048x3x1024, .f32⟩
  | .hbm, ⟨22, _⟩ => ⟨S_, .f32⟩
  | .hbm, ⟨23, _⟩ => ⟨S2048x3x1024, .f32⟩
  | .hbm, ⟨24, _⟩ => ⟨S2048x3x1024, .f32⟩
  | .hbm, ⟨25, _⟩ => ⟨S2048x3x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1x1024, .f32⟩
  | .hbm, ⟨42, _⟩ => ⟨S_, .f32⟩
  | .hbm, ⟨43, _⟩ => ⟨S2048x3x1024, .f32⟩
  | .hbm, ⟨44, _⟩ => ⟨S2048x1024, .f32⟩
  | .hbm, ⟨45, _⟩ => ⟨S2048x1024, .f32⟩
  | .hbm, ⟨46, _⟩ => ⟨S2048x1x1024, .f32⟩
  | .hbm, ⟨47, _⟩ => ⟨S_, .f32⟩
  | .hbm, ⟨48, _⟩ => ⟨S2048x3x1024, .f32⟩
  | .hbm, ⟨49, _⟩ => ⟨S2048x3x1024, .f32⟩
  | .hbm, ⟨50, _⟩ => ⟨S2048x1024, .f32⟩
  | .hbm, ⟨51, _⟩ => ⟨S2048x1024, .f32⟩
  | .hbm, ⟨52, _⟩ => ⟨S2048x1x1024, .f32⟩
  | .hbm, ⟨53, _⟩ => ⟨S_, .f32⟩
  | .hbm, ⟨54, _⟩ => ⟨S2048x3x1024, .f32⟩
  | .hbm, ⟨55, _⟩ => ⟨S2048x3x1024, .f32⟩
  | .hbm, ⟨56, _⟩ => ⟨S2048x3x1024, .f32⟩
  | .hbm, ⟨57, _⟩ => ⟨S_, .f32⟩
  | .hbm, ⟨58, _⟩ => ⟨S3x1024, .f32⟩
  | .hbm, ⟨59, _⟩ => ⟨S1x3x1024, .f32⟩
  | .hbm, ⟨60, _⟩ => ⟨S_, .f32⟩
  | .hbm, ⟨61, _⟩ => ⟨S3x1024, .f32⟩
  | .hbm, ⟨62, _⟩ => ⟨S2048x3072, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .bf16⟩
  | .hbm, ⟨67, _⟩ => ⟨S2048x1024, .bf16⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x1024, .bf16⟩
  | .hbm, ⟨72, _⟩ => ⟨S1x1024, .f32⟩
  | .hbm, ⟨73, _⟩ => ⟨S1x1024, .f32⟩
  | .hbm, ⟨74, _⟩ => ⟨S1x1024, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Forward.lean ====
abbrev S2048x1024 : Shape := ⟨2, ![2048, 1024]⟩
abbrev S1024 : Shape := ⟨1, ![1024]⟩
abbrev S2048x6656 : Shape := ⟨2, ![2048, 6656]⟩
abbrev S2048x512 : Shape := ⟨2, ![2048, 512]⟩
abbrev S512 : Shape := ⟨1, ![512]⟩
abbrev S3x1024 : Shape := ⟨2, ![3, 1024]⟩
abbrev S1x1024 : Shape := ⟨2, ![1, 1024]⟩
abbrev S512x1024 : Shape := ⟨2, ![512, 1024]⟩
abbrev S512x1 : Shape := ⟨2, ![512, 1]⟩
abbrev S512x512 : Shape := ⟨2, ![512, 512]⟩
abbrev S1x512 : Shape := ⟨2, ![1, 512]⟩
abbrev S256x512 : Shape := ⟨2, ![256, 512]⟩

abbrev nBuf : Space → Nat
  | .hbm => 33
  | .vmem => 47
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x6656, .f32⟩
  | .hbm, ⟨3, _⟩ => ⟨S2048x512, .f32⟩
  | .hbm, ⟨4, _⟩ => ⟨S2048x512, .f32⟩
  | .hbm, ⟨5, _⟩ => ⟨S512, .f32⟩
  | .hbm, ⟨6, _⟩ => ⟨S512, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S3x1024, .f32⟩
  | .hbm, ⟨11, _⟩ => ⟨S2048x6656, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S2048x1024, .bf16⟩
  | .hbm, ⟨26, _⟩ => ⟨S2048x512, .f32⟩
  | .hbm, ⟨27, _⟩ => ⟨S2048x512, .bf16⟩
  | .hbm, ⟨28, _⟩ => ⟨S2048x512, .bf16⟩
  | .hbm, ⟨29, _⟩ => ⟨S1x512, .f32⟩
  | .hbm, ⟨30, _⟩ => ⟨S1x512, .f32⟩
  | .hbm, ⟨31, _⟩ => ⟨S2048x512, .bf16⟩
  | .hbm, ⟨32, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S1x512, .f32⟩
  | .local _ .vmem, ⟨24, _⟩ => ⟨S1x512, .f32⟩
  | .local _ .vmem, ⟨25, _⟩ => ⟨S512x512, .bf16⟩
  | .local _ .vmem, ⟨26, _⟩ => ⟨S512x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S256x512, .bf16⟩
  | .local _ .vmem, ⟨46, _⟩ => ⟨S256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc4_stg6_0 : Ref sig .tc := ⟨.vmem, 39, rfl⟩
abbrev cc4_stg6_1 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc4_stg9_0 : Ref sig .tc := ⟨.vmem, 45, rfl⟩
abbrev cc4_stg9_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc4_sem7_0 : DmaSem sig := 41
abbrev cc4_sem7_1 : DmaSem sig := 42
abbrev cc4_sem8_0 : DmaSem sig := 43
abbrev cc4_sem8_1 : DmaSem sig := 44
abbrev cc4_sem9_0 : DmaSem sig := 45
abbrev cc4_sem9_1 : DmaSem sig := 46

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc2_transform_1 (i : grid2.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc4_transform_1 (i : grid4.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S256x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S256x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S256x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S256x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S1x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S1x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev stage4_9 : Fin 2 → Memref sig .tc .vmem S256x512 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]
-- ==== ForwardRefIdeal.lean ====
abbrev S2048x1024 : Shape := ⟨2, ![2048, 1024]⟩
abbrev S1024 : Shape := ⟨1, ![1024]⟩
abbrev S2048x6656 : Shape := ⟨2, ![2048, 6656]⟩
abbrev S2048x512 : Shape := ⟨2, ![2048, 512]⟩
abbrev S512 : Shape := ⟨1, ![512]⟩
abbrev S3x1024 : Shape := ⟨2, ![3, 1024]⟩
abbrev S2048x1536 : Shape := ⟨2, ![2048, 1536]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x512 : Shape := ⟨2, ![1, 512]⟩
abbrev S2048x3x1024 : Shape := ⟨3, ![2048, 3, 1024]⟩
abbrev S1x3x1024 : Shape := ⟨3, ![1, 3, 1024]⟩
abbrev S2048x1x1024 : Shape := ⟨3, ![2048, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x6656, .f32⟩
  | .hbm, ⟨3, _⟩ => ⟨S2048x512, .f32⟩
  | .hbm, ⟨4, _⟩ => ⟨S2048x512, .f32⟩
  | .hbm, ⟨5, _⟩ => ⟨S512, .f32⟩
  | .hbm, ⟨6, _⟩ => ⟨S512, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S3x1024, .f32⟩
  | .hbm, ⟨11, _⟩ => ⟨S2048x1024, .f32⟩
  | .hbm, ⟨12, _⟩ => ⟨S2048x1024, .f32⟩
  | .hbm, ⟨13, _⟩ => ⟨S2048x1536, .f32⟩
  | .hbm, ⟨14, _⟩ => ⟨S2048x3072, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S2048x512, .f32⟩
  | .hbm, ⟨69, _⟩ => ⟨S2048x512, .f32⟩
  | .hbm, ⟨70, _⟩ => ⟨S1x512, .f32⟩
  | .hbm, ⟨71, _⟩ => ⟨S2048x512, .f32⟩
  | .hbm, ⟨72, _⟩ => ⟨S2048x512, .f32⟩
  | .hbm, ⟨73, _⟩ => ⟨S1x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S_, .f32⟩
  | .hbm, ⟨79, _⟩ => ⟨S2048x512, .f32⟩
  | .hbm, ⟨80, _⟩ => ⟨S2048x512, .f32⟩
  | .hbm, ⟨81, _⟩ => ⟨S_, .f32⟩
  | .hbm, ⟨82, _⟩ => ⟨S2048x512, .f32⟩
  | .hbm, ⟨83, _⟩ => ⟨S2048x512, .f32⟩
  | .hbm, ⟨84, _⟩ => ⟨S2048x512, .f32⟩
  | .hbm, ⟨85, _⟩ => ⟨S2048x3x1024, .f32⟩
  | .hbm, ⟨86, _⟩ => ⟨S1x3x1024, .f32⟩
  | .hbm, ⟨87, _⟩ => ⟨S2048x3x1024, .f32⟩
  | .hbm, ⟨88, _⟩ => ⟨S2048x3x1024, .f32⟩
  | .hbm, ⟨89, _⟩ => ⟨S2048x3x1024, .f32⟩
  | .hbm, ⟨90, _⟩ => ⟨S2048x3x1024, .f32⟩
  | .hbm, ⟨91, _⟩ => ⟨S_, .f32⟩
  | .hbm, ⟨92, _⟩ => ⟨S2048x3x1024, .f32⟩
  | .hbm, ⟨93, _⟩ => ⟨S2048x3x1024, .f32⟩
  | .hbm, ⟨94, _⟩ => ⟨S_, .f32⟩
  | .hbm, ⟨95, _⟩ => ⟨S2048x3x1024, .f32⟩
  | .hbm, ⟨96, _⟩ => ⟨S2048x3x1024, .f32⟩
  | .hbm, ⟨97, _⟩ => ⟨S2048x1x1024, .f32⟩
  | .hbm, ⟨98, _⟩ => ⟨S2048x1024, .f32⟩
  | .hbm, ⟨99, _⟩ => ⟨S2048x1024, .f32⟩
  | .hbm, ⟨100, _⟩ => ⟨S2048x1x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .bf16⟩
  | .hbm, ⟨109, _⟩ => ⟨S2048x512, .bf16⟩
  | .hbm, ⟨110, _⟩ => ⟨S2048x512, .bf16⟩
  | .hbm, ⟨111, _⟩ => ⟨S2048x512, .bf16⟩
  | .hbm, ⟨112, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== Branch.lean ====
abbrev S2048x6656 : Shape := ⟨2, ![2048, 6656]⟩
abbrev S512 : Shape := ⟨1, ![512]⟩
abbrev S8x128x128 : Shape := ⟨3, ![8, 128, 128]⟩
abbrev S8x128 : Shape := ⟨2, ![8, 128]⟩
abbrev S64 : Shape := ⟨1, ![64]⟩
abbrev S1x512 : Shape := ⟨2, ![1, 512]⟩
abbrev S128x8 : Shape := ⟨2, ![128, 8]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x64 : Shape := ⟨2, ![1, 64]⟩
abbrev S512x512 : Shape := ⟨2, ![512, 512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S2048x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S64, .f32⟩
  | .hbm, ⟨6, _⟩ => ⟨S64, .f32⟩
  | .hbm, ⟨7, _⟩ => ⟨S2048x6656, .bf16⟩
  | .hbm, ⟨8, _⟩ => ⟨S1x512, .f32⟩
  | .hbm, ⟨9, _⟩ => ⟨S1x512, .f32⟩
  | .hbm, ⟨10, _⟩ => ⟨S128x8, .f32⟩
  | .hbm, ⟨11, _⟩ => ⟨S2048x512, .bf16⟩
  | .hbm, ⟨12, _⟩ => ⟨S1x64, .f32⟩
  | .hbm, ⟨13, _⟩ => ⟨S1x64, .f32⟩
  | .hbm, ⟨14, _⟩ => ⟨S2048x512, .bf16⟩
  | .hbm, ⟨15, _⟩ => ⟨S2048x512, .bf16⟩
  | .hbm, ⟨16, _⟩ => ⟨S2048x512, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x8, .f32⟩
  | .local _ .vmem, ⟨8, _⟩ => ⟨S128x512, .bf16⟩
  | .local _ .vmem, ⟨9, _⟩ => ⟨S128x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x64, .f32⟩
  | .local _ .vmem, ⟨17, _⟩ => ⟨S1x64, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc1_transform_2 (i : grid1.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]
-- ==== BranchRefIdeal.lean ====
abbrev S2048x6656 : Shape := ⟨2, ![2048, 6656]⟩
abbrev S512 : Shape := ⟨1, ![512]⟩
abbrev S8x128x128 : Shape := ⟨3, ![8, 128, 128]⟩
abbrev S8x128 : Shape := ⟨2, ![8, 128]⟩
abbrev S64 : Shape := ⟨1, ![64]⟩
abbrev S2048x1024 : Shape := ⟨2, ![2048, 1024]⟩
abbrev S2048x1536 : Shape := ⟨2, ![2048, 1536]⟩
abbrev S2048x3072 : Shape := ⟨2, ![2048, 3072]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩
abbrev S16x128x8x64 : Shape := ⟨4, ![16, 128, 8, 64]⟩
abbrev S128x128 : Shape := ⟨2, ![128, 128]⟩
abbrev S1x128x128 : Shape := ⟨3, ![1, 128, 128]⟩
abbrev S8x16x64x128 : Shape := ⟨4, ![8, 16, 64, 128]⟩
abbrev S128x8 : Shape := ⟨2, ![128, 8]⟩
abbrev S128x8x1 : Shape := ⟨3, ![128, 8, 1]⟩
abbrev S1x128x8x1 : Shape := ⟨4, ![1, 128, 8, 1]⟩
abbrev S2048x8x64 : Shape := ⟨3, ![2048, 8, 64]⟩
abbrev S2048x8 : Shape := ⟨2, ![2048, 8]⟩
abbrev S2048x8x1 : Shape := ⟨3, ![2048, 8, 1]⟩
abbrev S1x1x64 : Shape := ⟨3, ![1, 1, 64]⟩

abbrev nBuf : Space → Nat
  | .hbm => 129
  | .vmem => 0
  | .smem => 0
  | _ => 0

abbrev hbmTy0_0 (i : Nat) : BufTy := match i % 128 with
  | 0 => ⟨S2048x6656, .f32⟩
  | 1 => ⟨S512, .f32⟩
  | 2 => ⟨S512, .f32⟩
  | 3 => ⟨S8x128x128, .f32⟩
  | 4 => ⟨S8x128, .f32⟩
  | 5 => ⟨S64, .f32⟩
  | 6 => ⟨S64, .f32⟩
  | 7 => ⟨S2048x1024, .f32⟩
  | 8 => ⟨S2048x1024, .f32⟩
  | 9 => ⟨S2048x1536, .f32⟩
  | 10 => ⟨S2048x3072, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S2048x512, .f32⟩
  | 29 => ⟨S2048x512, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S2048x512, .f32⟩
  | 37 => ⟨S2048x512, .f32⟩
  | 38 => ⟨S2048x512, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x1, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S1x512, .f32⟩
  | 55 => ⟨S2048x512, .f32⟩
  | 56 => ⟨S2048x512, .f32⟩
  | 57 => ⟨S16x128x8x64, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S8x128x128, .f32⟩
  | 72 => ⟨S8x128x128, .i1⟩
  | 73 => ⟨S8x128x128, .f32⟩
  | 74 => ⟨S8x16x64x128, .f32⟩
  | 75 => ⟨S16x128x8x64, .f32⟩
  | 76 => ⟨S128x8, .f32⟩
  | 77 => ⟨S128x8x1, .f32⟩
  | 78 => ⟨S1x128x8x1, .f32⟩
  | 79 => ⟨S16x128x8x64, .f32⟩
  | 80 => ⟨S16x128x8x64, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x8x64, .f32⟩
  | 87 => ⟨S2048x8x64, .f32⟩
  | 88 => ⟨S_, .f32⟩
  | 89 => ⟨S2048x8, .f32⟩
  | 90 => ⟨S2048x8x1, .f32⟩
  | 91 => ⟨S_, .f32⟩
  | 92 => ⟨S2048x8x1, .f32⟩
  | 93 => ⟨S2048x8x1, .f32⟩
  | 94 => ⟨S_, .f32⟩
  | 95 => ⟨S2048x8x1, .f32⟩
  | 96 => ⟨S2048x8x1, .f32⟩
  | 97 => ⟨S2048x8x1, .f32⟩
  | 98 => ⟨S2048x8x64, .f32⟩
  | 99 => ⟨S2048x8x64, .f32⟩
  | 100 => ⟨S1x1x64, .f32⟩
  | 101 => ⟨S2048x8x64, .f32⟩
  | 102 => ⟨S2048x8x64, .f32⟩
  | 103 => ⟨S2048x512, .f32⟩
  | 104 => ⟨S_, .f32⟩
  | 105 => ⟨S2048x512, .f32⟩
  | 106 => ⟨S2048x512, .f32⟩
  | 107 => ⟨S2048x8x64, .f32⟩
  | 108 => ⟨S2048x8x64, .f32⟩
  | 109 => ⟨S_, .f32⟩
  | 110 => ⟨S2048x8, .f32⟩
  | 111 => ⟨S2048x8x1, .f32⟩
  | 112 => ⟨S_, .f32⟩
  | 113 => ⟨S2048x8x1, .f32⟩
  | 114 => ⟨S2048x8x1, .f32⟩
  | 115 => ⟨S_, .f32⟩
  | 116 => ⟨S2048x8x1, .f32⟩
  | 117 => ⟨S2048x8x1, .f32⟩
  | 118 => ⟨S2048x8x1, .f32⟩
  | 119 => ⟨S2048x8x64, .f32⟩
  | 120 => ⟨S2048x8x64, .f32⟩
  | 121 => ⟨S1x1x64, .f32⟩
  | 122 => ⟨S2048x8x64, .f32⟩
  | 123 => ⟨S2048x8x64, .f32⟩
  | 124 => ⟨S2048x512, .f32⟩
  | 125 => ⟨S2048x512, .bf16⟩
  | 126 => ⟨S2048x512, .bf16⟩
  | 127 => ⟨S2048x512, .bf16⟩
  | _ => ⟨S2048x6656, .f32⟩

abbrev hbmTy0_1 (i : Nat) : BufTy := match i % 128 with
  | 0 => ⟨S2048x512, .bf16⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_v42 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_call1_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]
-- ==== HeadGrad.lean ====
abbrev S2048x6656 : Shape := ⟨2, ![2048, 6656]⟩
abbrev S64 : Shape := ⟨1, ![64]⟩
abbrev S2048x512 : Shape := ⟨2, ![2048, 512]⟩
abbrev S1x64 : Shape := ⟨2, ![1, 64]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S2048x6656, .f32⟩
  | .hbm, ⟨1, _⟩ => ⟨S64, .f32⟩
  | .hbm, ⟨2, _⟩ => ⟨S64, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x6656, .bf16⟩
  | .hbm, ⟨7, _⟩ => ⟨S1x64, .f32⟩
  | .hbm, ⟨8, _⟩ => ⟨S1x64, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S1x64, .f32⟩
  | .hbm, ⟨13, _⟩ => ⟨S1x64, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x64, .f32⟩
  | .local _ .vmem, ⟨7, _⟩ => ⟨S1x64, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x64, .f32⟩
  | .local _ .vmem, ⟨21, _⟩ => ⟨S1x64, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32_193 : BitVec 32 := 0#32
  let v579 : BitVec 1 := Scalar.cmpi .eq arg1 c0_i32_193
  let v580 : BitVec 32 := Scalar.extui v579
  let c0_i32_194 : BitVec 32 := 0#32
  let v581 : BitVec 1 := Scalar.cmpi .ne v580 c0_i32_194
  v581

def k0_cond2 (i : grid0.Coords) : BitVec 1 :=
  let arg1 : BitVec 32 := BitVec.ofNat 32 (i 1).val
  let c0_i32_195 : BitVec 32 := 0#32
  let v582 : BitVec 1 := Scalar.cmpi .sgt arg1 c0_i32_195
  let v583 : BitVec 32 := Scalar.extui v582
  let c0_i32_196 : BitVec 32 := 0#32
  let v584 : BitVec 1 := Scalar.cmpi .ne v583 c0_i32_196
  v584

def k0_cond3 (i : grid0.Coords) : BitVec 1 :=
  let arg1 : BitVec 32 := BitVec.ofNat 32 (i 1).val
  let c0_i32_197 : BitVec 32 := 0#32
  let v585 : BitVec 1 := Scalar.cmpi .eq arg1 c0_i32_197
  let v586 : BitVec 32 := Scalar.extui v585
  let c0_i32_198 : BitVec 32 := 0#32
  let v587 : BitVec 1 := Scalar.cmpi .ne v586 c0_i32_198
  v587

def k0_cond4 (i : grid0.Coords) : BitVec 1 :=
  let arg1 : BitVec 32 := BitVec.ofNat 32 (i 1).val
  let c0_i32_199 : BitVec 32 := 0#32
  let v588 : BitVec 1 := Scalar.cmpi .sgt arg1 c0_i32_199
  let v589 : BitVec 32 := Scalar.extui v588
  let c0_i32_200 : BitVec 32 := 0#32
  let v590 : BitVec 1 := Scalar.cmpi .ne v589 c0_i32_200
  v590

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== HeadGradRefIdeal.lean ====
abbrev S2048x6656 : Shape := ⟨2, ![2048, 6656]⟩
abbrev S64 : Shape := ⟨1, ![64]⟩
abbrev S2048x512 : Shape := ⟨2, ![2048, 512]⟩
abbrev S2048x1024 : Shape := ⟨2, ![2048, 1024]⟩
abbrev S2048x1536 : Shape := ⟨2, ![2048, 1536]⟩
abbrev S2048x3072 : Shape := ⟨2, ![2048, 3072]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S64, .f32⟩
  | .hbm, ⟨2, _⟩ => ⟨S64, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x1536, .f32⟩
  | .hbm, ⟨9, _⟩ => ⟨S2048x3072, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x8x64, .f32⟩
  | .hbm, ⟨14, _⟩ => ⟨S2048x8x64, .f32⟩
  | .hbm, ⟨15, _⟩ => ⟨S_, .f32⟩
  | .hbm, ⟨16, _⟩ => ⟨S2048x8, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S_, .f32⟩
  | .hbm, ⟨22, _⟩ => ⟨S2048x8x1, .f32⟩
  | .hbm, ⟨23, _⟩ => ⟨S2048x8x1, .f32⟩
  | .hbm, ⟨24, _⟩ => ⟨S2048x8x1, .f32⟩
  | .hbm, ⟨25, _⟩ => ⟨S2048x8x1, .f32⟩
  | .hbm, ⟨26, _⟩ => ⟨S_, .f32⟩
  | .hbm, ⟨27, _⟩ => ⟨S2048x8x1, .f32⟩
  | .hbm, ⟨28, _⟩ => ⟨S2048x8x1, .f32⟩
  | .hbm, ⟨29, _⟩ => ⟨S2048x8x64, .f32⟩
  | .hbm, ⟨30, _⟩ => ⟨S2048x8x64, .f32⟩
  | .hbm, ⟨31, _⟩ => ⟨S1x1x64, .f32⟩
  | .hbm, ⟨32, _⟩ => ⟨S2048x8x64, .f32⟩
  | .hbm, ⟨33, _⟩ => ⟨S2048x8x64, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x8x64, .f32⟩
  | .hbm, ⟨39, _⟩ => ⟨S2048x8x64, .f32⟩
  | .hbm, ⟨40, _⟩ => ⟨S_, .f32⟩
  | .hbm, ⟨41, _⟩ => ⟨S2048x8, .f32⟩
  | .hbm, ⟨42, _⟩ => ⟨S2048x8x1, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S_, .f32⟩
  | .hbm, ⟨47, _⟩ => ⟨S2048x8x1, .f32⟩
  | .hbm, ⟨48, _⟩ => ⟨S2048x8x1, .f32⟩
  | .hbm, ⟨49, _⟩ => ⟨S2048x8x1, .f32⟩
  | .hbm, ⟨50, _⟩ => ⟨S2048x8x1, .f32⟩
  | .hbm, ⟨51, _⟩ => ⟨S_, .f32⟩
  | .hbm, ⟨52, _⟩ => ⟨S2048x8x1, .f32⟩
  | .hbm, ⟨53, _⟩ => ⟨S2048x8x1, .f32⟩
  | .hbm, ⟨54, _⟩ => ⟨S2048x8x64, .f32⟩
  | .hbm, ⟨55, _⟩ => ⟨S2048x8x64, .f32⟩
  | .hbm, ⟨56, _⟩ => ⟨S1x1x64, .f32⟩
  | .hbm, ⟨57, _⟩ => ⟨S2048x8x64, .f32⟩
  | .hbm, ⟨58, _⟩ => ⟨S2048x8x64, .f32⟩
  | .hbm, ⟨59, _⟩ => ⟨S2048x512, .f32⟩
  | .hbm, ⟨60, _⟩ => ⟨S2048x8x64, .f32⟩
  | .hbm, ⟨61, _⟩ => ⟨S2048x8x64, .f32⟩
  | .hbm, ⟨62, _⟩ => ⟨S_, .f32⟩
  | .hbm, ⟨63, _⟩ => ⟨S64, .f32⟩
  | .hbm, ⟨64, _⟩ => ⟨S1x1x64, .f32⟩
  | .hbm, ⟨65, _⟩ => ⟨S2048x8x64, .f32⟩
  | .hbm, ⟨66, _⟩ => ⟨S2048x8x64, .f32⟩
  | .hbm, ⟨67, _⟩ => ⟨S_, .f32⟩
  | .hbm, ⟨68, _⟩ => ⟨S64, .f32⟩
  | .hbm, ⟨69, _⟩ => ⟨S2048x8x64, .f32⟩
  | .hbm, ⟨70, _⟩ => ⟨S_, .f32⟩
  | .hbm, ⟨71, _⟩ => ⟨S2048x8, .f32⟩
  | .hbm, ⟨72, _⟩ => ⟨S2048x8x1, .f32⟩
  | .hbm, ⟨73, _⟩ => ⟨S2048x8x64, .f32⟩
  | .hbm, ⟨74, _⟩ => ⟨S2048x8x64, .f32⟩
  | .hbm, ⟨75, _⟩ => ⟨S2048x8x1, .f32⟩
  | .hbm, ⟨76, _⟩ => ⟨S_, .f32⟩
  | .hbm, ⟨77, _⟩ => ⟨S2048x8x1, .f32⟩
  | .hbm, ⟨78, _⟩ => ⟨S2048x8x1, .f32⟩
  | .hbm, ⟨79, _⟩ => ⟨S_, .f32⟩
  | .hbm, ⟨80, _⟩ => ⟨S2048x8, .f32⟩
  | .hbm, ⟨81, _⟩ => ⟨S2048x8x64, .f32⟩
  | .hbm, ⟨82, _⟩ => ⟨S2048x8x64, .f32⟩
  | .hbm, ⟨83, _⟩ => ⟨S2048x8x64, .f32⟩
  | .hbm, ⟨84, _⟩ => ⟨S2048x8x64, .f32⟩
  | .hbm, ⟨85, _⟩ => ⟨S2048x8x64, .f32⟩
  | .hbm, ⟨86, _⟩ => ⟨S2048x512, .f32⟩
  | .hbm, ⟨87, _⟩ => ⟨S_, .f32⟩
  | .hbm, ⟨88, _⟩ => ⟨S2048x512, .f32⟩
  | .hbm, ⟨89, _⟩ => ⟨S2048x512, .f32⟩
  | .hbm, ⟨90, _⟩ => ⟨S2048x8x64, .f32⟩
  | .hbm, ⟨91, _⟩ => ⟨S2048x8x64, .f32⟩
  | .hbm, ⟨92, _⟩ => ⟨S_, .f32⟩
  | .hbm, ⟨93, _⟩ => ⟨S64, .f32⟩
  | .hbm, ⟨94, _⟩ => ⟨S1x1x64, .f32⟩
  | .hbm, ⟨95, _⟩ => ⟨S2048x8x64, .f32⟩
  | .hbm, ⟨96, _⟩ => ⟨S2048x8x64, .f32⟩
  | .hbm, ⟨97, _⟩ => ⟨S_, .f32⟩
  | .hbm, ⟨98, _⟩ => ⟨S64, .f32⟩
  | .hbm, ⟨99, _⟩ => ⟨S2048x8x64, .f32⟩
  | .hbm, ⟨100, _⟩ => ⟨S_, .f32⟩
  | .hbm, ⟨101, _⟩ => ⟨S2048x8, .f32⟩
  | .hbm, ⟨102, _⟩ => ⟨S2048x8x1, .f32⟩
  | .hbm, ⟨103, _⟩ => ⟨S2048x8x64, .f32⟩
  | .hbm, ⟨104, _⟩ => ⟨S2048x8x64, .f32⟩
  | .hbm, ⟨105, _⟩ => ⟨S2048x8x1, .f32⟩
  | .hbm, ⟨106, _⟩ => ⟨S_, .f32⟩
  | .hbm, ⟨107, _⟩ => ⟨S2048x8x1, .f32⟩
  | .hbm, ⟨108, _⟩ => ⟨S2048x8x1, .f32⟩
  | .hbm, ⟨109, _⟩ => ⟨S_, .f32⟩
  | .hbm, ⟨110, _⟩ => ⟨S2048x8, .f32⟩
  | .hbm, ⟨111, _⟩ => ⟨S2048x8x64, .f32⟩
  | .hbm, ⟨112, _⟩ => ⟨S2048x8x64, .f32⟩
  | .hbm, ⟨113, _⟩ => ⟨S2048x8x64, .f32⟩
  | .hbm, ⟨114, _⟩ => ⟨S2048x8x64, .f32⟩
  | .hbm, ⟨115, _⟩ => ⟨S2048x8x64, .f32⟩
  | .hbm, ⟨116, _⟩ => ⟨S2048x512, .f32⟩
  | .hbm, ⟨117, _⟩ => ⟨S2048x512, .bf16⟩
  | .hbm, ⟨118, _⟩ => ⟨S2048x512, .bf16⟩
  | .hbm, ⟨119, _⟩ => ⟨S2048x512, .bf16⟩
  | .hbm, ⟨120, _⟩ => ⟨S1x64, .f32⟩
  | .hbm, ⟨121, _⟩ => ⟨S1x64, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Conv.lean ====
abbrev S2048x512 : Shape := ⟨2, ![2048, 512]⟩
abbrev S31x512 : Shape := ⟨2, ![31, 512]⟩
abbrev S512 : Shape := ⟨1, ![512]⟩
abbrev S1x512 : Shape := ⟨2, ![1, 512]⟩
abbrev S256x512 : Shape := ⟨2, ![256, 512]⟩
abbrev S32x512 : Shape := ⟨2, ![32, 512]⟩
abbrev S288x512 : Shape := ⟨2, ![288, 512]⟩

abbrev nBuf : Space → Nat
  | .hbm => 9
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S31x512, .f32⟩
  | .hbm, ⟨2, _⟩ => ⟨S512, .f32⟩
  | .hbm, ⟨3, _⟩ => ⟨S2048x512, .f32⟩
  | .hbm, ⟨4, _⟩ => ⟨S1x512, .f32⟩
  | .hbm, ⟨5, _⟩ => ⟨S2048x512, .f32⟩
  | .hbm, ⟨6, _⟩ => ⟨S2048x512, .f32⟩
  | .hbm, ⟨7, _⟩ => ⟨S31x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S32x512, .f32⟩
  | .local _ .vmem, ⟨3, _⟩ => ⟨S32x512, .f32⟩
  | .local _ .vmem, ⟨4, _⟩ => ⟨S31x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S288x512, .f32⟩
  | .local _ .vmem, ⟨9, _⟩ => ⟨S256x512, .f32⟩
  | .local _ .vmem, ⟨10, _⟩ => ⟨S256x512, .f32⟩
  | .local _ .vmem, ⟨11, _⟩ => ⟨S32x512, .f32⟩
  | .local _ .vmem, ⟨12, _⟩ => ⟨S32x512, .f32⟩
  | .local _ .vmem, ⟨13, _⟩ => ⟨S31x512, .f32⟩
  | .local _ .vmem, ⟨14, _⟩ => ⟨S256x512, .f32⟩
  | .local _ .vmem, ⟨15, _⟩ => ⟨S256x512, .f32⟩
  | .local _ .vmem, ⟨16, _⟩ => ⟨S32x512, .f32⟩
  | .local _ .vmem, ⟨17, _⟩ => ⟨S32x512, .f32⟩
  | .local _ .vmem, ⟨18, _⟩ => ⟨S256x512, .f32⟩
  | .local _ .vmem, ⟨19, _⟩ => ⟨S256x512, .f32⟩
  | .local _ .vmem, ⟨20, _⟩ => ⟨S31x512, .f32⟩
  | .local _ .vmem, ⟨21, _⟩ => ⟨S1x512, .f32⟩
  | .local _ .vmem, ⟨22, _⟩ => ⟨S288x512, .f32⟩
  | .local _ .vmem, ⟨23, _⟩ => ⟨S288x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem7_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S31x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S31x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ConvRefIdeal.lean ====
abbrev S2048x512 : Shape := ⟨2, ![2048, 512]⟩
abbrev S31x512 : Shape := ⟨2, ![31, 512]⟩
abbrev S512 : Shape := ⟨1, ![512]⟩
abbrev S_ : Shape := ⟨0, ![]⟩
abbrev S30x512 : Shape := ⟨2, ![30, 512]⟩
abbrev S2078x512 : Shape := ⟨2, ![2078, 512]⟩
abbrev S1x2048x512 : Shape := ⟨3, ![1, 2048, 512]⟩
abbrev S16x2048x512 : Shape := ⟨3, ![16, 2048, 512]⟩
abbrev S15x2048x512 : Shape := ⟨3, ![15, 2048, 512]⟩
abbrev S31x2048x512 : Shape := ⟨3, ![31, 2048, 512]⟩
abbrev S31x1x512 : Shape := ⟨3, ![31, 1, 512]⟩
abbrev S1x512 : Shape := ⟨2, ![1, 512]⟩

abbrev nBuf : Space → Nat
  | .hbm => 254
  | .vmem => 0
  | .smem => 0
  | _ => 0

abbrev hbmTy0_0 (i : Nat) : BufTy := match i % 128 with
  | 0 => ⟨S2048x512, .f32⟩
  | 1 => ⟨S31x512, .f32⟩
  | 2 => ⟨S512, .f32⟩
  | 3 => ⟨S2048x512, .f32⟩
  | 4 => ⟨S_, .f32⟩
  | 5 => ⟨S30x512, .f32⟩
  | 6 => ⟨S2078x512, .f32⟩
  | 7 => ⟨S_, .f32⟩
  | 8 => ⟨S30x512, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S1x2048x512, .f32⟩
  | 41 => ⟨S1x2048x512, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S1x2048x512, .f32⟩
  | 48 => ⟨S1x2048x512, .f32⟩
  | 49 => ⟨S1x2048x512, .f32⟩
  | 50 => ⟨S1x2048x512, .f32⟩
  | 51 => ⟨S1x2048x512, .f32⟩
  | 52 => ⟨S1x2048x512, .f32⟩
  | 53 => ⟨S1x2048x512, .f32⟩
  | 54 => ⟨S1x2048x512, .f32⟩
  | 55 => ⟨S1x2048x512, .f32⟩
  | 56 => ⟨S1x2048x512, .f32⟩
  | 57 => ⟨S1x2048x512, .f32⟩
  | 58 => ⟨S1x2048x512, .f32⟩
  | 59 => ⟨S1x2048x512, .f32⟩
  | 60 => ⟨S1x2048x512, .f32⟩
  | 61 => ⟨S1x2048x512, .f32⟩
  | 62 => ⟨S1x2048x512, .f32⟩
  | 63 => ⟨S1x2048x512, .f32⟩
  | 64 => ⟨S1x2048x512, .f32⟩
  | 65 => ⟨S1x2048x512, .f32⟩
  | 66 => ⟨S1x2048x512, .f32⟩
  | 67 => ⟨S1x2048x512, .f32⟩
  | 68 => ⟨S1x2048x512, .f32⟩
  | 69 => ⟨S1x2048x512, .f32⟩
  | 70 => ⟨S1x2048x512, .f32⟩
  | 71 => ⟨S16x2048x512, .f32⟩
  | 72 => ⟨S15x2048x512, .f32⟩
  | 73 => ⟨S31x2048x512, .f32⟩
  | 74 => ⟨S31x1x512, .f32⟩
  | 75 => ⟨S31x2048x512, .f32⟩
  | 76 => ⟨S31x2048x512, .f32⟩
  | 77 => ⟨S_, .f32⟩
  | 78 => ⟨S2048x512, .f32⟩
  | 79 => ⟨S1x512, .f32⟩
  | 80 => ⟨S2048x512, .f32⟩
  | 81 => ⟨S2048x512, .f32⟩
  | 82 => ⟨S2048x512, .f32⟩
  | 83 => ⟨S_, .f32⟩
  | 84 => ⟨S512, .f32⟩
  | 85 => ⟨S1x512, .f32⟩
  | 86 => ⟨S_, .f32⟩
  | 87 => ⟨S512, .f32⟩
  | 88 => ⟨S31x2048x512, .f32⟩
  | 89 => ⟨S31x2048x512, .f32⟩
  | 90 => ⟨S31x2048x512, .f32⟩
  | 91 => ⟨S31x2048x512, .f32⟩
  | 92 => ⟨S_, .f32⟩
  | 93 => ⟨S31x512, .f32⟩
  | 94 => ⟨S31x1x512, .f32⟩
  | 95 => ⟨S_, .f32⟩
  | 96 => ⟨S31x512, .f32⟩
  | 97 => ⟨S1x2048x512, .f32⟩
  | 98 => ⟨S2048x512, .f32⟩
  | 99 => ⟨S1x2048x512, .f32⟩
  | 100 => ⟨S2048x512, .f32⟩
  | 101 => ⟨S1x2048x512, .f32⟩
  | 102 => ⟨S2048x512, .f32⟩
  | 103 => ⟨S1x2048x512, .f32⟩
  | 104 => ⟨S2048x512, .f32⟩
  | 105 => ⟨S1x2048x512, .f32⟩
  | 106 => ⟨S2048x512, .f32⟩
  | 107 => ⟨S1x2048x512, .f32⟩
  | 108 => ⟨S2048x512, .f32⟩
  | 109 => ⟨S1x2048x512, .f32⟩
  | 110 => ⟨S2048x512, .f32⟩
  | 111 => ⟨S1x2048x512, .f32⟩
  | 112 => ⟨S2048x512, .f32⟩
  | 113 => ⟨S1x2048x512, .f32⟩
  | 114 => ⟨S2048x512, .f32⟩
  | 115 => ⟨S1x2048x512, .f32⟩
  | 116 => ⟨S2048x512, .f32⟩
  | 117 => ⟨S1x2048x512, .f32⟩
  | 118 => ⟨S2048x512, .f32⟩
  | 119 => ⟨S1x2048x512, .f32⟩
  | 120 => ⟨S2048x512, .f32⟩
  | 121 => ⟨S1x2048x512, .f32⟩
  | 122 => ⟨S2048x512, .f32⟩
  | 123 => ⟨S1x2048x512, .f32⟩
  | 124 => ⟨S2048x512, .f32⟩
  | 125 => ⟨S1x2048x512, .f32⟩
  | 126 => ⟨S2048x512, .f32⟩
  | 127 => ⟨S1x2048x512, .f32⟩
  | _ => ⟨S2048x512, .f32⟩

abbrev hbmTy0_1 (i : Nat) : BufTy := match i % 128 with
  | 0 => ⟨S2048x512, .f32⟩
  | 1 => ⟨S1x2048x512, .f32⟩
  | 2 => ⟨S2048x512, .f32⟩
  | 3 => ⟨S1x2048x512, .f32⟩
  | 4 => ⟨S2048x512, .f32⟩
  | 5 => ⟨S1x2048x512, .f32⟩
  | 6 => ⟨S2048x512, .f32⟩
  | 7 => ⟨S1x2048x512, .f32⟩
  | 8 => ⟨S2048x512, .f32⟩
  | 9 => ⟨S1x2048x512, .f32⟩
  | 10 => ⟨S2048x512, .f32⟩
  | 11 => ⟨S1x2048x512, .f32⟩
  | 12 => ⟨S2048x512, .f32⟩
  | 13 => ⟨S1x2048x512, .f32⟩
  | 14 => ⟨S2048x512, .f32⟩
  | 15 => ⟨S1x2048x512, .f32⟩
  | 16 => ⟨S2048x512, .f32⟩
  | 17 => ⟨S1x2048x512, .f32⟩
  | 18 => ⟨S2048x512, .f32⟩
  | 19 => ⟨S1x2048x512, .f32⟩
  | 20 => ⟨S2048x512, .f32⟩
  | 21 => ⟨S1x2048x512, .f32⟩
  | 22 => ⟨S2048x512, .f32⟩
  | 23 => ⟨S1x2048x512, .f32⟩
  | 24 => ⟨S2048x512, .f32⟩
  | 25 => ⟨S1x2048x512, .f32⟩
  | 26 => ⟨S2048x512, .f32⟩
  | 27 => ⟨S1x2048x512, .f32⟩
  | 28 => ⟨S2048x512, .f32⟩
  | 29 => ⟨S1x2048x512, .f32⟩
  | 30 => ⟨S2048x512, .f32⟩
  | 31 => ⟨S_, .f32⟩
  | 32 => ⟨S2078x512, .f32⟩
  | 33 => ⟨S_, .f32⟩
  | 34 => ⟨S2078x512, .f32⟩
  | 35 => ⟨S2078x512, .f32⟩
  | 36 => ⟨S_, .f32⟩
  | 37 => ⟨S2078x512, .f32⟩
  | 38 => ⟨S2078x512, .f32⟩
  | 39 => ⟨S_, .f32⟩
  | 40 => ⟨S2078x512, .f32⟩
  | 41 => ⟨S2078x512, .f32⟩
  | 42 => ⟨S_, .f32⟩
  | 43 => ⟨S2078x512, .f32⟩
  | 44 => ⟨S2078x512, .f32⟩
  | 45 => ⟨S_, .f32⟩
  | 46 => ⟨S2078x512, .f32⟩
  | 47 => ⟨S2078x512, .f32⟩
  | 48 => ⟨S_, .f32⟩
  | 49 => ⟨S2078x512, .f32⟩
  | 50 => ⟨S2078x512, .f32⟩
  | 51 => ⟨S_, .f32⟩
  | 52 => ⟨S2078x512, .f32⟩
  | 53 => ⟨S2078x512, .f32⟩
  | 54 => ⟨S_, .f32⟩
  | 55 => ⟨S2078x512, .f32⟩
  | 56 => ⟨S2078x512, .f32⟩
  | 57 => ⟨S_, .f32⟩
  | 58 => ⟨S2078x512, .f32⟩
  | 59 => ⟨S2078x512, .f32⟩
  | 60 => ⟨S_, .f32⟩
  | 61 => ⟨S2078x512, .f32⟩
  | 62 => ⟨S2078x512, .f32⟩
  | 63 => ⟨S_, .f32⟩
  | 64 => ⟨S2078x512, .f32⟩
  | 65 => ⟨S2078x512, .f32⟩
  | 66 => ⟨S_, .f32⟩
  | 67 => ⟨S2078x512, .f32⟩
  | 68 => ⟨S2078x512, .f32⟩
  | 69 => ⟨S_, .f32⟩
  | 70 => ⟨S2078x512, .f32⟩
  | 71 => ⟨S2078x512, .f32⟩
  | 72 => ⟨S_, .f32⟩
  | 73 => ⟨S2078x512, .f32⟩
  | 74 => ⟨S2078x512, .f32⟩
  | 75 => ⟨S_, .f32⟩
  | 76 => ⟨S2078x512, .f32⟩
  | 77 => ⟨S2078x512, .f32⟩
  | 78 => ⟨S_, .f32⟩
  | 79 => ⟨S2078x512, .f32⟩
  | 80 => ⟨S2078x512, .f32⟩
  | 81 => ⟨S_, .f32⟩
  | 82 => ⟨S2078x512, .f32⟩
  | 83 => ⟨S2078x512, .f32⟩
  | 84 => ⟨S_, .f32⟩
  | 85 => ⟨S2078x512, .f32⟩
  | 86 => ⟨S2078x512, .f32⟩
  | 87 => ⟨S_, .f32⟩
  | 88 => ⟨S2078x512, .f32⟩
  | 89 => ⟨S2078x512, .f32⟩
  | 90 => ⟨S_, .f32⟩
  | 91 => ⟨S2078x512, .f32⟩
  | 92 => ⟨S2078x512, .f32⟩
  | 93 => ⟨S_, .f32⟩
  | 94 => ⟨S2078x512, .f32⟩
  | 95 => ⟨S2078x512, .f32⟩
  | 96 => ⟨S_, .f32⟩
  | 97 => ⟨S2078x512, .f32⟩
  | 98 => ⟨S2078x512, .f32⟩
  | 99 => ⟨S_, .f32⟩
  | 100 => ⟨S2078x512, .f32⟩
  | 101 => ⟨S2078x512, .f32⟩
  | 102 => ⟨S_, .f32⟩
  | 103 => ⟨S2078x512, .f32⟩
  | 104 => ⟨S2078x512, .f32⟩
  | 105 => ⟨S_, .f32⟩
  | 106 => ⟨S2078x512, .f32⟩
  | 107 => ⟨S2078x512, .f32⟩
  | 108 => ⟨S_, .f32⟩
  | 109 => ⟨S2078x512, .f32⟩
  | 110 => ⟨S2078x512, .f32⟩
  | 111 => ⟨S_, .f32⟩
  | 112 => ⟨S2078x512, .f32⟩
  | 113 => ⟨S2078x512, .f32⟩
  | 114 => ⟨S_, .f32⟩
  | 115 => ⟨S2078x512, .f32⟩
  | 116 => ⟨S2078x512, .f32⟩
  | 117 => ⟨S_, .f32⟩
  | 118 => ⟨S2078x512, .f32⟩
  | 119 => ⟨S2078x512, .f32⟩
  | 120 => ⟨S_, .f32⟩
  | 121 => ⟨S2078x512, .f32⟩
  | 122 => ⟨S2078x512, .f32⟩
  | 123 => ⟨S30x512, .f32⟩
  | 124 => ⟨S2048x512, .f32⟩
  | 125 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_1 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_2 : Ref sig .tc := ⟨.hbm, 83, rfl⟩
abbrev main_v76 : Ref sig .tc := ⟨.hbm, 84, rfl⟩
abbrev main_v77 : Ref sig .tc := ⟨.hbm, 85, rfl⟩
abbrev main_cst_3 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_4 : Ref sig .tc := ⟨.hbm, 92, rfl⟩
abbrev main_v83 : Ref sig .tc := ⟨.hbm, 93, rfl⟩
abbrev main_v84 : Ref sig .tc := ⟨.hbm, 94, rfl⟩
abbrev main_cst_5 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_cst_6 : Ref sig .tc := ⟨.hbm, 159, rfl⟩
abbrev main_v148 : Ref sig .tc := ⟨.hbm, 160, rfl⟩
abbrev main_cst_7 : Ref sig .tc := ⟨.hbm, 161, rfl⟩
abbrev main_v149 : Ref sig .tc := ⟨.hbm, 162, rfl⟩
abbrev main_v150 : Ref sig .tc := ⟨.hbm, 163, rfl⟩
abbrev main_cst_8 : Ref sig .tc := ⟨.hbm, 164, rfl⟩
abbrev main_v151 : Ref sig .tc := ⟨.hbm, 165, rfl⟩
abbrev main_v152 : Ref sig .tc := ⟨.hbm, 166, rfl⟩
abbrev main_cst_9 : Ref sig .tc := ⟨.hbm, 167, rfl⟩
abbrev main_v153 : Ref sig .tc := ⟨.hbm, 168, rfl⟩
abbrev main_v154 : Ref sig .tc := ⟨.hbm, 169, rfl⟩
abbrev main_cst_10 : Ref sig .tc := ⟨.hbm, 170, rfl⟩
abbrev main_v155 : Ref sig .tc := ⟨.hbm, 171, rfl⟩
abbrev main_v156 : Ref sig .tc := ⟨.hbm, 172, rfl⟩
abbrev main_cst_11 : Ref sig .tc := ⟨.hbm, 173, rfl⟩
abbrev main_v157 : Ref sig .tc := ⟨.hbm, 174, rfl⟩
abbrev main_v158 : Ref sig .tc := ⟨.hbm, 175, rfl⟩
abbrev main_cst_12 : Ref sig .tc := ⟨.hbm, 176, rfl⟩
abbrev main_v159 : Ref sig .tc := ⟨.hbm, 177, rfl⟩
abbrev main_v160 : Ref sig .tc := ⟨.hbm, 178, rfl⟩
abbrev main_cst_13 : Ref sig .tc := ⟨.hbm, 179, rfl⟩
abbrev main_v161 : Ref sig .tc := ⟨.hbm, 180, rfl⟩
abbrev main_v162 : Ref sig .tc := ⟨.hbm, 181, rfl⟩
abbrev main_cst_14 : Ref sig .tc := ⟨.hbm, 182, rfl⟩
abbrev main_v163 : Ref sig .tc := ⟨.hbm, 183, rfl⟩
abbrev main_v164 : Ref sig .tc := ⟨.hbm, 184, rfl⟩
abbrev main_cst_15 : Ref sig .tc := ⟨.hbm, 185, rfl⟩
abbrev main_v165 : Ref sig .tc := ⟨.hbm, 186, rfl⟩
abbrev main_v166 : Ref sig .tc := ⟨.hbm, 187, rfl⟩
abbrev main_cst_16 : Ref sig .tc := ⟨.hbm, 188, rfl⟩
abbrev main_v167 : Ref sig .tc := ⟨.hbm, 189, rfl⟩
abbrev main_v168 : Ref sig .tc := ⟨.hbm, 190, rfl⟩
abbrev main_cst_17 : Ref sig .tc := ⟨.hbm, 191, rfl⟩
abbrev main_v169 : Ref sig .tc := ⟨.hbm, 192, rfl⟩
abbrev main_v170 : Ref sig .tc := ⟨.hbm, 193, rfl⟩
abbrev main_cst_18 : Ref sig .tc := ⟨.hbm, 194, rfl⟩
abbrev main_v171 : Ref sig .tc := ⟨.hbm, 195, rfl⟩
abbrev main_v172 : Ref sig .tc := ⟨.hbm, 196, rfl⟩
abbrev main_cst_19 : Ref sig .tc := ⟨.hbm, 197, rfl⟩
abbrev main_v173 : Ref sig .tc := ⟨.hbm, 198, rfl⟩
abbrev main_v174 : Ref sig .tc := ⟨.hbm, 199, rfl⟩
abbrev main_cst_20 : Ref sig .tc := ⟨.hbm, 200, rfl⟩
abbrev main_v175 : Ref sig .tc := ⟨.hbm, 201, rfl⟩
abbrev main_v176 : Ref sig .tc := ⟨.hbm, 202, rfl⟩
abbrev main_cst_21 : Ref sig .tc := ⟨.hbm, 203, rfl⟩
abbrev main_v177 : Ref sig .tc := ⟨.hbm, 204, rfl⟩
abbrev main_v178 : Ref sig .tc := ⟨.hbm, 205, rfl⟩
abbrev main_cst_22 : Ref sig .tc := ⟨.hbm, 206, rfl⟩
abbrev main_v179 : Ref sig .tc := ⟨.hbm, 207, rfl⟩
abbrev main_v180 : Ref sig .tc := ⟨.hbm, 208, rfl⟩
abbrev main_cst_23 : Ref sig .tc := ⟨.hbm, 209, rfl⟩
abbrev main_v181 : Ref sig .tc := ⟨.hbm, 210, rfl⟩
abbrev main_v182 : Ref sig .tc := ⟨.hbm, 211, rfl⟩
abbrev main_cst_24 : Ref sig .tc := ⟨.hbm, 212, rfl⟩
abbrev main_v183 : Ref sig .tc := ⟨.hbm, 213, rfl⟩
abbrev main_v184 : Ref sig .tc := ⟨.hbm, 214, rfl⟩
abbrev main_cst_25 : Ref sig .tc := ⟨.hbm, 215, rfl⟩
abbrev main_v185 : Ref sig .tc := ⟨.hbm, 216, rfl⟩
abbrev main_v186 : Ref sig .tc := ⟨.hbm, 217, rfl⟩
abbrev main_cst_26 : Ref sig .tc := ⟨.hbm, 218, rfl⟩
abbrev main_v187 : Ref sig .tc := ⟨.hbm, 219, rfl⟩
abbrev main_v188 : Ref sig .tc := ⟨.hbm, 220, rfl⟩
abbrev main_cst_27 : Ref sig .tc := ⟨.hbm, 221, rfl⟩
abbrev main_v189 : Ref sig .tc := ⟨.hbm, 222, rfl⟩
abbrev main_v190 : Ref sig .tc := ⟨.hbm, 223, rfl⟩
abbrev main_cst_28 : Ref sig .tc := ⟨.hbm, 224, rfl⟩
abbrev main_v191 : Ref sig .tc := ⟨.hbm, 225, rfl⟩
abbrev main_v192 : Ref sig .tc := ⟨.hbm, 226, rfl⟩
abbrev main_cst_29 : Ref sig .tc := ⟨.hbm, 227, rfl⟩
abbrev main_v193 : Ref sig .tc := ⟨.hbm, 228, rfl⟩
abbrev main_v194 : Ref sig .tc := ⟨.hbm, 229, rfl⟩
abbrev main_cst_30 : Ref sig .tc := ⟨.hbm, 230, rfl⟩
abbrev main_v195 : Ref sig .tc := ⟨.hbm, 231, rfl⟩
abbrev main_v196 : Ref sig .tc := ⟨.hbm, 232, rfl⟩
abbrev main_cst_31 : Ref sig .tc := ⟨.hbm, 233, rfl⟩
abbrev main_v197 : Ref sig .tc := ⟨.hbm, 234, rfl⟩
abbrev main_v198 : Ref sig .tc := ⟨.hbm, 235, rfl⟩
abbrev main_cst_32 : Ref sig .tc := ⟨.hbm, 236, rfl⟩
abbrev main_v199 : Ref sig .tc := ⟨.hbm, 237, rfl⟩
abbrev main_v200 : Ref sig .tc := ⟨.hbm, 238, rfl⟩
abbrev main_cst_33 : Ref sig .tc := ⟨.hbm, 239, rfl⟩
abbrev main_v201 : Ref sig .tc := ⟨.hbm, 240, rfl⟩
abbrev main_v202 : Ref sig .tc := ⟨.hbm, 241, rfl⟩
abbrev main_cst_34 : Ref sig .tc := ⟨.hbm, 242, rfl⟩
abbrev main_v203 : Ref sig .tc := ⟨.hbm, 243, rfl⟩
abbrev main_v204 : Ref sig .tc := ⟨.hbm, 244, rfl⟩
abbrev main_cst_35 : Ref sig .tc := ⟨.hbm, 245, rfl⟩
abbrev main_v205 : Ref sig .tc := ⟨.hbm, 246, rfl⟩
abbrev main_v206 : Ref sig .tc := ⟨.hbm, 247, rfl⟩
abbrev main_cst_36 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩

abbrev nD : Nat := 1
abbrev τ : Topo := Topo.v7x

variable {F : FTy → Type} [FloatOps F]
-- ==== Loss.lean ====
abbrev S2048x1024 : Shape := ⟨2, ![2048, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== GateGrad.lean ====
abbrev S2048x6656 : Shape := ⟨2, ![2048, 6656]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S1x512 : Shape := ⟨2, ![1, 512]⟩
abbrev S128x8 : Shape := ⟨2, ![128, 8]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x7 : Shape := ⟨2, ![128, 7]⟩
abbrev S128x6 : Shape := ⟨2, ![128, 6]⟩
abbrev S128x5 : Shape := ⟨2, ![128, 5]⟩
abbrev S128x2 : Shape := ⟨2, ![128, 2]⟩
abbrev S128x4 : Shape := ⟨2, ![128, 4]⟩
abbrev S128x3 : Shape := ⟨2, ![128, 3]⟩
abbrev S7x128x128 : Shape := ⟨3, ![7, 128, 128]⟩
abbrev S6x128x128 : Shape := ⟨3, ![6, 128, 128]⟩
abbrev S128x384 : Shape := ⟨2, ![128, 384]⟩
abbrev S5x128x128 : Shape := ⟨3, ![5, 128, 128]⟩
abbrev S2x128x128 : Shape := ⟨3, ![2, 128, 128]⟩
abbrev S4x128x128 : Shape := ⟨3, ![4, 128, 128]⟩
abbrev S3x128x128 : Shape := ⟨3, ![3, 128, 128]⟩
abbrev S128x256 : Shape := ⟨2, ![128, 256]⟩

abbrev nBuf : Space → Nat
  | .hbm => 16
  | .vmem => 18
  | .smem => 0
  | _ => 0

abbrev bufTy : (tb : Table) → Fin (tcTables nBuf tb) → BufTy
  | .hbm, ⟨0, _⟩ => ⟨S2048x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S2048x512, .f32⟩
  | .hbm, ⟨6, _⟩ => ⟨S2048x6656, .bf16⟩
  | .hbm, ⟨7, _⟩ => ⟨S1x512, .f32⟩
  | .hbm, ⟨8, _⟩ => ⟨S1x512, .f32⟩
  | .hbm, ⟨9, _⟩ => ⟨S128x8, .f32⟩
  | .hbm, ⟨10, _⟩ => ⟨S2048x512, .bf16⟩
  | .hbm, ⟨11, _⟩ => ⟨S2048x512, .bf16⟩
  | .hbm, ⟨12, _⟩ => ⟨S1x512, .f32⟩
  | .hbm, ⟨13, _⟩ => ⟨S1x512, .f32⟩
  | .hbm, ⟨14, _⟩ => ⟨S8x128x128, .f32⟩
  | .hbm, ⟨15, _⟩ => ⟨S128x8, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x8, .f32⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | .local _ .vmem, ⟨16, _⟩ => ⟨S8x128x128, .f32⟩
  | .local _ .vmem, ⟨17, _⟩ => ⟨S128x8, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32_146 : BitVec 32 := 0#32
  let v492 : BitVec 1 := Scalar.cmpi .eq arg1 c0_i32_146
  let v493 : BitVec 32 := Scalar.extui v492
  let c0_i32_147 : BitVec 32 := 0#32
  let v494 : BitVec 1 := Scalar.cmpi .ne v493 c0_i32_147
  v494

def k0_cond2 (i : grid0.Coords) : BitVec 1 :=
  let arg1 : BitVec 32 := BitVec.ofNat 32 (i 1).val
  let c0_i32_148 : BitVec 32 := 0#32
  let v495 : BitVec 1 := Scalar.cmpi .sgt arg1 c0_i32_148
  let v496 : BitVec 32 := Scalar.extui v495
  let c0_i32_149 : BitVec 32 := 0#32
  let v497 : BitVec 1 := Scalar.cmpi .ne v496 c0_i32_149
  v497

def k0_cond3 (i : grid0.Coords) : BitVec 1 :=
  let arg1 : BitVec 32 := BitVec.ofNat 32 (i 1).val
  let c0_i32_150 : BitVec 32 := 0#32
  let v498 : BitVec 1 := Scalar.cmpi .eq arg1 c0_i32_150
  let v499 : BitVec 32 := Scalar.extui v498
  let c0_i32_151 : BitVec 32 := 0#32
  let v500 : BitVec 1 := Scalar.cmpi .ne v499 c0_i32_151
  v500

def k0_cond4 (i : grid0.Coords) : BitVec 1 :=
  let arg1 : BitVec 32 := BitVec.ofNat 32 (i 1).val
  let c0_i32_152 : BitVec 32 := 0#32
  let v501 : BitVec 1 := Scalar.cmpi .sgt arg1 c0_i32_152
  let v502 : BitVec 32 := Scalar.extui v501
  let c0_i32_153 : BitVec 32 := 0#32
  let v503 : BitVec 1 := Scalar.cmpi .ne v502 c0_i32_153
  v503

def k0_cond5 (i : grid0.Coords) : BitVec 1 :=
  let arg1 : BitVec 32 := BitVec.ofNat 32 (i 1).val
  let c0_i32_154 : BitVec 32 := 0#32
  let v504 : BitVec 1 := Scalar.cmpi .eq arg1 c0_i32_154
  let v505 : BitVec 32 := Scalar.extui v504
  let c0_i32_155 : BitVec 32 := 0#32
  let v506 : BitVec 1 := Scalar.cmpi .ne v505 c0_i32_155
  v506

def k0_cond6 (i : grid0.Coords) : BitVec 1 :=
  let arg1 : BitVec 32 := BitVec.ofNat 32 (i 1).val
  let c0_i32_156 : BitVec 32 := 0#32
  let v507 : BitVec 1 := Scalar.cmpi .sgt arg1 c0_i32_156
  let v508 : BitVec 32 := Scalar.extui v507
  let c0_i32_157 : BitVec 32 := 0#32
  let v509 : BitVec 1 := Scalar.cmpi .ne v508 c0_i32_157
  v509

def k0_cond7 (i : grid0.Coords) : BitVec 1 :=
  let arg1 : BitVec 32 := BitVec.ofNat 32 (i 1).val
  let c0_i32_158 : BitVec 32 := 0#32
  let v510 : BitVec 1 := Scalar.cmpi .eq arg1 c0_i32_158
  let v511 : BitVec 32 := Scalar.extui v510
  let c0_i32_159 : BitVec 32 := 0#32
  let v512 : BitVec 1 := Scalar.cmpi .ne v511 c0_i32_159
  v512

def k0_cond8 (i : grid0.Coords) : BitVec 1 :=
  let arg1 : BitVec 32 := BitVec.ofNat 32 (i 1).val
  let c0_i32_160 : BitVec 32 := 0#32
  let v513 : BitVec 1 := Scalar.cmpi .sgt arg1 c0_i32_160
  let v514 : BitVec 32 := Scalar.extui v513
  let c0_i32_161 : BitVec 32 := 0#32
  let v515 : BitVec 1 := Scalar.cmpi .ne v514 c0_i32_161
  v515

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== GateGradRefIdeal.lean ====
abbrev S2048x6656 : Shape := ⟨2, ![2048, 6656]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S2048x1024 : Shape := ⟨2, ![2048, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x8x64 : Shape := ⟨4, ![16, 128, 8, 64]⟩
abbrev S128x128 : Shape := ⟨2, ![128, 128]⟩
abbrev S1x128x128 : Shape := ⟨3, ![1, 128, 128]⟩
abbrev S8x16x64x128 : Shape := ⟨4, ![8, 16, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 180
  | .vmem => 0
  | .smem => 0
  | _ => 0

abbrev hbmTy0_0 (i : Nat) : BufTy := match i % 128 with
  | 0 => ⟨S2048x6656, .f32⟩
  | 1 => ⟨S512, .f32⟩
  | 2 => ⟨S512, .f32⟩
  | 3 => ⟨S8x128x128, .f32⟩
  | 4 => ⟨S8x128, .f32⟩
  | 5 => ⟨S2048x512, .f32⟩
  | 6 => ⟨S2048x1024, .f32⟩
  | 7 => ⟨S2048x5632, .f32⟩
  | 8 => ⟨S2048x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S2048x1024, .f32⟩
  | 36 => ⟨S2048x512, .f32⟩
  | 37 => ⟨S2048x512, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S2048x512, .f32⟩
  | 45 => ⟨S2048x512, .f32⟩
  | 46 => ⟨S2048x512, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x512, .f32⟩
  | 62 => ⟨S2048x512, .f32⟩
  | 63 => ⟨S1x512, .f32⟩
  | 64 => ⟨S2048x512, .f32⟩
  | 65 => ⟨S2048x512, .f32⟩
  | 66 => ⟨S1x512, .f32⟩
  | 67 => ⟨S2048x512, .f32⟩
  | 68 => ⟨S2048x512, .f32⟩
  | 69 => ⟨S16x128x8x64, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S1x128x128, .i1⟩
  | 82 => ⟨S_, .f32⟩
  | 83 => ⟨S8x128x128, .f32⟩
  | 84 => ⟨S8x128x128, .i1⟩
  | 85 => ⟨S8x128x128, .f32⟩
  | 86 => ⟨S_, .f32⟩
  | 87 => ⟨S8x128x128, .f32⟩
  | 88 => ⟨S8x16x64x128, .f32⟩
  | 89 => ⟨S16x128x8x64, .f32⟩
  | 90 => ⟨S128x8, .f32⟩
  | 91 => ⟨S128x8x1, .f32⟩
  | 92 => ⟨S1x128x8x1, .f32⟩
  | 93 => ⟨S16x128x8x64, .f32⟩
  | 94 => ⟨S16x128x8x64, .f32⟩
  | 95 => ⟨S2048x512, .f32⟩
  | 96 => ⟨S2048x512, .f32⟩
  | 97 => ⟨S2048x512, .f32⟩
  | 98 => ⟨S2048x512, .f32⟩
  | 99 => ⟨S16x128x8x64, .f32⟩
  | 100 => ⟨S_, .f32⟩
  | 101 => ⟨S128x8, .f32⟩
  | 102 => ⟨S1x128x8x1, .f32⟩
  | 103 => ⟨S_, .f32⟩
  | 104 => ⟨S128x8, .f32⟩
  | 105 => ⟨S128x8x1, .f32⟩
  | 106 => ⟨S_, .f32⟩
  | 107 => ⟨S128x8, .f32⟩
  | 108 => ⟨S8x128, .f32⟩
  | 109 => ⟨S8x16x64x128, .f32⟩
  | 110 => ⟨S8x128x128, .f32⟩
  | 111 => ⟨S8x16x64x128, .f32⟩
  | 112 => ⟨S16x128x8x64, .f32⟩
  | 113 => ⟨S_, .f32⟩
  | 114 => ⟨S8x128x128, .f32⟩
  | 115 => ⟨S8x128x128, .f32⟩
  | 116 => ⟨S2048x512, .f32⟩
  | 117 => ⟨S_, .f32⟩
  | 118 => ⟨S512, .f32⟩
  | 119 => ⟨S1x512, .f32⟩
  | 120 => ⟨S_, .f32⟩
  | 121 => ⟨S512, .f32⟩
  | 122 => ⟨S2048x512, .f32⟩
  | 123 => ⟨S_, .f32⟩
  | 124 => ⟨S512, .f32⟩
  | 125 => ⟨S1x512, .f32⟩
  | 126 => ⟨S2048x512, .f32⟩
  | 127 => ⟨S2048x512, .f32⟩
  | _ => ⟨S2048x6656, .f32⟩

abbrev hbmTy0_1 (i : Nat) : BufTy := match i % 128 with
  | 0 => ⟨S_, .f32⟩
  | 1 => ⟨S512, .f32⟩
  | 2 => ⟨S2048x512, .f32⟩
  | 3 => ⟨S_, .f32⟩
  | 4 => ⟨S2048, .f32⟩
  | 5 => ⟨S2048x1, .f32⟩
  | 6 => ⟨S2048x512, .f32⟩
  | 7 => ⟨S2048x512, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x512, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S_, .f32⟩
  | 21 => ⟨S2048, .f32⟩
  | 22 => ⟨S2048x1, .f32⟩
  | 23 => ⟨S_, .f32⟩
  | 24 => ⟨S2048x1, .f32⟩
  | 25 => ⟨S2048x1, .f32⟩
  | 26 => ⟨S_, .f32⟩
  | 27 => ⟨S2048, .f32⟩
  | 28 => ⟨S2048x512, .f32⟩
  | 29 => ⟨S2048x512, .f32⟩
  | 30 => ⟨S2048x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S2048x1024, .f32⟩
  | 46 => ⟨S2048x1024, .bf16⟩
  | 47 => ⟨S2048x512, .bf16⟩
  | 48 => ⟨S2048x512, .bf16⟩
  | 49 => ⟨S1x512, .f32⟩
  | 50 => ⟨S1x512, .f32⟩
  | 51 => ⟨S128x8, .f32⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c : Ref sig .tc := ⟨.hbm, 70, rfl⟩
abbrev main_v51 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55_1 : Ref sig .tc := ⟨.hbm, 84, rfl⟩
abbrev main_v55_0 : Ref sig .tc := ⟨.hbm, 85, rfl⟩
abbrev main_call1_cst : Ref sig .tc := ⟨.hbm, 86, rfl⟩
abbrev main_v55_2 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_cst : Ref sig .tc := ⟨.hbm, 113, rfl⟩
abbrev main_call2_v0 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_23 : Ref sig .tc := ⟨.hbm, 148, rfl⟩
abbrev main_v104 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_26 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_27 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_28 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩

abbrev nD : Nat := 1
abbrev τ : Topo := Topo.v7x

variable {F : FTy → Type} [FloatOps F]
-- ==== Proof.Coe.lean ====
/-
  Real arrays inside the extended reals: `up x` is the two-axis array of extended reals whose element at (r, c) is the real
  number `x r c`, and the elementary facts that carry sums, products and logarithms of real numbers through the coercion.
-/
module

public import Idealize.ShloMosaic.Lib.Pointwise
public import Idealize.ShloMosaic.PureOps.Ideal.Laws
public import Idealize.ShloMosaic.Lib.WordCmp

@[expose] public section

noncomputable section

namespace Cert.Attn

open Idealize.ShloMosaic

/-- The two-axis array of extended reals that holds the real number `x r c` at (r, c). -/
def up {M N : ℕ} (x : ℕ → ℕ → ℝ) : Shape.Idx ⟨2, ![M, N]⟩ → EReal := fun j => ((x (j 0).val (j 1).val : ℝ) : EReal)

theorem up_ix2 {M N : ℕ} (x : ℕ → ℕ → ℝ) (r : Fin M) (c : Fin N) : up (M := M) (N := N) x (ix2 r c) = ((x r.val c.val : ℝ) : EReal) := rfl

/-- Two such arrays are equal when the real numbers agree inside the extents. -/
theorem up_congr {M N : ℕ} {x y : ℕ → ℕ → ℝ} (h : ∀ r c, r < M → c < N → x r c = y r c) : up (M := M) (N := N) x = up y := by
  funext j
  have h0 : (j 0).val < M := (j 0).isLt
  have h1 : (j 1).val < N := (j 1).isLt
  simp only [up, h _ _ h0 h1]

/-- A finite sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over the indices below `n`, as a sum over natural numbers. -/
theorem coe_sum_fin (n : ℕ) (f : ℕ → ℝ) : ∑ i : Fin n, ((f i.val : ℝ) : EReal) = ((∑ i ∈ Finset.range n, f i : ℝ) : EReal) := by
  rw [coe_sum, Finset.sum_range]

theorem exp_up (x : ℝ) : Ideal.exp ((x : ℝ) : EReal) = ((Real.exp x : ℝ) : EReal) := rfl

theorem log_pos {x : ℝ} (h : 0 < x) : Ideal.log ((x : ℝ) : EReal) = ((Real.log x : ℝ) : EReal) := by
  rw [Ideal.log_coe, if_neg (not_le.mpr h)]

theorem max_up (x y : ℝ) : max ((x : ℝ) : EReal) ((y : ℝ) : EReal) = ((max x y : ℝ) : EReal) := (EReal.coe_strictMono.monotone.map_max).symm
theorem min_up (x y : ℝ) : min ((x : ℝ) : EReal) ((y : ℝ) : EReal) = ((min x y : ℝ) : EReal) := (EReal.coe_strictMono.monotone.map_min).symm

/-- The logarithm of one plus an exponential is the real one, its argument being positive. -/
theorem log_one_exp (x : ℝ) : Ideal.log ((1 + Real.exp x : ℝ) : EReal) = ((Real.log (1 + Real.exp x) : ℝ) : EReal) :=
  log_pos (by positivity)

theorem abs_up (φ : FTy) (x : ℝ) : FloatOps.absf (F := Ideal) (φ := φ) ((x : ℝ) : EReal) = ((|x| : ℝ) : EReal) := by
  rw [Ideal.absf_def, ← EReal.coe_neg, max_up]; rfl

/-- The logarithm of the sigmoid, as the kernel and the reference both compute it. -/
def lsp (z : ℝ) : ℝ := min z 0 - Real.log (1 + Real.exp (0 - |z|))

/-- The logarithm of the sigmoid of the negated argument. -/
def lsn (z : ℝ) : ℝ := lsp z - z

/-- The product of the rows of `q` with the rows of `k`, over `n` lanes. -/
def zz (n : ℕ) (q k : ℕ → ℕ → ℝ) (r c : ℕ) : ℝ := ∑ d ∈ Finset.range n, q r d * k c d

/-- Two heads stacked in rows: rows below 256 keep the lanes below 64, the others keep the upper lanes. -/
def stk (x : ℕ → ℕ → ℝ) (r d : ℕ) : ℝ := if r < 256 then (if 64 ≤ d then 0 else x r d) else (if 64 ≤ d then x (r - 256) d else 0)

/-- The strictly lower triangle of a block: column `c` comes before the query of row `r`, whose position in its block is
`r % 256`. -/
abbrev low (r c : ℕ) : Prop := c < r % 256

/-- A word that is one where `p` holds selects between two coerced reals. -/
theorem select_coe (p : Prop) [Decidable p] (a b : ℝ) :
    Scalar.select (if p then 1#1 else 0#1) ((a : ℝ) : EReal) ((b : ℝ) : EReal) = ((if p then a else b : ℝ) : EReal) := by
  split <;> simp [Scalar.select]

theorem ofBool_ite (p : Prop) [Decidable p] : BitVec.ofBool (decide p) = if p then 1#1 else 0#1 := by
  split <;> simp [*]

/-- The comparison of a lane's number with 64. -/
theorem lane_ge {n : ℕ} (h : n < 128) : IntOp.cmpi CmpIPredicate.sge (BitVec.ofNat 32 n) 64#32 = if 64 ≤ n then 1#1 else 0#1 := by
  rw [show (64#32 : BitVec 32) = BitVec.ofNat 32 64 from rfl, WordCmp.cmpi_sge_ofNat (by omega) (by omega), ofBool_ite]

/-- The comparison of two positions of a block, greater. -/
theorem pos_gt {a b : ℕ} (ha : a < 256) (hb : b < 256) :
    IntOp.cmpi CmpIPredicate.sgt (BitVec.ofNat 32 a) (BitVec.ofNat 32 b) = if b < a then 1#1 else 0#1 := by
  rw [WordCmp.cmpi_sgt_ofNat (by omega) (by omega), ofBool_ite]

/-- The comparison of two positions of a block, less. -/
theorem pos_lt {a b : ℕ} (ha : a < 256) (hb : b < 256) :
    IntOp.cmpi CmpIPredicate.slt (BitVec.ofNat 32 a) (BitVec.ofNat 32 b) = if a < b then 1#1 else 0#1 := by
  rw [WordCmp.cmpi_slt_ofNat (by omega) (by omega), ofBool_ite]

/-- The sign of the difference between a row's position and a column is the strict triangle. -/
theorem diff_pos {a b : ℕ} (ha : a < 512) (hb : b < 256) :
    IntOp.cmpi CmpIPredicate.sgt (IntOp.subi (IntOp.andi (BitVec.ofNat 32 a) 255#32) (BitVec.ofNat 32 b)) 0#32 = if low a b then 1#1 else 0#1 := by
  have h1 : IntOp.andi (BitVec.ofNat 32 a) 255#32 = BitVec.ofNat 32 (a % 256) := by
    apply BitVec.eq_of_toNat_eq
    show (BitVec.ofNat 32 a &&& 255#32).toNat = _
    rw [BitVec.toNat_and, BitVec.toNat_ofNat, BitVec.toNat_ofNat, BitVec.toNat_ofNat, Nat.mod_eq_of_lt (show a < 2 ^ 32 by omega),
      Nat.mod_eq_of_lt (show a % 256 < 2 ^ 32 by omega), show (255 % 2 ^ 32) = 2 ^ 8 - 1 from rfl, Nat.and_two_pow_sub_one_eq_mod]
  rw [h1, WordCmp.cmpi_sgt_eq, ofBool_ite]
  have h2 : a % 256 < 256 := Nat.mod_lt _ (by decide)
  have h3 : (0#32).toInt < (IntOp.subi (BitVec.ofNat 32 (a % 256)) (BitVec.ofNat 32 b)).toInt ↔ low a b := by
    show (0#32).toInt < (BitVec.ofNat 32 (a % 256) - BitVec.ofNat 32 b).toInt ↔ _
    simp only [BitVec.toInt_eq_toNat_cond, BitVec.toNat_sub, BitVec.toNat_ofNat, low]
    generalize a % 256 = x at *
    split <;> split <;> omega
  simp only [h3]

/-- A comparison word converted to a float is the indicator. -/
theorem indicator (φ : FTy) (p : Prop) [Decidable p] :
    FloatOps.sitofp (F := Ideal) φ (BitVec.setWidth 32 (if p then 1#1 else 0#1)) = ((if p then 1 else 0 : ℝ) : EReal) := by
  split
  · show (((BitVec.setWidth 32 1#1).toInt : ℝ) : EReal) = _
    simp
  · show (((BitVec.setWidth 32 0#1).toInt : ℝ) : EReal) = _
    simp

theorem one_f32 : Ideal.ofBits .f32 0x3F800000#32 = ((1 : ℝ) : EReal) := by
  simp [Ideal.ofBits, Ideal.ieee, -EReal.coe_mul]; norm_num

end Cert.Attn
-- ==== Proof.Dense.lean ====
/-
  Products of arrays of extended reals, by rows and columns.
-/
module
public import proofs.«01_k».proof.Proof.Coe
@[expose] public section
noncomputable section
namespace Cert.Dense
open Idealize.ShloMosaic

variable {M N K : ℕ}

/-- Rows by columns: `A · B`. -/
def prodNN (A : Shape.Idx ⟨2, ![M, K]⟩ → EReal) (B : Shape.Idx ⟨2, ![K, N]⟩ → EReal) : Shape.Idx ⟨2, ![M, N]⟩ → EReal :=
  fun j => ∑ k : Fin K, A (ix2 (j 0) k) * B (ix2 k (j 1))

/-- Rows by rows: `A · Bᵀ`. -/
def prodNT (A : Shape.Idx ⟨2, ![M, K]⟩ → EReal) (B : Shape.Idx ⟨2, ![N, K]⟩ → EReal) : Shape.Idx ⟨2, ![M, N]⟩ → EReal :=
  fun j => ∑ k : Fin K, A (ix2 (j 0) k) * B (ix2 (j 1) k)

/-- Columns by columns: `Aᵀ · B`. -/
def prodTN (A : Shape.Idx ⟨2, ![K, M]⟩ → EReal) (B : Shape.Idx ⟨2, ![K, N]⟩ → EReal) : Shape.Idx ⟨2, ![M, N]⟩ → EReal :=
  fun j => ∑ k : Fin K, A (ix2 k (j 0)) * B (ix2 k (j 1))

variable {M' N' : ℕ}

/-- An entry of a product of blocks is the entry of the arrays' product that the blocks' rows lie at. -/
theorem prodNN_entry {X : Shape.Idx ⟨2, ![M', K]⟩ → EReal} {Y : Shape.Idx ⟨2, ![K, N']⟩ → EReal} {A : Shape.Idx ⟨2, ![M, K]⟩ → EReal} {B : Shape.Idx ⟨2, ![K, N]⟩ → EReal}
    {j : Shape.Idx ⟨2, ![M', N']⟩} {i : Shape.Idx ⟨2, ![M, N]⟩} (hx : ∀ k, X (ix2 (j 0) k) = A (ix2 (i 0) k)) (hy : ∀ k, Y (ix2 k (j 1)) = B (ix2 k (i 1))) :
    prodNN X Y j = prodNN A B i := Finset.sum_congr rfl fun k _ => by rw [hx k, hy k]

theorem prodNT_entry {X : Shape.Idx ⟨2, ![M', K]⟩ → EReal} {Y : Shape.Idx ⟨2, ![N', K]⟩ → EReal} {A : Shape.Idx ⟨2, ![M, K]⟩ → EReal} {B : Shape.Idx ⟨2, ![N, K]⟩ → EReal}
    {j : Shape.Idx ⟨2, ![M', N']⟩} {i : Shape.Idx ⟨2, ![M, N]⟩} (hx : ∀ k, X (ix2 (j 0) k) = A (ix2 (i 0) k)) (hy : ∀ k, Y (ix2 (j 1) k) = B (ix2 (i 1) k)) :
    prodNT X Y j = prodNT A B i := Finset.sum_congr rfl fun k _ => by rw [hx k, hy k]

theorem prodTN_entry {X : Shape.Idx ⟨2, ![K, M']⟩ → EReal} {Y : Shape.Idx ⟨2, ![K, N']⟩ → EReal} {A : Shape.Idx ⟨2, ![K, M]⟩ → EReal} {B : Shape.Idx ⟨2, ![K, N]⟩ → EReal}
    {j : Shape.Idx ⟨2, ![M', N']⟩} {i : Shape.Idx ⟨2, ![M, N]⟩} (hx : ∀ k, X (ix2 k (j 0)) = A (ix2 k (i 0))) (hy : ∀ k, Y (ix2 k (j 1)) = B (ix2 k (i 1))) :
    prodTN X Y j = prodTN A B i := Finset.sum_congr rfl fun k _ => by rw [hx k, hy k]

/-- A position of an array, from its two coordinates. -/
theorem idx2_eq {s : Fin 2 → ℕ} (i : Shape.Idx ⟨2, s⟩) (j : Shape.Idx ⟨2, s⟩) (h0 : (i 0).val = (j 0).val) (h1 : (i 1).val = (j 1).val) : i = j := by
  funext a
  match a with
  | ⟨0, _⟩ => exact Fin.ext h0
  | ⟨1, _⟩ => exact Fin.ext h1

/-- Membership in a box of a two-dimensional array, coordinate by coordinate. -/
theorem forall_two {p : Fin 2 → Prop} (h0 : p 0) (h1 : p 1) : ∀ a, p a := fun a => by
  match a with
  | ⟨0, _⟩ => exact h0
  | ⟨1, _⟩ => exact h1

end Cert.Dense
-- ==== Proof.RowMath.lean ====
/-
  Row formulas: the normalisations, the gates and their gradients, of one row at a time, and sums over blocks of rows.
-/
module
public import proofs.«01_k».proof.Proof.Dense
@[expose] public section
noncomputable section
namespace Cert.Rows
open Finset Idealize.ShloMosaic Idealize.ShloMosaic.TcCoe

/-! ## Sums over blocks of rows -/

/-- A function of the rows, continued by zero. -/
def rowf {N : ℕ} (f : Fin N → EReal) (r : ℕ) : EReal := if h : r < N then f ⟨r, h⟩ else 0

theorem rowf_of {N : ℕ} (f : Fin N → EReal) {r : ℕ} (h : r < N) : rowf f r = f ⟨r, h⟩ := dif_pos h

theorem sum_rowf {N : ℕ} (f : Fin N → EReal) : ∑ r ∈ range N, rowf f r = ∑ r, f r := by
  rw [sum_range]
  exact sum_congr rfl fun r _ => rowf_of f r.isLt

/-- The rows of `n + 1` blocks are the rows of `n` blocks and those of the next. -/
theorem sum_next (f : ℕ → EReal) (B n : ℕ) : ∑ r ∈ range (B * (n + 1)), f r = ∑ r ∈ range (B * n), f r + ∑ r : Fin B, f (B * n + r.val) := by
  rw [mul_add, mul_one, sum_range_add, sum_range fun r => f (B * n + r)]

/-- The rows of the first block. -/
theorem sum_first (f : ℕ → EReal) (B : ℕ) : ∑ r ∈ range (B * (0 + 1)), f r = ∑ r : Fin B, f (B * 0 + r.val) := by
  rw [sum_next, mul_zero, range_zero, sum_empty, zero_add]

/-- A row of a matrix. -/
def row {M N : ℕ} (x : Shape.Idx ⟨2, ![M, N]⟩ → EReal) (r : Fin M) : Fin N → EReal := fun k => x (ix2 r k)

/-! ## The root mean square of a row of 1024 -/

/-- The number of a row's entries. -/
def len : EReal := Ideal.ofBits .f32 1149239296#32

/-- The mean of the squares, and the small constant added to it. -/
def meanSq (x : Fin 1024 → EReal) : EReal := Ideal.div (∑ k, x k * x k) len + Ideal.ofBits .f32 897988541#32

/-- What the gradient at a row's mean square contributes at an entry, before the factor of the entry itself. -/
def rmsCoef (x d g : Fin 1024 → EReal) : EReal :=
  ∑ _ : Fin 1, Ideal.div ((∑ k, x k * (d k * g k)) * (Ideal.ofBits .f32 3204448256#32 * Ideal.div (Ideal.rsqrt (meanSq x)) (meanSq x))) len

/-- The gradient of the normalised row at an entry. -/
def rmsBack (x d g : Fin 1024 → EReal) (k : Fin 1024) : EReal := d k * g k * Ideal.rsqrt (meanSq x) + x k * rmsCoef x d g + rmsCoef x d g * x k

theorem rmsBack_congr {x x' d d' g g' : Fin 1024 → EReal} {k k' : Fin 1024} (hx : x = x') (hd : d = d') (hg : g = g') (hk : k = k') :
    rmsBack x d g k = rmsBack x' d' g' k' := by rw [hx, hd, hg, hk]

/-- A row's part of the gradient at a weight. -/
def rmsPart (x d : Fin 1024 → EReal) (k : Fin 1024) : EReal := x k * Ideal.rsqrt (meanSq x) * d k

/-! ## The normalisation of a row of 512, and its swish -/

/-- The number of a row's entries. -/
def len512 : EReal := Ideal.ofBits .f32 1140850688#32

/-- A row less its mean. -/
def cen (x : Fin 512 → EReal) (k : Fin 512) : EReal := x k - Ideal.div (∑ i, x i) len512

/-- The mean square of the centred row, and the small constant added to it. -/
def variance (x : Fin 512 → EReal) : EReal := Ideal.div (∑ k, cen x k * cen x k) len512 + Ideal.ofBits .f32 897988541#32

/-- The normalised row. -/
def nrm (x : Fin 512 → EReal) (k : Fin 512) : EReal := cen x k * Ideal.rsqrt (variance x)

/-- The row before its swish. -/
def pre (x g b : Fin 512 → EReal) (k : Fin 512) : EReal := nrm x k * g k + b k

/-- The gradient `d` of `z * logistic z`, brought to `z`. -/
def swishBack (z d : EReal) : EReal := d * Ideal.logistic z + z * d * (Ideal.logistic z * (1 - Ideal.logistic z))

/-- The gradient at the row before its swish. -/
def preBack (x g b d : Fin 512 → EReal) (k : Fin 512) : EReal := swishBack (pre x g b k) (d k)

/-- What the gradient at the variance contributes at an entry, before the factor of the entry itself. -/
def cenCoef (x g e : Fin 512 → EReal) : EReal :=
  ∑ _ : Fin 1, Ideal.div ((∑ k, cen x k * (e k * g k)) * (Ideal.ofBits .f32 3204448256#32 * Ideal.div (Ideal.rsqrt (variance x)) (variance x))) len512

/-- The gradient at the centred row. -/
def cenBack (x g e : Fin 512 → EReal) (k : Fin 512) : EReal := e k * g k * Ideal.rsqrt (variance x) + cen x k * cenCoef x g e + cenCoef x g e * cen x k

/-- The gradient at the row. -/
def nrmBack (x g e : Fin 512 → EReal) (k : Fin 512) : EReal := cenBack x g e k + ∑ _ : Fin 1, Ideal.div (∑ i, -cenBack x g e i) len512

end Cert.Rows
-- ==== Proof.MergeArray.lean ====
/-
  The arrays that the gradient of the gated merge leaves.
-/
module
public import proofs.«01_k».proof.Proof.RowMath
public import Idealize.ShloMosaic.Lib.Pipeline.ValueKit
public import proofs.«01_k».proof.Proof.Gen.MergeGradIdeal.Value
public import proofs.«01_k».proof.Proof.Gen.MergeGradRefIdeal.Run
@[expose] public section
set_option maxRecDepth 16384
noncomputable section
namespace Cert.Rows.Merge
open Finset Idealize.ShloMosaic Idealize.ShloMosaic.TcCoe Idealize.ShloMosaic.Tactic Idealize.SL.Sem Cert.MergeGradIdeal Cert.MergeGradIdeal.Gen
open Idealize.ShloMosaic.Pipeline (Dat)

/-! ## The formulas -/

/-- The gradient `d` of a gate's product with `y`, brought to what the gate's logistic function reads. -/
def gateBack (z b y d : EReal) : EReal := d * y * (Ideal.logistic (z + b) * (1 - Ideal.logistic (z + b)))

/-- The gradient `d` of a gate's product, brought to the branch it weighs. -/
def gateOn (z b d : EReal) : EReal := Ideal.logistic (z + b) * d

/-- The column of the projection that a gate's column reads. -/
def zcol (k : Fin 3) (n : Fin 1024) : Fin 6656 := ⟨3584 + 1024 * k.val + n.val, by omega⟩

/-- The gradient at the part of the projection that gate `k` reads. -/
def gradZ (k : Fin 3) (z : Shape.Idx S2048x6656 → EReal) (y : Shape.Idx S2048x1024 → EReal) (b : Shape.Idx S3x1024 → EReal) (d : Shape.Idx S2048x1024 → EReal) : Shape.Idx S2048x1024 → EReal :=
  fun j => gateBack (z (ix2 (j 0) (zcol k (j 1)))) (b (ix2 k (j 1))) (y j) (d j)

/-- The gradient at the branch that gate `k` weighs. -/
def gradY (k : Fin 3) (z : Shape.Idx S2048x6656 → EReal) (b : Shape.Idx S3x1024 → EReal) (d : Shape.Idx S2048x1024 → EReal) : Shape.Idx S2048x1024 → EReal :=
  fun j => gateOn (z (ix2 (j 0) (zcol k (j 1)))) (b (ix2 k (j 1))) (d j)

/-- The gradient at gate `k`'s offsets. -/
def gradB (k : Fin 3) (z : Shape.Idx S2048x6656 → EReal) (y : Shape.Idx S2048x1024 → EReal) (b : Shape.Idx S3x1024 → EReal) (d : Shape.Idx S2048x1024 → EReal) : Shape.Idx S1x1024 → EReal :=
  fun j => ∑ r : Fin 2048, gradZ k z y b d (ix2 r (j 1))

/-! ## A point's arithmetic -/

section
variable (z y : FVec Ideal S256x512 .bf16) (b : FVec Ideal S1x512 .f32) (d : FVec Ideal S256x512 .f32)

theorem back0 (j : Shape.Idx S256x512) : k0_pay19 (F := Ideal) (k0_pay4 y) (k0_pay8 z b) d j = gateBack (z j) (b (ix2 0 (j 1))) (y j) (d j) := by
  unfold k0_pay19 k0_pay13 k0_pay8 k0_pay7 k0_pay4
  idx_vars j
  pointwise []
  rfl

theorem back1 (j : Shape.Idx S256x512) : k0_pay17 (F := Ideal) (k0_pay5 y) (k0_pay10 z b) d j = gateBack (z j) (b (ix2 0 (j 1))) (y j) (d j) := by
  unfold k0_pay17 k0_pay13 k0_pay10 k0_pay9 k0_pay5
  idx_vars j
  pointwise []
  rfl

theorem back2 (j : Shape.Idx S256x512) : k0_pay15 (F := Ideal) (k0_pay6 y) (k0_pay11 z b) d j = gateBack (z j) (b (ix2 0 (j 1))) (y j) (d j) := by
  unfold k0_pay15 k0_pay14 k0_pay12 k0_pay11 k0_pay6
  idx_vars j
  pointwise []
  rfl

theorem branch0 (j : Shape.Idx S256x512) : k0_pay24 (F := Ideal) (k0_pay7 z b) d j = gateOn (z j) (b (ix2 0 (j 1))) (d j) := by
  unfold k0_pay24 k0_pay13 k0_pay7
  idx_vars j
  pointwise []
  rfl

theorem branch1 (j : Shape.Idx S256x512) : k0_pay25 (F := Ideal) (k0_pay9 z b) d j = gateOn (z j) (b (ix2 0 (j 1))) (d j) := by
  unfold k0_pay25 k0_pay13 k0_pay9
  idx_vars j
  pointwise []
  rfl

theorem branch2 (j : Shape.Idx S256x512) : k0_pay26 (F := Ideal) (k0_pay11 z b) d j = gateOn (z j) (b (ix2 0 (j 1))) (d j) := by
  unfold k0_pay26 k0_pay14 k0_pay12 k0_pay11
  idx_vars j
  pointwise []
  rfl

theorem part0 (j : Shape.Idx S1x512) : k0_pay20 (F := Ideal) (k0_pay4 y) (k0_pay8 z b) d j
    = ∑ r : Fin 256, gateBack (z (ix2 r (j 1))) (b (ix2 0 (j 1))) (y (ix2 r (j 1))) (d (ix2 r (j 1))) := by
  unfold k0_pay20
  idx_vars j
  pointwise [back0]

theorem part1 (j : Shape.Idx S1x512) : k0_pay18 (F := Ideal) (k0_pay5 y) (k0_pay10 z b) d j
    = ∑ r : Fin 256, gateBack (z (ix2 r (j 1))) (b (ix2 0 (j 1))) (y (ix2 r (j 1))) (d (ix2 r (j 1))) := by
  unfold k0_pay18
  idx_vars j
  pointwise [back1]

theorem part2 (j : Shape.Idx S1x512) : k0_pay16 (F := Ideal) (k0_pay6 y) (k0_pay11 z b) d j
    = ∑ r : Fin 256, gateBack (z (ix2 r (j 1))) (b (ix2 0 (j 1))) (y (ix2 r (j 1))) (d (ix2 r (j 1))) := by
  unfold k0_pay16
  idx_vars j
  pointwise [back2]

variable (v w : FVec Ideal S1x512 .f32)

theorem added0 (j : Shape.Idx S1x512) : k0_pay1 v w j = w j + v j := by
  unfold k0_pay1
  idx_vars j
  pointwise []

theorem added1 (j : Shape.Idx S1x512) : k0_pay2 v w j = w j + v j := by
  unfold k0_pay2
  idx_vars j
  pointwise []

theorem added2 (j : Shape.Idx S1x512) : k0_pay3 v w j = w j + v j := by
  unfold k0_pay3
  idx_vars j
  pointwise []

end

/-! ## What the points read and leave -/

variable (m : (ℓ : Loc nD τ sig) → Buf (Elt Ideal) ℓ) (c : Dev nD)

theorem idx : ∀ t : Fin cfg0.N, win0_0.index t = ![t.val % 8, 7 + t.val / 8] ∧ win0_1.index t = ![t.val % 8, 9 + t.val / 8] ∧ win0_2.index t = ![t.val % 8, 11 + t.val / 8] ∧ win0_3.index t = ![t.val % 8, t.val / 8] ∧ win0_4.index t = ![t.val % 8, t.val / 8] ∧ win0_5.index t = ![t.val % 8, t.val / 8] ∧ win0_6.index t = ![0, t.val / 8] ∧ win0_7.index t = ![0, t.val / 8] ∧ win0_8.index t = ![0, t.val / 8] ∧ win0_9.index t = ![t.val % 8, t.val / 8] ∧ win0_10.index t = ![t.val % 8, t.val / 8] ∧ win0_11.index t = ![t.val % 8, t.val / 8] ∧ win0_12.index t = ![t.val % 8, t.val / 8] ∧ win0_13.index t = ![t.val % 8, t.val / 8] ∧ win0_14.index t = ![t.val % 8, t.val / 8] ∧ win0_15.index t = ![t.val % 8, t.val / 8] ∧ win0_16.index t = ![0, t.val / 8] ∧ win0_17.index t = ![0, t.val / 8] ∧ win0_18.index t = ![0, t.val / 8] := by decide +kernel

/-- A row of a point's block, in the whole array. -/
def rowAt (t : Fin cfg0.N) (r : Fin 256) : Fin 2048 := ⟨256 * (t.val % 8) + r.val, by omega⟩

/-- A column of a point's block, in the whole array. -/
def colAt (t : Fin cfg0.N) (n : Fin 512) : Fin 1024 := ⟨512 * (t.val / 8) + n.val, by have := t.isLt; have : cfg0.N = 16 := rfl; omega⟩

theorem V_z : V m c main_v0 = m ((c.tc : Thread nD τ).loc main_arg0) := by
  have e : V m c main_v0 = truncf (F := Ideal) (φ := .f32) .bf16 (m ((c.tc : Thread nD τ).loc main_arg0)) bitsLt_bf16_f32 := by
    unfold V
    after_results
  rw [e]
  rfl

theorem V_y0 : V m c main_v1 = m ((c.tc : Thread nD τ).loc main_arg1) := by
  have e : V m c main_v1 = truncf (F := Ideal) (φ := .f32) .bf16 (m ((c.tc : Thread nD τ).loc main_arg1)) bitsLt_bf16_f32 := by
    unfold V
    after_results
  rw [e]
  rfl

theorem V_y1 : V m c main_v2 = m ((c.tc : Thread nD τ).loc main_arg2) := by
  have e : V m c main_v2 = truncf (F := Ideal) (φ := .f32) .bf16 (m ((c.tc : Thread nD τ).loc main_arg2)) bitsLt_bf16_f32 := by
    unfold V
    after_results
  rw [e]
  rfl

theorem V_y2 : V m c main_v3 = m ((c.tc : Thread nD τ).loc main_arg3) := by
  have e : V m c main_v3 = truncf (F := Ideal) (φ := .f32) .bf16 (m ((c.tc : Thread nD τ).loc main_arg3)) bitsLt_bf16_f32 := by
    unfold V
    after_results
  rw [e]
  rfl

theorem V_b0 : V m c main_v6 = (fun j => m ((c.tc : Thread nD τ).loc main_arg4) (ix2 0 (j 1)) : Shape.Idx S1x1024 → EReal) := by
  have e : V m c main_v6 = broadcastInDim S1x1024 ![1] bcast_S1024_S1x1024_1 (shapeCast S1024 (extractStridedSlice S1x1024 ![0, 0] (m ((c.tc : Thread nD τ).loc main_arg4)) slices_S3x1024_S1x1024_0_0) shapeCasts_S1x1024_S1024) := by
    unfold V
    after_results
    rfl
  rw [e]
  funext j
  idx_vars j
  pointwise []

theorem V_b1 : V m c main_v9 = (fun j => m ((c.tc : Thread nD τ).loc main_arg4) (ix2 1 (j 1)) : Shape.Idx S1x1024 → EReal) := by
  have e : V m c main_v9 = broadcastInDim S1x1024 ![1] bcast_S1024_S1x1024_1 (shapeCast S1024 (extractStridedSlice S1x1024 ![1, 0] (m ((c.tc : Thread nD τ).loc main_arg4)) slices_S3x1024_S1x1024_1_0) shapeCasts_S1x1024_S1024) := by
    unfold V
    after_results
    rfl
  rw [e]
  funext j
  idx_vars j
  pointwise []

theorem V_b2 : V m c main_v12 = (fun j => m ((c.tc : Thread nD τ).loc main_arg4) (ix2 2 (j 1)) : Shape.Idx S1x1024 → EReal) := by
  have e : V m c main_v12 = broadcastInDim S1x1024 ![1] bcast_S1024_S1x1024_1 (shapeCast S1024 (extractStridedSlice S1x1024 ![2, 0] (m ((c.tc : Thread nD τ).loc main_arg4)) slices_S3x1024_S1x1024_2_0) shapeCasts_S1x1024_S1024) := by
    unfold V
    after_results
    rfl
  rw [e]
  funext j
  idx_vars j
  pointwise []

theorem blk_z0 (t : Fin cfg0.N) (j : Shape.Idx S256x512) : iblk m c 0 t j = m ((c.tc : Thread nD τ).loc main_arg0) (ix2 (rowAt t (j 0)) (zcol 0 (colAt t (j 1)))) := by
  rw [← V_z m c]
  blk_ext [iblk, idx t, rowAt, colAt, zcol]

theorem blk_y0 (t : Fin cfg0.N) (j : Shape.Idx S256x512) : iblk m c 3 t j = m ((c.tc : Thread nD τ).loc main_arg1) (ix2 (rowAt t (j 0)) (colAt t (j 1))) := by
  rw [← V_y0 m c]
  blk_ext [iblk, idx t, rowAt, colAt]

theorem blk_b0 (t : Fin cfg0.N) (n : Fin 512) : iblk m c 6 t (ix2 0 n) = m ((c.tc : Thread nD τ).loc main_arg4) (ix2 0 (colAt t n)) := by
  refine Eq.trans ?_ (congrFun (V_b0 m c) (ix2 0 (colAt t n)))
  blk_ext [iblk, idx t, colAt]

theorem blk_z1 (t : Fin cfg0.N) (j : Shape.Idx S256x512) : iblk m c 1 t j = m ((c.tc : Thread nD τ).loc main_arg0) (ix2 (rowAt t (j 0)) (zcol 1 (colAt t (j 1)))) := by
  rw [← V_z m c]
  blk_ext [iblk, idx t, rowAt, colAt, zcol]

theorem blk_y1 (t : Fin cfg0.N) (j : Shape.Idx S256x512) : iblk m c 4 t j = m ((c.tc : Thread nD τ).loc main_arg2) (ix2 (rowAt t (j 0)) (colAt t (j 1))) := by
  rw [← V_y1 m c]
  blk_ext [iblk, idx t, rowAt, colAt]

theorem blk_b1 (t : Fin cfg0.N) (n : Fin 512) : iblk m c 7 t (ix2 0 n) = m ((c.tc : Thread nD τ).loc main_arg4) (ix2 1 (colAt t n)) := by
  refine Eq.trans ?_ (congrFun (V_b1 m c) (ix2 0 (colAt t n)))
  blk_ext [iblk, idx t, colAt]

theorem blk_z2 (t : Fin cfg0.N) (j : Shape.Idx S256x512) : iblk m c 2 t j = m ((c.tc : Thread nD τ).loc main_arg0) (ix2 (rowAt t (j 0)) (zcol 2 (colAt t (j 1)))) := by
  rw [← V_z m c]
  blk_ext [iblk, idx t, rowAt, colAt, zcol]

theorem blk_y2 (t : Fin cfg0.N) (j : Shape.Idx S256x512) : iblk m c 5 t j = m ((c.tc : Thread nD τ).loc main_arg3) (ix2 (rowAt t (j 0)) (colAt t (j 1))) := by
  rw [← V_y2 m c]
  blk_ext [iblk, idx t, rowAt, colAt]

theorem blk_b2 (t : Fin cfg0.N) (n : Fin 512) : iblk m c 8 t (ix2 0 n) = m ((c.tc : Thread nD τ).loc main_arg4) (ix2 2 (colAt t n)) := by
  refine Eq.trans ?_ (congrFun (V_b2 m c) (ix2 0 (colAt t n)))
  blk_ext [iblk, idx t, colAt]

theorem blk_d (t : Fin cfg0.N) (j : Shape.Idx S256x512) : iblk m c 9 t j = m ((c.tc : Thread nD τ).loc main_arg5) (ix2 (rowAt t (j 0)) (colAt t (j 1))) := by
  rw [← V_main_arg5 m c]
  blk_ext [iblk, idx t, rowAt, colAt]

/-- What a column's first point leaves. -/
theorem left_A (t : Fin cfg0.N) (h : t.val % 8 = 0) : outsAt0 m c t.val t.isLt =
    (k0_pay21 (F := Ideal) (k0_pay4 (iblk m c 3 t)) (k0_pay8 (iblk m c 0 t) (iblk m c 6 t)) (iblk m c 9 t), k0_pay22 (F := Ideal) (k0_pay5 (iblk m c 4 t)) (k0_pay10 (iblk m c 1 t) (iblk m c 7 t)) (iblk m c 9 t), k0_pay23 (F := Ideal) (k0_pay6 (iblk m c 5 t)) (k0_pay11 (iblk m c 2 t) (iblk m c 8 t)) (iblk m c 9 t), k0_pay24 (F := Ideal) (k0_pay7 (iblk m c 0 t) (iblk m c 6 t)) (iblk m c 9 t), k0_pay25 (F := Ideal) (k0_pay9 (iblk m c 1 t) (iblk m c 7 t)) (iblk m c 9 t), k0_pay26 (F := Ideal) (k0_pay11 (iblk m c 2 t) (iblk m c 8 t)) (iblk m c 9 t), k0_pay20 (F := Ideal) (k0_pay4 (iblk m c 3 t)) (k0_pay8 (iblk m c 0 t) (iblk m c 6 t)) (iblk m c 9 t), k0_pay18 (F := Ideal) (k0_pay5 (iblk m c 4 t)) (k0_pay10 (iblk m c 1 t) (iblk m c 7 t)) (iblk m c 9 t), k0_pay16 (F := Ideal) (k0_pay6 (iblk m c 5 t)) (k0_pay11 (iblk m c 2 t) (iblk m c 8 t)) (iblk m c 9 t)) := by
  rw [outsAt0_A m c t h (by omega) h (by omega) h (by omega)]
  refine Prod.ext (by frame_out) (Prod.ext (by frame_out) (Prod.ext (by frame_out) (Prod.ext (by frame_out) (Prod.ext (by frame_out) (Prod.ext (by frame_out) (Prod.ext (by frame_out) (Prod.ext (by frame_out) (by frame_out))))))))

/-- What another point leaves, over what the point before left. -/
theorem left_B (t : Fin cfg0.N) (h : ¬t.val % 8 = 0) : outsAt0 m c t.val t.isLt =
    (k0_pay21 (F := Ideal) (k0_pay4 (iblk m c 3 t)) (k0_pay8 (iblk m c 0 t) (iblk m c 6 t)) (iblk m c 9 t), k0_pay22 (F := Ideal) (k0_pay5 (iblk m c 4 t)) (k0_pay10 (iblk m c 1 t) (iblk m c 7 t)) (iblk m c 9 t), k0_pay23 (F := Ideal) (k0_pay6 (iblk m c 5 t)) (k0_pay11 (iblk m c 2 t) (iblk m c 8 t)) (iblk m c 9 t), k0_pay24 (F := Ideal) (k0_pay7 (iblk m c 0 t) (iblk m c 6 t)) (iblk m c 9 t), k0_pay25 (F := Ideal) (k0_pay9 (iblk m c 1 t) (iblk m c 7 t)) (iblk m c 9 t), k0_pay26 (F := Ideal) (k0_pay11 (iblk m c 2 t) (iblk m c 8 t)) (iblk m c 9 t), k0_pay1 (k0_pay20 (F := Ideal) (k0_pay4 (iblk m c 3 t)) (k0_pay8 (iblk m c 0 t) (iblk m c 6 t)) (iblk m c 9 t)) (outsAt0 m c (t.val - 1) (Nat.lt_of_le_of_lt (Nat.sub_le _ _) t.isLt)).2.2.2.2.2.2.1, k0_pay2 (k0_pay18 (F := Ideal) (k0_pay5 (iblk m c 4 t)) (k0_pay10 (iblk m c 1 t) (iblk m c 7 t)) (iblk m c 9 t)) (outsAt0 m c (t.val - 1) (Nat.lt_of_le_of_lt (Nat.sub_le _ _) t.isLt)).2.2.2.2.2.2.2.1, k0_pay3 (k0_pay16 (F := Ideal) (k0_pay6 (iblk m c 5 t)) (k0_pay11 (iblk m c 2 t) (iblk m c 8 t)) (iblk m c 9 t)) (outsAt0 m c (t.val - 1) (Nat.lt_of_le_of_lt (Nat.sub_le _ _) t.isLt)).2.2.2.2.2.2.2.2) := by
  rw [outsAt0_B m c t h (by omega) h (by omega) h (by omega)]
  refine Prod.ext (by frame_out) (Prod.ext (by frame_out) (Prod.ext (by frame_out) (Prod.ext (by frame_out) (Prod.ext (by frame_out) (Prod.ext (by frame_out) (Prod.ext (by frame_out) (Prod.ext (by frame_out) (by frame_out))))))))

/-- What any point leaves at the arrays of rows. -/
theorem left_rows (t : Fin cfg0.N) :
    (outsAt0 m c t.val t.isLt).1 = k0_pay21 (F := Ideal) (k0_pay4 (iblk m c 3 t)) (k0_pay8 (iblk m c 0 t) (iblk m c 6 t)) (iblk m c 9 t) ∧ (outsAt0 m c t.val t.isLt).2.1 = k0_pay22 (F := Ideal) (k0_pay5 (iblk m c 4 t)) (k0_pay10 (iblk m c 1 t) (iblk m c 7 t)) (iblk m c 9 t) ∧ (outsAt0 m c t.val t.isLt).2.2.1 = k0_pay23 (F := Ideal) (k0_pay6 (iblk m c 5 t)) (k0_pay11 (iblk m c 2 t) (iblk m c 8 t)) (iblk m c 9 t) ∧ (outsAt0 m c t.val t.isLt).2.2.2.1 = k0_pay24 (F := Ideal) (k0_pay7 (iblk m c 0 t) (iblk m c 6 t)) (iblk m c 9 t) ∧ (outsAt0 m c t.val t.isLt).2.2.2.2.1 = k0_pay25 (F := Ideal) (k0_pay9 (iblk m c 1 t) (iblk m c 7 t)) (iblk m c 9 t) ∧ (outsAt0 m c t.val t.isLt).2.2.2.2.2.1 = k0_pay26 (F := Ideal) (k0_pay11 (iblk m c 2 t) (iblk m c 8 t)) (iblk m c 9 t) := by
  by_cases h : t.val % 8 = 0
  · rw [left_A m c t h]
    exact ⟨rfl, rfl, rfl, rfl, rfl, rfl⟩
  · rw [left_B m c t h]
    exact ⟨rfl, rfl, rfl, rfl, rfl, rfl⟩

/-- A sum over rows that starts afresh at a column's first point and grows by a block of rows at every other. -/
theorem grown (L : (n : ℕ) → n < cfg0.N → Shape.Idx S1x512 → EReal) (f : Fin 2048 → Fin 1024 → EReal)
    (first : ∀ t : Fin cfg0.N, t.val % 8 = 0 → ∀ j, L t.val t.isLt j = ∑ r, f (rowAt t r) (colAt t (j 1)))
    (next : ∀ t : Fin cfg0.N, ¬t.val % 8 = 0 → ∀ j, L t.val t.isLt j = L (t.val - 1) (Nat.lt_of_le_of_lt (Nat.sub_le _ _) t.isLt) j + ∑ r, f (rowAt t r) (colAt t (j 1))) :
    ∀ (n : ℕ) (h : n < cfg0.N) (j : Shape.Idx S1x512), L n h j = ∑ r ∈ range (256 * (n % 8 + 1)), rowf (fun r => f r (colAt ⟨n, h⟩ (j 1))) r := by
  have rows (t : Fin cfg0.N) (j : Shape.Idx S1x512) : ∑ r : Fin 256, rowf (fun r => f r (colAt t (j 1))) (256 * (t.val % 8) + r.val) = ∑ r, f (rowAt t r) (colAt t (j 1)) :=
    sum_congr rfl fun r _ => rowf_of _ (rowAt t r).isLt
  intro n
  induction n with
  | zero =>
    intro h j
    rw [first ⟨0, h⟩ rfl j, ← rows ⟨0, h⟩ j]
    exact (sum_first _ 256).symm
  | succ n ih =>
    intro h j
    by_cases hn : (n + 1) % 8 = 0
    · rw [first ⟨n + 1, h⟩ hn j, ← rows ⟨n + 1, h⟩ j]
      simp only [hn]
      exact (sum_first _ 256).symm
    · have e : (n + 1) % 8 = n % 8 + 1 := by omega
      have hc : colAt ⟨n + 1, h⟩ (j 1) = colAt ⟨n, by omega⟩ (j 1) := Fin.ext (by simp only [colAt]; omega)
      rw [next ⟨n + 1, h⟩ hn j, ← rows ⟨n + 1, h⟩ j, sum_next, e]
      refine congrArg₂ (· + ·) ((ih _ j).trans ?_) ?_
      · rw [hc]
      · simp only [e]

theorem val_z0 (t : Fin cfg0.N) (j : Shape.Idx S256x512) : gateBack (iblk m c 0 t j) (iblk m c 6 t (ix2 0 (j 1))) (iblk m c 3 t j) (iblk m c 9 t j)
    = gradZ 0 (m ((c.tc : Thread nD τ).loc main_arg0)) (m ((c.tc : Thread nD τ).loc main_arg1)) (m ((c.tc : Thread nD τ).loc main_arg4)) (m ((c.tc : Thread nD τ).loc main_arg5)) (ix2 (rowAt t (j 0)) (colAt t (j 1))) := by
  exact congr (congr (congrArg₂ gateBack (blk_z0 m c t j) (blk_b0 m c t (j 1))) (blk_y0 m c t j)) (blk_d m c t j)

theorem val_y0 (t : Fin cfg0.N) (j : Shape.Idx S256x512) : gateOn (iblk m c 0 t j) (iblk m c 6 t (ix2 0 (j 1))) (iblk m c 9 t j)
    = gradY 0 (m ((c.tc : Thread nD τ).loc main_arg0)) (m ((c.tc : Thread nD τ).loc main_arg4)) (m ((c.tc : Thread nD τ).loc main_arg5)) (ix2 (rowAt t (j 0)) (colAt t (j 1))) := by
  exact congr (congrArg₂ gateOn (blk_z0 m c t j) (blk_b0 m c t (j 1))) (blk_d m c t j)

theorem val_z1 (t : Fin cfg0.N) (j : Shape.Idx S256x512) : gateBack (iblk m c 1 t j) (iblk m c 7 t (ix2 0 (j 1))) (iblk m c 4 t j) (iblk m c 9 t j)
    = gradZ 1 (m ((c.tc : Thread nD τ).loc main_arg0)) (m ((c.tc : Thread nD τ).loc main_arg2)) (m ((c.tc : Thread nD τ).loc main_arg4)) (m ((c.tc : Thread nD τ).loc main_arg5)) (ix2 (rowAt t (j 0)) (colAt t (j 1))) := by
  exact congr (congr (congrArg₂ gateBack (blk_z1 m c t j) (blk_b1 m c t (j 1))) (blk_y1 m c t j)) (blk_d m c t j)

theorem val_y1 (t : Fin cfg0.N) (j : Shape.Idx S256x512) : gateOn (iblk m c 1 t j) (iblk m c 7 t (ix2 0 (j 1))) (iblk m c 9 t j)
    = gradY 1 (m ((c.tc : Thread nD τ).loc main_arg0)) (m ((c.tc : Thread nD τ).loc main_arg4)) (m ((c.tc : Thread nD τ).loc main_arg5)) (ix2 (rowAt t (j 0)) (colAt t (j 1))) := by
  exact congr (congrArg₂ gateOn (blk_z1 m c t j) (blk_b1 m c t (j 1))) (blk_d m c t j)

theorem val_z2 (t : Fin cfg0.N) (j : Shape.Idx S256x512) : gateBack (iblk m c 2 t j) (iblk m c 8 t (ix2 0 (j 1))) (iblk m c 5 t j) (iblk m c 9 t j)
    = gradZ 2 (m ((c.tc : Thread nD τ).loc main_arg0)) (m ((c.tc : Thread nD τ).loc main_arg3)) (m ((c.tc : Thread nD τ).loc main_arg4)) (m ((c.tc : Thread nD τ).loc main_arg5)) (ix2 (rowAt t (j 0)) (colAt t (j 1))) := by
  exact congr (congr (congrArg₂ gateBack (blk_z2 m c t j) (blk_b2 m c t (j 1))) (blk_y2 m c t j)) (blk_d m c t j)

theorem val_y2 (t : Fin cfg0.N) (j : Shape.Idx S256x512) : gateOn (iblk m c 2 t j) (iblk m c 8 t (ix2 0 (j 1))) (iblk m c 9 t j)
    = gradY 2 (m ((c.tc : Thread nD τ).loc main_arg0)) (m ((c.tc : Thread nD τ).loc main_arg4)) (m ((c.tc : Thread nD τ).loc main_arg5)) (ix2 (rowAt t (j 0)) (colAt t (j 1))) := by
  exact congr (congrArg₂ gateOn (blk_z2 m c t j) (blk_b2 m c t (j 1))) (blk_d m c t j)

theorem final_z0 : (dats m 0 c).arrAt 10 cfg0.N = (gradZ 0 (m ((c.tc : Thread nD τ).loc main_arg0)) (m ((c.tc : Thread nD τ).loc main_arg1)) (m ((c.tc : Thread nD τ).loc main_arg4)) (m ((c.tc : Thread nD τ).loc main_arg5)) : Shape.Idx S2048x1024 → EReal) := by
  refine (dats m 0 c).arrAt_eq_of_covers 10 _ (by decide +kernel) fun t _ j => ?_
  blk_simp
  rw [after0_10, (left_rows m c t).1]
  refine Eq.trans (show k0_pay21 (F := Ideal) _ _ _ j = k0_pay19 (F := Ideal) _ _ _ j from rfl) ?_
  rw [back0, val_z0]
  refine congrArg (gradZ 0 (m ((c.tc : Thread nD τ).loc main_arg0)) (m ((c.tc : Thread nD τ).loc main_arg1)) (m ((c.tc : Thread nD τ).loc main_arg4)) (m ((c.tc : Thread nD τ).loc main_arg5))) ?_
  blk_ext [idx t, rowAt, colAt]

theorem final_y0 : (dats m 0 c).arrAt 13 cfg0.N = (gradY 0 (m ((c.tc : Thread nD τ).loc main_arg0)) (m ((c.tc : Thread nD τ).loc main_arg4)) (m ((c.tc : Thread nD τ).loc main_arg5)) : Shape.Idx S2048x1024 → EReal) := by
  refine (dats m 0 c).arrAt_eq_of_covers 13 _ (by decide +kernel) fun t _ j => ?_
  blk_simp
  rw [after0_13, (left_rows m c t).2.2.2.1, branch0, val_y0]
  refine congrArg (gradY 0 (m ((c.tc : Thread nD τ).loc main_arg0)) (m ((c.tc : Thread nD τ).loc main_arg4)) (m ((c.tc : Thread nD τ).loc main_arg5))) ?_
  blk_ext [idx t, rowAt, colAt]

theorem final_b0 : (dats m 0 c).arrAt 16 cfg0.N = (gradB 0 (m ((c.tc : Thread nD τ).loc main_arg0)) (m ((c.tc : Thread nD τ).loc main_arg1)) (m ((c.tc : Thread nD τ).loc main_arg4)) (m ((c.tc : Thread nD τ).loc main_arg5)) : Shape.Idx S1x1024 → EReal) := by
  refine (dats m 0 c).arrAt_eq_of_covers 16 _ (by decide +kernel) fun t hf j => ?_
  have ht : t.val % 8 = 7 := (by decide +kernel : ∀ t : Fin cfg0.N, win0_16.flush t = true → t.val % 8 = 7) t hf
  blk_simp
  rw [after0_16]
  refine (grown (fun n h => (outsAt0 m c n h).2.2.2.2.2.2.1) (fun r n => gradZ 0 (m ((c.tc : Thread nD τ).loc main_arg0)) (m ((c.tc : Thread nD τ).loc main_arg1)) (m ((c.tc : Thread nD τ).loc main_arg4)) (m ((c.tc : Thread nD τ).loc main_arg5)) (ix2 r n)) ?_ ?_ t.val t.isLt j).trans ?_
  · intro t h j
    rw [left_A m c t h]
    exact (part0 ..).trans (sum_congr rfl fun r _ => val_z0 m c t (ix2 r (j 1)))
  · intro t h j
    rw [left_B m c t h]
    exact (added0 ..).trans (congrArg (_ + ·) ((part0 ..).trans (sum_congr rfl fun r _ => val_z0 m c t (ix2 r (j 1)))))
  · rw [ht]
    refine (sum_rowf _).trans (sum_congr rfl fun r _ => congrArg (fun n => gradZ 0 (m ((c.tc : Thread nD τ).loc main_arg0)) (m ((c.tc : Thread nD τ).loc main_arg1)) (m ((c.tc : Thread nD τ).loc main_arg4)) (m ((c.tc : Thread nD τ).loc main_arg5)) (ix2 r n)) (Fin.ext ?_))
    blk_simp [idx t, colAt]
    exact congrArg (· + _) (mul_comm 512 _)

theorem final_z1 : (dats m 0 c).arrAt 11 cfg0.N = (gradZ 1 (m ((c.tc : Thread nD τ).loc main_arg0)) (m ((c.tc : Thread nD τ).loc main_arg2)) (m ((c.tc : Thread nD τ).loc main_arg4)) (m ((c.tc : Thread nD τ).loc main_arg5)) : Shape.Idx S2048x1024 → EReal) := by
  refine (dats m 0 c).arrAt_eq_of_covers 11 _ (by decide +kernel) fun t _ j => ?_
  blk_simp
  rw [after0_11, (left_rows m c t).2.1]
  refine Eq.trans (show k0_pay22 (F := Ideal) _ _ _ j = k0_pay17 (F := Ideal) _ _ _ j from rfl) ?_
  rw [back1, val_z1]
  refine congrArg (gradZ 1 (m ((c.tc : Thread nD τ).loc main_arg0)) (m ((c.tc : Thread nD τ).loc main_arg2)) (m ((c.tc : Thread nD τ).loc main_arg4)) (m ((c.tc : Thread nD τ).loc main_arg5))) ?_
  blk_ext [idx t, rowAt, colAt]

theorem final_y1 : (dats m 0 c).arrAt 14 cfg0.N = (gradY 1 (m ((c.tc : Thread nD τ).loc main_arg0)) (m ((c.tc : Thread nD τ).loc main_arg4)) (m ((c.tc : Thread nD τ).loc main_arg5)) : Shape.Idx S2048x1024 → EReal) := by
  refine (dats m 0 c).arrAt_eq_of_covers 14 _ (by decide +kernel) fun t _ j => ?_
  blk_simp
  rw [after0_14, (left_rows m c t).2.2.2.2.1, branch1, val_y1]
  refine congrArg (gradY 1 (m ((c.tc : Thread nD τ).loc main_arg0)) (m ((c.tc : Thread nD τ).loc main_arg4)) (m ((c.tc : Thread nD τ).loc main_arg5))) ?_
  blk_ext [idx t, rowAt, colAt]

theorem final_b1 : (dats m 0 c).arrAt 17 cfg0.N = (gradB 1 (m ((c.tc : Thread nD τ).loc main_arg0)) (m ((c.tc : Thread nD τ).loc main_arg2)) (m ((c.tc : Thread nD τ).loc main_arg4)) (m ((c.tc : Thread nD τ).loc main_arg5)) : Shape.Idx S1x1024 → EReal) := by
  refine (dats m 0 c).arrAt_eq_of_covers 17 _ (by decide +kernel) fun t hf j => ?_
  have ht : t.val % 8 = 7 := (by decide +kernel : ∀ t : Fin cfg0.N, win0_17.flush t = true → t.val % 8 = 7) t hf
  blk_simp
  rw [after0_17]
  refine (grown (fun n h => (outsAt0 m c n h).2.2.2.2.2.2.2.1) (fun r n => gradZ 1 (m ((c.tc : Thread nD τ).loc main_arg0)) (m ((c.tc : Thread nD τ).loc main_arg2)) (m ((c.tc : Thread nD τ).loc main_arg4)) (m ((c.tc : Thread nD τ).loc main_arg5)) (ix2 r n)) ?_ ?_ t.val t.isLt j).trans ?_
  · intro t h j
    rw [left_A m c t h]
    exact (part1 ..).trans (sum_congr rfl fun r _ => val_z1 m c t (ix2 r (j 1)))
  · intro t h j
    rw [left_B m c t h]
    exact (added1 ..).trans (congrArg (_ + ·) ((part1 ..).trans (sum_congr rfl fun r _ => val_z1 m c t (ix2 r (j 1)))))
  · rw [ht]
    refine (sum_rowf _).trans (sum_congr rfl fun r _ => congrArg (fun n => gradZ 1 (m ((c.tc : Thread nD τ).loc main_arg0)) (m ((c.tc : Thread nD τ).loc main_arg2)) (m ((c.tc : Thread nD τ).loc main_arg4)) (m ((c.tc : Thread nD τ).loc main_arg5)) (ix2 r n)) (Fin.ext ?_))
    blk_simp [idx t, colAt]
    exact congrArg (· + _) (mul_comm 512 _)

theorem final_z2 : (dats m 0 c).arrAt 12 cfg0.N = (gradZ 2 (m ((c.tc : Thread nD τ).loc main_arg0)) (m ((c.tc : Thread nD τ).loc main_arg3)) (m ((c.tc : Thread nD τ).loc main_arg4)) (m ((c.tc : Thread nD τ).loc main_arg5)) : Shape.Idx S2048x1024 → EReal) := by
  refine (dats m 0 c).arrAt_eq_of_covers 12 _ (by decide +kernel) fun t _ j => ?_
  blk_simp
  rw [after0_12, (left_rows m c t).2.2.1]
  refine Eq.trans (show k0_pay23 (F := Ideal) _ _ _ j = k0_pay15 (F := Ideal) _ _ _ j from rfl) ?_
  rw [back2, val_z2]
  refine congrArg (gradZ 2 (m ((c.tc : Thread nD τ).loc main_arg0)) (m ((c.tc : Thread nD τ).loc main_arg3)) (m ((c.tc : Thread nD τ).loc main_arg4)) (m ((c.tc : Thread nD τ).loc main_arg5))) ?_
  blk_ext [idx t, rowAt, colAt]

theorem final_y2 : (dats m 0 c).arrAt 15 cfg0.N = (gradY 2 (m ((c.tc : Thread nD τ).loc main_arg0)) (m ((c.tc : Thread nD τ).loc main_arg4)) (m ((c.tc : Thread nD τ).loc main_arg5)) : Shape.Idx S2048x1024 → EReal) := by
  refine (dats m 0 c).arrAt_eq_of_covers 15 _ (by decide +kernel) fun t _ j => ?_
  blk_simp
  rw [after0_15, (left_rows m c t).2.2.2.2.2, branch2, val_y2]
  refine congrArg (gradY 2 (m ((c.tc : Thread nD τ).loc main_arg0)) (m ((c.tc : Thread nD τ).loc main_arg4)) (m ((c.tc : Thread nD τ).loc main_arg5))) ?_
  blk_ext [idx t, rowAt, colAt]

theorem final_b2 : (dats m 0 c).arrAt 18 cfg0.N = (gradB 2 (m ((c.tc : Thread nD τ).loc main_arg0)) (m ((c.tc : Thread nD τ).loc main_arg3)) (m ((c.tc : Thread nD τ).loc main_arg4)) (m ((c.tc : Thread nD τ).loc main_arg5)) : Shape.Idx S1x1024 → EReal) := by
  refine (dats m 0 c).arrAt_eq_of_covers 18 _ (by decide +kernel) fun t hf j => ?_
  have ht : t.val % 8 = 7 := (by decide +kernel : ∀ t : Fin cfg0.N, win0_18.flush t = true → t.val % 8 = 7) t hf
  blk_simp
  rw [after0_18]
  refine (grown (fun n h => (outsAt0 m c n h).2.2.2.2.2.2.2.2) (fun r n => gradZ 2 (m ((c.tc : Thread nD τ).loc main_arg0)) (m ((c.tc : Thread nD τ).loc main_arg3)) (m ((c.tc : Thread nD τ).loc main_arg4)) (m ((c.tc : Thread nD τ).loc main_arg5)) (ix2 r n)) ?_ ?_ t.val t.isLt j).trans ?_
  · intro t h j
    rw [left_A m c t h]
    exact (part2 ..).trans (sum_congr rfl fun r _ => val_z2 m c t (ix2 r (j 1)))
  · intro t h j
    rw [left_B m c t h]
    exact (added2 ..).trans (congrArg (_ + ·) ((part2 ..).trans (sum_congr rfl fun r _ => val_z2 m c t (ix2 r (j 1)))))
  · rw [ht]
    refine (sum_rowf _).trans (sum_congr rfl fun r _ => congrArg (fun n => gradZ 2 (m ((c.tc : Thread nD τ).loc main_arg0)) (m ((c.tc : Thread nD τ).loc main_arg3)) (m ((c.tc : Thread nD τ).loc main_arg4)) (m ((c.tc : Thread nD τ).loc main_arg5)) (ix2 r n)) (Fin.ext ?_))
    blk_simp [idx t, colAt]
    exact congrArg (· + _) (mul_comm 512 _)

end Cert.Rows.Merge

/-! ## The reference -/

namespace Cert.Rows.MergeRef
open Finset Idealize.ShloMosaic Idealize.ShloMosaic.TcCoe Idealize.SL.Sem Cert.MergeGradRefIdeal Cert.MergeGradRefIdeal.Gen
open Cert.Rows.Merge (zcol gateBack gateOn gradZ gradY gradB)

variable (z : FVec Ideal S2048x6656 .f32) (ya yb yc : FVec Ideal S2048x1024 .f32) (b : FVec Ideal S3x1024 .f32) (d : FVec Ideal S2048x1024 .f32)

/-- One at every entry. -/
def ones : FVec Ideal S2048x3x1024 .f32 := broadcastInDim S2048x3x1024 ![] bcast_S_S2048x3x1024 (constant S_ .f32 0x3F800000#32 : FVec Ideal S_ .f32)

/-- The three gates. -/
def gates : FVec Ideal S2048x3x1024 .f32 :=
  Host.divf ones (addf ones (Host.exp (Host.negf (addf (shapeCast _ (extractStridedSlice S2048x3072 ![0, 3584] z slices_S2048x6656_S2048x3072_0_3584) shapeCasts_S2048x3072_S2048x3x1024) (broadcastInDim S2048x3x1024 ![0, 1, 2] bcast_S1x3x1024_S2048x3x1024_0_1_2 (broadcastInDim S1x3x1024 ![1, 2] bcast_S3x1024_S1x3x1024_1_2 b))))))

/-- The gradient at one gate, as a slice of the three. -/
def slot (y : FVec Ideal S2048x1024 .f32) : FVec Ideal S2048x1x1024 .f32 :=
  broadcastInDim S2048x1x1024 ![0, 2] bcast_S2048x1024_S2048x1x1024_0_2 (mulf (shapeCast _ d shapeCasts_S2048x1024_S2048x1024) y)

/-- The gradient at the three gates. -/
def weights : FVec Ideal S2048x3x1024 .f32 :=
  addf (addf (pad S2048x3x1024 ![0, 2, 0] ![0, 0, 0] ![0, 0, 0] (slot d yc) (constant S_ .f32 0x00000000#32 : FVec Ideal S_ .f32) pads_S2048x1x1024_S2048x3x1024_000_200_000 h_S_)
    (pad S2048x3x1024 ![0, 1, 0] ![0, 1, 0] ![0, 0, 0] (slot d yb) (constant S_ .f32 0x00000000#32 : FVec Ideal S_ .f32) pads_S2048x1x1024_S2048x3x1024_000_110_000 h_S_))
    (pad S2048x3x1024 ![0, 0, 0] ![0, 2, 0] ![0, 0, 0] (slot d ya) (constant S_ .f32 0x00000000#32 : FVec Ideal S_ .f32) pads_S2048x1x1024_S2048x3x1024_000_020_000 h_S_)

/-- The gradient at what the gates' logistic functions read. -/
def back : FVec Ideal S2048x3x1024 .f32 := mulf (weights ya yb yc d) (mulf (gates z b) (subf ones (gates z b)))

theorem gates_eq (r : Fin 2048) (k : Fin 3) (n : Fin 1024) : gates z b (ix3 r k n) = Ideal.logistic (z (ix2 r (zcol k n)) + b (ix2 k n)) := by
  unfold gates ones
  rw [show zcol k n = ⟨3584 + (k.val * 1024 + n.val), by omega⟩ from Fin.ext (by simp only [zcol]; omega)]
  pointwise []
  rfl

theorem weights0 (r : Fin 2048) (n : Fin 1024) : weights ya yb yc d (ix3 r 0 n) = d (ix2 r n) * ya (ix2 r n) := by
  unfold weights slot
  pointwise []

theorem weights1 (r : Fin 2048) (n : Fin 1024) : weights ya yb yc d (ix3 r 1 n) = d (ix2 r n) * yb (ix2 r n) := by
  unfold weights slot
  pointwise []

theorem weights2 (r : Fin 2048) (n : Fin 1024) : weights ya yb yc d (ix3 r 2 n) = d (ix2 r n) * yc (ix2 r n) := by
  unfold weights slot
  pointwise []

theorem ones_eq (j : Shape.Idx S2048x3x1024) : ones j = 1 := by
  unfold ones
  pointwise []

theorem back0 (r : Fin 2048) (n : Fin 1024) : back z ya yb yc b d (ix3 r 0 n) = gateBack (z (ix2 r (zcol 0 n))) (b (ix2 0 n)) (ya (ix2 r n)) (d (ix2 r n)) := by
  unfold back gateBack
  pointwise [gates_eq, weights0, ones_eq]

theorem ref_z0 : truncf .bf16 (extractStridedSlice S2048x1024 ![0, 0] (shapeCast _ (back z ya yb yc b d) shapeCasts_S2048x3x1024_S2048x3072) slices_S2048x3072_S2048x1024_0_0) bitsLt_bf16_f32
    = (gradZ 0 z ya b d : Shape.Idx S2048x1024 → EReal) := by
  funext j
  idx_vars j
  pointwise []
  exact (congrArg₂ (fun k n => back z ya yb yc b d (ix3 j0 k n)) (Fin.ext (show _ = 0 by dsimp only; omega)) (Fin.ext (show _ = j1.val by dsimp only; try omega))).trans (back0 z ya yb yc b d j0 j1)

theorem ref_y0 : truncf .bf16 (mulf (shapeCast _ (extractStridedSlice S2048x1x1024 ![0, 0, 0] (gates z b) slices_S2048x3x1024_S2048x1x1024_0_0_0) shapeCasts_S2048x1x1024_S2048x1024) (shapeCast _ d shapeCasts_S2048x1024_S2048x1024)) bitsLt_bf16_f32
    = (gradY 0 z b d : Shape.Idx S2048x1024 → EReal) := by
  funext j
  idx_vars j
  pointwise [gates_eq]
  rfl

theorem ref_b0 : extractStridedSlice S1x1024 ![0, 0] (Host.reduceAdd (shapeCast _ (Host.reduceAdd (back z ya yb yc b d) (constant S_ .f32 0x00000000#32 : FVec Ideal S_ .f32) reducesTo_S2048x3x1024_S3x1024_d0 h_S_) shapeCasts_S3x1024_S1x3x1024) (constant S_ .f32 0x00000000#32 : FVec Ideal S_ .f32) reducesTo_S1x3x1024_S3x1024_d0 h_S_) slices_S3x1024_S1x1024_0_0
    = (gradB 0 z ya b d : Shape.Idx S1x1024 → EReal) := by
  funext j
  idx_vars j
  pointwise [back0]
  exact Fin.sum_univ_one _

theorem back1 (r : Fin 2048) (n : Fin 1024) : back z ya yb yc b d (ix3 r 1 n) = gateBack (z (ix2 r (zcol 1 n))) (b (ix2 1 n)) (yb (ix2 r n)) (d (ix2 r n)) := by
  unfold back gateBack
  pointwise [gates_eq, weights1, ones_eq]

theorem ref_z1 : truncf .bf16 (extractStridedSlice S2048x1024 ![0, 1024] (shapeCast _ (back z ya yb yc b d) shapeCasts_S2048x3x1024_S2048x3072) slices_S2048x3072_S2048x1024_0_1024) bitsLt_bf16_f32
    = (gradZ 1 z yb b d : Shape.Idx S2048x1024 → EReal) := by
  funext j
  idx_vars j
  pointwise []
  exact (congrArg₂ (fun k n => back z ya yb yc b d (ix3 j0 k n)) (Fin.ext (show _ = 1 by dsimp only; omega)) (Fin.ext (show _ = j1.val by dsimp only; try omega))).trans (back1 z ya yb yc b d j0 j1)

theorem ref_y1 : truncf .bf16 (mulf (shapeCast _ (extractStridedSlice S2048x1x1024 ![0, 1, 0] (gates z b) slices_S2048x3x1024_S2048x1x1024_0_1_0) shapeCasts_S2048x1x1024_S2048x1024) (shapeCast _ d shapeCasts_S2048x1024_S2048x1024)) bitsLt_bf16_f32
    = (gradY 1 z b d : Shape.Idx S2048x1024 → EReal) := by
  funext j
  idx_vars j
  pointwise [gates_eq]
  rfl

theorem ref_b1 : extractStridedSlice S1x1024 ![1, 0] (Host.reduceAdd (shapeCast _ (Host.reduceAdd (back z ya yb yc b d) (constant S_ .f32 0x00000000#32 : FVec Ideal S_ .f32) reducesTo_S2048x3x1024_S3x1024_d0 h_S_) shapeCasts_S3x1024_S1x3x1024) (constant S_ .f32 0x00000000#32 : FVec Ideal S_ .f32) reducesTo_S1x3x1024_S3x1024_d0 h_S_) slices_S3x1024_S1x1024_1_0
    = (gradB 1 z yb b d : Shape.Idx S1x1024 → EReal) := by
  funext j
  idx_vars j
  pointwise [back1]
  exact Fin.sum_univ_one _

theorem back2 (r : Fin 2048) (n : Fin 1024) : back z ya yb yc b d (ix3 r 2 n) = gateBack (z (ix2 r (zcol 2 n))) (b (ix2 2 n)) (yc (ix2 r n)) (d (ix2 r n)) := by
  unfold back gateBack
  pointwise [gates_eq, weights2, ones_eq]

theorem ref_z2 : truncf .bf16 (extractStridedSlice S2048x1024 ![0, 2048] (shapeCast _ (back z ya yb yc b d) shapeCasts_S2048x3x1024_S2048x3072) slices_S2048x3072_S2048x1024_0_2048) bitsLt_bf16_f32
    = (gradZ 2 z yc b d : Shape.Idx S2048x1024 → EReal) := by
  funext j
  idx_vars j
  pointwise []
  exact (congrArg₂ (fun k n => back z ya yb yc b d (ix3 j0 k n)) (Fin.ext (show _ = 2 by dsimp only; omega)) (Fin.ext (show _ = j1.val by dsimp only; try omega))).trans (back2 z ya yb yc b d j0 j1)

theorem ref_y2 : truncf .bf16 (mulf (shapeCast _ (extractStridedSlice S2048x1x1024 ![0, 2, 0] (gates z b) slices_S2048x3x1024_S2048x1x1024_0_2_0) shapeCasts_S2048x1x1024_S2048x1024) (shapeCast _ d shapeCasts_S2048x1024_S2048x1024)) bitsLt_bf16_f32
    = (gradY 2 z b d : Shape.Idx S2048x1024 → EReal) := by
  funext j
  idx_vars j
  pointwise [gates_eq]
  rfl

theorem ref_b2 : extractStridedSlice S1x1024 ![2, 0] (Host.reduceAdd (shapeCast _ (Host.reduceAdd (back z ya yb yc b d) (constant S_ .f32 0x00000000#32 : FVec Ideal S_ .f32) reducesTo_S2048x3x1024_S3x1024_d0 h_S_) shapeCasts_S3x1024_S1x3x1024) (constant S_ .f32 0x00000000#32 : FVec Ideal S_ .f32) reducesTo_S1x3x1024_S3x1024_d0 h_S_) slices_S3x1024_S1x1024_2_0
    = (gradB 2 z yc b d : Shape.Idx S1x1024 → EReal) := by
  funext j
  idx_vars j
  pointwise [back2]
  exact Fin.sum_univ_one _

end Cert.Rows.MergeRef
-- ==== Proof.BranchHeads.lean ====
/-
  The norm of each of eight heads in a row of 512 columns: the root mean square of 64 columns, taken over the whole row with the other
  columns set to zero.
-/
module
public import proofs.«01_k».proof.Proof.MergeArray
public import proofs.«01_k».proof.Proof.Coe
public import proofs.«01_k».proof.Proof.Gen.BranchIdeal.Frame
@[expose] public section
set_option maxRecDepth 16384
noncomputable section
namespace Cert.Rows.Branch
open Finset Idealize.ShloMosaic Idealize.ShloMosaic.TcCoe Idealize.SL.Sem Cert.BranchIdeal Cert.BranchIdeal.Gen

/-! ## Heads of a row -/

/-- The head of a column, its place in the head, and back. -/
def headOf (n : Fin 512) : Fin 8 := ⟨n.val / 64, by omega⟩
def laneOf (n : Fin 512) : Fin 64 := ⟨n.val % 64, by omega⟩
def headCol (h : Fin 8) (k : Fin 64) : Fin 512 := ⟨64 * h.val + k.val, by omega⟩

theorem headOf_col (h : Fin 8) (k : Fin 64) : headOf (headCol h k) = h := Fin.ext (by simp only [headOf, headCol]; omega)
theorem laneOf_col (h : Fin 8) (k : Fin 64) : laneOf (headCol h k) = k := Fin.ext (by simp only [laneOf, headCol]; omega)
theorem headCol_of (n : Fin 512) : headCol (headOf n) (laneOf n) = n := Fin.ext (by simp only [headOf, laneOf, headCol]; omega)

/-- A sum over a row in which only one head's columns count is the sum over that head. -/
theorem sum_head (f : Fin 512 → EReal) (h : Fin 8) : ∑ n, (if headOf n = h then f n else 0) = ∑ k, f (headCol h k) := by
  rw [← Finset.sum_filter]
  refine Finset.sum_bij' (fun n _ => laneOf n) (fun k _ => headCol h k) (fun _ _ => mem_univ _)
    (fun k _ => mem_filter.mpr ⟨mem_univ _, headOf_col h k⟩) (fun n hn => ?_) (fun k _ => laneOf_col h k) (fun n hn => ?_)
  · rw [← (mem_filter.mp hn).2, headCol_of]
  · rw [← (mem_filter.mp hn).2, headCol_of]

/-- The sum of the squares of a head, and the inverse of its root mean square. -/
def headSq (x : Fin 512 → EReal) (h : Fin 8) : EReal := ∑ k, x (headCol h k) * x (headCol h k)
def headScale (x : Fin 512 → EReal) (h : Fin 8) : EReal := Ideal.rsqrt (Ideal.div (headSq x h) (Ideal.ofBits .f32 0x42800000#32) + Ideal.ofBits .f32 0x358637BD#32)

/-- An entry over its head's root mean square, weighted. -/
def headNorm (x : Fin 512 → EReal) (g : Fin 64 → EReal) (n : Fin 512) : EReal := x n * headScale x (headOf n) * g (laneOf n)

/-- Dividing by 64 is multiplying by its inverse. -/
theorem div_64 (x : EReal) : x * Ideal.ofBits .f32 0x3C800000#32 = Ideal.div x (Ideal.ofBits .f32 0x42800000#32) := by
  rw [show Ideal.ofBits .f32 0x42800000#32 = ((64 : ℝ) : EReal) by simp [Ideal.ofBits, Ideal.ieee, -EReal.coe_mul]; norm_num,
    show Ideal.ofBits .f32 0x3C800000#32 = ((1 / 64 : ℝ) : EReal) by simp [Ideal.ofBits, Ideal.ieee, -EReal.coe_mul]; norm_num,
    Ideal.div_coe (by norm_num)]

/-! ## The steps over the heads -/

/-- The number of a column's head, as words. -/
theorem head_word (n : Fin 512) : IntOp.shrui .vector (BitVec.ofNat 32 n.val) 6#32 = BitVec.ofNat 32 (headOf n).val := by
  revert n
  decide +kernel

/-- The comparison of a column's head with a head. -/
theorem head_is (n : Fin 512) (h : Fin 8) : IntOp.cmpi .eq (IntOp.shrui .vector (BitVec.ofNat 32 n.val) 6#32) (BitVec.ofNat 32 h.val) = if headOf n = h then 1#1 else 0#1 := by
  rw [head_word, WordCmp.cmpi_eq_ofNat (by omega) (by omega), Cert.Attn.ofBool_ite]
  simp only [Fin.ext_iff]

theorem select_head (n : Fin 512) (h : Fin 8) (a b : EReal) :
    Scalar.select (IntOp.cmpi .eq (IntOp.shrui .vector (BitVec.ofNat 32 n.val) 6#32) (BitVec.ofNat 32 h.val)) a b = if headOf n = h then a else b := by
  rw [head_is]
  split <;> rfl

/-- The columns' heads. -/
def heads : IVec S512x512 32 := shrui (iota .tc S512x512 32 [1] iota_S512x512_d1_w32) (broadcast S512x512 6#32)

/-- The step of one head: its columns take the inverse of its root mean square, the others keep what they had. -/
def step (b : BitVec 32) (sq prev : FVec Ideal S512x512 .f32) : FVec Ideal S512x512 .f32 :=
  select (cmpi .eq heads (broadcast S512x512 b))
    (broadcastTo S512x512 (shapeCast S512x1 (rsqrt (addf (mulf (shapeCast S512x1 (multiReduction .add [1] S512
      (select (cmpi .eq heads (broadcast S512x512 b)) sq (broadcast S512x512 (Scalar.ofBits .f32 0x00000000#32))) 0x00000000#32 reduces_S512x512_S512 (.inl rfl) rfl) shapeCasts_S512_S512x1)
      (broadcast S512x1 (Scalar.ofBits .f32 0x3C800000#32))) (broadcast S512x1 (Scalar.ofBits .f32 0x358637BD#32)))) shapeCasts_S512x1_S512x1) broadcasts_S512x1_S512x512) prev

theorem step_eq (h : Fin 8) (x prev : FVec Ideal S512x512 .f32) (r n : Fin 512) :
    step (BitVec.ofNat 32 h.val) (mulf x x) prev (ix2 r n) = if headOf n = h then headScale (row x r) h else prev (ix2 r n) := by
  unfold step heads
  pointwise [select_head]
  rw [sum_head (fun n => x (ix2 r n) * x (ix2 r n)) h, div_64]
  rfl

/-- All eight steps. -/
def steps (x : FVec Ideal S512x512 .f32) : FVec Ideal S512x512 .f32 :=
  step 7#32 (mulf x x) (step 6#32 (mulf x x) (step 5#32 (mulf x x) (step 4#32 (mulf x x) (step 3#32 (mulf x x) (step 2#32 (mulf x x) (step 1#32 (mulf x x)
    (step 0#32 (mulf x x) (broadcast S512x512 (Scalar.ofBits .f32 0x00000000#32)))))))))

theorem steps_eq (x : FVec Ideal S512x512 .f32) (r n : Fin 512) : steps x (ix2 r n) = headScale (row x r) (headOf n) := by
  have e := fun (h : Fin 8) (prev : FVec Ideal S512x512 .f32) => step_eq h x prev r n
  unfold steps
  refine (e 7 _).trans ?_
  rw [show step 6#32 _ _ _ = _ from e 6 _, show step 5#32 _ _ _ = _ from e 5 _, show step 4#32 _ _ _ = _ from e 4 _, show step 3#32 _ _ _ = _ from e 3 _,
    show step 2#32 _ _ _ = _ from e 2 _, show step 1#32 _ _ _ = _ from e 1 _, show step 0#32 _ _ _ = _ from e 0 _]
  generalize headOf n = h
  fin_cases h <;> rfl

/-! ## The calls' payloads -/

/-- The weights of a head, repeated over the heads. -/
theorem weights_eq (g : Vec Ideal S1x64 .f32) (n : Fin 512) : k1_pay21 (F := Ideal) g (ix2 0 n) = g (ix2 0 (laneOf n)) := by
  exact concatenate_replicate_apply (t := S1x512) (s₁ := S1x64) 1 8 g concatenates_S1x64_S1x64_S1x64_S1x64_S1x64_S1x64_S1x64_S1x64_S1x512_d1 rfl (ix2 0 n) (ix2 0 (laneOf n)) rfl
    (fun b hb => by fin_cases b <;> first | rfl | exact absurd rfl hb)

theorem pay29_steps (x : Vec Ideal S512x512 .bf16) (g : Vec Ideal S1x64 .f32) :
    k1_pay29 (F := Ideal) (k1_pay20 (k1_pay2 x) (k1_pay6 g) (k1_pay16 k1_pay7 (k1_pay8 x) (k1_pay12 k1_pay7 (k1_pay8 x) (k1_pay9 x) k1_pay10 (k1_pay11 x)) (k1_pay13 k1_pay7) (k1_pay14 k1_pay7 (k1_pay8 x)) (k1_pay15 (F := Ideal))) (k1_pay17 k1_pay7) (k1_pay18 k1_pay7 (k1_pay8 x)) (k1_pay19 (F := Ideal)))
      = truncf .bf16 (mulf (mulf (mulf (k1_pay2 x) (steps (k1_pay2 x))) (broadcastTo S512x512 (k1_pay6 (F := Ideal) g) broadcasts_S1x512_S512x512)) (broadcast S512x512 (Scalar.ofBits .f32 0x3E000000#32))) bitsLt_bf16_f32 := rfl

theorem pay30_steps (x : Vec Ideal S512x512 .bf16) (g : Vec Ideal S1x64 .f32) :
    k1_pay30 (F := Ideal) (k1_pay3 x) (k1_pay21 (k1_pay5 g)) k1_pay22 (k1_pay23 (k1_pay3 x)) (k1_pay26 k1_pay22 (k1_pay23 (k1_pay3 x)) (k1_pay24 (k1_pay3 x)) k1_pay25) (k1_pay27 k1_pay22) (k1_pay28 k1_pay22 (k1_pay23 (k1_pay3 x)))
      = truncf .bf16 (mulf (mulf (k1_pay3 x) (steps (k1_pay3 x))) (broadcastTo S512x512 (k1_pay21 (F := Ideal) (k1_pay5 g)) broadcasts_S1x512_S512x512)) bitsLt_bf16_f32 := rfl

theorem pay2_eq (x : Vec Ideal S512x512 .bf16) : k1_pay2 (F := Ideal) x = x := by
  funext j
  unfold k1_pay2
  idx_vars j
  pointwise []

theorem pay3_eq (x : Vec Ideal S512x512 .bf16) : k1_pay3 (F := Ideal) x = x := pay2_eq x

theorem pay5_eq (g : Vec Ideal S1x64 .f32) : k1_pay5 (F := Ideal) g = g := by
  funext j
  unfold k1_pay5
  idx_vars j
  pointwise []

theorem pay6_eq (g : Vec Ideal S1x64 .f32) : k1_pay6 (F := Ideal) g = k1_pay21 (F := Ideal) g := congrArg (k1_pay21 (F := Ideal)) (pay5_eq g)

theorem q_point (x : Vec Ideal S512x512 .bf16) (g : Vec Ideal S1x64 .f32) (j : Shape.Idx S512x512) :
    k1_pay29 (F := Ideal) (k1_pay20 (k1_pay2 x) (k1_pay6 g) (k1_pay16 k1_pay7 (k1_pay8 x) (k1_pay12 k1_pay7 (k1_pay8 x) (k1_pay9 x) k1_pay10 (k1_pay11 x)) (k1_pay13 k1_pay7) (k1_pay14 k1_pay7 (k1_pay8 x)) (k1_pay15 (F := Ideal))) (k1_pay17 k1_pay7) (k1_pay18 k1_pay7 (k1_pay8 x)) (k1_pay19 (F := Ideal))) j
      = headNorm (row x (j 0)) (row g 0) (j 1) * Ideal.ofBits .f32 0x3E000000#32 := by
  rw [pay29_steps, pay2_eq, pay6_eq]
  idx_vars j
  pointwise [steps_eq, weights_eq]
  rfl

theorem k_point (x : Vec Ideal S512x512 .bf16) (g : Vec Ideal S1x64 .f32) (j : Shape.Idx S512x512) :
    k1_pay30 (F := Ideal) (k1_pay3 x) (k1_pay21 (k1_pay5 g)) k1_pay22 (k1_pay23 (k1_pay3 x)) (k1_pay26 k1_pay22 (k1_pay23 (k1_pay3 x)) (k1_pay24 (k1_pay3 x)) k1_pay25) (k1_pay27 k1_pay22) (k1_pay28 k1_pay22 (k1_pay23 (k1_pay3 x))) j
      = headNorm (row x (j 0)) (row g 0) (j 1) := by
  rw [pay30_steps, pay3_eq, pay5_eq]
  idx_vars j
  pointwise [steps_eq, weights_eq]
  rfl

end Cert.Rows.Branch
-- ==== Proof.HeadRows.lean ====
/-
  The gradient of the norms of eight heads in a row of 512 columns: each head's part taken over the whole row, with the other columns
  set to zero.
-/
module
public import proofs.«01_k».proof.Proof.BranchHeads
public import proofs.«01_k».proof.Proof.Gen.HeadGradIdeal.Skeleton
@[expose] public section
set_option maxRecDepth 16384
noncomputable section
namespace Cert.Rows.Head
open Finset Idealize.ShloMosaic Idealize.ShloMosaic.TcCoe Idealize.SL.Sem Cert.HeadGradIdeal Cert.HeadGradIdeal.Gen
open Cert.Rows.Branch (headOf laneOf headCol headOf_col laneOf_col headCol_of sum_head headSq headScale div_64 select_head heads steps steps_eq)

/-! ## A head's gradient, of one row -/

/-- The mean of a head's squares, and the small constant added to it. -/
def headMean (x : Fin 512 → EReal) (h : Fin 8) : EReal := Ideal.div (headSq x h) (Ideal.ofBits .f32 0x42800000#32) + Ideal.ofBits .f32 0x358637BD#32

/-- What the gradient at the mean contributes at the head's entries, before the factor of the entry itself; `v` is the row times the
    gradient that reaches it. -/
def headCoef (x v : Fin 512 → EReal) (h : Fin 8) : EReal :=
  ∑ _ : Fin 1, Ideal.div ((∑ k, v (headCol h k)) * (Ideal.ofBits .f32 0xBF000000#32 * Ideal.div (headScale x h) (headMean x h))) (Ideal.ofBits .f32 0x42800000#32)

/-- The gradient at a row's entry, from the gradient `u` at the entries over their root mean squares. -/
def headBack (x u : Fin 512 → EReal) (n : Fin 512) : EReal :=
  u n * headScale x (headOf n) + x n * headCoef x (fun k => x k * u k) (headOf n) + headCoef x (fun k => x k * u k) (headOf n) * x n

/-- A row's part of the gradient at a head's weight. -/
def headPart (x d : Fin 512 → EReal) (k : Fin 64) : EReal := ∑ h, x (headCol h k) * headScale x h * d (headCol h k)

/-! ## The steps over the heads -/

/-- The columns of a head. -/
def isHead (h : Fin 8) : IVec S512x512 1 := cmpi .eq heads (broadcast S512x512 (BitVec.ofNat 32 h.val))

/-- Zero everywhere. -/
def zeros : FVec Ideal S512x512 .f32 := broadcast S512x512 (Scalar.ofBits .f32 0x00000000#32)

/-- A head's sum along the rows. -/
def along (h : Fin 8) (v : FVec Ideal S512x512 .f32) : FVec Ideal S512x1 .f32 :=
  shapeCast S512x1 (multiReduction .add [1] S512 (select (isHead h) v zeros) 0x00000000#32 reduces_S512x512_S512 (.inl rfl) rfl) shapeCasts_S512_S512x1

/-- The means of a head's squares. -/
def means (h : Fin 8) (x : FVec Ideal S512x512 .f32) : FVec Ideal S512x1 .f32 :=
  addf (mulf (along h (mulf x x)) (broadcast S512x1 (Scalar.ofBits .f32 0x3C800000#32))) (broadcast S512x1 (Scalar.ofBits .f32 0x358637BD#32))

/-- A head's part of the gradient at the means, on its own columns. -/
def part (h : Fin 8) (x v : FVec Ideal S512x512 .f32) : FVec Ideal S512x512 .f32 :=
  select (isHead h) (broadcastTo S512x512 (shapeCast S512x1 (multiReduction .add [1] S512 (mulf (mulf (along h v)
    (mulf (broadcast S512x1 (Scalar.ofBits .f32 0xBF000000#32)) (divf (rsqrt (means h x)) (means h x)))) (broadcast S512x1 (Scalar.ofBits .f32 0x3C800000#32)))
    0x00000000#32 reduces_S512x1_S512 (.inl rfl) rfl) shapeCasts_S512_S512x1) broadcasts_S512x1_S512x512) zeros

/-- A head's columns set to zero. -/
def clear (h : Fin 8) (v : FVec Ideal S512x512 .f32) : FVec Ideal S512x512 .f32 := select (isHead h) zeros v

/-- The parts of the heads, from the last to the first. -/
def parts (x v : FVec Ideal S512x512 .f32) : FVec Ideal S512x512 .f32 :=
  addf (addf (addf (addf (addf (addf (addf (part 7 x v) (part 6 x (clear 7 v))) (part 5 x (clear 6 (clear 7 v)))) (part 4 x (clear 5 (clear 6 (clear 7 v)))))
    (part 3 x (clear 4 (clear 5 (clear 6 (clear 7 v)))))) (part 2 x (clear 3 (clear 4 (clear 5 (clear 6 (clear 7 v)))))))
    (part 1 x (clear 2 (clear 3 (clear 4 (clear 5 (clear 6 (clear 7 v)))))))) (part 0 x (clear 1 (clear 2 (clear 3 (clear 4 (clear 5 (clear 6 (clear 7 v))))))))

/-- The gradient at the rows. -/
def back (x u : FVec Ideal S512x512 .f32) : FVec Ideal S512x512 .f32 :=
  addf (addf (mulf u (steps x)) (mulf x (parts x (mulf x u)))) (mulf (parts x (mulf x u)) x)

theorem isHead_select (h : Fin 8) (a b : FVec Ideal S512x512 .f32) (r n : Fin 512) : select (isHead h) a b (ix2 r n) = if headOf n = h then a (ix2 r n) else b (ix2 r n) := by
  unfold isHead heads
  pointwise [select_head]

theorem zeros_eq (j : Shape.Idx S512x512) : zeros j = 0 := by
  unfold zeros
  pointwise []

theorem along_eq (h : Fin 8) (v : FVec Ideal S512x512 .f32) (r : Fin 512) (i : Fin 1) : along h v (ix2 r i) = ∑ k, v (ix2 r (headCol h k)) := by
  refine Eq.trans ?_ (sum_head (fun n => v (ix2 r n)) h)
  unfold along
  pointwise [isHead_select, zeros_eq]

theorem means_eq (h : Fin 8) (x : FVec Ideal S512x512 .f32) (r : Fin 512) (i : Fin 1) : means h x (ix2 r i) = headMean (row x r) h := by
  unfold means
  pointwise [along_eq]
  rw [div_64]
  rfl

theorem part_eq (h : Fin 8) (x v : FVec Ideal S512x512 .f32) (r n : Fin 512) : part h x v (ix2 r n) = if headOf n = h then headCoef (row x r) (row v r) h else 0 := by
  unfold part
  rw [isHead_select, zeros_eq]
  refine congrArg (fun a => if headOf n = h then a else 0) ?_
  pointwise [along_eq, means_eq]
  simp only [div_64]
  rfl

theorem clear_eq (h : Fin 8) (v : FVec Ideal S512x512 .f32) (r n : Fin 512) : clear h v (ix2 r n) = if headOf n = h then 0 else v (ix2 r n) := by
  unfold clear
  rw [isHead_select, zeros_eq]

/-- Setting another head's columns to zero does not change a head's part. -/
theorem part_clear (h i : Fin 8) (hi : h ≠ i) (x v : FVec Ideal S512x512 .f32) : part h x (clear i v) = part h x v := by
  funext j
  idx_vars j
  rw [part_eq, part_eq]
  refine congrArg (fun a => if headOf j1 = h then a else 0) ?_
  have e : ∀ k, row (clear i v) j0 (headCol h k) = row v j0 (headCol h k) := fun k => by
    refine (clear_eq i v j0 (headCol h k)).trans ?_
    rw [headOf_col, if_neg hi]
    rfl
  unfold headCoef
  simp only [e]

theorem parts_eq (x v : FVec Ideal S512x512 .f32) (r n : Fin 512) : parts x v (ix2 r n) = headCoef (row x r) (row v r) (headOf n) := by
  unfold parts
  simp only [part_clear _ _ (by decide : (6 : Fin 8) ≠ 7), part_clear _ _ (by decide : (5 : Fin 8) ≠ 7), part_clear _ _ (by decide : (5 : Fin 8) ≠ 6),
    part_clear _ _ (by decide : (4 : Fin 8) ≠ 7), part_clear _ _ (by decide : (4 : Fin 8) ≠ 6), part_clear _ _ (by decide : (4 : Fin 8) ≠ 5),
    part_clear _ _ (by decide : (3 : Fin 8) ≠ 7), part_clear _ _ (by decide : (3 : Fin 8) ≠ 6), part_clear _ _ (by decide : (3 : Fin 8) ≠ 5), part_clear _ _ (by decide : (3 : Fin 8) ≠ 4),
    part_clear _ _ (by decide : (2 : Fin 8) ≠ 7), part_clear _ _ (by decide : (2 : Fin 8) ≠ 6), part_clear _ _ (by decide : (2 : Fin 8) ≠ 5), part_clear _ _ (by decide : (2 : Fin 8) ≠ 4), part_clear _ _ (by decide : (2 : Fin 8) ≠ 3),
    part_clear _ _ (by decide : (1 : Fin 8) ≠ 7), part_clear _ _ (by decide : (1 : Fin 8) ≠ 6), part_clear _ _ (by decide : (1 : Fin 8) ≠ 5), part_clear _ _ (by decide : (1 : Fin 8) ≠ 4), part_clear _ _ (by decide : (1 : Fin 8) ≠ 3), part_clear _ _ (by decide : (1 : Fin 8) ≠ 2),
    part_clear _ _ (by decide : (0 : Fin 8) ≠ 7), part_clear _ _ (by decide : (0 : Fin 8) ≠ 6), part_clear _ _ (by decide : (0 : Fin 8) ≠ 5), part_clear _ _ (by decide : (0 : Fin 8) ≠ 4), part_clear _ _ (by decide : (0 : Fin 8) ≠ 3), part_clear _ _ (by decide : (0 : Fin 8) ≠ 2), part_clear _ _ (by decide : (0 : Fin 8) ≠ 1)]
  pointwise [part_eq]
  generalize headOf n = h
  fin_cases h <;> simp

theorem back_eq (x u : FVec Ideal S512x512 .f32) (r n : Fin 512) : back x u (ix2 r n) = headBack (row x r) (row u r) n := by
  have e : row (mulf x u) r = fun k => row x r k * row u r k := funext fun k => by
    unfold row
    pointwise []
  unfold back headBack
  rw [← e]
  pointwise [steps_eq, parts_eq]
  rfl

/-! ## The weights -/

/-- The weights of a head, repeated over the heads, and that on every row. -/
def repeated (g : FVec Ideal S1x64 .f32) : FVec Ideal S1x512 .f32 :=
  concatenate S1x512 1 [⟨S1x64, g⟩, ⟨S1x64, g⟩, ⟨S1x64, g⟩, ⟨S1x64, g⟩, ⟨S1x64, g⟩, ⟨S1x64, g⟩, ⟨S1x64, g⟩, ⟨S1x64, g⟩] concatenates_S1x64_S1x64_S1x64_S1x64_S1x64_S1x64_S1x64_S1x64_S1x512_d1
def onRows (g : FVec Ideal S1x64 .f32) : FVec Ideal S512x512 .f32 := broadcastTo S512x512 (repeated g) broadcasts_S1x512_S512x512

theorem repeated_eq (g : FVec Ideal S1x64 .f32) (n : Fin 512) : repeated g (ix2 0 n) = g (ix2 0 (laneOf n)) := by
  exact concatenate_replicate_apply (t := S1x512) (s₁ := S1x64) 1 8 g concatenates_S1x64_S1x64_S1x64_S1x64_S1x64_S1x64_S1x64_S1x64_S1x512_d1 rfl (ix2 0 n) (ix2 0 (laneOf n)) rfl
    (fun b hb => by fin_cases b <;> first | rfl | exact absurd rfl hb)

theorem onRows_eq (g : FVec Ideal S1x64 .f32) (r n : Fin 512) : onRows g (ix2 r n) = g (ix2 0 (laneOf n)) := by
  unfold onRows
  pointwise [repeated_eq]

/-- The heads' columns of a row added up. -/
def folded (v : FVec Ideal S1x512 .f32) : FVec Ideal S1x64 .f32 := k0_pay115 v

theorem folded_eq (v : FVec Ideal S1x512 .f32) (k : Fin 64) : folded v (ix2 0 k) = ∑ h : Fin 8, v (ix2 0 (headCol h k)) := by
  rw [Fin.sum_univ_eight, show headCol 0 k = ⟨k.val, by omega⟩ from Fin.ext (by simp [headCol])]
  unfold folded k0_pay115
  pointwise []
  rfl

/-- The gradient at the weights. -/
def weights (x d : FVec Ideal S512x512 .f32) : FVec Ideal S1x64 .f32 :=
  folded (shapeCast S1x512 (multiReduction .add [0] S512 (mulf (mulf x (steps x)) d) 0x00000000#32 reduces_S512x512_S512_2 (.inl rfl) rfl) shapeCasts_S512_S1x512)

theorem weights_eq (x d : FVec Ideal S512x512 .f32) (k : Fin 64) : weights x d (ix2 0 k) = ∑ r, headPart (row x r) (row d r) k := by
  unfold weights
  rw [folded_eq]
  unfold headPart
  rw [Finset.sum_comm]
  refine sum_congr rfl fun h _ => ?_
  pointwise [steps_eq, headOf_col]
  rfl

end Cert.Rows.Head
-- ==== Proof.HeadArray.lean ====
/-
  The arrays that the gradient of the norms of the queries and the keys leaves.
-/
module
public import proofs.«01_k».proof.Proof.HeadRows
public import Idealize.ShloMosaic.Lib.Pipeline.ValueKit
public import proofs.«01_k».proof.Proof.Gen.HeadGradIdeal.Value
@[expose] public section
set_option maxRecDepth 16384
noncomputable section
namespace Cert.Rows.Head
open Finset Idealize.ShloMosaic Idealize.ShloMosaic.TcCoe Idealize.ShloMosaic.Tactic Idealize.SL.Sem Cert.HeadGradIdeal Cert.HeadGradIdeal.Gen
open Idealize.ShloMosaic.Pipeline (Dat)
open Cert.Rows.Branch (headOf laneOf headCol headOf_col laneOf_col headCol_of)

/-! ## A point's arithmetic -/

section Point
variable (x : Vec Ideal S512x512 .bf16) (g : Vec Ideal S1x64 .f32) (d : Vec Ideal S512x512 .f32)

/-- The gradients of the queries, scaled. -/
def scaled : FVec Ideal S512x512 .f32 := mulf d (broadcast S512x512 (Scalar.ofBits .f32 0x3E000000#32))

/-- A point's gradients at the rows, and its rows' part of the gradients at the weights. -/
def gradQ : FVec Ideal S512x512 .bf16 := truncf .bf16 (back (k0_pay4 x) (mulf (scaled d) (onRows (k0_pay6 g)))) bitsLt_bf16_f32
def gradK : FVec Ideal S512x512 .bf16 := truncf .bf16 (back (k0_pay5 x) (mulf d (onRows (k0_pay6 g)))) bitsLt_bf16_f32
def partQ : FVec Ideal S1x64 .f32 := weights (k0_pay4 x) (scaled d)
def partK : FVec Ideal S1x64 .f32 := weights (k0_pay5 x) d

end Point

/-! ## What the points leave -/

variable (c : Dev nD)

/-! ## A point's arithmetic, entry by entry -/

section Entries
variable (x : Vec Ideal S512x512 .bf16) (g : Vec Ideal S1x64 .f32) (d : Vec Ideal S512x512 .f32)

theorem pay4_eq : k0_pay4 x = (x : Shape.Idx S512x512 → EReal) := by
  funext j
  unfold k0_pay4
  idx_vars j
  pointwise []

theorem pay5_eq : k0_pay5 x = (x : Shape.Idx S512x512 → EReal) := by
  funext j
  unfold k0_pay5
  idx_vars j
  pointwise []

theorem pay6_eq : k0_pay6 g = (g : Shape.Idx S1x64 → EReal) := by
  funext j
  unfold k0_pay6
  idx_vars j
  pointwise []

theorem pay1_eq : k0_pay1 d = (d : Shape.Idx S512x512 → EReal) := by
  funext j
  unfold k0_pay1
  idx_vars j
  pointwise []

theorem added2 (v w : FVec Ideal S1x64 .f32) (k : Fin 64) : k0_pay2 v w (ix2 0 k) = w (ix2 0 k) + v (ix2 0 k) := by
  unfold k0_pay2
  pointwise []

theorem added3 (v w : FVec Ideal S1x64 .f32) (k : Fin 64) : k0_pay3 v w (ix2 0 k) = w (ix2 0 k) + v (ix2 0 k) := by
  unfold k0_pay3
  pointwise []

theorem row_scaled (r : Fin 512) : row (scaled d) r = fun k => row (M := 512) (N := 512) d r k * Ideal.ofBits .f32 0x3E000000#32 := by
  funext k
  unfold row scaled
  pointwise []

theorem gradQ_eq (r n : Fin 512) : gradQ x g d (ix2 r n)
    = headBack (row (M := 512) (N := 512) x r) (fun k => row (M := 512) (N := 512) d r k * Ideal.ofBits .f32 0x3E000000#32 * row (M := 1) (N := 64) g 0 (laneOf k)) n := by
  have e : row (mulf (scaled d) (onRows (k0_pay6 g))) r = fun k => row (M := 512) (N := 512) d r k * Ideal.ofBits .f32 0x3E000000#32 * row (M := 1) (N := 64) g 0 (laneOf k) := by
    funext k
    unfold scaled row
    rw [pay6_eq]
    pointwise [onRows_eq]
  unfold gradQ
  rw [pay4_eq]
  pointwise [back_eq, e]

theorem gradK_eq (r n : Fin 512) : gradK x g d (ix2 r n)
    = headBack (row (M := 512) (N := 512) x r) (fun k => row (M := 512) (N := 512) d r k * row (M := 1) (N := 64) g 0 (laneOf k)) n := by
  have e : row (mulf d (onRows (k0_pay6 g))) r = fun k => row (M := 512) (N := 512) d r k * row (M := 1) (N := 64) g 0 (laneOf k) := by
    funext k
    unfold row
    rw [pay6_eq]
    pointwise [onRows_eq]
  unfold gradK
  rw [pay5_eq]
  pointwise [back_eq, e]

theorem partQ_eq (k : Fin 64) : partQ x d (ix2 0 k)
    = ∑ r : Fin 512, headPart (row (M := 512) (N := 512) x r) (fun k => row (M := 512) (N := 512) d r k * Ideal.ofBits .f32 0x3E000000#32) k := by
  unfold partQ
  rw [weights_eq, pay4_eq]
  exact sum_congr rfl fun r _ => by rw [row_scaled]

theorem partK_eq (k : Fin 64) : partK x d (ix2 0 k) = ∑ r : Fin 512, headPart (row (M := 512) (N := 512) x r) (row (M := 512) (N := 512) d r) k := by
  unfold partK
  rw [weights_eq, pay5_eq]

end Entries

/-! ## What the arrays are to hold -/

/-- Column `n` of the `i`-th 512 columns of the input projection. -/
def part512 (i : Fin 13) (n : Fin 512) : Fin 6656 := ⟨512 * i.val + n.val, by omega⟩

section Targets
variable (z : Shape.Idx S2048x6656 → EReal) (g : S64.Idx → EReal) (d : Shape.Idx S2048x512 → EReal)

/-- A row of the `i`-th 512 columns, and a row of the gradients of the queries with their scale. -/
def rowAt (i : Fin 13) (r : Fin 2048) : Fin 512 → EReal := fun k => z (ix2 r (part512 i k))
def scaledRow (r : Fin 2048) : Fin 512 → EReal := fun k => row d r k * Ideal.ofBits .f32 0x3E000000#32

/-- The gradients at the queries and at the keys. -/
def gradsQ : Shape.Idx S2048x512 → EReal := fun j => headBack (rowAt z 4 (j 0)) (fun k => scaledRow d (j 0) k * g (ix1 (laneOf k))) (j 1)
def gradsK : Shape.Idx S2048x512 → EReal := fun j => headBack (rowAt z 5 (j 0)) (fun k => row d (j 0) k * g (ix1 (laneOf k))) (j 1)

/-- The gradients at the two norms' weights. -/
def weightsQ : Shape.Idx S1x64 → EReal := fun j => ∑ r : Fin 2048, headPart (rowAt z 4 r) (scaledRow d r) (j 1)
def weightsK : Shape.Idx S1x64 → EReal := fun j => ∑ r : Fin 2048, headPart (rowAt z 5 r) (row d r) (j 1)

end Targets

/-! ## The blocks and the arrays they are cut from -/

variable (m : (ℓ : Loc nD τ sig) → Buf (Elt Ideal) ℓ)

theorem idx : ∀ t : Fin cfg0.N, win0_0.index t = ![t.val, 4] ∧ win0_1.index t = ![t.val, 5] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![0, 0] ∧ win0_12.index t = ![0, 0] := by decide +kernel

theorem bound (t : Fin cfg0.N) (r : Fin 512) : 512 * t.val + r.val < 2048 := by
  have h := t.isLt
  have : cfg0.N = 4 := rfl
  omega

theorem V_z : V m c main_v0 = (m ((c.tc : Thread nD τ).loc main_arg0) : Shape.Idx S2048x6656 → EReal) := by
  have e : V m c main_v0 = (truncf .bf16 (m ((c.tc : Thread nD τ).loc main_arg0) : FVec Ideal S2048x6656 .f32) bitsLt_bf16_f32 : FVec Ideal S2048x6656 .bf16) := by
    unfold V
    after_results
  rw [e]
  funext j
  idx_vars j
  pointwise []

theorem V_g : V m c main_v1 = (fun j => m ((c.tc : Thread nD τ).loc main_arg1) (ix1 (j 1)) : Shape.Idx S1x64 → EReal) := by
  have e : V m c main_v1 = broadcastInDim S1x64 ![1] bcast_S64_S1x64_1 (m ((c.tc : Thread nD τ).loc main_arg1)) := by
    unfold V
    after_results
  rw [e]
  funext j
  idx_vars j
  pointwise []

theorem V_h : V m c main_v2 = (fun j => m ((c.tc : Thread nD τ).loc main_arg2) (ix1 (j 1)) : Shape.Idx S1x64 → EReal) := by
  have e : V m c main_v2 = broadcastInDim S1x64 ![1] bcast_S64_S1x64_1 (m ((c.tc : Thread nD τ).loc main_arg2)) := by
    unfold V
    after_results
  rw [e]
  funext j
  idx_vars j
  pointwise []

theorem row_q (t : Fin cfg0.N) (r : Fin 512) : row (M := 512) (N := 512) (iblk m c 0 t) r = rowAt (m ((c.tc : Thread nD τ).loc main_arg0)) 4 ⟨512 * t.val + r.val, bound t r⟩ := by
  funext k
  unfold row rowAt
  rw [← V_z c m]
  blk_ext [iblk, idx t, part512]

theorem row_k (t : Fin cfg0.N) (r : Fin 512) : row (M := 512) (N := 512) (iblk m c 1 t) r = rowAt (m ((c.tc : Thread nD τ).loc main_arg0)) 5 ⟨512 * t.val + r.val, bound t r⟩ := by
  funext k
  unfold row rowAt
  rw [← V_z c m]
  blk_ext [iblk, idx t, part512]

theorem row_g (t : Fin cfg0.N) : row (M := 1) (N := 64) (iblk m c 3 t) 0 = fun k => m ((c.tc : Thread nD τ).loc main_arg1) (ix1 k) := by
  funext k
  refine Eq.trans ?_ (congrFun (V_g c m) (ix2 0 k))
  unfold row
  blk_ext [iblk, idx t]

theorem row_h (t : Fin cfg0.N) : row (M := 1) (N := 64) (iblk m c 4 t) 0 = fun k => m ((c.tc : Thread nD τ).loc main_arg2) (ix1 k) := by
  funext k
  refine Eq.trans ?_ (congrFun (V_h c m) (ix2 0 k))
  unfold row
  blk_ext [iblk, idx t]

theorem row_dq (t : Fin cfg0.N) (r : Fin 512) :
    row (M := 512) (N := 512) (iblk m c 5 t) r = row (M := 2048) (N := 512) (m ((c.tc : Thread nD τ).loc main_arg3)) ⟨512 * t.val + r.val, bound t r⟩ := by
  funext k
  unfold row
  rw [← V_main_arg3 m c]
  blk_ext [iblk, idx t]

theorem row_dk (t : Fin cfg0.N) (r : Fin 512) :
    row (M := 512) (N := 512) (iblk m c 6 t) r = row (M := 2048) (N := 512) (m ((c.tc : Thread nD τ).loc main_arg4)) ⟨512 * t.val + r.val, bound t r⟩ := by
  funext k
  unfold row
  rw [← V_main_arg4 m c]
  blk_ext [iblk, idx t]

theorem row_dv (t : Fin cfg0.N) (r : Fin 512) :
    row (M := 512) (N := 512) (iblk m c 7 t) r = row (M := 2048) (N := 512) (m ((c.tc : Thread nD τ).loc main_arg5)) ⟨512 * t.val + r.val, bound t r⟩ := by
  funext k
  unfold row
  rw [← V_main_arg5 m c]
  blk_ext [iblk, idx t]

/-! ## What the points leave, from the whole arrays -/

/-- What the first point leaves. -/
theorem first_point (h : 0 < cfg0.N) : outsAt0 m c 0 h = (gradQ (iblk m c 0 ⟨0, h⟩) (iblk m c 3 ⟨0, h⟩) (iblk m c 5 ⟨0, h⟩),
    gradK (iblk m c 1 ⟨0, h⟩) (iblk m c 4 ⟨0, h⟩) (iblk m c 6 ⟨0, h⟩),
    k0_pay1 (iblk m c 7 ⟨0, h⟩),
    partQ (iblk m c 0 ⟨0, h⟩) (iblk m c 5 ⟨0, h⟩),
    partK (iblk m c 1 ⟨0, h⟩) (iblk m c 6 ⟨0, h⟩)) := by
  rw [show outsAt0 m c 0 h = _ from outsAt0_A m c ⟨0, h⟩ rfl (by simp) rfl (by simp)]
  refine Prod.ext ?_ (Prod.ext ?_ (Prod.ext ?_ (Prod.ext ?_ ?_)))
  · frame_out
    rfl
  · frame_out
    rfl
  · frame_out
  · frame_out
    rfl
  · frame_out
    rfl

/-- What another point leaves, over what the point before left. -/
theorem next_point (n : ℕ) (h : n + 1 < cfg0.N) : outsAt0 m c (n + 1) h = (gradQ (iblk m c 0 ⟨n + 1, h⟩) (iblk m c 3 ⟨n + 1, h⟩) (iblk m c 5 ⟨n + 1, h⟩),
    gradK (iblk m c 1 ⟨n + 1, h⟩) (iblk m c 4 ⟨n + 1, h⟩) (iblk m c 6 ⟨n + 1, h⟩),
    k0_pay1 (iblk m c 7 ⟨n + 1, h⟩),
    k0_pay2 (partQ (iblk m c 0 ⟨n + 1, h⟩) (iblk m c 5 ⟨n + 1, h⟩)) (outsAt0 m c n (Nat.lt_of_succ_lt h)).2.2.2.1,
    k0_pay3 (partK (iblk m c 1 ⟨n + 1, h⟩) (iblk m c 6 ⟨n + 1, h⟩)) (outsAt0 m c n (Nat.lt_of_succ_lt h)).2.2.2.2) := by
  have hn : ¬(n + 1) % 4 = 0 := by have : cfg0.N = 4 := rfl; omega
  rw [show outsAt0 m c (n + 1) h = _ from outsAt0_B m c ⟨n + 1, h⟩ hn (by simp) hn (by simp)]
  refine Prod.ext ?_ (Prod.ext ?_ (Prod.ext ?_ (Prod.ext ?_ ?_)))
  · frame_out
    rfl
  · frame_out
    rfl
  · frame_out
  · frame_out
    rfl
  · frame_out
    rfl

/-- What a point leaves at its rows of the queries, the keys and the values. -/
theorem left_q (t : Fin cfg0.N) : (outsAt0 m c t.val t.isLt).1 = gradQ (iblk m c 0 t) (iblk m c 3 t) (iblk m c 5 t) := by
  obtain ⟨n, h⟩ := t
  cases n with
  | zero => exact congrArg (·.1) (first_point c m h)
  | succ n => exact congrArg (·.1) (next_point c m n h)

theorem left_k (t : Fin cfg0.N) : (outsAt0 m c t.val t.isLt).2.1 = gradK (iblk m c 1 t) (iblk m c 4 t) (iblk m c 6 t) := by
  obtain ⟨n, h⟩ := t
  cases n with
  | zero => exact congrArg (·.2.1) (first_point c m h)
  | succ n => exact congrArg (·.2.1) (next_point c m n h)

theorem left_v (t : Fin cfg0.N) : (outsAt0 m c t.val t.isLt).2.2.1 = k0_pay1 (iblk m c 7 t) := by
  obtain ⟨n, h⟩ := t
  cases n with
  | zero => exact congrArg (·.2.2.1) (first_point c m h)
  | succ n => exact congrArg (·.2.2.1) (next_point c m n h)

/-- A row's parts of the gradients at the weights. -/
def rowQ (k : Fin 64) (r : Fin 2048) : EReal := headPart (rowAt (m ((c.tc : Thread nD τ).loc main_arg0)) 4 r) (scaledRow (m ((c.tc : Thread nD τ).loc main_arg3)) r) k
def rowK (k : Fin 64) (r : Fin 2048) : EReal := headPart (rowAt (m ((c.tc : Thread nD τ).loc main_arg0)) 5 r) (row (M := 2048) (N := 512) (m ((c.tc : Thread nD τ).loc main_arg4)) r) k

theorem point_q (t : Fin cfg0.N) (k : Fin 64) : partQ (iblk m c 0 t) (iblk m c 5 t) (ix2 0 k) = ∑ r : Fin 512, rowf (rowQ c m k) (512 * t.val + r.val) := by
  rw [partQ_eq]
  refine sum_congr rfl fun r _ => ?_
  rw [row_q, row_dq, rowf_of _ (bound t r)]
  rfl

theorem point_k (t : Fin cfg0.N) (k : Fin 64) : partK (iblk m c 1 t) (iblk m c 6 t) (ix2 0 k) = ∑ r : Fin 512, rowf (rowK c m k) (512 * t.val + r.val) := by
  rw [partK_eq]
  refine sum_congr rfl fun r _ => ?_
  rw [row_k, row_dk, rowf_of _ (bound t r)]
  rfl

/-- What a point leaves at the weights: the rows of the points up to it. -/
theorem left_gq (k : Fin 64) : ∀ (n : ℕ) (h : n < cfg0.N), (outsAt0 m c n h).2.2.2.1 (ix2 0 k) = ∑ r ∈ range (512 * (n + 1)), rowf (rowQ c m k) r
  | 0, h => by
    rw [first_point]
    dsimp only
    rw [sum_first]
    exact point_q c m ⟨0, h⟩ k
  | n + 1, h => by
    rw [next_point]
    dsimp only
    rw [added2, sum_next]
    exact congrArg₂ (· + ·) (left_gq k n _) (point_q c m ⟨n + 1, h⟩ k)

theorem left_gk (k : Fin 64) : ∀ (n : ℕ) (h : n < cfg0.N), (outsAt0 m c n h).2.2.2.2 (ix2 0 k) = ∑ r ∈ range (512 * (n + 1)), rowf (rowK c m k) r
  | 0, h => by
    rw [first_point]
    dsimp only
    rw [sum_first]
    exact point_k c m ⟨0, h⟩ k
  | n + 1, h => by
    rw [next_point]
    dsimp only
    rw [added3, sum_next]
    exact congrArg₂ (· + ·) (left_gk k n _) (point_k c m ⟨n + 1, h⟩ k)

/-! ## The whole arrays -/

theorem rows_q (t : Fin cfg0.N) (r n : Fin 512) : gradQ (iblk m c 0 t) (iblk m c 3 t) (iblk m c 5 t) (ix2 r n) = gradsQ (m ((c.tc : Thread nD τ).loc main_arg0)) (m ((c.tc : Thread nD τ).loc main_arg1)) (m ((c.tc : Thread nD τ).loc main_arg3)) (ix2 ⟨512 * t.val + r.val, bound t r⟩ n) := by
  rw [gradQ_eq, row_q, row_dq, row_g]
  rfl

theorem final_q : (dats m 0 c).arrAt 8 cfg0.N = (gradsQ (m ((c.tc : Thread nD τ).loc main_arg0)) (m ((c.tc : Thread nD τ).loc main_arg1)) (m ((c.tc : Thread nD τ).loc main_arg3)) : Shape.Idx S2048x512 → EReal) := by
  refine (dats m 0 c).arrAt_eq_of_covers 8 _ (by decide +kernel) fun t _ j => ?_
  blk_simp
  rw [after0_8, left_q]
  refine Eq.trans (congrArg _ (eq_ix2 j)) ((rows_q c m t (j 0) (j 1)).trans (congrArg (gradsQ (m ((c.tc : Thread nD τ).loc main_arg0)) (m ((c.tc : Thread nD τ).loc main_arg1)) (m ((c.tc : Thread nD τ).loc main_arg3)) : Shape.Idx S2048x512 → EReal) ((congrArg₂ ix2 (Fin.ext ?_) (Fin.ext ?_)).trans (eq_ix2 _).symm)))
  · blk_simp [idx t]
    exact congrArg (· + _) (mul_comm 512 _)
  · blk_simp [idx t]

theorem rows_k (t : Fin cfg0.N) (r n : Fin 512) : gradK (iblk m c 1 t) (iblk m c 4 t) (iblk m c 6 t) (ix2 r n) = gradsK (m ((c.tc : Thread nD τ).loc main_arg0)) (m ((c.tc : Thread nD τ).loc main_arg2)) (m ((c.tc : Thread nD τ).loc main_arg4)) (ix2 ⟨512 * t.val + r.val, bound t r⟩ n) := by
  rw [gradK_eq, row_k, row_dk, row_h]
  rfl

theorem final_k : (dats m 0 c).arrAt 9 cfg0.N = (gradsK (m ((c.tc : Thread nD τ).loc main_arg0)) (m ((c.tc : Thread nD τ).loc main_arg2)) (m ((c.tc : Thread nD τ).loc main_arg4)) : Shape.Idx S2048x512 → EReal) := by
  refine (dats m 0 c).arrAt_eq_of_covers 9 _ (by decide +kernel) fun t _ j => ?_
  blk_simp
  rw [after0_9, left_k]
  refine Eq.trans (congrArg _ (eq_ix2 j)) ((rows_k c m t (j 0) (j 1)).trans (congrArg (gradsK (m ((c.tc : Thread nD τ).loc main_arg0)) (m ((c.tc : Thread nD τ).loc main_arg2)) (m ((c.tc : Thread nD τ).loc main_arg4)) : Shape.Idx S2048x512 → EReal) ((congrArg₂ ix2 (Fin.ext ?_) (Fin.ext ?_)).trans (eq_ix2 _).symm)))
  · blk_simp [idx t]
    exact congrArg (· + _) (mul_comm 512 _)
  · blk_simp [idx t]

theorem rows_v (t : Fin cfg0.N) (r n : Fin 512) : k0_pay1 (iblk m c 7 t) (ix2 r n) = (m ((c.tc : Thread nD τ).loc main_arg5)) (ix2 ⟨512 * t.val + r.val, bound t r⟩ n) := by
  rw [pay1_eq]
  exact congrFun (row_dv c m t r) n

theorem final_v : (dats m 0 c).arrAt 10 cfg0.N = ((m ((c.tc : Thread nD τ).loc main_arg5)) : Shape.Idx S2048x512 → EReal) := by
  refine (dats m 0 c).arrAt_eq_of_covers 10 _ (by decide +kernel) fun t _ j => ?_
  blk_simp
  rw [after0_10, left_v]
  refine Eq.trans (congrArg _ (eq_ix2 j)) ((rows_v c m t (j 0) (j 1)).trans (congrArg ((m ((c.tc : Thread nD τ).loc main_arg5)) : Shape.Idx S2048x512 → EReal) ((congrArg₂ ix2 (Fin.ext ?_) (Fin.ext ?_)).trans (eq_ix2 _).symm)))
  · blk_simp [idx t]
    exact congrArg (· + _) (mul_comm 512 _)
  · blk_simp [idx t]

theorem final_gq : (dats m 0 c).arrAt 11 cfg0.N = (weightsQ (m ((c.tc : Thread nD τ).loc main_arg0)) (m ((c.tc : Thread nD τ).loc main_arg3)) : Shape.Idx S1x64 → EReal) := by
  refine (dats m 0 c).arrAt_eq_of_covers 11 _ (by decide +kernel) fun t hf j => ?_
  have ht : t.val = 3 := (by decide +kernel : ∀ t : Fin cfg0.N, win0_11.flush t = true → t.val = 3) t hf
  blk_simp
  rw [after0_11]
  have hj : j = ix2 0 (j 1) := (eq_ix2 j).trans (congrArg (fun i => ix2 i (j 1)) (Subsingleton.elim _ _))
  refine Eq.trans (congrArg _ hj) ((left_gq c m (j 1) t.val t.isLt).trans ?_)
  rw [ht]
  refine (sum_rowf _).trans ?_
  refine sum_congr rfl fun r _ => congrArg (fun k => rowQ c m k r) (Fin.ext ?_)
  blk_simp [idx t]

theorem final_gk : (dats m 0 c).arrAt 12 cfg0.N = (weightsK (m ((c.tc : Thread nD τ).loc main_arg0)) (m ((c.tc : Thread nD τ).loc main_arg4)) : Shape.Idx S1x64 → EReal) := by
  refine (dats m 0 c).arrAt_eq_of_covers 12 _ (by decide +kernel) fun t hf j => ?_
  have ht : t.val = 3 := (by decide +kernel : ∀ t : Fin cfg0.N, win0_12.flush t = true → t.val = 3) t hf
  blk_simp
  rw [after0_12]
  have hj : j = ix2 0 (j 1) := (eq_ix2 j).trans (congrArg (fun i => ix2 i (j 1)) (Subsingleton.elim _ _))
  refine Eq.trans (congrArg _ hj) ((left_gk c m (j 1) t.val t.isLt).trans ?_)
  rw [ht]
  refine (sum_rowf _).trans ?_
  refine sum_congr rfl fun r _ => congrArg (fun k => rowK c m k r) (Fin.ext ?_)
  blk_simp [idx t]

end Cert.Rows.Head
-- ==== Proof.HeadRef.lean ====
/-
  What the reference of the gradient of the norms of the queries and the keys computes.
-/
module
public import proofs.«01_k».proof.Proof.HeadArray
public import proofs.«01_k».proof.Proof.Gen.HeadGradRefIdeal.Run
@[expose] public section
set_option maxRecDepth 16384
noncomputable section
namespace Cert.Rows.HeadRef
open Finset Idealize.ShloMosaic Idealize.ShloMosaic.TcCoe Idealize.SL.Sem Cert.HeadGradRefIdeal Cert.HeadGradRefIdeal.Gen
open Cert.Rows.Branch (headOf laneOf headCol headSq headScale headCol_of headOf_col laneOf_col)
open Cert.Rows.Head (headMean headCoef headBack headPart part512 rowAt scaledRow gradsQ gradsK weightsQ weightsK)

/-! ## The heads -/

variable (z : FVec Ideal S2048x6656 .f32) (d : FVec Ideal S2048x512 .f32)

/-- The heads of the queries, of the keys, and of a gradient. -/
def queries : FVec Ideal S2048x8x64 .f32 := shapeCast S2048x8x64 (extractStridedSlice S2048x512 ![0, 0] (extractStridedSlice S2048x1536 ![0, 2048] z slices_S2048x6656_S2048x1536_0_2048) slices_S2048x1536_S2048x512_0_0) shapeCasts_S2048x512_S2048x8x64
def keys : FVec Ideal S2048x8x64 .f32 := shapeCast S2048x8x64 (extractStridedSlice S2048x512 ![0, 512] (extractStridedSlice S2048x1536 ![0, 2048] z slices_S2048x6656_S2048x1536_0_2048) slices_S2048x1536_S2048x512_0_512) shapeCasts_S2048x512_S2048x8x64
def byHead : FVec Ideal S2048x8x64 .f32 := shapeCast S2048x8x64 d shapeCasts_S2048x512_S2048x8x64
def scaled : FVec Ideal S2048x512 .f32 := mulf d (broadcastInDim S2048x512 ![] bcast_S_S2048x512 (constant S_ .f32 0x3E000000#32 : FVec Ideal S_ .f32))

theorem queries_eq (r : Fin 2048) (h : Fin 8) (k : Fin 64) : queries z (ix3 r h k) = rowAt z 4 r (headCol h k) := by
  unfold queries rowAt
  rw [show part512 4 (headCol h k) = ⟨2048 + (h.val * 64 + k.val), by omega⟩ from Fin.ext (by simp only [part512, headCol]; omega)]
  pointwise []

theorem keys_eq (r : Fin 2048) (h : Fin 8) (k : Fin 64) : keys z (ix3 r h k) = rowAt z 5 r (headCol h k) := by
  unfold keys rowAt
  rw [show part512 5 (headCol h k) = ⟨2048 + (512 + (h.val * 64 + k.val)), by omega⟩ from Fin.ext (by simp only [part512, headCol]; omega)]
  pointwise []

theorem byHead_eq (r : Fin 2048) (h : Fin 8) (k : Fin 64) : byHead d (ix3 r h k) = row d r (headCol h k) := by
  unfold byHead row
  rw [show headCol h k = ⟨h.val * 64 + k.val, by omega⟩ from Fin.ext (by simp only [headCol]; omega)]
  pointwise []

theorem row_scaled (r : Fin 2048) : row (M := 2048) (N := 512) (scaled d) r = scaledRow d r := by
  funext k
  unfold row scaled scaledRow
  pointwise []
  rfl

/-- A sum over the first two of three axes. -/
theorem sum_leading {M N K : ℕ} (h : (⟨3, ![M, N, K]⟩ : Shape).ReducesTo [0, 1] ⟨1, ![K]⟩) (v : Shape.Idx ⟨3, ![M, N, K]⟩ → EReal) (b : EReal) (k : Fin K) :
    Ideal.hostReduceAdd h v b (ix1 k) = b + ∑ r, ∑ i, v (ix3 r i k) := by
  refine congrArg (b + ·) ((Finset.sum_filter_eq_sum_of_fiber _ (fun p : Fin M × Fin N => ix3 p.1 p.2 k) (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e (0 : Fin 1))).symm
    · rintro ⟨p, rfl⟩
      funext a
      apply Fin.ext
      match a with
      | ⟨0, _⟩ => rfl
  · simp only [Fintype.sum_prod_type]

/-- The heads side by side again. -/
theorem flat_eq (y : FVec Ideal S2048x8x64 .f32) (r : Fin 2048) (n : Fin 512) :
    shapeCast S2048x512 y shapeCasts_S2048x8x64_S2048x512 (ix2 r n) = y (ix3 r (headOf n) (laneOf n)) := by
  pointwise []
  rfl

/-! ## The gradient of the norms -/

variable (x e : FVec Ideal S2048x8x64 .f32) (g : FVec Ideal S64 .f32)

/-- The means of the squares of the heads. -/
def means : FVec Ideal S2048x8x1 .f32 :=
  addf (Host.divf (broadcastInDim S2048x8x1 ![0, 1] bcast_S2048x8_S2048x8x1_0_1 (Host.reduceAdd (mulf x x) (constant S_ .f32 0x00000000#32 : FVec Ideal S_ .f32) reducesTo_S2048x8x64_S2048x8_d2 h_S_))
    (broadcastInDim S2048x8x1 ![] bcast_S_S2048x8x1 (constant S_ .f32 0x42800000#32 : FVec Ideal S_ .f32))) (broadcastInDim S2048x8x1 ![] bcast_S_S2048x8x1 (constant S_ .f32 0x358637BD#32 : FVec Ideal S_ .f32))

/-- The inverses of the root mean squares, on the heads' entries. -/
def scales : FVec Ideal S2048x8x64 .f32 := broadcastInDim S2048x8x64 ![0, 1, 2] bcast_S2048x8x1_S2048x8x64_0_1_2 (Host.rsqrt (means x))

/-- The gradients at the entries over their root mean squares. -/
def inner : FVec Ideal S2048x8x64 .f32 := mulf e (broadcastInDim S2048x8x64 ![0, 1, 2] bcast_S1x1x64_S2048x8x64_0_1_2 (broadcastInDim S1x1x64 ![2] bcast_S64_S1x1x64_2 g))

/-- What the gradients at the means contribute. -/
def coefs : FVec Ideal S2048x8x64 .f32 :=
  broadcastInDim S2048x8x64 ![0, 1] bcast_S2048x8_S2048x8x64_0_1 (Host.reduceAdd (Host.divf (mulf
    (shapeCast S2048x8x1 (Host.reduceAdd (mulf x (inner e g)) (constant S_ .f32 0x00000000#32 : FVec Ideal S_ .f32) reducesTo_S2048x8x64_S2048x8_d2 h_S_) shapeCasts_S2048x8_S2048x8x1)
    (mulf (broadcastInDim S2048x8x1 ![] bcast_S_S2048x8x1 (constant S_ .f32 0xBF000000#32 : FVec Ideal S_ .f32)) (Host.divf (Host.rsqrt (means x)) (means x))))
    (broadcastInDim S2048x8x1 ![] bcast_S_S2048x8x1 (constant S_ .f32 0x42800000#32 : FVec Ideal S_ .f32))) (constant S_ .f32 0x00000000#32 : FVec Ideal S_ .f32) reducesTo_S2048x8x1_S2048x8_d2 h_S_)

/-- The gradients at the entries. -/
def back : FVec Ideal S2048x8x64 .f32 := addf (addf (mulf (inner e g) (scales x)) (mulf x (coefs x e g))) (mulf (coefs x e g) x)

/-- The gradients at the weights. -/
def weights : FVec Ideal S1x64 .f32 :=
  broadcastInDim S1x64 ![1] bcast_S64_S1x64_1 (Host.reduceAdd (shapeCast S1x1x64 (Host.reduceAdd (mulf (mulf x (scales x)) e) (constant S_ .f32 0x00000000#32 : FVec Ideal S_ .f32) reducesTo_S2048x8x64_S64_d0_1 h_S_) shapeCasts_S64_S1x1x64)
    (constant S_ .f32 0x00000000#32 : FVec Ideal S_ .f32) reducesTo_S1x1x64_S64_d0_1 h_S_)

section Entries
variable (a b : Fin 2048 → Fin 512 → EReal) (ha : ∀ r h k, x (ix3 r h k) = a r (headCol h k)) (hb : ∀ r h k, e (ix3 r h k) = b r (headCol h k))

include ha in
theorem means_eq (r : Fin 2048) (h : Fin 8) (i : Fin 1) : means x (ix3 r h i) = headMean (a r) h := by
  unfold means
  pointwise [ha]
  rfl

include ha in
theorem scales_eq (r : Fin 2048) (h : Fin 8) (k : Fin 64) : scales x (ix3 r h k) = headScale (a r) h := by
  unfold scales
  pointwise [means_eq x a ha]
  rfl

include hb in
theorem inner_eq (r : Fin 2048) (h : Fin 8) (k : Fin 64) : inner e g (ix3 r h k) = b r (headCol h k) * g (ix1 (laneOf (headCol h k))) := by
  unfold inner
  rw [laneOf_col]
  pointwise [hb]

include ha hb in
theorem coefs_eq (r : Fin 2048) (h : Fin 8) (k : Fin 64) : coefs x e g (ix3 r h k) = headCoef (a r) (fun n => a r n * (b r n * g (ix1 (laneOf n)))) h := by
  unfold coefs
  pointwise [means_eq x a ha, inner_eq e g b hb, ha]
  rfl

include ha hb in
theorem back_eq (r : Fin 2048) (n : Fin 512) :
    shapeCast S2048x512 (back x e g) shapeCasts_S2048x8x64_S2048x512 (ix2 r n) = headBack (a r) (fun n => b r n * g (ix1 (laneOf n))) n := by
  rw [flat_eq]
  unfold back
  pointwise [scales_eq x a ha, inner_eq e g b hb, coefs_eq x e g a b ha hb, ha, headCol_of]
  rfl

include ha hb in
theorem weights_eq (k : Fin 64) : weights x e (ix2 0 k) = ∑ r, headPart (a r) (b r) k := by
  unfold weights
  pointwise [sum_leading, scales_eq x a ha, ha, hb]
  exact (Fin.sum_univ_one _).trans (Fin.sum_univ_one _)

end Entries

/-! ## The results -/

theorem ref_q (g : FVec Ideal S64 .f32) : truncf .bf16 (shapeCast S2048x512 (back (queries z) (byHead (scaled d)) g) shapeCasts_S2048x8x64_S2048x512) bitsLt_bf16_f32
    = (gradsQ z g d : Shape.Idx S2048x512 → EReal) := by
  funext j
  idx_vars j
  pointwise [back_eq (queries z) (byHead (scaled d)) g (rowAt z 4) (scaledRow d) (queries_eq z) (fun r h k => (byHead_eq _ r h k).trans (congrFun (row_scaled d r) _))]
  rfl

theorem ref_k (g : FVec Ideal S64 .f32) : truncf .bf16 (shapeCast S2048x512 (back (keys z) (byHead d) g) shapeCasts_S2048x8x64_S2048x512) bitsLt_bf16_f32
    = (gradsK z g d : Shape.Idx S2048x512 → EReal) := by
  funext j
  idx_vars j
  pointwise [back_eq (keys z) (byHead d) g (rowAt z 5) (row d) (keys_eq z) (byHead_eq d)]
  rfl

theorem ref_v : truncf .bf16 d bitsLt_bf16_f32 = (d : Shape.Idx S2048x512 → EReal) := by
  funext j
  idx_vars j
  pointwise []

theorem ref_gq : weights (queries z) (byHead (scaled d)) = (weightsQ z d : Shape.Idx S1x64 → EReal) := by
  funext j
  rw [show j = ix2 0 (j 1) from (eq_ix2 j).trans (congrArg (fun i => ix2 i (j 1)) (Subsingleton.elim _ _))]
  exact weights_eq (queries z) (byHead (scaled d)) (rowAt z 4) (scaledRow d) (queries_eq z) (fun r h k => (byHead_eq _ r h k).trans (congrFun (row_scaled d r) _)) (j 1)

theorem ref_gk : weights (keys z) (byHead d) = (weightsK z d : Shape.Idx S1x64 → EReal) := by
  funext j
  rw [show j = ix2 0 (j 1) from (eq_ix2 j).trans (congrArg (fun i => ix2 i (j 1)) (Subsingleton.elim _ _))]
  exact weights_eq (keys z) (byHead d) (rowAt z 5) (row d) (keys_eq z) (byHead_eq d) (j 1)

section Results
variable (m : (ℓ : Loc nD τ sig) → Buf (Elt Ideal) ℓ) (c : Dev nD)

theorem res_q (g : FVec Ideal S64 .f32) (h0 : m ((c.tc : Thread nD τ).loc main_arg0) = z) (h1 : m ((c.tc : Thread nD τ).loc main_arg1) = g) (h3 : m ((c.tc : Thread nD τ).loc main_arg3) = d) : Value.res_out0 m c = (gradsQ z g d : Shape.Idx S2048x512 → EReal) := by
  rw [← ref_q z d g]
  subst h0 h1 h3
  rfl

theorem res_k (g : FVec Ideal S64 .f32) (h0 : m ((c.tc : Thread nD τ).loc main_arg0) = z) (h2 : m ((c.tc : Thread nD τ).loc main_arg2) = g) (h4 : m ((c.tc : Thread nD τ).loc main_arg4) = d) : Value.res_out1 m c = (gradsK z g d : Shape.Idx S2048x512 → EReal) := by
  rw [← ref_k z d g]
  subst h0 h2 h4
  rfl

end Results

end Cert.Rows.HeadRef
-- ==== Proof.FwdBlock.lean ====
/-
  What one block of the forward call computes, over real arrays: the logits of a block of keys, their logarithms of sigmoids,
  the weights inside the block and the two accumulators after it.
-/
module
public import proofs.«01_k».proof.Proof.Coe
public import proofs.«01_k».proof.Proof.Gen.KernelIdeal.Skeleton
@[expose] public section
set_option maxRecDepth 16384
noncomputable section
namespace Cert.Attn
open Idealize.ShloMosaic Cert.KernelIdeal Cert.KernelIdeal.Gen

/-- The stacked queries. -/
theorem k0_pay2_up (x : ℕ → ℕ → ℝ) : k0_pay2 (F := Ideal) (up x) = up (stk x) := by
  funext j
  idx_vars j
  pointwise [k0_pay2]
  rw [lane_ge j1.isLt]
  simp only [up_ix2, stk]
  by_cases hr : j0.val < 256 <;> by_cases hd : 64 ≤ j1.val <;> simp [hr, hd, Scalar.select]

/-- The triangle that sums what comes after a column. -/
theorem k0_pay4_up : k0_pay4 (F := Ideal) = up (fun a b => if b < a then 1 else 0) := by
  funext j
  idx_vars j
  pointwise [k0_pay4]
  rw [pos_gt j0.isLt j1.isLt, up_ix2, indicator]

theorem k0_pay5_up : k0_pay5 (F := Ideal) = up (fun _ _ => 0) := by
  funext j
  idx_vars j
  pointwise [k0_pay5]
  rfl

theorem k0_pay6_up : k0_pay6 (F := Ideal) = up (fun _ _ => 0) := by
  funext j
  idx_vars j
  pointwise [k0_pay6]
  rfl

theorem k0_pay7_up (x : ℕ → ℕ → ℝ) : k0_pay7 (F := Ideal) (up x) = up x := by
  funext j
  idx_vars j
  pointwise [k0_pay7]

/-- The logits of the diagonal block. -/
theorem k0_pay8_up (q k : ℕ → ℕ → ℝ) : k0_pay8 (F := Ideal) (up q) (up k) = up (zz 128 (stk q) k) := by
  funext j
  idx_vars j
  pointwise [k0_pay8, k0_pay2_up]
  simp only [up_ix2, ← EReal.coe_mul, coe_sum, zz, Finset.sum_range]

theorem k0_pay9_up (q k : ℕ → ℕ → ℝ) : k0_pay9 (F := Ideal) (up q) (up k) = up (fun r c => lsp (zz 128 (stk q) k r c)) := by
  funext j
  idx_vars j
  pointwise [k0_pay9, k0_pay8_up]
  simp only [up_ix2, abs_up, ← EReal.coe_one, ← EReal.coe_zero, ← EReal.coe_sub, exp_up, ← EReal.coe_add, log_one_exp, min_up, lsp]

theorem k0_pay10_up (q k : ℕ → ℕ → ℝ) : k0_pay10 (F := Ideal) (up q) (up k) = up (fun r c => lsn (zz 128 (stk q) k r c)) := by
  funext j
  idx_vars j
  pointwise [k0_pay10, k0_pay8_up, k0_pay9_up]
  simp only [up_ix2, ← EReal.coe_sub, lsn]

/-- The mask of the diagonal block. -/
theorem k0_pay12_at (r : Fin 512) (c : Fin 256) : k0_pay12 k0_pay3 k0_pay11 (ix2 r c) = if low r.val c.val then 1#1 else 0#1 := by
  pointwise [k0_pay12, k0_pay3, k0_pay11]
  exact diff_pos r.isLt c.isLt

theorem k0_pay13_up (l : ℕ → ℕ → ℝ) : k0_pay13 (F := Ideal) k0_pay3 (up l) k0_pay11 = up (fun r c => if low r c then l r c else 0) := by
  funext j
  idx_vars j
  pointwise [k0_pay13]
  simp only [k0_pay12_at, up_ix2, ← EReal.coe_zero, select_coe]

/-- The output accumulator after the diagonal block. -/
theorem k0_pay14_up (acc c v p l : ℕ → ℕ → ℝ) :
    k0_pay14 (F := Ideal) k0_pay3 k0_pay4 (up acc) (up c) (up v) (up p) (up l) k0_pay11
      = up (fun r d => acc r d + Real.exp (c r 0) * ∑ x ∈ Finset.range 256, if low r x then
          Real.exp (p r x + ∑ y ∈ Finset.range 256, (if low r y then l r y else 0) * (if x < y then 1 else 0)) * v x d else 0) := by
  funext j
  idx_vars j
  pointwise [k0_pay14, k0_pay13_up, k0_pay4_up]
  simp only [k0_pay12_at, up_ix2, ← EReal.coe_zero, ← EReal.coe_mul, ← EReal.coe_sub, coe_sum, ← EReal.coe_add, exp_up, select_coe,
    sub_self, zero_mul, Finset.sum_const_zero, add_zero, Finset.sum_range, Fin.val_zero]

/-- The carried logarithm after the diagonal block. -/
theorem k0_pay15_up (c l : ℕ → ℕ → ℝ) :
    k0_pay15 (F := Ideal) k0_pay3 (up c) (up l) k0_pay11
      = up (fun r _ => c r 0 + ∑ y ∈ Finset.range 256, if low r y then l r y else 0) := by
  funext j
  idx_vars j
  have hj : j1 = 0 := Subsingleton.elim _ _
  subst hj
  pointwise [k0_pay15, k0_pay13_up]
  simp only [up_ix2, coe_sum, ← EReal.coe_add, Finset.sum_range, Fin.val_zero]

/-- The logits of a whole block. -/
theorem k0_pay16_up (q k : ℕ → ℕ → ℝ) : k0_pay16 (F := Ideal) (up q) (up k) = up (zz 128 q k) := by
  funext j
  idx_vars j
  pointwise [k0_pay16]
  simp only [up_ix2, ← EReal.coe_mul, coe_sum, zz, Finset.sum_range]

theorem k0_pay17_up (q k : ℕ → ℕ → ℝ) : k0_pay17 (F := Ideal) (up q) (up k) = up (fun r c => lsp (zz 128 q k r c)) := by
  funext j
  idx_vars j
  pointwise [k0_pay17, k0_pay16_up]
  simp only [up_ix2, abs_up, ← EReal.coe_one, ← EReal.coe_zero, ← EReal.coe_sub, exp_up, ← EReal.coe_add, log_one_exp, min_up, lsp]

theorem k0_pay18_up (q k : ℕ → ℕ → ℝ) : k0_pay18 (F := Ideal) (up q) (up k) = up (fun r c => lsn (zz 128 q k r c)) := by
  funext j
  idx_vars j
  pointwise [k0_pay18, k0_pay16_up, k0_pay17_up]
  simp only [up_ix2, ← EReal.coe_sub, lsn]

/-- The output accumulator after a whole block. -/
theorem k0_pay19_up (q k v acc c : ℕ → ℕ → ℝ) :
    k0_pay19 (F := Ideal) (up q) k0_pay4 (up acc) (up c) (up k) (up v)
      = up (fun r d => acc r d + Real.exp (c r 0) * ∑ x ∈ Finset.range 256,
          Real.exp (lsp (zz 128 q k r x) + ∑ y ∈ Finset.range 256, lsn (zz 128 q k r y) * (if x < y then 1 else 0)) * v x d) := by
  funext j
  idx_vars j
  pointwise [k0_pay19, k0_pay17_up, k0_pay18_up, k0_pay4_up]
  simp only [up_ix2, ← EReal.coe_mul, ← EReal.coe_sub, coe_sum, ← EReal.coe_add, exp_up,
    sub_self, zero_mul, Finset.sum_const_zero, add_zero, Finset.sum_range, Fin.val_zero]

/-- The carried logarithm after a whole block. -/
theorem k0_pay20_up (q k c : ℕ → ℕ → ℝ) :
    k0_pay20 (F := Ideal) (up q) (up c) (up k) = up (fun r _ => c r 0 + ∑ y ∈ Finset.range 256, lsn (zz 128 q k r y)) := by
  funext j
  idx_vars j
  have hj : j1 = 0 := Subsingleton.elim _ _
  subst hj
  pointwise [k0_pay20, k0_pay18_up]
  simp only [up_ix2, coe_sum, ← EReal.coe_add, Finset.sum_range, Fin.val_zero]

/-- The two stacked heads side by side again. -/
def unstk (x : ℕ → ℕ → ℝ) (r d : ℕ) : ℝ := if 64 ≤ d then x (256 + r) d else x r d

theorem k0_pay26_up (x : ℕ → ℕ → ℝ) : k0_pay26 (F := Ideal) (up x) = up (unstk x) := by
  funext j
  idx_vars j
  pointwise [k0_pay26]
  simp only [lane_ge j1.isLt, up_ix2, select_coe, unstk]

/-- The stored logarithm of each row, once per lane of its head. -/
theorem k0_pay1_up (c : ℕ → ℕ → ℝ) :
    k0_pay1 (F := Ideal) (k0_pay27 (up c)) k0_pay28 (k0_pay29 (up c)) = up (unstk (fun r _ => c r 0)) := by
  funext j
  idx_vars j
  pointwise [k0_pay1, k0_pay27, k0_pay28, k0_pay29]
  simp only [lane_ge j1.isLt, up_ix2, select_coe, unstk, Fin.val_zero]
-- ==== Proof.Spec.lean ====
/-
  The mathematics of one row of the attention, over real numbers: the weights of a query at position `t` over the keys before
  it, the gradient of its logits, and what a block of 256 keys contributes to them.
-/
module

public import proofs.«01_k».proof.Proof.Coe

@[expose] public section

noncomputable section

namespace Cert.Attn

open Finset

/-- The weight that the query at position `t` gives the key `s`: its own sigmoid times those that the keys between reject. -/
def Aw (z : ℕ → ℝ) (t s : ℕ) : ℝ := Real.exp (lsp (z s) + ∑ y ∈ Ico (s + 1) t, lsn (z y))

/-- The gradient of the logit of key `s`, the gradient of the weight being `e s`. -/
def Dz (z e : ℕ → ℝ) (t s : ℕ) : ℝ :=
  Aw z t s * e s * Real.exp (lsn (z s)) - (∑ y ∈ range s, Aw z t y * e y) * Real.exp (lsp (z s))

/-! ## Sums over a block as sums over positions -/

theorem block_after (f : ℕ → ℝ) (b x m n : ℕ) (h : m ≤ n) :
    ∑ y ∈ range n, (if y < m then f (b + y) else 0) * (if x < y then 1 else 0) = ∑ s ∈ Ico (b + x + 1) (b + m), f s := by
  have h1 : ∑ s ∈ Ico (b + x + 1) (b + m), f s = ∑ y ∈ Ico (x + 1) m, f (b + y) := by
    rw [Finset.sum_Ico_add (fun s => f s) (x + 1) m b]
    congr 1; congr 1 <;> omega
  have h2 : Ico (x + 1) m = (range n).filter (fun y => y < m ∧ x < y) := by
    ext y; simp only [mem_Ico, mem_filter, mem_range]; omega
  rw [h1, h2, sum_filter]
  refine sum_congr rfl fun y _ => ?_
  by_cases h3 : y < m <;> by_cases h4 : x < y <;> simp [h3, h4]

theorem block_after_whole (f : ℕ → ℝ) (b x n : ℕ) :
    ∑ y ∈ range n, f (b + y) * (if x < y then 1 else 0) = ∑ s ∈ Ico (b + x + 1) (b + n), f s := by
  rw [← block_after f b x n n le_rfl]
  exact sum_congr rfl fun y hy => by rw [if_pos (mem_range.mp hy)]

theorem block_sum (f : ℕ → ℝ) (b n : ℕ) : ∑ y ∈ range n, f (b + y) = ∑ s ∈ Ico b (b + n), f s := by
  rw [sum_Ico_eq_sum_range]; congr 1; congr 1; omega

theorem block_sum_lt (f : ℕ → ℝ) (b m n : ℕ) (h : m ≤ n) :
    ∑ y ∈ range n, (if y < m then f (b + y) else 0) = ∑ s ∈ Ico b (b + m), f s := by
  rw [← block_sum, ← sum_filter]
  congr 1
  ext y; simp only [mem_filter, mem_range]; omega

theorem before (w : ℕ → ℝ) (x n : ℕ) (h : x ≤ n) : ∑ y ∈ range n, w y * (if y < x then 1 else 0) = ∑ y ∈ range x, w y := by
  have h2 : range x = (range n).filter (fun y => y < x) := by ext y; simp only [mem_filter, mem_range]; omega
  rw [h2, sum_filter]
  exact sum_congr rfl fun y _ => by split <;> simp

/-! ## The weights of a block -/

/-- A whole block's weights, completed by the factor of the keys that follow the block. -/
theorem whole_weight (z : ℕ → ℝ) (b t x : ℕ) (hx : x < 256) (ht : b + 256 ≤ t) :
    Real.exp (∑ s ∈ Ico (b + 256) t, lsn (z s))
        * Real.exp (lsp (z (b + x)) + ∑ y ∈ range 256, lsn (z (b + y)) * (if x < y then 1 else 0)) = Aw z t (b + x) := by
  rw [block_after_whole (fun s => lsn (z s)), ← Real.exp_add, Aw, ← sum_Ico_consecutive _ (show b + x + 1 ≤ b + 256 by omega) ht]
  congr 1; ring

/-- The diagonal block's weights. -/
theorem diag_weight (z : ℕ → ℝ) (b m x : ℕ) (hm : m ≤ 256) :
    Real.exp (lsp (z (b + x)) + ∑ y ∈ range 256, (if y < m then lsn (z (b + y)) else 0) * (if x < y then 1 else 0)) = Aw z (b + m) (b + x) := by
  rw [block_after (fun s => lsn (z s)) b x m 256 hm, Aw]

/-- The output's share of the diagonal block. -/
theorem diag_out (z v : ℕ → ℝ) (b m : ℕ) (hm : m ≤ 256) :
    ∑ x ∈ range 256, (if x < m then
        Real.exp (lsp (z (b + x)) + ∑ y ∈ range 256, (if y < m then lsn (z (b + y)) else 0) * (if x < y then 1 else 0)) * v (b + x) else 0)
      = ∑ s ∈ Ico b (b + m), Aw z (b + m) s * v s := by
  rw [← block_sum_lt (fun s => Aw z (b + m) s * v s) b m 256 hm]
  exact sum_congr rfl fun x _ => by rw [diag_weight z b m x hm]

/-- The output's share of a whole block, added to the share of the keys that follow it. -/
theorem whole_out (z v : ℕ → ℝ) (b t : ℕ) (ht : b + 256 ≤ t) :
    ∑ s ∈ Ico (b + 256) t, Aw z t s * v s + Real.exp (∑ s ∈ Ico (b + 256) t, lsn (z s)) * ∑ x ∈ range 256,
        Real.exp (lsp (z (b + x)) + ∑ y ∈ range 256, lsn (z (b + y)) * (if x < y then 1 else 0)) * v (b + x)
      = ∑ s ∈ Ico b t, Aw z t s * v s := by
  rw [← sum_Ico_consecutive _ (show b ≤ b + 256 by omega) ht, ← block_sum (fun s => Aw z t s * v s) b 256, add_comm, mul_sum]
  congr 1
  refine sum_congr rfl fun x hx => ?_
  rw [← mul_assoc, whole_weight z b t x (mem_range.mp hx) ht]

/-- The carried logarithm. -/
theorem whole_log (f : ℕ → ℝ) (b t : ℕ) (ht : b + 256 ≤ t) :
    ∑ s ∈ Ico (b + 256) t, f s + ∑ y ∈ range 256, f (b + y) = ∑ s ∈ Ico b t, f s := by
  rw [← sum_Ico_consecutive _ (show b ≤ b + 256 by omega) ht, block_sum, add_comm]

/-! ## The gradients of a block -/

/-- The factor of a whole block from the saved total and the carried logarithm. -/
theorem whole_fac (z : ℕ → ℝ) (b t : ℕ) (ht : b + 256 ≤ t) :
    ∑ s ∈ Ico 0 t, lsn (z s) - (∑ s ∈ Ico 0 b, lsn (z s) + ∑ y ∈ range 256, lsn (z (b + y))) = ∑ s ∈ Ico (b + 256) t, lsn (z s) := by
  rw [block_sum (fun s => lsn (z s)), sum_Ico_consecutive _ (Nat.zero_le _) (by omega), ← sum_Ico_consecutive _ (Nat.zero_le (b + 256)) ht]
  ring

/-- The carried sum of weighted gradients after a whole block. -/
theorem whole_carry (z e : ℕ → ℝ) (b t : ℕ) (ht : b + 256 ≤ t) :
    ∑ y ∈ range b, Aw z t y * e y + Real.exp (∑ s ∈ Ico (b + 256) t, lsn (z s)) * ∑ x ∈ range 256,
        Real.exp (lsp (z (b + x)) + ∑ y ∈ range 256, lsn (z (b + y)) * (if x < y then 1 else 0)) * e (b + x)
      = ∑ y ∈ range (b + 256), Aw z t y * e y := by
  rw [sum_range_add, mul_sum]
  congr 1
  refine sum_congr rfl fun x hx => ?_
  rw [← mul_assoc, whole_weight z b t x (mem_range.mp hx) ht]

/-- The logit gradient of a whole block. -/
theorem whole_dz (z e : ℕ → ℝ) (b t x : ℕ) (hx : x < 256) (ht : b + 256 ≤ t) (w : ℕ → ℝ) (f : ℝ)
    (hw : ∀ y, y < 256 → f * w y = Aw z t (b + y)) :
    f * (w x * e (b + x) * Real.exp (lsn (z (b + x)))
          - (∑ y ∈ range 256, w y * e (b + y) * (if y < x then 1 else 0)) * Real.exp (lsp (z (b + x))))
        - (∑ y ∈ range b, Aw z t y * e y) * Real.exp (lsp (z (b + x)))
      = Dz z e t (b + x) := by
  rw [before (fun y => w y * e (b + y)) x 256 hx.le, Dz, sum_range_add]
  have h : ∑ y ∈ range x, Aw z t (b + y) * e (b + y) = f * ∑ y ∈ range x, w y * e (b + y) := by
    rw [mul_sum]
    exact sum_congr rfl fun y hy => by rw [← mul_assoc, hw y (lt_trans (mem_range.mp hy) hx)]
  rw [h, ← hw x hx]
  ring

/-- The logit gradient of the diagonal block. -/
theorem diag_dz (z e : ℕ → ℝ) (b m x : ℕ) (hx : x < m) (hm : m ≤ 256) (w : ℕ → ℝ) (hw : ∀ y, y < m → w y = Aw z (b + m) (b + y)) :
    w x * e (b + x) * Real.exp (lsn (z (b + x)))
          - (∑ y ∈ range 256, w y * e (b + y) * (if y < x then 1 else 0)) * Real.exp (lsp (z (b + x)))
        - (∑ y ∈ range b, Aw z (b + m) y * e y) * Real.exp (lsp (z (b + x)))
      = Dz z e (b + m) (b + x) := by
  rw [before (fun y => w y * e (b + y)) x 256 (by omega), Dz, sum_range_add]
  have h : ∑ y ∈ range x, Aw z (b + m) (b + y) * e (b + y) = ∑ y ∈ range x, w y * e (b + y) :=
    sum_congr rfl fun y hy => by rw [hw y (lt_trans (mem_range.mp hy) hx)]
  rw [h, hw x hx]
  ring

end Cert.Attn
-- ==== Proof.HeadSpec.lean ====
/-
  The attention of every head over real arrays of 512 lanes, 64 to a head: what the calls compute, result by result, and how the
  stacked rows of a block read it.
-/
module

public import proofs.«01_k».proof.Proof.Spec

@[expose] public section

noncomputable section

namespace Cert.Attn

open Finset

/-- The products over head `h`'s lanes of row `t` of `q` with row `s` of `k`. -/
def zh (q k : ℕ → ℕ → ℝ) (h t s : ℕ) : ℝ := ∑ d ∈ range 64, q t (64 * h + d) * k s (64 * h + d)

/-- The attention's output. -/
def specO (q k v : ℕ → ℕ → ℝ) (t l : ℕ) : ℝ := ∑ s ∈ Ico 0 t, Aw (zh q k (l / 64) t) t s * v s l

/-- The logarithm of what a query leaves over, once per lane of its head. -/
def specT (q k : ℕ → ℕ → ℝ) (t l : ℕ) : ℝ := ∑ s ∈ Ico 0 t, lsn (zh q k (l / 64) t s)

/-- The gradient of the logit of query `t` and key `s` of head `h`. -/
def dzh (q k v g : ℕ → ℕ → ℝ) (h t s : ℕ) : ℝ := Dz (zh q k h t) (zh g v h t) t s

/-- The gradient of the queries. -/
def specDq (q k v g : ℕ → ℕ → ℝ) (t l : ℕ) : ℝ := ∑ s ∈ Ico 0 t, dzh q k v g (l / 64) t s * k s l

/-- The gradient of the keys from the queries before position `n`. -/
def specDk (q k v g : ℕ → ℕ → ℝ) (n s l : ℕ) : ℝ := ∑ t ∈ range n, if s < t then dzh q k v g (l / 64) t s * q t l else 0

/-- The gradient of the values from the queries before position `n`. -/
def specDv (q k g : ℕ → ℕ → ℝ) (n s l : ℕ) : ℝ := ∑ t ∈ range n, if s < t then Aw (zh q k (l / 64) t) t s * g t l else 0

/-- The position of the query of stacked row `r` of block `i`. -/
def tq (i r : ℕ) : ℕ := 256 * i + r % 256

/-- The block of rows `i` and lane group `p`. -/
def blkQ (x : ℕ → ℕ → ℝ) (p i r d : ℕ) : ℝ := x (256 * i + r) (128 * p + d)

/-- All rows of lane group `p`. -/
def blkK (x : ℕ → ℕ → ℝ) (p r d : ℕ) : ℝ := x r (128 * p + d)

/-- A stacked row's product with a key is that of the row's head. -/
theorem zz_stk (q k : ℕ → ℕ → ℝ) (p i r s : ℕ) (hr : r < 512) :
    zz 128 (stk (blkQ q p i)) (blkK k p) r s = zh q k (2 * p + r / 256) (tq i r) s := by
  rw [zz, show (128 : ℕ) = 64 + 64 from rfl, sum_range_add]
  by_cases h : r < 256
  · have e : r / 256 = 0 := by omega
    have e' : r % 256 = r := by omega
    rw [sum_eq_zero (s := range 64) (f := fun x => stk (blkQ q p i) r (64 + x) * blkK k p s (64 + x))
      (fun d _ => by rw [stk, if_pos h, if_pos (by omega), zero_mul]), add_zero, zh, e, tq, e']
    refine sum_congr rfl fun d hd => ?_
    have hd' := mem_range.mp hd
    rw [stk, if_pos h, if_neg (by omega), blkQ, blkK, show 128 * p + d = 64 * (2 * p + 0) + d by omega]
  · have e : r / 256 = 1 := by omega
    have e' : r % 256 = r - 256 := by omega
    rw [sum_eq_zero (s := range 64) (f := fun x => stk (blkQ q p i) r x * blkK k p s x)
      (fun d hd => by rw [stk, if_neg h, if_neg (by have := mem_range.mp hd; omega), zero_mul]), zero_add, zh, e, tq, e']
    refine sum_congr rfl fun d hd => ?_
    rw [stk, if_neg h, if_pos (by omega), blkQ, blkK, show 128 * p + (64 + d) = 64 * (2 * p + 1) + d by omega]

/-- A sum over the stacked rows against a stacked array keeps the rows of the lane's head. -/
theorem sum_stk (f : ℕ → ℝ) (x : ℕ → ℕ → ℝ) (d : ℕ) (hd : d < 128) :
    ∑ r ∈ range 512, f r * stk x r d = ∑ r ∈ range 256, f (256 * (d / 64) + r) * x r d := by
  rw [show (512 : ℕ) = 256 + 256 from rfl, sum_range_add]
  by_cases h : 64 ≤ d
  · rw [sum_eq_zero (s := range 256) (f := fun r => f r * stk x r d)
      (fun r hr => by rw [stk, if_pos (mem_range.mp hr), if_pos h, mul_zero]), zero_add]
    refine sum_congr rfl fun r _ => ?_
    rw [stk, if_neg (by omega), if_pos h, show d / 64 = 1 by omega, Nat.add_sub_cancel_left, mul_one]
  · rw [sum_eq_zero (s := range 256) (f := fun r => f (256 + r) * stk x (256 + r) d)
      (fun r _ => by rw [stk, if_neg (by omega), if_neg h, mul_zero]), add_zero]
    refine sum_congr rfl fun r hr => ?_
    rw [stk, if_pos (mem_range.mp hr), if_neg h, show d / 64 = 0 by omega, mul_zero, zero_add]

end Cert.Attn
-- ==== Proof.FwdLoop.lean ====
/-
  The forward call at one grid point: the loop over the blocks of keys before the diagonal one, and the two blocks that the
  point leaves, as real arrays.
-/
module
public import proofs.«01_k».proof.Proof.FwdBlock
public import proofs.«01_k».proof.Proof.HeadSpec
public import proofs.«01_k».proof.Proof.Gen.KernelIdeal.Frame
public import Idealize.ShloMosaic.Lib.Pipeline.Value
public import Idealize.ShloMosaic.Lib.StableHlo.Run
public import Idealize.ShloMosaic.Lib.Tactic
@[expose] public section
set_option maxRecDepth 16384
noncomputable section
namespace Cert.Attn
open Idealize.ShloMosaic Idealize.ShloMosaic.TcCoe Idealize.SL.Sem Cert.KernelIdeal Cert.KernelIdeal.Gen

theorem hz : (![0, 0] : Fin 2 → Nat) = fun _ => 0 := funext fun a => by fin_cases a <;> rfl

/-- A block of rows read out of a real array. -/
theorem ld_rows (x : ℕ → ℕ → ℝ) (off : Fin 2 → ℕ) (b : ℕ) (h : off = ![b, 0]) (inb) :
    View.ld (Val := Elt Ideal) (S := S2048x128) (e' := .bf16) (up x : Vec Ideal S2048x128 .bf16) (Rect.unit (s := S2048x128) off ![256, 128] inb) = up (fun r d => x (b + r) d) := by
  subst h
  funext j
  show ((x (b + 1 * (j 0).val) (0 + 1 * (j 1).val) : ℝ) : EReal) = ((x (b + (j 0).val) (j 1).val : ℝ) : EReal)
  simp only [one_mul, zero_add]

/-- The loop over earlier blocks has as many trips as there are earlier blocks. -/
theorem trips1 (i : grid0.Coords) : (k0_t1_loop i).trips = (i 1).val := by
  have h : ∀ n : Fin 8, Scf.Loop.trips (w := 32) ⟨0#32, Scalar.addi 0#32 (Scalar.muli (Scalar.divsi (Scalar.subi (BitVec.ofNat 32 n.val) 0#32) 1#32) 1#32), 1#32⟩ = n.val := by
    decide +kernel
  exact h (i 1)

/-- The remainder loop has no trip. -/
theorem trips2 (i : grid0.Coords) : (k0_t2_loop i).trips = 0 := by
  have h : ∀ n : Fin 8, Scf.Loop.trips (w := 32) ⟨Scalar.addi 0#32 (Scalar.muli (Scalar.divsi (Scalar.subi (BitVec.ofNat 32 n.val) 0#32) 1#32) 1#32),
      Scalar.addi 0#32 (Scalar.subi (BitVec.ofNat 32 n.val) 0#32), 1#32⟩ = 0 := by
    decide +kernel
  exact h (i 1)

/-- The diagonal block's rows begin at 256 times the block's number. -/
theorem off1 (i : grid0.Coords) : k0_off1 i = ![256 * (i 1).val, 0] := by
  have h : ∀ n : Fin 8, ![(Scalar.indexCast (Scalar.muli (BitVec.ofNat 32 n.val) 256#32) : Index).toNat, 0] = ![256 * n.val, 0] := by decide +kernel
  exact h (i 1)

/-- Trip `k` takes the block that lies `k + 1` before the diagonal one. -/
theorem off2 (i : grid0.Coords) (k : Fin (k0_t1_loop i).trips) : k0_off2 i k = ![256 * ((i 1).val - (k.val + 1)), 0] := by
  have hk : k.val < (i 1).val := lt_of_lt_of_eq k.isLt (trips1 i)
  have h : ∀ n : Fin 8, ∀ k : Fin 8, k.val < n.val → ![(Scalar.indexCast (Scalar.muli (Scalar.subi (Scalar.subi (BitVec.ofNat 32 n.val) 1#32) (Scf.iv 0#32 1#32 k.val)) 256#32) : Index).toNat, 0]
      = ![256 * (n.val - (k.val + 1)), 0] := by decide +kernel
  have h8 : (i 1).val < 8 := (i 1).isLt
  exact h (i 1) ⟨k.val, by omega⟩ hk

/-- The same three facts, the words as the body's run spells them. -/
theorem trips1' (i : grid0.Coords) :
    Scf.trips 0#32 (Scalar.addi 0#32 (Scalar.muli (Scalar.divsi (Scalar.subi (BitVec.ofNat 32 (i 1).val) 0#32) 1#32) 1#32)) 1#32 = (i 1).val := trips1 i
theorem trips2' (i : grid0.Coords) :
    Scf.trips (Scalar.addi 0#32 (Scalar.muli (Scalar.divsi (Scalar.subi (BitVec.ofNat 32 (i 1).val) 0#32) 1#32) 1#32))
      (Scalar.addi 0#32 (Scalar.subi (BitVec.ofNat 32 (i 1).val) 0#32)) 1#32 = 0 := trips2 i
theorem off1' (i : grid0.Coords) :
    ![BitVec.toNat (Scalar.indexCast (Scalar.muli (BitVec.ofNat 32 (i 1).val) 256#32)), 0] = ![256 * (i 1).val, 0] := off1 i

/-- One trip: the two accumulators after the block. -/
theorem tripR (𝒱 : Variants) (c : Dev nD) (bd : Option 𝒱.V) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole) (arg1 : BitVec 32) (v8 : FVec Ideal S512x128 .bf16) (v15 : IVec S512x256 32) (v19 : FVec Ideal S256x256 .bf16) (v20 : FVec Ideal S512x128 .f32) (v21 : FVec Ideal S512x1 .f32) (v29 : FVec Ideal S256x128 .bf16) (v40 : FVec Ideal S512x256 .f32) (v41 : FVec Ideal S512x256 .f32) (v42 : IVec S512x256 32) (x1 x2 : ℕ → ℕ → ℝ) (k : Fin (k0_t1_loop i).trips) (s : FVec Ideal S512x128 .f32 × FVec Ideal S512x1 .f32) :
    tripR_k0_t1 (F := Ideal) 𝒱 c bd i arg2 harg2 arg3 harg3 arg4 harg4 arg5 harg5 arg6 harg6 arg1 v8 v15 v19 v20 v21 v29 v40 v41 v42 (harg3.unread (up x1)) (harg4.unread (up x2)) k s
      = (k0_pay19 v8 v19 s.1 s.2 (up fun r d => x1 (256 * ((i 1).val - (k.val + 1)) + r) d) (up fun r d => x2 (256 * ((i 1).val - (k.val + 1)) + r) d),
        k0_pay20 v8 s.2 (up fun r d => x1 (256 * ((i 1).val - (k.val + 1)) + r) d)) := by
  unfold tripR_k0_t1 trip_k0_t1
  dsimp only
  simp only [View.readAt_eq_ld, harg3.read_unread, harg4.read_unread]
  rw [ld_rows x1 _ _ (off2 i k), ld_rows x2 _ _ (off2 i k)]

/-- The accumulators that hold the keys from `b` on. -/
def accFrom (i : ℕ) (q k v : ℕ → ℕ → ℝ) (b : ℕ) (r d : ℕ) : ℝ := ∑ s ∈ Finset.Ico b (tq i r), Aw (zz 128 q k r) (tq i r) s * v s d
def logFrom (i : ℕ) (q k : ℕ → ℕ → ℝ) (b : ℕ) (r : ℕ) : ℝ := ∑ s ∈ Finset.Ico b (tq i r), lsn (zz 128 q k r s)

/-- The loop's state before trip `k` holds the keys of the last `k` blocks before the diagonal one, and that block. -/
theorem state (𝒱 : Variants) (c : Dev nD) (bd : Option 𝒱.V) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole) (arg1 : BitVec 32) (v15 : IVec S512x256 32) (v20 : FVec Ideal S512x128 .f32) (v21 : FVec Ideal S512x1 .f32) (v29 : FVec Ideal S256x128 .bf16) (v40 : FVec Ideal S512x256 .f32) (v41 : FVec Ideal S512x256 .f32) (v42 : IVec S512x256 32) (q x1 x2 : ℕ → ℕ → ℝ)
    (init : FVec Ideal S512x128 .f32 × FVec Ideal S512x1 .f32)
    (hinit : init = (up (accFrom (i 1).val q x1 x2 (256 * (i 1).val)), up (fun r _ => logFrom (i 1).val q x1 (256 * (i 1).val) r))) :
    ∀ k : ℕ, k ≤ (i 1).val →
    st_k0_t1 (F := Ideal) 𝒱 c bd i arg2 harg2 arg3 harg3 arg4 harg4 arg5 harg5 arg6 harg6 arg1 (up q) v15 k0_pay4 v20 v21 v29 v40 v41 v42 (harg3.unread (up x1)) (harg4.unread (up x2)) init k
      = (up (accFrom (i 1).val q x1 x2 (256 * ((i 1).val - k))), up (fun r _ => logFrom (i 1).val q x1 (256 * ((i 1).val - k)) r))
  | 0, _ => by rw [st_k0_t1_zero, hinit, Nat.sub_zero]
  | k + 1, hk => by
    have hk' : k < (k0_t1_loop i).trips := by rw [trips1]; omega
    rw [st_k0_t1_succ 𝒱 c bd i arg2 harg2 arg3 harg3 arg4 harg4 arg5 harg5 arg6 harg6 arg1 _ v15 _ v20 v21 v29 v40 v41 v42 _ _ init ⟨k, hk'⟩, tripR,
      state 𝒱 c bd i arg2 harg2 arg3 harg3 arg4 harg4 arg5 harg5 arg6 harg6 arg1 v15 v20 v21 v29 v40 v41 v42 q x1 x2 init hinit k (by omega)]
    dsimp only
    rw [k0_pay19_up, k0_pay20_up]
    have hb : 256 * ((i 1).val - k) = 256 * ((i 1).val - (k + 1)) + 256 := by omega
    have ht : ∀ r, 256 * ((i 1).val - (k + 1)) + 256 ≤ tq (i 1).val r := fun r => by unfold tq; omega
    rw [hb]
    congr 1
    · refine up_congr fun r d _ _ => ?_
      exact whole_out (zz 128 q x1 r) (fun s => x2 s d) _ _ (ht r)
    · refine up_congr fun r d _ _ => ?_
      exact whole_log (fun s => lsn (zz 128 q x1 r s)) _ _ (ht r)

/-- The loop begins with the diagonal block. -/
theorem init_eq (n : ℕ) (q x1 x2 : ℕ → ℕ → ℝ) :
    (k0_pay14 (F := Ideal) k0_pay3 k0_pay4 k0_pay5 k0_pay6 (k0_pay7 (up fun r d => x2 (256 * n + r) d)) (k0_pay9 (up q) (up fun r d => x1 (256 * n + r) d)) (k0_pay10 (up q) (up fun r d => x1 (256 * n + r) d)) k0_pay11,
      k0_pay15 (F := Ideal) k0_pay3 k0_pay6 (k0_pay10 (up q) (up fun r d => x1 (256 * n + r) d)) k0_pay11)
      = (up (accFrom n (stk q) x1 x2 (256 * n)), up (fun r _ => logFrom n (stk q) x1 (256 * n) r)) := by
  rw [k0_pay5_up, k0_pay6_up, k0_pay7_up, k0_pay9_up, k0_pay10_up, k0_pay14_up, k0_pay15_up]
  congr 1
  · refine up_congr fun r d _ _ => ?_
    have hr : r % 256 ≤ 256 := (Nat.mod_lt _ (by decide)).le
    rw [zero_add, Real.exp_zero, one_mul]
    exact diag_out (zz 128 (stk q) x1 r) (fun s => x2 s d) (256 * n) (r % 256) hr
  · refine up_congr fun r d _ _ => ?_
    have hr : r % 256 ≤ 256 := (Nat.mod_lt _ (by decide)).le
    rw [zero_add]
    exact block_sum_lt (fun s => lsn (zz 128 (stk q) x1 r s)) (256 * n) (r % 256) 256 hr

set_option backward.isDefEq.respectTransparency false in
/-- The block of the output that a point leaves. -/
theorem outA3 (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole)
    (q x1 x2 : ℕ → ℕ → ℝ) :
    out0_A_3 (F := Ideal) c i arg2 harg2 arg3 harg3 arg4 harg4 arg5 harg5 arg6 harg6 (up q) (up x1) (up x2) = up (unstk (accFrom (i 1).val (stk q) x1 x2 0)) := by
  unfold out0_A_3
  rw [View.read_writes_eq_canon _ _ _ (cover0_A_3 c i arg2 harg2 arg3 harg3 arg4 harg4 arg5 harg5 arg6 harg6 _ _ _)]
  unfold kernelRun0_A
  dsimp only
  sl_unfold_words
  rw [View.canon_unit_zero hz]
  simp only [View.readAt_eq_ld, harg2.read_unread, harg3.read_unread, harg4.read_unread, View.ld_unit_zero (S := S256x128) hz, trips2', st_k0_t2_zero]
  rw [k0_pay2_up, ld_rows x1 _ _ (off1' i), ld_rows x2 _ _ (off1' i), trips1',
    state Variants.none c none i arg2 harg2 arg3 harg3 arg4 harg4 arg5 harg5 arg6 harg6 _ _ _ _ _ _ _ _ (stk q) x1 x2 _ (init_eq (i 1).val q x1 x2) (i 1).val le_rfl, k0_pay26_up, Nat.sub_self, Nat.mul_zero]

set_option backward.isDefEq.respectTransparency false in
/-- The block of the saved logarithms that a point leaves. -/
theorem outA4 (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole)
    (q x1 x2 : ℕ → ℕ → ℝ) :
    out0_A_4 (F := Ideal) c i arg2 harg2 arg3 harg3 arg4 harg4 arg5 harg5 arg6 harg6 (up q) (up x1) (up x2) = up (unstk (fun r _ => logFrom (i 1).val (stk q) x1 0 r)) := by
  unfold out0_A_4
  rw [View.read_writes_eq_canon _ _ _ (cover0_A_4 c i arg2 harg2 arg3 harg3 arg4 harg4 arg5 harg5 arg6 harg6 _ _ _)]
  unfold kernelRun0_A
  dsimp only
  sl_unfold_words
  rw [View.canon_unit_zero hz]
  simp only [View.readAt_eq_ld, harg2.read_unread, harg3.read_unread, harg4.read_unread, View.ld_unit_zero (S := S256x128) hz, trips2', st_k0_t2_zero]
  rw [k0_pay2_up, ld_rows x1 _ _ (off1' i), ld_rows x2 _ _ (off1' i), trips1',
    state Variants.none c none i arg2 harg2 arg3 harg3 arg4 harg4 arg5 harg5 arg6 harg6 _ _ _ _ _ _ _ _ (stk q) x1 x2 _ (init_eq (i 1).val q x1 x2) (i 1).val le_rfl, k0_pay1_up, Nat.sub_self, Nat.mul_zero]
-- ==== Proof.FwdArray.lean ====
/-
  The arrays that the forward call leaves: the output and the saved logarithms, as real arrays.
-/
module
public import proofs.«01_k».proof.Proof.FwdLoop
@[expose] public section
set_option maxRecDepth 16384
noncomputable section
namespace Cert.Attn
open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem coords0 : ∀ t : Fin cfg0.N, ((grid0.coords t) 0).val = t.val / 8 ∧ ((grid0.coords t) 1).val = t.val % 8 := by decide +kernel

theorem index0_0 : ∀ t : Fin cfg0.N, win0_0.index t 0 = t.val % 8 ∧ win0_0.index t 1 = t.val / 8 := by decide +kernel
theorem index0_1 : ∀ t : Fin cfg0.N, win0_1.index t 0 = 0 ∧ win0_1.index t 1 = t.val / 8 := by decide +kernel
theorem index0_2 : ∀ t : Fin cfg0.N, win0_2.index t 0 = 0 ∧ win0_2.index t 1 = t.val / 8 := by decide +kernel
theorem index0_3 : ∀ t : Fin cfg0.N, win0_3.index t 0 = t.val % 8 ∧ win0_3.index t 1 = t.val / 8 := by decide +kernel
theorem index0_4 : ∀ t : Fin cfg0.N, win0_4.index t 0 = t.val % 8 ∧ win0_4.index t 1 = t.val / 8 := by decide +kernel

/-- The block of queries of a point. -/
theorem iblk0_0 (c : Dev nD) (q : ℕ → ℕ → ℝ) (h : V c (Pipeline.arrRef spec0 0) = (up q : Shape.Idx S2048x512 → EReal)) (t : Fin cfg0.N) :
    iblk0 V c 0 t = (up (blkQ q (t.val / 8) (t.val % 8)) : Shape.Idx S256x128 → EReal) := by
  funext j
  unfold iblk0
  rw [View.read_apply, h]
  show ((q (win0_0.index t 0 * 256 + 1 * (j 0).val) (win0_0.index t 1 * 128 + 1 * (j 1).val) : ℝ) : EReal) = _
  rw [(index0_0 t).1, (index0_0 t).2, mul_comm _ 256, mul_comm _ 128, one_mul, one_mul]
  rfl

theorem iblk0_1 (c : Dev nD) (q : ℕ → ℕ → ℝ) (h : V c (Pipeline.arrRef spec0 1) = (up q : Shape.Idx S2048x512 → EReal)) (t : Fin cfg0.N) :
    iblk0 V c 1 t = (up (blkK q (t.val / 8)) : Shape.Idx S2048x128 → EReal) := by
  funext j
  unfold iblk0
  rw [View.read_apply, h]
  show ((q (win0_1.index t 0 * 2048 + 1 * (j 0).val) (win0_1.index t 1 * 128 + 1 * (j 1).val) : ℝ) : EReal) = _
  rw [(index0_1 t).1, (index0_1 t).2, zero_mul, zero_add, mul_comm _ 128, one_mul, one_mul]
  rfl

theorem iblk0_2 (c : Dev nD) (q : ℕ → ℕ → ℝ) (h : V c (Pipeline.arrRef spec0 2) = (up q : Shape.Idx S2048x512 → EReal)) (t : Fin cfg0.N) :
    iblk0 V c 2 t = (up (blkK q (t.val / 8)) : Shape.Idx S2048x128 → EReal) := by
  funext j
  unfold iblk0
  rw [View.read_apply, h]
  show ((q (win0_2.index t 0 * 2048 + 1 * (j 0).val) (win0_2.index t 1 * 128 + 1 * (j 1).val) : ℝ) : EReal) = _
  rw [(index0_2 t).1, (index0_2 t).2, zero_mul, zero_add, mul_comm _ 128, one_mul, one_mul]
  rfl

/-- A point's block of the output is the specification's. -/
theorem block_o (q k v : ℕ → ℕ → ℝ) (p i : ℕ) :
    up (M := 256) (N := 128) (unstk (accFrom i (stk (blkQ q p i)) (blkK k p) (blkK v p) 0)) = up (blkQ (specO q k v) p i) := by
  refine up_congr fun r d hr hd => ?_
  have key : ∀ r', r' < 512 → r' % 256 = r → r' / 256 = d / 64 →
      accFrom i (stk (blkQ q p i)) (blkK k p) (blkK v p) 0 r' d = blkQ (specO q k v) p i r d := fun r' h1 h2 h3 => by
    have ht : tq i r' = 256 * i + r := by rw [tq, h2]
    have hz : zz 128 (stk (blkQ q p i)) (blkK k p) r' = zh q k ((128 * p + d) / 64) (256 * i + r) := by
      funext s
      rw [zz_stk q k p i r' s h1, ht, h3, show 2 * p + d / 64 = (128 * p + d) / 64 by omega]
    rw [accFrom, hz, ht]
    rfl
  unfold unstk
  split
  · exact key _ (by omega) (by omega) (by omega)
  · exact key _ (by omega) (by omega) (by omega)

/-- A point's block of the saved logarithms is the specification's. -/
theorem block_t (q k : ℕ → ℕ → ℝ) (p i : ℕ) :
    up (M := 256) (N := 128) (unstk (fun r _ => logFrom i (stk (blkQ q p i)) (blkK k p) 0 r)) = up (blkQ (specT q k) p i) := by
  refine up_congr fun r d hr hd => ?_
  have key : ∀ r', r' < 512 → r' % 256 = r → r' / 256 = d / 64 →
      logFrom i (stk (blkQ q p i)) (blkK k p) 0 r' = blkQ (specT q k) p i r d := fun r' h1 h2 h3 => by
    have ht : tq i r' = 256 * i + r := by rw [tq, h2]
    have hz : zz 128 (stk (blkQ q p i)) (blkK k p) r' = zh q k ((128 * p + d) / 64) (256 * i + r) := by
      funext s
      rw [zz_stk q k p i r' s h1, ht, h3, show 2 * p + d / 64 = (128 * p + d) / 64 by omega]
    rw [logFrom, hz, ht]
    rfl
  unfold unstk
  split
  · exact key _ (by omega) (by omega) (by omega)
  · exact key _ (by omega) (by omega) (by omega)

/-- The positions of the result that a point's block holds. -/
theorem mem0_3 (t : Fin cfg0.N) (i : Shape.Idx S2048x512) : i ∈ ((View.whole main_v5_0).slice (win0_3.rect t)).set
    ↔ (t.val % 8 * 256 ≤ (i 0).val ∧ (i 0).val < t.val % 8 * 256 + 256) ∧ (t.val / 8 * 128 ≤ (i 1).val ∧ (i 1).val < t.val / 8 * 128 + 128) := by
  rw [View.set_slice_whole, Rect.mem_set_unit]
  constructor
  · intro h
    have h0 := h 0
    have h1 := h 1
    change win0_3.index t 0 * 256 ≤ (i 0).val ∧ (i 0).val < win0_3.index t 0 * 256 + 256 at h0
    change win0_3.index t 1 * 128 ≤ (i 1).val ∧ (i 1).val < win0_3.index t 1 * 128 + 128 at h1
    rw [(index0_3 t).1] at h0
    rw [(index0_3 t).2] at h1
    exact ⟨h0, h1⟩
  · intro h a
    match a with
    | ⟨0, _⟩ =>
      show win0_3.index t 0 * 256 ≤ (i 0).val ∧ (i 0).val < win0_3.index t 0 * 256 + 256
      rw [(index0_3 t).1]; exact h.1
    | ⟨1, _⟩ =>
      show win0_3.index t 1 * 128 ≤ (i 1).val ∧ (i 1).val < win0_3.index t 1 * 128 + 128
      rw [(index0_3 t).2]; exact h.2

/-- The output array after the forward call. -/
theorem final0_3 (c : Dev nD) (q k v : ℕ → ℕ → ℝ) (h0 : V c (Pipeline.arrRef spec0 0) = (up q : Shape.Idx S2048x512 → EReal))
    (h1 : V c (Pipeline.arrRef spec0 1) = (up k : Shape.Idx S2048x512 → EReal)) (h2 : V c (Pipeline.arrRef spec0 2) = (up v : Shape.Idx S2048x512 → EReal)) :
    (dat0 V c).arrAt 3 cfg0.N = (up (specO q k v) : Shape.Idx S2048x512 → EReal) := by
  refine (dat0 V c).arrAt_eq_of_cover 3 (up (specO q k v) : Shape.Idx S2048x512 → EReal) (fun t _ => ?_) (fun i => ?_)
  · show (cfg0.win 3).cut (grid0.coords t) ((dat0 V c).after 3 t) = _
    rw [after0_3]
    unfold outsAt0
    dsimp only
    rw [iblk0_0 V c q h0 t, iblk0_1 V c k h1 t, iblk0_2 V c v h2 t]
    rw [outA3, (coords0 t).2, block_o]
    funext j
    show ((specO q k v (256 * (t.val % 8) + (j 0).val) (128 * (t.val / 8) + (j 1).val) : ℝ) : EReal)
      = ((specO q k v (win0_3.index t 0 * 256 + 1 * (j 0).val) (win0_3.index t 1 * 128 + 1 * (j 1).val) : ℝ) : EReal)
    rw [(index0_3 t).1, (index0_3 t).2, mul_comm _ 256, mul_comm _ 128, one_mul, one_mul]
  · have hi0 : (i 0 : Nat) < 2048 := (i 0).isLt
    have hi1 : (i 1 : Nat) < 512 := (i 1).isLt
    have hN : cfg0.N = 32 := N_0
    refine ⟨⟨8 * ((i 1 : Nat) / 128) + (i 0 : Nat) / 256, by omega⟩, flush0_3 _, ?_⟩
    exact (mem0_3 _ i).mpr ⟨by dsimp only; omega, by dsimp only; omega⟩

/-- The positions of the result that a point's block holds. -/
theorem mem0_4 (t : Fin cfg0.N) (i : Shape.Idx S2048x512) : i ∈ ((View.whole main_v5_1).slice (win0_4.rect t)).set
    ↔ (t.val % 8 * 256 ≤ (i 0).val ∧ (i 0).val < t.val % 8 * 256 + 256) ∧ (t.val / 8 * 128 ≤ (i 1).val ∧ (i 1).val < t.val / 8 * 128 + 128) := by
  rw [View.set_slice_whole, Rect.mem_set_unit]
  constructor
  · intro h
    have h0 := h 0
    have h1 := h 1
    change win0_4.index t 0 * 256 ≤ (i 0).val ∧ (i 0).val < win0_4.index t 0 * 256 + 256 at h0
    change win0_4.index t 1 * 128 ≤ (i 1).val ∧ (i 1).val < win0_4.index t 1 * 128 + 128 at h1
    rw [(index0_4 t).1] at h0
    rw [(index0_4 t).2] at h1
    exact ⟨h0, h1⟩
  · intro h a
    match a with
    | ⟨0, _⟩ =>
      show win0_4.index t 0 * 256 ≤ (i 0).val ∧ (i 0).val < win0_4.index t 0 * 256 + 256
      rw [(index0_4 t).1]; exact h.1
    | ⟨1, _⟩ =>
      show win0_4.index t 1 * 128 ≤ (i 1).val ∧ (i 1).val < win0_4.index t 1 * 128 + 128
      rw [(index0_4 t).2]; exact h.2

/-- The array of saved logarithms after the forward call. -/
theorem final0_4 (c : Dev nD) (q k v : ℕ → ℕ → ℝ) (h0 : V c (Pipeline.arrRef spec0 0) = (up q : Shape.Idx S2048x512 → EReal))
    (h1 : V c (Pipeline.arrRef spec0 1) = (up k : Shape.Idx S2048x512 → EReal)) (h2 : V c (Pipeline.arrRef spec0 2) = (up v : Shape.Idx S2048x512 → EReal)) :
    (dat0 V c).arrAt 4 cfg0.N = (up (specT q k) : Shape.Idx S2048x512 → EReal) := by
  refine (dat0 V c).arrAt_eq_of_cover 4 (up (specT q k) : Shape.Idx S2048x512 → EReal) (fun t _ => ?_) (fun i => ?_)
  · show (cfg0.win 4).cut (grid0.coords t) ((dat0 V c).after 4 t) = _
    rw [after0_4]
    unfold outsAt0
    dsimp only
    rw [iblk0_0 V c q h0 t, iblk0_1 V c k h1 t, iblk0_2 V c v h2 t]
    rw [outA4, (coords0 t).2, block_t]
    funext j
    show ((specT q k (256 * (t.val % 8) + (j 0).val) (128 * (t.val / 8) + (j 1).val) : ℝ) : EReal)
      = ((specT q k (win0_4.index t 0 * 256 + 1 * (j 0).val) (win0_4.index t 1 * 128 + 1 * (j 1).val) : ℝ) : EReal)
    rw [(index0_4 t).1, (index0_4 t).2, mul_comm _ 256, mul_comm _ 128, one_mul, one_mul]
  · have hi0 : (i 0 : Nat) < 2048 := (i 0).isLt
    have hi1 : (i 1 : Nat) < 512 := (i 1).isLt
    have hN : cfg0.N = 32 := N_0
    refine ⟨⟨8 * ((i 1 : Nat) / 128) + (i 0 : Nat) / 256, by omega⟩, flush0_4 _, ?_⟩
    exact (mem0_4 _ i).mpr ⟨by dsimp only; omega, by dsimp only; omega⟩
-- ==== Proof.BwdBlock.lean ====
/-
  What one block of the backward call computes, over real arrays: the weights of the block, the gradient of its logits, and
  what the block adds to the gradients of the queries, the keys and the values.
-/
module
public import proofs.«01_k».proof.Proof.FwdBlock
@[expose] public section
set_option maxRecDepth 16384
noncomputable section
namespace Cert.Attn
open Idealize.ShloMosaic Cert.KernelIdeal Cert.KernelIdeal.Gen

/-- The weights of a whole block up to the factor that the later blocks contribute. -/
def wa (z : ℕ → ℕ → ℝ) (r x : ℕ) : ℝ :=
  Real.exp (lsp (z r x) + ∑ y ∈ Finset.range 256, lsn (z r y) * (if x < y then 1 else 0))

/-- The weights of the diagonal block. -/
def wd (z : ℕ → ℕ → ℝ) (r x : ℕ) : ℝ :=
  if low r x then Real.exp (lsp (z r x) + ∑ y ∈ Finset.range 256, (if low r y then lsn (z r y) else 0) * (if x < y then 1 else 0)) else 0

/-- The part of a block's logit gradient that the block's own weighted gradients `w` give. -/
def aa (z w : ℕ → ℕ → ℝ) (r x : ℕ) : ℝ :=
  w r x * Real.exp (lsn (z r x)) - (∑ y ∈ Finset.range 256, w r y * (if y < x then 1 else 0)) * Real.exp (lsp (z r x))

/-- The logit gradient of a whole block: factor `f`, carried sum `cg`. -/
def dzb (f cg : ℕ → ℝ) (z w : ℕ → ℕ → ℝ) (r x : ℕ) : ℝ := f r * aa z w r x - cg r * Real.exp (lsp (z r x))

/-- The logit gradient of the diagonal block. -/
def dzd (f cg : ℕ → ℝ) (z w : ℕ → ℕ → ℝ) (r x : ℕ) : ℝ :=
  f r * (if low r x then aa z w r x else 0) - cg r * (if low r x then Real.exp (lsp (z r x)) else 0)

theorem k1_pay1_up (x : ℕ → ℕ → ℝ) : k1_pay1 (F := Ideal) (up x) = up (unstk x) := by
  funext j
  idx_vars j
  pointwise [k1_pay1]
  simp only [lane_ge j1.isLt, up_ix2, select_coe, unstk]

theorem k1_pay2_up (k : ℕ → ℕ → ℝ) : k1_pay2 (F := Ideal) (up k) = up k := by
  funext j
  idx_vars j
  pointwise [k1_pay2]

theorem k1_pay3_up (q k : ℕ → ℕ → ℝ) : k1_pay3 (F := Ideal) (up q) (up k) = up (zz 128 q k) := by
  funext j
  idx_vars j
  pointwise [k1_pay3, k1_pay2]
  simp only [up_ix2, ← EReal.coe_mul, coe_sum, zz, Finset.sum_range]

theorem k1_pay4_up (q k : ℕ → ℕ → ℝ) : k1_pay4 (F := Ideal) (up q) (up k) = up (fun r c => lsp (zz 128 q k r c)) := by
  funext j
  idx_vars j
  pointwise [k1_pay4, k1_pay3_up]
  simp only [up_ix2, abs_up, ← EReal.coe_one, ← EReal.coe_zero, ← EReal.coe_sub, exp_up, ← EReal.coe_add, log_one_exp, min_up, lsp]

theorem k1_pay5_up (q k : ℕ → ℕ → ℝ) : k1_pay5 (F := Ideal) (up q) (up k) = up (fun r c => lsn (zz 128 q k r c)) := by
  funext j
  idx_vars j
  pointwise [k1_pay5, k1_pay3_up, k1_pay4_up]
  simp only [up_ix2, ← EReal.coe_sub, lsn]

/-- The triangle that sums what comes after a column. -/
theorem k1_pay26_up : k1_pay26 (F := Ideal) = up (fun a b => if b < a then 1 else 0) := by
  funext j
  idx_vars j
  pointwise [k1_pay26]
  rw [pos_gt j0.isLt j1.isLt, up_ix2, indicator]

/-- The triangle that sums what comes before a column. -/
theorem k1_pay27_up : k1_pay27 (F := Ideal) = up (fun a b => if a < b then 1 else 0) := by
  funext j
  idx_vars j
  pointwise [k1_pay27]
  rw [pos_lt j0.isLt j1.isLt, up_ix2, indicator]

theorem k1_pay6_up (q k : ℕ → ℕ → ℝ) : k1_pay6 (F := Ideal) (up q) k1_pay26 (up k) = up (wa (zz 128 q k)) := by
  funext j
  idx_vars j
  pointwise [k1_pay6, k1_pay4_up, k1_pay5_up, k1_pay26_up]
  simp only [up_ix2, ← EReal.coe_mul, ← EReal.coe_sub, coe_sum, ← EReal.coe_add, exp_up, wa,
    sub_self, zero_mul, Finset.sum_const_zero, add_zero, Finset.sum_range]

theorem k1_pay7_up (q g k v : ℕ → ℕ → ℝ) :
    k1_pay7 (F := Ideal) (up q) (up g) k1_pay26 (up k) (up v) = up (fun r x => wa (zz 128 q k) r x * zz 128 g v r x) := by
  funext j
  idx_vars j
  pointwise [k1_pay7, k1_pay6_up]
  simp only [up_ix2, ← EReal.coe_mul, coe_sum, zz, Finset.sum_range]

theorem k1_pay8_up (q k : ℕ → ℕ → ℝ) : k1_pay8 (F := Ideal) (up q) (up k) = up (fun r c => Real.exp (lsp (zz 128 q k r c))) := by
  funext j
  idx_vars j
  pointwise [k1_pay8, k1_pay4_up]
  simp only [up_ix2, exp_up]

theorem k1_pay9_up (q g k v : ℕ → ℕ → ℝ) :
    k1_pay9 (F := Ideal) (up q) (up g) k1_pay26 k1_pay27 (up k) (up v)
      = up (aa (zz 128 q k) (fun r x => wa (zz 128 q k) r x * zz 128 g v r x)) := by
  funext j
  idx_vars j
  pointwise [k1_pay9, k1_pay5_up, k1_pay7_up, k1_pay8_up, k1_pay27_up]
  simp only [up_ix2, ← EReal.coe_mul, ← EReal.coe_sub, coe_sum, ← EReal.coe_add, exp_up, aa,
    sub_self, zero_mul, Finset.sum_const_zero, add_zero, Finset.sum_range]

theorem k1_pay20_up : k1_pay20 (F := Ideal) = up (fun _ _ => 0) := by
  funext j
  idx_vars j
  pointwise [k1_pay20]
  rfl

theorem k1_pay21_up : k1_pay21 (F := Ideal) = up (fun _ _ => 0) := by
  funext j
  idx_vars j
  pointwise [k1_pay21]
  rfl

/-- The stacked queries. -/
theorem k1_pay22_up (x : ℕ → ℕ → ℝ) : k1_pay22 (F := Ideal) (up x) = up (stk x) := by
  funext j
  idx_vars j
  pointwise [k1_pay22]
  rw [lane_ge j1.isLt]
  simp only [up_ix2, stk]
  by_cases hr : j0.val < 256 <;> by_cases hd : 64 ≤ j1.val <;> simp [hr, hd, Scalar.select]

/-- The stacked gradients of the output. -/
theorem k1_pay23_up (x : ℕ → ℕ → ℝ) : k1_pay23 (F := Ideal) (up x) = up (stk x) := by
  funext j
  idx_vars j
  pointwise [k1_pay23]
  rw [lane_ge j1.isLt]
  simp only [up_ix2, stk]
  by_cases hr : j0.val < 256 <;> by_cases hd : 64 ≤ j1.val <;> simp [hr, hd, Scalar.select]

/-- The saved logarithms, one per row of the stack. -/
theorem k1_pay24_up (x : ℕ → ℕ → ℝ) :
    k1_pay24 (F := Ideal) (up x) = up (fun r _ => if r < 256 then x r 0 else x (r - 256) 64) := by
  funext j
  idx_vars j
  have hj : j1 = 0 := Subsingleton.elim _ _
  subst hj
  pointwise [k1_pay24]
  simp only [up_ix2]
  by_cases hr : j0.val < 256 <;> simp [hr]

theorem k1_pay28_up : k1_pay28 (F := Ideal) = up (fun _ _ => 0) := by
  funext j
  idx_vars j
  pointwise [k1_pay28]
  rfl

theorem k1_pay29_up : k1_pay29 (F := Ideal) (Scalar.ofBits .f32 0x00000000#32) = up (fun _ _ => 0) := by
  funext j
  idx_vars j
  pointwise [k1_pay29]
  rfl

/-- The carried logarithm after a whole block. -/
theorem k1_pay30_up (q k c : ℕ → ℕ → ℝ) :
    k1_pay30 (F := Ideal) (up c) (k1_pay10 (up q) (up k)) = up (fun r _ => c r 0 + ∑ y ∈ Finset.range 256, lsn (zz 128 q k r y)) := by
  funext j
  idx_vars j
  have hj : j1 = 0 := Subsingleton.elim _ _
  subst hj
  pointwise [k1_pay30, k1_pay10, k1_pay5_up]
  simp only [up_ix2, coe_sum, ← EReal.coe_add, Finset.sum_range, Fin.val_zero]

/-- The factor of a whole block: what the rows' later blocks contribute. -/
def fac (z t c : ℕ → ℕ → ℝ) (r : ℕ) : ℝ := Real.exp (t r 0 - (c r 0 + ∑ y ∈ Finset.range 256, lsn (z r y)))

theorem k1_pay31_up (q k t c : ℕ → ℕ → ℝ) :
    k1_pay31 (F := Ideal) (up t) (up c) (k1_pay10 (up q) (up k)) = up (fun r _ => fac (zz 128 q k) t c r) := by
  funext j
  idx_vars j
  have hj : j1 = 0 := Subsingleton.elim _ _
  subst hj
  pointwise [k1_pay31, k1_pay30_up]
  simp only [up_ix2, ← EReal.coe_sub, exp_up, fac, Fin.val_zero]

theorem k1_pay32_up (q k t c cg w : ℕ → ℕ → ℝ) :
    k1_pay32 (F := Ideal) (up t) (up c) (up cg) (up fun r x => Real.exp (lsp (zz 128 q k r x))) (up (aa (zz 128 q k) w)) (k1_pay10 (up q) (up k))
      = up (dzb (fac (zz 128 q k) t c) (fun r => cg r 0) (zz 128 q k) w) := by
  funext j
  idx_vars j
  pointwise [k1_pay32, k1_pay31_up]
  simp only [up_ix2, ← EReal.coe_sub, ← EReal.coe_mul, dzb, Fin.val_zero]

/-- The carried sum of weighted gradients after a whole block. -/
theorem k1_pay33_up (q k t c cg w : ℕ → ℕ → ℝ) :
    k1_pay33 (F := Ideal) (up t) (up c) (up cg) (up w) (k1_pay10 (up q) (up k))
      = up (fun r _ => cg r 0 + fac (zz 128 q k) t c r * ∑ y ∈ Finset.range 256, w r y) := by
  funext j
  idx_vars j
  have hj : j1 = 0 := Subsingleton.elim _ _
  subst hj
  pointwise [k1_pay33, k1_pay31_up]
  simp only [up_ix2, coe_sum, ← EReal.coe_add, ← EReal.coe_mul, Finset.sum_range, Fin.val_zero]

/-- The gradient of the queries after a whole block. -/
theorem k1_pay34_up (q k t c cg w acc : ℕ → ℕ → ℝ) :
    k1_pay34 (F := Ideal) (up t) (up acc) (up c) (up cg) (up k) (up fun r x => Real.exp (lsp (zz 128 q k r x))) (up (aa (zz 128 q k) w))
        (k1_pay10 (up q) (up k))
      = up (fun r d => acc r d + ∑ x ∈ Finset.range 256, dzb (fac (zz 128 q k) t c) (fun r => cg r 0) (zz 128 q k) w r x * k x d) := by
  funext j
  idx_vars j
  pointwise [k1_pay34, k1_pay32_up]
  simp only [up_ix2, coe_sum, ← EReal.coe_add, ← EReal.coe_mul, Finset.sum_range]

/-- The gradient of the block's keys after the block. -/
theorem k1_pay35_up (q k t c cg w acc : ℕ → ℕ → ℝ) :
    k1_pay35 (F := Ideal) (up q) (up t) (up c) (up cg) (up fun r x => Real.exp (lsp (zz 128 q k r x))) (up (aa (zz 128 q k) w))
        (k1_pay10 (up q) (up k)) (up acc)
      = up (fun x d => acc x d + ∑ r ∈ Finset.range 512, dzb (fac (zz 128 q k) t c) (fun r => cg r 0) (zz 128 q k) w r x * q r d) := by
  funext j
  idx_vars j
  pointwise [k1_pay35, k1_pay32_up]
  simp only [up_ix2, coe_sum, ← EReal.coe_add, ← EReal.coe_mul, Finset.sum_range]

/-- The gradient of the block's values after the block. -/
theorem k1_pay36_up (q k t c g w acc : ℕ → ℕ → ℝ) :
    k1_pay36 (F := Ideal) (up g) (up t) (up c) (up w) (k1_pay10 (up q) (up k)) (up acc)
      = up (fun x d => acc x d + ∑ r ∈ Finset.range 512, fac (zz 128 q k) t c r * w r x * g r d) := by
  funext j
  idx_vars j
  pointwise [k1_pay36, k1_pay31_up]
  simp only [up_ix2, coe_sum, ← EReal.coe_add, ← EReal.coe_mul, Finset.sum_range]

theorem k1_pay44_up (k : ℕ → ℕ → ℝ) : k1_pay44 (F := Ideal) (up k) = up k := by
  funext j
  idx_vars j
  pointwise [k1_pay44]

theorem k1_pay45_up (k : ℕ → ℕ → ℝ) : k1_pay45 (F := Ideal) (up k) = up k := by
  funext j
  idx_vars j
  pointwise [k1_pay45]

theorem k1_pay46_up (q k : ℕ → ℕ → ℝ) : k1_pay46 (F := Ideal) (up q) (up k) = up (zz 128 q k) := by
  funext j
  idx_vars j
  pointwise [k1_pay46, k1_pay44]
  simp only [up_ix2, ← EReal.coe_mul, coe_sum, zz, Finset.sum_range]

theorem k1_pay47_up (q k : ℕ → ℕ → ℝ) : k1_pay47 (F := Ideal) (up q) (up k) = up (fun r c => lsp (zz 128 q k r c)) := by
  funext j
  idx_vars j
  pointwise [k1_pay47, k1_pay46_up]
  simp only [up_ix2, abs_up, ← EReal.coe_one, ← EReal.coe_zero, ← EReal.coe_sub, exp_up, ← EReal.coe_add, log_one_exp, min_up, lsp]

theorem k1_pay48_up (q k : ℕ → ℕ → ℝ) : k1_pay48 (F := Ideal) (up q) (up k) = up (fun r c => lsn (zz 128 q k r c)) := by
  funext j
  idx_vars j
  pointwise [k1_pay48, k1_pay46_up, k1_pay47_up]
  simp only [up_ix2, ← EReal.coe_sub, lsn]

/-- The mask of the diagonal block. -/
theorem k1_pay49_at (r : Fin 512) (c : Fin 256) : k1_pay49 k1_pay25 (ix2 r c) = if low r.val c.val then 1#1 else 0#1 := by
  pointwise [k1_pay49, k1_pay25]
  exact diff_pos r.isLt c.isLt

theorem k1_pay50_up (q k : ℕ → ℕ → ℝ) :
    k1_pay50 (F := Ideal) (up q) k1_pay25 (up k) = up (fun r c => if low r c then lsn (zz 128 q k r c) else 0) := by
  funext j
  idx_vars j
  pointwise [k1_pay50, k1_pay48_up]
  simp only [k1_pay49_at, up_ix2, ← EReal.coe_zero, select_coe]

theorem k1_pay51_up (q k : ℕ → ℕ → ℝ) : k1_pay51 (F := Ideal) (up q) k1_pay25 k1_pay26 (up k) = up (wd (zz 128 q k)) := by
  funext j
  idx_vars j
  pointwise [k1_pay51, k1_pay47_up, k1_pay50_up, k1_pay26_up]
  simp only [k1_pay49_at, up_ix2, ← EReal.coe_zero, ← EReal.coe_mul, ← EReal.coe_sub, coe_sum, ← EReal.coe_add, exp_up, select_coe, wd,
    sub_self, zero_mul, Finset.sum_const_zero, add_zero, Finset.sum_range]

/-- The factor of the diagonal block. -/
def facd (z t c : ℕ → ℕ → ℝ) (r : ℕ) : ℝ := Real.exp (t r 0 - (c r 0 + ∑ y ∈ Finset.range 256, if low r y then lsn (z r y) else 0))

theorem k1_pay52_up (z t c : ℕ → ℕ → ℝ) :
    k1_pay52 (F := Ideal) (up t) (up c) (up fun r y => if low r y then lsn (z r y) else 0) = up (fun r _ => facd z t c r) := by
  funext j
  idx_vars j
  have hj : j1 = 0 := Subsingleton.elim _ _
  subst hj
  pointwise [k1_pay52]
  simp only [up_ix2, coe_sum, ← EReal.coe_add, ← EReal.coe_sub, exp_up, facd, Finset.sum_range, Fin.val_zero]

theorem k1_pay53_up (z g v t c cg w : ℕ → ℕ → ℝ) :
    k1_pay53 (F := Ideal) (up g) (up t) k1_pay27 (up c) (up cg) (up v) (up fun r x => lsp (z r x)) (up fun r x => lsn (z r x))
        (k1_pay49 k1_pay25) (up fun r y => if low r y then lsn (z r y) else 0) (up w)
      = up (dzd (facd z t c) (fun r => cg r 0) z (fun r x => w r x * zz 128 g v r x)) := by
  funext j
  idx_vars j
  pointwise [k1_pay53, k1_pay52_up, k1_pay27_up]
  simp only [k1_pay49_at, up_ix2, ← EReal.coe_zero, ← EReal.coe_mul, ← EReal.coe_sub, coe_sum, ← EReal.coe_add, exp_up, select_coe, dzd, aa, zz,
    sub_self, zero_mul, Finset.sum_const_zero, add_zero, Finset.sum_range, Fin.val_zero]
  congr 1
  by_cases h : low j0.val j1.val <;> simp only [h, if_true, if_false, mul_zero]

/-- The gradient of the queries after the diagonal block. -/
theorem k1_pay54_up (z g v t c cg w acc k : ℕ → ℕ → ℝ) :
    k1_pay54 (F := Ideal) (up g) (up t) k1_pay27 (up acc) (up c) (up cg) (up k) (up v) (up fun r x => lsp (z r x)) (up fun r x => lsn (z r x))
        (k1_pay49 k1_pay25) (up fun r y => if low r y then lsn (z r y) else 0) (up w)
      = up (fun r d => acc r d + ∑ x ∈ Finset.range 256, dzd (facd z t c) (fun r => cg r 0) z (fun r x => w r x * zz 128 g v r x) r x * k x d) := by
  funext j
  idx_vars j
  pointwise [k1_pay54, k1_pay53_up]
  simp only [up_ix2, coe_sum, ← EReal.coe_add, ← EReal.coe_mul, Finset.sum_range]

/-- The gradient of the diagonal block's keys after the block. -/
theorem k1_pay55_up (z g v t c cg w acc q : ℕ → ℕ → ℝ) :
    k1_pay55 (F := Ideal) (up q) (up g) (up t) k1_pay27 (up c) (up cg) (up v) (up fun r x => lsp (z r x)) (up fun r x => lsn (z r x))
        (k1_pay49 k1_pay25) (up fun r y => if low r y then lsn (z r y) else 0) (up w) (up acc)
      = up (fun x d => acc x d + ∑ r ∈ Finset.range 512, dzd (facd z t c) (fun r => cg r 0) z (fun r x => w r x * zz 128 g v r x) r x * q r d) := by
  funext j
  idx_vars j
  pointwise [k1_pay55, k1_pay53_up]
  simp only [up_ix2, coe_sum, ← EReal.coe_add, ← EReal.coe_mul, Finset.sum_range]

/-- The gradient of the diagonal block's values after the block. -/
theorem k1_pay56_up (z g t c w acc : ℕ → ℕ → ℝ) :
    k1_pay56 (F := Ideal) (up g) (up t) (up c) (up fun r y => if low r y then lsn (z r y) else 0) (up w) (up acc)
      = up (fun x d => acc x d + ∑ r ∈ Finset.range 512, facd z t c r * w r x * g r d) := by
  funext j
  idx_vars j
  pointwise [k1_pay56, k1_pay52_up]
  simp only [up_ix2, coe_sum, ← EReal.coe_add, ← EReal.coe_mul, Finset.sum_range]
-- ==== Proof.BwdReal.lean ====
/-
  The backward call's block formulas over real arrays, as the gradients that they add up.
-/
module
public import proofs.«01_k».proof.Proof.BwdBlock
public import proofs.«01_k».proof.Proof.HeadSpec
@[expose] public section
noncomputable section
namespace Cert.Attn
open Finset

/-- The rows from `b` on. -/
def rows (b : ℕ) (x : ℕ → ℕ → ℝ) (r d : ℕ) : ℝ := x (b + r) d

/-- The carried logarithm before the block at `b`. -/
def carryC (q k : ℕ → ℕ → ℝ) (b r : ℕ) : ℝ := ∑ s ∈ Ico 0 b, lsn (zz 128 q k r s)

/-- The carried sum of weighted gradients before the block at `b`. -/
def carryG (i : ℕ) (q k g v : ℕ → ℕ → ℝ) (b r : ℕ) : ℝ := ∑ y ∈ range b, Aw (zz 128 q k r) (tq i r) y * zz 128 g v r y

/-- The logit gradients of a block's rows. -/
def dzr (i : ℕ) (q k g v : ℕ → ℕ → ℝ) (r s : ℕ) : ℝ := Dz (zz 128 q k r) (zz 128 g v r) (tq i r) s

/-- The gradient of the queries from the keys before `b`. -/
def accB (i : ℕ) (q k g v : ℕ → ℕ → ℝ) (b r d : ℕ) : ℝ := ∑ s ∈ range b, dzr i q k g v r s * k s d

/-- What the rows add to the gradient of key `s`. -/
def addK (i : ℕ) (q k g v : ℕ → ℕ → ℝ) (s d : ℕ) : ℝ := ∑ r ∈ range 512, if s < tq i r then dzr i q k g v r s * q r d else 0

/-- What the rows add to the gradient of value `s`. -/
def addV (i : ℕ) (q k g : ℕ → ℕ → ℝ) (s d : ℕ) : ℝ := ∑ r ∈ range 512, if s < tq i r then Aw (zz 128 q k r) (tq i r) s * g r d else 0

variable (i : ℕ) (q k g v : ℕ → ℕ → ℝ)

/-- The saved total of the rows. -/
def IsTot (t : ℕ → ℕ → ℝ) : Prop := ∀ r, r < 512 → t r 0 = ∑ s ∈ Ico 0 (tq i r), lsn (zz 128 q k r s)

theorem fac_eq {t : ℕ → ℕ → ℝ} (ht : IsTot i q k t) (b r : ℕ) (hr : r < 512) (hb : b + 256 ≤ tq i r) :
    fac (zz 128 q (rows b k)) t (fun r _ => carryC q k b r) r = Real.exp (∑ s ∈ Ico (b + 256) (tq i r), lsn (zz 128 q k r s)) := by
  rw [fac, ht r hr]
  exact congrArg Real.exp (whole_fac (zz 128 q k r) b (tq i r) hb)

theorem weight_eq {t : ℕ → ℕ → ℝ} (ht : IsTot i q k t) (b r x : ℕ) (hr : r < 512) (hb : b + 256 ≤ tq i r) (hx : x < 256) :
    fac (zz 128 q (rows b k)) t (fun r _ => carryC q k b r) r * wa (zz 128 q (rows b k)) r x = Aw (zz 128 q k r) (tq i r) (b + x) := by
  rw [fac_eq i q k ht b r hr hb]
  exact whole_weight (zz 128 q k r) b (tq i r) x hx hb

theorem dzb_eq {t : ℕ → ℕ → ℝ} (ht : IsTot i q k t) (b r x : ℕ) (hr : r < 512) (hb : b + 256 ≤ tq i r) (hx : x < 256) :
    dzb (fac (zz 128 q (rows b k)) t (fun r _ => carryC q k b r)) (fun r => carryG i q k g v b r) (zz 128 q (rows b k))
      (fun r x => wa (zz 128 q (rows b k)) r x * zz 128 g (rows b v) r x) r x = dzr i q k g v r (b + x) :=
  whole_dz (zz 128 q k r) (zz 128 g v r) b (tq i r) x hx hb (wa (zz 128 q (rows b k)) r) _
    (fun y hy => weight_eq i q k ht b r y hr hb hy)

theorem carryC_succ (b r : ℕ) :
    carryC q k b r + ∑ y ∈ range 256, lsn (zz 128 q (rows b k) r y) = carryC q k (b + 256) r := by
  rw [carryC, carryC, ← sum_Ico_consecutive _ (Nat.zero_le b) (show b ≤ b + 256 by omega), ← block_sum]
  rfl

theorem carryG_succ {t : ℕ → ℕ → ℝ} (ht : IsTot i q k t) (b r : ℕ) (hr : r < 512) (hb : b + 256 ≤ tq i r) :
    carryG i q k g v b r + fac (zz 128 q (rows b k)) t (fun r _ => carryC q k b r) r
        * ∑ y ∈ range 256, wa (zz 128 q (rows b k)) r y * zz 128 g (rows b v) r y = carryG i q k g v (b + 256) r := by
  rw [fac_eq i q k ht b r hr hb]
  exact whole_carry (zz 128 q k r) (zz 128 g v r) b (tq i r) hb

theorem accB_succ {t : ℕ → ℕ → ℝ} (ht : IsTot i q k t) (b r d : ℕ) (hr : r < 512) (hb : b + 256 ≤ tq i r) :
    accB i q k g v b r d + ∑ x ∈ range 256, dzb (fac (zz 128 q (rows b k)) t (fun r _ => carryC q k b r)) (fun r => carryG i q k g v b r)
        (zz 128 q (rows b k)) (fun r x => wa (zz 128 q (rows b k)) r x * zz 128 g (rows b v) r x) r x * rows b k x d
      = accB i q k g v (b + 256) r d := by
  rw [accB, accB, sum_range_add]
  congr 1
  refine sum_congr rfl fun x hx => ?_
  rw [dzb_eq i q k g v ht b r x hr hb (mem_range.mp hx)]
  rfl

theorem addK_whole {t : ℕ → ℕ → ℝ} (ht : IsTot i q k t) (b x d : ℕ) (hb : b + 256 ≤ 256 * i) (hx : x < 256) :
    ∑ r ∈ range 512, dzb (fac (zz 128 q (rows b k)) t (fun r _ => carryC q k b r)) (fun r => carryG i q k g v b r)
        (zz 128 q (rows b k)) (fun r x => wa (zz 128 q (rows b k)) r x * zz 128 g (rows b v) r x) r x * q r d
      = addK i q k g v (b + x) d := by
  refine sum_congr rfl fun r hr => ?_
  have h : b + 256 ≤ tq i r := by unfold tq; omega
  rw [dzb_eq i q k g v ht b r x (mem_range.mp hr) h hx, if_pos (by omega)]

theorem addV_whole {t : ℕ → ℕ → ℝ} (ht : IsTot i q k t) (b x d : ℕ) (hb : b + 256 ≤ 256 * i) (hx : x < 256) :
    ∑ r ∈ range 512, fac (zz 128 q (rows b k)) t (fun r _ => carryC q k b r) r * wa (zz 128 q (rows b k)) r x * g r d
      = addV i q k g (b + x) d := by
  refine sum_congr rfl fun r hr => ?_
  have h : b + 256 ≤ tq i r := by unfold tq; omega
  rw [weight_eq i q k ht b r x (mem_range.mp hr) h hx, if_pos (by omega)]

/-! ## The diagonal block -/

theorem facd_eq {t : ℕ → ℕ → ℝ} (ht : IsTot i q k t) (r : ℕ) (hr : r < 512) :
    facd (zz 128 q (rows (256 * i) k)) t (fun r _ => carryC q k (256 * i) r) r = 1 := by
  have hm : r % 256 ≤ 256 := (Nat.mod_lt _ (by decide)).le
  have h := block_sum_lt (fun s => lsn (zz 128 q k r s)) (256 * i) (r % 256) 256 hm
  rw [facd, ht r hr, Real.exp_eq_one_iff, sub_eq_zero, carryC, tq, ← sum_Ico_consecutive _ (Nat.zero_le (256 * i)) (show 256 * i ≤ 256 * i + r % 256 by omega), ← h]
  rfl

theorem wd_eq (r x : ℕ) (hx : x < r % 256) : wd (zz 128 q (rows (256 * i) k)) r x = Aw (zz 128 q k r) (tq i r) (256 * i + x) := by
  have hm : r % 256 ≤ 256 := (Nat.mod_lt _ (by decide)).le
  rw [wd, if_pos hx]
  exact diag_weight (zz 128 q k r) (256 * i) (r % 256) x hm

theorem dzd_eq {t : ℕ → ℕ → ℝ} (ht : IsTot i q k t) (r x : ℕ) (hr : r < 512) :
    dzd (facd (zz 128 q (rows (256 * i) k)) t (fun r _ => carryC q k (256 * i) r)) (fun r => carryG i q k g v (256 * i) r)
        (zz 128 q (rows (256 * i) k)) (fun r x => wd (zz 128 q (rows (256 * i) k)) r x * zz 128 g (rows (256 * i) v) r x) r x
      = if x < r % 256 then dzr i q k g v r (256 * i + x) else 0 := by
  have hm : r % 256 ≤ 256 := (Nat.mod_lt _ (by decide)).le
  rw [dzd, facd_eq i q k ht r hr, one_mul]
  by_cases h : x < r % 256
  · rw [if_pos h, if_pos h]
    rw [if_pos (show low r x from h)]
    exact diag_dz (zz 128 q k r) (zz 128 g v r) (256 * i) (r % 256) x h hm (wd (zz 128 q (rows (256 * i) k)) r) (fun y hy => wd_eq i q k r y hy)
  · rw [if_neg h, if_neg (show ¬ low r x from h), if_neg (show ¬ low r x from h), mul_zero, sub_zero]

theorem acc_diag {t : ℕ → ℕ → ℝ} (ht : IsTot i q k t) (r d : ℕ) (hr : r < 512) :
    accB i q k g v (256 * i) r d + ∑ x ∈ range 256, dzd (facd (zz 128 q (rows (256 * i) k)) t (fun r _ => carryC q k (256 * i) r)) (fun r => carryG i q k g v (256 * i) r)
        (zz 128 q (rows (256 * i) k)) (fun r x => wd (zz 128 q (rows (256 * i) k)) r x * zz 128 g (rows (256 * i) v) r x) r x * rows (256 * i) k x d
      = accB i q k g v (tq i r) r d := by
  have hm : r % 256 ≤ 256 := (Nat.mod_lt _ (by decide)).le
  have h := block_sum_lt (fun s => dzr i q k g v r s * k s d) (256 * i) (r % 256) 256 hm
  rw [accB, accB, tq, sum_range_add, block_sum (fun s => dzr i q k g v r s * k s d), ← h]
  congr 1
  refine sum_congr rfl fun x _ => ?_
  rw [dzd_eq i q k g v ht r x hr, ite_mul, zero_mul]
  rfl

theorem addK_diag {t : ℕ → ℕ → ℝ} (ht : IsTot i q k t) (x d : ℕ) :
    ∑ r ∈ range 512, dzd (facd (zz 128 q (rows (256 * i) k)) t (fun r _ => carryC q k (256 * i) r)) (fun r => carryG i q k g v (256 * i) r)
        (zz 128 q (rows (256 * i) k)) (fun r x => wd (zz 128 q (rows (256 * i) k)) r x * zz 128 g (rows (256 * i) v) r x) r x * q r d
      = addK i q k g v (256 * i + x) d := by
  refine sum_congr rfl fun r hr => ?_
  rw [dzd_eq i q k g v ht r x (mem_range.mp hr), ite_mul, zero_mul]
  exact if_congr (by unfold tq; omega) rfl rfl

theorem addV_diag {t : ℕ → ℕ → ℝ} (ht : IsTot i q k t) (x d : ℕ) :
    ∑ r ∈ range 512, facd (zz 128 q (rows (256 * i) k)) t (fun r _ => carryC q k (256 * i) r) r * wd (zz 128 q (rows (256 * i) k)) r x * g r d
      = addV i q k g (256 * i + x) d := by
  refine sum_congr rfl fun r hr => ?_
  rw [facd_eq i q k ht r (mem_range.mp hr), one_mul]
  by_cases h : x < r % 256
  · rw [wd_eq i q k r x h, if_pos (by unfold tq; omega)]
  · rw [wd, if_neg (show ¬ low r x from h), zero_mul, if_neg (by unfold tq; omega)]

/-- The rows add nothing to later keys. -/
theorem addK_later (s d : ℕ) (h : 256 * i + 256 ≤ s) : addK i q k g v s d = 0 :=
  sum_eq_zero fun r _ => if_neg (by have := Nat.mod_lt r (show 0 < 256 by decide); unfold tq; omega)

theorem addV_later (s d : ℕ) (h : 256 * i + 256 ≤ s) : addV i q k g s d = 0 :=
  sum_eq_zero fun r _ => if_neg (by have := Nat.mod_lt r (show 0 < 256 by decide); unfold tq; omega)

end Cert.Attn
-- ==== Proof.BwdTrip.lean ====
/-
  The backward call's loop over the blocks of keys before the diagonal one: one trip, and the state before trip `n`.
-/
module
public import proofs.«01_k».proof.Proof.BwdReal
public import proofs.«01_k».proof.Proof.FwdLoop
public import Idealize.ShloMosaic.Lib.WritesUnit
@[expose] public section
set_option maxRecDepth 16384
noncomputable section
namespace Cert.Attn
open Idealize.ShloMosaic Idealize.ShloMosaic.TcCoe Idealize.SL.Sem Cert.KernelIdeal Cert.KernelIdeal.Gen

/-- A block of rows read out of a real array of 32-bit floats. -/
theorem ld_rows32 (x : ℕ → ℕ → ℝ) (off : Fin 2 → ℕ) (b : ℕ) (h : off = ![b, 0]) (inb) :
    View.ld (Val := Elt Ideal) (S := S2048x128) (e' := .f32) (up x : Vec Ideal S2048x128 .f32) (Rect.unit (s := S2048x128) off ![256, 128] inb) = up (rows b x) := by
  subst h
  funext j
  show ((x (b + 1 * (j 0).val) (0 + 1 * (j 1).val) : ℝ) : EReal) = ((x (b + (j 0).val) (j 1).val : ℝ) : EReal)
  simp only [one_mul, zero_add]

theorem btrips1 (i : grid1.Coords) : (k1_t1_loop i).trips = (i 1).val := by
  have h : ∀ n : Fin 8, Scf.Loop.trips (w := 32) ⟨0#32, Scalar.addi 0#32 (Scalar.muli (Scalar.divsi (Scalar.subi (BitVec.ofNat 32 n.val) 0#32) 1#32) 1#32), 1#32⟩ = n.val := by
    decide +kernel
  exact h (i 1)

theorem btrips2 (i : grid1.Coords) : (k1_t2_loop i).trips = 0 := by
  have h : ∀ n : Fin 8, Scf.Loop.trips (w := 32) ⟨Scalar.addi 0#32 (Scalar.muli (Scalar.divsi (Scalar.subi (BitVec.ofNat 32 n.val) 0#32) 1#32) 1#32),
      Scalar.addi 0#32 (Scalar.subi (BitVec.ofNat 32 n.val) 0#32), 1#32⟩ = 0 := by
    decide +kernel
  exact h (i 1)

/-- Trip `k` takes block `k`. -/
theorem boff1 (i : grid1.Coords) (k : Fin (k1_t1_loop i).trips) : k1_off1 i k = ![256 * k.val, 0] := by
  have hk : k.val < (i 1).val := lt_of_lt_of_eq k.isLt (btrips1 i)
  have h : ∀ k : Fin 8, ![(Scalar.indexCast (Scalar.muli (Scf.iv 0#32 1#32 k.val) 256#32) : Index).toNat, 0] = ![256 * k.val, 0] := by decide +kernel
  have h8 : (i 1).val < 8 := (i 1).isLt
  exact h ⟨k.val, by omega⟩

theorem boff3 (i : grid1.Coords) : k1_off3 i = ![256 * (i 1).val, 0] := by
  have h : ∀ n : Fin 8, ![(Scalar.indexCast (Scalar.muli (BitVec.ofNat 32 n.val) 256#32) : Index).toNat, 0] = ![256 * n.val, 0] := by decide +kernel
  exact h (i 1)

theorem btrips1' (i : grid1.Coords) :
    Scf.trips 0#32 (Scalar.addi 0#32 (Scalar.muli (Scalar.divsi (Scalar.subi (BitVec.ofNat 32 (i 1).val) 0#32) 1#32) 1#32)) 1#32 = (i 1).val := btrips1 i
theorem btrips2' (i : grid1.Coords) :
    Scf.trips (Scalar.addi 0#32 (Scalar.muli (Scalar.divsi (Scalar.subi (BitVec.ofNat 32 (i 1).val) 0#32) 1#32) 1#32))
      (Scalar.addi 0#32 (Scalar.subi (BitVec.ofNat 32 (i 1).val) 0#32)) 1#32 = 0 := btrips2 i
theorem boff3' (i : grid1.Coords) :
    ![BitVec.toNat (Scalar.indexCast (Scalar.muli (BitVec.ofNat 32 (i 1).val) 256#32)), 0] = ![256 * (i 1).val, 0] := boff3 i

section
variable (𝒱 : Variants) (c : Dev nD) (bd : Option 𝒱.V) (i : grid1.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x128 .f32) (harg8 : arg8.IsWhole) (arg9 : Memref sig .tc .vmem S2048x128 .f32) (harg9 : arg9.IsWhole) (arg1 : BitVec 32) (v32 : IVec S512x256 32) (v41 : FVec Ideal S512x1 .f32) (cst_9 : Ideal .f32)

/-- One trip's carried values, over real arrays. -/
theorem btripR (q g k v t c0 cg acc : ℕ → ℕ → ℝ) (f8 f9) (n : Fin (k1_t1_loop i).trips) :
    tripR_k1_t1 (F := Ideal) 𝒱 c bd i arg2 harg2 arg3 harg3 arg4 harg4 arg5 harg5 arg6 harg6 arg7 harg7 arg8 harg8 arg9 harg9 arg1 (up q) (up g) (up t) v32 k1_pay26 k1_pay27 v41 cst_9
        (harg3.unread (up k)) (harg4.unread (up v)) n (up acc, up c0, up cg) f8 f9
      = (up (fun r d => acc r d + ∑ x ∈ Finset.range 256, dzb (fac (zz 128 q (rows (256 * n.val) k)) t c0) (fun r => cg r 0) (zz 128 q (rows (256 * n.val) k))
            (fun r x => wa (zz 128 q (rows (256 * n.val) k)) r x * zz 128 g (rows (256 * n.val) v) r x) r x * rows (256 * n.val) k x d),
         up (fun r _ => c0 r 0 + ∑ y ∈ Finset.range 256, lsn (zz 128 q (rows (256 * n.val) k) r y)),
         up (fun r _ => cg r 0 + fac (zz 128 q (rows (256 * n.val) k)) t c0 r * ∑ y ∈ Finset.range 256, wa (zz 128 q (rows (256 * n.val) k)) r y * zz 128 g (rows (256 * n.val) v) r y)) := by
  unfold tripR_k1_t1 trip_k1_t1
  dsimp only
  unfold trip_k1_t1.sl.r trip_k1_t1.sl.r_2 trip_k1_t1.sl.r_3 trip_k1_t1.sl.r_4 trip_k1_t1.sl.r_5
  simp only [View.readAt_eq_ld, harg3.read_unread, harg4.read_unread]
  rw [ld_rows k _ _ (boff1 i n), ld_rows v _ _ (boff1 i n)]
  rw [k1_pay2_up, k1_pay7_up, k1_pay8_up, k1_pay9_up, k1_pay30_up, k1_pay33_up, k1_pay34_up]
  rfl

/-- One trip's stores: the block's rows of the two gradients with what the trip adds to them. -/
theorem btripL (q g k v t c0 cg acc y8 y9 : ℕ → ℕ → ℝ) (f8 f9) (h8 : arg8.view.read (Elt Ideal) f8 = up y8) (h9 : arg9.view.read (Elt Ideal) f9 = up y9)
    (n : Fin (k1_t1_loop i).trips) :
    tripL_k1_t1 (F := Ideal) 𝒱 c bd i arg2 harg2 arg3 harg3 arg4 harg4 arg5 harg5 arg6 harg6 arg7 harg7 arg8 harg8 arg9 harg9 arg1 (up q) (up g) (up t) v32 k1_pay26 k1_pay27 v41 cst_9
        (harg3.unread (up k)) (harg4.unread (up v)) n (up acc, up c0, up cg) f8 f9
      = ([⟨Rect.unit (k1_off1 i n) S256x128.size (k1_off1_inb i n), up (fun x d => rows (256 * n.val) y8 x d + ∑ r ∈ Finset.range 512, dzb (fac (zz 128 q (rows (256 * n.val) k)) t c0) (fun r => cg r 0) (zz 128 q (rows (256 * n.val) k))
            (fun r x => wa (zz 128 q (rows (256 * n.val) k)) r x * zz 128 g (rows (256 * n.val) v) r x) r x * q r d)⟩],
         [⟨Rect.unit (k1_off1 i n) S256x128.size (k1_off1_inb i n), up (fun x d => rows (256 * n.val) y9 x d + ∑ r ∈ Finset.range 512, fac (zz 128 q (rows (256 * n.val) k)) t c0 r
            * wa (zz 128 q (rows (256 * n.val) k)) r x * g r d)⟩]) := by
  unfold tripL_k1_t1 trip_k1_t1
  dsimp only
  unfold trip_k1_t1.sl.r_1 trip_k1_t1.sl.r_3 trip_k1_t1.sl.r_4 trip_k1_t1.sl.r_5
  simp only [View.readAt_eq_ld, harg3.read_unread, harg4.read_unread]
  rw [h8, h9, ld_rows k _ _ (boff1 i n), ld_rows v _ _ (boff1 i n), ld_rows32 y8 _ _ (boff1 i n), ld_rows32 y9 _ _ (boff1 i n)]
  rw [k1_pay6_up, k1_pay8_up, k1_pay9_up, k1_pay35_up, k1_pay36_up]
  rfl

/-- The gradients of the keys (or the values) with the rows of the blocks before `n` added. -/
def upTo (n : ℕ) (y a : ℕ → ℕ → ℝ) (s d : ℕ) : ℝ := if s < 256 * n then y s d + a s d else y s d

/-- A block's rows put over a real array. -/
theorem put_rows {κ sp} (w : View sig κ sp S2048x128 .f32) (f) (L : List (View.Piece (Elt Ideal) S2048x128 .f32)) (off : Fin 2 → ℕ) (n : ℕ) (inb)
    (h : off = ![256 * n, 0]) (y a : ℕ → ℕ → ℝ) (hL : w.read (Elt Ideal) (w.writes (Elt Ideal) f L) = up (upTo n y a)) (x : ℕ → ℕ → ℝ)
    (hx : ∀ r d, r < 256 → d < 128 → x r d = y (256 * n + r) d + a (256 * n + r) d) :
    w.read (Elt Ideal) (w.writes (Elt Ideal) f (⟨Rect.unit (s := S2048x128) off ![256, 128] inb, up x⟩ :: L)) = up (upTo (n + 1) y a) := by
  funext j
  have h1 : (j 1).val < 128 := (j 1).isLt
  by_cases hj : 256 * n ≤ (j 0).val ∧ (j 0).val < 256 * n + 256
  · refine (View.read_writes_cons_rows_of_mem w f inb (up x) L j (ix2 ⟨(j 0).val - 256 * n, by omega⟩ ⟨(j 1).val, h1⟩) h ?_ rfl).trans ?_
    · show (j 0).val = 256 * n + ((j 0).val - 256 * n)
      omega
    · show ((x ((j 0).val - 256 * n) (j 1).val : ℝ) : EReal) = ((upTo (n + 1) y a (j 0).val (j 1).val : ℝ) : EReal)
      rw [hx _ _ (by omega) h1, upTo, if_pos (by omega), show 256 * n + ((j 0).val - 256 * n) = (j 0).val by omega]
  · refine (View.read_writes_cons_rows_of_not_mem w f inb (up x) L j h (W := 256) rfl (by omega)).trans ?_
    rw [hL]
    show ((upTo n y a (j 0).val (j 1).val : ℝ) : EReal) = ((upTo (n + 1) y a (j 0).val (j 1).val : ℝ) : EReal)
    unfold upTo
    by_cases h' : (j 0).val < 256 * n
    · rw [if_pos h', if_pos (by omega)]
    · rw [if_neg h', if_neg (by omega)]

/-- The loop's state before trip `n`. -/
theorem bstate (q g k v t y8 y9 : ℕ → ℕ → ℝ) (ht : IsTot (i 1).val q k t) (G8 G9) (h8 : arg8.view.read (Elt Ideal) G8 = up y8) (h9 : arg9.view.read (Elt Ideal) G9 = up y9)
    (init : FVec Ideal S512x128 .f32 × FVec Ideal S512x1 .f32 × FVec Ideal S512x1 .f32) (hinit : init = (up (fun _ _ => 0), up (fun _ _ => 0), up (fun _ _ => 0))) : ∀ n : ℕ, n ≤ (i 1).val →
    (st_k1_t1 (F := Ideal) 𝒱 c bd i arg2 harg2 arg3 harg3 arg4 harg4 arg5 harg5 arg6 harg6 arg7 harg7 arg8 harg8 arg9 harg9 arg1 (up q) (up g) (up t) v32 k1_pay26 k1_pay27 v41 cst_9
        (harg3.unread (up k)) (harg4.unread (up v)) G8 G9 init n).1
      = (up (accB (i 1).val q k g v (256 * n)), up (fun r _ => carryC q k (256 * n) r), up (fun r _ => carryG (i 1).val q k g v (256 * n) r))
    ∧ arg8.view.read (Elt Ideal) (arg8.view.writes (Elt Ideal) G8 (st_k1_t1 (F := Ideal) 𝒱 c bd i arg2 harg2 arg3 harg3 arg4 harg4 arg5 harg5 arg6 harg6 arg7 harg7 arg8 harg8 arg9 harg9 arg1 (up q) (up g) (up t) v32 k1_pay26 k1_pay27 v41 cst_9
        (harg3.unread (up k)) (harg4.unread (up v)) G8 G9 init n).2.1) = up (upTo n y8 (addK (i 1).val q k g v))
    ∧ arg9.view.read (Elt Ideal) (arg9.view.writes (Elt Ideal) G9 (st_k1_t1 (F := Ideal) 𝒱 c bd i arg2 harg2 arg3 harg3 arg4 harg4 arg5 harg5 arg6 harg6 arg7 harg7 arg8 harg8 arg9 harg9 arg1 (up q) (up g) (up t) v32 k1_pay26 k1_pay27 v41 cst_9
        (harg3.unread (up k)) (harg4.unread (up v)) G8 G9 init n).2.2) = up (upTo n y9 (addV (i 1).val q k g))
  | 0, _ => by
    refine ⟨?_, ?_, ?_⟩
    · rw [st_k1_t1_zero, hinit]
      congr 1
    · refine h8.trans (up_congr fun r d _ _ => ?_)
      rw [upTo, if_neg (by omega)]
    · refine h9.trans (up_congr fun r d _ _ => ?_)
      rw [upTo, if_neg (by omega)]
  | n + 1, hn => by
    have hn' : n < (k1_t1_loop i).trips := by rw [btrips1]; omega
    obtain ⟨e1, e2, e3⟩ := bstate q g k v t y8 y9 ht G8 G9 h8 h9 init hinit n (by omega)
    rw [st_k1_t1_succ 𝒱 c bd i arg2 harg2 arg3 harg3 arg4 harg4 arg5 harg5 arg6 harg6 arg7 harg7 arg8 harg8 arg9 harg9 arg1 _ _ _ v32 _ _ v41 cst_9 _ _ G8 G9 init ⟨n, hn'⟩]
    rw [e1, btripR, btripL (h8 := e2) (h9 := e3)]
    dsimp only
    have hb : ∀ r, 256 * n + 256 ≤ tq (i 1).val r := fun r => by unfold tq; omega
    have hs : 256 * (n + 1) = 256 * n + 256 := by omega
    refine ⟨?_, ?_, ?_⟩
    · rw [hs]
      congr 1
      · exact up_congr fun r d hr _ => accB_succ _ q k g v ht _ r d hr (hb r)
      · congr 1
        · exact up_congr fun r _ _ _ => carryC_succ q k _ r
        · exact up_congr fun r _ hr _ => carryG_succ _ q k g v ht _ r hr (hb r)
    · refine put_rows _ _ _ _ n _ (boff1 i ⟨n, hn'⟩) y8 _ e2 _ fun r d hr _ => ?_
      dsimp only
      rw [addK_whole _ q k g v ht _ r d (by omega) hr, rows, upTo, if_neg (by omega)]
    · refine put_rows _ _ _ _ n _ (boff1 i ⟨n, hn'⟩) y9 _ e3 _ fun r d hr _ => ?_
      dsimp only
      rw [addV_whole _ q k g ht _ r d (by omega) hr, rows, upTo, if_neg (by omega)]
end
-- ==== Proof.BwdBody.lean ====
/-
  The backward call at one grid point: what the point leaves in the three gradients, as real arrays.
-/
module
public import proofs.«01_k».proof.Proof.BwdTrip
@[expose] public section
set_option maxRecDepth 16384
noncomputable section
namespace Cert.Attn
open Idealize.ShloMosaic Idealize.ShloMosaic.TcCoe Idealize.SL.Sem Cert.KernelIdeal Cert.KernelIdeal.Gen

theorem ld_k (x : ℕ → ℕ → ℝ) (off : Fin 2 → ℕ) (b : ℕ) (h : off = ![b, 0]) (inb) :
    View.ld (Val := Elt Ideal) (S := S2048x128) (e' := .bf16) (up x : Vec Ideal S2048x128 .bf16) (Rect.unit (s := S2048x128) off ![256, 128] inb) = up (rows b x) :=
  ld_rows x off b h inb

/-- The carried values before the first trip. -/
theorem binit : (k1_pay29 (F := Ideal) (FloatOps.ofBits FTy.f32 0#32), k1_pay28 (F := Ideal), k1_pay28 (F := Ideal))
    = (up (fun _ _ => 0), up (fun _ _ => 0), up (fun _ _ => 0)) := by
  rw [show k1_pay29 (F := Ideal) (FloatOps.ofBits FTy.f32 0#32) = up (fun _ _ => 0) from k1_pay29_up, k1_pay28_up]

/-- The saved totals of the stacked rows. -/
def tot (t : ℕ → ℕ → ℝ) (r _x : ℕ) : ℝ := if r < 256 then t r 0 else t (r - 256) 64

/-- The gradient of the queries of a block, its rows unstacked. -/
def dqBlk (i : ℕ) (q k v g : ℕ → ℕ → ℝ) : ℕ → ℕ → ℝ := unstk fun r d => accB i (stk q) k (stk g) v (tq i r) r d

/-- A window filled with zeros. -/
theorem zero_whole {κ sp} (w : View sig κ sp S2048x128 .f32) (f) (inb) (x : FVec Ideal S2048x128 .f32) (hx : x = up (fun _ _ => 0)) :
    w.read (Elt Ideal) (w.writes (Elt Ideal) f [⟨Rect.unit (s := S2048x128) ![0, 0] S2048x128.size inb, x⟩]) = up (fun _ _ => 0) := by
  subst hx
  funext j
  exact View.read_writes_cons_rows_of_mem w f inb (up (fun _ _ => 0)) [] j j rfl (Nat.zero_add _).symm rfl

section
variable (c : Dev nD) (i : grid1.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x128 .f32) (harg8 : arg8.IsWhole) (arg9 : Memref sig .tc .vmem S2048x128 .f32) (harg9 : arg9.IsWhole)

set_option backward.isDefEq.respectTransparency false in
/-- The block of the queries' gradient that a point leaves, the first of its lane group. -/
theorem outA5 (hc0 : cond1_0 i) (q k v g t : ℕ → ℕ → ℝ) (ht : IsTot (i 1).val (stk q) k (tot t)) :
    out1_A_5 (F := Ideal) c i arg2 harg2 arg3 harg3 arg4 harg4 arg5 harg5 arg6 harg6 arg7 harg7 arg8 harg8 arg9 harg9 hc0 (up q) (up k) (up v) (up g) (up t) = up (dqBlk (i 1).val q k v g) := by
  unfold out1_A_5
  rw [View.read_writes_eq_canon _ _ _ (cover1_A_5 c i arg2 harg2 arg3 harg3 arg4 harg4 arg5 harg5 arg6 harg6 arg7 harg7 arg8 harg8 arg9 harg9 hc0 _ _ _ _ _)]
  unfold kernelRun1_A
  dsimp only
  sl_unfold_words
  rw [View.canon_unit_zero hz]
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) (fun _ _ => 0) (fun _ _ => 0) ht (arg8.view.writes (Elt Ideal) arg8.view.junk [⟨Rect.unit (s := S2048x128) ![0, 0] S2048x128.size inb_S2048x128_S2048x128_0_0, k1_pay20 (F := Ideal)⟩]) (arg9.view.writes (Elt Ideal) arg9.view.junk [⟨Rect.unit (s := S2048x128) ![0, 0] S2048x128.size inb_S2048x128_S2048x128_0_0, k1_pay21 (F := Ideal)⟩]) (zero_whole _ _ _ _ k1_pay20_up) (zero_whole _ _ _ _ k1_pay21_up) _ binit (i 1).val le_rfl
  generalize hst : st_k1_t1 (F := Ideal) _ _ _ _ _ _ _ _ _ _ _ _ _ _ _ _ _ _ _ _ _ _ _ _ _ _ _ _ _ _ _ _ _ _ _ = st
  unfold tot at e1
  rw [hst] at e1
  obtain ⟨⟨a, c0, cg⟩, l8, l9⟩ := st
  simp only [Prod.mk.injEq] at e1
  obtain ⟨rfl, rfl, rfl⟩ := e1
  dsimp only
  rw [ld_k k _ _ (boff3' i), ld_k v _ _ (boff3' i)]
  rw [k1_pay44_up, k1_pay45_up, k1_pay47_up, k1_pay48_up, k1_pay50_up, k1_pay51_up, k1_pay54_up, k1_pay1_up]
  refine up_congr fun r d hr _ => ?_
  unfold dqBlk unstk
  split
  · exact acc_diag _ _ _ _ _ ht _ d (by omega)
  · exact acc_diag _ _ _ _ _ ht _ d (by omega)

/-- The first point's window read through its own view. -/
theorem view6 (hc0 : cond1_0 i) (x0 : Vec Ideal S256x128 .bf16) (x1 x2 : Vec Ideal S2048x128 .bf16) (x3 x4 : Vec Ideal S256x128 .f32) :
    out1_A_6 (F := Ideal) c i arg2 harg2 arg3 harg3 arg4 harg4 arg5 harg5 arg6 harg6 arg7 harg7 arg8 harg8 arg9 harg9 hc0 x0 x1 x2 x3 x4
      = arg8.view.read (Elt Ideal) (arg8.view.writes (Elt Ideal) arg8.view.junk (kernelRun1_A c i arg2 harg2 arg3 harg3 arg4 harg4 arg5 harg5 arg6 harg6 arg7 harg7 arg8 harg8 arg9 harg9 hc0 x0 x1 x2 x3 x4).2.1) := by
  unfold out1_A_6
  exact View.read_writes_of_cover VO1_6 VO1_6.junk arg8.view arg8.view.junk _ (cover1_A_6 c i arg2 harg2 arg3 harg3 arg4 harg4 arg5 harg5 arg6 harg6 arg7 harg7 arg8 harg8 arg9 harg9 hc0 x0 x1 x2 x3 x4)

set_option backward.isDefEq.respectTransparency false in
/-- What a point leaves of the keys' gradient, the first of its lane group. -/
theorem outA6 (hc0 : cond1_0 i) (q k v g t : ℕ → ℕ → ℝ) (ht : IsTot (i 1).val (stk q) k (tot t)) :
    out1_A_6 (F := Ideal) c i arg2 harg2 arg3 harg3 arg4 harg4 arg5 harg5 arg6 harg6 arg7 harg7 arg8 harg8 arg9 harg9 hc0 (up q) (up k) (up v) (up g) (up t) = up (fun s d => 0 + addK (i 1).val (stk q) k (stk g) v s d) := by
  refine (view6 c i arg2 harg2 arg3 harg3 arg4 harg4 arg5 harg5 arg6 harg6 arg7 harg7 arg8 harg8 arg9 harg9 hc0 (up q) (up k) (up v) (up g) (up t)).trans ?_
  unfold kernelRun1_A
  dsimp only
  sl_unfold_words
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) (fun _ _ => 0) (fun _ _ => 0) ht (arg8.view.writes (Elt Ideal) arg8.view.junk [⟨Rect.unit (s := S2048x128) ![0, 0] S2048x128.size inb_S2048x128_S2048x128_0_0, k1_pay20 (F := Ideal)⟩]) (arg9.view.writes (Elt Ideal) arg9.view.junk [⟨Rect.unit (s := S2048x128) ![0, 0] S2048x128.size inb_S2048x128_S2048x128_0_0, k1_pay21 (F := Ideal)⟩]) (zero_whole _ _ _ _ k1_pay20_up) (zero_whole _ _ _ _ k1_pay21_up) _ binit (i 1).val le_rfl
  generalize hst : st_k1_t1 (F := Ideal) _ _ _ _ _ _ _ _ _ _ _ _ _ _ _ _ _ _ _ _ _ _ _ _ _ _ _ _ _ _ _ _ _ _ _ = st
  unfold tot at e1 e2 e3
  rw [hst] at e1 e2 e3
  obtain ⟨⟨a, c0, cg⟩, l8, l9⟩ := st
  simp only [Prod.mk.injEq] at e1
  obtain ⟨rfl, rfl, rfl⟩ := e1
  dsimp only at e2 e3 ⊢
  rw [ld_k k _ _ (boff3' i), ld_k v _ _ (boff3' i), e2, ld_rows32 _ _ _ (boff3' i)]
  rw [k1_pay45_up, k1_pay47_up, k1_pay48_up, k1_pay50_up, k1_pay51_up, k1_pay55_up]
  rw [← List.cons_append, View.writes_append]
  refine (put_rows _ _ _ _ (i 1).val _ (boff3' i) (fun _ _ => 0) _ e2 _ fun x d hx _ => ?_).trans (up_congr fun x d _ _ => ?_)
  · dsimp only
    refine congr (congrArg HAdd.hAdd ?_) (addK_diag _ _ _ _ _ ht x d)
    rw [rows, upTo, if_neg (by omega)]
  · unfold upTo
    split
    · rfl
    · rw [addK_later (i 1).val _ _ _ _ x d (by omega), add_zero]

/-- The first point's window read through its own view. -/
theorem view7 (hc0 : cond1_0 i) (x0 : Vec Ideal S256x128 .bf16) (x1 x2 : Vec Ideal S2048x128 .bf16) (x3 x4 : Vec Ideal S256x128 .f32) :
    out1_A_7 (F := Ideal) c i arg2 harg2 arg3 harg3 arg4 harg4 arg5 harg5 arg6 harg6 arg7 harg7 arg8 harg8 arg9 harg9 hc0 x0 x1 x2 x3 x4
      = arg9.view.read (Elt Ideal) (arg9.view.writes (Elt Ideal) arg9.view.junk (kernelRun1_A c i arg2 harg2 arg3 harg3 arg4 harg4 arg5 harg5 arg6 harg6 arg7 harg7 arg8 harg8 arg9 harg9 hc0 x0 x1 x2 x3 x4).2.2.1) := by
  unfold out1_A_7
  exact View.read_writes_of_cover VO1_7 VO1_7.junk arg9.view arg9.view.junk _ (cover1_A_7 c i arg2 harg2 arg3 harg3 arg4 harg4 arg5 harg5 arg6 harg6 arg7 harg7 arg8 harg8 arg9 harg9 hc0 x0 x1 x2 x3 x4)

set_option backward.isDefEq.respectTransparency false in
/-- What a point leaves of the values' gradient, the first of its lane group. -/
theorem outA7 (hc0 : cond1_0 i) (q k v g t : ℕ → ℕ → ℝ) (ht : IsTot (i 1).val (stk q) k (tot t)) :
    out1_A_7 (F := Ideal) c i arg2 harg2 arg3 harg3 arg4 harg4 arg5 harg5 arg6 harg6 arg7 harg7 arg8 harg8 arg9 harg9 hc0 (up q) (up k) (up v) (up g) (up t) = up (fun s d => 0 + addV (i 1).val (stk q) k (stk g) s d) := by
  refine (view7 c i arg2 harg2 arg3 harg3 arg4 harg4 arg5 harg5 arg6 harg6 arg7 harg7 arg8 harg8 arg9 harg9 hc0 (up q) (up k) (up v) (up g) (up t)).trans ?_
  unfold kernelRun1_A
  dsimp only
  sl_unfold_words
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) (fun _ _ => 0) (fun _ _ => 0) ht (arg8.view.writes (Elt Ideal) arg8.view.junk [⟨Rect.unit (s := S2048x128) ![0, 0] S2048x128.size inb_S2048x128_S2048x128_0_0, k1_pay20 (F := Ideal)⟩]) (arg9.view.writes (Elt Ideal) arg9.view.junk [⟨Rect.unit (s := S2048x128) ![0, 0] S2048x128.size inb_S2048x128_S2048x128_0_0, k1_pay21 (F := Ideal)⟩]) (zero_whole _ _ _ _ k1_pay20_up) (zero_whole _ _ _ _ k1_pay21_up) _ binit (i 1).val le_rfl
  generalize hst : st_k1_t1 (F := Ideal) _ _ _ _ _ _ _ _ _ _ _ _ _ _ _ _ _ _ _ _ _ _ _ _ _ _ _ _ _ _ _ _ _ _ _ = st
  unfold tot at e1 e2 e3
  rw [hst] at e1 e2 e3
  obtain ⟨⟨a, c0, cg⟩, l8, l9⟩ := st
  simp only [Prod.mk.injEq] at e1
  obtain ⟨rfl, rfl, rfl⟩ := e1
  dsimp only at e2 e3 ⊢
  rw [ld_k k _ _ (boff3' i), e3, ld_rows32 _ _ _ (boff3' i)]
  rw [k1_pay50_up, k1_pay51_up, k1_pay56_up]
  rw [← List.cons_append, View.writes_append]
  refine (put_rows _ _ _ _ (i 1).val _ (boff3' i) (fun _ _ => 0) _ e3 _ fun x d hx _ => ?_).trans (up_congr fun x d _ _ => ?_)
  · dsimp only
    refine congr (congrArg HAdd.hAdd ?_) (addV_diag _ _ _ _ ht x d)
    rw [rows, upTo, if_neg (by omega)]
  · unfold upTo
    split
    · rfl
    · rw [addV_later (i 1).val _ _ _ x d (by omega), add_zero]

set_option backward.isDefEq.respectTransparency false in
/-- The block of the queries' gradient that a point leaves. -/
theorem outB5 (hc0 : ¬cond1_0 i) (q k v g t y8 y9 : ℕ → ℕ → ℝ) (ht : IsTot (i 1).val (stk q) k (tot t)) :
    out1_B_5 (F := Ideal) c i arg2 harg2 arg3 harg3 arg4 harg4 arg5 harg5 arg6 harg6 arg7 harg7 arg8 harg8 arg9 harg9 hc0 (up q) (up k) (up v) (up g) (up t) (up y8) (up y9) = up (dqBlk (i 1).val q k v g) := by
  unfold out1_B_5
  rw [View.read_writes_eq_canon _ _ _ (cover1_B_5 c i arg2 harg2 arg3 harg3 arg4 harg4 arg5 harg5 arg6 harg6 arg7 harg7 arg8 harg8 arg9 harg9 hc0 _ _ _ _ _ _ _)]
  unfold kernelRun1_B
  dsimp only
  sl_unfold_words
  rw [View.canon_unit_zero hz]
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) y8 y9 ht (harg8.unread (up y8)) (harg9.unread (up y9)) (harg8.read_unread _) (harg9.read_unread _) _ binit (i 1).val le_rfl
  generalize hst : st_k1_t1 (F := Ideal) _ _ _ _ _ _ _ _ _ _ _ _ _ _ _ _ _ _ _ _ _ _ _ _ _ _ _ _ _ _ _ _ _ _ _ = st
  unfold tot at e1
  rw [hst] at e1
  obtain ⟨⟨a, c0, cg⟩, l8, l9⟩ := st
  simp only [Prod.mk.injEq] at e1
  obtain ⟨rfl, rfl, rfl⟩ := e1
  dsimp only
  rw [ld_k k _ _ (boff3' i), ld_k v _ _ (boff3' i)]
  rw [k1_pay44_up, k1_pay45_up, k1_pay47_up, k1_pay48_up, k1_pay50_up, k1_pay51_up, k1_pay54_up, k1_pay1_up]
  refine up_congr fun r d hr _ => ?_
  unfold dqBlk unstk
  split
  · exact acc_diag _ _ _ _ _ ht _ d (by omega)
  · exact acc_diag _ _ _ _ _ ht _ d (by omega)

set_option backward.isDefEq.respectTransparency false in
/-- What a point leaves of the keys' gradient. -/
theorem outB6 (hc0 : ¬cond1_0 i) (q k v g t y8 y9 : ℕ → ℕ → ℝ) (ht : IsTot (i 1).val (stk q) k (tot t)) :
    out1_B_6 (F := Ideal) c i arg2 harg2 arg3 harg3 arg4 harg4 arg5 harg5 arg6 harg6 arg7 harg7 arg8 harg8 arg9 harg9 hc0 (up q) (up k) (up v) (up g) (up t) (up y8) (up y9) = up (fun s d => y8 s d + addK (i 1).val (stk q) k (stk g) v s d) := by
  unfold out1_B_6
  unfold kernelRun1_B
  dsimp only
  sl_unfold_words
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) y8 y9 ht (harg8.unread (up y8)) (harg9.unread (up y9)) (harg8.read_unread _) (harg9.read_unread _) _ binit (i 1).val le_rfl
  generalize hst : st_k1_t1 (F := Ideal) _ _ _ _ _ _ _ _ _ _ _ _ _ _ _ _ _ _ _ _ _ _ _ _ _ _ _ _ _ _ _ _ _ _ _ = st
  unfold tot at e1 e2 e3
  rw [hst] at e1 e2 e3
  obtain ⟨⟨a, c0, cg⟩, l8, l9⟩ := st
  simp only [Prod.mk.injEq] at e1
  obtain ⟨rfl, rfl, rfl⟩ := e1
  dsimp only at e2 e3 ⊢
  rw [ld_k k _ _ (boff3' i), ld_k v _ _ (boff3' i), e2, ld_rows32 _ _ _ (boff3' i)]
  rw [k1_pay45_up, k1_pay47_up, k1_pay48_up, k1_pay50_up, k1_pay51_up, k1_pay55_up]
  refine (put_rows _ _ _ _ (i 1).val _ (boff3' i) y8 _ e2 _ fun x d hx _ => ?_).trans (up_congr fun x d _ _ => ?_)
  · dsimp only
    refine congr (congrArg HAdd.hAdd ?_) (addK_diag _ _ _ _ _ ht x d)
    rw [rows, upTo, if_neg (by omega)]
  · unfold upTo
    split
    · rfl
    · rw [addK_later (i 1).val _ _ _ _ x d (by omega), add_zero]

set_option backward.isDefEq.respectTransparency false in
/-- What a point leaves of the values' gradient. -/
theorem outB7 (hc0 : ¬cond1_0 i) (q k v g t y8 y9 : ℕ → ℕ → ℝ) (ht : IsTot (i 1).val (stk q) k (tot t)) :
    out1_B_7 (F := Ideal) c i arg2 harg2 arg3 harg3 arg4 harg4 arg5 harg5 arg6 harg6 arg7 harg7 arg8 harg8 arg9 harg9 hc0 (up q) (up k) (up v) (up g) (up t) (up y8) (up y9) = up (fun s d => y9 s d + addV (i 1).val (stk q) k (stk g) s d) := by
  unfold out1_B_7
  unfold kernelRun1_B
  dsimp only
  sl_unfold_words
  simp only [View.readAt_eq_ld, harg2.read_unread, harg3.read_unread, harg4.read_unread, harg5.read_unread, harg6.read_unread, View.ld_unit_zero (S := S256x128) hz, btrips1', btrips2', st_k1_t2.eq_1, List.nil_append, View.writes_append,
    k1_pay22_up, k1_pay23_up, k1_pay24_up]
  obtain ⟨e1, e2, e3⟩ := bstate Variants.none c none i arg2 harg2 arg3 harg3 arg4 harg4 arg5 harg5 arg6 harg6 arg7 harg7 arg8 harg8 arg9 harg9 (BitVec.ofNat 32 (i 1).val) k1_pay25 (k1_pay28 (F := Ideal)) (FloatOps.ofBits FTy.f32 0#32) (stk q) (stk g) k v (tot t) y8 y9 ht (harg8.unread (up y8)) (harg9.unread (up y9)) (harg8.read_unread _) (harg9.read_unread _) _ binit (i 1).val le_rfl
  generalize hst : st_k1_t1 (F := Ideal) _ _ _ _ _ _ _ _ _ _ _ _ _ _ _ _ _ _ _ _ _ _ _ _ _ _ _ _ _ _ _ _ _ _ _ = st
  unfold tot at e1 e2 e3
  rw [hst] at e1 e2 e3
  obtain ⟨⟨a, c0, cg⟩, l8, l9⟩ := st
  simp only [Prod.mk.injEq] at e1
  obtain ⟨rfl, rfl, rfl⟩ := e1
  dsimp only at e2 e3 ⊢
  rw [ld_k k _ _ (boff3' i), e3, ld_rows32 _ _ _ (boff3' i)]
  rw [k1_pay50_up, k1_pay51_up, k1_pay56_up]
  refine (put_rows _ _ _ _ (i 1).val _ (boff3' i) y9 _ e3 _ fun x d hx _ => ?_).trans (up_congr fun x d _ _ => ?_)
  · dsimp only
    refine congr (congrArg HAdd.hAdd ?_) (addV_diag _ _ _ _ ht x d)
    rw [rows, upTo, if_neg (by omega)]
  · unfold upTo
    split
    · rfl
    · rw [addV_later (i 1).val _ _ _ x d (by omega), add_zero]
end
-- ==== Proof.BwdArray.lean ====
/-
  The arrays that the backward call leaves: the gradients of the queries, the keys and the values, as real arrays.
-/
module
public import proofs.«01_k».proof.Proof.FwdArray
public import proofs.«01_k».proof.Proof.BwdBody
@[expose] public section
set_option maxRecDepth 16384
noncomputable section
namespace Cert.Attn
open Finset Idealize.ShloMosaic Idealize.ShloMosaic.TcCoe Idealize.SL.Sem Cert.KernelIdeal Cert.KernelIdeal.Gen
open Idealize.ShloMosaic.Pipeline (Dat)

/-! ## The blocks' formulas, head by head -/

theorem zz_row (q k : ℕ → ℕ → ℝ) (p i r : ℕ) (hr : r < 512) :
    zz 128 (stk (blkQ q p i)) (blkK k p) r = zh q k (2 * p + r / 256) (tq i r) := funext fun s => zz_stk q k p i r s hr

/-- The saved logarithms that the forward call leaves are those that the backward call reads. -/
theorem isTot_spec (q k : ℕ → ℕ → ℝ) (p i : ℕ) : IsTot i (stk (blkQ q p i)) (blkK k p) (tot (blkQ (specT q k) p i)) := by
  intro r hr
  rw [zz_row q k p i r hr, tot]
  by_cases h : r < 256
  · rw [if_pos h, blkQ, specT, tq, show (128 * p + 0) / 64 = 2 * p + r / 256 by omega, show r % 256 = r by omega]
  · rw [if_neg h, blkQ, specT, tq, show (128 * p + 64) / 64 = 2 * p + r / 256 by omega, show r % 256 = r - 256 by omega]

theorem dzr_spec (q k v g : ℕ → ℕ → ℝ) (p i r s : ℕ) (hr : r < 512) :
    dzr i (stk (blkQ q p i)) (blkK k p) (stk (blkQ g p i)) (blkK v p) r s = dzh q k v g (2 * p + r / 256) (tq i r) s := by
  rw [dzr, zz_row q k p i r hr, zz_row g v p i r hr, dzh]

/-- A point's block of the gradient of the queries is the specification's. -/
theorem block_dq (q k v g : ℕ → ℕ → ℝ) (p i : ℕ) :
    up (M := 256) (N := 128) (dqBlk i (blkQ q p i) (blkK k p) (blkK v p) (blkQ g p i)) = up (blkQ (specDq q k v g) p i) := by
  refine up_congr fun r d hr hd => ?_
  have key : ∀ r', r' < 512 → r' % 256 = r → r' / 256 = d / 64 →
      accB i (stk (blkQ q p i)) (blkK k p) (stk (blkQ g p i)) (blkK v p) (tq i r') r' d = blkQ (specDq q k v g) p i r d := fun r' h1 h2 h3 => by
    have ht : tq i r' = 256 * i + r := by rw [tq, h2]
    rw [accB, blkQ, specDq, ht, range_eq_Ico]
    refine sum_congr rfl fun s _ => ?_
    rw [dzr_spec q k v g p i r' s h1, ht, h3, show 2 * p + d / 64 = (128 * p + d) / 64 by omega]
    rfl
  unfold dqBlk unstk
  split
  · exact key _ (by omega) (by omega) (by omega)
  · exact key _ (by omega) (by omega) (by omega)

/-- A point adds to the gradient of the keys the part of its 256 queries. -/
theorem addK_spec (q k v g : ℕ → ℕ → ℝ) (p i s d : ℕ) (hd : d < 128) :
    blkK (specDk q k v g (256 * i)) p s d + addK i (stk (blkQ q p i)) (blkK k p) (stk (blkQ g p i)) (blkK v p) s d
      = blkK (specDk q k v g (256 * (i + 1))) p s d := by
  rw [blkK, blkK, specDk, specDk, show 256 * (i + 1) = 256 * i + 256 by omega, sum_range_add]
  congr 1
  rw [addK, sum_congr rfl fun r _ => (ite_zero_mul (s < tq i r) (dzr i (stk (blkQ q p i)) (blkK k p) (stk (blkQ g p i)) (blkK v p) r s) (stk (blkQ q p i) r d)).symm,
    sum_stk (fun r => if s < tq i r then dzr i (stk (blkQ q p i)) (blkK k p) (stk (blkQ g p i)) (blkK v p) r s else 0) _ d hd]
  refine sum_congr rfl fun r hr => ?_
  have hr' := mem_range.mp hr
  have ht : tq i (256 * (d / 64) + r) = 256 * i + r := by rw [tq]; omega
  rw [dzr_spec q k v g p i _ s (by omega), ht, show 2 * p + (256 * (d / 64) + r) / 256 = (128 * p + d) / 64 by omega, ite_zero_mul]
  rfl

/-- A point adds to the gradient of the values the part of its 256 queries. -/
theorem addV_spec (q k g : ℕ → ℕ → ℝ) (p i s d : ℕ) (hd : d < 128) :
    blkK (specDv q k g (256 * i)) p s d + addV i (stk (blkQ q p i)) (blkK k p) (stk (blkQ g p i)) s d
      = blkK (specDv q k g (256 * (i + 1))) p s d := by
  rw [blkK, blkK, specDv, specDv, show 256 * (i + 1) = 256 * i + 256 by omega, sum_range_add]
  congr 1
  rw [addV, sum_congr rfl fun r _ => (ite_zero_mul (s < tq i r) (Aw (zz 128 (stk (blkQ q p i)) (blkK k p) r) (tq i r) s) (stk (blkQ g p i) r d)).symm,
    sum_stk (fun r => if s < tq i r then Aw (zz 128 (stk (blkQ q p i)) (blkK k p) r) (tq i r) s else 0) _ d hd]
  refine sum_congr rfl fun r hr => ?_
  have hr' := mem_range.mp hr
  have ht : tq i (256 * (d / 64) + r) = 256 * i + r := by rw [tq]; omega
  rw [zz_row q k p i _ (by omega), ht, show 2 * p + (256 * (d / 64) + r) / 256 = (128 * p + d) / 64 by omega, ite_zero_mul]
  rfl

variable (V : (c : Dev nD) → (b : Ref sig .tc) → Buf (Elt Ideal) ((c : Thread nD τ).loc b))

/-! ## The points' blocks -/

theorem coords1 : ∀ t : Fin cfg1.N, ((grid1.coords t) 0).val = t.val / 8 ∧ ((grid1.coords t) 1).val = t.val % 8 := by decide +kernel

theorem index1_0 : ∀ t : Fin cfg1.N, win1_0.index t 0 = t.val % 8 ∧ win1_0.index t 1 = t.val / 8 := by decide +kernel
theorem index1_1 : ∀ t : Fin cfg1.N, win1_1.index t 0 = 0 ∧ win1_1.index t 1 = t.val / 8 := by decide +kernel
theorem index1_2 : ∀ t : Fin cfg1.N, win1_2.index t 0 = 0 ∧ win1_2.index t 1 = t.val / 8 := by decide +kernel
theorem index1_3 : ∀ t : Fin cfg1.N, win1_3.index t 0 = t.val % 8 ∧ win1_3.index t 1 = t.val / 8 := by decide +kernel
theorem index1_4 : ∀ t : Fin cfg1.N, win1_4.index t 0 = t.val % 8 ∧ win1_4.index t 1 = t.val / 8 := by decide +kernel
theorem index1_5 : ∀ t : Fin cfg1.N, win1_5.index t 0 = t.val % 8 ∧ win1_5.index t 1 = t.val / 8 := by decide +kernel
theorem index1_6 : ∀ t : Fin cfg1.N, win1_6.index t 0 = 0 ∧ win1_6.index t 1 = t.val / 8 := by decide +kernel
theorem index1_7 : ∀ t : Fin cfg1.N, win1_7.index t 0 = 0 ∧ win1_7.index t 1 = t.val / 8 := by decide +kernel

/-- The block of the queries of a point. -/
theorem iblk1_0 (c : Dev nD) (q : ℕ → ℕ → ℝ) (h : V c (Pipeline.arrRef spec1 0) = (up q : Shape.Idx S2048x512 → EReal)) (t : Fin cfg1.N) :
    iblk1 V c 0 t = (up (blkQ q (t.val / 8) (t.val % 8)) : Shape.Idx S256x128 → EReal) := by
  funext j
  unfold iblk1
  rw [View.read_apply, h]
  show ((q (win1_0.index t 0 * 256 + 1 * (j 0).val) (win1_0.index t 1 * 128 + 1 * (j 1).val) : ℝ) : EReal) = _
  rw [(index1_0 t).1, (index1_0 t).2, mul_comm _ 256, mul_comm _ 128, one_mul, one_mul]
  rfl

/-- The block of the keys of a point. -/
theorem iblk1_1 (c : Dev nD) (q : ℕ → ℕ → ℝ) (h : V c (Pipeline.arrRef spec1 1) = (up q : Shape.Idx S2048x512 → EReal)) (t : Fin cfg1.N) :
    iblk1 V c 1 t = (up (blkK q (t.val / 8)) : Shape.Idx S2048x128 → EReal) := by
  funext j
  unfold iblk1
  rw [View.read_apply, h]
  show ((q (win1_1.index t 0 * 2048 + 1 * (j 0).val) (win1_1.index t 1 * 128 + 1 * (j 1).val) : ℝ) : EReal) = _
  rw [(index1_1 t).1, (index1_1 t).2, zero_mul, zero_add, mul_comm _ 128, one_mul, one_mul]
  rfl

/-- The block of the values of a point. -/
theorem iblk1_2 (c : Dev nD) (q : ℕ → ℕ → ℝ) (h : V c (Pipeline.arrRef spec1 2) = (up q : Shape.Idx S2048x512 → EReal)) (t : Fin cfg1.N) :
    iblk1 V c 2 t = (up (blkK q (t.val / 8)) : Shape.Idx S2048x128 → EReal) := by
  funext j
  unfold iblk1
  rw [View.read_apply, h]
  show ((q (win1_2.index t 0 * 2048 + 1 * (j 0).val) (win1_2.index t 1 * 128 + 1 * (j 1).val) : ℝ) : EReal) = _
  rw [(index1_2 t).1, (index1_2 t).2, zero_mul, zero_add, mul_comm _ 128, one_mul, one_mul]
  rfl

/-- The block of the output's gradient of a point. -/
theorem iblk1_3 (c : Dev nD) (q : ℕ → ℕ → ℝ) (h : V c (Pipeline.arrRef spec1 3) = (up q : Shape.Idx S2048x512 → EReal)) (t : Fin cfg1.N) :
    iblk1 V c 3 t = (up (blkQ q (t.val / 8) (t.val % 8)) : Shape.Idx S256x128 → EReal) := by
  funext j
  unfold iblk1
  rw [View.read_apply, h]
  show ((q (win1_3.index t 0 * 256 + 1 * (j 0).val) (win1_3.index t 1 * 128 + 1 * (j 1).val) : ℝ) : EReal) = _
  rw [(index1_3 t).1, (index1_3 t).2, mul_comm _ 256, mul_comm _ 128, one_mul, one_mul]
  rfl

/-- The block of the saved logarithms of a point. -/
theorem iblk1_4 (c : Dev nD) (q : ℕ → ℕ → ℝ) (h : V c (Pipeline.arrRef spec1 4) = (up q : Shape.Idx S2048x512 → EReal)) (t : Fin cfg1.N) :
    iblk1 V c 4 t = (up (blkQ q (t.val / 8) (t.val % 8)) : Shape.Idx S256x128 → EReal) := by
  funext j
  unfold iblk1
  rw [View.read_apply, h]
  show ((q (win1_4.index t 0 * 256 + 1 * (j 0).val) (win1_4.index t 1 * 128 + 1 * (j 1).val) : ℝ) : EReal) = _
  rw [(index1_4 t).1, (index1_4 t).2, mul_comm _ 256, mul_comm _ 128, one_mul, one_mul]
  rfl

section
variable (c : Dev nD) (q k v g : ℕ → ℕ → ℝ) (h0 : V c (Pipeline.arrRef spec1 0) = (up q : Shape.Idx S2048x512 → EReal))
  (h1 : V c (Pipeline.arrRef spec1 1) = (up k : Shape.Idx S2048x512 → EReal)) (h2 : V c (Pipeline.arrRef spec1 2) = (up v : Shape.Idx S2048x512 → EReal))
  (h3 : V c (Pipeline.arrRef spec1 3) = (up g : Shape.Idx S2048x512 → EReal)) (h4 : V c (Pipeline.arrRef spec1 4) = (up (specT q k) : Shape.Idx S2048x512 → EReal))
include h0 h1 h2 h3 h4

/-- The buffers after a point: its block of the gradient of the queries, and the gradients of the keys and the values from the queries
    up to its block's end. -/
theorem outs1 (n : ℕ) (hn : n < cfg1.N) : outsAt1 V c n hn =
    ((up (blkQ (specDq q k v g) (n / 8) (n % 8)), up (blkK (specDk q k v g (256 * (n % 8 + 1))) (n / 8)), up (blkK (specDv q k g (256 * (n % 8 + 1))) (n / 8))) :
      (Shape.Idx S256x128 → EReal) × (Shape.Idx S2048x128 → EReal) × (Shape.Idx S2048x128 → EReal)) := by
  induction n using Nat.strong_induction_on with
  | _ n ih =>
    have hT := isTot_spec q k (n / 8) (n % 8)
    have hc : ((grid1.coords ⟨n, hn⟩) 1).val = n % 8 := (coords1 ⟨n, hn⟩).2
    have hT' : IsTot ((grid1.coords ⟨n, hn⟩) 1).val (stk (blkQ q (n / 8) (n % 8))) (blkK k (n / 8)) (tot (blkQ (specT q k) (n / 8) (n % 8))) := by
      rw [hc]; exact hT
    by_cases hz : n % 8 = 0
    · rw [outsAt1_A V c ⟨n, hn⟩ hz, iblk1_0 V c q h0, iblk1_1 V c k h1, iblk1_2 V c v h2, iblk1_3 V c g h3, iblk1_4 V c _ h4]
      dsimp only
      rw [outA5 _ _ _ _ _ _ _ _ _ _ _ _ _ _ _ _ _ _ _ _ _ _ _ _ hT', outA6 _ _ _ _ _ _ _ _ _ _ _ _ _ _ _ _ _ _ _ _ _ _ _ _ hT', outA7 _ _ _ _ _ _ _ _ _ _ _ _ _ _ _ _ _ _ _ _ _ _ _ _ hT', hc, block_dq]
      refine congrArg₂ Prod.mk rfl (congrArg₂ Prod.mk (up_congr fun s d _ hd => ?_) (up_congr fun s d _ hd => ?_))
      · rw [← addK_spec q k v g (n / 8) (n % 8) s d hd]
        congr 1
        rw [blkK, specDk, hz, mul_zero, range_zero, sum_empty]
      · rw [← addV_spec q k g (n / 8) (n % 8) s d hd]
        congr 1
        rw [blkK, specDv, hz, mul_zero, range_zero, sum_empty]
    · rw [outsAt1_B V c ⟨n, hn⟩ hz, iblk1_0 V c q h0, iblk1_1 V c k h1, iblk1_2 V c v h2, iblk1_3 V c g h3, iblk1_4 V c _ h4]
      dsimp only
      rw [ih (n - 1) (by omega) (by omega)]
      dsimp only
      rw [outB5 _ _ _ _ _ _ _ _ _ _ _ _ _ _ _ _ _ _ _ _ _ _ _ _ _ _ hT', outB6 _ _ _ _ _ _ _ _ _ _ _ _ _ _ _ _ _ _ _ _ _ _ _ _ _ _ hT', outB7 _ _ _ _ _ _ _ _ _ _ _ _ _ _ _ _ _ _ _ _ _ _ _ _ _ _ hT', hc, block_dq]
      refine congrArg₂ Prod.mk rfl (congrArg₂ Prod.mk (up_congr fun s d _ hd => ?_) (up_congr fun s d _ hd => ?_))
      · rw [← addK_spec q k v g (n / 8) (n % 8) s d hd, show (n - 1) % 8 + 1 = n % 8 by omega, show (n - 1) / 8 = n / 8 by omega]
      · rw [← addV_spec q k g (n / 8) (n % 8) s d hd, show (n - 1) % 8 + 1 = n % 8 by omega, show (n - 1) / 8 = n / 8 by omega]

end

/-- The positions of the result that a point's block holds. -/
theorem mem1_5 (t : Fin cfg1.N) (i : Shape.Idx S2048x512) : i ∈ ((View.whole main_v6_0).slice (win1_5.rect t)).set
    ↔ (t.val % 8 * 256 ≤ (i 0).val ∧ (i 0).val < t.val % 8 * 256 + 256) ∧ (t.val / 8 * 128 ≤ (i 1).val ∧ (i 1).val < t.val / 8 * 128 + 128) := by
  rw [View.set_slice_whole, Rect.mem_set_unit]
  constructor
  · intro h
    have h0 := h 0
    have h1 := h 1
    change win1_5.index t 0 * 256 ≤ (i 0).val ∧ (i 0).val < win1_5.index t 0 * 256 + 256 at h0
    change win1_5.index t 1 * 128 ≤ (i 1).val ∧ (i 1).val < win1_5.index t 1 * 128 + 128 at h1
    rw [(index1_5 t).1] at h0
    rw [(index1_5 t).2] at h1
    exact ⟨h0, h1⟩
  · intro h a
    match a with
    | ⟨0, _⟩ =>
      show win1_5.index t 0 * 256 ≤ (i 0).val ∧ (i 0).val < win1_5.index t 0 * 256 + 256
      rw [(index1_5 t).1]; exact h.1
    | ⟨1, _⟩ =>
      show win1_5.index t 1 * 128 ≤ (i 1).val ∧ (i 1).val < win1_5.index t 1 * 128 + 128
      rw [(index1_5 t).2]; exact h.2

/-- The gradient of the queries after the backward call. -/
theorem final1_5 (c : Dev nD) (q k v g : ℕ → ℕ → ℝ) (h0 : V c (Pipeline.arrRef spec1 0) = (up q : Shape.Idx S2048x512 → EReal))
    (h1 : V c (Pipeline.arrRef spec1 1) = (up k : Shape.Idx S2048x512 → EReal)) (h2 : V c (Pipeline.arrRef spec1 2) = (up v : Shape.Idx S2048x512 → EReal))
    (h3 : V c (Pipeline.arrRef spec1 3) = (up g : Shape.Idx S2048x512 → EReal)) (h4 : V c (Pipeline.arrRef spec1 4) = (up (specT q k) : Shape.Idx S2048x512 → EReal)) :
    (dat1 V c).arrAt 5 cfg1.N = (up (specDq q k v g) : Shape.Idx S2048x512 → EReal) := by
  refine (dat1 V c).arrAt_eq_of_cover 5 (up (specDq q k v g) : Shape.Idx S2048x512 → EReal) (fun t _ => ?_) (fun i => ?_)
  · show (cfg1.win 5).cut (grid1.coords t) ((dat1 V c).after 5 t) = _
    rw [after1_5, outs1 V c q k v g h0 h1 h2 h3 h4]
    funext j
    show (((specDq q k v g) (256 * (t.val % 8) + (j 0).val) (128 * (t.val / 8) + (j 1).val) : ℝ) : EReal)
      = (((specDq q k v g) (win1_5.index t 0 * 256 + 1 * (j 0).val) (win1_5.index t 1 * 128 + 1 * (j 1).val) : ℝ) : EReal)
    rw [(index1_5 t).1, (index1_5 t).2, mul_comm _ 256, mul_comm _ 128, one_mul, one_mul]
  · have hi0 : (i 0 : Nat) < 2048 := (i 0).isLt
    have hi1 : (i 1 : Nat) < 512 := (i 1).isLt
    have hN : cfg1.N = 32 := N_1
    refine ⟨⟨8 * ((i 1 : Nat) / 128) + (i 0 : Nat) / 256, by omega⟩, flush1_5 _, ?_⟩
    exact (mem1_5 _ i).mpr ⟨by dsimp only; omega, by dsimp only; omega⟩

/-- The positions of the result that a point's block holds. -/
theorem mem1_6 (t : Fin cfg1.N) (i : Shape.Idx S2048x512) : i ∈ ((View.whole main_v6_1).slice (win1_6.rect t)).set
    ↔ (0 * 2048 ≤ (i 0).val ∧ (i 0).val < 0 * 2048 + 2048) ∧ (t.val / 8 * 128 ≤ (i 1).val ∧ (i 1).val < t.val / 8 * 128 + 128) := by
  rw [View.set_slice_whole, Rect.mem_set_unit]
  constructor
  · intro h
    have h0 := h 0
    have h1 := h 1
    change win1_6.index t 0 * 2048 ≤ (i 0).val ∧ (i 0).val < win1_6.index t 0 * 2048 + 2048 at h0
    change win1_6.index t 1 * 128 ≤ (i 1).val ∧ (i 1).val < win1_6.index t 1 * 128 + 128 at h1
    rw [(index1_6 t).1] at h0
    rw [(index1_6 t).2] at h1
    exact ⟨h0, h1⟩
  · intro h a
    match a with
    | ⟨0, _⟩ =>
      show win1_6.index t 0 * 2048 ≤ (i 0).val ∧ (i 0).val < win1_6.index t 0 * 2048 + 2048
      rw [(index1_6 t).1]; exact h.1
    | ⟨1, _⟩ =>
      show win1_6.index t 1 * 128 ≤ (i 1).val ∧ (i 1).val < win1_6.index t 1 * 128 + 128
      rw [(index1_6 t).2]; exact h.2

/-- The gradient of the keys after the backward call. -/
theorem final1_6 (c : Dev nD) (q k v g : ℕ → ℕ → ℝ) (h0 : V c (Pipeline.arrRef spec1 0) = (up q : Shape.Idx S2048x512 → EReal))
    (h1 : V c (Pipeline.arrRef spec1 1) = (up k : Shape.Idx S2048x512 → EReal)) (h2 : V c (Pipeline.arrRef spec1 2) = (up v : Shape.Idx S2048x512 → EReal))
    (h3 : V c (Pipeline.arrRef spec1 3) = (up g : Shape.Idx S2048x512 → EReal)) (h4 : V c (Pipeline.arrRef spec1 4) = (up (specT q k) : Shape.Idx S2048x512 → EReal)) :
    (dat1 V c).arrAt 6 cfg1.N = (up (specDk q k v g 2048) : Shape.Idx S2048x512 → EReal) := by
  refine (dat1 V c).arrAt_eq_of_cover 6 (up (specDk q k v g 2048) : Shape.Idx S2048x512 → EReal) (fun t ht => ?_) (fun i => ?_)
  · have h7 : t.val % 8 = 7 := (flush1_6 t).mp ht
    show (cfg1.win 6).cut (grid1.coords t) ((dat1 V c).after 6 t) = _
    rw [after1_6, outs1 V c q k v g h0 h1 h2 h3 h4, h7]
    funext j
    show ((specDk q k v g (256 * (7 + 1)) (j 0).val (128 * (t.val / 8) + (j 1).val) : ℝ) : EReal)
      = (((specDk q k v g 2048) (win1_6.index t 0 * 2048 + 1 * (j 0).val) (win1_6.index t 1 * 128 + 1 * (j 1).val) : ℝ) : EReal)
    rw [(index1_6 t).1, (index1_6 t).2, zero_mul, zero_add, mul_comm _ 128, one_mul, one_mul]
  · have hi0 : (i 0 : Nat) < 2048 := (i 0).isLt
    have hi1 : (i 1 : Nat) < 512 := (i 1).isLt
    have hN : cfg1.N = 32 := N_1
    refine ⟨⟨8 * ((i 1 : Nat) / 128) + 7, by omega⟩, (flush1_6 _).mpr (by dsimp only; omega), ?_⟩
    exact (mem1_6 _ i).mpr ⟨by omega, by dsimp only; omega⟩

/-- The positions of the result that a point's block holds. -/
theorem mem1_7 (t : Fin cfg1.N) (i : Shape.Idx S2048x512) : i ∈ ((View.whole main_v6_2).slice (win1_7.rect t)).set
    ↔ (0 * 2048 ≤ (i 0).val ∧ (i 0).val < 0 * 2048 + 2048) ∧ (t.val / 8 * 128 ≤ (i 1).val ∧ (i 1).val < t.val / 8 * 128 + 128) := by
  rw [View.set_slice_whole, Rect.mem_set_unit]
  constructor
  · intro h
    have h0 := h 0
    have h1 := h 1
    change win1_7.index t 0 * 2048 ≤ (i 0).val ∧ (i 0).val < win1_7.index t 0 * 2048 + 2048 at h0
    change win1_7.index t 1 * 128 ≤ (i 1).val ∧ (i 1).val < win1_7.index t 1 * 128 + 128 at h1
    rw [(index1_7 t).1] at h0
    rw [(index1_7 t).2] at h1
    exact ⟨h0, h1⟩
  · intro h a
    match a with
    | ⟨0, _⟩ =>
      show win1_7.index t 0 * 2048 ≤ (i 0).val ∧ (i 0).val < win1_7.index t 0 * 2048 + 2048
      rw [(index1_7 t).1]; exact h.1
    | ⟨1, _⟩ =>
      show win1_7.index t 1 * 128 ≤ (i 1).val ∧ (i 1).val < win1_7.index t 1 * 128 + 128
      rw [(index1_7 t).2]; exact h.2

/-- The gradient of the values after the backward call. -/
theorem final1_7 (c : Dev nD) (q k v g : ℕ → ℕ → ℝ) (h0 : V c (Pipeline.arrRef spec1 0) = (up q : Shape.Idx S2048x512 → EReal))
    (h1 : V c (Pipeline.arrRef spec1 1) = (up k : Shape.Idx S2048x512 → EReal)) (h2 : V c (Pipeline.arrRef spec1 2) = (up v : Shape.Idx S2048x512 → EReal))
    (h3 : V c (Pipeline.arrRef spec1 3) = (up g : Shape.Idx S2048x512 → EReal)) (h4 : V c (Pipeline.arrRef spec1 4) = (up (specT q k) : Shape.Idx S2048x512 → EReal)) :
    (dat1 V c).arrAt 7 cfg1.N = (up (specDv q k g 2048) : Shape.Idx S2048x512 → EReal) := by
  refine (dat1 V c).arrAt_eq_of_cover 7 (up (specDv q k g 2048) : Shape.Idx S2048x512 → EReal) (fun t ht => ?_) (fun i => ?_)
  · have h7 : t.val % 8 = 7 := (flush1_7 t).mp ht
    show (cfg1.win 7).cut (grid1.coords t) ((dat1 V c).after 7 t) = _
    rw [after1_7, outs1 V c q k v g h0 h1 h2 h3 h4, h7]
    funext j
    show ((specDv q k g (256 * (7 + 1)) (j 0).val (128 * (t.val / 8) + (j 1).val) : ℝ) : EReal)
      = (((specDv q k g 2048) (win1_7.index t 0 * 2048 + 1 * (j 0).val) (win1_7.index t 1 * 128 + 1 * (j 1).val) : ℝ) : EReal)
    rw [(index1_7 t).1, (index1_7 t).2, zero_mul, zero_add, mul_comm _ 128, one_mul, one_mul]
  · have hi0 : (i 0 : Nat) < 2048 := (i 0).isLt
    have hi1 : (i 1 : Nat) < 512 := (i 1).isLt
    have hN : cfg1.N = 32 := N_1
    refine ⟨⟨8 * ((i 1 : Nat) / 128) + 7, by omega⟩, (flush1_7 _).mpr (by dsimp only; omega), ?_⟩
    exact (mem1_7 _ i).mpr ⟨by omega, by dsimp only; omega⟩

end Cert.Attn
-- ==== Proof.Up3.lean ====
/-
  Real arrays of three axes inside the extended reals, and the sums over windows that running sums are written as.
-/
module
public import proofs.«01_k».proof.Proof.Coe
@[expose] public section
noncomputable section
namespace Cert.Attn
open Finset Idealize.ShloMosaic

/-- The three-axis array of extended reals that holds the real number `x a b c` at (a, b, c). -/
def up3 {A B C : ℕ} (x : ℕ → ℕ → ℕ → ℝ) : Shape.Idx ⟨3, ![A, B, C]⟩ → EReal := fun j => ((x (j 0).val (j 1).val (j 2).val : ℝ) : EReal)

theorem up3_ix3 {A B C : ℕ} (x : ℕ → ℕ → ℕ → ℝ) (a : Fin A) (b : Fin B) (c : Fin C) :
    up3 (A := A) (B := B) (C := C) x (ix3 a b c) = ((x a.val b.val c.val : ℝ) : EReal) := rfl

theorem up3_congr {A B C : ℕ} {x y : ℕ → ℕ → ℕ → ℝ} (h : ∀ a b c, a < A → b < B → c < C → x a b c = y a b c) :
    up3 (A := A) (B := B) (C := C) x = up3 y := by
  funext j
  have h0 : (j 0).val < A := (j 0).isLt
  have h1 : (j 1).val < B := (j 1).isLt
  have h2 : (j 2).val < C := (j 2).isLt
  simp only [up3, h _ _ _ h0 h1 h2]

theorem foldl_sum {α : Type} (g : α → EReal) : ∀ (l : List α) (a : EReal), l.foldl (fun r n => r + g n) a = a + (l.map g).sum
  | [], a => by simp
  | x :: l, a => by rw [List.foldl_cons, foldl_sum g l, List.map_cons, List.sum_cons, add_assoc]

/-- A window sum along the last axis, the initial value being zero. -/
theorem window_last {A B N : ℕ} (l r : ℕ) (x : ℕ → ℕ → ℕ → ℝ)
    (h : Shape.ReduceWindows ⟨3, ![A, B, N]⟩ ![1, 1, N] ![1, 1, 1] ![0, 0, l] ![0, 0, r] ⟨3, ![A, B, N]⟩) :
    Ideal.hostReduceWindowAdd ![1, 1, N] ![1, 1, 1] ![0, 0, l] ![0, 0, r] h (up3 (A := A) (B := B) (C := N) x) 0
      = up3 (fun a b c => ∑ n ∈ range N, if l ≤ c + n ∧ c + n - l < N then x a b (c + n - l) else 0) := by
  funext j
  unfold Ideal.hostReduceWindowAdd Host.reduceWindow
  dsimp only
  rw [foldl_sum, zero_add, ← List.ofFn_eq_map, List.sum_ofFn]
  have hj0 : (j 0).val < A := (j 0).isLt
  have hj1 : (j 1).val < B := (j 1).isLt
  let G : Shape.Idx ⟨3, ![1, 1, N]⟩ → EReal := fun i =>
    ((if l ≤ (j 2).val + (i 2).val ∧ (j 2).val + (i 2).val - l < N then x (j 0).val (j 1).val ((j 2).val + (i 2).val - l) else 0 : ℝ) : EReal)
  refine (sum_congr rfl fun n _ => ?_ : _ = ∑ n, G ((⟨3, ![1, 1, N]⟩ : Shape).rowMajor.symm n)).trans ?_
  · let i : Shape.Idx ⟨3, ![1, 1, N]⟩ := (⟨3, ![1, 1, N]⟩ : Shape).rowMajor.symm n
    show _ = G i
    have hi0 : (i 0).val = 0 := Nat.lt_one_iff.mp (i 0).isLt
    have hi1 : (i 1).val = 0 := Nat.lt_one_iff.mp (i 1).isLt
    dsimp only [G]
    split
    · next hin =>
      have h2 := hin 2
      change l ≤ (j 2).val * 1 + (i 2).val ∧ (j 2).val * 1 + (i 2).val - l < N at h2
      rw [mul_one] at h2
      rw [if_pos h2]
      show ((x ((j 0).val * 1 + (i 0).val - 0) ((j 1).val * 1 + (i 1).val - 0) ((j 2).val * 1 + (i 2).val - l) : ℝ) : EReal) = _
      rw [hi0, hi1, mul_one, mul_one, mul_one]
      rfl
    · next hin =>
      rw [if_neg]
      · rfl
      · intro hc
        refine hin fun a => ?_
        match a with
        | ⟨0, _⟩ => exact ⟨Nat.zero_le _, by show (j 0).val * 1 + (i 0).val - 0 < A; omega⟩
        | ⟨1, _⟩ => exact ⟨Nat.zero_le _, by show (j 1).val * 1 + (i 1).val - 0 < B; omega⟩
        | ⟨2, _⟩ => show l ≤ (j 2).val * 1 + (i 2).val ∧ (j 2).val * 1 + (i 2).val - l < N; rwa [mul_one]
  · rw [Equiv.sum_comp (⟨3, ![1, 1, N]⟩ : Shape).rowMajor.symm G, sum_idx3]
    simp only [Fin.sum_univ_one, Fin.isValue]
    unfold up3
    rw [← coe_sum_fin]
    rfl

/-- A running sum. -/
theorem window_prefix {N c : ℕ} (hN : 0 < N) (hc : c < N) (f : ℕ → ℝ) :
    ∑ n ∈ range N, (if N - 1 ≤ c + n ∧ c + n - (N - 1) < N then f (c + n - (N - 1)) else 0) = ∑ y ∈ range (c + 1), f y := by
  rw [← sum_filter]
  refine sum_nbij' (fun n => c + n - (N - 1)) (fun y => y + (N - 1) - c) ?_ ?_ ?_ ?_ ?_
  · intro n hn; simp only [mem_filter, mem_range] at hn ⊢; omega
  · intro n hn; simp only [mem_filter, mem_range] at hn ⊢; omega
  · intro n hn; simp only [mem_filter, mem_range] at hn ⊢; omega
  · intro n hn; simp only [mem_range] at hn ⊢; omega
  · intro n hn; rfl

/-- A running sum from the end. -/
theorem window_suffix {N c : ℕ} (hc : c < N) (f : ℕ → ℝ) :
    ∑ n ∈ range N, (if 0 ≤ c + n ∧ c + n - 0 < N then f (c + n - 0) else 0) = ∑ y ∈ Ico c N, f y := by
  rw [← sum_filter]
  refine sum_nbij' (fun n => c + n - 0) (fun y => y - c) ?_ ?_ ?_ ?_ ?_
  · intro n hn; simp only [mem_filter, mem_range, mem_Ico] at hn ⊢; omega
  · intro n hn; simp only [mem_filter, mem_range, mem_Ico] at hn ⊢; omega
  · intro n hn; simp only [mem_filter, mem_range] at hn ⊢; omega
  · intro n hn; simp only [mem_Ico] at hn ⊢; omega
  · intro n hn; rfl

end Cert.Attn
-- ==== Proof.RefLogits.lean ====
/-
  The reference's logits, their mask and the logarithms of the sigmoid, as real arrays.
-/
module
public import proofs.«01_k».proof.Proof.Gen.ReferenceIdeal.Run
public import proofs.«01_k».proof.Proof.Up3
public import proofs.«01_k».proof.Proof.HeadSpec
public import Idealize.ShloMosaic.Lib.Tactic.CleanTypes
@[expose] public section
noncomputable section
namespace Cert.Attn
open Finset Idealize.ShloMosaic Idealize.ShloMosaic.TcCoe Idealize.SL.Sem Cert.ReferenceIdeal Cert.ReferenceIdeal.Gen Cert.ReferenceIdeal.Value

theorem eighth_f32 : Ideal.ofBits .f32 0x3E000000#32 = ((0.125 : ℝ) : EReal) := by
  simp [Ideal.ofBits, Ideal.ieee, -EReal.coe_mul]
  norm_num

theorem eight_f32 : Ideal.ofBits .f32 0x41000000#32 = ((8 : ℝ) : EReal) := by
  simp [Ideal.ofBits, Ideal.ieee, -EReal.coe_mul]
  norm_num

theorem inf_f32 : Ideal.ofBits .f32 0x7F800000#32 = (⊤ : EReal) := by
  simp [Ideal.ofBits, Ideal.ieee]

/-- Head `h` of row `t`. -/
def hd (x : ℕ → ℕ → ℝ) (h t d : ℕ) : ℝ := x t (64 * h + d)

/-- The scaled queries. -/
def scl (q : ℕ → ℕ → ℝ) (t l : ℕ) : ℝ := q t l * 0.125

theorem heads_up (x : ℕ → ℕ → ℝ) :
    transpose S8x2048x64 [1, 0, 2] (shapeCast S2048x8x64 (up x : FVec Ideal S2048x512 .f32) shapeCasts_S2048x512_S2048x8x64) transposes_S2048x8x64_S8x2048x64_1_0_2
      = up3 (hd x) := by
  funext j
  idx_vars j
  pointwise []
  rw [up_ix2, up3_ix3, hd]
  dsimp only
  rw [mul_comm]

variable (V : Valuation τ sig (Elt Ideal)) (q k v g : ℕ → ℕ → ℝ)

theorem res_v1 (h : V (Proc.devRef .tc main_arg0) = (up q : FVec Ideal S2048x512 .f32)) : res_main_v1 V = (up3 (hd q) : FVec Ideal S8x2048x64 .f32) := by
  unfold res_main_v1
  rw [h]
  exact heads_up q

theorem res_v3 (h : V (Proc.devRef .tc main_arg1) = (up k : FVec Ideal S2048x512 .f32)) : res_main_v3 V = (up3 (hd k) : FVec Ideal S8x2048x64 .f32) := by
  unfold res_main_v3
  rw [h]
  exact heads_up k

theorem res_v25 (h : V (Proc.devRef .tc main_arg2) = (up v : FVec Ideal S2048x512 .f32)) : res_main_v25 V = (up3 (hd v) : FVec Ideal S8x2048x64 .f32) := by
  unfold res_main_v25
  rw [h]
  exact heads_up v

theorem res_v30 (h : V (Proc.devRef .tc main_arg3) = (up g : FVec Ideal S2048x512 .f32)) : res_main_v30 V = (up3 (hd g) : FVec Ideal S8x2048x64 .f32) := by
  unfold res_main_v30
  rw [h]
  exact heads_up g

/-- The product of two arrays' rows, head by head. -/
theorem dot_up (x y : ℕ → ℕ → ℕ → ℝ) :
    Host.dotGeneral (F := Ideal) (φ₁ := .f32) (φ₂ := .f32) dot_S8x2048x64_S8x2048x64_S8x2048x2048_2_2_1_1_0_0 none (up3 x : FVec Ideal S8x2048x64 .f32) (up3 y : FVec Ideal S8x2048x64 .f32)
      = (up3 (fun h t s => ∑ d ∈ range 64, x h t d * y h s d) : FVec Ideal S8x2048x2048 .f32) := by
  funext j
  idx_vars j
  pointwise []
  simp only [up3_ix3, ← EReal.coe_mul, coe_sum, Finset.sum_range]

theorem scale_up (x : ℕ → ℕ → ℕ → ℝ) :
    mulf (up3 x : FVec Ideal S8x2048x2048 .f32) (broadcastInDim S8x2048x2048 ![] bcast_S_S8x2048x2048 (constant (F := Ideal) S_ .f32 0x3E000000#32))
      = up3 (fun h t s => x h t s * 0.125) := by
  funext j
  idx_vars j
  pointwise []
  rw [up3_ix3, up3_ix3, eighth_f32, ← EReal.coe_mul]

theorem res_v6 (h0 : V (Proc.devRef .tc main_arg0) = (up q : FVec Ideal S2048x512 .f32)) (h1 : V (Proc.devRef .tc main_arg1) = (up k : FVec Ideal S2048x512 .f32)) :
    res_main_v6 V = (up3 (zh (scl q) k) : FVec Ideal S8x2048x2048 .f32) := by
  unfold res_main_v6
  rw [res_v1 V q h0, res_v3 V k h1]
  refine (congrArg (fun x => mulf (F := Ideal) (φ := .f32) x _) (dot_up _ _)).trans ((scale_up _).trans (up3_congr fun h t s _ _ _ => ?_))
  rw [zh, sum_mul]
  refine sum_congr rfl fun d _ => ?_
  rw [hd, hd, scl]
  ring

/-- The mask of the keys before a query. -/
def msk : IVec S2048x2048 1 := fun j => if (j 1).val < (j 0).val then 1#1 else 0#1

theorem msk_ix2 (t s : Fin 2048) : msk (ix2 t s) = if s.val < t.val then 1#1 else 0#1 := rfl

theorem res_v12 : res_main_v12 V = msk := by
  unfold res_main_v12 res_main_v7
  clean_types
  funext j
  idx_vars j
  pointwise []
  rw [WordCmp.cmpi_slt_ofNat (by omega) (by omega), ofBool_ite, msk_ix2]

def msk3 : IVec S8x2048x2048 1 := fun j => if (j 2).val < (j 1).val then 1#1 else 0#1

theorem msk3_ix3 (h : Fin 8) (t s : Fin 2048) : msk3 (ix3 h t s) = if s.val < t.val then 1#1 else 0#1 := rfl

theorem bmsk : broadcastInDim S8x2048x2048 ![1, 2] bcast_S2048x2048_S8x2048x2048_1_2 msk = msk3 := by
  funext j
  idx_vars j
  pointwise []
  rw [msk_ix2, msk3_ix3]

theorem res_v15 : res_main_v15_1 V = msk3 := by
  unfold res_main_v15_1
  rw [res_v12]
  exact bmsk

theorem res_v23m : res_main_v23_1 V = msk3 := by
  unfold res_main_v23_1
  rw [res_v12]
  exact bmsk

end Cert.Attn
-- ==== Proof.KerRun.lean ====
/-
  The kernel's run with its results: what the forward call and the backward call leave in the result arrays.
-/
module
public import proofs.«01_k».proof.Proof.BwdArray
public import proofs.«01_k».proof.Proof.RefLogits
@[expose] public section
set_option maxRecDepth 16384
noncomputable section
namespace Cert.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the second call leaves. -/
theorem ker_run : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-! ## The operands of the calls -/

variable (c : Dev nD) (q k v g : ℕ → ℕ → ℝ)
  (h0 : m ((c.tc : Thread nD τ).loc main_arg0) = (up q : FVec Ideal S2048x512 .f32)) (h1 : m ((c.tc : Thread nD τ).loc main_arg1) = (up k : FVec Ideal S2048x512 .f32))
  (h2 : m ((c.tc : Thread nD τ).loc main_arg2) = (up v : FVec Ideal S2048x512 .f32)) (h3 : m ((c.tc : Thread nD τ).loc main_arg3) = (up g : FVec Ideal S2048x512 .f32))

theorem scale_q (x : ℕ → ℕ → ℝ) :
    truncf (F := Ideal) (φ := .f32) .bf16 (mulf (F := Ideal) (φ := .f32) (up x : FVec Ideal S2048x512 .f32) (broadcastInDim S2048x512 ![] bcast_S_S2048x512 (constant (F := Ideal) S_ .f32 0x3E000000#32))) bitsLt_bf16_f32
      = (up (scl x) : FVec Ideal S2048x512 .bf16) := by
  funext j
  idx_vars j
  pointwise []
  rw [up_ix2, up_ix2, eighth_f32, ← EReal.coe_mul]
  rfl

include h0 in
/-- The scaled queries. -/
theorem W1_q : W1 m ρ c (Proc.devRef .tc main_v2) = (up (scl q) : FVec Ideal S2048x512 .bf16) := by
  have e : W1 m ρ c (Proc.devRef .tc main_v2)
      = truncf (F := Ideal) (φ := .f32) .bf16 (mulf (F := Ideal) (φ := .f32) (m ((c.tc : Thread nD τ).loc main_arg0)) (broadcastInDim S2048x512 ![] bcast_S_S2048x512 (constant (F := Ideal) S_ .f32 0x3E000000#32))) bitsLt_bf16_f32 := by
    unfold W1
    after_results
  rw [e, h0]
  exact scale_q q

include h1 in
theorem W1_k : W1 m ρ c (Proc.devRef .tc main_v3) = (up k : FVec Ideal S2048x512 .bf16) := by
  have e : W1 m ρ c (Proc.devRef .tc main_v3) = truncf (F := Ideal) (φ := .f32) .bf16 (m ((c.tc : Thread nD τ).loc main_arg1)) bitsLt_bf16_f32 := by
    unfold W1
    after_results
  rw [e, h1]
  rfl

include h2 in
theorem W1_v : W1 m ρ c (Proc.devRef .tc main_v4) = (up v : FVec Ideal S2048x512 .bf16) := by
  have e : W1 m ρ c (Proc.devRef .tc main_v4) = truncf (F := Ideal) (φ := .f32) .bf16 (m ((c.tc : Thread nD τ).loc main_arg2)) bitsLt_bf16_f32 := by
    unfold W1
    after_results
  rw [e, h2]
  rfl

include h0 h1 h2 in
/-- The first result: the attention's output, of the scaled queries. -/
theorem W3_o : W3 m ρ c (Proc.devRef .tc main_v5_0) = (up (specO (scl q) k v) : FVec Ideal S2048x512 .bf16) := by
  refine (W3_of m ρ c main_v5_0 (by decide)).trans ((W2_arr m ρ c 3).trans ?_)
  exact final0_3 (V1 m ρ) c (scl q) k v (W1_q m ρ c q h0) (W1_k m ρ c k h1) (W1_v m ρ c v h2)

include h0 h1 h2 in
/-- What the forward call saves for the backward call: every row's total. -/
theorem W2_tot : W2 m ρ c (Proc.devRef .tc main_v5_1) = (up (specT (scl q) k) : Shape.Idx S2048x512 → EReal) :=
  (W2_arr m ρ c 4).trans (final0_4 (V1 m ρ) c (scl q) k v (W1_q m ρ c q h0) (W1_k m ρ c k h1) (W1_v m ρ c v h2))

include h0 in
theorem W2_q : W2 m ρ c (Proc.devRef .tc main_v2) = (up (scl q) : Shape.Idx S2048x512 → EReal) :=
  (W2_of m ρ c main_v2 (by decide)).trans (W1_q m ρ c q h0)

include h1 in
theorem W2_k : W2 m ρ c (Proc.devRef .tc main_v3) = (up k : Shape.Idx S2048x512 → EReal) :=
  (W2_of m ρ c main_v3 (by decide)).trans (W1_k m ρ c k h1)

include h2 in
theorem W2_v : W2 m ρ c (Proc.devRef .tc main_v4) = (up v : Shape.Idx S2048x512 → EReal) :=
  (W2_of m ρ c main_v4 (by decide)).trans (W1_v m ρ c v h2)

include h3 in
theorem W2_g : W2 m ρ c (Proc.devRef .tc main_arg3) = (up g : Shape.Idx S2048x512 → EReal) :=
  (W2_args m ρ c main_arg3 (by decide)).trans h3

include h0 h1 h2 h3
/-- The second result: the gradient at the scaled queries. -/
theorem W3_dq : W3 m ρ c (Proc.devRef .tc main_v6_0) = (up (specDq (scl q) k v g) : FVec Ideal S2048x512 .f32) :=
  (W3_arr m ρ c 5).trans (final1_5 (V2 m ρ) c (scl q) k v g (W2_q m ρ c q h0) (W2_k m ρ c k h1) (W2_v m ρ c v h2) (W2_g m ρ c g h3)
    (W2_tot m ρ c q k v h0 h1 h2))

/-- The third result: the gradient at the keys. -/
theorem W3_dk : W3 m ρ c (Proc.devRef .tc main_v6_1) = (up (specDk (scl q) k v g 2048) : FVec Ideal S2048x512 .f32) :=
  (W3_arr m ρ c 6).trans (final1_6 (V2 m ρ) c (scl q) k v g (W2_q m ρ c q h0) (W2_k m ρ c k h1) (W2_v m ρ c v h2) (W2_g m ρ c g h3)
    (W2_tot m ρ c q k v h0 h1 h2))

/-- The fourth result: the gradient at the values. -/
theorem W3_dv : W3 m ρ c (Proc.devRef .tc main_v6_2) = (up (specDv (scl q) k g 2048) : FVec Ideal S2048x512 .f32) :=
  (W3_arr m ρ c 7).trans (final1_7 (V2 m ρ) c (scl q) k v g (W2_q m ρ c q h0) (W2_k m ρ c k h1) (W2_v m ρ c v h2) (W2_g m ρ c g h3)
    (W2_tot m ρ c q k v h0 h1 h2))

end Cert.Attn
-- ==== Proof.RefWeights.lean ====
/-
  The reference's weights: the logarithms of the sigmoid, their running sum and the exponential.
-/
module
public import proofs.«01_k».proof.Proof.RefLogits
@[expose] public section
noncomputable section
namespace Cert.Attn
open Finset Idealize.ShloMosaic Idealize.ShloMosaic.TcCoe Idealize.SL.Sem Cert.ReferenceIdeal Cert.ReferenceIdeal.Gen Cert.ReferenceIdeal.Value

/-- The logarithm of the sum of the exponentials of a number and of zero. -/
def lae (x : ℝ) : ℝ := max x 0 + Real.log (1 + Real.exp (-|x|))

theorem lae_neg (z : ℝ) : lae (-z) = -lsp z := by
  rw [lae, lsp, abs_neg, zero_sub]
  have : max (-z) 0 = -min z 0 := by rw [← neg_zero, max_neg_neg, neg_zero]
  rw [this]; ring

theorem lae_pos (z : ℝ) : lae z = -lsn z := by
  have h0 : lsp z = -lae (-z) := by rw [lae_neg, neg_neg]
  rw [lsn, h0, lae, lae, abs_neg]
  have : max (-z) 0 = max z 0 - z := by
    rcases le_total z 0 with h | h
    · rw [max_eq_left (by linarith), max_eq_right h]; ring
    · rw [max_eq_right (by linarith), max_eq_left h]; ring
  rw [this]; ring

theorem exp_lsn (z : ℝ) : -z - lae (-z) = lsn z := by rw [lae_neg, lsn]; ring

theorem exp_lsp (z : ℝ) : z - lae z = lsp z := by rw [lae_pos, lsn]; ring

/-- A real number is not different from itself. -/
theorem une_up (φ : FTy) (x : ℝ) : FloatOps.cmpf (F := Ideal) (φ := φ) .une ((x : ℝ) : EReal) ((x : ℝ) : EReal) = 0#1 := by
  simp [FloatOps.cmpf, Ideal.cmp]

theorem oeq_top (φ : FTy) (x : ℝ) : FloatOps.cmpf (F := Ideal) (φ := φ) .oeq ((x : ℝ) : EReal) (⊤ : EReal) = 0#1 := by
  simp [FloatOps.cmpf, Ideal.cmp]

theorem logadd_at (x : ℝ) : Ideal.log1p (Ideal.exp (-max ((x : ℝ) : EReal) (-((x : ℝ) : EReal)))) = ((Real.log (1 + Real.exp (-|x|)) : ℝ) : EReal) := by
  rw [← EReal.coe_neg, max_up, ← EReal.coe_neg, exp_up, Ideal.log1p, ← EReal.coe_one, ← EReal.coe_add, log_one_exp]
  rfl

/-- The array of zeros. -/
def zero3 : FVec Ideal S8x2048x2048 .f32 := broadcastInDim S8x2048x2048 ![] bcast_S_S8x2048x2048 (constant (F := Ideal) S_ .f32 0x00000000#32)

theorem zero3_ix3 (h : Fin 8) (t s : Fin 2048) : zero3 (ix3 h t s) = ((0 : ℝ) : EReal) := by
  unfold zero3
  pointwise []
  rfl

theorem logadd_up (x : ℕ → ℕ → ℕ → ℝ) :
    select (cmpf .une (subf (up3 x : FVec Ideal S8x2048x2048 .f32) zero3) (subf (up3 x) zero3)) (addf (up3 x : FVec Ideal S8x2048x2048 .f32) zero3)
        (addf (maximumf (up3 x : FVec Ideal S8x2048x2048 .f32) zero3) (Host.log1p (Host.exp (Host.negf (Host.absf (subf (up3 x : FVec Ideal S8x2048x2048 .f32) zero3))))))
      = (up3 (fun h t s => lae (x h t s)) : FVec Ideal S8x2048x2048 .f32) := by
  funext j
  idx_vars j
  pointwise [zero3_ix3]
  simp only [up3_ix3, ← EReal.coe_sub, sub_zero, ne_eq, not_true_eq_false, if_false, abs_up, ← EReal.coe_neg, exp_up, Ideal.log1p, ← EReal.coe_one, log_one_exp, max_up, ← EReal.coe_add, lae]

theorem neg_up3 (x : ℕ → ℕ → ℕ → ℝ) : Host.negf (F := Ideal) (φ := .f32) (up3 x : FVec Ideal S8x2048x2048 .f32) = (up3 (fun h t s => -x h t s) : FVec Ideal S8x2048x2048 .f32) := by
  funext j
  exact (EReal.coe_neg _).symm

/-- A selection by the mask. -/
theorem sel_up (x y : ℕ → ℕ → ℕ → ℝ) : select msk3 (up3 x : FVec Ideal S8x2048x2048 .f32) (up3 y) = (up3 (fun h t s => if s < t then x h t s else y h t s) : FVec Ideal S8x2048x2048 .f32) := by
  funext j
  idx_vars j
  pointwise []
  rw [msk3_ix3, up3_ix3, up3_ix3, up3_ix3, select_coe]

theorem zero3_up : zero3 = (up3 (fun _ _ _ => 0) : FVec Ideal S8x2048x2048 .f32) := by
  funext j
  idx_vars j
  rw [zero3_ix3, up3_ix3]

/-- The running sum along the last axis. -/
theorem cum_up (x : ℕ → ℕ → ℕ → ℝ) :
    Host.reduceWindowAdd (F := Ideal) (φ := .f32) ![1, 1, 2048] ![1, 1, 1] ![0, 0, 2047] ![0, 0, 0] (up3 x : FVec Ideal S8x2048x2048 .f32)
        (broadcastInDim S_ ![] bcast_S_S_ (constant (F := Ideal) S_ .f32 0x00000000#32)) reduceWindows_S8x2048x2048_S8x2048x2048_w1s1p0_0_w1s1p0_0_w2048s1p2047_0 h_S_
      = (up3 (fun h t s => ∑ y ∈ range (s + 1), x h t y) : FVec Ideal S8x2048x2048 .f32) := by
  have z : (broadcastInDim S_ ![] bcast_S_S_ (constant (F := Ideal) S_ .f32 0x00000000#32)) (Shape.Idx.first h_S_) = (0 : EReal) := by
    show Ideal.ofBits .f32 0x00000000#32 = 0
    exact Ideal.ofBits_zero_f32
  unfold Host.reduceWindowAdd
  rw [z]
  refine (window_last 2047 0 x _).trans (up3_congr fun h t s _ _ hs => ?_)
  exact window_prefix (N := 2048) (by decide) hs (fun y => x h t y)

theorem zero3_def : broadcastInDim S8x2048x2048 ![] bcast_S_S8x2048x2048 (constant (F := Ideal) S_ .f32 0x00000000#32) = zero3 := rfl
theorem zero3_id : broadcastInDim S8x2048x2048 ![] bcast_S_S8x2048x2048 (id (constant (F := Ideal) S_ .f32 0x00000000#32)) = zero3 := rfl

/-- The array of infinities. -/
def inf3 : FVec Ideal S8x2048x2048 .f32 := broadcastInDim S8x2048x2048 ![] bcast_S_S8x2048x2048 (constant (F := Ideal) S_ .f32 0x7F800000#32)

theorem inf3_def : broadcastInDim S8x2048x2048 ![] bcast_S_S8x2048x2048 (constant (F := Ideal) S_ .f32 0x7F800000#32) = inf3 := rfl

theorem inf3_ix3 (h : Fin 8) (t s : Fin 2048) : inf3 (ix3 h t s) = (⊤ : EReal) := by
  unfold inf3
  pointwise []
  exact inf_f32

theorem mul_up (x y : ℕ → ℕ → ℕ → ℝ) : mulf (F := Ideal) (φ := .f32) (up3 x : FVec Ideal S8x2048x2048 .f32) (up3 y) = (up3 (fun h t s => x h t s * y h t s) : FVec Ideal S8x2048x2048 .f32) := by
  funext j
  exact (EReal.coe_mul _ _).symm

theorem add_up (x y : ℕ → ℕ → ℕ → ℝ) : addf (F := Ideal) (φ := .f32) (up3 x : FVec Ideal S8x2048x2048 .f32) (up3 y) = (up3 (fun h t s => x h t s + y h t s) : FVec Ideal S8x2048x2048 .f32) := by
  funext j
  exact (EReal.coe_add _ _).symm

/-- The exponential of a sum with what the running sum lacks of the whole. -/
theorem wexp_up (a c : ℕ → ℕ → ℕ → ℝ) :
    Host.exp (F := Ideal) (φ := .f32) (addf (F := Ideal) (φ := .f32) (up3 a : FVec Ideal S8x2048x2048 .f32) (subf (F := Ideal) (φ := .f32) (broadcastInDim S8x2048x2048 ![0, 1, 2] bcast_S8x2048x1_S8x2048x2048_0_1_2 (extractStridedSlice S8x2048x1 ![0, 0, 2047] (up3 c : FVec Ideal S8x2048x2048 .f32) slices_S8x2048x2048_S8x2048x1_0_0_2047)) (up3 c)))
      = (up3 (fun h t s => Real.exp (a h t s + (c h t 2047 - c h t s))) : FVec Ideal S8x2048x2048 .f32) := by
  funext j
  idx_vars j
  pointwise []
  simp only [up3_ix3, ← EReal.coe_sub, ← EReal.coe_add, exp_up]
  rfl

/-- The exponential of a difference, infinities set to zero: the operands are real. -/
theorem ediff_up (a l : ℕ → ℕ → ℕ → ℝ) :
    Host.exp (F := Ideal) (φ := .f32) (subf (F := Ideal) (φ := .f32) (select (cmpf (F := Ideal) (φ := .f32) .oeq (up3 a : FVec Ideal S8x2048x2048 .f32) inf3) zero3 (up3 a : FVec Ideal S8x2048x2048 .f32)) (select (cmpf (F := Ideal) (φ := .f32) .oeq (up3 l : FVec Ideal S8x2048x2048 .f32) inf3) zero3 (up3 l : FVec Ideal S8x2048x2048 .f32)))
      = (up3 (fun h t s => Real.exp (a h t s - l h t s)) : FVec Ideal S8x2048x2048 .f32) := by
  funext j
  idx_vars j
  pointwise [zero3_ix3, inf3_ix3]
  simp only [up3_ix3, EReal.coe_ne_top, if_false, ← EReal.coe_sub, exp_up]

/-- A row's sum, put at the row's last position. -/
theorem pad_up (x : ℕ → ℕ → ℕ → ℝ) :
    pad S8x2048x2048 ![0, 0, 2047] ![0, 0, 0] ![0, 0, 0] (shapeCast S8x2048x1 (Host.reduceAdd (F := Ideal) (φ := .f32) (up3 x : FVec Ideal S8x2048x2048 .f32) (constant (F := Ideal) S_ .f32 0x00000000#32) reducesTo_S8x2048x2048_S8x2048_d2 h_S_) shapeCasts_S8x2048_S8x2048x1) (constant (F := Ideal) S_ .f32 0x00000000#32) pads_S8x2048x1_S8x2048x2048_000_000_204700 h_S_
      = (up3 (fun h t s => if 2047 ≤ s then ∑ y ∈ range 2048, x h t y else 0) : FVec Ideal S8x2048x2048 .f32) := by
  funext j
  idx_vars j
  pointwise []
  rw [up3_ix3]
  by_cases h : 2047 ≤ j2.val
  · rw [dif_pos ⟨h, by omega⟩, if_pos h]
    simp only [up3_ix3]
    exact coe_sum_fin 2048 (fun y => x j0.val j1.val y)
  · rw [dif_neg fun hh => h hh.1, if_neg h]
    rfl

/-- The running sum from the end along the last axis. -/
theorem rev_up (x : ℕ → ℕ → ℕ → ℝ) :
    Host.reduceWindowAdd (F := Ideal) (φ := .f32) ![1, 1, 2048] ![1, 1, 1] ![0, 0, 0] ![0, 0, 2047] (up3 x : FVec Ideal S8x2048x2048 .f32)
        (broadcastInDim S_ ![] bcast_S_S_ (constant (F := Ideal) S_ .f32 0x00000000#32)) reduceWindows_S8x2048x2048_S8x2048x2048_w1s1p0_0_w1s1p0_0_w2048s1p0_2047 h_S_
      = (up3 (fun h t s => ∑ y ∈ Ico s 2048, x h t y) : FVec Ideal S8x2048x2048 .f32) := by
  have z : (broadcastInDim S_ ![] bcast_S_S_ (constant (F := Ideal) S_ .f32 0x00000000#32)) (Shape.Idx.first h_S_) = (0 : EReal) := by
    show Ideal.ofBits .f32 0x00000000#32 = 0
    exact Ideal.ofBits_zero_f32
  unfold Host.reduceWindowAdd
  rw [z]
  refine (window_last 0 2047 x _).trans (up3_congr fun h t s _ _ hs => ?_)
  exact window_suffix (N := 2048) hs (fun y => x h t y)

theorem sum_before (f : ℕ → ℝ) {a t : ℕ} (ha : a ≤ t) (ht : t ≤ 2048) : ∑ y ∈ Ico a 2048, (if y < t then f y else 0) = ∑ y ∈ Ico a t, f y := by
  rw [← sum_filter]
  refine sum_congr (ext fun y => ?_) fun _ _ => rfl
  simp only [mem_filter, mem_Ico]
  omega

/-- The whole masked sum without the running sum is the sum over the keys in between. -/
theorem weight_tail (z : ℕ → ℝ) {t s : ℕ} (hs : s < t) (ht : t ≤ 2048) :
    Real.exp (lsp (z s) + ((∑ y ∈ range 2048, if y < t then lsn (z y) else 0) - ∑ y ∈ range (s + 1), if y < t then lsn (z y) else 0)) = Aw z t s := by
  rw [Aw, ← sum_range_add_sum_Ico _ (show s + 1 ≤ 2048 by omega), add_sub_cancel_left, sum_before (fun y => lsn (z y)) (by omega) ht]

/-- The gradient of a logit, through the running sum and the two logarithms. -/
theorem logit_tail (z e : ℕ → ℝ) {t s : ℕ} (hs : s < 2048) :
    (-(-(if s < t then Aw z t s * e s else 0) * Real.exp (-z s - -lsp (z s)))
      + - -(-(if s < t then ∑ y ∈ Ico s 2048, (-(if y < t then Aw z t y * e y else 0) + if 2047 ≤ y then ∑ x ∈ range 2048, (if x < t then Aw z t x * e x else 0) else 0) else 0)
        * Real.exp (z s - -lsn (z s)))) = if s < t then Dz z e t s else 0 := by
  split
  · next h =>
    have h1 : ∑ y ∈ Ico s 2048, (if 2047 ≤ y then ∑ x ∈ range 2048, (if x < t then Aw z t x * e x else 0) else 0) = ∑ x ∈ range 2048, (if x < t then Aw z t x * e x else 0) := by
      rw [← sum_filter, show (Ico s 2048).filter (fun y => 2047 ≤ y) = {2047} by ext y; simp only [mem_filter, mem_Ico, mem_singleton]; omega, sum_singleton]
    have h2 : ∑ x ∈ range s, (if x < t then Aw z t x * e x else 0) = ∑ x ∈ range s, Aw z t x * e x :=
      sum_congr rfl fun x hx => if_pos (lt_trans (mem_range.mp hx) h)
    rw [sum_add_distrib, h1, sum_neg_distrib, ← sum_range_add_sum_Ico _ hs.le, h2, Dz, show -z s - -lsp (z s) = lsn (z s) by rw [lsn]; ring,
      show z s - -lsn (z s) = lsp (z s) by rw [lsn]; ring]
    ring
  · ring

variable (V : Valuation τ sig (Elt Ideal)) (q k v g : ℕ → ℕ → ℝ)

section
variable (h0 : V (Proc.devRef .tc main_arg0) = (up q : FVec Ideal S2048x512 .f32)) (h1 : V (Proc.devRef .tc main_arg1) = (up k : FVec Ideal S2048x512 .f32))
include h0 h1

theorem res_c0 : res_main_call0_v0 V = (up3 (zh (scl q) k) : FVec Ideal S8x2048x2048 .f32) := by
  unfold res_main_call0_v0
  rw [res_v6 V q k h0 h1]
  refine (congrArg (Host.negf (F := Ideal) (φ := .f32)) (neg_up3 _)).trans ((neg_up3 _).trans (up3_congr fun h t s _ _ _ => neg_neg _))

theorem res_c3 : res_main_call3_v0 V = (up3 (fun h t s => -zh (scl q) k h t s) : FVec Ideal S8x2048x2048 .f32) := by
  unfold res_main_call3_v0
  rw [res_v6 V q k h0 h1]
  exact neg_up3 _

theorem res_l0 : res_main_call0_v1_0 V = (up3 (fun h t s => -lsn (zh (scl q) k h t s)) : FVec Ideal S8x2048x2048 .f32) := by
  unfold res_main_call0_v1_0 res_main_call0_call0_v3 res_main_call0_call0_cst
  rw [res_c0 V q k h0 h1]
  exact (logadd_up _).trans (up3_congr fun h t s _ _ _ => lae_pos _)

theorem res_l3 : res_main_call3_v1_0 V = (up3 (fun h t s => -lsp (zh (scl q) k h t s)) : FVec Ideal S8x2048x2048 .f32) := by
  unfold res_main_call3_v1_0 res_main_call3_call0_v3 res_main_call3_call0_cst
  rw [res_c3 V q k h0 h1]
  exact (logadd_up _).trans (up3_congr fun h t s _ _ _ => lae_neg _)

/-- The running sum of the masked logarithms. -/
theorem res_v16 : res_main_v16 V = (up3 (fun h t s => ∑ y ∈ range (s + 1), if y < t then lsn (zh (scl q) k h t y) else 0) : FVec Ideal S8x2048x2048 .f32) := by
  unfold res_main_v16
  rw [res_v15, res_l0 V q k h0 h1]
  have e : select msk3 (Host.negf (up3 (fun h t s => -lsn (zh (scl q) k h t s)) : FVec Ideal S8x2048x2048 .f32)) zero3
      = (up3 (fun h t s => if s < t then lsn (zh (scl q) k h t s) else 0) : FVec Ideal S8x2048x2048 .f32) := by
    rw [neg_up3, zero3_up, sel_up]
    simp only [neg_neg]
  clean_types
  rw [zero3_id]
  rw [e, cum_up]

theorem res_v22 : res_main_v22 V = (up3 (fun h t s => Real.exp (lsp (zh (scl q) k h t s) +
    ((∑ y ∈ range 2048, if y < t then lsn (zh (scl q) k h t y) else 0) - ∑ y ∈ range (s + 1), if y < t then lsn (zh (scl q) k h t y) else 0))) :
    FVec Ideal S8x2048x2048 .f32) := by
  unfold res_main_v22
  rw [res_v16 V q k h0 h1, res_l3 V q k h0 h1]
  clean_types
  rw [neg_up3, wexp_up]
  simp only [neg_neg, Nat.reduceAdd]

/-- The weights. -/
theorem res_v23 : res_main_v23_0 V = (up3 (fun h t s => if s < t then Aw (zh (scl q) k h t) t s else 0) : FVec Ideal S8x2048x2048 .f32) := by
  unfold res_main_v23_0
  rw [res_v23m, res_v22 V q k h0 h1]
  clean_types
  rw [zero3_id, zero3_up, sel_up]
  refine up3_congr fun h t s _ ht _ => ?_
  split
  · next hs => rw [weight_tail _ hs (by omega)]
  · rfl

/-- The gradients of the weights times the weights. -/
theorem res_v37 (h2 : V (Proc.devRef .tc main_arg2) = (up v : FVec Ideal S2048x512 .f32)) (h3 : V (Proc.devRef .tc main_arg3) = (up g : FVec Ideal S2048x512 .f32)) :
    res_main_v37 V = (up3 (fun h t s => if s < t then Aw (zh (scl q) k h t) t s * zh g v h t s else 0) : FVec Ideal S8x2048x2048 .f32) := by
  unfold res_main_v37
  rw [res_v23m, res_v22 V q k h0 h1, res_v30 V g h3, res_v25 V v h2]
  clean_types
  rw [zero3_def, zero3_up, dot_up, sel_up, mul_up]
  refine up3_congr fun h t s _ ht _ => ?_
  split
  · next hs => rw [weight_tail _ hs (by omega), mul_comm]; rfl
  · rw [zero_mul]

/-- The gradients of the logits. -/
theorem res_v50 (h2 : V (Proc.devRef .tc main_arg2) = (up v : FVec Ideal S2048x512 .f32)) (h3 : V (Proc.devRef .tc main_arg3) = (up g : FVec Ideal S2048x512 .f32)) :
    res_main_v50 V = (up3 (fun h t s => (if s < t then dzh (scl q) k v g h t s else 0) * 0.125) : FVec Ideal S8x2048x2048 .f32) := by
  unfold res_main_v50
  rw [res_v15, res_v37 V q k v g h0 h1 h2 h3, res_c0 V q k h0 h1, res_c3 V q k h0 h1, res_l0 V q k h0 h1, res_l3 V q k h0 h1]
  clean_types
  rw [zero3_def, inf3_def]
  rw [ediff_up, ediff_up, pad_up]
  simp only [neg_up3, add_up, zero3_up, mul_up]
  rw [rev_up, sel_up]
  simp only [neg_up3, add_up, mul_up]
  rw [scale_up]
  refine up3_congr fun h t s _ ht hs => ?_
  rw [logit_tail (zh (scl q) k h t) (zh g v h t) hs]
  rfl

end

end Cert.Attn
-- ==== Proof.RefResults.lean ====
/-
  The reference's four results as real arrays.
-/
module
public import proofs.«01_k».proof.Proof.RefWeights
@[expose] public section
noncomputable section
namespace Cert.Attn
open Finset Idealize.ShloMosaic Idealize.ShloMosaic.TcCoe Idealize.SL.Sem Cert.ReferenceIdeal Cert.ReferenceIdeal.Gen Cert.ReferenceIdeal.Value

/-- The heads side by side. -/
theorem unheads_up (x : ℕ → ℕ → ℕ → ℝ) :
    shapeCast S2048x512 (transpose S2048x8x64 [1, 0, 2] (up3 x : FVec Ideal S8x2048x64 .f32) transposes_S8x2048x64_S2048x8x64_1_0_2) shapeCasts_S2048x8x64_S2048x512
      = (up (fun t l => x (l / 64) t (l % 64)) : FVec Ideal S2048x512 .f32) := by
  funext j
  idx_vars j
  pointwise []
  rw [up_ix2, up3_ix3]

/-- Weights times rows, summed over the keys. -/
theorem dotW_up (w x : ℕ → ℕ → ℕ → ℝ) :
    Host.dotGeneral (F := Ideal) (φ₁ := .f32) (φ₂ := .f32) dot_S8x2048x2048_S8x2048x64_S8x2048x64_2_1_1_2_0_0 none (up3 w : FVec Ideal S8x2048x2048 .f32) (up3 x : FVec Ideal S8x2048x64 .f32)
      = (up3 (fun h t d => ∑ s ∈ range 2048, w h t s * x h s d) : FVec Ideal S8x2048x64 .f32) := by
  funext j
  idx_vars j
  pointwise []
  simp only [up3_ix3, ← EReal.coe_mul, coe_sum, Finset.sum_range]

/-- Weights times rows, summed over the queries. -/
theorem dotT_up (w x : ℕ → ℕ → ℕ → ℝ) :
    Host.dotGeneral (F := Ideal) (φ₁ := .f32) (φ₂ := .f32) dot_S8x2048x2048_S8x2048x64_S8x2048x64_1_1_2_2_0_0 none (up3 w : FVec Ideal S8x2048x2048 .f32) (up3 x : FVec Ideal S8x2048x64 .f32)
      = (up3 (fun h s d => ∑ t ∈ range 2048, w h t s * x h t d) : FVec Ideal S8x2048x64 .f32) := by
  funext j
  idx_vars j
  pointwise []
  simp only [up3_ix3, ← EReal.coe_mul, coe_sum, Finset.sum_range]

/-- Rows times weights, summed over the queries. -/
theorem dotV_up (x w : ℕ → ℕ → ℕ → ℝ) :
    transpose S8x2048x64 [0, 2, 1] (Host.dotGeneral (F := Ideal) (φ₁ := .f32) (φ₂ := .f32) dot_S8x2048x64_S8x2048x2048_S8x64x2048_1_1_2_2_0_0 none (up3 x : FVec Ideal S8x2048x64 .f32) (up3 w : FVec Ideal S8x2048x2048 .f32)) transposes_S8x64x2048_S8x2048x64_0_2_1
      = (up3 (fun h s d => ∑ t ∈ range 2048, x h t d * w h t s) : FVec Ideal S8x2048x64 .f32) := by
  funext j
  idx_vars j
  pointwise []
  simp only [up3_ix3, ← EReal.coe_mul, coe_sum, Finset.sum_range]

theorem mul8_up (x : ℕ → ℕ → ℝ) :
    mulf (F := Ideal) (φ := .f32) (up x : FVec Ideal S2048x512 .f32) (broadcastInDim S2048x512 ![] bcast_S_S2048x512 (constant (F := Ideal) S_ .f32 0x41000000#32))
      = (up (fun t l => x t l * 8) : FVec Ideal S2048x512 .f32) := by
  funext j
  idx_vars j
  pointwise []
  rw [up_ix2, up_ix2, eight_f32, ← EReal.coe_mul]

theorem trunc_up (x : ℕ → ℕ → ℝ) : truncf (F := Ideal) (φ := .f32) .bf16 (up x : FVec Ideal S2048x512 .f32) bitsLt_bf16_f32 = (up x : FVec Ideal S2048x512 .bf16) := rfl

theorem sum_masked (f : ℕ → ℝ) {t : ℕ} (ht : t ≤ 2048) : ∑ s ∈ range 2048, (if s < t then f s else 0) = ∑ s ∈ Ico 0 t, f s := by
  rw [range_eq_Ico]; exact sum_before f (Nat.zero_le t) ht

theorem lane (l : ℕ) : 64 * (l / 64) + l % 64 = l := Nat.div_add_mod l 64

variable (V : Valuation τ sig (Elt Ideal)) (q k v g : ℕ → ℕ → ℝ)
  (h0 : V (Proc.devRef .tc main_arg0) = (up q : FVec Ideal S2048x512 .f32)) (h1 : V (Proc.devRef .tc main_arg1) = (up k : FVec Ideal S2048x512 .f32))
  (h2 : V (Proc.devRef .tc main_arg2) = (up v : FVec Ideal S2048x512 .f32)) (h3 : V (Proc.devRef .tc main_arg3) = (up g : FVec Ideal S2048x512 .f32))
include h0 h1 h2 h3

/-- The output. -/
theorem ref_o : truncf (F := Ideal) (φ := .f32) .bf16 (shapeCast _ (transpose S2048x8x64 [1, 0, 2] (Host.dotGeneral (F := Ideal) (φ₁ := .f32) (φ₂ := .f32) dot_S8x2048x2048_S8x2048x64_S8x2048x64_2_1_1_2_0_0 none (res_main_v23_0 V) (res_main_v25 V)) transposes_S8x2048x64_S2048x8x64_1_0_2) shapeCasts_S2048x8x64_S2048x512) bitsLt_bf16_f32
    = (up (specO (scl q) k v) : FVec Ideal S2048x512 .bf16) := by
  rw [res_v23 V q k h0 h1, res_v25 V v h2]
  clean_types
  rw [dotW_up, unheads_up, trunc_up]
  refine up_congr fun t l ht _ => ?_
  rw [specO, ← sum_masked _ ht.le]
  refine sum_congr rfl fun s _ => ?_
  rw [ite_mul, zero_mul, hd, lane]

/-- The gradient of the queries. -/
theorem ref_dq : mulf (F := Ideal) (φ := .f32) (shapeCast _ (transpose S2048x8x64 [1, 0, 2] (Host.dotGeneral (F := Ideal) (φ₁ := .f32) (φ₂ := .f32) dot_S8x2048x2048_S8x2048x64_S8x2048x64_2_1_1_2_0_0 none (res_main_v50 V) (res_main_v3 V)) transposes_S8x2048x64_S2048x8x64_1_0_2) shapeCasts_S2048x8x64_S2048x512) (broadcastInDim S2048x512 ![] bcast_S_S2048x512 (constant S_ .f32 0x41000000#32))
    = (up (specDq (scl q) k v g) : FVec Ideal S2048x512 .f32) := by
  rw [res_v50 V q k v g h0 h1 h2 h3, res_v3 V k h1]
  clean_types
  rw [dotW_up, unheads_up, mul8_up]
  refine up_congr fun t l ht _ => ?_
  rw [specDq, ← sum_masked _ ht.le, sum_mul]
  refine sum_congr rfl fun s _ => ?_
  rw [hd, lane]
  split <;> ring

/-- The gradient of the keys. -/
theorem ref_dk : shapeCast _ (transpose S2048x8x64 [1, 0, 2] (Host.dotGeneral (F := Ideal) (φ₁ := .f32) (φ₂ := .f32) dot_S8x2048x2048_S8x2048x64_S8x2048x64_1_1_2_2_0_0 none (res_main_v50 V) (res_main_v1 V)) transposes_S8x2048x64_S2048x8x64_1_0_2) shapeCasts_S2048x8x64_S2048x512
    = (up (specDk (scl q) k v g 2048) : FVec Ideal S2048x512 .f32) := by
  rw [res_v50 V q k v g h0 h1 h2 h3, res_v1 V q h0]
  clean_types
  rw [dotT_up, unheads_up]
  refine up_congr fun s l _ _ => ?_
  rw [specDk]
  refine sum_congr rfl fun t _ => ?_
  rw [hd, lane, scl]
  split <;> ring

/-- The gradient of the values. -/
theorem ref_dv : shapeCast _ (transpose S2048x8x64 [1, 0, 2] (transpose S8x2048x64 [0, 2, 1] (Host.dotGeneral (F := Ideal) (φ₁ := .f32) (φ₂ := .f32) dot_S8x2048x64_S8x2048x2048_S8x64x2048_1_1_2_2_0_0 none (res_main_v30 V) (res_main_v23_0 V)) transposes_S8x64x2048_S8x2048x64_0_2_1) transposes_S8x2048x64_S2048x8x64_1_0_2) shapeCasts_S2048x8x64_S2048x512
    = (up (specDv (scl q) k g 2048) : FVec Ideal S2048x512 .f32) := by
  rw [res_v30 V g h3, res_v23 V q k h0 h1]
  clean_types
  rw [dotV_up, unheads_up]
  refine up_congr fun s l _ _ => ?_
  rw [specDv]
  refine sum_congr rfl fun t _ => ?_
  rw [hd, lane]
  split <;> ring

end Cert.Attn
-- ==== Proof.Finite.lean ====
/-
  The precondition: every entry of an operand is a real number.
-/
module
public import proofs.«01_k».proof.Proof.RefLogits
public import proofs.«01_k».proof.Pre_finite
@[expose] public section
noncomputable section
namespace Cert.Attn
open Idealize.ShloMosaic

/-- The real entries of an array, `0 ≤ t < 2048`, `0 ≤ l < 512`. -/
def vals (x : Shape.Idx ⟨2, ![2048, 512]⟩ → EReal) (t l : ℕ) : ℝ := (x (ix2 (Fin.ofNat 2048 t) (Fin.ofNat 512 l))).toReal

/-- An extended real below infinity in absolute value is a real number. -/
theorem coe_toReal_of_abs {x : EReal} (h : max x (-x) < ⊤) : ((x.toReal : ℝ) : EReal) = x := by
  refine EReal.coe_toReal ?_ ?_
  · rintro rfl
    simp at h
  · rintro rfl
    simp at h

/-- An array whose entries are below infinity in absolute value is the array of its real entries. -/
theorem eq_up_of_finite [Cert.Pre_finite.Facts] (x : FVec Ideal Cert.Pre_finite.S2048x512 .f32)
    (h : cmpf (F := Ideal) (φ := .f32) .olt (Host.absf (F := Ideal) (φ := .f32) x)
      (broadcastInDim Cert.Pre_finite.S2048x512 ![] Cert.Pre_finite.Facts.bcast_S_S2048x512 (constant (F := Ideal) Cert.Pre_finite.S_ .f32 0x7F800000#32)) = fun _ => 1#1) :
    x = (up (vals x) : FVec Ideal Cert.Pre_finite.S2048x512 .f32) := by
  funext j
  idx_vars j
  have e := congrFun h (ix2 j0 j1)
  pointwise [] at e
  rw [inf_f32] at e
  rw [up_ix2, vals, Fin.ofNat_val_eq_self, Fin.ofNat_val_eq_self]
  refine (coe_toReal_of_abs ?_).symm
  have e2 : decide (max (x (ix2 j0 j1)) (-x (ix2 j0 j1)) < ⊤) = true := by
    revert e
    show BitVec.ofBool (decide (max (x (ix2 j0 j1)) (-x (ix2 j0 j1)) < ⊤)) = 1#1 → _
    cases decide (max (x (ix2 j0 j1)) (-x (ix2 j0 j1)) < ⊤) <;> simp
  exact of_decide_eq_true e2

end Cert.Attn
-- ==== Proof.InRegions.lean ====
/-
  The three calls of the input projection: the arrays that they leave are the products of the arrays that they read.
-/
module
public import proofs.«01_k».proof.Proof.Dense
public import proofs.«01_k».proof.Proof.Gen.InProjIdeal.Frame
@[expose] public section
set_option maxRecDepth 16384
noncomputable section
namespace Cert.Dense.In
open Idealize.ShloMosaic Idealize.ShloMosaic.TcCoe Idealize.SL.Sem Cert.InProjIdeal Cert.InProjIdeal.Gen
open Idealize.ShloMosaic.Pipeline (Dat)

theorem pay0 (x : Vec Ideal S1024x1024 .bf16) (y : Vec Ideal S1664x1024 .bf16) : k0_pay1 (F := Ideal) x y = prodNT x y := by
  funext j
  idx_vars j
  pointwise [k0_pay1]
  rfl

theorem pay1 (x : Vec Ideal S2048x1664 .bf16) (y : Vec Ideal S2048x512 .bf16) : k1_pay1 (F := Ideal) x y = prodTN x y := by
  funext j
  idx_vars j
  pointwise [k1_pay1]
  rfl

theorem pay2 (x : Vec Ideal S256x6656 .bf16) (y : Vec Ideal S6656x1024 .bf16) : k2_pay1 (F := Ideal) x y = prodNN x y := by
  funext j
  idx_vars j
  pointwise [k2_pay1]
  rfl

variable (V : (c : Dev nD) → (b : Ref sig .tc) → Buf (Elt Ideal) ((c : Thread nD τ).loc b)) (c : Dev nD)

theorem index0_0 : ∀ t : Fin cfg0.N, win0_0.index t 0 = t.val / 4 ∧ win0_0.index t 1 = 0 := by decide +kernel
theorem index0_1 : ∀ t : Fin cfg0.N, win0_1.index t 0 = t.val % 4 ∧ win0_1.index t 1 = 0 := by decide +kernel
theorem index0_2 : ∀ t : Fin cfg0.N, win0_2.index t 0 = t.val / 4 ∧ win0_2.index t 1 = t.val % 4 := by decide +kernel
theorem index1_0 : ∀ t : Fin cfg1.N, win1_0.index t 0 = 0 ∧ win1_0.index t 1 = t.val % 4 := by decide +kernel
theorem index1_1 : ∀ t : Fin cfg1.N, win1_1.index t 0 = 0 ∧ win1_1.index t 1 = t.val / 4 := by decide +kernel
theorem index1_2 : ∀ t : Fin cfg1.N, win1_2.index t 0 = t.val % 4 ∧ win1_2.index t 1 = t.val / 4 := by decide +kernel
theorem index2_0 : ∀ t : Fin cfg2.N, win2_0.index t 0 = t.val ∧ win2_0.index t 1 = 0 := by decide +kernel
theorem index2_1 : ∀ t : Fin cfg2.N, win2_1.index t 0 = 0 ∧ win2_1.index t 1 = 0 := by decide +kernel
theorem index2_2 : ∀ t : Fin cfg2.N, win2_2.index t 0 = t.val ∧ win2_2.index t 1 = 0 := by decide +kernel

theorem hz : (![0, 0] : Fin 2 → ℕ) = fun _ => 0 := by decide

/-- The forward product. -/
theorem final0 (A : Shape.Idx S2048x1024 → EReal) (B : Shape.Idx S6656x1024 → EReal) (hA : V c (Pipeline.arrRef spec0 0) = A) (hB : V c (Pipeline.arrRef spec0 1) = B) :
    (dat0 V c).arrAt 2 cfg0.N = (prodNT A B : Shape.Idx S2048x6656 → EReal) := by
  refine (dat0 V c).arrAt_eq_of_cover 2 (prodNT A B : Shape.Idx S2048x6656 → EReal) (fun t _ => ?_) (fun i => ?_)
  · show (cfg0.win 2).cut (grid0.coords t) ((dat0 V c).after 2 t) = _
    rw [after0_2]
    unfold out0_2
    rw [View.canon_unit_zero hz, View.ld_unit_zero (S := S1024x1024) hz, View.ld_unit_zero (S := S1664x1024) hz, pay0]
    funext j
    rw [View.read_apply]
    refine prodNT_entry (fun k => ?_) (fun k => ?_) <;> unfold iblk0 <;> rw [View.read_apply]
    · rw [hA]
      refine congrArg A (idx2_eq _ _ ?_ ?_)
      · show win0_0.index t 0 * 1024 + 1 * (j 0).val = win0_2.index t 0 * 1024 + 1 * (j 0).val
        rw [(index0_0 t).1, (index0_2 t).1]
      · show win0_0.index t 1 * 1024 + 1 * k.val = k.val
        rw [(index0_0 t).2]; omega
    · rw [hB]
      refine congrArg B (idx2_eq _ _ ?_ ?_)
      · show win0_1.index t 0 * 1664 + 1 * (j 1).val = win0_2.index t 1 * 1664 + 1 * (j 1).val
        rw [(index0_1 t).1, (index0_2 t).2]
      · show win0_1.index t 1 * 1024 + 1 * k.val = k.val
        rw [(index0_1 t).2]; omega
  · have hi0 : (i 0 : Nat) < 2048 := (i 0).isLt
    have hi1 : (i 1 : Nat) < 6656 := (i 1).isLt
    have hN : cfg0.N = 8 := N_0
    refine ⟨⟨4 * ((i 0 : Nat) / 1024) + (i 1 : Nat) / 1664, by omega⟩, flush0_2 _, ?_⟩
    rw [View.set_slice_whole, Rect.mem_set_unit]
    refine forall_two ?_ ?_
    · show win0_2.index _ 0 * 1024 ≤ (i 0).val ∧ (i 0).val < win0_2.index _ 0 * 1024 + 1024
      rw [(index0_2 _).1]; dsimp only; omega
    · show win0_2.index _ 1 * 1664 ≤ (i 1).val ∧ (i 1).val < win0_2.index _ 1 * 1664 + 1664
      rw [(index0_2 _).2]; dsimp only; omega

/-- The gradient at the weights. -/
theorem final1 (A : Shape.Idx S2048x6656 → EReal) (B : Shape.Idx S2048x1024 → EReal) (hA : V c (Pipeline.arrRef spec1 0) = A) (hB : V c (Pipeline.arrRef spec1 1) = B) :
    (dat1 V c).arrAt 2 cfg1.N = (prodTN A B : Shape.Idx S6656x1024 → EReal) := by
  refine (dat1 V c).arrAt_eq_of_cover 2 (prodTN A B : Shape.Idx S6656x1024 → EReal) (fun t _ => ?_) (fun i => ?_)
  · show (cfg1.win 2).cut (grid1.coords t) ((dat1 V c).after 2 t) = _
    rw [after1_2]
    unfold out1_2
    rw [View.canon_unit_zero hz, View.ld_unit_zero (S := S2048x1664) hz, View.ld_unit_zero (S := S2048x512) hz, pay1]
    funext j
    rw [View.read_apply]
    refine prodTN_entry (fun k => ?_) (fun k => ?_) <;> unfold iblk1 <;> rw [View.read_apply]
    · rw [hA]
      refine congrArg A (idx2_eq _ _ ?_ ?_)
      · show win1_0.index t 0 * 2048 + 1 * k.val = k.val
        rw [(index1_0 t).1]; omega
      · show win1_0.index t 1 * 1664 + 1 * (j 0).val = win1_2.index t 0 * 1664 + 1 * (j 0).val
        rw [(index1_0 t).2, (index1_2 t).1]
    · rw [hB]
      refine congrArg B (idx2_eq _ _ ?_ ?_)
      · show win1_1.index t 0 * 2048 + 1 * k.val = k.val
        rw [(index1_1 t).1]; omega
      · show win1_1.index t 1 * 512 + 1 * (j 1).val = win1_2.index t 1 * 512 + 1 * (j 1).val
        rw [(index1_1 t).2, (index1_2 t).2]
  · have hi0 : (i 0 : Nat) < 6656 := (i 0).isLt
    have hi1 : (i 1 : Nat) < 1024 := (i 1).isLt
    have hN : cfg1.N = 8 := N_1
    refine ⟨⟨4 * ((i 1 : Nat) / 512) + (i 0 : Nat) / 1664, by omega⟩, flush1_2 _, ?_⟩
    rw [View.set_slice_whole, Rect.mem_set_unit]
    refine forall_two ?_ ?_
    · show win1_2.index _ 0 * 1664 ≤ (i 0).val ∧ (i 0).val < win1_2.index _ 0 * 1664 + 1664
      rw [(index1_2 _).1]; dsimp only; omega
    · show win1_2.index _ 1 * 512 ≤ (i 1).val ∧ (i 1).val < win1_2.index _ 1 * 512 + 512
      rw [(index1_2 _).2]; dsimp only; omega

/-- The gradient at the rows. -/
theorem final2 (A : Shape.Idx S2048x6656 → EReal) (B : Shape.Idx S6656x1024 → EReal) (hA : V c (Pipeline.arrRef spec2 0) = A) (hB : V c (Pipeline.arrRef spec2 1) = B) :
    (dat2 V c).arrAt 2 cfg2.N = (prodNN A B : Shape.Idx S2048x1024 → EReal) := by
  refine (dat2 V c).arrAt_eq_of_cover 2 (prodNN A B : Shape.Idx S2048x1024 → EReal) (fun t _ => ?_) (fun i => ?_)
  · show (cfg2.win 2).cut (grid2.coords t) ((dat2 V c).after 2 t) = _
    rw [after2_2]
    unfold out2_2
    rw [View.canon_unit_zero hz, View.ld_unit_zero (S := S256x6656) hz, View.ld_unit_zero (S := S6656x1024) hz, pay2]
    funext j
    rw [View.read_apply]
    refine prodNN_entry (fun k => ?_) (fun k => ?_) <;> unfold iblk2 <;> rw [View.read_apply]
    · rw [hA]
      refine congrArg A (idx2_eq _ _ ?_ ?_)
      · show win2_0.index t 0 * 256 + 1 * (j 0).val = win2_2.index t 0 * 256 + 1 * (j 0).val
        rw [(index2_0 t).1, (index2_2 t).1]
      · show win2_0.index t 1 * 6656 + 1 * k.val = k.val
        rw [(index2_0 t).2]; omega
    · rw [hB]
      refine congrArg B (idx2_eq _ _ ?_ ?_)
      · show win2_1.index t 0 * 6656 + 1 * k.val = k.val
        rw [(index2_1 t).1]; omega
      · show win2_1.index t 1 * 1024 + 1 * (j 1).val = win2_2.index t 1 * 1024 + 1 * (j 1).val
        rw [(index2_1 t).2, (index2_2 t).2]
  · have hi0 : (i 0 : Nat) < 2048 := (i 0).isLt
    have hi1 : (i 1 : Nat) < 1024 := (i 1).isLt
    have hN : cfg2.N = 8 := N_2
    refine ⟨⟨(i 0 : Nat) / 256, by omega⟩, flush2_2 _, ?_⟩
    rw [View.set_slice_whole, Rect.mem_set_unit]
    refine forall_two ?_ ?_
    · show win2_2.index _ 0 * 256 ≤ (i 0).val ∧ (i 0).val < win2_2.index _ 0 * 256 + 256
      rw [(index2_2 _).1]; dsimp only; omega
    · show win2_2.index _ 1 * 1024 ≤ (i 1).val ∧ (i 1).val < win2_2.index _ 1 * 1024 + 1024
      rw [(index2_2 _).2]; dsimp only; omega

end Cert.Dense.In
-- ==== Proof.InRun.lean ====
/-
  The input projection's run with its results, and what its reference computes.
-/
module
public import proofs.«01_k».proof.Proof.InRegions
public import proofs.«01_k».proof.Proof.Gen.InProjRefIdeal.Run
public import Idealize.ShloMosaic.Lib.Tactic.CleanTypes
@[expose] public section
set_option maxRecDepth 16384
noncomputable section
namespace Cert.Dense.In
open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-! ## The operands of the calls -/

variable (c : Dev nD) (h : Shape.Idx S2048x1024 → EReal) (w : Shape.Idx S1024x6656 → EReal) (dz : Shape.Idx S2048x6656 → EReal)
  (h0 : m ((c.tc : Thread nD τ).loc main_arg0) = h) (h1 : m ((c.tc : Thread nD τ).loc main_arg1) = w) (h2 : m ((c.tc : Thread nD τ).loc main_arg2) = dz)

/-- The transposed weights. -/
def wt (w : Shape.Idx S1024x6656 → EReal) : Shape.Idx S6656x1024 → EReal := fun j => w (ix2 (j 1) (j 0))

include h0 in
theorem W1_h : W1 m ρ c (Proc.devRef .tc main_v0) = h := by
  have e : W1 m ρ c (Proc.devRef .tc main_v0) = truncf (F := Ideal) (φ := .f32) .bf16 (m ((c.tc : Thread nD τ).loc main_arg0)) bitsLt_bf16_f32 := by
    unfold W1
    after_results
  rw [e, h0]
  rfl

include h1 in
theorem W1_w : W1 m ρ c (Proc.devRef .tc main_v2) = wt w := by
  have e : W1 m ρ c (Proc.devRef .tc main_v2)
      = truncf (F := Ideal) (φ := .f32) .bf16 (transpose S6656x1024 [1, 0] (m ((c.tc : Thread nD τ).loc main_arg1)) transposes_S1024x6656_S6656x1024_1_0) bitsLt_bf16_f32 := by
    unfold W1
    after_results
  rw [e, h1]
  funext j
  idx_vars j
  pointwise []
  rfl

include h2 in
theorem W1_dz : W1 m ρ c (Proc.devRef .tc main_v3) = dz := by
  have e : W1 m ρ c (Proc.devRef .tc main_v3) = truncf (F := Ideal) (φ := .f32) .bf16 (m ((c.tc : Thread nD τ).loc main_arg2)) bitsLt_bf16_f32 := by
    unfold W1
    after_results
  rw [e, h2]
  rfl

include h0 h1 in
/-- The first result: the product of the rows and the weights. -/
theorem W4_z : W4 m ρ c (Proc.devRef .tc main_v4) = (prodNN h w : Shape.Idx S2048x6656 → EReal) :=
  (W4_of m ρ c main_v4 (by decide)).trans ((W3_of m ρ c main_v4 (by decide)).trans ((W2_arr m ρ c 2).trans
    (final0 (V1 m ρ) c h (wt w) (W1_h m ρ c h h0) (W1_w m ρ c w h1))))

include h0 h2 in
/-- The second result: the gradient at the transposed weights. -/
theorem W4_dw : W4 m ρ c (Proc.devRef .tc main_v5) = (prodTN dz h : Shape.Idx S6656x1024 → EReal) :=
  (W4_of m ρ c main_v5 (by decide)).trans ((W3_arr m ρ c 2).trans (final1 (V2 m ρ) c dz h
    ((W2_of m ρ c main_v3 (by decide)).trans (W1_dz m ρ c dz h2)) ((W2_of m ρ c main_v0 (by decide)).trans (W1_h m ρ c h h0))))

include h1 h2 in
/-- The third result: the gradient at the rows. -/
theorem W4_dh : W4 m ρ c (Proc.devRef .tc main_v6) = (prodNT dz w : Shape.Idx S2048x1024 → EReal) :=
  (W4_arr m ρ c 2).trans (final2 (V3 m ρ) c dz (wt w)
    ((W3_of m ρ c main_v3 (by decide)).trans ((W2_of m ρ c main_v3 (by decide)).trans (W1_dz m ρ c dz h2)))
    ((W3_of m ρ c main_v2 (by decide)).trans ((W2_of m ρ c main_v2 (by decide)).trans (W1_w m ρ c w h1))))

end Cert.Dense.In

/-! ## The reference -/

namespace Cert.Dense.InRef
open Idealize.ShloMosaic Idealize.ShloMosaic.TcCoe Idealize.SL.Sem Cert.InProjRefIdeal Cert.InProjRefIdeal.Gen

theorem ref_z (h : FVec Ideal S2048x1024 .f32) (w : FVec Ideal S1024x6656 .f32) :
    truncf .bf16 (Host.dotGeneral dot_S2048x1024_S1024x6656_S2048x6656_1_0_0_1_n_n none h w) bitsLt_bf16_f32 = (prodNN h w : Shape.Idx S2048x6656 → EReal) := by
  funext j
  idx_vars j
  pointwise []
  rfl

theorem ref_dw (h : FVec Ideal S2048x1024 .f32) (dz : FVec Ideal S2048x6656 .f32) :
    truncf .bf16 (transpose S6656x1024 [1, 0] (transpose S1024x6656 [1, 0] (Host.dotGeneral dot_S2048x6656_S2048x1024_S6656x1024_0_0_1_1_n_n none dz h) transposes_S6656x1024_S1024x6656_1_0) transposes_S1024x6656_S6656x1024_1_0) bitsLt_bf16_f32
      = (prodTN dz h : Shape.Idx S6656x1024 → EReal) := by
  funext j
  idx_vars j
  pointwise []
  rfl

theorem ref_dh (w : FVec Ideal S1024x6656 .f32) (dz : FVec Ideal S2048x6656 .f32) :
    Host.dotGeneral dot_S2048x6656_S1024x6656_S2048x1024_1_1_0_0_n_n none dz w = (prodNT dz w : Shape.Idx S2048x1024 → EReal) := by
  funext j
  idx_vars j
  pointwise []
  rfl

end Cert.Dense.InRef
-- ==== Proof.OutRegions.lean ====
/-
  The eight calls of the output projections: the arrays that they leave are products of the arrays that they read.
-/
module
public import proofs.«01_k».proof.Proof.Dense
public import proofs.«01_k».proof.Proof.Gen.OutProjIdeal.Frame
public import Idealize.ShloMosaic.Lib.Pipeline.ValueKit
@[expose] public section
set_option maxRecDepth 16384
noncomputable section
namespace Cert.Dense.Out
open Idealize.ShloMosaic Idealize.ShloMosaic.TcCoe Idealize.SL.Sem Cert.OutProjIdeal Cert.OutProjIdeal.Gen
open Idealize.ShloMosaic.Pipeline (Dat)

/-! ## The products of the blocks -/

theorem branch (x : Vec Ideal S512x512 .bf16) (y : Vec Ideal S512x1024 .bf16) : k0_pay1 (F := Ideal) x y = prodNN x y := by
  funext j
  idx_vars j
  pointwise [k0_pay1]
  rfl

theorem project (x : Vec Ideal S256x1024 .bf16) (y : Vec Ideal S1024x1024 .bf16) (z : Vec Ideal S256x1024 .f32) :
    k1_pay1 (F := Ideal) x y z = fun j => prodNN x y j + z j := by
  funext j
  idx_vars j
  pointwise [k1_pay1]
  rfl

theorem weights (x : Vec Ideal S2048x1024 .bf16) (y : Vec Ideal S2048x512 .f32) : k2_pay1 (F := Ideal) x y = prodTN x y := by
  funext j
  idx_vars j
  pointwise [k2_pay1]
  rfl

theorem back (x : Vec Ideal S1024x1024 .f32) (y : Vec Ideal S1024x1024 .bf16) : k3_pay1 (F := Ideal) x y = prodNT x y := by
  funext j
  idx_vars j
  pointwise [k3_pay1]
  rfl

theorem branchBack (x : Vec Ideal S512x1024 .bf16) (y : Vec Ideal S512x1024 .bf16) : k4_pay1 (F := Ideal) x y = prodNT x y := by
  funext j
  idx_vars j
  pointwise [k4_pay1]
  rfl

theorem branchWeights (x : Vec Ideal S2048x512 .bf16) (y : Vec Ideal S2048x1024 .bf16) : k5_pay4 (F := Ideal) x y = prodTN x y := by
  funext j
  idx_vars j
  pointwise [k5_pay4]
  rfl

/-- An array of 1024 columns cut into eight slabs of 128. -/
def slabs (G : Shape.Idx S512x1024 → EReal) : Shape.Idx S8x512x128 → EReal :=
  fun i => G (ix2 (i 1) ⟨128 * (i 0).val + (i 2).val, by have h0 : (i 0 : ℕ) < 8 := (i 0).isLt; have h2 : (i 2 : ℕ) < 128 := (i 2).isLt; omega⟩)

/-- One slab, as it is cut out of the product. -/
theorem slab (G : FVec Ideal S512x1024 .f32) (o : ℕ) (hs : S512x1024.Slices ![0, o] S512x128) (x : Shape.Idx S1x512x128) (i : Shape.Idx S8x512x128)
    (h0 : o = 128 * (i 0 : ℕ)) (h1 : (i 1 : ℕ) = x 1) (h2 : (i 2 : ℕ) = x 2) :
    shapeCast S1x512x128 (truncf .bf16 (extractStridedSlice S512x128 ![0, o] G hs) bitsLt_bf16_f32 : FVec Ideal S512x128 .bf16) shapeCasts_S512x128_S1x512x128 x = slabs G i := by
  idx_vars x
  pointwise []
  refine congrArg G (idx2_eq _ _ ?_ ?_)
  · show _ = (i 1 : ℕ)
    rw [h1]
    pointwise []
  · show _ = 128 * (i 0 : ℕ) + (i 2 : ℕ)
    rw [h2, ← h0]
    pointwise []

variable (V : (c : Dev nD) → (b : Ref sig .tc) → Buf (Elt Ideal) ((c : Thread nD τ).loc b)) (c : Dev nD)

/-! ## The blocks' places in the arrays -/

theorem idx0 : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] := by decide +kernel
theorem idx1 : ∀ t : Fin cfg1.N, win1_0.index t = ![t.val, 0] ∧ win1_1.index t = ![0, 0] ∧ win1_2.index t = ![t.val, 0] ∧ win1_3.index t = ![t.val, 0] := by decide +kernel
theorem idx2 : ∀ t : Fin cfg2.N, win2_0.index t = ![0, 0] ∧ win2_1.index t = ![0, t.val] ∧ win2_2.index t = ![0, t.val] := by decide +kernel
theorem idx3 : ∀ t : Fin cfg3.N, win3_0.index t = ![t.val, 0] ∧ win3_1.index t = ![0, 0] ∧ win3_2.index t = ![t.val, 0] := by decide +kernel
theorem idx4 : ∀ t : Fin cfg4.N, win4_0.index t = ![t.val, 0] ∧ win4_1.index t = ![t.val, 0] ∧ win4_2.index t = ![t.val, 0] ∧ win4_3.index t = ![0, 0]
    ∧ win4_4.index t = ![0, 0] ∧ win4_5.index t = ![0, 0] ∧ win4_6.index t = ![t.val, 0] ∧ win4_7.index t = ![t.val, 0] ∧ win4_8.index t = ![t.val, 0] := by decide +kernel

/-! ## The branches' products -/

theorem ya : (dat0 V c).arrAt 6 cfg0.N = (prodNN (V c main_v0) (V c main_v3) : Shape.Idx S2048x1024 → EReal) := by
  refine (dat0 V c).arrAt_eq_of_covers 6 (prodNN (V c main_v0) (V c main_v3) : Shape.Idx S2048x1024 → EReal) (by decide +kernel) fun t _ j => ?_
  blk_simp
  rw [after0_6]
  frame_out
  rw [branch]
  refine prodNN_entry (fun k => ?_) (fun k => ?_) <;> blk_ext [iblk0, idx0 t]

theorem yb : (dat0 V c).arrAt 7 cfg0.N = (prodNN (V c main_v1) (V c main_v4) : Shape.Idx S2048x1024 → EReal) := by
  refine (dat0 V c).arrAt_eq_of_covers 7 (prodNN (V c main_v1) (V c main_v4) : Shape.Idx S2048x1024 → EReal) (by decide +kernel) fun t _ j => ?_
  blk_simp
  rw [after0_7]
  frame_out
  refine (congrFun (branch _ _) j).trans ?_
  refine prodNN_entry (fun k => ?_) (fun k => ?_) <;> blk_ext [iblk0, idx0 t]

theorem yc : (dat0 V c).arrAt 8 cfg0.N = (prodNN (V c main_v2) (V c main_v5) : Shape.Idx S2048x1024 → EReal) := by
  refine (dat0 V c).arrAt_eq_of_covers 8 (prodNN (V c main_v2) (V c main_v5) : Shape.Idx S2048x1024 → EReal) (by decide +kernel) fun t _ j => ?_
  blk_simp
  rw [after0_8]
  frame_out
  refine (congrFun (branch _ _) j).trans ?_
  refine prodNN_entry (fun k => ?_) (fun k => ?_) <;> blk_ext [iblk0, idx0 t]

/-! ## The last projection, and its gradients -/

theorem x1 : (dat1 V c).arrAt 3 cfg1.N = (fun i => prodNN (V c main_v9) (V c main_v10) i + V c main_arg0 i : Shape.Idx S2048x1024 → EReal) := by
  refine (dat1 V c).arrAt_eq_of_covers 3 (fun i => prodNN (V c main_v9) (V c main_v10) i + V c main_arg0 i : Shape.Idx S2048x1024 → EReal) (by decide +kernel) fun t _ j => ?_
  blk_simp
  rw [after1_3]
  frame_out
  rw [project]
  refine congrArg₂ (· + ·) (prodNN_entry (fun k => ?_) (fun k => ?_)) ?_ <;> blk_ext [iblk1, idx1 t]

theorem dw_out : (dat2 V c).arrAt 2 cfg2.N = (prodTN (V c main_v9) (V c main_arg9) : Shape.Idx S1024x1024 → EReal) := by
  refine (dat2 V c).arrAt_eq_of_covers 2 (prodTN (V c main_v9) (V c main_arg9) : Shape.Idx S1024x1024 → EReal) (by decide +kernel) fun t _ j => ?_
  blk_simp
  rw [after2_2]
  frame_out
  rw [weights]
  refine prodTN_entry (fun k => ?_) (fun k => ?_) <;> blk_ext [iblk2, idx2 t]

theorem dmerged : (dat3 V c).arrAt 2 cfg3.N = (prodNT (V c main_arg9) (V c main_v10) : Shape.Idx S2048x1024 → EReal) := by
  refine (dat3 V c).arrAt_eq_of_covers 2 (prodNT (V c main_arg9) (V c main_v10) : Shape.Idx S2048x1024 → EReal) (by decide +kernel) fun t _ j => ?_
  blk_simp
  rw [after3_2]
  frame_out
  rw [back]
  refine prodNT_entry (fun k => ?_) (fun k => ?_) <;> blk_ext [iblk3, idx3 t]

/-! ## The branches' gradients -/

theorem da : (dat4 V c).arrAt 6 cfg4.N = (prodNT (V c main_v6) (V c main_v3) : Shape.Idx S2048x512 → EReal) := by
  refine (dat4 V c).arrAt_eq_of_covers 6 (prodNT (V c main_v6) (V c main_v3) : Shape.Idx S2048x512 → EReal) (by decide +kernel) fun t _ j => ?_
  blk_simp
  rw [after4_6]
  frame_out
  rw [branchBack]
  refine prodNT_entry (fun k => ?_) (fun k => ?_) <;> blk_ext [iblk4, idx4 t]

theorem db : (dat4 V c).arrAt 7 cfg4.N = (prodNT (V c main_v7) (V c main_v4) : Shape.Idx S2048x512 → EReal) := by
  refine (dat4 V c).arrAt_eq_of_covers 7 (prodNT (V c main_v7) (V c main_v4) : Shape.Idx S2048x512 → EReal) (by decide +kernel) fun t _ j => ?_
  blk_simp
  rw [after4_7]
  frame_out
  refine (congrFun (branchBack _ _) j).trans ?_
  refine prodNT_entry (fun k => ?_) (fun k => ?_) <;> blk_ext [iblk4, idx4 t]

theorem dc : (dat4 V c).arrAt 8 cfg4.N = (prodNT (V c main_v8) (V c main_v5) : Shape.Idx S2048x512 → EReal) := by
  refine (dat4 V c).arrAt_eq_of_covers 8 (prodNT (V c main_v8) (V c main_v5) : Shape.Idx S2048x512 → EReal) (by decide +kernel) fun t _ j => ?_
  blk_simp
  rw [after4_8]
  frame_out
  refine (congrFun (branchBack _ _) j).trans ?_
  refine prodNT_entry (fun k => ?_) (fun k => ?_) <;> blk_ext [iblk4, idx4 t]

end Cert.Dense.Out
-- ==== Proof.OutSlabs.lean ====
/-
  The gradients at the branches' weights, which the calls write in slabs of 128 columns.
-/
module
public import proofs.«01_k».proof.Proof.OutRegions
@[expose] public section
set_option maxRecDepth 16384
noncomputable section
namespace Cert.Dense.Out
open Idealize.ShloMosaic Idealize.ShloMosaic.TcCoe Idealize.SL.Sem Cert.OutProjIdeal Cert.OutProjIdeal.Gen
open Idealize.ShloMosaic.Pipeline (Dat)

variable (V : (c : Dev nD) → (b : Ref sig .tc) → Buf (Elt Ideal) ((c : Thread nD τ).loc b)) (c : Dev nD)

theorem hz : (![0, 0] : Fin 2 → ℕ) = fun _ => 0 := by decide

theorem slabs_c (x : Vec Ideal S2048x512 .bf16) (y : Vec Ideal S2048x1024 .bf16) : out5_2 (F := Ideal) x y = slabs (prodTN x y) := by
  rw [← branchWeights]
  unfold_out out5_2
  rw [View.ld_unit_zero (S := S2048x512) hz, View.ld_unit_zero (S := S2048x1024) hz]
  funext i
  canon_tiles j h
  all_goals
    open_payloads
    refine slab (k5_pay4 x y) _ _ j i ?_ ?_ ?_ <;> omega

theorem slabs_b (x : Vec Ideal S2048x512 .bf16) (y : Vec Ideal S2048x1024 .bf16) : out6_2 (F := Ideal) x y = slabs (prodTN x y) :=
  (show out6_2 (F := Ideal) x y = out5_2 x y from rfl).trans (slabs_c x y)

theorem slabs_a (x : Vec Ideal S2048x512 .bf16) (y : Vec Ideal S2048x1024 .bf16) : out7_2 (F := Ideal) x y = slabs (prodTN x y) :=
  (show out7_2 (F := Ideal) x y = out5_2 x y from rfl).trans (slabs_c x y)

/-- A slab's entry, from the entries of two arrays' rows. -/
theorem slabs_entry {X A : Shape.Idx S2048x512 → EReal} {Y B : Shape.Idx S2048x1024 → EReal} {j i : Shape.Idx S8x512x128} (hX : X = A) (hY : Y = B) (hi : j = i) :
    slabs (prodTN X Y) j = slabs (prodTN A B) i := by rw [hX, hY, hi]

theorem idx5 : ∀ t : Fin cfg5.N, win5_0.index t = ![0, 0] ∧ win5_1.index t = ![0, 0] ∧ win5_2.index t = ![0, 0, 0] := by decide +kernel
theorem idx6 : ∀ t : Fin cfg6.N, win6_0.index t = ![0, 0] ∧ win6_1.index t = ![0, 0] ∧ win6_2.index t = ![0, 0, 0] := by decide +kernel
theorem idx7 : ∀ t : Fin cfg7.N, win7_0.index t = ![0, 0] ∧ win7_1.index t = ![0, 0] ∧ win7_2.index t = ![0, 0, 0] := by decide +kernel

theorem dw_c : (dat5 V c).arrAt 2 cfg5.N = (slabs (prodTN (V c main_v2) (V c main_v8)) : Shape.Idx S8x512x128 → EReal) := by
  refine (dat5 V c).arrAt_eq_of_covers 2 (slabs (prodTN (V c main_v2) (V c main_v8)) : Shape.Idx S8x512x128 → EReal) (by decide +kernel) fun t _ j => ?_
  blk_simp
  rw [after5_2, slabs_c]
  refine slabs_entry (funext fun i => ?_) (funext fun i => ?_) ?_ <;> blk_ext [iblk5, idx5 t]

theorem dw_b : (dat6 V c).arrAt 2 cfg6.N = (slabs (prodTN (V c main_v1) (V c main_v7)) : Shape.Idx S8x512x128 → EReal) := by
  refine (dat6 V c).arrAt_eq_of_covers 2 (slabs (prodTN (V c main_v1) (V c main_v7)) : Shape.Idx S8x512x128 → EReal) (by decide +kernel) fun t _ j => ?_
  blk_simp
  rw [after6_2, slabs_b]
  refine slabs_entry (funext fun i => ?_) (funext fun i => ?_) ?_ <;> blk_ext [iblk6, idx6 t]

theorem dw_a : (dat7 V c).arrAt 2 cfg7.N = (slabs (prodTN (V c main_v0) (V c main_v6)) : Shape.Idx S8x512x128 → EReal) := by
  refine (dat7 V c).arrAt_eq_of_covers 2 (slabs (prodTN (V c main_v0) (V c main_v6)) : Shape.Idx S8x512x128 → EReal) (by decide +kernel) fun t _ j => ?_
  blk_simp
  rw [after7_2, slabs_a]
  refine slabs_entry (funext fun i => ?_) (funext fun i => ?_) ?_ <;> blk_ext [iblk7, idx7 t]

end Cert.Dense.Out
-- ==== Proof.OutRun.lean ====
/-
  The run of the output projections with its results.
-/
module
public import proofs.«01_k».proof.Proof.OutSlabs
public import Idealize.ShloMosaic.Lib.Tactic.CleanTypes
@[expose] public section
set_option maxRecDepth 16384
noncomputable section
namespace Cert.Dense.Out
open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-! ## The arrays between the calls -/

variable (c : Dev nD)

/-- An array of the launch. -/
abbrev arg (b : Ref sig .tc) := m ((c.tc : Thread nD τ).loc b)

/-- The casts on the host change nothing. -/
theorem W1_casts :
    W1 m ρ c (Proc.devRef .tc main_v0) = arg m c main_arg1 ∧ W1 m ρ c (Proc.devRef .tc main_v1) = arg m c main_arg2 ∧ W1 m ρ c (Proc.devRef .tc main_v2) = arg m c main_arg3
    ∧ W1 m ρ c (Proc.devRef .tc main_v3) = arg m c main_arg4 ∧ W1 m ρ c (Proc.devRef .tc main_v4) = arg m c main_arg5 ∧ W1 m ρ c (Proc.devRef .tc main_v5) = arg m c main_arg6
    ∧ W1 m ρ c (Proc.devRef .tc main_v6) = arg m c main_arg10 ∧ W1 m ρ c (Proc.devRef .tc main_v7) = arg m c main_arg11 ∧ W1 m ρ c (Proc.devRef .tc main_v8) = arg m c main_arg12
    ∧ W1 m ρ c (Proc.devRef .tc main_v9) = arg m c main_arg7 ∧ W1 m ρ c (Proc.devRef .tc main_v10) = arg m c main_arg8
    ∧ W1 m ρ c (Proc.devRef .tc main_arg0) = arg m c main_arg0 ∧ W1 m ρ c (Proc.devRef .tc main_arg9) = arg m c main_arg9 := by
  refine ⟨?_, ?_, ?_, ?_, ?_, ?_, ?_, ?_, ?_, ?_, ?_, ?_, ?_⟩ <;> unfold W1 <;> after_results <;> rfl

/-- No call writes the array. -/
def Kept (r : Ref sig .tc) : Prop :=
  (∀ w : Fin cfg0.W, Pipeline.arrRef spec0 w = r → (cfg0.win w).isOut = false) ∧ (∀ w : Fin cfg1.W, Pipeline.arrRef spec1 w = r → (cfg1.win w).isOut = false)
  ∧ (∀ w : Fin cfg2.W, Pipeline.arrRef spec2 w = r → (cfg2.win w).isOut = false) ∧ (∀ w : Fin cfg3.W, Pipeline.arrRef spec3 w = r → (cfg3.win w).isOut = false)
  ∧ (∀ w : Fin cfg4.W, Pipeline.arrRef spec4 w = r → (cfg4.win w).isOut = false) ∧ (∀ w : Fin cfg5.W, Pipeline.arrRef spec5 w = r → (cfg5.win w).isOut = false)
  ∧ (∀ w : Fin cfg6.W, Pipeline.arrRef spec6 w = r → (cfg6.win w).isOut = false)

instance (r : Ref sig .tc) : Decidable (Kept r) := by unfold Kept; infer_instance

/-- Such an array is at every call's start what the host left. -/
theorem kept {r : Ref sig .tc} (h : Kept r) {x : Buf (Elt Ideal) ((c : Thread nD τ).loc r)} (hx : W1 m ρ c (Proc.devRef .tc r) = x) :
    W2 m ρ c (Proc.devRef .tc r) = x ∧ W3 m ρ c (Proc.devRef .tc r) = x ∧ W4 m ρ c (Proc.devRef .tc r) = x ∧ W5 m ρ c (Proc.devRef .tc r) = x
    ∧ W6 m ρ c (Proc.devRef .tc r) = x ∧ W7 m ρ c (Proc.devRef .tc r) = x ∧ W8 m ρ c (Proc.devRef .tc r) = x := by
  obtain ⟨h0, h1, h2, h3, h4, h5, h6⟩ := h
  have e2 := (W2_of m ρ c r h0).trans hx
  have e3 := (W3_of m ρ c r h1).trans e2
  have e4 := (W4_of m ρ c r h2).trans e3
  have e5 := (W5_of m ρ c r h3).trans e4
  have e6 := (W6_of m ρ c r h4).trans e5
  have e7 := (W7_of m ρ c r h5).trans e6
  exact ⟨e2, e3, e4, e5, e6, e7, (W8_of m ρ c r h6).trans e7⟩

/-! ## The results -/

theorem W9_ya : W9 m ρ c (Proc.devRef .tc main_v11_0) = (prodNN (arg m c main_arg1) (arg m c main_arg4) : Shape.Idx S2048x1024 → EReal) :=
  (W9_of m ρ c main_v11_0 (by decide)).trans ((W8_of m ρ c main_v11_0 (by decide)).trans ((W7_of m ρ c main_v11_0 (by decide)).trans ((W6_of m ρ c main_v11_0 (by decide)).trans ((W5_of m ρ c main_v11_0 (by decide)).trans ((W4_of m ρ c main_v11_0 (by decide)).trans ((W3_of m ρ c main_v11_0 (by decide)).trans ((W2_arr m ρ c 6).trans ((ya (V1 m ρ) c).trans (congrArg₂ prodNN ((W1_casts m ρ c).1) ((W1_casts m ρ c).2.2.2.1))))))))))

theorem W9_yb : W9 m ρ c (Proc.devRef .tc main_v11_1) = (prodNN (arg m c main_arg2) (arg m c main_arg5) : Shape.Idx S2048x1024 → EReal) :=
  (W9_of m ρ c main_v11_1 (by decide)).trans ((W8_of m ρ c main_v11_1 (by decide)).trans ((W7_of m ρ c main_v11_1 (by decide)).trans ((W6_of m ρ c main_v11_1 (by decide)).trans ((W5_of m ρ c main_v11_1 (by decide)).trans ((W4_of m ρ c main_v11_1 (by decide)).trans ((W3_of m ρ c main_v11_1 (by decide)).trans ((W2_arr m ρ c 7).trans ((yb (V1 m ρ) c).trans (congrArg₂ prodNN ((W1_casts m ρ c).2.1) ((W1_casts m ρ c).2.2.2.2.1))))))))))

theorem W9_yc : W9 m ρ c (Proc.devRef .tc main_v11_2) = (prodNN (arg m c main_arg3) (arg m c main_arg6) : Shape.Idx S2048x1024 → EReal) :=
  (W9_of m ρ c main_v11_2 (by decide)).trans ((W8_of m ρ c main_v11_2 (by decide)).trans ((W7_of m ρ c main_v11_2 (by decide)).trans ((W6_of m ρ c main_v11_2 (by decide)).trans ((W5_of m ρ c main_v11_2 (by decide)).trans ((W4_of m ρ c main_v11_2 (by decide)).trans ((W3_of m ρ c main_v11_2 (by decide)).trans ((W2_arr m ρ c 8).trans ((yc (V1 m ρ) c).trans (congrArg₂ prodNN ((W1_casts m ρ c).2.2.1) ((W1_casts m ρ c).2.2.2.2.2.1))))))))))

theorem W9_x1 : W9 m ρ c (Proc.devRef .tc main_v12) = (fun i => prodNN (arg m c main_arg7) (arg m c main_arg8) i + arg m c main_arg0 i : Shape.Idx S2048x1024 → EReal) :=
  (W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans ((W3_arr m ρ c 3).trans ((x1 (V2 m ρ) c).trans (funext fun i => congrArg₂ (· + ·) (congrFun (congrArg₂ prodNN ((kept m ρ c (by decide) (W1_casts m ρ c).2.2.2.2.2.2.2.2.2.1).1) ((kept m ρ c (by decide) (W1_casts m ρ c).2.2.2.2.2.2.2.2.2.2.1).1)) i) (congrFun ((kept m ρ c (by decide) (W1_casts m ρ c).2.2.2.2.2.2.2.2.2.2.2.1).1) i)))))))))

theorem W9_dw_out : W9 m ρ c (Proc.devRef .tc main_v13) = (prodTN (arg m c main_arg7) (arg m c main_arg9) : Shape.Idx S1024x1024 → EReal) :=
  (W9_of m ρ c main_v13 (by decide)).trans ((W8_of m ρ c main_v13 (by decide)).trans ((W7_of m ρ c main_v13 (by decide)).trans ((W6_of m ρ c main_v13 (by decide)).trans ((W5_of m ρ c main_v13 (by decide)).trans ((W4_arr m ρ c 2).trans ((dw_out (V3 m ρ) c).trans (congrArg₂ prodTN ((kept m ρ c (by decide) (W1_casts m ρ c).2.2.2.2.2.2.2.2.2.1).2.1) ((kept m ρ c (by decide) (W1_casts m ρ c).2.2.2.2.2.2.2.2.2.2.2.2).2.1))))))))

theorem W9_dmerged : W9 m ρ c (Proc.devRef .tc main_v14) = (prodNT (arg m c main_arg9) (arg m c main_arg8) : Shape.Idx S2048x1024 → EReal) :=
  (W9_of m ρ c main_v14 (by decide)).trans ((W8_of m ρ c main_v14 (by decide)).trans ((W7_of m ρ c main_v14 (by decide)).trans ((W6_of m ρ c main_v14 (by decide)).trans ((W5_arr m ρ c 2).trans ((dmerged (V4 m ρ) c).trans (congrArg₂ prodNT ((kept m ρ c (by decide) (W1_casts m ρ c).2.2.2.2.2.2.2.2.2.2.2.2).2.2.1) ((kept m ρ c (by decide) (W1_casts m ρ c).2.2.2.2.2.2.2.2.2.2.1).2.2.1)))))))

theorem W9_da : W9 m ρ c (Proc.devRef .tc main_v15_0) = (prodNT (arg m c main_arg10) (arg m c main_arg4) : Shape.Idx S2048x512 → EReal) :=
  (W9_of m ρ c main_v15_0 (by decide)).trans ((W8_of m ρ c main_v15_0 (by decide)).trans ((W7_of m ρ c main_v15_0 (by decide)).trans ((W6_arr m ρ c 6).trans ((da (V5 m ρ) c).trans (congrArg₂ prodNT ((kept m ρ c (by decide) (W1_casts m ρ c).2.2.2.2.2.2.1).2.2.2.1) ((kept m ρ c (by decide) (W1_casts m ρ c).2.2.2.1).2.2.2.1))))))

theorem W9_db : W9 m ρ c (Proc.devRef .tc main_v15_1) = (prodNT (arg m c main_arg11) (arg m c main_arg5) : Shape.Idx S2048x512 → EReal) :=
  (W9_of m ρ c main_v15_1 (by decide)).trans ((W8_of m ρ c main_v15_1 (by decide)).trans ((W7_of m ρ c main_v15_1 (by decide)).trans ((W6_arr m ρ c 7).trans ((db (V5 m ρ) c).trans (congrArg₂ prodNT ((kept m ρ c (by decide) (W1_casts m ρ c).2.2.2.2.2.2.2.1).2.2.2.1) ((kept m ρ c (by decide) (W1_casts m ρ c).2.2.2.2.1).2.2.2.1))))))

theorem W9_dc : W9 m ρ c (Proc.devRef .tc main_v15_2) = (prodNT (arg m c main_arg12) (arg m c main_arg6) : Shape.Idx S2048x512 → EReal) :=
  (W9_of m ρ c main_v15_2 (by decide)).trans ((W8_of m ρ c main_v15_2 (by decide)).trans ((W7_of m ρ c main_v15_2 (by decide)).trans ((W6_arr m ρ c 8).trans ((dc (V5 m ρ) c).trans (congrArg₂ prodNT ((kept m ρ c (by decide) (W1_casts m ρ c).2.2.2.2.2.2.2.2.1).2.2.2.1) ((kept m ρ c (by decide) (W1_casts m ρ c).2.2.2.2.2.1).2.2.2.1))))))

theorem W9_dw_c : W9 m ρ c (Proc.devRef .tc main_v16) = (slabs (prodTN (arg m c main_arg3) (arg m c main_arg12)) : Shape.Idx S8x512x128 → EReal) :=
  (W9_of m ρ c main_v16 (by decide)).trans ((W8_of m ρ c main_v16 (by decide)).trans ((W7_arr m ρ c 2).trans ((dw_c (V6 m ρ) c).trans (congrArg slabs (congrArg₂ prodTN ((kept m ρ c (by decide) (W1_casts m ρ c).2.2.1).2.2.2.2.1) ((kept m ρ c (by decide) (W1_casts m ρ c).2.2.2.2.2.2.2.2.1).2.2.2.2.1))))))

theorem W9_dw_b : W9 m ρ c (Proc.devRef .tc main_v17) = (slabs (prodTN (arg m c main_arg2) (arg m c main_arg11)) : Shape.Idx S8x512x128 → EReal) :=
  (W9_of m ρ c main_v17 (by decide)).trans ((W8_arr m ρ c 2).trans ((dw_b (V7 m ρ) c).trans (congrArg slabs (congrArg₂ prodTN ((kept m ρ c (by decide) (W1_casts m ρ c).2.1).2.2.2.2.2.1) ((kept m ρ c (by decide) (W1_casts m ρ c).2.2.2.2.2.2.2.1).2.2.2.2.2.1)))))

theorem W9_dw_a : W9 m ρ c (Proc.devRef .tc main_v18) = (slabs (prodTN (arg m c main_arg1) (arg m c main_arg10)) : Shape.Idx S8x512x128 → EReal) :=
  (W9_arr m ρ c 2).trans ((dw_a (V8 m ρ) c).trans (congrArg slabs (congrArg₂ prodTN ((kept m ρ c (by decide) (W1_casts m ρ c).1).2.2.2.2.2.2) ((kept m ρ c (by decide) (W1_casts m ρ c).2.2.2.2.2.2.1).2.2.2.2.2.2))))

end Cert.Dense.Out
-- ==== Proof.OutRef.lean ====
/-
  What the reference of the output projections computes.
-/
module
public import proofs.«01_k».proof.Proof.OutRegions
public import proofs.«01_k».proof.Proof.Gen.OutProjRefIdeal.Run
@[expose] public section
set_option maxRecDepth 16384
noncomputable section
namespace Cert.Dense.OutRef
open Idealize.ShloMosaic Idealize.ShloMosaic.TcCoe Idealize.SL.Sem Cert.OutProjRefIdeal Cert.OutProjRefIdeal.Gen

theorem ref_y (a : FVec Ideal S2048x512 .f32) (w : FVec Ideal S512x1024 .f32) :
    truncf .bf16 (Host.dotGeneral dot_S2048x512_S512x1024_S2048x1024_1_0_0_1_n_n none a w) bitsLt_bf16_f32 = (prodNN a w : Shape.Idx S2048x1024 → EReal) := by
  funext j
  idx_vars j
  pointwise []
  rfl

theorem ref_x1 (x a : FVec Ideal S2048x1024 .f32) (w : FVec Ideal S1024x1024 .f32) :
    addf x (Host.dotGeneral dot_S2048x1024_S1024x1024_S2048x1024_1_0_0_1_n_n none a w) = (fun i => prodNN a w i + x i : Shape.Idx S2048x1024 → EReal) := by
  funext j
  idx_vars j
  refine Eq.trans ?_ (add_comm _ _)
  pointwise []
  rfl

theorem ref_dw (a dx : FVec Ideal S2048x1024 .f32) :
    truncf .bf16 (transpose S1024x1024 [1, 0] (Host.dotGeneral dot_S2048x1024_S2048x1024_S1024x1024_0_0_1_1_n_n none dx a) transposes_S1024x1024_S1024x1024_1_0) bitsLt_bf16_f32
      = (prodTN a dx : Shape.Idx S1024x1024 → EReal) := by
  funext j
  idx_vars j
  refine Eq.trans ?_ (Finset.sum_congr rfl fun k _ => mul_comm _ _)
  pointwise []

theorem ref_dm (dx : FVec Ideal S2048x1024 .f32) (w : FVec Ideal S1024x1024 .f32) :
    Host.dotGeneral dot_S2048x1024_S1024x1024_S2048x1024_1_1_0_0_n_n none dx w = (prodNT dx w : Shape.Idx S2048x1024 → EReal) := by
  funext j
  idx_vars j
  pointwise []
  rfl

theorem ref_da (dy : FVec Ideal S2048x1024 .f32) (w : FVec Ideal S512x1024 .f32) :
    Host.dotGeneral dot_S2048x1024_S512x1024_S2048x512_1_1_0_0_n_n none dy w = (prodNT dy w : Shape.Idx S2048x512 → EReal) := by
  funext j
  idx_vars j
  pointwise []
  rfl

/-- The gradient at a branch's weights, cut into slabs. -/
theorem ref_slabs (a : FVec Ideal S2048x512 .f32) (dy : FVec Ideal S2048x1024 .f32) :
    truncf .bf16 (transpose S8x512x128 [1, 0, 2] (shapeCast _ (transpose S512x1024 [1, 0] (Host.dotGeneral dot_S2048x1024_S2048x512_S1024x512_0_0_1_1_n_n none dy a) transposes_S1024x512_S512x1024_1_0) shapeCasts_S512x1024_S512x8x128) transposes_S512x8x128_S8x512x128_1_0_2) bitsLt_bf16_f32
      = (Out.slabs (prodTN a dy) : Shape.Idx S8x512x128 → EReal) := by
  have e : transpose S512x1024 [1, 0] (Host.dotGeneral dot_S2048x1024_S2048x512_S1024x512_0_0_1_1_n_n none dy a) transposes_S1024x512_S512x1024_1_0 = (prodTN a dy : Shape.Idx S512x1024 → EReal) := by
    funext j
    idx_vars j
    refine Eq.trans ?_ (Finset.sum_congr rfl fun k _ => mul_comm _ _)
    pointwise []
  rw [e]
  funext j
  idx_vars j
  pointwise []
  refine congrArg (prodTN a dy) (idx2_eq _ _ rfl ?_)
  show (j0 : ℕ) * 128 + (j2 : ℕ) = 128 * (j0 : ℕ) + (j2 : ℕ)
  omega

end Cert.Dense.OutRef
-- ==== Proof.MixRegions.lean ====
/-
  The six product calls of the channel mixer: the arrays that they leave are products of the arrays that they read.
-/
module
public import proofs.«01_k».proof.Proof.Dense
public import proofs.«01_k».proof.Proof.Gen.MixerIdeal.Frame
public import Idealize.ShloMosaic.Lib.Pipeline.ValueKit
@[expose] public section
set_option maxRecDepth 16384
noncomputable section
namespace Cert.Dense.Mix
open Idealize.ShloMosaic Idealize.ShloMosaic.TcCoe Idealize.SL.Sem Cert.MixerIdeal Cert.MixerIdeal.Gen
open Idealize.ShloMosaic.Pipeline (Dat)

/-! ## The products of the blocks -/

theorem upward (x : Vec Ideal S256x1024 .bf16) (y : Vec Ideal S5632x1024 .bf16) : k0_pay1 (F := Ideal) x y = prodNT x y := by
  funext j
  idx_vars j
  pointwise [k0_pay1]
  rfl

theorem downward (x : Vec Ideal S256x2816 .bf16) (y : Vec Ideal S2816x1024 .bf16) (z : Vec Ideal S256x1024 .f32) :
    k2_pay1 (F := Ideal) x y z = fun j => prodNN x y j + z j := by
  funext j
  idx_vars j
  pointwise [k2_pay1]
  rfl

theorem downWeights (x : Vec Ideal S2048x1408 .bf16) (y : Vec Ideal S2048x512 .f32) : k3_pay1 (F := Ideal) x y = prodTN x y := by
  funext j
  idx_vars j
  pointwise [k3_pay1]
  rfl

theorem downBack (x : Vec Ideal S256x1024 .f32) (y : Vec Ideal S2816x1024 .bf16) : k4_pay1 (F := Ideal) x y = prodNT x y := by
  funext j
  idx_vars j
  pointwise [k4_pay1]
  rfl

theorem upWeights (x : Vec Ideal S2048x1408 .bf16) (y : Vec Ideal S2048x512 .bf16) : k5_pay1 (F := Ideal) x y = prodTN x y := by
  funext j
  idx_vars j
  pointwise [k5_pay1]
  rfl

theorem upBack (x : Vec Ideal S256x5632 .bf16) (y : Vec Ideal S5632x1024 .bf16) : k6_pay1 (F := Ideal) x y = prodNN x y := by
  funext j
  idx_vars j
  pointwise [k6_pay1]
  rfl

variable (V : (c : Dev nD) → (b : Ref sig .tc) → Buf (Elt Ideal) ((c : Thread nD τ).loc b)) (c : Dev nD)

/-! ## The blocks' places in the arrays -/

theorem idx0 : ∀ t : Fin cfg0.N, win0_0.index t = ![t.val, 0] ∧ win0_1.index t = ![0, 0] ∧ win0_2.index t = ![t.val, 0] := by decide +kernel
theorem idx2 : ∀ t : Fin cfg2.N, win2_0.index t = ![t.val, 0] ∧ win2_1.index t = ![0, 0] ∧ win2_2.index t = ![t.val, 0] ∧ win2_3.index t = ![t.val, 0] := by decide +kernel
theorem idx3 : ∀ t : Fin cfg3.N, win3_0.index t = ![0, t.val % 2] ∧ win3_1.index t = ![0, t.val / 2] ∧ win3_2.index t = ![t.val % 2, t.val / 2] := by decide +kernel
theorem idx4 : ∀ t : Fin cfg4.N, win4_0.index t = ![t.val, 0] ∧ win4_1.index t = ![0, 0] ∧ win4_2.index t = ![t.val, 0] := by decide +kernel
theorem idx5 : ∀ t : Fin cfg5.N, win5_0.index t = ![0, t.val % 4] ∧ win5_1.index t = ![0, t.val / 4] ∧ win5_2.index t = ![t.val % 4, t.val / 4] := by decide +kernel
theorem idx6 : ∀ t : Fin cfg6.N, win6_0.index t = ![t.val, 0] ∧ win6_1.index t = ![0, 0] ∧ win6_2.index t = ![t.val, 0] := by decide +kernel

/-! ## The upward product -/

theorem up : (dat0 V c).arrAt 2 cfg0.N = (prodNT (V c main_v0) (V c main_v2) : Shape.Idx S2048x5632 → EReal) := by
  refine (dat0 V c).arrAt_eq_of_covers 2 (prodNT (V c main_v0) (V c main_v2) : Shape.Idx S2048x5632 → EReal) (by decide +kernel) fun t _ j => ?_
  blk_simp
  rw [after0_2]
  frame_out
  rw [upward]
  refine prodNT_entry (fun k => ?_) (fun k => ?_) <;> blk_ext [iblk0, idx0 t]

/-! ## The downward product with the residual, and its gradients -/

theorem y : (dat2 V c).arrAt 3 cfg2.N = (fun i => prodNN (V c main_v16) (V c main_v3) i + V c main_arg0 i : Shape.Idx S2048x1024 → EReal) := by
  refine (dat2 V c).arrAt_eq_of_covers 3 (fun i => prodNN (V c main_v16) (V c main_v3) i + V c main_arg0 i : Shape.Idx S2048x1024 → EReal) (by decide +kernel) fun t _ j => ?_
  blk_simp
  rw [after2_3]
  frame_out
  rw [downward]
  refine congrArg₂ (· + ·) (prodNN_entry (fun k => ?_) (fun k => ?_)) ?_ <;> blk_ext [iblk2, idx2 t]

theorem dw_down : (dat3 V c).arrAt 2 cfg3.N = (prodTN (V c main_v16) (V c main_arg6) : Shape.Idx S2816x1024 → EReal) := by
  refine (dat3 V c).arrAt_eq_of_covers 2 (prodTN (V c main_v16) (V c main_arg6) : Shape.Idx S2816x1024 → EReal) (by decide +kernel) fun t _ j => ?_
  blk_simp
  rw [after3_2]
  frame_out
  rw [downWeights]
  refine prodTN_entry (fun k => ?_) (fun k => ?_) <;> blk_ext [iblk3, idx3 t]

theorem dact : (dat4 V c).arrAt 2 cfg4.N = (prodNT (V c main_arg6) (V c main_v3) : Shape.Idx S2048x2816 → EReal) := by
  refine (dat4 V c).arrAt_eq_of_covers 2 (prodNT (V c main_arg6) (V c main_v3) : Shape.Idx S2048x2816 → EReal) (by decide +kernel) fun t _ j => ?_
  blk_simp
  rw [after4_2]
  frame_out
  rw [downBack]
  refine prodNT_entry (fun k => ?_) (fun k => ?_) <;> blk_ext [iblk4, idx4 t]

/-! ## The upward product's gradients -/

theorem dw_up : (dat5 V c).arrAt 2 cfg5.N = (prodTN (V c main_v4) (V c main_v0) : Shape.Idx S5632x1024 → EReal) := by
  refine (dat5 V c).arrAt_eq_of_covers 2 (prodTN (V c main_v4) (V c main_v0) : Shape.Idx S5632x1024 → EReal) (by decide +kernel) fun t _ j => ?_
  blk_simp
  rw [after5_2]
  frame_out
  rw [upWeights]
  refine prodTN_entry (fun k => ?_) (fun k => ?_) <;> blk_ext [iblk5, idx5 t]

theorem dh : (dat6 V c).arrAt 2 cfg6.N = (prodNN (V c main_v4) (V c main_v2) : Shape.Idx S2048x1024 → EReal) := by
  refine (dat6 V c).arrAt_eq_of_covers 2 (prodNN (V c main_v4) (V c main_v2) : Shape.Idx S2048x1024 → EReal) (by decide +kernel) fun t _ j => ?_
  blk_simp
  rw [after6_2]
  frame_out
  rw [upBack]
  refine prodNN_entry (fun k => ?_) (fun k => ?_) <;> blk_ext [iblk6, idx6 t]

end Cert.Dense.Mix
-- ==== Proof.MixAct.lean ====
/-
  The activation call of the channel mixer: the array that it leaves.
-/
module
public import proofs.«01_k».proof.Proof.Dense
public import proofs.«01_k».proof.Proof.Gen.MixerIdeal.Frame
public import Idealize.ShloMosaic.Lib.Pipeline.ValueKit
public import Idealize.ShloMosaic.Lib.WritesUnit
@[expose] public section
set_option maxRecDepth 16384
noncomputable section
namespace Cert.Dense.Mix
open Idealize.ShloMosaic Idealize.ShloMosaic.TcCoe Idealize.SL.Sem Cert.MixerIdeal Cert.MixerIdeal.Gen
open Idealize.ShloMosaic.Pipeline (Dat)

/-! ## The convolution along the rows and the gate -/

/-- Rows `x`, with eight rows of zeros before them: the entry at row `r` and column `k`. -/
def padded {T C : ℕ} (x : Shape.Idx ⟨2, ![T, C]⟩ → EReal) (r : ℕ) (k : Fin C) : EReal :=
  if h : 8 ≤ r ∧ r < T + 8 then x (ix2 ⟨r - 8, by omega⟩ k) else 0

/-- The three rows ending at row `r`, weighted, and the bias. -/
def conv {T C : ℕ} (x : Shape.Idx ⟨2, ![T, C]⟩ → EReal) (w0 w1 w2 b : EReal) (r : ℕ) (k : Fin C) : EReal :=
  w0 * padded x (r + 6) k + w1 * padded x (r + 7) k + w2 * padded x (r + 8) k + b

/-- The gate `g` through `g * logistic g`, times the value. -/
def glu (g v : EReal) : EReal := g * Ideal.logistic g * v

/-- The body's expression, the six loaded entries being entries of the padded rows. -/
theorem glu_of {T C : ℕ} {x z : Shape.Idx ⟨2, ![T, C]⟩ → EReal} {w0 w1 w2 b u0 u1 u2 d a0 a1 a2 e0 e1 e2 : EReal} {r : ℕ} {k : Fin C}
    (h0 : a0 = padded x (r + 6) k) (h1 : a1 = padded x (r + 7) k) (h2 : a2 = padded x (r + 8) k)
    (g0 : e0 = padded z (r + 6) k) (g1 : e1 = padded z (r + 7) k) (g2 : e2 = padded z (r + 8) k) :
    (w0 * a0 + w1 * a1 + w2 * a2 + b) * Ideal.logistic (w0 * a0 + w1 * a1 + w2 * a2 + b) * (u0 * e0 + u1 * e1 + u2 * e2 + d)
      = glu (conv x w0 w1 w2 b r k) (conv z u0 u1 u2 d r k) := by
  rw [h0, h1, h2, g0, g1, g2, glu, conv, conv]

/-- Row `n` of the convolution's weights. -/
def wrow (n : Fin 3) (w : S3x5632.Idx → EReal) : S1x5632.Idx → EReal := fun i => w (ix2 n (i 1))

/-- The bias as a row. -/
def brow (b : S5632.Idx → EReal) : S1x5632.Idx → EReal := fun i => b (ix1 (i 1))

/-! ## One column block -/

/-- A load of 128 rows from the padded rows. -/
theorem load (v : View sig .tc .vmem S2056x128 .f32) (x : FVec Ideal S2048x128 .bf16) (hlt : FTy.bits .bf16 < FTy.bits .f32) (inb inb') (o : ℕ) (inbo) (a b : Fin 128) :
    v.readCov (Val := Elt Ideal) [⟨Rect.unit (s := S2056x128) ![8, 0] ![2048, 128] inb, extf .f32 x hlt⟩,
        ⟨Rect.unit (s := S2056x128) ![0, 0] ![8, 128] inb', broadcast S8x128 (0 : EReal)⟩]
      (Rect.unit (s := S2056x128) ![o, 0] ![128, 128] inbo).toLoadRect (ix2 a b) = padded (T := 2048) (C := 128) x (a.val + o) b := by
  have ho : o + 128 ≤ 2056 := inbo 0
  show v.read (Elt Ideal) (v.writes (Elt Ideal) v.junk _) _ = _
  unfold padded
  split
  · refine (View.read_writes_cons_rows_of_mem v _ inb _ _ _ (ix2 ⟨a.val + o - 8, by omega⟩ b) rfl ?_ ?_).trans rfl
    · show o + 1 * a.val = 8 + (a.val + o - 8)
      omega
    · show 0 + 1 * b.val = b.val
      omega
  · refine (View.read_writes_cons_rows_of_not_mem v _ inb _ _ _ rfl (W := 2048) rfl ?_).trans ?_
    · show o + 1 * a.val < 8 ∨ 8 + 2048 ≤ o + 1 * a.val
      omega
    · refine (View.read_writes_cons_rows_of_mem v _ inb' _ _ _ (ix2 ⟨a.val + o, by omega⟩ b) rfl ?_ ?_).trans rfl
      · show o + 1 * a.val = 0 + (a.val + o)
        omega
      · show 0 + 1 * b.val = b.val
        omega

/-- The block that the call leaves. -/
theorem out_act (c : Dev nD) (i : grid1.Coords) (arg1 : Memref sig .tc .vmem S2048x128 .bf16) (harg1 : arg1.IsWhole) (arg2 : Memref sig .tc .vmem S2048x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2056x128 .f32) (harg12 : arg12.IsWhole) (arg13 : Memref sig .tc .vmem S2056x128 .f32) (harg13 : arg13.IsWhole)
    (x0 x1 : Vec Ideal S2048x128 .bf16) (x2 x3 x4 x5 x6 x7 x8 x9 : Vec Ideal S1x128 .f32) (y : S2048x128.Idx) :
    out1_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y
      = glu (conv (T := 2048) (C := 128) x0 (x2 (ix2 0 (y 1))) (x3 (ix2 0 (y 1))) (x4 (ix2 0 (y 1))) (x5 (ix2 0 (y 1))) (y 0) (y 1))
          (conv (T := 2048) (C := 128) x1 (x6 (ix2 0 (y 1))) (x7 (ix2 0 (y 1))) (x8 (ix2 0 (y 1))) (x9 (ix2 0 (y 1))) (y 0) (y 1)) := by
  frame_out
  canon_tiles x y
  all_goals
    open_payloads
    idx_vars x
    pointwise []
    have hy : y 1 = x1 := Fin.ext y1
    rw [hy, y0]
    refine glu_of ?_ ?_ ?_ ?_ ?_ ?_ <;> refine (load _ _ _ _ _ _ _ _ _).trans (congrArg (fun r => padded _ r _) ?_) <;> omega

/-! ## The whole array -/

/-- Columns that agree have the same convolution. -/
theorem conv_entry {T C D : ℕ} {x : Shape.Idx ⟨2, ![T, C]⟩ → EReal} {z : Shape.Idx ⟨2, ![T, D]⟩ → EReal} {w0 w1 w2 b u0 u1 u2 d : EReal} {r s : ℕ} {k : Fin C} {l : Fin D}
    (h : ∀ i, x (ix2 i k) = z (ix2 i l)) (h0 : w0 = u0) (h1 : w1 = u1) (h2 : w2 = u2) (hb : b = d) (hr : r = s) : conv x w0 w1 w2 b r k = conv z u0 u1 u2 d s l := by
  have hp : ∀ n, padded x n k = padded z n l := fun n => by
    unfold padded
    split
    · exact h _
    · rfl
  rw [h0, h1, h2, hb, hr, conv, conv, hp, hp, hp]

/-- The gate's column of a result's column. -/
def lo (k : Fin 2816) : Fin 5632 := ⟨k.val, by omega⟩

/-- The value's column of a result's column. -/
def hi (k : Fin 2816) : Fin 5632 := ⟨2816 + k.val, by omega⟩

/-- The activation of the upward product's rows. -/
def activation (u : S2048x5632.Idx → EReal) (w0 w1 w2 b : S1x5632.Idx → EReal) : S2048x2816.Idx → EReal := fun i =>
  glu (conv (T := 2048) (C := 5632) u (w0 (ix2 0 (lo (i 1)))) (w1 (ix2 0 (lo (i 1)))) (w2 (ix2 0 (lo (i 1)))) (b (ix2 0 (lo (i 1)))) (i 0) (lo (i 1)))
    (conv (T := 2048) (C := 5632) u (w0 (ix2 0 (hi (i 1)))) (w1 (ix2 0 (hi (i 1)))) (w2 (ix2 0 (hi (i 1)))) (b (ix2 0 (hi (i 1)))) (i 0) (hi (i 1)))

variable (V : (c : Dev nD) → (b : Ref sig .tc) → Buf (Elt Ideal) ((c : Thread nD τ).loc b)) (c : Dev nD)

theorem idx1 : ∀ t : Fin cfg1.N, win1_0.index t = ![0, t.val] ∧ win1_1.index t = ![0, t.val + 22]
    ∧ win1_2.index t = ![0, t.val] ∧ win1_3.index t = ![0, t.val] ∧ win1_4.index t = ![0, t.val] ∧ win1_5.index t = ![0, t.val]
    ∧ win1_6.index t = ![0, t.val + 22] ∧ win1_7.index t = ![0, t.val + 22] ∧ win1_8.index t = ![0, t.val + 22] ∧ win1_9.index t = ![0, t.val + 22]
    ∧ win1_10.index t = ![0, t.val] := by decide +kernel

set_option maxHeartbeats 1600000 in
/-- The array that the activation call leaves. -/
theorem act : (dat1 V c).arrAt 10 cfg1.N = (activation (V c main_v15) (V c main_v7) (V c main_v10) (V c main_v13) (V c main_v14) : Shape.Idx S2048x2816 → EReal) := by
  refine (dat1 V c).arrAt_eq_of_covers 10 (activation (V c main_v15) (V c main_v7) (V c main_v10) (V c main_v13) (V c main_v14) : Shape.Idx S2048x2816 → EReal) (by decide +kernel) fun t _ j => ?_
  blk_simp
  rw [after1_10, outsAt1, out_act]
  unfold activation
  refine congrArg₂ glu (conv_entry (T := 2048) (C := 128) (D := 5632) (fun r => ?g) ?g0 ?g1 ?g2 ?g3 ?gr) (conv_entry (T := 2048) (C := 128) (D := 5632) (fun r => ?v) ?v0 ?v1 ?v2 ?v3 ?vr)
  case gr => blk_simp [idx1 t]
  case vr => blk_simp [idx1 t]
  all_goals blk_ext [iblk1, idx1 t, lo, hi]

end Cert.Dense.Mix
-- ==== Proof.MixRun.lean ====
/-
  The run of the channel mixer with its results.
-/
module
public import proofs.«01_k».proof.Proof.MixRegions
public import proofs.«01_k».proof.Proof.MixAct
public import Idealize.ShloMosaic.Lib.Tactic.CleanTypes
@[expose] public section
set_option maxRecDepth 16384
noncomputable section
namespace Cert.Dense.Mix
open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

/-! ## The arrays between the calls -/

variable (c : Dev nD)

/-- An array of the launch. -/
abbrev arg (b : Ref sig .tc) := m ((c.tc : Thread nD τ).loc b)

/-- The casts on the host change nothing. -/
theorem W1_casts :
    W1 m ρ c (Proc.devRef .tc main_v0) = arg m c main_arg1 ∧ W1 m ρ c (Proc.devRef .tc main_v3) = arg m c main_arg5 ∧ W1 m ρ c (Proc.devRef .tc main_v4) = arg m c main_arg7 ∧ W1 m ρ c (Proc.devRef .tc main_arg0) = arg m c main_arg0 ∧ W1 m ρ c (Proc.devRef .tc main_arg6) = arg m c main_arg6 := by
  refine ⟨?_, ?_, ?_, ?_, ?_⟩ <;> unfold W1 <;> after_results <;> rfl

/-- The transposed weights. -/
def wt (w : Shape.Idx S1024x5632 → EReal) : Shape.Idx S5632x1024 → EReal := fun j => w (ix2 (j 1) (j 0))

theorem W1_up : W1 m ρ c (Proc.devRef .tc main_v2) = wt (arg m c main_arg2) := by
  have e : W1 m ρ c (Proc.devRef .tc main_v2)
      = truncf (F := Ideal) (φ := .f32) .bf16 (transpose S5632x1024 [1, 0] (arg m c main_arg2) transposes_S1024x5632_S5632x1024_1_0) bitsLt_bf16_f32 := by
    unfold W1
    after_results
  rw [e]
  funext j
  idx_vars j
  pointwise []
  rfl

/-- A row of the convolution's weights, cut out, flattened and stood up again. -/
theorem row_of (x : FVec Ideal S3x5632 .f32) (n : Fin 3) (h : S3x5632.Slices ![n.val, 0] S1x5632) :
    broadcastInDim S1x5632 ![1] bcast_S5632_S1x5632_1 (shapeCast S5632 (extractStridedSlice S1x5632 ![n.val, 0] x h) shapeCasts_S1x5632_S5632) = wrow n x := by
  funext j
  idx_vars j
  pointwise []
  rfl

theorem W1_w0 : W1 m ρ c (Proc.devRef .tc main_v7) = wrow 0 (arg m c main_arg3) := by
  refine Eq.trans ?_ (row_of (arg m c main_arg3) 0 slices_S3x5632_S1x5632_0_0)
  unfold W1
  after_results
  rfl

theorem W1_w1 : W1 m ρ c (Proc.devRef .tc main_v10) = wrow 1 (arg m c main_arg3) := by
  refine Eq.trans ?_ (row_of (arg m c main_arg3) 1 slices_S3x5632_S1x5632_1_0)
  unfold W1
  after_results
  rfl

theorem W1_w2 : W1 m ρ c (Proc.devRef .tc main_v13) = wrow 2 (arg m c main_arg3) := by
  refine Eq.trans ?_ (row_of (arg m c main_arg3) 2 slices_S3x5632_S1x5632_2_0)
  unfold W1
  after_results
  rfl

theorem W1_b : W1 m ρ c (Proc.devRef .tc main_v14) = brow (arg m c main_arg4) := by
  have e : W1 m ρ c (Proc.devRef .tc main_v14) = broadcastInDim S1x5632 ![1] bcast_S5632_S1x5632_1 (arg m c main_arg4) := by
    unfold W1
    after_results
  rw [e]
  funext j
  idx_vars j
  pointwise []
  rfl

/-- No call writes the array. -/
def Kept (r : Ref sig .tc) : Prop :=
  (∀ w : Fin cfg0.W, Pipeline.arrRef spec0 w = r → (cfg0.win w).isOut = false) ∧ (∀ w : Fin cfg1.W, Pipeline.arrRef spec1 w = r → (cfg1.win w).isOut = false)
  ∧ (∀ w : Fin cfg2.W, Pipeline.arrRef spec2 w = r → (cfg2.win w).isOut = false) ∧ (∀ w : Fin cfg3.W, Pipeline.arrRef spec3 w = r → (cfg3.win w).isOut = false)
  ∧ (∀ w : Fin cfg4.W, Pipeline.arrRef spec4 w = r → (cfg4.win w).isOut = false) ∧ (∀ w : Fin cfg5.W, Pipeline.arrRef spec5 w = r → (cfg5.win w).isOut = false)

instance (r : Ref sig .tc) : Decidable (Kept r) := by unfold Kept; infer_instance

/-- Such an array is at every call's start what the host left. -/
theorem kept {r : Ref sig .tc} (h : Kept r) {x : Buf (Elt Ideal) ((c : Thread nD τ).loc r)} (hx : W1 m ρ c (Proc.devRef .tc r) = x) :
    W2 m ρ c (Proc.devRef .tc r) = x ∧ W3 m ρ c (Proc.devRef .tc r) = x ∧ W4 m ρ c (Proc.devRef .tc r) = x ∧ W5 m ρ c (Proc.devRef .tc r) = x
    ∧ W6 m ρ c (Proc.devRef .tc r) = x ∧ W7 m ρ c (Proc.devRef .tc r) = x := by
  obtain ⟨h0, h1, h2, h3, h4, h5⟩ := h
  have e2 := (W2_of m ρ c r h0).trans hx
  have e3 := (W3_of m ρ c r h1).trans e2
  have e4 := (W4_of m ρ c r h2).trans e3
  have e5 := (W5_of m ρ c r h3).trans e4
  have e6 := (W6_of m ρ c r h4).trans e5
  exact ⟨e2, e3, e4, e5, e6, (W7_of m ρ c r h5).trans e6⟩

/-! ## The results -/

/-- The upward product's rows. -/
theorem W2_up : W2 m ρ c (Proc.devRef .tc main_v15) = (prodNN (arg m c main_arg1) (arg m c main_arg2) : Shape.Idx S2048x5632 → EReal) :=
  (W2_arr m ρ c 2).trans ((up (V1 m ρ) c).trans (congrArg₂ prodNT ((W1_casts m ρ c).1) ((W1_up m ρ c))))

/-- The activation of the launch's arrays. -/
abbrev acts : S2048x2816.Idx → EReal :=
  activation (prodNN (arg m c main_arg1) (arg m c main_arg2)) (wrow 0 (arg m c main_arg3)) (wrow 1 (arg m c main_arg3)) (wrow 2 (arg m c main_arg3)) (brow (arg m c main_arg4))

theorem W3_act : W3 m ρ c (Proc.devRef .tc main_v16) = acts m c := by
  refine (W3_arr m ρ c 10).trans ((act (V2 m ρ) c).trans ?_)
  have e : ∀ {r : Ref sig .tc} (h : ∀ w : Fin cfg0.W, Pipeline.arrRef spec0 w = r → (cfg0.win w).isOut = false), V2 m ρ c r = W1 m ρ c (Proc.devRef .tc r) := fun h => W2_of m ρ c _ h
  rw [show V2 m ρ c main_v15 = _ from W2_up m ρ c, e (r := main_v7) (by decide), e (r := main_v10) (by decide), e (r := main_v13) (by decide), e (r := main_v14) (by decide),
    W1_w0, W1_w1, W1_w2, W1_b]

theorem W8_y : W8 m ρ c (Proc.devRef .tc main_v17) = (fun i => prodNN (acts m c) (arg m c main_arg5) i + arg m c main_arg0 i : Shape.Idx S2048x1024 → EReal) :=
  (W8_of m ρ c main_v17 (by decide)).trans ((W7_of m ρ c main_v17 (by decide)).trans ((W6_of m ρ c main_v17 (by decide)).trans ((W5_of m ρ c main_v17 (by decide)).trans ((W4_arr m ρ c 3).trans ((y (V3 m ρ) c).trans (funext fun i => congrArg₂ (· + ·) (congrFun (congrArg₂ prodNN (W3_act m ρ c) ((kept m ρ c (by decide) ((W1_casts m ρ c).2.1)).2.1)) i) (congrFun ((kept m ρ c (by decide) ((W1_casts m ρ c).2.2.2.1)).2.1) i)))))))

theorem W8_dw_down : W8 m ρ c (Proc.devRef .tc main_v18) = (prodTN (acts m c) (arg m c main_arg6) : Shape.Idx S2816x1024 → EReal) :=
  (W8_of m ρ c main_v18 (by decide)).trans ((W7_of m ρ c main_v18 (by decide)).trans ((W6_of m ρ c main_v18 (by decide)).trans ((W5_arr m ρ c 2).trans ((dw_down (V4 m ρ) c).trans (congrArg₂ prodTN ((W4_of m ρ c main_v16 (by decide)).trans (W3_act m ρ c)) ((kept m ρ c (by decide) ((W1_casts m ρ c).2.2.2.2)).2.2.1))))))

theorem W8_dact : W8 m ρ c (Proc.devRef .tc main_v19) = (prodNT (arg m c main_arg6) (arg m c main_arg5) : Shape.Idx S2048x2816 → EReal) :=
  (W8_of m ρ c main_v19 (by decide)).trans ((W7_of m ρ c main_v19 (by decide)).trans ((W6_arr m ρ c 2).trans ((dact (V5 m ρ) c).trans (congrArg₂ prodNT ((kept m ρ c (by decide) ((W1_casts m ρ c).2.2.2.2)).2.2.2.1) ((kept m ρ c (by decide) ((W1_casts m ρ c).2.1)).2.2.2.1)))))

theorem W8_dw_up : W8 m ρ c (Proc.devRef .tc main_v20) = (prodTN (arg m c main_arg7) (arg m c main_arg1) : Shape.Idx S5632x1024 → EReal) :=
  (W8_of m ρ c main_v20 (by decide)).trans ((W7_arr m ρ c 2).trans ((dw_up (V6 m ρ) c).trans (congrArg₂ prodTN ((kept m ρ c (by decide) ((W1_casts m ρ c).2.2.1)).2.2.2.2.1) ((kept m ρ c (by decide) ((W1_casts m ρ c).1)).2.2.2.2.1))))

theorem W8_dh : W8 m ρ c (Proc.devRef .tc main_v21) = (prodNT (arg m c main_arg7) (arg m c main_arg2) : Shape.Idx S2048x1024 → EReal) :=
  (W8_arr m ρ c 2).trans ((dh (V7 m ρ) c).trans (congrArg₂ prodNN ((kept m ρ c (by decide) ((W1_casts m ρ c).2.2.1)).2.2.2.2.2) ((kept m ρ c (by decide) ((W1_up m ρ c))).2.2.2.2.2)))

end Cert.Dense.Mix
-- ==== Proof.MixRef.lean ====
/-
  What the reference of the channel mixer computes.
-/
module
public import proofs.«01_k».proof.Proof.MixAct
public import proofs.«01_k».proof.Proof.Gen.MixerRefIdeal.Run
@[expose] public section
set_option maxRecDepth 16384
noncomputable section
namespace Cert.Dense.MixRef
open Idealize.ShloMosaic Idealize.ShloMosaic.TcCoe Idealize.SL.Sem Cert.MixerRefIdeal Cert.MixerRefIdeal.Gen

/-! ## The gradients -/

theorem ref_dact (dy : FVec Ideal S2048x1024 .f32) (w : FVec Ideal S2816x1024 .f32) :
    Host.dotGeneral dot_S2048x1024_S2816x1024_S2048x2816_1_1_0_0_n_n none dy w = (prodNT dy w : Shape.Idx S2048x2816 → EReal) := by
  funext j
  idx_vars j
  pointwise []
  rfl

theorem ref_dw_down (a : FVec Ideal S2048x2816 .f32) (dy : FVec Ideal S2048x1024 .f32) :
    truncf .bf16 (transpose S2816x1024 [1, 0] (Host.dotGeneral dot_S2048x1024_S2048x2816_S1024x2816_0_0_1_1_n_n none dy a) transposes_S1024x2816_S2816x1024_1_0) bitsLt_bf16_f32
      = (prodTN a dy : Shape.Idx S2816x1024 → EReal) := by
  funext j
  idx_vars j
  refine Eq.trans ?_ (Finset.sum_congr rfl fun k _ => mul_comm _ _)
  pointwise []

theorem ref_dw_up (h : FVec Ideal S2048x1024 .f32) (dup : FVec Ideal S2048x5632 .f32) :
    truncf .bf16 (transpose S5632x1024 [1, 0] (transpose S1024x5632 [1, 0] (Host.dotGeneral dot_S2048x5632_S2048x1024_S5632x1024_0_0_1_1_n_n none dup h) transposes_S5632x1024_S1024x5632_1_0) transposes_S1024x5632_S5632x1024_1_0) bitsLt_bf16_f32
      = (prodTN dup h : Shape.Idx S5632x1024 → EReal) := by
  funext j
  idx_vars j
  pointwise []
  rfl

theorem ref_dh (dup : FVec Ideal S2048x5632 .f32) (w : FVec Ideal S1024x5632 .f32) :
    Host.dotGeneral dot_S2048x5632_S1024x5632_S2048x1024_1_1_0_0_n_n none dup w = (prodNT dup w : Shape.Idx S2048x1024 → EReal) := by
  funext j
  idx_vars j
  pointwise []
  rfl

theorem ref_y (x : FVec Ideal S2048x1024 .f32) (a : FVec Ideal S2048x2816 .f32) (w : FVec Ideal S2816x1024 .f32) :
    addf x (Host.dotGeneral dot_S2048x2816_S2816x1024_S2048x1024_1_0_0_1_n_n none a w) = (fun i => prodNN a w i + x i : Shape.Idx S2048x1024 → EReal) := by
  funext j
  idx_vars j
  refine Eq.trans ?_ (add_comm _ _)
  pointwise []
  rfl

theorem ref_up (h : FVec Ideal S2048x1024 .f32) (w : FVec Ideal S1024x5632 .f32) :
    Host.dotGeneral dot_S2048x1024_S1024x5632_S2048x5632_1_0_0_1_n_n none h w = (prodNN h w : Shape.Idx S2048x5632 → EReal) := by
  funext j
  idx_vars j
  pointwise []
  rfl

/-! ## The activation -/

variable (u : FVec Ideal S2048x5632 .f32)

/-- The rows delayed by two. -/
def late2 : FVec Ideal S2048x5632 .f32 :=
  concatenate S2048x5632 0 [⟨S2x5632, (broadcastInDim S2x5632 ![] bcast_S_S2x5632 (constant S_ .f32 0x00000000#32 : FVec Ideal S_ .f32) : FVec Ideal S2x5632 .f32)⟩,
    ⟨S2046x5632, (extractStridedSlice S2046x5632 ![0, 0] u slices_S2048x5632_S2046x5632_0_0)⟩] concatenates_S2x5632_S2046x5632_S2048x5632_d0

/-- The rows delayed by one. -/
def late1 : FVec Ideal S2048x5632 .f32 :=
  concatenate S2048x5632 0 [⟨S1x5632, (broadcastInDim S1x5632 ![] bcast_S_S1x5632 (constant S_ .f32 0x00000000#32 : FVec Ideal S_ .f32) : FVec Ideal S1x5632 .f32)⟩,
    ⟨S2047x5632, (extractStridedSlice S2047x5632 ![0, 0] u slices_S2048x5632_S2047x5632_0_0)⟩] concatenates_S1x5632_S2047x5632_S2048x5632_d0

theorem late2_eq (a : Fin 2048) (b : Fin 5632) : late2 u (ix2 a b) = Mix.padded (T := 2048) (C := 5632) u (a.val + 6) b := by
  unfold late2 Mix.padded
  pointwise []
  by_cases h : a.val < 2
  · rw [dif_pos h, dif_neg (by omega)]
  · rw [dif_neg h, dif_pos (by omega)]
    refine congrArg u (idx2_eq _ _ ?_ rfl)
    show a.val - 2 = a.val + 6 - 8
    omega

theorem late1_eq (a : Fin 2048) (b : Fin 5632) : late1 u (ix2 a b) = Mix.padded (T := 2048) (C := 5632) u (a.val + 7) b := by
  unfold late1 Mix.padded
  pointwise []
  by_cases h : a.val < 1
  · rw [dif_pos h, dif_neg (by omega)]
  · rw [dif_neg h, dif_pos (by omega)]
    refine congrArg u (idx2_eq _ _ ?_ rfl)
    show a.val - 1 = a.val + 7 - 8
    omega

theorem here_eq (a : Fin 2048) (b : Fin 5632) : u (ix2 a b) = Mix.padded (T := 2048) (C := 5632) u (a.val + 8) b := by
  unfold Mix.padded
  rw [dif_pos (by omega)]
  rfl

/-- A row of the weights, laid under every row. -/
def under (n : Fin 3) (h : S3x5632.Slices ![n.val, 0] S1x5632) (w : FVec Ideal S3x5632 .f32) : FVec Ideal S2048x5632 .f32 :=
  broadcastInDim S2048x5632 ![0, 1] bcast_S1x5632_S2048x5632_0_1 (broadcastInDim S1x5632 ![1] bcast_S5632_S1x5632_1
    (shapeCast S5632 (extractStridedSlice S1x5632 ![n.val, 0] w h) shapeCasts_S1x5632_S5632))

theorem under_eq (n : Fin 3) (h) (w : FVec Ideal S3x5632 .f32) (a : Fin 2048) (b : Fin 5632) : under n h w (ix2 a b) = Mix.wrow n w (ix2 0 b) := by
  unfold under
  pointwise []
  rfl

/-- The convolved rows. -/
def convolved (w : FVec Ideal S3x5632 .f32) (b : FVec Ideal S5632 .f32) : FVec Ideal S2048x5632 .f32 :=
  addf (addf (addf (mulf (under 0 slices_S3x5632_S1x5632_0_0 w) (late2 u)) (mulf (under 1 slices_S3x5632_S1x5632_1_0 w) (late1 u))) (mulf (under 2 slices_S3x5632_S1x5632_2_0 w) u))
    (broadcastInDim S2048x5632 ![0, 1] bcast_S1x5632_S2048x5632_0_1 (broadcastInDim S1x5632 ![1] bcast_S5632_S1x5632_1 b))

theorem convolved_eq (w : FVec Ideal S3x5632 .f32) (b : FVec Ideal S5632 .f32) (i : Fin 2048) (k : Fin 5632) :
    convolved u w b (ix2 i k)
      = Mix.conv (T := 2048) (C := 5632) u (Mix.wrow 0 w (ix2 0 k)) (Mix.wrow 1 w (ix2 0 k)) (Mix.wrow 2 w (ix2 0 k)) (Mix.brow b (ix2 0 k)) i.val k := by
  unfold convolved Mix.conv
  rw [← late2_eq, ← late1_eq, ← here_eq, ← under_eq 0 slices_S3x5632_S1x5632_0_0 w i, ← under_eq 1 slices_S3x5632_S1x5632_1_0 w i, ← under_eq 2 slices_S3x5632_S1x5632_2_0 w i]
  pointwise []
  rfl

/-- The gate, of the left half of the columns, times the right half. -/
def gated (v : FVec Ideal S2048x5632 .f32) : FVec Ideal S2048x2816 .f32 :=
  mulf (mulf (extractStridedSlice S2048x2816 ![0, 0] v slices_S2048x5632_S2048x2816_0_0)
      (Host.divf (broadcastInDim S2048x2816 ![] bcast_S_S2048x2816 (constant S_ .f32 0x3F800000#32 : FVec Ideal S_ .f32))
        (addf (broadcastInDim S2048x2816 ![] bcast_S_S2048x2816 (constant S_ .f32 0x3F800000#32 : FVec Ideal S_ .f32))
          (Host.exp (Host.negf (extractStridedSlice S2048x2816 ![0, 0] v slices_S2048x5632_S2048x2816_0_0))))))
    (extractStridedSlice S2048x2816 ![0, 2816] v slices_S2048x5632_S2048x2816_0_2816)

theorem gated_eq (v : FVec Ideal S2048x5632 .f32) (a : Fin 2048) (b : Fin 2816) : gated v (ix2 a b) = Mix.glu (v (ix2 a (Mix.lo b))) (v (ix2 a (Mix.hi b))) := by
  unfold gated Mix.glu
  pointwise []
  rfl

/-- The reference's activation. -/
theorem gated_convolved (w : FVec Ideal S3x5632 .f32) (b : FVec Ideal S5632 .f32) :
    gated (convolved u w b) = Mix.activation u (Mix.wrow 0 w) (Mix.wrow 1 w) (Mix.wrow 2 w) (Mix.brow b) := by
  funext j
  idx_vars j
  rw [gated_eq, convolved_eq, convolved_eq]
  rfl

/-! ## The two results that read the activation -/

variable (m : (ℓ : Loc nD τ sig) → Buf (Elt Ideal) ℓ) (c : Dev nD)
  (x h : FVec Ideal S2048x1024 .f32) (w : FVec Ideal S1024x5632 .f32) (cw : FVec Ideal S3x5632 .f32) (cb : FVec Ideal S5632 .f32) (wd : FVec Ideal S2816x1024 .f32) (dy : FVec Ideal S2048x1024 .f32)
  (h0 : m ((c.tc : Thread nD τ).loc main_arg0) = x) (h1 : m ((c.tc : Thread nD τ).loc main_arg1) = h) (h2 : m ((c.tc : Thread nD τ).loc main_arg2) = w)
  (h3 : m ((c.tc : Thread nD τ).loc main_arg3) = cw) (h4 : m ((c.tc : Thread nD τ).loc main_arg4) = cb) (h5 : m ((c.tc : Thread nD τ).loc main_arg5) = wd)
  (h6 : m ((c.tc : Thread nD τ).loc main_arg6) = dy)

include h0 h1 h2 h3 h4 h5 in
theorem res_y : Value.res_main_v32 m c = (fun i => prodNN (Mix.activation (prodNN h w) (Mix.wrow 0 cw) (Mix.wrow 1 cw) (Mix.wrow 2 cw) (Mix.brow cb)) wd i + x i : Shape.Idx S2048x1024 → EReal) := by
  rw [← gated_convolved (prodNN h w) cw cb, ← ref_up h w]
  refine Eq.trans ?_ (ref_y x _ wd)
  subst h0 h1 h2 h3 h4 h5
  rfl

include h1 h2 h3 h4 h6 in
theorem res_dw_down : Value.res_main_v39 m c = (prodTN (Mix.activation (prodNN h w) (Mix.wrow 0 cw) (Mix.wrow 1 cw) (Mix.wrow 2 cw) (Mix.brow cb)) dy : Shape.Idx S2816x1024 → EReal) := by
  rw [← gated_convolved (prodNN h w) cw cb, ← ref_up h w]
  refine Eq.trans ?_ (ref_dw_down _ dy)
  subst h1 h2 h3 h4 h6
  rfl

end Cert.Dense.MixRef
-- ==== Proof.RmsArray.lean ====
/-
  The arrays that the gradient of the root-mean-square normalisation leaves, and what its reference computes.
-/
module
public import proofs.«01_k».proof.Proof.RowMath
public import Idealize.ShloMosaic.Lib.Pipeline.ValueKit
public import proofs.«01_k».proof.Proof.Gen.RmsGradIdeal.Value
public import proofs.«01_k».proof.Proof.Gen.RmsGradRefIdeal.Run
@[expose] public section
set_option maxRecDepth 16384
noncomputable section
namespace Cert.Rows.Rms
open Finset Idealize.ShloMosaic Idealize.ShloMosaic.TcCoe Idealize.ShloMosaic.Tactic Idealize.SL.Sem Cert.RmsGradIdeal Cert.RmsGradIdeal.Gen
open Idealize.ShloMosaic.Pipeline (Dat)

/-- The gradient at the rows, the residual's gradient added. -/
def gradX (x : Shape.Idx S2048x1024 → EReal) (g : S1024.Idx → EReal) (d a : Shape.Idx S2048x1024 → EReal) : Shape.Idx S2048x1024 → EReal :=
  fun j => rmsBack (row x (j 0)) (row d (j 0)) (fun k => g (ix1 k)) (j 1) + a j

/-- The gradient at the weights. -/
def gradG (x d : Shape.Idx S2048x1024 → EReal) : Shape.Idx S1x1024 → EReal := fun j => ∑ r : Fin 2048, rmsPart (row x r) (row d r) (j 1)

/-! ## A point's arithmetic -/

theorem part_eq (x d : FVec Ideal S512x1024 .f32) (j : Shape.Idx S1x1024) : k0_pay4 (F := Ideal) x d j = ∑ r : Fin 512, rmsPart (row x r) (row d r) (j 1) := by
  unfold k0_pay4 k0_pay3 k0_pay2
  idx_vars j
  pointwise []
  rfl

theorem added (v w : FVec Ideal S1x1024 .f32) (j : Shape.Idx S1x1024) : k0_pay1 v w j = w j + v j := by
  unfold k0_pay1
  idx_vars j
  pointwise []

theorem back_eq (x : FVec Ideal S512x1024 .f32) (g : FVec Ideal S1x1024 .f32) (d a : FVec Ideal S512x1024 .f32) (j : Shape.Idx S512x1024) :
    k0_pay5 (F := Ideal) x g d a j = rmsBack (row x (j 0)) (row d (j 0)) (row g 0) (j 1) + a j := by
  unfold k0_pay5 k0_pay3 k0_pay2
  idx_vars j
  pointwise []
  rfl

variable (m : (ℓ : Loc nD τ sig) → Buf (Elt Ideal) ℓ) (ρ : Dev nD → PrngReg) (c : Dev nD)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] := by decide +kernel

theorem bound (t : Fin cfg0.N) (r : Fin 512) : 512 * t.val + r.val < 2048 := by
  have h := t.isLt
  have : cfg0.N = 4 := rfl
  omega

/-- A row of a point's block is a row of the whole array. -/
theorem row_x (t : Fin cfg0.N) (r : Fin 512) :
    row (M := 512) (N := 1024) (iblk m c 0 t) r = row (M := 2048) (N := 1024) (m ((c.tc : Thread nD τ).loc main_arg0)) ⟨512 * t.val + r.val, bound t r⟩ := by
  funext k
  unfold row
  rw [← V_main_arg0 m c]
  blk_ext [iblk, idx t]

theorem row_d (t : Fin cfg0.N) (r : Fin 512) :
    row (M := 512) (N := 1024) (iblk m c 2 t) r = row (M := 2048) (N := 1024) (m ((c.tc : Thread nD τ).loc main_arg2)) ⟨512 * t.val + r.val, bound t r⟩ := by
  funext k
  unfold row
  rw [← V_main_arg2 m c]
  blk_ext [iblk, idx t]

theorem V_g : V m c main_v0 = (fun j => m ((c.tc : Thread nD τ).loc main_arg1) (ix1 (j 1)) : Shape.Idx S1x1024 → EReal) := by
  have e : V m c main_v0 = broadcastInDim S1x1024 ![1] bcast_S1024_S1x1024_1 (m ((c.tc : Thread nD τ).loc main_arg1)) := by
    unfold V
    after_results
  rw [e]
  funext j
  idx_vars j
  pointwise []

theorem row_g (t : Fin cfg0.N) : row (M := 1) (N := 1024) (iblk m c 1 t) 0 = fun k => m ((c.tc : Thread nD τ).loc main_arg1) (ix1 k) := by
  funext k
  refine Eq.trans ?_ (congrFun (V_g m c) (ix2 0 k))
  unfold row
  blk_ext [iblk, idx t]

/-- What the first point leaves. -/
theorem first_point (h : 0 < cfg0.N) : outsAt0 m c 0 h = (k0_pay5 (F := Ideal) (iblk m c 0 ⟨0, h⟩) (iblk m c 1 ⟨0, h⟩) (iblk m c 2 ⟨0, h⟩) (iblk m c 3 ⟨0, h⟩), k0_pay4 (iblk m c 0 ⟨0, h⟩) (iblk m c 2 ⟨0, h⟩)) := by
  rw [show outsAt0 m c 0 h = _ from outsAt0_A m c ⟨0, h⟩ rfl (by simp)]
  refine Prod.ext ?_ ?_
  · frame_out
  · frame_out

/-- What another point leaves, over what the point before left. -/
theorem next_point (n : ℕ) (h : n + 1 < cfg0.N) : outsAt0 m c (n + 1) h = (k0_pay5 (F := Ideal) (iblk m c 0 ⟨n + 1, h⟩) (iblk m c 1 ⟨n + 1, h⟩) (iblk m c 2 ⟨n + 1, h⟩) (iblk m c 3 ⟨n + 1, h⟩),
    k0_pay1 (k0_pay4 (iblk m c 0 ⟨n + 1, h⟩) (iblk m c 2 ⟨n + 1, h⟩)) (outsAt0 m c n (Nat.lt_of_succ_lt h)).2) := by
  rw [show outsAt0 m c (n + 1) h = _ from outsAt0_B m c ⟨n + 1, h⟩ (by have : cfg0.N = 4 := rfl; simp; omega) (by simp)]
  refine Prod.ext ?_ ?_
  · frame_out
  · frame_out
    rfl

/-- What a point leaves at the rows. -/
theorem left_x (t : Fin cfg0.N) : (outsAt0 m c t.val t.isLt).1 = k0_pay5 (F := Ideal) (iblk m c 0 t) (iblk m c 1 t) (iblk m c 2 t) (iblk m c 3 t) := by
  obtain ⟨n, h⟩ := t
  cases n with
  | zero => exact congrArg (·.1) (first_point m c h)
  | succ n => exact congrArg (·.1) (next_point m c n h)

/-- What a point leaves at the weights: the rows of the points up to it. -/
theorem left_g : ∀ (n : ℕ) (h : n < cfg0.N), (outsAt0 m c n h).2 = (fun j => ∑ r ∈ range (512 * (n + 1)),
    rowf (fun r : Fin 2048 => rmsPart (row (M := 2048) (N := 1024) (m ((c.tc : Thread nD τ).loc main_arg0)) r) (row (M := 2048) (N := 1024) (m ((c.tc : Thread nD τ).loc main_arg2)) r) (j 1)) r : Shape.Idx S1x1024 → EReal)
  | 0, h => by
    rw [first_point]
    dsimp only
    funext j
    rw [part_eq, sum_first]
    refine sum_congr rfl fun r _ => ?_
    rw [row_x, row_d, rowf_of]
  | n + 1, h => by
    rw [next_point]
    dsimp only
    funext j
    rw [added, part_eq, sum_next]
    refine congrArg₂ (· + ·) (congrFun (left_g n _) j) (sum_congr rfl fun r _ => ?_)
    rw [row_x, row_d, rowf_of]

/-! ## The whole arrays -/

theorem final_x : (dats m 0 c).arrAt 4 cfg0.N = (gradX (m ((c.tc : Thread nD τ).loc main_arg0)) (m ((c.tc : Thread nD τ).loc main_arg1)) (m ((c.tc : Thread nD τ).loc main_arg2)) (m ((c.tc : Thread nD τ).loc main_arg3)) : Shape.Idx S2048x1024 → EReal) := by
  refine (dats m 0 c).arrAt_eq_of_covers 4 (gradX (m ((c.tc : Thread nD τ).loc main_arg0)) (m ((c.tc : Thread nD τ).loc main_arg1)) (m ((c.tc : Thread nD τ).loc main_arg2)) (m ((c.tc : Thread nD τ).loc main_arg3)) : Shape.Idx S2048x1024 → EReal) (by decide +kernel) fun t _ j => ?_
  blk_simp
  rw [after0_4, left_x, back_eq]
  unfold gradX
  refine congrArg₂ (· + ·) (rmsBack_congr ((row_x m c t (j 0)).trans (congrArg _ (Fin.ext ?_))) ((row_d m c t (j 0)).trans (congrArg _ (Fin.ext ?_))) (row_g m c t) (Fin.ext ?_)) ?_
  · blk_simp [idx t]
    exact congrArg (· + _) (mul_comm 512 _)
  · blk_simp [idx t]
    exact congrArg (· + _) (mul_comm 512 _)
  · blk_simp [idx t]
  · rw [← V_main_arg3 m c]
    blk_ext [iblk, idx t]

theorem final_g : (dats m 0 c).arrAt 5 cfg0.N = (gradG (m ((c.tc : Thread nD τ).loc main_arg0)) (m ((c.tc : Thread nD τ).loc main_arg2)) : Shape.Idx S1x1024 → EReal) := by
  refine (dats m 0 c).arrAt_eq_of_covers 5 (gradG (m ((c.tc : Thread nD τ).loc main_arg0)) (m ((c.tc : Thread nD τ).loc main_arg2)) : Shape.Idx S1x1024 → EReal) (by decide +kernel) fun t hf j => ?_
  have ht : t.val = 3 := (by decide +kernel : ∀ t : Fin cfg0.N, win0_5.flush t = true → t.val = 3) t hf
  blk_simp
  rw [after0_5, left_g]
  rw [ht]
  refine (sum_rowf _).trans ?_
  unfold gradG
  refine sum_congr rfl fun r _ => congrArg _ (Fin.ext ?_)
  blk_simp [idx t]

end Cert.Rows.Rms

/-! ## The reference -/

namespace Cert.Rows.RmsRef
open Finset Idealize.ShloMosaic Idealize.ShloMosaic.TcCoe Idealize.SL.Sem Cert.RmsGradRefIdeal Cert.RmsGradRefIdeal.Gen

/-- The mean of each row's squares, and the constant added to it. -/
def means (x : FVec Ideal S2048x1024 .f32) : FVec Ideal S2048x1 .f32 :=
  addf (Host.divf (broadcastInDim S2048x1 ![0] bcast_S2048_S2048x1_0 (Host.reduceAdd (mulf x x) (constant S_ .f32 0x00000000#32 : FVec Ideal S_ .f32) reducesTo_S2048x1024_S2048_d1 h_S_)) (broadcastInDim S2048x1 ![] bcast_S_S2048x1 (constant S_ .f32 0x44800000#32 : FVec Ideal S_ .f32))) (broadcastInDim S2048x1 ![] bcast_S_S2048x1 (constant S_ .f32 0x358637BD#32 : FVec Ideal S_ .f32))

/-- The weights on every row. -/
def weights (g : FVec Ideal S1024 .f32) : FVec Ideal S2048x1024 .f32 := broadcastInDim S2048x1024 ![0, 1] bcast_S1x1024_S2048x1024_0_1 (broadcastInDim S1x1024 ![1] bcast_S1024_S1x1024_1 g)

/-- What the gradients at the means contribute to each row's entries. -/
def coefs (x : FVec Ideal S2048x1024 .f32) (g : FVec Ideal S1024 .f32) (d : FVec Ideal S2048x1024 .f32) : FVec Ideal S2048x1024 .f32 :=
  broadcastInDim S2048x1024 ![0] bcast_S2048_S2048x1024_0 (Host.reduceAdd (Host.divf (mulf (shapeCast _ (Host.reduceAdd (mulf x (mulf d (weights g))) (constant S_ .f32 0x00000000#32 : FVec Ideal S_ .f32) reducesTo_S2048x1024_S2048_d1 h_S_) shapeCasts_S2048_S2048x1) (mulf (broadcastInDim S2048x1 ![] bcast_S_S2048x1 (constant S_ .f32 0xBF000000#32 : FVec Ideal S_ .f32)) (Host.divf (Host.rsqrt (means x)) (means x)))) (broadcastInDim S2048x1 ![] bcast_S_S2048x1 (constant S_ .f32 0x44800000#32 : FVec Ideal S_ .f32))) (constant S_ .f32 0x00000000#32 : FVec Ideal S_ .f32) reducesTo_S2048x1_S2048_d1 h_S_)

theorem ref_x (x d a : FVec Ideal S2048x1024 .f32) (g : FVec Ideal S1024 .f32) :
    addf (addf (addf (mulf (mulf d (weights g)) (broadcastInDim S2048x1024 ![0, 1] bcast_S2048x1_S2048x1024_0_1 (Host.rsqrt (means x)))) (mulf x (coefs x g d))) (mulf (coefs x g d) x)) a
      = (Rms.gradX x g d a : Shape.Idx S2048x1024 → EReal) := by
  unfold coefs weights means
  funext j
  idx_vars j
  pointwise []
  rfl

theorem ref_g (x d : FVec Ideal S2048x1024 .f32) :
    broadcastInDim S1x1024 ![1] bcast_S1024_S1x1024_1 (Host.reduceAdd (shapeCast S1x1024 (Host.reduceAdd (mulf (mulf x (broadcastInDim S2048x1024 ![0, 1] bcast_S2048x1_S2048x1024_0_1 (Host.rsqrt (means x)))) d) (constant S_ .f32 0x00000000#32 : FVec Ideal S_ .f32) reducesTo_S2048x1024_S1024_d0 h_S_) shapeCasts_S1024_S1x1024) (constant S_ .f32 0x00000000#32 : FVec Ideal S_ .f32) reducesTo_S1x1024_S1024_d0 h_S_)
      = (Rms.gradG x d : Shape.Idx S1x1024 → EReal) := by
  unfold means
  funext j
  idx_vars j
  pointwise []
  exact Fin.sum_univ_one _

end Cert.Rows.RmsRef
-- ==== Proof.NormArray.lean ====
/-
  The arrays that the gradient of the normalisation and its swish leaves, and what its reference computes.
-/
module
public import proofs.«01_k».proof.Proof.RowMath
public import Idealize.ShloMosaic.Lib.Pipeline.ValueKit
public import proofs.«01_k».proof.Proof.Gen.NormGradIdeal.Value
public import proofs.«01_k».proof.Proof.Gen.NormGradRefIdeal.Run
@[expose] public section
set_option maxRecDepth 16384
noncomputable section
namespace Cert.Rows.Norm
open Finset Idealize.ShloMosaic Idealize.ShloMosaic.TcCoe Idealize.ShloMosaic.Tactic Idealize.SL.Sem Cert.NormGradIdeal Cert.NormGradIdeal.Gen
open Idealize.ShloMosaic.Pipeline (Dat)

/-- The gradient at the rows. -/
def gradX (x : Shape.Idx S2048x512 → EReal) (g b : S512.Idx → EReal) (d : Shape.Idx S2048x512 → EReal) : Shape.Idx S2048x512 → EReal :=
  fun j => nrmBack (row x (j 0)) (fun k => g (ix1 k)) (preBack (row x (j 0)) (fun k => g (ix1 k)) (fun k => b (ix1 k)) (row d (j 0))) (j 1)

/-- The gradient at the weights. -/
def gradG (x : Shape.Idx S2048x512 → EReal) (g b : S512.Idx → EReal) (d : Shape.Idx S2048x512 → EReal) : Shape.Idx S1x512 → EReal :=
  fun j => ∑ r : Fin 2048, nrm (row x r) (j 1) * preBack (row x r) (fun k => g (ix1 k)) (fun k => b (ix1 k)) (row d r) (j 1)

/-- The gradient at the offsets. -/
def gradB (x : Shape.Idx S2048x512 → EReal) (g b : S512.Idx → EReal) (d : Shape.Idx S2048x512 → EReal) : Shape.Idx S1x512 → EReal :=
  fun j => ∑ r : Fin 2048, preBack (row x r) (fun k => g (ix1 k)) (fun k => b (ix1 k)) (row d r) (j 1)

/-! ## A point's arithmetic -/

variable (x d : FVec Ideal S512x512 .f32) (g b : FVec Ideal S1x512 .f32)

theorem cen_eq (j : Shape.Idx S512x512) : k0_pay3 (F := Ideal) x j = cen (row x (j 0)) (j 1) := by
  unfold k0_pay3
  idx_vars j
  pointwise []
  rfl

theorem variance_eq (j : Shape.Idx S512x1) : k0_pay4 (F := Ideal) x j = variance (row x (j 0)) := by
  unfold k0_pay4 k0_pay3
  idx_vars j
  pointwise []
  rfl

theorem rsqrt_eq (j : Shape.Idx S512x1) : k0_pay5 (F := Ideal) x j = Ideal.rsqrt (variance (row x (j 0))) := by
  rw [← variance_eq]
  rfl

theorem half_eq (j : Shape.Idx S512x1) : k0_pay6 (F := Ideal) x j = Ideal.ofBits .f32 3204448256#32 * Ideal.div (Ideal.rsqrt (variance (row x (j 0)))) (variance (row x (j 0))) := by
  rw [← rsqrt_eq, ← variance_eq]
  rfl

theorem nrm_eq (j : Shape.Idx S512x512) : k0_pay7 (F := Ideal) x j = nrm (row x (j 0)) (j 1) := by
  unfold k0_pay7 nrm
  rw [← cen_eq]
  idx_vars j
  refine Eq.trans ?_ (congrArg (k0_pay3 x (ix2 j0 j1) * ·) (rsqrt_eq x (ix2 j0 0)))
  pointwise []

theorem pre_eq (j : Shape.Idx S512x512) : k0_pay8 (F := Ideal) x g b d j = preBack (row x (j 0)) (row g 0) (row b 0) (row d (j 0)) (j 1) := by
  unfold preBack pre
  rw [← nrm_eq]
  unfold k0_pay8 k0_pay2
  idx_vars j
  pointwise []
  rfl

theorem partB_eq (j : Shape.Idx S1x512) : k0_pay9 (F := Ideal) x g b d j = ∑ r : Fin 512, preBack (row x r) (row g 0) (row b 0) (row d r) (j 1) := by
  refine Eq.trans ?_ (sum_congr rfl fun r _ => pre_eq x d g b (ix2 r (j 1)))
  unfold k0_pay9
  idx_vars j
  pointwise []

theorem partG_eq (j : Shape.Idx S1x512) :
    k0_pay11 (F := Ideal) (k0_pay10 x g b d) j = ∑ r : Fin 512, nrm (row x r) (j 1) * preBack (row x r) (row g 0) (row b 0) (row d r) (j 1) := by
  refine Eq.trans ?_ (sum_congr rfl fun r _ => congrArg₂ (· * ·) (nrm_eq x (ix2 r (j 1))) (pre_eq x d g b (ix2 r (j 1))))
  unfold k0_pay11 k0_pay10
  idx_vars j
  pointwise []

theorem back_eq (j : Shape.Idx S512x512) :
    k0_pay12 (F := Ideal) (k0_pay2 g) (k0_pay3 x) (k0_pay5 x) (k0_pay6 x) (k0_pay8 x g b d) j
      = nrmBack (row x (j 0)) (row g 0) (preBack (row x (j 0)) (row g 0) (row b 0) (row d (j 0))) (j 1) := by
  unfold k0_pay12 k0_pay2
  idx_vars j
  pointwise [cen_eq, rsqrt_eq, half_eq, pre_eq]
  simp only [zero_sub]
  rfl

theorem addedB (v w : FVec Ideal S1x512 .f32) (j : Shape.Idx S1x512) : k0_pay1 v w j = w j + v j := by
  unfold k0_pay1
  idx_vars j
  pointwise []

theorem addedG (v : FVec Ideal S512 .f32) (w : FVec Ideal S1x512 .f32) (j : Shape.Idx S1x512) : k0_pay13 v w j = w j + k0_pay11 v j := by
  unfold k0_pay13
  idx_vars j
  pointwise []

/-! ## What the points leave -/

variable (c : Dev nD)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] := by decide +kernel

theorem bound (t : Fin cfg0.N) (r : Fin 512) : 512 * t.val + r.val < 2048 := by
  have h := t.isLt
  have : cfg0.N = 4 := rfl
  omega

/-- A row of a point's block is a row of the whole array. -/
theorem row_x (t : Fin cfg0.N) (r : Fin 512) :
    row (M := 512) (N := 512) (iblk m c 0 t) r = row (M := 2048) (N := 512) (m ((c.tc : Thread nD τ).loc main_arg0)) ⟨512 * t.val + r.val, bound t r⟩ := by
  funext k
  unfold row
  rw [← V_main_arg0 m c]
  blk_ext [iblk, idx t]

theorem row_d (t : Fin cfg0.N) (r : Fin 512) :
    row (M := 512) (N := 512) (iblk m c 3 t) r = row (M := 2048) (N := 512) (m ((c.tc : Thread nD τ).loc main_arg3)) ⟨512 * t.val + r.val, bound t r⟩ := by
  funext k
  unfold row
  rw [← V_main_arg3 m c]
  blk_ext [iblk, idx t]

theorem V_g : V m c main_v0 = (fun j => m ((c.tc : Thread nD τ).loc main_arg1) (ix1 (j 1)) : Shape.Idx S1x512 → EReal) := by
  have e : V m c main_v0 = broadcastInDim S1x512 ![1] bcast_S512_S1x512_1 (m ((c.tc : Thread nD τ).loc main_arg1)) := by
    unfold V
    after_results
  rw [e]
  funext j
  idx_vars j
  pointwise []

theorem row_g (t : Fin cfg0.N) : row (M := 1) (N := 512) (iblk m c 1 t) 0 = fun k => m ((c.tc : Thread nD τ).loc main_arg1) (ix1 k) := by
  funext k
  refine Eq.trans ?_ (congrFun (V_g c m) (ix2 0 k))
  unfold row
  blk_ext [iblk, idx t]

theorem V_b : V m c main_v1 = (fun j => m ((c.tc : Thread nD τ).loc main_arg2) (ix1 (j 1)) : Shape.Idx S1x512 → EReal) := by
  have e : V m c main_v1 = broadcastInDim S1x512 ![1] bcast_S512_S1x512_1 (m ((c.tc : Thread nD τ).loc main_arg2)) := by
    unfold V
    after_results
  rw [e]
  funext j
  idx_vars j
  pointwise []

theorem row_b (t : Fin cfg0.N) : row (M := 1) (N := 512) (iblk m c 2 t) 0 = fun k => m ((c.tc : Thread nD τ).loc main_arg2) (ix1 k) := by
  funext k
  refine Eq.trans ?_ (congrFun (V_b c m) (ix2 0 k))
  unfold row
  blk_ext [iblk, idx t]

/-- What the first point leaves. -/
theorem first_point (h : 0 < cfg0.N) : outsAt0 m c 0 h = (k0_pay12 (F := Ideal) (k0_pay2 (iblk m c 1 ⟨0, h⟩)) (k0_pay3 (iblk m c 0 ⟨0, h⟩)) (k0_pay5 (iblk m c 0 ⟨0, h⟩)) (k0_pay6 (iblk m c 0 ⟨0, h⟩)) (k0_pay8 (iblk m c 0 ⟨0, h⟩) (iblk m c 1 ⟨0, h⟩) (iblk m c 2 ⟨0, h⟩) (iblk m c 3 ⟨0, h⟩)),
    k0_pay11 (k0_pay10 (iblk m c 0 ⟨0, h⟩) (iblk m c 1 ⟨0, h⟩) (iblk m c 2 ⟨0, h⟩) (iblk m c 3 ⟨0, h⟩)),
    k0_pay9 (iblk m c 0 ⟨0, h⟩) (iblk m c 1 ⟨0, h⟩) (iblk m c 2 ⟨0, h⟩) (iblk m c 3 ⟨0, h⟩)) := by
  rw [show outsAt0 m c 0 h = _ from outsAt0_A m c ⟨0, h⟩ rfl (by simp) rfl (by simp)]
  refine Prod.ext ?_ (Prod.ext ?_ ?_)
  · frame_out
  · frame_out
  · frame_out

/-- What another point leaves, over what the point before left. -/
theorem next_point (n : ℕ) (h : n + 1 < cfg0.N) : outsAt0 m c (n + 1) h = (k0_pay12 (F := Ideal) (k0_pay2 (iblk m c 1 ⟨n + 1, h⟩)) (k0_pay3 (iblk m c 0 ⟨n + 1, h⟩)) (k0_pay5 (iblk m c 0 ⟨n + 1, h⟩)) (k0_pay6 (iblk m c 0 ⟨n + 1, h⟩)) (k0_pay8 (iblk m c 0 ⟨n + 1, h⟩) (iblk m c 1 ⟨n + 1, h⟩) (iblk m c 2 ⟨n + 1, h⟩) (iblk m c 3 ⟨n + 1, h⟩)),
    k0_pay13 (k0_pay10 (iblk m c 0 ⟨n + 1, h⟩) (iblk m c 1 ⟨n + 1, h⟩) (iblk m c 2 ⟨n + 1, h⟩) (iblk m c 3 ⟨n + 1, h⟩)) (outsAt0 m c n (Nat.lt_of_succ_lt h)).2.1,
    k0_pay1 (k0_pay9 (iblk m c 0 ⟨n + 1, h⟩) (iblk m c 1 ⟨n + 1, h⟩) (iblk m c 2 ⟨n + 1, h⟩) (iblk m c 3 ⟨n + 1, h⟩)) (outsAt0 m c n (Nat.lt_of_succ_lt h)).2.2) := by
  have hn : ¬(n + 1) % 4 = 0 := by have : cfg0.N = 4 := rfl; omega
  rw [show outsAt0 m c (n + 1) h = _ from outsAt0_B m c ⟨n + 1, h⟩ hn (by simp) hn (by simp)]
  refine Prod.ext ?_ (Prod.ext ?_ ?_)
  · frame_out
  · frame_out
    rfl
  · frame_out
    rfl

/-- What a point leaves at the rows. -/
theorem left_x (t : Fin cfg0.N) : (outsAt0 m c t.val t.isLt).1
    = k0_pay12 (F := Ideal) (k0_pay2 (iblk m c 1 t)) (k0_pay3 (iblk m c 0 t)) (k0_pay5 (iblk m c 0 t)) (k0_pay6 (iblk m c 0 t)) (k0_pay8 (iblk m c 0 t) (iblk m c 1 t) (iblk m c 2 t) (iblk m c 3 t)) := by
  obtain ⟨n, h⟩ := t
  cases n with
  | zero => exact congrArg (·.1) (first_point c m h)
  | succ n => exact congrArg (·.1) (next_point c m n h)

/-- A row's part of the gradient at an offset. -/
def partB (r : Fin 2048) (k : Fin 512) : EReal :=
  preBack (row (M := 2048) (N := 512) (m ((c.tc : Thread nD τ).loc main_arg0)) r) (fun k => (m ((c.tc : Thread nD τ).loc main_arg1)) (ix1 k)) (fun k => (m ((c.tc : Thread nD τ).loc main_arg2)) (ix1 k)) (row (M := 2048) (N := 512) (m ((c.tc : Thread nD τ).loc main_arg3)) r) k

/-- A row's part of the gradient at a weight. -/
def partG (r : Fin 2048) (k : Fin 512) : EReal := nrm (row (M := 2048) (N := 512) (m ((c.tc : Thread nD τ).loc main_arg0)) r) k * partB c m r k

/-- What a point leaves at the weights: the rows of the points up to it. -/
theorem left_g : ∀ (n : ℕ) (h : n < cfg0.N), (outsAt0 m c n h).2.1 = (fun j => ∑ r ∈ range (512 * (n + 1)), rowf (fun r : Fin 2048 => partG c m r (j 1)) r : Shape.Idx S1x512 → EReal)
  | 0, h => by
    rw [first_point]
    dsimp only
    funext j
    rw [partG_eq, sum_first]
    refine sum_congr rfl fun r _ => ?_
    rw [row_x, row_d, row_g, row_b, rowf_of]
    rfl
  | n + 1, h => by
    rw [next_point]
    dsimp only
    funext j
    rw [addedG, partG_eq, sum_next]
    refine congrArg₂ (· + ·) (congrFun (left_g n _) j) (sum_congr rfl fun r _ => ?_)
    rw [row_x, row_d, row_g, row_b, rowf_of]
    rfl

/-- What a point leaves at the offsets: the rows of the points up to it. -/
theorem left_b : ∀ (n : ℕ) (h : n < cfg0.N), (outsAt0 m c n h).2.2 = (fun j => ∑ r ∈ range (512 * (n + 1)), rowf (fun r : Fin 2048 => partB c m r (j 1)) r : Shape.Idx S1x512 → EReal)
  | 0, h => by
    rw [first_point]
    dsimp only
    funext j
    rw [partB_eq, sum_first]
    refine sum_congr rfl fun r _ => ?_
    rw [row_x, row_d, row_g, row_b, rowf_of]
    rfl
  | n + 1, h => by
    rw [next_point]
    dsimp only
    funext j
    rw [addedB, partB_eq, sum_next]
    refine congrArg₂ (· + ·) (congrFun (left_b n _) j) (sum_congr rfl fun r _ => ?_)
    rw [row_x, row_d, row_g, row_b, rowf_of]
    rfl

/-! ## The whole arrays -/

theorem final_x : (dats m 0 c).arrAt 4 cfg0.N = (gradX (m ((c.tc : Thread nD τ).loc main_arg0)) (m ((c.tc : Thread nD τ).loc main_arg1)) (m ((c.tc : Thread nD τ).loc main_arg2)) (m ((c.tc : Thread nD τ).loc main_arg3)) : Shape.Idx S2048x512 → EReal) := by
  refine (dats m 0 c).arrAt_eq_of_covers 4 _ (by decide +kernel) fun t _ j => ?_
  blk_simp
  rw [after0_4, left_x, back_eq, row_g, row_b]
  unfold gradX
  refine congr (congrArg₂ (fun x d => nrmBack x _ (preBack x _ _ d)) ((row_x c m t (j 0)).trans (congrArg _ (Fin.ext ?_))) ((row_d c m t (j 0)).trans (congrArg _ (Fin.ext ?_)))) (Fin.ext ?_)
  · blk_simp [idx t]
    exact congrArg (· + _) (mul_comm 512 _)
  · blk_simp [idx t]
    exact congrArg (· + _) (mul_comm 512 _)
  · blk_simp [idx t]

theorem final_g : (dats m 0 c).arrAt 5 cfg0.N = (gradG (m ((c.tc : Thread nD τ).loc main_arg0)) (m ((c.tc : Thread nD τ).loc main_arg1)) (m ((c.tc : Thread nD τ).loc main_arg2)) (m ((c.tc : Thread nD τ).loc main_arg3)) : Shape.Idx S1x512 → EReal) := by
  refine (dats m 0 c).arrAt_eq_of_covers 5 _ (by decide +kernel) fun t hf j => ?_
  have ht : t.val = 3 := (by decide +kernel : ∀ t : Fin cfg0.N, win0_5.flush t = true → t.val = 3) t hf
  blk_simp
  rw [after0_5, left_g]
  rw [ht]
  refine (sum_rowf _).trans ?_
  refine sum_congr rfl fun r _ => congrArg (partG c m r) (Fin.ext ?_)
  blk_simp [idx t]

theorem final_b : (dats m 0 c).arrAt 6 cfg0.N = (gradB (m ((c.tc : Thread nD τ).loc main_arg0)) (m ((c.tc : Thread nD τ).loc main_arg1)) (m ((c.tc : Thread nD τ).loc main_arg2)) (m ((c.tc : Thread nD τ).loc main_arg3)) : Shape.Idx S1x512 → EReal) := by
  refine (dats m 0 c).arrAt_eq_of_covers 6 _ (by decide +kernel) fun t hf j => ?_
  have ht : t.val = 3 := (by decide +kernel : ∀ t : Fin cfg0.N, win0_6.flush t = true → t.val = 3) t hf
  blk_simp
  rw [after0_6, left_b]
  rw [ht]
  refine (sum_rowf _).trans ?_
  refine sum_congr rfl fun r _ => congrArg (partB c m r) (Fin.ext ?_)
  blk_simp [idx t]

end Cert.Rows.Norm

/-! ## The reference -/

namespace Cert.Rows.NormRef
open Finset Idealize.ShloMosaic Idealize.ShloMosaic.TcCoe Idealize.SL.Sem Cert.NormGradRefIdeal Cert.NormGradRefIdeal.Gen

variable (x : FVec Ideal S2048x512 .f32) (g b : FVec Ideal S512 .f32) (d : FVec Ideal S2048x512 .f32)

/-- The rows less their means. -/
def centred : FVec Ideal S2048x512 .f32 :=
  subf x (broadcastInDim S2048x512 ![0, 1] bcast_S2048x1_S2048x512_0_1 (Host.divf (broadcastInDim S2048x1 ![0] bcast_S2048_S2048x1_0 (Host.reduceAdd x (constant S_ .f32 0x00000000#32 : FVec Ideal S_ .f32) reducesTo_S2048x512_S2048_d1 h_S_)) (broadcastInDim S2048x1 ![] bcast_S_S2048x1 (constant S_ .f32 0x44000000#32 : FVec Ideal S_ .f32))))

/-- The rows' variances, and the constant added to them. -/
def variances : FVec Ideal S2048x1 .f32 :=
  addf (Host.divf (broadcastInDim S2048x1 ![0] bcast_S2048_S2048x1_0 (Host.reduceAdd (mulf (centred x) (centred x)) (constant S_ .f32 0x00000000#32 : FVec Ideal S_ .f32) reducesTo_S2048x512_S2048_d1 h_S_)) (broadcastInDim S2048x1 ![] bcast_S_S2048x1 (constant S_ .f32 0x44000000#32 : FVec Ideal S_ .f32))) (broadcastInDim S2048x1 ![] bcast_S_S2048x1 (constant S_ .f32 0x358637BD#32 : FVec Ideal S_ .f32))

/-- The normalised rows. -/
def normed : FVec Ideal S2048x512 .f32 := mulf (centred x) (broadcastInDim S2048x512 ![0, 1] bcast_S2048x1_S2048x512_0_1 (Host.rsqrt (variances x)))

/-- A vector on every row. -/
def onRows (v : FVec Ideal S512 .f32) : FVec Ideal S2048x512 .f32 := broadcastInDim S2048x512 ![0, 1] bcast_S1x512_S2048x512_0_1 (broadcastInDim S1x512 ![1] bcast_S512_S1x512_1 v)

/-- The rows before their swish. -/
def inner : FVec Ideal S2048x512 .f32 := addf (mulf (normed x) (onRows g)) (onRows b)

/-- The logistic function of those. -/
def gate : FVec Ideal S2048x512 .f32 := Host.divf (broadcastInDim S2048x512 ![] bcast_S_S2048x512 (constant S_ .f32 0x3F800000#32 : FVec Ideal S_ .f32)) (addf (broadcastInDim S2048x512 ![] bcast_S_S2048x512 (constant S_ .f32 0x3F800000#32 : FVec Ideal S_ .f32)) (Host.exp (Host.negf (inner x g b))))

/-- The gradient at the rows before their swish. -/
def back : FVec Ideal S2048x512 .f32 :=
  addf (mulf d (gate x g b)) (mulf (mulf (inner x g b) d) (mulf (gate x g b) (subf (broadcastInDim S2048x512 ![] bcast_S_S2048x512 (constant S_ .f32 0x3F800000#32 : FVec Ideal S_ .f32)) (gate x g b))))

theorem centred_eq (j : Shape.Idx S2048x512) : centred x j = cen (row x (j 0)) (j 1) := by
  unfold centred
  idx_vars j
  pointwise []
  rfl

theorem variances_eq (j : Shape.Idx S2048x1) : variances x j = variance (row x (j 0)) := by
  unfold variances
  idx_vars j
  pointwise [centred_eq]
  rfl

theorem normed_eq (j : Shape.Idx S2048x512) : normed x j = nrm (row x (j 0)) (j 1) := by
  unfold normed
  idx_vars j
  pointwise [centred_eq, variances_eq]
  rfl

theorem inner_eq (j : Shape.Idx S2048x512) : inner x g b j = pre (row x (j 0)) (fun k => g (ix1 k)) (fun k => b (ix1 k)) (j 1) := by
  unfold inner onRows
  idx_vars j
  pointwise [normed_eq]
  rfl

theorem back_eq (j : Shape.Idx S2048x512) : back x g b d j = preBack (row x (j 0)) (fun k => g (ix1 k)) (fun k => b (ix1 k)) (row d (j 0)) (j 1) := by
  unfold back gate
  idx_vars j
  pointwise [inner_eq]
  rfl

variable (e : FVec Ideal S2048x512 .f32)

/-- What the gradients at the variances contribute to each row's entries. -/
def coefs : FVec Ideal S2048x512 .f32 :=
  broadcastInDim S2048x512 ![0] bcast_S2048_S2048x512_0 (Host.reduceAdd (Host.divf (mulf (shapeCast _ (Host.reduceAdd (mulf (centred x) (mulf e (onRows g))) (constant S_ .f32 0x00000000#32 : FVec Ideal S_ .f32) reducesTo_S2048x512_S2048_d1 h_S_) shapeCasts_S2048_S2048x1) (mulf (broadcastInDim S2048x1 ![] bcast_S_S2048x1 (constant S_ .f32 0xBF000000#32 : FVec Ideal S_ .f32)) (Host.divf (Host.rsqrt (variances x)) (variances x)))) (broadcastInDim S2048x1 ![] bcast_S_S2048x1 (constant S_ .f32 0x44000000#32 : FVec Ideal S_ .f32))) (constant S_ .f32 0x00000000#32 : FVec Ideal S_ .f32) reducesTo_S2048x1_S2048_d1 h_S_)

/-- The gradient at the centred rows. -/
def centredBack : FVec Ideal S2048x512 .f32 :=
  addf (addf (mulf (mulf e (onRows g)) (broadcastInDim S2048x512 ![0, 1] bcast_S2048x1_S2048x512_0_1 (Host.rsqrt (variances x)))) (mulf (centred x) (coefs x g e))) (mulf (coefs x g e) (centred x))

/-- The gradient at the rows. -/
def normedBack : FVec Ideal S2048x512 .f32 :=
  addf (centredBack x g e) (broadcastInDim S2048x512 ![0] bcast_S2048_S2048x512_0 (Host.reduceAdd (Host.divf (shapeCast _ (Host.reduceAdd (Host.negf (centredBack x g e)) (constant S_ .f32 0x00000000#32 : FVec Ideal S_ .f32) reducesTo_S2048x512_S2048_d1 h_S_) shapeCasts_S2048_S2048x1) (broadcastInDim S2048x1 ![] bcast_S_S2048x1 (constant S_ .f32 0x44000000#32 : FVec Ideal S_ .f32))) (constant S_ .f32 0x00000000#32 : FVec Ideal S_ .f32) reducesTo_S2048x1_S2048_d1 h_S_))

theorem centredBack_eq (j : Shape.Idx S2048x512) : centredBack x g e j = cenBack (row x (j 0)) (fun k => g (ix1 k)) (row e (j 0)) (j 1) := by
  unfold centredBack coefs onRows
  idx_vars j
  pointwise [centred_eq, variances_eq]
  rfl

theorem ref_x : normedBack x g (back x g b d) = (Norm.gradX x g b d : Shape.Idx S2048x512 → EReal) := by
  have hr : ∀ r : Fin 2048, row (M := 2048) (N := 512) (back x g b d) r = preBack (row x r) (fun k => g (ix1 k)) (fun k => b (ix1 k)) (row d r) :=
    fun r => funext fun k => back_eq x g b d (ix2 r k)
  unfold normedBack
  funext j
  idx_vars j
  pointwise [centredBack_eq, hr]
  rfl

theorem ref_g :
    broadcastInDim S1x512 ![1] bcast_S512_S1x512_1 (Host.reduceAdd (shapeCast S1x512 (Host.reduceAdd (mulf (normed x) (back x g b d)) (constant S_ .f32 0x00000000#32 : FVec Ideal S_ .f32) reducesTo_S2048x512_S512_d0 h_S_) shapeCasts_S512_S1x512) (constant S_ .f32 0x00000000#32 : FVec Ideal S_ .f32) reducesTo_S1x512_S512_d0 h_S_)
      = (Norm.gradG x g b d : Shape.Idx S1x512 → EReal) := by
  funext j
  idx_vars j
  pointwise [normed_eq, back_eq]
  exact Fin.sum_univ_one _

theorem ref_b :
    broadcastInDim S1x512 ![1] bcast_S512_S1x512_1 (Host.reduceAdd (shapeCast S1x512 (Host.reduceAdd (back x g b d) (constant S_ .f32 0x00000000#32 : FVec Ideal S_ .f32) reducesTo_S2048x512_S512_d0 h_S_) shapeCasts_S512_S1x512) (constant S_ .f32 0x00000000#32 : FVec Ideal S_ .f32) reducesTo_S1x512_S512_d0 h_S_)
      = (Norm.gradB x g b d : Shape.Idx S1x512 → EReal) := by
  funext j
  idx_vars j
  pointwise [back_eq]
  exact Fin.sum_univ_one _

variable (m : (ℓ : Loc nD τ sig) → Buf (Elt Ideal) ℓ) (c : Dev nD) (h0 : m ((c.tc : Thread nD τ).loc main_arg0) = x) (h1 : m ((c.tc : Thread nD τ).loc main_arg1) = g)
  (h2 : m ((c.tc : Thread nD τ).loc main_arg2) = b) (h3 : m ((c.tc : Thread nD τ).loc main_arg3) = d)

include h0 h1 h2 h3 in
theorem res_x : Value.res_main_v57 m c = (Norm.gradX x g b d : Shape.Idx S2048x512 → EReal) := by
  rw [← ref_x x g b d]
  subst h0 h1 h2 h3
  rfl

include h0 h1 h2 h3 in
theorem res_g : Value.res_main_v58 m c = (Norm.gradG x g b d : Shape.Idx S1x512 → EReal) := by
  rw [← ref_g x g b d]
  subst h0 h1 h2 h3
  rfl

include h0 h1 h2 h3 in
theorem res_b : Value.res_main_v59 m c = (Norm.gradB x g b d : Shape.Idx S1x512 → EReal) := by
  rw [← ref_b x g b d]
  subst h0 h1 h2 h3
  rfl

end Cert.Rows.NormRef
-- ==== Proof.ForwardRegions.lean ====
/-
  The forward calls of the norms, of the gated linear unit with its gradient, and of the merge by gates: the arrays that they leave.
-/
module
public import proofs.«01_k».proof.Proof.MergeArray
public import proofs.«01_k».proof.Proof.Gen.ForwardIdeal.Frame
@[expose] public section
set_option maxRecDepth 16384
noncomputable section
namespace Cert.Rows.Fwd
open Idealize.ShloMosaic Idealize.ShloMosaic.TcCoe Idealize.SL.Sem Cert.ForwardIdeal Cert.ForwardIdeal.Gen
open Idealize.ShloMosaic.Pipeline (Dat)
open Cert.Rows.Merge (zcol gateOn)

/-! ## What the calls compute -/

/-- An entry over its row's root mean square, weighted. -/
def rmsEntry (v : EReal) (x : Fin 1024 → EReal) (g : EReal) : EReal := v * Ideal.rsqrt (meanSq x) * g

/-- The rows over their root mean squares, weighted. -/
def rmsOn (x : Shape.Idx S2048x1024 → EReal) (g : Shape.Idx S1x1024 → EReal) : Shape.Idx S2048x1024 → EReal :=
  fun j => rmsEntry (x j) (row x (j 0)) (g (ix2 0 (j 1)))

/-- A value and the logistic function of its gate. -/
def unit (p g : EReal) : EReal := p * Ideal.logistic g

/-- The gradient at the value. -/
def unitP (g d : EReal) : EReal := d * Ideal.logistic g

/-- The gradient at the gate. -/
def unitG (p g d : EReal) : EReal := p * d * (Ideal.logistic g * (1 - Ideal.logistic g))

/-- The columns of the input projection that hold the values of the gated linear unit, and those that hold its gates. -/
def pcol (n : Fin 512) : Fin 6656 := ⟨1024 + n.val, by omega⟩
def gcol (n : Fin 512) : Fin 6656 := ⟨1536 + n.val, by omega⟩

/-- The gated linear unit. -/
def gluOn (z : Shape.Idx S2048x6656 → EReal) : Shape.Idx S2048x512 → EReal := fun j => unit (z (ix2 (j 0) (pcol (j 1)))) (z (ix2 (j 0) (gcol (j 1))))

/-- Its gradients. -/
def gluP (z : Shape.Idx S2048x6656 → EReal) (d : Shape.Idx S2048x512 → EReal) : Shape.Idx S2048x512 → EReal := fun j => unitP (z (ix2 (j 0) (gcol (j 1)))) (d j)
def gluG (z : Shape.Idx S2048x6656 → EReal) (d : Shape.Idx S2048x512 → EReal) : Shape.Idx S2048x512 → EReal :=
  fun j => unitG (z (ix2 (j 0) (pcol (j 1)))) (z (ix2 (j 0) (gcol (j 1)))) (d j)

/-- A row's swish at an entry. -/
def swish (x g b : Fin 512 → EReal) (k : Fin 512) : EReal := pre x g b k * Ideal.logistic (pre x g b k)

/-- The normalised rows, weighted and offset, and their swish. -/
def swishOn (x : Shape.Idx S2048x512 → EReal) (g b : Shape.Idx S1x512 → EReal) : Shape.Idx S2048x512 → EReal :=
  fun j => swish (row x (j 0)) (row g 0) (row b 0) (j 1)

/-- The three branches, each by its gate, added. -/
def merge3 (z0 z1 z2 y0 y1 y2 b0 b1 b2 : EReal) : EReal := gateOn z0 b0 y0 + gateOn z1 b1 y1 + gateOn z2 b2 y2

def mergeOn (z : Shape.Idx S2048x6656 → EReal) (ya yb yc : Shape.Idx S2048x1024 → EReal) (b0 b1 b2 : Shape.Idx S1x1024 → EReal) : Shape.Idx S2048x1024 → EReal :=
  fun j => merge3 (z (ix2 (j 0) (zcol 0 (j 1)))) (z (ix2 (j 0) (zcol 1 (j 1)))) (z (ix2 (j 0) (zcol 2 (j 1)))) (ya j) (yb j) (yc j)
    (b0 (ix2 0 (j 1))) (b1 (ix2 0 (j 1))) (b2 (ix2 0 (j 1)))

/-! ## A point's arithmetic -/

theorem rms_point (x : Vec Ideal S512x1024 .f32) (g : Vec Ideal S1x1024 .f32) (j : Shape.Idx S512x1024) :
    k0_pay1 (F := Ideal) x g j = rmsEntry (x j) (row x (j 0)) (g (ix2 0 (j 1))) := by
  unfold k0_pay1
  idx_vars j
  pointwise []
  rfl

theorem glu_point (p g : Vec Ideal S512x512 .bf16) (j : Shape.Idx S512x512) : k1_pay1 (F := Ideal) p g j = unit (p j) (g j) := by
  unfold k1_pay1
  idx_vars j
  pointwise []
  rfl

theorem gluP_point (g : Vec Ideal S512x512 .bf16) (d : Vec Ideal S512x512 .f32) (j : Shape.Idx S512x512) : k2_pay2 (F := Ideal) g d j = unitP (g j) (d j) := by
  unfold k2_pay2 k2_pay1
  idx_vars j
  pointwise []
  rfl

theorem gluG_point (p g : Vec Ideal S512x512 .bf16) (d : Vec Ideal S512x512 .f32) (j : Shape.Idx S512x512) :
    k2_pay3 (F := Ideal) p g d j = unitG (p j) (g j) (d j) := by
  unfold k2_pay3 k2_pay1 unitG
  idx_vars j
  pointwise []

theorem swish_point (x : Vec Ideal S512x512 .f32) (g b : Vec Ideal S1x512 .f32) (j : Shape.Idx S512x512) :
    k3_pay1 (F := Ideal) x g b j = swish (row x (j 0)) (row g 0) (row b 0) (j 1) := by
  unfold k3_pay1
  idx_vars j
  pointwise []
  rfl

theorem merge_point (z0 z1 z2 y0 y1 y2 : Vec Ideal S256x512 .bf16) (b0 b1 b2 : Vec Ideal S1x512 .f32) (j : Shape.Idx S256x512) :
    k4_pay1 (F := Ideal) z0 z1 z2 y0 y1 y2 b0 b1 b2 j
      = merge3 (z0 j) (z1 j) (z2 j) (y0 j) (y1 j) (y2 j) (b0 (ix2 0 (j 1))) (b1 (ix2 0 (j 1))) (b2 (ix2 0 (j 1))) := by
  unfold k4_pay1
  idx_vars j
  pointwise []
  rfl

variable (V : (c : Dev nD) → (b : Ref sig .tc) → Buf (Elt Ideal) ((c : Thread nD τ).loc b)) (c : Dev nD)

/-! ## The blocks' places in the arrays -/

theorem idx0 : ∀ t : Fin cfg0.N, win0_0.index t = ![t.val, 0] ∧ win0_1.index t = ![0, 0] ∧ win0_2.index t = ![t.val, 0] := by decide +kernel
theorem idx1 : ∀ t : Fin cfg1.N, win1_0.index t = ![t.val, 2] ∧ win1_1.index t = ![t.val, 3] ∧ win1_2.index t = ![t.val, 0] := by decide +kernel
theorem idx2 : ∀ t : Fin cfg2.N, win2_0.index t = ![t.val, 2] ∧ win2_1.index t = ![t.val, 3] ∧ win2_2.index t = ![t.val, 0] ∧ win2_3.index t = ![t.val, 0]
    ∧ win2_4.index t = ![t.val, 0] := by decide +kernel
theorem idx3 : ∀ t : Fin cfg3.N, win3_0.index t = ![t.val, 0] ∧ win3_1.index t = ![0, 0] ∧ win3_2.index t = ![0, 0] ∧ win3_3.index t = ![t.val, 0] := by decide +kernel
theorem idx4 : ∀ t : Fin cfg4.N, win4_0.index t = ![t.val % 8, 7 + t.val / 8] ∧ win4_1.index t = ![t.val % 8, 9 + t.val / 8] ∧ win4_2.index t = ![t.val % 8, 11 + t.val / 8]
    ∧ win4_3.index t = ![t.val % 8, t.val / 8] ∧ win4_4.index t = ![t.val % 8, t.val / 8] ∧ win4_5.index t = ![t.val % 8, t.val / 8]
    ∧ win4_6.index t = ![0, t.val / 8] ∧ win4_7.index t = ![0, t.val / 8] ∧ win4_8.index t = ![0, t.val / 8] ∧ win4_9.index t = ![t.val % 8, t.val / 8] := by decide +kernel

theorem bound (n r : ℕ) (hn : n < 4) (hr : r < 512) : 512 * n + r < 2048 := by omega

/-- A row of a point's block, in the whole array. -/
def at0 (t : Fin cfg0.N) (r : Fin 512) : Fin 2048 := ⟨512 * t.val + r.val, bound _ _ t.isLt r.isLt⟩
def at1 (t : Fin cfg1.N) (r : Fin 512) : Fin 2048 := ⟨512 * t.val + r.val, bound _ _ t.isLt r.isLt⟩
def at2 (t : Fin cfg2.N) (r : Fin 512) : Fin 2048 := ⟨512 * t.val + r.val, bound _ _ t.isLt r.isLt⟩
def at3 (t : Fin cfg3.N) (r : Fin 512) : Fin 2048 := ⟨512 * t.val + r.val, bound _ _ t.isLt r.isLt⟩
def at4 (t : Fin cfg4.N) (r : Fin 256) : Fin 2048 := ⟨256 * (t.val % 8) + r.val, by omega⟩

/-- A column of a point's block of the merge, in the whole array. -/
def col4 (t : Fin cfg4.N) (n : Fin 512) : Fin 1024 := ⟨512 * (t.val / 8) + n.val, by have := t.isLt; have : cfg4.N = 16 := rfl; omega⟩

/-! ## The root mean square norm -/

theorem entry0 (t : Fin cfg0.N) (j : Shape.Idx S512x1024) : iblk0 V c 0 t j = V c main_arg0 (ix2 (at0 t (j 0)) (j 1)) := by
  blk_ext [iblk0, idx0 t, at0]

theorem weight0 (t : Fin cfg0.N) (j : Shape.Idx S1x1024) : iblk0 V c 1 t j = V c main_v13 j := by
  blk_ext [iblk0, idx0 t]

theorem row0 (t : Fin cfg0.N) (r : Fin 512) : row (M := 512) (N := 1024) (iblk0 V c 0 t) r = row (M := 2048) (N := 1024) (V c main_arg0) (at0 t r) :=
  funext fun k => entry0 V c t (ix2 r k)

theorem h : (dat0 V c).arrAt 2 cfg0.N = (rmsOn (V c main_arg0) (V c main_v13) : Shape.Idx S2048x1024 → EReal) := by
  refine (dat0 V c).arrAt_eq_of_covers 2 (rmsOn (V c main_arg0) (V c main_v13) : Shape.Idx S2048x1024 → EReal) (by decide +kernel) fun t _ j => ?_
  blk_simp
  rw [after0_2]
  refine Eq.trans (b := k0_pay1 (F := Ideal) (iblk0 V c 0 t) (iblk0 V c 1 t) j) ?_ ?_
  · frame_out
  refine (rms_point _ _ j).trans ((congr (congrArg₂ rmsEntry (entry0 V c t j) (row0 V c t (j 0))) (weight0 V c t (ix2 0 (j 1)))).trans
    (congrArg (rmsOn (V c main_arg0) (V c main_v13)) (a₁ := ix2 (at0 t (j 0)) (j 1)) ?_))
  blk_ext [idx0 t, at0]

/-! ## The gated linear unit -/

theorem value1 (t : Fin cfg1.N) (j : Shape.Idx S512x512) : iblk1 V c 0 t j = V c main_v0 (ix2 (at1 t (j 0)) (pcol (j 1))) := by
  blk_ext [iblk1, idx1 t, at1, pcol]

theorem gate1 (t : Fin cfg1.N) (j : Shape.Idx S512x512) : iblk1 V c 1 t j = V c main_v0 (ix2 (at1 t (j 0)) (gcol (j 1))) := by
  blk_ext [iblk1, idx1 t, at1, gcol]

theorem c0 : (dat1 V c).arrAt 2 cfg1.N = (gluOn (V c main_v0) : Shape.Idx S2048x512 → EReal) := by
  refine (dat1 V c).arrAt_eq_of_covers 2 (gluOn (V c main_v0) : Shape.Idx S2048x512 → EReal) (by decide +kernel) fun t _ j => ?_
  blk_simp
  rw [after1_2]
  refine Eq.trans (b := k1_pay1 (F := Ideal) (iblk1 V c 0 t) (iblk1 V c 1 t) j) ?_ ?_
  · frame_out
  refine (glu_point _ _ j).trans ((congrArg₂ unit (value1 V c t j) (gate1 V c t j)).trans (congrArg (gluOn (V c main_v0)) (a₁ := ix2 (at1 t (j 0)) (j 1)) ?_))
  blk_ext [idx1 t, at1]

theorem value2 (t : Fin cfg2.N) (j : Shape.Idx S512x512) : iblk2 V c 0 t j = V c main_v0 (ix2 (at2 t (j 0)) (pcol (j 1))) := by
  blk_ext [iblk2, idx2 t, at2, pcol]

theorem gate2 (t : Fin cfg2.N) (j : Shape.Idx S512x512) : iblk2 V c 1 t j = V c main_v0 (ix2 (at2 t (j 0)) (gcol (j 1))) := by
  blk_ext [iblk2, idx2 t, at2, gcol]

theorem grad2 (t : Fin cfg2.N) (j : Shape.Idx S512x512) : iblk2 V c 2 t j = V c main_arg3 (ix2 (at2 t (j 0)) (j 1)) := by
  blk_ext [iblk2, idx2 t, at2]

theorem dzp : (dat2 V c).arrAt 3 cfg2.N = (gluP (V c main_v0) (V c main_arg3) : Shape.Idx S2048x512 → EReal) := by
  refine (dat2 V c).arrAt_eq_of_covers 3 (gluP (V c main_v0) (V c main_arg3) : Shape.Idx S2048x512 → EReal) (by decide +kernel) fun t _ j => ?_
  blk_simp
  rw [after2_3]
  refine Eq.trans (b := k2_pay2 (F := Ideal) (iblk2 V c 1 t) (iblk2 V c 2 t) j) ?_ ?_
  · frame_out
  refine (gluP_point _ _ j).trans ((congrArg₂ unitP (gate2 V c t j) (grad2 V c t j)).trans
    (congrArg (gluP (V c main_v0) (V c main_arg3)) (a₁ := ix2 (at2 t (j 0)) (j 1)) ?_))
  blk_ext [idx2 t, at2]

theorem dzg : (dat2 V c).arrAt 4 cfg2.N = (gluG (V c main_v0) (V c main_arg3) : Shape.Idx S2048x512 → EReal) := by
  refine (dat2 V c).arrAt_eq_of_covers 4 (gluG (V c main_v0) (V c main_arg3) : Shape.Idx S2048x512 → EReal) (by decide +kernel) fun t _ j => ?_
  blk_simp
  rw [after2_4]
  refine Eq.trans (b := k2_pay3 (F := Ideal) (iblk2 V c 0 t) (iblk2 V c 1 t) (iblk2 V c 2 t) j) ?_ ?_
  · frame_out
  refine (gluG_point _ _ _ j).trans ((congr (congrArg₂ unitG (value2 V c t j) (gate2 V c t j)) (grad2 V c t j)).trans
    (congrArg (gluG (V c main_v0) (V c main_arg3)) (a₁ := ix2 (at2 t (j 0)) (j 1)) ?_))
  blk_ext [idx2 t, at2]

/-! ## The layer norm and its swish -/

theorem row3 (t : Fin cfg3.N) (r : Fin 512) : row (M := 512) (N := 512) (iblk3 V c 0 t) r = row (M := 2048) (N := 512) (V c main_arg4) (at3 t r) := by
  funext k
  unfold row
  blk_ext [iblk3, idx3 t, at3]

theorem weights3 (t : Fin cfg3.N) : row (M := 1) (N := 512) (iblk3 V c 1 t) 0 = row (M := 1) (N := 512) (V c main_v17) 0 := by
  funext k
  unfold row
  blk_ext [iblk3, idx3 t]

theorem offsets3 (t : Fin cfg3.N) : row (M := 1) (N := 512) (iblk3 V c 2 t) 0 = row (M := 1) (N := 512) (V c main_v18) 0 := by
  funext k
  unfold row
  blk_ext [iblk3, idx3 t]

theorem c3 : (dat3 V c).arrAt 3 cfg3.N = (swishOn (V c main_arg4) (V c main_v17) (V c main_v18) : Shape.Idx S2048x512 → EReal) := by
  refine (dat3 V c).arrAt_eq_of_covers 3 (swishOn (V c main_arg4) (V c main_v17) (V c main_v18) : Shape.Idx S2048x512 → EReal) (by decide +kernel) fun t _ j => ?_
  blk_simp
  rw [after3_3]
  refine Eq.trans (b := k3_pay1 (F := Ideal) (iblk3 V c 0 t) (iblk3 V c 1 t) (iblk3 V c 2 t) j) ?_ ?_
  · frame_out
  refine (swish_point _ _ _ j).trans ((congrFun (congr (congrArg₂ swish (row3 V c t (j 0)) (weights3 V c t)) (offsets3 V c t)) (j 1)).trans
    (congrArg (swishOn (V c main_arg4) (V c main_v17) (V c main_v18)) (a₁ := ix2 (at3 t (j 0)) (j 1)) ?_))
  blk_ext [idx3 t, at3]

/-! ## The merge by gates -/

theorem gates4_0 (t : Fin cfg4.N) (j : Shape.Idx S256x512) : iblk4 V c 0 t j = V c main_v0 (ix2 (at4 t (j 0)) (zcol 0 (col4 t (j 1)))) := by
  blk_ext [iblk4, idx4 t, at4, col4, zcol]

theorem gates4_1 (t : Fin cfg4.N) (j : Shape.Idx S256x512) : iblk4 V c 1 t j = V c main_v0 (ix2 (at4 t (j 0)) (zcol 1 (col4 t (j 1)))) := by
  blk_ext [iblk4, idx4 t, at4, col4, zcol]

theorem gates4_2 (t : Fin cfg4.N) (j : Shape.Idx S256x512) : iblk4 V c 2 t j = V c main_v0 (ix2 (at4 t (j 0)) (zcol 2 (col4 t (j 1)))) := by
  blk_ext [iblk4, idx4 t, at4, col4, zcol]

theorem branch4_0 (t : Fin cfg4.N) (j : Shape.Idx S256x512) : iblk4 V c 3 t j = V c main_v1 (ix2 (at4 t (j 0)) (col4 t (j 1))) := by
  blk_ext [iblk4, idx4 t, at4, col4]

theorem branch4_1 (t : Fin cfg4.N) (j : Shape.Idx S256x512) : iblk4 V c 4 t j = V c main_v2 (ix2 (at4 t (j 0)) (col4 t (j 1))) := by
  blk_ext [iblk4, idx4 t, at4, col4]

theorem branch4_2 (t : Fin cfg4.N) (j : Shape.Idx S256x512) : iblk4 V c 5 t j = V c main_v3 (ix2 (at4 t (j 0)) (col4 t (j 1))) := by
  blk_ext [iblk4, idx4 t, at4, col4]

theorem offsets4_0 (t : Fin cfg4.N) (n : Fin 512) : iblk4 V c 6 t (ix2 0 n) = V c main_v6 (ix2 0 (col4 t n)) := by
  blk_ext [iblk4, idx4 t, col4]

theorem offsets4_1 (t : Fin cfg4.N) (n : Fin 512) : iblk4 V c 7 t (ix2 0 n) = V c main_v9 (ix2 0 (col4 t n)) := by
  blk_ext [iblk4, idx4 t, col4]

theorem offsets4_2 (t : Fin cfg4.N) (n : Fin 512) : iblk4 V c 8 t (ix2 0 n) = V c main_v12 (ix2 0 (col4 t n)) := by
  blk_ext [iblk4, idx4 t, col4]

/-- The merge of a call's arrays. -/
abbrev merged4 : S2048x1024.Idx → EReal := mergeOn (V c main_v0) (V c main_v1) (V c main_v2) (V c main_v3) (V c main_v6) (V c main_v9) (V c main_v12)

theorem merged : (dat4 V c).arrAt 9 cfg4.N = merged4 V c := by
  refine (dat4 V c).arrAt_eq_of_covers 9 (merged4 V c) (by decide +kernel) fun t _ j => ?_
  blk_simp
  rw [after4_9]
  refine Eq.trans (b := k4_pay1 (F := Ideal) (iblk4 V c 0 t) (iblk4 V c 1 t) (iblk4 V c 2 t) (iblk4 V c 3 t) (iblk4 V c 4 t) (iblk4 V c 5 t) (iblk4 V c 6 t)
    (iblk4 V c 7 t) (iblk4 V c 8 t) j) ?_ ?_
  · frame_out
  refine (merge_point _ _ _ _ _ _ _ _ _ j).trans ((congr (congr (congr (congr (congr (congr (congr (congrArg₂ merge3 (gates4_0 V c t j) (gates4_1 V c t j))
    (gates4_2 V c t j)) (branch4_0 V c t j)) (branch4_1 V c t j)) (branch4_2 V c t j)) (offsets4_0 V c t (j 1))) (offsets4_1 V c t (j 1))) (offsets4_2 V c t (j 1))).trans
    (congrArg (merged4 V c) (a₁ := ix2 (at4 t (j 0)) (col4 t (j 1))) ?_))
  blk_ext [idx4 t, at4, col4]

end Cert.Rows.Fwd
-- ==== Proof.ForwardRun.lean ====
/-
  The run of the forward calls of the norms, the gated linear unit and the merge, with its results.
-/
module
public import proofs.«01_k».proof.Proof.ForwardRegions
public import Idealize.ShloMosaic.Lib.Tactic.CleanTypes
@[expose] public section
set_option maxRecDepth 16384
noncomputable section
namespace Cert.Rows.Fwd
open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-! ## The arrays between the calls -/

variable (c : Dev nD)

/-- An array of the launch. -/
abbrev arg (b : Ref sig .tc) := m ((c.tc : Thread nD τ).loc b)

/-- The casts on the host change nothing. -/
theorem W1_casts : W1 m ρ c (Proc.devRef .tc main_v0) = arg m c main_arg2 ∧ W1 m ρ c (Proc.devRef .tc main_v1) = arg m c main_arg7
    ∧ W1 m ρ c (Proc.devRef .tc main_v2) = arg m c main_arg8 ∧ W1 m ρ c (Proc.devRef .tc main_v3) = arg m c main_arg9 := by
  refine ⟨?_, ?_, ?_, ?_⟩ <;> unfold W1 <;> after_results <;> rfl

/-- A vector stood up as one row. -/
def one {N : ℕ} (v : Shape.Idx ⟨1, ![N]⟩ → EReal) : Shape.Idx ⟨2, ![1, N]⟩ → EReal := fun j => v (ix1 (j 1))

/-- A row of the gates' offsets. -/
def offsets (k : Fin 3) (b : Shape.Idx S3x1024 → EReal) : Shape.Idx S1x1024 → EReal := fun j => b (ix2 k (j 1))

theorem W1_g : W1 m ρ c (Proc.devRef .tc main_v13) = one (N := 1024) (arg m c main_arg1) := by
  have e : W1 m ρ c (Proc.devRef .tc main_v13) = broadcastInDim S1x1024 ![1] bcast_S1024_S1x1024_1 (arg m c main_arg1) := by
    unfold W1
    after_results
  rw [e]
  funext j
  idx_vars j
  pointwise []
  rfl

/-- A row of the gates' offsets, cut out, flattened and stood up again. -/
theorem row_of (x : FVec Ideal S3x1024 .f32) (n : Fin 3) (h : S3x1024.Slices ![n.val, 0] S1x1024) :
    broadcastInDim S1x1024 ![1] bcast_S1024_S1x1024_1 (shapeCast S1024 (extractStridedSlice S1x1024 ![n.val, 0] x h) shapeCasts_S1x1024_S1024) = offsets n x := by
  funext j
  idx_vars j
  pointwise []
  rfl

theorem W1_b0 : W1 m ρ c (Proc.devRef .tc main_v6) = offsets 0 (arg m c main_arg10) := by
  refine Eq.trans ?_ (row_of (arg m c main_arg10) 0 slices_S3x1024_S1x1024_0_0)
  unfold W1
  after_results
  rfl

theorem W1_b1 : W1 m ρ c (Proc.devRef .tc main_v9) = offsets 1 (arg m c main_arg10) := by
  refine Eq.trans ?_ (row_of (arg m c main_arg10) 1 slices_S3x1024_S1x1024_1_0)
  unfold W1
  after_results
  rfl

theorem W1_b2 : W1 m ρ c (Proc.devRef .tc main_v12) = offsets 2 (arg m c main_arg10) := by
  refine Eq.trans ?_ (row_of (arg m c main_arg10) 2 slices_S3x1024_S1x1024_2_0)
  unfold W1
  after_results
  rfl

/-- Neither a call nor the host between the calls writes the array. -/
def Kept (r : Ref sig .tc) : Prop :=
  (∀ w : Fin cfg0.W, Pipeline.arrRef spec0 w = r → (cfg0.win w).isOut = false) ∧ (∀ w : Fin cfg1.W, Pipeline.arrRef spec1 w = r → (cfg1.win w).isOut = false)
  ∧ (∀ w : Fin cfg2.W, Pipeline.arrRef spec2 w = r → (cfg2.win w).isOut = false) ∧ r ∉ hostOps3_W ∧ (∀ w : Fin cfg3.W, Pipeline.arrRef spec3 w = r → (cfg3.win w).isOut = false)

instance (r : Ref sig .tc) : Decidable (Kept r) := by unfold Kept; infer_instance

/-- Such an array is at every call's start what the host left. -/
theorem kept {r : Ref sig .tc} (h : Kept r) {x : Buf (Elt Ideal) ((c : Thread nD τ).loc r)} (hx : W1 m ρ c (Proc.devRef .tc r) = x) :
    W2 m ρ c (Proc.devRef .tc r) = x ∧ W3 m ρ c (Proc.devRef .tc r) = x ∧ W4 m ρ c (Proc.devRef .tc r) = x ∧ W5 m ρ c (Proc.devRef .tc r) = x
    ∧ W6 m ρ c (Proc.devRef .tc r) = x := by
  obtain ⟨h0, h1, h2, h3, h4⟩ := h
  have e2 := (W2_of m ρ c r h0).trans hx
  have e3 := (W3_of m ρ c r h1).trans e2
  have e4 := (W4_of m ρ c r h2).trans e3
  have e5 := (W5_of m ρ c r h3).trans e4
  exact ⟨e2, e3, e4, e5, (W6_of m ρ c r h4).trans e5⟩

/-- Nor do the host's first operations: the array is the launch's. -/
theorem launched (r : Ref sig .tc) (h : r ∉ hostOps0_W) : W1 m ρ c (Proc.devRef .tc r) = arg m c r := W1_of m ρ c r h

theorem W5_g : W5 m ρ c (Proc.devRef .tc main_v17) = one (N := 512) (arg m c main_arg5) := by
  have e : W5 m ρ c (Proc.devRef .tc main_v17) = broadcastInDim S1x512 ![1] bcast_S512_S1x512_1 (W4 m ρ c (Proc.devRef .tc main_arg5)) := by
    unfold W5
    after_results
  rw [e, (kept m ρ c (by decide) (launched m ρ c main_arg5 (by decide))).2.2.1]
  funext j
  idx_vars j
  pointwise []
  rfl

theorem W5_b : W5 m ρ c (Proc.devRef .tc main_v18) = one (N := 512) (arg m c main_arg6) := by
  have e : W5 m ρ c (Proc.devRef .tc main_v18) = broadcastInDim S1x512 ![1] bcast_S512_S1x512_1 (W4 m ρ c (Proc.devRef .tc main_arg6)) := by
    unfold W5
    after_results
  rw [e, (kept m ρ c (by decide) (launched m ρ c main_arg6 (by decide))).2.2.1]
  funext j
  idx_vars j
  pointwise []
  rfl

/-! ## The results -/

theorem W7_h : W7 m ρ c (Proc.devRef .tc main_v14) = (rmsOn (arg m c main_arg0) (one (N := 1024) (arg m c main_arg1)) : Shape.Idx S2048x1024 → EReal) :=
  (W7_of m ρ c main_v14 (by decide)).trans ((W6_of m ρ c main_v14 (by decide)).trans ((W5_of m ρ c main_v14 (by decide)).trans
    ((W4_of m ρ c main_v14 (by decide)).trans ((W3_of m ρ c main_v14 (by decide)).trans ((W2_arr m ρ c 2).trans ((h (V1 m ρ) c).trans
    (congrArg₂ rmsOn (launched m ρ c main_arg0 (by decide)) (W1_g m ρ c))))))))

theorem W7_c0 : W7 m ρ c (Proc.devRef .tc main_v15) = (gluOn (arg m c main_arg2) : Shape.Idx S2048x512 → EReal) :=
  (W7_of m ρ c main_v15 (by decide)).trans ((W6_of m ρ c main_v15 (by decide)).trans ((W5_of m ρ c main_v15 (by decide)).trans
    ((W4_of m ρ c main_v15 (by decide)).trans ((W3_arr m ρ c 2).trans ((c0 (V2 m ρ) c).trans (congrArg gluOn (kept m ρ c (by decide) (W1_casts m ρ c).1).1))))))

theorem W7_dzp : W7 m ρ c (Proc.devRef .tc main_v16_0) = (gluP (arg m c main_arg2) (arg m c main_arg3) : Shape.Idx S2048x512 → EReal) :=
  (W7_of m ρ c main_v16_0 (by decide)).trans ((W6_of m ρ c main_v16_0 (by decide)).trans ((W5_of m ρ c main_v16_0 (by decide)).trans
    ((W4_arr m ρ c 3).trans ((dzp (V3 m ρ) c).trans (congrArg₂ gluP (kept m ρ c (by decide) (W1_casts m ρ c).1).2.1
    (kept m ρ c (by decide) (launched m ρ c main_arg3 (by decide))).2.1)))))

theorem W7_dzg : W7 m ρ c (Proc.devRef .tc main_v16_1) = (gluG (arg m c main_arg2) (arg m c main_arg3) : Shape.Idx S2048x512 → EReal) :=
  (W7_of m ρ c main_v16_1 (by decide)).trans ((W6_of m ρ c main_v16_1 (by decide)).trans ((W5_of m ρ c main_v16_1 (by decide)).trans
    ((W4_arr m ρ c 4).trans ((dzg (V3 m ρ) c).trans (congrArg₂ gluG (kept m ρ c (by decide) (W1_casts m ρ c).1).2.1
    (kept m ρ c (by decide) (launched m ρ c main_arg3 (by decide))).2.1)))))

theorem W7_c3 : W7 m ρ c (Proc.devRef .tc main_v19)
    = (swishOn (arg m c main_arg4) (one (N := 512) (arg m c main_arg5)) (one (N := 512) (arg m c main_arg6)) : Shape.Idx S2048x512 → EReal) :=
  (W7_of m ρ c main_v19 (by decide)).trans ((W6_arr m ρ c 3).trans ((c3 (V5 m ρ) c).trans
    (congr (congrArg₂ swishOn (kept m ρ c (by decide) (launched m ρ c main_arg4 (by decide))).2.2.2.1 (W5_g m ρ c)) (W5_b m ρ c))))

theorem W7_merged : W7 m ρ c (Proc.devRef .tc main_v20)
    = (mergeOn (arg m c main_arg2) (arg m c main_arg7) (arg m c main_arg8) (arg m c main_arg9) (offsets 0 (arg m c main_arg10)) (offsets 1 (arg m c main_arg10))
        (offsets 2 (arg m c main_arg10)) : Shape.Idx S2048x1024 → EReal) :=
  (W7_arr m ρ c 9).trans ((merged (V6 m ρ) c).trans (congr (congr (congr (congr (congr (congrArg₂ mergeOn (kept m ρ c (by decide) (W1_casts m ρ c).1).2.2.2.2
    (kept m ρ c (by decide) (W1_casts m ρ c).2.1).2.2.2.2) (kept m ρ c (by decide) (W1_casts m ρ c).2.2.1).2.2.2.2)
    (kept m ρ c (by decide) (W1_casts m ρ c).2.2.2).2.2.2.2) (kept m ρ c (by decide) (W1_b0 m ρ c)).2.2.2.2) (kept m ρ c (by decide) (W1_b1 m ρ c)).2.2.2.2)
    (kept m ρ c (by decide) (W1_b2 m ρ c)).2.2.2.2))

end Cert.Rows.Fwd
-- ==== Proof.ForwardRef.lean ====
/-
  What the reference of the forward calls computes.
-/
module
public import proofs.«01_k».proof.Proof.ForwardRun
public import proofs.«01_k».proof.Proof.Gen.ForwardRefIdeal.Run
@[expose] public section
set_option maxRecDepth 16384
noncomputable section
namespace Cert.Rows.FwdRef
open Idealize.ShloMosaic Idealize.ShloMosaic.TcCoe Idealize.SL.Sem Cert.ForwardRefIdeal Cert.ForwardRefIdeal.Gen
open Cert.Rows.Merge (zcol gateOn)
open Cert.Rows.Fwd (rmsOn gluOn gluP gluG swishOn mergeOn merge3 one offsets pcol gcol unit unitP unitG)

/-! ## The root mean square norm -/

theorem ref_h (x : FVec Ideal S2048x1024 .f32) (g : FVec Ideal S1024 .f32) :
    truncf .bf16 (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32 : FVec Ideal S_ .f32) reducesTo_S2048x1024_S2048_d1 h_S_)) (broadcastInDim S2048x1 ![] bcast_S_S2048x1 (constant S_ .f32 0x44800000#32 : FVec Ideal S_ .f32))) (broadcastInDim S2048x1 ![] bcast_S_S2048x1 (constant S_ .f32 0x358637BD#32 : FVec Ideal S_ .f32)))))) (broadcastInDim S2048x1024 ![0, 1] bcast_S1x1024_S2048x1024_0_1 (broadcastInDim S1x1024 ![1] bcast_S1024_S1x1024_1 g))) bitsLt_bf16_f32
      = (rmsOn x (one (N := 1024) g) : Shape.Idx S2048x1024 → EReal) := by
  funext j
  idx_vars j
  pointwise []
  rfl

/-! ## The gated linear unit -/

variable (z : FVec Ideal S2048x6656 .f32) (d : FVec Ideal S2048x512 .f32)

/-- The columns of the values. -/
def values : FVec Ideal S2048x512 .f32 := extractStridedSlice S2048x512 ![0, 0] (extractStridedSlice S2048x1024 ![0, 1024] z slices_S2048x6656_S2048x1024_0_1024) slices_S2048x1024_S2048x512_0_0

/-- One at every entry. -/
def ones : FVec Ideal S2048x512 .f32 := broadcastInDim S2048x512 ![] bcast_S_S2048x512 (constant S_ .f32 0x3F800000#32 : FVec Ideal S_ .f32)

/-- The logistic function of the columns of the gates. -/
def gate : FVec Ideal S2048x512 .f32 :=
  Host.divf ones (addf ones (Host.exp (Host.negf (extractStridedSlice S2048x512 ![0, 512] (extractStridedSlice S2048x1024 ![0, 1024] z slices_S2048x6656_S2048x1024_0_1024) slices_S2048x1024_S2048x512_0_512))))

theorem values_eq (j : Shape.Idx S2048x512) : values z j = z (ix2 (j 0) (pcol (j 1))) := by
  unfold values
  idx_vars j
  pointwise []
  rfl

theorem ones_eq (j : Shape.Idx S2048x512) : ones j = 1 := by
  unfold ones
  pointwise []

theorem gate_eq (j : Shape.Idx S2048x512) : gate z j = Ideal.logistic (z (ix2 (j 0) (gcol (j 1)))) := by
  unfold gate ones
  idx_vars j
  rw [show gcol j1 = ⟨1024 + (512 + j1.val), by omega⟩ from Fin.ext (by simp only [gcol]; omega)]
  pointwise []
  rfl

theorem ref_c0 : mulf (values z) (gate z) = (gluOn z : Shape.Idx S2048x512 → EReal) := by
  funext j
  exact congrArg₂ (· * ·) (values_eq z j) (gate_eq z j)

theorem ref_dzp : truncf .bf16 (mulf d (gate z)) bitsLt_bf16_f32 = (gluP z d : Shape.Idx S2048x512 → EReal) := by
  funext j
  exact congrArg (d j * ·) (gate_eq z j)

theorem ref_dzg : truncf .bf16 (mulf (mulf (values z) d) (mulf (gate z) (subf ones (gate z)))) bitsLt_bf16_f32 = (gluG z d : Shape.Idx S2048x512 → EReal) := by
  funext j
  idx_vars j
  pointwise [values_eq, gate_eq, ones_eq]
  rfl

/-! ## The layer norm and its swish -/

variable (x : FVec Ideal S2048x512 .f32) (g b : FVec Ideal S512 .f32)

/-- The rows less their means. -/
def centred : FVec Ideal S2048x512 .f32 :=
  subf x (broadcastInDim S2048x512 ![0, 1] bcast_S2048x1_S2048x512_0_1 (Host.divf (broadcastInDim S2048x1 ![0] bcast_S2048_S2048x1_0 (Host.reduceAdd x (constant S_ .f32 0x00000000#32 : FVec Ideal S_ .f32) reducesTo_S2048x512_S2048_d1 h_S_)) (broadcastInDim S2048x1 ![] bcast_S_S2048x1 (constant S_ .f32 0x44000000#32 : FVec Ideal S_ .f32))))

/-- The rows before their swish. -/
def inner : FVec Ideal S2048x512 .f32 :=
  addf (mulf (mulf (centred x) (broadcastInDim S2048x512 ![0, 1] bcast_S2048x1_S2048x512_0_1 (Host.rsqrt (addf (Host.divf (broadcastInDim S2048x1 ![0] bcast_S2048_S2048x1_0 (Host.reduceAdd (mulf (centred x) (centred x)) (constant S_ .f32 0x00000000#32 : FVec Ideal S_ .f32) reducesTo_S2048x512_S2048_d1 h_S_)) (broadcastInDim S2048x1 ![] bcast_S_S2048x1 (constant S_ .f32 0x44000000#32 : FVec Ideal S_ .f32))) (broadcastInDim S2048x1 ![] bcast_S_S2048x1 (constant S_ .f32 0x358637BD#32 : FVec Ideal S_ .f32)))))) (broadcastInDim S2048x512 ![0, 1] bcast_S1x512_S2048x512_0_1 (broadcastInDim S1x512 ![1] bcast_S512_S1x512_1 g))) (broadcastInDim S2048x512 ![0, 1] bcast_S1x512_S2048x512_0_1 (broadcastInDim S1x512 ![1] bcast_S512_S1x512_1 b))

theorem centred_eq (j : Shape.Idx S2048x512) : centred x j = cen (row x (j 0)) (j 1) := by
  unfold centred
  idx_vars j
  pointwise []
  rfl

theorem inner_eq (j : Shape.Idx S2048x512) : inner x g b j = pre (row x (j 0)) (fun k => g (ix1 k)) (fun k => b (ix1 k)) (j 1) := by
  unfold inner
  idx_vars j
  pointwise [centred_eq]
  rfl

theorem ref_c3 : truncf .bf16 (mulf (inner x g b) (Host.divf ones (addf ones (Host.exp (Host.negf (inner x g b)))))) bitsLt_bf16_f32
    = (swishOn x (one (N := 512) g) (one (N := 512) b) : Shape.Idx S2048x512 → EReal) := by
  funext j
  idx_vars j
  pointwise [inner_eq, ones_eq]
  rfl

/-! ## The merge by gates -/

variable (ya yb yc : FVec Ideal S2048x1024 .f32) (bg : FVec Ideal S3x1024 .f32)

/-- The three gates. -/
def gates : FVec Ideal S2048x3x1024 .f32 :=
  Host.divf (broadcastInDim S2048x3x1024 ![] bcast_S_S2048x3x1024 (constant S_ .f32 0x3F800000#32 : FVec Ideal S_ .f32)) (addf (broadcastInDim S2048x3x1024 ![] bcast_S_S2048x3x1024 (constant S_ .f32 0x3F800000#32 : FVec Ideal S_ .f32)) (Host.exp (Host.negf (addf (shapeCast _ (extractStridedSlice S2048x3072 ![0, 3584] z slices_S2048x6656_S2048x3072_0_3584) shapeCasts_S2048x3072_S2048x3x1024) (broadcastInDim S2048x3x1024 ![0, 1, 2] bcast_S1x3x1024_S2048x3x1024_0_1_2 (broadcastInDim S1x3x1024 ![1, 2] bcast_S3x1024_S1x3x1024_1_2 bg))))))

theorem gates_eq (r : Fin 2048) (k : Fin 3) (n : Fin 1024) : gates z bg (ix3 r k n) = Ideal.logistic (z (ix2 r (zcol k n)) + bg (ix2 k n)) := by
  unfold gates
  rw [show zcol k n = ⟨3584 + (k.val * 1024 + n.val), by omega⟩ from Fin.ext (by simp only [zcol]; omega)]
  pointwise []
  rfl

theorem ref_merged : truncf .bf16 (addf (addf (mulf (shapeCast _ (extractStridedSlice S2048x1x1024 ![0, 0, 0] (gates z bg) slices_S2048x3x1024_S2048x1x1024_0_0_0) shapeCasts_S2048x1x1024_S2048x1024) ya)
      (mulf (shapeCast _ (extractStridedSlice S2048x1x1024 ![0, 1, 0] (gates z bg) slices_S2048x3x1024_S2048x1x1024_0_1_0) shapeCasts_S2048x1x1024_S2048x1024) yb))
      (mulf (shapeCast _ (extractStridedSlice S2048x1x1024 ![0, 2, 0] (gates z bg) slices_S2048x3x1024_S2048x1x1024_0_2_0) shapeCasts_S2048x1x1024_S2048x1024) yc)) bitsLt_bf16_f32
    = (mergeOn z ya yb yc (offsets 0 bg) (offsets 1 bg) (offsets 2 bg) : Shape.Idx S2048x1024 → EReal) := by
  funext j
  idx_vars j
  pointwise [gates_eq]
  rfl

end Cert.Rows.FwdRef
-- ==== Proof.BranchSpatial.lean ====
/-
  The gated mixer over the positions of a chunk of 128 rows: each head's lower triangle times the normalised rows, two heads by two.
-/
module
public import proofs.«01_k».proof.Proof.BranchHeads
@[expose] public section
set_option maxRecDepth 16384
noncomputable section
namespace Cert.Rows.Branch
open Finset Idealize.ShloMosaic Idealize.ShloMosaic.TcCoe Idealize.SL.Sem Cert.BranchIdeal Cert.BranchIdeal.Gen

/-! ## What the call computes -/

/-- The smooth rectifier by the hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- A head's lower triangle at two positions. -/
def tril (w : Shape.Idx S8x128x128 → EReal) (h : Fin 8) (r s : Fin 128) : EReal := if s ≤ r then w (ix3 h r s) else 0

/-- The mixed value at a position and a column: the triangle of the column's head over the positions' values `v`. -/
def mixed (w : Shape.Idx S8x128x128 → EReal) (v : Fin 128 → EReal) (h : Fin 8) (r : Fin 128) : EReal := ∑ s, tril w h r s * v s

/-- An entry of the mixer's output: the first half's value times the mixed values and their offset. -/
def gatedEntry (zu : EReal) (v : Fin 128 → EReal) (w : Shape.Idx S8x128x128 → EReal) (b : EReal) (h : Fin 8) (r : Fin 128) : EReal := gelu zu * (mixed w v h r + b)

/-! ## Two heads at a time -/

/-- The word that says that a position is not after another. -/
theorem select_tril (r s : Fin 128) (a b : EReal) :
    Scalar.select (IntOp.cmpi .sle (BitVec.ofNat 32 s.val) (BitVec.ofNat 32 r.val)) a b = if s ≤ r then a else b := by
  rw [WordCmp.cmpi_sle_ofNat (by omega) (by omega), Cert.Attn.ofBool_ite]
  simp only [Fin.le_def]
  split <;> rfl

/-- The word that says that a lane belongs to the first of two heads. -/
theorem select_low (l : Fin 128) (a b : EReal) :
    Scalar.select (IntOp.cmpi .slt (BitVec.ofNat 32 l.val) 64#32) a b = if l.val < 64 then a else b := by
  rw [show (64#32 : BitVec 32) = BitVec.ofNat 32 64 from rfl, WordCmp.cmpi_slt_ofNat (by omega) (by omega), Cert.Attn.ofBool_ite]
  split <;> rfl

/-- Two heads: the first one's triangle over the lower lanes, the second one's over the upper lanes. -/
def pair (w0 w1 x : FVec Ideal S128x128 .f32) : FVec Ideal S128x128 .f32 :=
  addf (matmul dot_S128x128_S128x128_S128x128_1_0_0_1_n_n none (truncf .bf16 (select k0_pay10 w0 (broadcast S128x128 (Scalar.ofBits .f32 0x00000000#32))) bitsLt_bf16_f32)
      (truncf .bf16 (select k0_pay11 x (broadcast S128x128 (Scalar.ofBits .f32 0x00000000#32))) bitsLt_bf16_f32) (constant S128x128 .f32 0x00000000#32))
    (matmul dot_S128x128_S128x128_S128x128_1_0_0_1_n_n none (truncf .bf16 (select k0_pay10 w1 (broadcast S128x128 (Scalar.ofBits .f32 0x00000000#32))) bitsLt_bf16_f32)
      (truncf .bf16 (select k0_pay11 (broadcast S128x128 (Scalar.ofBits .f32 0x00000000#32)) x) bitsLt_bf16_f32) (constant S128x128 .f32 0x00000000#32))

theorem pair_eq (w0 w1 x : FVec Ideal S128x128 .f32) (r l : Fin 128) :
    pair w0 w1 x (ix2 r l) = ∑ s : Fin 128, (if s ≤ r then (if l.val < 64 then w0 (ix2 r s) else w1 (ix2 r s)) else 0) * x (ix2 s l) := by
  unfold pair k0_pay10 k0_pay11
  pointwise [select_tril, select_low]
  by_cases h : l.val < 64
  · simp only [if_pos h, mul_zero, Finset.sum_const_zero, add_zero]
  · simp only [if_neg h, mul_zero, Finset.sum_const_zero, zero_add]

/-- The eight heads, two by two. -/
def pieces (w : Vec Ideal S8x128x128 .f32) (x : FVec Ideal S128x512 .f32) : Fin 4 → FVec Ideal S128x128 .f32 :=
  ![pair (shapeCast S128x128 (extractStridedSlice S1x128x128 ![0, 0, 0] w slices_S8x128x128_o0_0_0_S1x128x128) shapeCasts_S1x128x128_S128x128)
      (shapeCast S128x128 (extractStridedSlice S1x128x128 ![1, 0, 0] w slices_S8x128x128_o1_0_0_S1x128x128) shapeCasts_S1x128x128_S128x128)
      (extractStridedSlice S128x128 ![0, 0] x slices_S128x512_o0_0_S128x128),
    pair (shapeCast S128x128 (extractStridedSlice S1x128x128 ![2, 0, 0] w slices_S8x128x128_o2_0_0_S1x128x128) shapeCasts_S1x128x128_S128x128)
      (shapeCast S128x128 (extractStridedSlice S1x128x128 ![3, 0, 0] w slices_S8x128x128_o3_0_0_S1x128x128) shapeCasts_S1x128x128_S128x128)
      (extractStridedSlice S128x128 ![0, 128] x slices_S128x512_o0_128_S128x128),
    pair (shapeCast S128x128 (extractStridedSlice S1x128x128 ![4, 0, 0] w slices_S8x128x128_o4_0_0_S1x128x128) shapeCasts_S1x128x128_S128x128)
      (shapeCast S128x128 (extractStridedSlice S1x128x128 ![5, 0, 0] w slices_S8x128x128_o5_0_0_S1x128x128) shapeCasts_S1x128x128_S128x128)
      (extractStridedSlice S128x128 ![0, 256] x slices_S128x512_o0_256_S128x128),
    pair (shapeCast S128x128 (extractStridedSlice S1x128x128 ![6, 0, 0] w slices_S8x128x128_o6_0_0_S1x128x128) shapeCasts_S1x128x128_S128x128)
      (shapeCast S128x128 (extractStridedSlice S1x128x128 ![7, 0, 0] w slices_S8x128x128_o7_0_0_S1x128x128) shapeCasts_S1x128x128_S128x128)
      (extractStridedSlice S128x128 ![0, 384] x slices_S128x512_o0_384_S128x128)]

theorem pieces_eq (w : Vec Ideal S8x128x128 .f32) (x : FVec Ideal S128x512 .f32) (p : Fin 4) (r l : Fin 128) :
    pieces w x p (ix2 r l) = mixed w (fun s => x (ix2 s ⟨128 * p.val + l.val, by omega⟩)) ⟨2 * p.val + l.val / 64, by omega⟩ r := by
  have hl : ∀ q : Fin 4, (if l.val < 64 then (⟨2 * q.val, by omega⟩ : Fin 8) else ⟨2 * q.val + 1, by omega⟩) = ⟨2 * q.val + l.val / 64, by omega⟩ := fun q => by
    split <;> exact Fin.ext (by simp only; omega)
  unfold mixed tril
  rw [← hl]
  fin_cases p
  all_goals
    refine (pair_eq _ _ _ r l).trans (Finset.sum_congr rfl fun s _ => congrArg₂ (· * ·) ?_ ?_)
    · pointwise []
      split
      · split <;> rfl
      · rfl
    · pointwise []

/-- The eight heads side by side. -/
def side (w : Vec Ideal S8x128x128 .f32) (x : FVec Ideal S128x512 .f32) : FVec Ideal S128x512 .f32 :=
  concatenate S128x512 1 (List.ofFn fun p : Fin 4 => (⟨S128x128, pieces w x p⟩ : (s : Shape) × (s.Idx → EReal))) concatenates_S128x128_S128x128_S128x128_S128x128_S128x512_d1

theorem side_eq (w : Vec Ideal S8x128x128 .f32) (x : FVec Ideal S128x512 .f32) (r : Fin 128) (n : Fin 512) :
    side w x (ix2 r n) = mixed w (fun s => x (ix2 s n)) (headOf n) r := by
  refine (concatenate_ofFn_apply (t := S128x512) (s₁ := S128x128) 1 (pieces w x) concatenates_S128x128_S128x128_S128x128_S128x128_S128x512_d1 rfl 128 rfl (ix2 r n)
    (⟨n.val / 128, by omega⟩ : Fin 4) rfl (ix2 r ⟨n.val % 128, by omega⟩) rfl (fun b hb => by fin_cases b <;> first | rfl | exact absurd rfl hb)).trans ?_
  refine (pieces_eq w x _ r _).trans ?_
  have e1 : (⟨128 * (n.val / 128) + n.val % 128, by omega⟩ : Fin 512) = n := Fin.ext (by simp only; omega)
  have e2 : (⟨2 * (n.val / 128) + n.val % 128 / 64, by omega⟩ : Fin 8) = headOf n := Fin.ext (by simp only [headOf]; omega)
  exact congrArg₂ (fun (a : Fin 512) (b : Fin 8) => mixed w (fun s => x (ix2 s a)) b r) e1 e2

/-! ## The offsets -/

/-- The step of one head: its columns take the head's offsets, the others keep what they had. -/
def put (b : BitVec 32) (y : FVec Ideal S128x1 .f32) (prev : FVec Ideal S128x512 .f32) : FVec Ideal S128x512 .f32 :=
  select (cmpi .eq k0_pay20 (broadcast S128x512 b)) (broadcastTo S128x512 (shapeCast S128x1 y shapeCasts_S128x1_S128x1) broadcasts_S128x1_S128x512) prev

theorem put_eq (h : Fin 8) (y : FVec Ideal S128x1 .f32) (prev : FVec Ideal S128x512 .f32) (r : Fin 128) (n : Fin 512) :
    put (BitVec.ofNat 32 h.val) y prev (ix2 r n) = if headOf n = h then y (ix2 r 0) else prev (ix2 r n) := by
  unfold put k0_pay20
  pointwise [select_head]

/-- All eight steps. -/
def puts (b : FVec Ideal S128x8 .f32) : FVec Ideal S128x512 .f32 :=
  put 7#32 (extractStridedSlice S128x1 ![0, 7] b slices_S128x8_o0_7_S128x1) (put 6#32 (extractStridedSlice S128x1 ![0, 6] b slices_S128x8_o0_6_S128x1)
    (put 5#32 (extractStridedSlice S128x1 ![0, 5] b slices_S128x8_o0_5_S128x1) (put 4#32 (extractStridedSlice S128x1 ![0, 4] b slices_S128x8_o0_4_S128x1)
    (put 3#32 (extractStridedSlice S128x1 ![0, 3] b slices_S128x8_o0_3_S128x1) (put 2#32 (extractStridedSlice S128x1 ![0, 2] b slices_S128x8_o0_2_S128x1)
    (put 1#32 (extractStridedSlice S128x1 ![0, 1] b slices_S128x8_o0_1_S128x1) (put 0#32 (extractStridedSlice S128x1 ![0, 0] b slices_S128x8_o0_0_S128x1)
      (broadcast S128x512 (Scalar.ofBits .f32 0x00000000#32)))))))))

theorem puts_eq (b : FVec Ideal S128x8 .f32) (r : Fin 128) (n : Fin 512) : puts b (ix2 r n) = b (ix2 r (headOf n)) := by
  have e := fun (h : Fin 8) (y : FVec Ideal S128x1 .f32) (prev : FVec Ideal S128x512 .f32) => put_eq h y prev r n
  unfold puts
  refine (e 7 _ _).trans ?_
  rw [show put 6#32 _ _ _ = _ from e 6 _ _, show put 5#32 _ _ _ = _ from e 5 _ _, show put 4#32 _ _ _ = _ from e 4 _ _, show put 3#32 _ _ _ = _ from e 3 _ _,
    show put 2#32 _ _ _ = _ from e 2 _ _, show put 1#32 _ _ _ = _ from e 1 _ _, show put 0#32 _ _ _ = _ from e 0 _ _]
  generalize headOf n = h
  fin_cases h
  all_goals
    simp only [Fin.reduceFinMk, Fin.isValue, reduceIte, Fin.reduceEq]
    pointwise []
    try rfl

/-! ## The call's payload -/

theorem gelu_eq (x : Vec Ideal S128x512 .bf16) (j : Shape.Idx S128x512) : k0_pay6 (F := Ideal) x j = gelu (x j) := by
  unfold k0_pay6
  idx_vars j
  pointwise []
  rfl

/-- The second half's rows, normalised. -/
def norms (x : Vec Ideal S128x512 .bf16) (g b : Vec Ideal S1x512 .f32) : FVec Ideal S128x512 .f32 :=
  k0_pay9 (F := Ideal) (k0_pay2 x) (k0_pay3 g) (k0_pay4 b) (k0_pay7 x) k0_pay8

theorem norms_eq (x : Vec Ideal S128x512 .bf16) (g b : Vec Ideal S1x512 .f32) (j : Shape.Idx S128x512) :
    norms x g b j = pre (fun k => gelu (x (ix2 (j 0) k))) (row g 0) (row b 0) (j 1) := by
  unfold norms k0_pay9 k0_pay7 k0_pay2 k0_pay3 k0_pay4 k0_pay8
  idx_vars j
  pointwise []
  rfl

theorem offs_eq (b : Vec Ideal S128x8 .f32) : k0_pay5 (F := Ideal) b = b := by
  funext j
  unfold k0_pay5
  idx_vars j
  pointwise []

theorem spatial_parts (u x : Vec Ideal S128x512 .bf16) (g b : Vec Ideal S1x512 .f32) (w : Vec Ideal S8x128x128 .f32) (o : Vec Ideal S128x8 .f32) :
    k0_pay1 (F := Ideal) (k0_pay5 o) (k0_pay6 u) (k0_pay19 k0_pay10 k0_pay11 (k0_pay12 (k0_pay2 x) (k0_pay3 g) (k0_pay4 b) w (k0_pay7 x) k0_pay8)
        (k0_pay14 w k0_pay10 k0_pay11 (k0_pay13 (k0_pay2 x) (k0_pay3 g) (k0_pay4 b) (k0_pay7 x) k0_pay8)) (k0_pay15 w (norms x g b) k0_pay10 k0_pay11)
        (k0_pay16 (norms x g b)) (k0_pay17 w k0_pay10) (k0_pay18 w) (Scalar.ofBits .f32 0x00000000#32)) k0_pay20 (k0_pay21 (k0_pay5 o)) 5#32
      = truncf .bf16 (mulf (k0_pay6 u) (addf (side w (norms x g b)) (puts (k0_pay5 o)))) bitsLt_bf16_f32 := rfl

/-- An entry of the mixer's output from the blocks. -/
theorem spatial_point (u x : Vec Ideal S128x512 .bf16) (g b : Vec Ideal S1x512 .f32) (w : Vec Ideal S8x128x128 .f32) (o : Vec Ideal S128x8 .f32) (j : Shape.Idx S128x512) :
    k0_pay1 (F := Ideal) (k0_pay5 o) (k0_pay6 u) (k0_pay19 k0_pay10 k0_pay11 (k0_pay12 (k0_pay2 x) (k0_pay3 g) (k0_pay4 b) w (k0_pay7 x) k0_pay8)
        (k0_pay14 w k0_pay10 k0_pay11 (k0_pay13 (k0_pay2 x) (k0_pay3 g) (k0_pay4 b) (k0_pay7 x) k0_pay8)) (k0_pay15 w (norms x g b) k0_pay10 k0_pay11)
        (k0_pay16 (norms x g b)) (k0_pay17 w k0_pay10) (k0_pay18 w) (Scalar.ofBits .f32 0x00000000#32)) k0_pay20 (k0_pay21 (k0_pay5 o)) 5#32 j
      = gatedEntry (u j) (fun s => pre (fun k => gelu (x (ix2 s k))) (row g 0) (row b 0) (j 1)) w (o (ix2 (j 0) (headOf (j 1)))) (headOf (j 1)) (j 0) := by
  rw [spatial_parts, offs_eq]
  idx_vars j
  pointwise [side_eq, puts_eq, norms_eq, gelu_eq]
  rfl

end Cert.Rows.Branch
-- ==== Proof.BranchRegions.lean ====
/-
  The forward calls of the gated mixer over positions and of the norms of the queries and keys: the arrays that they leave.
-/
module
public import proofs.«01_k».proof.Proof.BranchSpatial
@[expose] public section
set_option maxRecDepth 16384
noncomputable section
namespace Cert.Rows.Branch
open Idealize.ShloMosaic Idealize.ShloMosaic.TcCoe Idealize.SL.Sem Cert.BranchIdeal Cert.BranchIdeal.Gen
open Idealize.ShloMosaic.Pipeline (Dat)

/-! ## What the calls leave -/

/-- Column `n` of the `i`-th 512 columns of the input projection. -/
def zc (i : Fin 13) (n : Fin 512) : Fin 6656 := ⟨512 * i.val + n.val, by omega⟩

/-- A row's position in its chunk of 128 rows, and the row at a position of the same chunk. -/
def posOf (r : Fin 2048) : Fin 128 := ⟨r.val % 128, by omega⟩
def rowAt (r : Fin 2048) (s : Fin 128) : Fin 2048 := ⟨128 * (r.val / 128) + s.val, by omega⟩

/-- The gated mixer's output. -/
def gatedOn (z : Shape.Idx S2048x6656 → EReal) (g b : Shape.Idx S1x512 → EReal) (w : Shape.Idx S8x128x128 → EReal) (o : Shape.Idx S128x8 → EReal) :
    Shape.Idx S2048x512 → EReal :=
  fun j => gatedEntry (z (ix2 (j 0) (zc 0 (j 1)))) (fun s => pre (fun k => gelu (z (ix2 (rowAt (j 0) s) (zc 1 k)))) (row g 0) (row b 0) (j 1)) w
    (o (ix2 (posOf (j 0)) (headOf (j 1)))) (headOf (j 1)) (posOf (j 0))

/-- The heads of 512 columns, normalised. -/
def normsOn (i : Fin 13) (z : Shape.Idx S2048x6656 → EReal) (g : Shape.Idx S1x64 → EReal) : Shape.Idx S2048x512 → EReal :=
  fun j => headNorm (fun k => z (ix2 (j 0) (zc i k))) (row g 0) (j 1)

/-- The queries, scaled. -/
def queriesOn (z : Shape.Idx S2048x6656 → EReal) (g : Shape.Idx S1x64 → EReal) : Shape.Idx S2048x512 → EReal :=
  fun j => normsOn 4 z g j * Ideal.ofBits .f32 0x3E000000#32

/-- The values. -/
def valuesOn (z : Shape.Idx S2048x6656 → EReal) : Shape.Idx S2048x512 → EReal := fun j => z (ix2 (j 0) (zc 6 (j 1)))

/-! ## The calls' blocks from the blocks they read -/

theorem hz : (![0, 0] : Fin 2 → Nat) = fun _ => 0 := by decide
theorem hz3 : (![0, 0, 0] : Fin 3 → Nat) = fun _ => 0 := by decide

theorem out_q (x0 x1 x2 : Vec Ideal S512x512 .bf16) (x3 x4 : Vec Ideal S1x64 .f32) (j : Shape.Idx S512x512) :
    out1_5 (F := Ideal) x0 x1 x2 x3 x4 j = headNorm (row x0 (j 0)) (row x3 0) (j 1) * Ideal.ofBits .f32 0x3E000000#32 := by
  unfold out1_5 k1_pay32 k1_pay33
  rw [View.canon_unit_zero hz, View.ld_unit_zero (S := S512x512) hz, View.ld_unit_zero (S := S1x64) hz]
  exact q_point x0 x3 j

theorem out_k (x0 x1 x2 : Vec Ideal S512x512 .bf16) (x3 x4 : Vec Ideal S1x64 .f32) (j : Shape.Idx S512x512) :
    out1_6 (F := Ideal) x0 x1 x2 x3 x4 j = headNorm (row x1 (j 0)) (row x4 0) (j 1) := by
  unfold out1_6 k1_pay31 k1_pay34 k1_pay35 k1_pay31
  rw [View.canon_unit_zero hz, View.ld_unit_zero (S := S512x512) hz, View.ld_unit_zero (S := S1x64) hz]
  exact k_point x1 x4 j

theorem out_v (x0 x1 x2 : Vec Ideal S512x512 .bf16) (x3 x4 : Vec Ideal S1x64 .f32) : out1_7 (F := Ideal) x0 x1 x2 x3 x4 = x2 := by
  unfold out1_7
  rw [View.canon_unit_zero hz, View.ld_unit_zero (S := S512x512) hz]
  exact pay2_eq x2

theorem out_gated (u x : Vec Ideal S128x512 .bf16) (g b : Vec Ideal S1x512 .f32) (w : Vec Ideal S8x128x128 .f32) (o : Vec Ideal S128x8 .f32) (j : Shape.Idx S128x512) :
    out0_6 (F := Ideal) u x g b w o j
      = gatedEntry (u j) (fun s => pre (fun k => gelu (x (ix2 s k))) (row g 0) (row b 0) (j 1)) w (o (ix2 (j 0) (headOf (j 1)))) (headOf (j 1)) (j 0) := by
  unfold out0_6 k0_pay30 k0_pay29 k0_pay28 k0_pay27 k0_pay26 k0_pay25 k0_pay24 k0_pay23 k0_pay22
  rw [View.canon_unit_zero hz]
  simp only [View.ld_unit_zero (S := S128x512) hz, View.ld_unit_zero (S := S1x512) hz, View.ld_unit_zero (S := S8x128x128) hz3, View.ld_unit_zero (S := S128x8) hz]
  exact spatial_point u x g b w o j

variable (V : (c : Dev nD) → (b : Ref sig .tc) → Buf (Elt Ideal) ((c : Thread nD τ).loc b)) (c : Dev nD)

/-! ## The blocks' places in the arrays -/

theorem idx0 : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] := by decide +kernel
theorem idx1 : ∀ t : Fin cfg1.N, win1_0.index t = ![t.val, 4] ∧ win1_1.index t = ![t.val, 5] ∧ win1_2.index t = ![t.val, 6] ∧ win1_3.index t = ![0, 0]
    ∧ win1_4.index t = ![0, 0] ∧ win1_5.index t = ![t.val, 0] ∧ win1_6.index t = ![t.val, 0] ∧ win1_7.index t = ![t.val, 0] := by decide +kernel

/-- The row of the arrays that a row of a block is. -/
def at0 (t : Fin cfg0.N) (r : Fin 128) : Fin 2048 := ⟨128 * t.val + r.val, by have := t.isLt; have : cfg0.N = 16 := rfl; omega⟩
def at1 (t : Fin cfg1.N) (r : Fin 512) : Fin 2048 := ⟨512 * t.val + r.val, by have := t.isLt; have : cfg1.N = 4 := rfl; omega⟩

theorem posOf_at (t : Fin cfg0.N) (r : Fin 128) : posOf (at0 t r) = r := Fin.ext (by simp only [posOf, at0]; omega)
theorem rowAt_at (t : Fin cfg0.N) (r s : Fin 128) : rowAt (at0 t r) s = at0 t s := Fin.ext (by simp only [rowAt, at0]; omega)

/-- The gated mixer's output at a row of a chunk. -/
theorem gatedOn_at (z : Shape.Idx S2048x6656 → EReal) (g b : Shape.Idx S1x512 → EReal) (w : Shape.Idx S8x128x128 → EReal) (o : Shape.Idx S128x8 → EReal)
    (t : Fin cfg0.N) (r : Fin 128) (n : Fin 512) :
    gatedOn z g b w o (ix2 (at0 t r) n) = gatedEntry (z (ix2 (at0 t r) (zc 0 n))) (fun s => pre (fun k => gelu (z (ix2 (at0 t s) (zc 1 k)))) (row g 0) (row b 0) n) w
      (o (ix2 r (headOf n))) (headOf n) r := by
  show gatedEntry _ (fun s => pre (fun k => gelu (z (ix2 (rowAt (at0 t r) s) (zc 1 k)))) _ _ _) _ (o (ix2 (posOf (at0 t r)) _)) _ (posOf (at0 t r)) = _
  simp only [posOf_at, rowAt_at]
  rfl

/-! ## The gated mixer -/

theorem first0 (t : Fin cfg0.N) (j : Shape.Idx S128x512) : iblk0 V c 0 t j = V c main_v0 (ix2 (at0 t (j 0)) (zc 0 (j 1))) := by
  blk_ext [iblk0, idx0 t, at0, zc]

theorem second0 (t : Fin cfg0.N) (j : Shape.Idx S128x512) : iblk0 V c 1 t j = V c main_v0 (ix2 (at0 t (j 0)) (zc 1 (j 1))) := by
  blk_ext [iblk0, idx0 t, at0, zc]

theorem weights0 (t : Fin cfg0.N) : row (M := 1) (N := 512) (iblk0 V c 2 t) 0 = row (M := 1) (N := 512) (V c main_v1) 0 := by
  funext k
  unfold row
  blk_ext [iblk0, idx0 t]

theorem shifts0 (t : Fin cfg0.N) : row (M := 1) (N := 512) (iblk0 V c 3 t) 0 = row (M := 1) (N := 512) (V c main_v2) 0 := by
  funext k
  unfold row
  blk_ext [iblk0, idx0 t]

theorem mixer0 (t : Fin cfg0.N) : (iblk0 V c 4 t : Shape.Idx S8x128x128 → EReal) = V c main_arg3 := by
  funext j
  blk_ext [iblk0, idx0 t]

theorem offsets0 (t : Fin cfg0.N) (j : Shape.Idx S128x8) : iblk0 V c 5 t j = V c main_v3 j := by
  blk_ext [iblk0, idx0 t]

theorem gated : (dat0 V c).arrAt 6 cfg0.N = (gatedOn (V c main_v0) (V c main_v1) (V c main_v2) (V c main_arg3) (V c main_v3) : Shape.Idx S2048x512 → EReal) := by
  refine (dat0 V c).arrAt_eq_of_covers 6 (gatedOn (V c main_v0) (V c main_v1) (V c main_v2) (V c main_arg3) (V c main_v3) : Shape.Idx S2048x512 → EReal) (by decide +kernel) fun t _ j => ?_
  blk_simp
  rw [after0_6]
  refine Eq.trans (b := gatedEntry (iblk0 V c 0 t j) (fun s => pre (fun k => gelu (iblk0 V c 1 t (ix2 s k))) (row (M := 1) (N := 512) (iblk0 V c 2 t) 0)
    (row (M := 1) (N := 512) (iblk0 V c 3 t) 0) (j 1)) (iblk0 V c 4 t) (iblk0 V c 5 t (ix2 (j 0) (headOf (j 1)))) (headOf (j 1)) (j 0)) ?_ ?_
  · exact out_gated (iblk0 V c 0 t) (iblk0 V c 1 t) (iblk0 V c 2 t) (iblk0 V c 3 t) (iblk0 V c 4 t) (iblk0 V c 5 t) j
  · have hv : (fun s : Fin 128 => pre (fun k => gelu (iblk0 V c 1 t (ix2 s k))) (row (M := 1) (N := 512) (iblk0 V c 2 t) 0) (row (M := 1) (N := 512) (iblk0 V c 3 t) 0) (j 1))
        = fun s => pre (fun k => gelu (V c main_v0 (ix2 (at0 t s) (zc 1 k)))) (row (M := 1) (N := 512) (V c main_v1) 0) (row (M := 1) (N := 512) (V c main_v2) 0) (j 1) :=
      funext fun s => congrFun (congr (congrArg₂ pre (funext fun k => congrArg gelu (second0 V c t (ix2 s k))) (weights0 V c t)) (shifts0 V c t)) (j 1)
    refine (congrFun (congrFun (congr (congr (congrArg₂ gatedEntry (first0 V c t j) hv) (mixer0 V c t)) (offsets0 V c t (ix2 (j 0) (headOf (j 1))))) _) _).trans ((gatedOn_at (V c main_v0) (V c main_v1) (V c main_v2) (V c main_arg3) (V c main_v3) t (j 0) (j 1)).symm.trans
      (congrArg (gatedOn (V c main_v0) (V c main_v1) (V c main_v2) (V c main_arg3) (V c main_v3)) (a₁ := ix2 (at0 t (j 0)) (j 1)) ?_))
    blk_ext [idx0 t, at0]

/-! ## The queries, the keys and the values -/

theorem rows1_q (t : Fin cfg1.N) (r : Fin 512) : row (M := 512) (N := 512) (iblk1 V c 0 t) r = fun k => V c main_v0 (ix2 (at1 t r) (zc 4 k)) := by
  funext k
  unfold row
  blk_ext [iblk1, idx1 t, at1, zc]

theorem rows1_k (t : Fin cfg1.N) (r : Fin 512) : row (M := 512) (N := 512) (iblk1 V c 1 t) r = fun k => V c main_v0 (ix2 (at1 t r) (zc 5 k)) := by
  funext k
  unfold row
  blk_ext [iblk1, idx1 t, at1, zc]

theorem entry1 (t : Fin cfg1.N) (j : Shape.Idx S512x512) : iblk1 V c 2 t j = V c main_v0 (ix2 (at1 t (j 0)) (zc 6 (j 1))) := by
  blk_ext [iblk1, idx1 t, at1, zc]

theorem weights1_q (t : Fin cfg1.N) : row (M := 1) (N := 64) (iblk1 V c 3 t) 0 = row (M := 1) (N := 64) (V c main_v5) 0 := by
  funext k
  unfold row
  blk_ext [iblk1, idx1 t]

theorem weights1_k (t : Fin cfg1.N) : row (M := 1) (N := 64) (iblk1 V c 4 t) 0 = row (M := 1) (N := 64) (V c main_v6) 0 := by
  funext k
  unfold row
  blk_ext [iblk1, idx1 t]

theorem queries : (dat1 V c).arrAt 5 cfg1.N = (queriesOn (V c main_v0) (V c main_v5) : Shape.Idx S2048x512 → EReal) := by
  refine (dat1 V c).arrAt_eq_of_covers 5 (queriesOn (V c main_v0) (V c main_v5) : Shape.Idx S2048x512 → EReal) (by decide +kernel) fun t _ j => ?_
  blk_simp
  rw [after1_5]
  refine Eq.trans (b := headNorm (row (M := 512) (N := 512) (iblk1 V c 0 t) (j 0)) (row (M := 1) (N := 64) (iblk1 V c 3 t) 0) (j 1) * Ideal.ofBits .f32 0x3E000000#32) ?_ ?_
  · exact out_q (iblk1 V c 0 t) (iblk1 V c 1 t) (iblk1 V c 2 t) (iblk1 V c 3 t) (iblk1 V c 4 t) j
  · refine (congrArg (· * Ideal.ofBits .f32 0x3E000000#32) (congrFun (congrArg₂ headNorm (rows1_q V c t (j 0)) (weights1_q V c t)) (j 1))).trans
      (congrArg (queriesOn (V c main_v0) (V c main_v5)) (a₁ := ix2 (at1 t (j 0)) (j 1)) ?_)
    blk_ext [idx1 t, at1]

theorem keys : (dat1 V c).arrAt 6 cfg1.N = (normsOn 5 (V c main_v0) (V c main_v6) : Shape.Idx S2048x512 → EReal) := by
  refine (dat1 V c).arrAt_eq_of_covers 6 (normsOn 5 (V c main_v0) (V c main_v6) : Shape.Idx S2048x512 → EReal) (by decide +kernel) fun t _ j => ?_
  blk_simp
  rw [after1_6]
  refine Eq.trans (b := headNorm (row (M := 512) (N := 512) (iblk1 V c 1 t) (j 0)) (row (M := 1) (N := 64) (iblk1 V c 4 t) 0) (j 1)) ?_ ?_
  · exact out_k (iblk1 V c 0 t) (iblk1 V c 1 t) (iblk1 V c 2 t) (iblk1 V c 3 t) (iblk1 V c 4 t) j
  · refine (congrFun (congrArg₂ headNorm (rows1_k V c t (j 0)) (weights1_k V c t)) (j 1)).trans
      (congrArg (normsOn 5 (V c main_v0) (V c main_v6)) (a₁ := ix2 (at1 t (j 0)) (j 1)) ?_)
    blk_ext [idx1 t, at1]

theorem vals : (dat1 V c).arrAt 7 cfg1.N = (valuesOn (V c main_v0) : Shape.Idx S2048x512 → EReal) := by
  refine (dat1 V c).arrAt_eq_of_covers 7 (valuesOn (V c main_v0) : Shape.Idx S2048x512 → EReal) (by decide +kernel) fun t _ j => ?_
  blk_simp
  rw [after1_7]
  refine Eq.trans (b := iblk1 V c 2 t j) ?_ ?_
  · exact congrFun (out_v (iblk1 V c 0 t) (iblk1 V c 1 t) (iblk1 V c 2 t) (iblk1 V c 3 t) (iblk1 V c 4 t)) j
  · refine ((entry1 V c t j).trans (congrArg (valuesOn (V c main_v0)) (a₁ := ix2 (at1 t (j 0)) (j 1)) ?_))
    blk_ext [idx1 t, at1]

end Cert.Rows.Branch
-- ==== Proof.BranchRun.lean ====
/-
  The run of the forward calls of the gated mixer and of the norms of the queries and keys, with its results.
-/
module
public import proofs.«01_k».proof.Proof.BranchRegions
public import Idealize.ShloMosaic.Lib.Tactic.CleanTypes
@[expose] public section
set_option maxRecDepth 16384
noncomputable section
namespace Cert.Rows.Branch
open Cert.BranchIdeal Cert.BranchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-! ## The arrays between the calls -/

variable (c : Dev nD)

/-- An array of the launch. -/
abbrev arg (b : Ref sig .tc) := m ((c.tc : Thread nD τ).loc b)

/-- The cast on the host changes nothing. -/
theorem W1_z : W1 m ρ c (Proc.devRef .tc main_v0) = arg m c main_arg0 := by
  unfold W1
  after_results
  rfl

/-- A vector stood up as one row. -/
def one {N : ℕ} (v : Shape.Idx ⟨1, ![N]⟩ → EReal) : Shape.Idx ⟨2, ![1, N]⟩ → EReal := fun j => v (ix1 (j 1))

/-- The offsets with the positions as rows. -/
def flip (b : Shape.Idx S8x128 → EReal) : Shape.Idx S128x8 → EReal := fun j => b (ix2 (j 1) (j 0))

theorem W1_g : W1 m ρ c (Proc.devRef .tc main_v1) = one (N := 512) (arg m c main_arg1) := by
  have e : W1 m ρ c (Proc.devRef .tc main_v1) = broadcastInDim S1x512 ![1] bcast_S512_S1x512_1 (arg m c main_arg1) := by
    unfold W1
    after_results
  rw [e]
  funext j
  idx_vars j
  pointwise []
  rfl

theorem W1_b : W1 m ρ c (Proc.devRef .tc main_v2) = one (N := 512) (arg m c main_arg2) := by
  have e : W1 m ρ c (Proc.devRef .tc main_v2) = broadcastInDim S1x512 ![1] bcast_S512_S1x512_1 (arg m c main_arg2) := by
    unfold W1
    after_results
  rw [e]
  funext j
  idx_vars j
  pointwise []
  rfl

theorem W1_o : W1 m ρ c (Proc.devRef .tc main_v3) = flip (arg m c main_arg4) := by
  have e : W1 m ρ c (Proc.devRef .tc main_v3) = transpose S128x8 [1, 0] (arg m c main_arg4) transposes_S8x128_S128x8_1_0 := by
    unfold W1
    after_results
  rw [e]
  funext j
  idx_vars j
  pointwise []
  rfl

/-- The input projection's output and the arrays of the launch at the second call's start. -/
theorem W3_z : W3 m ρ c (Proc.devRef .tc main_v0) = arg m c main_arg0 :=
  (W3_of m ρ c main_v0 (by decide)).trans ((W2_of m ρ c main_v0 (by decide)).trans (W1_z m ρ c))

theorem W2_launched (r : Ref sig .tc) (h0 : r ∉ hostOps0_W) (h1 : ∀ w : Fin cfg0.W, Pipeline.arrRef spec0 w = r → (cfg0.win w).isOut = false) :
    W2 m ρ c (Proc.devRef .tc r) = arg m c r := (W2_of m ρ c r h1).trans (W1_of m ρ c r h0)

theorem W3_q : W3 m ρ c (Proc.devRef .tc main_v5) = one (N := 64) (arg m c main_arg5) := by
  have e : W3 m ρ c (Proc.devRef .tc main_v5) = broadcastInDim S1x64 ![1] bcast_S64_S1x64_1 (W2 m ρ c (Proc.devRef .tc main_arg5)) := by
    unfold W3
    after_results
  rw [e, W2_launched m ρ c main_arg5 (by decide) (by decide)]
  funext j
  idx_vars j
  pointwise []
  rfl

theorem W3_k : W3 m ρ c (Proc.devRef .tc main_v6) = one (N := 64) (arg m c main_arg6) := by
  have e : W3 m ρ c (Proc.devRef .tc main_v6) = broadcastInDim S1x64 ![1] bcast_S64_S1x64_1 (W2 m ρ c (Proc.devRef .tc main_arg6)) := by
    unfold W3
    after_results
  rw [e, W2_launched m ρ c main_arg6 (by decide) (by decide)]
  funext j
  idx_vars j
  pointwise []
  rfl

/-! ## The results -/

theorem W4_gated : W4 m ρ c (Proc.devRef .tc main_v4)
    = (gatedOn (arg m c main_arg0) (one (N := 512) (arg m c main_arg1)) (one (N := 512) (arg m c main_arg2)) (arg m c main_arg3) (flip (arg m c main_arg4)) : Shape.Idx S2048x512 → EReal) :=
  (W4_of m ρ c main_v4 (by decide)).trans ((W3_of m ρ c main_v4 (by decide)).trans ((W2_arr m ρ c 6).trans ((gated (V1 m ρ) c).trans
    (congr (congr (congr (congrArg₂ gatedOn (W1_z m ρ c) (W1_g m ρ c)) (W1_b m ρ c)) (W1_of m ρ c main_arg3 (by decide))) (W1_o m ρ c)))))

theorem W4_queries : W4 m ρ c (Proc.devRef .tc main_v7_0) = (queriesOn (arg m c main_arg0) (one (N := 64) (arg m c main_arg5)) : Shape.Idx S2048x512 → EReal) :=
  (W4_arr m ρ c 5).trans ((queries (V3 m ρ) c).trans (congrArg₂ queriesOn (W3_z m ρ c) (W3_q m ρ c)))

theorem W4_keys : W4 m ρ c (Proc.devRef .tc main_v7_1) = (normsOn 5 (arg m c main_arg0) (one (N := 64) (arg m c main_arg6)) : Shape.Idx S2048x512 → EReal) :=
  (W4_arr m ρ c 6).trans ((keys (V3 m ρ) c).trans (congrArg₂ (normsOn 5) (W3_z m ρ c) (W3_k m ρ c)))

theorem W4_vals : W4 m ρ c (Proc.devRef .tc main_v7_2) = (valuesOn (arg m c main_arg0) : Shape.Idx S2048x512 → EReal) :=
  (W4_arr m ρ c 7).trans ((vals (V3 m ρ) c).trans (congrArg valuesOn (W3_z m ρ c)))

end Cert.Rows.Branch
-- ==== Proof.BranchRef.lean ====
/-
  What the reference of the gated mixer and of the norms of the queries and keys computes.
-/
module
public import proofs.«01_k».proof.Proof.BranchRun
public import proofs.«01_k».proof.Proof.Gen.BranchRefIdeal.Run
@[expose] public section
set_option maxRecDepth 16384
noncomputable section
namespace Cert.Rows.BranchRef
open Finset Idealize.ShloMosaic Idealize.ShloMosaic.TcCoe Idealize.SL.Sem Cert.BranchRefIdeal Cert.BranchRefIdeal.Gen
open Cert.Rows.Branch (gelu tril mixed gatedEntry gatedOn normsOn queriesOn valuesOn headOf laneOf headCol headSq headScale headNorm zc posOf rowAt one flip headCol_of)

variable (z : FVec Ideal S2048x6656 .f32)

/-! ## The norms of the heads -/

variable (x : FVec Ideal S2048x8x64 .f32) (g : FVec Ideal S64 .f32)

/-- The heads over their root mean squares, weighted. -/
def normed : FVec Ideal S2048x8x64 .f32 :=
  mulf (mulf x (broadcastInDim S2048x8x64 ![0, 1, 2] bcast_S2048x8x1_S2048x8x64_0_1_2 (Host.rsqrt (addf (Host.divf (broadcastInDim S2048x8x1 ![0, 1] bcast_S2048x8_S2048x8x1_0_1 (Host.reduceAdd (mulf x x) (constant S_ .f32 0x00000000#32 : FVec Ideal S_ .f32) reducesTo_S2048x8x64_S2048x8_d2 h_S_)) (broadcastInDim S2048x8x1 ![] bcast_S_S2048x8x1 (constant S_ .f32 0x42800000#32 : FVec Ideal S_ .f32))) (broadcastInDim S2048x8x1 ![] bcast_S_S2048x8x1 (constant S_ .f32 0x358637BD#32 : FVec Ideal S_ .f32)))))) (broadcastInDim S2048x8x64 ![0, 1, 2] bcast_S1x1x64_S2048x8x64_0_1_2 (broadcastInDim S1x1x64 ![2] bcast_S64_S1x1x64_2 g))

theorem normed_eq (r : Fin 2048) (h : Fin 8) (k : Fin 64) : normed x g (ix3 r h k)
    = x (ix3 r h k) * Ideal.rsqrt (Ideal.div (∑ i : Fin 64, x (ix3 r h i) * x (ix3 r h i)) (Ideal.ofBits .f32 0x42800000#32) + Ideal.ofBits .f32 0x358637BD#32) * g (ix1 k) := by
  unfold normed
  pointwise []

/-- The queries' heads and the keys' heads. -/
def queryHeads : FVec Ideal S2048x8x64 .f32 := shapeCast S2048x8x64 (extractStridedSlice S2048x512 ![0, 0] (extractStridedSlice S2048x1536 ![0, 2048] z slices_S2048x6656_S2048x1536_0_2048) slices_S2048x1536_S2048x512_0_0) shapeCasts_S2048x512_S2048x8x64
def keyHeads : FVec Ideal S2048x8x64 .f32 := shapeCast S2048x8x64 (extractStridedSlice S2048x512 ![0, 512] (extractStridedSlice S2048x1536 ![0, 2048] z slices_S2048x6656_S2048x1536_0_2048) slices_S2048x1536_S2048x512_0_512) shapeCasts_S2048x512_S2048x8x64

theorem queryHeads_eq (r : Fin 2048) (h : Fin 8) (k : Fin 64) : queryHeads z (ix3 r h k) = z (ix2 r (zc 4 (headCol h k))) := by
  unfold queryHeads
  rw [show zc 4 (headCol h k) = ⟨2048 + (h.val * 64 + k.val), by omega⟩ from Fin.ext (by simp only [zc, headCol]; omega)]
  pointwise []

theorem keyHeads_eq (r : Fin 2048) (h : Fin 8) (k : Fin 64) : keyHeads z (ix3 r h k) = z (ix2 r (zc 5 (headCol h k))) := by
  unfold keyHeads
  rw [show zc 5 (headCol h k) = ⟨2048 + (512 + (h.val * 64 + k.val)), by omega⟩ from Fin.ext (by simp only [zc, headCol]; omega)]
  pointwise []

/-- The heads side by side again. -/
theorem flat_eq (y : FVec Ideal S2048x8x64 .f32) (r : Fin 2048) (n : Fin 512) :
    shapeCast S2048x512 y shapeCasts_S2048x8x64_S2048x512 (ix2 r n) = y (ix3 r (headOf n) (laneOf n)) := by
  pointwise []
  rfl

theorem ref_q : truncf .bf16 (mulf (shapeCast S2048x512 (normed (queryHeads z) g) shapeCasts_S2048x8x64_S2048x512) (broadcastInDim S2048x512 ![] bcast_S_S2048x512 (constant S_ .f32 0x3E000000#32 : FVec Ideal S_ .f32))) bitsLt_bf16_f32
    = (queriesOn z (one (N := 64) g) : Shape.Idx S2048x512 → EReal) := by
  funext j
  idx_vars j
  pointwise [flat_eq, normed_eq, queryHeads_eq, headCol_of]
  rfl

theorem ref_k : truncf .bf16 (shapeCast S2048x512 (normed (keyHeads z) g) shapeCasts_S2048x8x64_S2048x512) bitsLt_bf16_f32
    = (normsOn 5 z (one (N := 64) g) : Shape.Idx S2048x512 → EReal) := by
  funext j
  idx_vars j
  pointwise [flat_eq, normed_eq, keyHeads_eq, headCol_of]
  rfl

theorem ref_v : truncf .bf16 (extractStridedSlice S2048x512 ![0, 1024] (extractStridedSlice S2048x1536 ![0, 2048] z slices_S2048x6656_S2048x1536_0_2048) slices_S2048x1536_S2048x512_0_1024) bitsLt_bf16_f32
    = (valuesOn z : Shape.Idx S2048x512 → EReal) := by
  funext j
  idx_vars j
  show _ = z (ix2 j0 (zc 6 j1))
  rw [show zc 6 j1 = ⟨2048 + (1024 + j1.val), by omega⟩ from Fin.ext (by simp only [zc]; omega)]
  pointwise []

/-! ## The gated mixer -/

/-- The first columns, through the smooth rectifier. -/
def first : FVec Ideal S2048x1024 .f32 := extractStridedSlice S2048x1024 ![0, 0] z slices_S2048x6656_S2048x1024_0_0
def smooth : FVec Ideal S2048x1024 .f32 :=
  mulf (first z) (mulf (broadcastInDim S2048x1024 ![] bcast_S_S2048x1024 (constant S_ .f32 0x3F000000#32 : FVec Ideal S_ .f32)) (addf (broadcastInDim S2048x1024 ![] bcast_S_S2048x1024 (constant S_ .f32 0x3F800000#32 : FVec Ideal S_ .f32)) (Host.tanh (mulf (broadcastInDim S2048x1024 ![] bcast_S_S2048x1024 (constant S_ .f32 0x3F4C422A#32 : FVec Ideal S_ .f32)) (addf (first z) (mulf (broadcastInDim S2048x1024 ![] bcast_S_S2048x1024 (constant S_ .f32 0x3D372713#32 : FVec Ideal S_ .f32)) (mulf (mulf (first z) (first z)) (first z))))))))

theorem smooth_eq (r : Fin 2048) (n : Fin 1024) : smooth z (ix2 r n) = gelu (z (ix2 r ⟨n.val, by omega⟩)) := by
  unfold smooth first
  pointwise [gelu, mul_assoc]

/-- The two halves of these columns. -/
def half0 : FVec Ideal S2048x512 .f32 := extractStridedSlice S2048x512 ![0, 0] (smooth z) slices_S2048x1024_S2048x512_0_0
def half1 : FVec Ideal S2048x512 .f32 := extractStridedSlice S2048x512 ![0, 512] (smooth z) slices_S2048x1024_S2048x512_0_512

theorem half0_eq (r : Fin 2048) (n : Fin 512) : half0 z (ix2 r n) = gelu (z (ix2 r (zc 0 n))) := by
  unfold half0
  rw [show zc 0 n = ⟨n.val, by omega⟩ from Fin.ext (by simp only [zc]; omega)]
  pointwise [smooth_eq]

theorem half1_eq (r : Fin 2048) (n : Fin 512) : half1 z (ix2 r n) = gelu (z (ix2 r (zc 1 n))) := by
  unfold half1
  rw [show zc 1 n = ⟨512 + n.val, by omega⟩ from Fin.ext (by simp only [zc]; omega)]
  pointwise [smooth_eq]

variable (y : FVec Ideal S2048x512 .f32) (lg lb : FVec Ideal S512 .f32)

/-- The rows less their means. -/
def centred : FVec Ideal S2048x512 .f32 :=
  subf y (broadcastInDim S2048x512 ![0, 1] bcast_S2048x1_S2048x512_0_1 (Host.divf (broadcastInDim S2048x1 ![0] bcast_S2048_S2048x1_0 (Host.reduceAdd y (constant S_ .f32 0x00000000#32 : FVec Ideal S_ .f32) reducesTo_S2048x512_S2048_d1 h_S_)) (broadcastInDim S2048x1 ![] bcast_S_S2048x1 (constant S_ .f32 0x44000000#32 : FVec Ideal S_ .f32))))

/-- The normalised rows. -/
def inner : FVec Ideal S2048x512 .f32 :=
  addf (mulf (mulf (centred y) (broadcastInDim S2048x512 ![0, 1] bcast_S2048x1_S2048x512_0_1 (Host.rsqrt (addf (Host.divf (broadcastInDim S2048x1 ![0] bcast_S2048_S2048x1_0 (Host.reduceAdd (mulf (centred y) (centred y)) (constant S_ .f32 0x00000000#32 : FVec Ideal S_ .f32) reducesTo_S2048x512_S2048_d1 h_S_)) (broadcastInDim S2048x1 ![] bcast_S_S2048x1 (constant S_ .f32 0x44000000#32 : FVec Ideal S_ .f32))) (broadcastInDim S2048x1 ![] bcast_S_S2048x1 (constant S_ .f32 0x358637BD#32 : FVec Ideal S_ .f32)))))) (broadcastInDim S2048x512 ![0, 1] bcast_S1x512_S2048x512_0_1 (broadcastInDim S1x512 ![1] bcast_S512_S1x512_1 lg))) (broadcastInDim S2048x512 ![0, 1] bcast_S1x512_S2048x512_0_1 (broadcastInDim S1x512 ![1] bcast_S512_S1x512_1 lb))

theorem centred_eq (r : Fin 2048) (n : Fin 512) : centred y (ix2 r n) = cen (row y r) n := by
  unfold centred
  pointwise []
  rfl

theorem inner_eq (r : Fin 2048) (n : Fin 512) : inner y lg lb (ix2 r n) = pre (row y r) (fun k => lg (ix1 k)) (fun k => lb (ix1 k)) n := by
  unfold inner
  pointwise [centred_eq]
  rfl

variable (w : FVec Ideal S8x128x128 .f32) (o : FVec Ideal S8x128 .f32)

/-- The lower triangles. -/
def lower : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (constant S_ .f32 0x00000000#32 : FVec Ideal S_ .f32))

theorem below (r s : Fin 128) : IntOp.cmpi .sge (IntOp.addi (BitVec.ofNat 32 r.val) 0#32) (BitVec.ofNat 32 s.val) = if s ≤ r then 1#1 else 0#1 := by
  revert r s
  decide +kernel

theorem select_below (r s : Fin 128) (a b : EReal) :
    Scalar.select (Scalar.select (IntOp.cmpi .sge (IntOp.addi (BitVec.ofNat 32 r.val) 0#32) (BitVec.ofNat 32 s.val)) 1#1 0#1) a b = if s ≤ r then a else b := by
  rw [below]
  split <;> rfl

theorem lower_eq (h : Fin 8) (r s : Fin 128) : lower w (ix3 h r s) = tril w h r s := by
  unfold lower
  pointwise [select_below]
  rfl

/-- The rows in chunks and heads. -/
theorem chunks_eq (q : Fin 16) (s : Fin 128) (h : Fin 8) (k : Fin 64) :
    shapeCast S16x128x8x64 y shapeCasts_S2048x512_S16x128x8x64 (ix4 q s h k) = y (ix2 ⟨128 * q.val + s.val, by omega⟩ (headCol h k)) := by
  rw [show (⟨128 * q.val + s.val, by omega⟩ : Fin 2048) = ⟨q.val * 128 + s.val, by omega⟩ from Fin.ext (by show 128 * q.val + s.val = q.val * 128 + s.val; omega),
    show headCol h k = ⟨h.val * 64 + k.val, by omega⟩ from Fin.ext (by simp only [headCol]; omega)]
  pointwise []

/-- Every chunk through the triangles, with the positions' offsets. -/
def mixing : FVec Ideal S16x128x8x64 .f32 :=
  addf (transpose S16x128x8x64 [1, 3, 0, 2] (Host.dotGeneral dot_S16x128x8x64_S8x128x128_S8x16x64x128_1_2_03_1_2_0 none (shapeCast S16x128x8x64 y shapeCasts_S2048x512_S16x128x8x64) (lower w)) transposes_S8x16x64x128_S16x128x8x64_1_3_0_2)
    (broadcastInDim S16x128x8x64 ![0, 1, 2, 3] bcast_S1x128x8x1_S16x128x8x64_0_1_2_3 (broadcastInDim S1x128x8x1 ![1, 2, 3] bcast_S128x8x1_S1x128x8x1_1_2_3 (broadcastInDim S128x8x1 ![0, 1] bcast_S128x8_S128x8x1_0_1 (transpose S128x8 [1, 0] o transposes_S8x128_S128x8_1_0))))

theorem mixing_eq (q : Fin 16) (r : Fin 128) (h : Fin 8) (k : Fin 64) :
    mixing y w o (ix4 q r h k) = mixed w (fun s => y (ix2 ⟨128 * q.val + s.val, by omega⟩ (headCol h k))) h r + o (ix2 h r) := by
  unfold mixing
  pointwise [chunks_eq, lower_eq]
  refine congrArg (· + _) (Finset.sum_congr rfl fun s _ => mul_comm _ _)

theorem unchunk_eq (v : FVec Ideal S16x128x8x64 .f32) (r : Fin 2048) (n : Fin 512) :
    shapeCast S2048x512 v shapeCasts_S16x128x8x64_S2048x512 (ix2 r n) = v (ix4 ⟨r.val / 128, by omega⟩ (posOf r) (headOf n) (laneOf n)) := by
  pointwise []
  rfl

theorem row_half1 (r : Fin 2048) : row (half1 z) r = fun k => gelu (z (ix2 r (zc 1 k))) := funext fun k => half1_eq z r k

theorem ref_gated : truncf .bf16 (mulf (half0 z) (shapeCast S2048x512 (mixing (inner (half1 z) lg lb) w o) shapeCasts_S16x128x8x64_S2048x512)) bitsLt_bf16_f32
    = (gatedOn z (one (N := 512) lg) (one (N := 512) lb) w (flip o) : Shape.Idx S2048x512 → EReal) := by
  funext j
  idx_vars j
  pointwise [half0_eq, unchunk_eq, mixing_eq, inner_eq, headCol_of, row_half1]
  rfl

end Cert.Rows.BranchRef
-- ==== Proof.ConvBlock.lean ====
/-
  The convolution of 31 rows: the blocks that its two calls leave.
-/
module
public import proofs.«01_k».proof.Proof.RowMath
public import proofs.«01_k».proof.Proof.Gen.ConvIdeal.Frame
public import Idealize.ShloMosaic.Lib.Pipeline.ValueKit
public import Idealize.ShloMosaic.Lib.WritesUnit
@[expose] public section
set_option maxRecDepth 16384
noncomputable section
namespace Cert.Rows.Conv
open Idealize.ShloMosaic Idealize.ShloMosaic.TcCoe Idealize.SL.Sem Cert.ConvIdeal Cert.ConvIdeal.Gen
open Idealize.ShloMosaic.Pipeline (Dat)

/-- The rows `h` with the rows `w` after them: the entry at row `r` and column `k`. -/
def joined {p q C : ℕ} (h : Shape.Idx ⟨2, ![p, C]⟩ → EReal) (w : Shape.Idx ⟨2, ![q, C]⟩ → EReal) (r : ℕ) (k : Fin C) : EReal :=
  if h₁ : r < p then h (ix2 ⟨r, h₁⟩ k) else if h₂ : r - p < q then w (ix2 ⟨r - p, h₂⟩ k) else 0

/-- A load of 256 rows of a buffer that holds `h` and, from row `p` on, `w`. -/
theorem load {p q : ℕ} (hpq : p + q = 288) (v : View sig .tc .vmem S288x512 .f32) (h : Shape.Idx ⟨2, ![p, 512]⟩ → EReal) (w : Shape.Idx ⟨2, ![q, 512]⟩ → EReal) (inb inb') (o : ℕ) (inbo) (a : Fin 256) (b : Fin 512) :
    v.readCov (Val := Elt Ideal) [⟨Rect.unit (s := S288x512) ![p, 0] ![q, 512] inb, w⟩,
        ⟨Rect.unit (s := S288x512) ![0, 0] ![p, 512] inb', h⟩]
      (Rect.unit (s := S288x512) ![o, 0] ![256, 512] inbo).toLoadRect (ix2 a b) = joined h w (a.val + o) b := by
  have ho : o + 256 ≤ 288 := inbo 0
  show v.read (Elt Ideal) (v.writes (Elt Ideal) v.junk _) _ = _
  unfold joined
  split
  · refine (View.read_writes_cons_rows_of_not_mem v _ inb _ _ _ rfl (W := q) rfl ?_).trans ?_
    · show o + 1 * a.val < p ∨ p + q ≤ o + 1 * a.val
      omega
    · refine (View.read_writes_cons_rows_of_mem v _ inb' _ _ _ (ix2 ⟨a.val + o, by omega⟩ b) rfl ?_ ?_).trans rfl
      · show o + 1 * a.val = 0 + (a.val + o)
        omega
      · show 0 + 1 * b.val = b.val
        omega
  · rw [dif_pos (by omega)]
    refine (View.read_writes_cons_rows_of_mem v _ inb _ _ _ (ix2 ⟨a.val + o - p, by omega⟩ b) rfl ?_ ?_).trans rfl
    · show o + 1 * a.val = p + (a.val + o - p)
      omega
    · show 0 + 1 * b.val = b.val
      omega

/-- An accumulation over the 31 taps. -/
theorem sum_taps (b : EReal) (f : Fin 31 → EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30
      = b + ∑ k, f k := by
  simp only [Fin.sum_univ_castSucc, Finset.univ_eq_empty, Finset.sum_empty, zero_add, ← add_assoc]
  rfl

/-- The block that the forward call leaves. -/
theorem out_fwd (c : Dev nD) (i : grid0.Coords) (arg1 : Memref sig .tc .vmem S256x512 .f32) (harg1 : arg1.IsWhole) (arg2 : Memref sig .tc .vmem S32x512 .f32) (harg2 : arg2.IsWhole) (arg3 : Memref sig .tc .vmem S31x512 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S288x512 .f32) (harg6 : arg6.IsWhole)
    (x0 : Vec Ideal S256x512 .f32) (x1 : Vec Ideal S32x512 .f32) (x2 : Vec Ideal S31x512 .f32) (x3 : Vec Ideal S1x512 .f32) (y : S256x512.Idx) :
    out0_A_4 c i arg1 harg1 arg2 harg2 arg3 harg3 arg4 harg4 arg5 harg5 arg6 harg6 x0 x1 x2 x3 y
      = x3 (ix2 0 (y 1)) + ∑ k : Fin 31, x2 (ix2 k (y 1)) * joined (p := 32) (q := 256) (C := 512) (k0_pay2 (F := Ideal) i x1) x0 ((y 0 : Fin 256).val + (2 + k.val)) (y 1) := by
  frame_out
  open_payloads
  idx_vars y
  pointwise []
  rw [← sum_taps]
  simp only [load (p := 32) (q := 256) rfl]
  rfl

/-! ## The backward call -/

variable (c : Dev nD) (i : grid1.Coords) (arg1 : Memref sig .tc .vmem S256x512 .f32) (harg1 : arg1.IsWhole) (arg2 : Memref sig .tc .vmem S32x512 .f32) (harg2 : arg2.IsWhole) (arg3 : Memref sig .tc .vmem S31x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S256x512 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S288x512 .f32) (harg9 : arg9.IsWhole) (arg10 : Memref sig .tc .vmem S288x512 .f32) (harg10 : arg10.IsWhole)
  (x0 : Vec Ideal S256x512 .f32) (x1 : Vec Ideal S32x512 .f32) (x2 : Vec Ideal S31x512 .f32) (x3 : Vec Ideal S256x512 .f32) (x4 : Vec Ideal S32x512 .f32)

/-- The gradient at the rows: the block, at the first point and at the points after it. -/
theorem out_A5 (hc0) (y : S256x512.Idx) :
    out1_A_5 c i arg1 harg1 arg2 harg2 arg3 harg3 arg4 harg4 arg5 harg5 arg6 harg6 arg7 harg7 arg8 harg8 arg9 harg9 arg10 harg10 hc0 x0 x1 x2 x3 x4 y
      = ∑ k : Fin 31, x2 (ix2 k (y 1)) * joined (p := 256) (q := 32) (C := 512) x3 (k1_pay5 (F := Ideal) i x4) ((y 0 : Fin 256).val + (30 - k.val)) (y 1) := by
  frame_out
  open_payloads
  idx_vars y
  pointwise []
  rw [← zero_add (∑ k : Fin 31, _), ← sum_taps, zero_add]
  simp only [load (p := 256) (q := 32) rfl]
  rfl

theorem out_B5 (hc0) (x6 : Vec Ideal S31x512 .f32) (x7 : Vec Ideal S1x512 .f32) (y : S256x512.Idx) :
    out1_B_5 c i arg1 harg1 arg2 harg2 arg3 harg3 arg4 harg4 arg5 harg5 arg6 harg6 arg7 harg7 arg8 harg8 arg9 harg9 arg10 harg10 hc0 x0 x1 x2 x3 x4 x6 x7 y
      = ∑ k : Fin 31, x2 (ix2 k (y 1)) * joined (p := 256) (q := 32) (C := 512) x3 (k1_pay5 (F := Ideal) i x4) ((y 0 : Fin 256).val + (30 - k.val)) (y 1) := by
  frame_out
  open_payloads
  idx_vars y
  pointwise []
  rw [← zero_add (∑ k : Fin 31, _), ← sum_taps, zero_add]
  simp only [load (p := 256) (q := 32) rfl]
  rfl

/-- The gradient at the offsets. -/
theorem out_A7 (hc0) (y : S1x512.Idx) :
    out1_A_7 c i arg1 harg1 arg2 harg2 arg3 harg3 arg4 harg4 arg5 harg5 arg6 harg6 arg7 harg7 arg8 harg8 arg9 harg9 arg10 harg10 hc0 x0 x1 x2 x3 x4 y = ∑ r : Fin 256, x3 (ix2 r (y 1)) := by
  frame_out
  open_payloads
  idx_vars y
  pointwise []

theorem out_B7 (hc0) (x6 : Vec Ideal S31x512 .f32) (x7 : Vec Ideal S1x512 .f32) (y : S1x512.Idx) :
    out1_B_7 c i arg1 harg1 arg2 harg2 arg3 harg3 arg4 harg4 arg5 harg5 arg6 harg6 arg7 harg7 arg8 harg8 arg9 harg9 arg10 harg10 hc0 x0 x1 x2 x3 x4 x6 x7 y = x7 (ix2 0 (y 1)) + ∑ r : Fin 256, x3 (ix2 r (y 1)) := by
  frame_out
  open_payloads
  idx_vars y
  pointwise []
  exact congrArg (fun r => x7 (ix2 r y1) + _) (Subsingleton.elim _ _)

/-- The block's part of the gradient at the weights. -/
def tapSum (h : FVec Ideal S32x512 .f32) (x d : FVec Ideal S256x512 .f32) (k : Fin 31) (b : Fin 512) : EReal :=
  ∑ r : Fin 256, d (ix2 r b) * joined (p := 32) (q := 256) (C := 512) h x (r.val + (2 + k.val)) b

/-- An entry by its row and its column. -/
theorem at_tap (x : S31x512.Idx → EReal) (f : Fin 31 → Fin 512 → EReal) {y : S31x512.Idx} {k : Fin 31} {b : Fin 512} (h0 : (y 0).val = k.val) (h1 : (y 1).val = b.val) :
    x (ix2 k b) + f k b = x y + f (y 0) (y 1) := by
  obtain rfl : y = ix2 k b := (eq_ix2 y).trans (congrArg₂ ix2 (Fin.ext h0) (Fin.ext h1))
  rfl

/-- The gradient at the weights. -/
theorem out_B6 (hc0) (x6 : Vec Ideal S31x512 .f32) (x7 : Vec Ideal S1x512 .f32) (y : S31x512.Idx) :
    out1_B_6 c i arg1 harg1 arg2 harg2 arg3 harg3 arg4 harg4 arg5 harg5 arg6 harg6 arg7 harg7 arg8 harg8 arg9 harg9 arg10 harg10 hc0 x0 x1 x2 x3 x4 x6 x7 y = x6 y + tapSum (k1_pay2 (F := Ideal) i x1) x0 x3 (y 0) (y 1) := by
  frame_out
  canon_tiles p y
  all_goals
    open_payloads
    idx_vars p
    pointwise []
    simp only [load (p := 32) (q := 256) rfl]
    refine at_tap x6 (tapSum (k1_pay2 (F := Ideal) i x1) x0 x3) ?_ y1
    rw [y0, Fin.val_eq_zero p0]
    rfl

end Cert.Rows.Conv
-- ==== Proof.ConvFirst.lean ====
/-
  The convolution of 31 rows: the block of the weights' gradient at the backward call's first point.
-/
module
public import proofs.«01_k».proof.Proof.ConvBlock
@[expose] public section
set_option maxRecDepth 16384
noncomputable section
namespace Cert.Rows.Conv
open Idealize.ShloMosaic Idealize.ShloMosaic.TcCoe Idealize.SL.Sem Cert.ConvIdeal Cert.ConvIdeal.Gen
open Idealize.ShloMosaic.Pipeline (Dat)

/-- A buffer of 31 rows whose first `n` rows hold `g`, and whose other rows hold zeros, once the stores `L` are made. -/
def Filled (g : Fin 31 → Fin 512 → EReal) (n : ℕ) (L : List (View.Piece (Elt Ideal) S31x512 .f32)) : Prop :=
  ∀ (v : View sig .tc .vmem S31x512 .f32) (r : Fin 31) (b : Fin 512), v.read (Elt Ideal) (v.writes (Elt Ideal) v.junk L) (ix2 r b) = if r.val < n then g r b else 0

/-- All the rows are filled. -/
theorem filled_all {g : Fin 31 → Fin 512 → EReal} {L : List (View.Piece (Elt Ideal) S31x512 .f32)} (h : Filled g 31 L) (v : View sig .tc .vmem S31x512 .f32) (y : S31x512.Idx) :
    v.read (Elt Ideal) (v.writes (Elt Ideal) v.junk L) y = g (y 0) (y 1) := by
  obtain ⟨r, b, rfl⟩ : ∃ (r : Fin 31) (b : Fin 512), y = ix2 r b := ⟨y 0, y 1, eq_ix2 y⟩
  exact (h v r b).trans (if_pos r.isLt)

/-- The store of zeros. -/
theorem filled_zero (g : Fin 31 → Fin 512 → EReal) (inb) (z : FVec Ideal S31x512 .f32) (hz : ∀ r b, z (ix2 r b) = 0) :
    Filled g 0 [⟨Rect.unit (s := S31x512) ![0, 0] ![31, 512] inb, z⟩] := by
  intro v r b
  rw [if_neg (Nat.not_lt_zero _), ← hz r b]
  refine View.read_writes_cons_rows_of_mem v _ inb _ _ _ (ix2 r b) rfl ?_ ?_
  · show r.val = 0 + r.val
    omega
  · rfl

/-- The store of the next row, that adds to the row as it stood. -/
theorem filled_step {g : Fin 31 → Fin 512 → EReal} {n : ℕ} {L : List (View.Piece (Elt Ideal) S31x512 .f32)} (v₀ : View sig .tc .vmem S31x512 .f32) (pay : FVec Ideal S1x512 .f32 → FVec Ideal S1x512 .f32) (inb inb')
    (h : Filled g n L) (hn : n < 31) (hp : ∀ u b, pay u (ix2 0 b) = u (ix2 0 b) + g ⟨n, hn⟩ b) :
    Filled g (n + 1) (⟨Rect.unit (s := S31x512) ![n, 0] ![1, 512] inb, pay (v₀.readCov (Val := Elt Ideal) L (Rect.unit (s := S31x512) ![n, 0] ![1, 512] inb').toLoadRect)⟩ :: L) := by
  intro v r b
  by_cases hr : r.val = n
  · rw [if_pos (by omega)]
    refine (View.read_writes_cons_rows_of_mem v _ inb _ _ _ (ix2 0 b) rfl ?_ rfl).trans ?_
    · exact hr
    · obtain rfl : r = ⟨n, hn⟩ := Fin.ext hr
      refine (hp _ b).trans ?_
      have e : v₀.readCov (Val := Elt Ideal) L (Rect.unit (s := S31x512) ![n, 0] ![1, 512] inb').toLoadRect (ix2 0 b) = 0 := by
        refine Eq.trans ?_ ((h v₀ ⟨n, hn⟩ b).trans (if_neg (lt_irrefl n)))
        refine congrArg (v₀.read (Elt Ideal) (v₀.writes (Elt Ideal) v₀.junk L)) ?_
        refine Eq.trans (eq_ix2 _) (congrArg₂ ix2 (Fin.ext ?_) (Fin.ext ?_))
        · show n + 1 * 0 = n
          omega
        · show 0 + 1 * b.val = b.val
          omega
      rw [e, zero_add]
  · refine (View.read_writes_cons_rows_of_not_mem v _ inb _ _ _ rfl (W := 1) rfl ?_).trans ((h v r b).trans ?_)
    · show r.val < n ∨ n + 1 ≤ r.val
      omega
    · exact if_congr (by omega) rfl rfl

variable (c : Dev nD) (i : grid1.Coords) (arg1 : Memref sig .tc .vmem S256x512 .f32) (harg1 : arg1.IsWhole) (arg2 : Memref sig .tc .vmem S32x512 .f32) (harg2 : arg2.IsWhole) (arg3 : Memref sig .tc .vmem S31x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S256x512 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S288x512 .f32) (harg9 : arg9.IsWhole) (arg10 : Memref sig .tc .vmem S288x512 .f32) (harg10 : arg10.IsWhole)
  (x0 : Vec Ideal S256x512 .f32) (x1 : Vec Ideal S32x512 .f32) (x2 : Vec Ideal S31x512 .f32) (x3 : Vec Ideal S256x512 .f32) (x4 : Vec Ideal S32x512 .f32)

/-- The gradient at the weights, at the first point. -/
theorem out_A6 (hc0) (y : S31x512.Idx) :
    out1_A_6 c i arg1 harg1 arg2 harg2 arg3 harg3 arg4 harg4 arg5 harg5 arg6 harg6 arg7 harg7 arg8 harg8 arg9 harg9 arg10 harg10 hc0 x0 x1 x2 x3 x4 y = tapSum (k1_pay2 (F := Ideal) i x1) x0 x3 (y 0) (y 1) := by
  frame_open
  refine filled_all (?_ : Filled (tapSum (k1_pay2 (F := Ideal) i x1) x0 x3) 31 _) _ _
  iterate 31
    first
      | refine filled_step _ (fun u => k1_pay24 (k1_pay22 u) (k1_pay23 _ _)) _ _ ?_ (by decide) ?_
      | refine filled_step _ (fun u => k1_pay43 (k1_pay41 u) (k1_pay42 _ _)) _ _ ?_ (by decide) ?_
      | refine filled_step _ _ _ _ ?_ (by decide) ?_
    rotate_left
    · intro u b
      simp (disch := decide) only [View.ld_unit_lit', View.readAt_eq_ld, Memref.IsWhole.read_unread]
      open_payloads
      pointwise []
      simp only [load (p := 32) (q := 256) rfl]
      rfl
  exact filled_zero _ _ _ fun r b => by
    open_payloads
    pointwise []

end Cert.Rows.Conv
-- ==== Proof.ConvArray.lean ====
/-
  The convolution of 31 rows: the arrays that its two calls leave.
-/
module
public import proofs.«01_k».proof.Proof.ConvFirst
@[expose] public section
set_option maxRecDepth 16384
noncomputable section
namespace Cert.Rows.Conv
open Idealize.ShloMosaic Idealize.ShloMosaic.TcCoe Idealize.SL.Sem Cert.ConvIdeal Cert.ConvIdeal.Gen
open Idealize.ShloMosaic.Pipeline (Dat)
open Finset (sum_congr range)

/-! ## The results, entry by entry -/

/-- The rows `x` after 30 rows of zeros: the entry at row `s`. -/
def delayed (x : Shape.Idx S2048x512 → EReal) (s : ℕ) (n : Fin 512) : EReal :=
  if h : 30 ≤ s ∧ s < 2078 then x (ix2 ⟨s - 30, by omega⟩ n) else 0

/-- The rows `d` with zeros after them: the entry at row `s`. -/
def ahead (d : Shape.Idx S2048x512 → EReal) (s : ℕ) (n : Fin 512) : EReal :=
  if h : s < 2048 then d (ix2 ⟨s, h⟩ n) else 0

/-- The convolution. -/
def convOn (x : Shape.Idx S2048x512 → EReal) (w : Shape.Idx S31x512 → EReal) (b : Shape.Idx S1x512 → EReal) : Shape.Idx S2048x512 → EReal :=
  fun j => b (ix2 0 (j 1)) + ∑ k : Fin 31, w (ix2 k (j 1)) * delayed x ((j 0 : Fin 2048).val + k.val) (j 1)

/-- The gradient at the rows. -/
def gradOn (d : Shape.Idx S2048x512 → EReal) (w : Shape.Idx S31x512 → EReal) : Shape.Idx S2048x512 → EReal :=
  fun j => ∑ k : Fin 31, w (ix2 k (j 1)) * ahead d ((j 0 : Fin 2048).val + (30 - k.val)) (j 1)

/-- A row's part of the gradient at the weights. -/
def tap (x d : Shape.Idx S2048x512 → EReal) (k : Fin 31) (n : Fin 512) (r : Fin 2048) : EReal := d (ix2 r n) * delayed x (r.val + k.val) n

/-- The gradient at the weights. -/
def tapsOn (x d : Shape.Idx S2048x512 → EReal) : Shape.Idx S31x512 → EReal := fun j => ∑ r, tap x d (j 0) (j 1) r

/-- The gradient at the offsets. -/
def sumsOn (d : Shape.Idx S2048x512 → EReal) : Shape.Idx S1x512 → EReal := fun j => ∑ r : Fin 2048, d (ix2 r (j 1))

/-! ## A block's rows among the array's -/

theorem row_lt {t : ℕ} (ht : t < 8) (r : Fin 256) : 256 * t + r.val < 2048 := by omega

theorem halo_lt {t : ℕ} (ht : t < 8) (r : Fin 32) : 32 * (8 * t - 1) + r.val < 2048 := by omega

theorem next_lt {t : ℕ} (ht : t < 8) (r : Fin 32) : 32 * min (8 * (t + 1)) 63 + r.val < 2048 := by omega

/-- The block after its halo. -/
theorem joined_delayed {x : Shape.Idx S2048x512 → EReal} {h : Shape.Idx S32x512 → EReal} {w : Shape.Idx S256x512 → EReal} {t : ℕ} (ht : t < 8)
    (hh : ∀ r n, h (ix2 r n) = if t = 0 then 0 else x (ix2 ⟨32 * (8 * t - 1) + r.val, halo_lt ht r⟩ n)) (hw : ∀ r n, w (ix2 r n) = x (ix2 ⟨256 * t + r.val, row_lt ht r⟩ n))
    (r : Fin 256) (k : Fin 31) (n : Fin 512) : joined (p := 32) (q := 256) (C := 512) h w (r.val + (2 + k.val)) n = delayed x (256 * t + r.val + k.val) n := by
  unfold joined delayed
  by_cases h₁ : r.val + (2 + k.val) < 32
  · rw [dif_pos h₁, hh]
    by_cases h₀ : t = 0
    · rw [if_pos h₀, dif_neg (by omega)]
    · rw [if_neg h₀, dif_pos (by omega)]
      exact congrArg (fun s => x (ix2 s n)) (Fin.ext (by show 32 * (8 * t - 1) + (r.val + (2 + k.val)) = 256 * t + r.val + k.val - 30; omega))
  · rw [dif_neg h₁, dif_pos (by omega), dif_pos (by omega), hw]
    exact congrArg (fun s => x (ix2 s n)) (Fin.ext (by show 256 * t + (r.val + (2 + k.val) - 32) = 256 * t + r.val + k.val - 30; omega))

/-- The block before the rows after it. -/
theorem joined_ahead {d : Shape.Idx S2048x512 → EReal} {h : Shape.Idx S32x512 → EReal} {w : Shape.Idx S256x512 → EReal} {t : ℕ} (ht : t < 8)
    (hh : ∀ r n, h (ix2 r n) = if t < 7 then d (ix2 ⟨32 * min (8 * (t + 1)) 63 + r.val, next_lt ht r⟩ n) else 0) (hw : ∀ r n, w (ix2 r n) = d (ix2 ⟨256 * t + r.val, row_lt ht r⟩ n))
    (r : Fin 256) (k : Fin 31) (n : Fin 512) : joined (p := 256) (q := 32) (C := 512) w h (r.val + (30 - k.val)) n = ahead d (256 * t + r.val + (30 - k.val)) n := by
  unfold joined ahead
  by_cases h₁ : r.val + (30 - k.val) < 256
  · rw [dif_pos h₁, hw, dif_pos (by omega)]
    exact congrArg (fun s => d (ix2 s n)) (Fin.ext (by show 256 * t + (r.val + (30 - k.val)) = 256 * t + r.val + (30 - k.val); omega))
  · rw [dif_neg h₁, dif_pos (by omega), hh]
    by_cases h₀ : t < 7
    · rw [if_pos h₀, dif_pos (by omega)]
      exact congrArg (fun s => d (ix2 s n)) (Fin.ext (by show 32 * min (8 * (t + 1)) 63 + (r.val + (30 - k.val) - 256) = 256 * t + r.val + (30 - k.val); omega))
    · rw [if_neg h₀, dif_neg (by omega)]

/-! ## What the calls read -/

theorem first0 : ∀ t : Fin cfg0.N, Scalar.cmpi .sgt (BitVec.ofNat 32 ((grid0.coords t) 0).val) 0#32 = if t.val = 0 then 0#1 else 1#1 := by decide +kernel

theorem first1 : ∀ t : Fin cfg1.N, Scalar.cmpi .sgt (BitVec.ofNat 32 ((grid1.coords t) 0).val) 0#32 = if t.val = 0 then 0#1 else 1#1 := by decide +kernel

theorem last1 : ∀ t : Fin cfg1.N, Scalar.cmpi .slt (BitVec.ofNat 32 ((grid1.coords t) 0).val) 7#32 = if t.val < 7 then 1#1 else 0#1 := by decide +kernel

theorem halo0 (t : Fin cfg0.N) (h : FVec Ideal S32x512 .f32) (r : Fin 32) (n : Fin 512) : k0_pay2 (F := Ideal) (grid0.coords t) h (ix2 r n) = if t.val = 0 then 0 else h (ix2 r n) := by
  unfold k0_pay2
  dsimp only
  rw [first0]
  split
  all_goals pointwise []
  all_goals rfl

theorem halo1 (t : Fin cfg1.N) (h : FVec Ideal S32x512 .f32) (r : Fin 32) (n : Fin 512) : k1_pay2 (F := Ideal) (grid1.coords t) h (ix2 r n) = if t.val = 0 then 0 else h (ix2 r n) := by
  unfold k1_pay2
  dsimp only
  rw [first1]
  split
  all_goals pointwise []
  all_goals rfl

theorem next1 (t : Fin cfg1.N) (h : FVec Ideal S32x512 .f32) (r : Fin 32) (n : Fin 512) : k1_pay5 (F := Ideal) (grid1.coords t) h (ix2 r n) = if t.val < 7 then h (ix2 r n) else 0 := by
  unfold k1_pay5
  dsimp only
  rw [last1]
  split
  all_goals pointwise []
  all_goals rfl

variable (V : (c : Dev nD) → (b : Ref sig .tc) → Buf (Elt Ideal) ((c : Thread nD τ).loc b)) (c : Dev nD)

theorem idx0 : ∀ t : Fin cfg0.N, win0_0.index t = ![t.val, 0] ∧ win0_1.index t = ![8 * t.val - 1, 0] ∧ win0_2.index t = ![0, 0] ∧ win0_3.index t = ![0, 0]
    ∧ win0_4.index t = ![t.val, 0] := by decide +kernel

theorem idx1 : ∀ t : Fin cfg1.N, win1_0.index t = ![t.val, 0] ∧ win1_1.index t = ![8 * t.val - 1, 0] ∧ win1_2.index t = ![0, 0] ∧ win1_3.index t = ![t.val, 0]
    ∧ win1_4.index t = ![min (8 * (t.val + 1)) 63, 0] ∧ win1_5.index t = ![t.val, 0] ∧ win1_6.index t = ![0, 0] ∧ win1_7.index t = ![0, 0] := by decide +kernel

theorem lt0 (t : Fin cfg0.N) : t.val < 8 := Nat.lt_of_lt_of_eq t.isLt rfl

theorem lt1 (t : Fin cfg1.N) : t.val < 8 := Nat.lt_of_lt_of_eq t.isLt rfl

theorem blk0_x (t : Fin cfg0.N) (r : Fin 256) (n : Fin 512) : iblk0 V c 0 t (ix2 r n) = V c main_arg0 (ix2 ⟨256 * t.val + r.val, row_lt (lt0 t) r⟩ n) := by
  blk_ext [iblk0, idx0 t]

theorem blk0_h (t : Fin cfg0.N) (r : Fin 32) (n : Fin 512) : iblk0 V c 1 t (ix2 r n) = V c main_arg0 (ix2 ⟨32 * (8 * t.val - 1) + r.val, halo_lt (lt0 t) r⟩ n) := by
  blk_ext [iblk0, idx0 t]

theorem blk0_w (t : Fin cfg0.N) (k : Fin 31) (n : Fin 512) : iblk0 V c 2 t (ix2 k n) = V c main_arg1 (ix2 k n) := by
  blk_ext [iblk0, idx0 t]

theorem blk0_b (t : Fin cfg0.N) (n : Fin 512) : iblk0 V c 3 t (ix2 0 n) = V c main_v0 (ix2 0 n) := by
  blk_ext [iblk0, idx0 t]

theorem blk1_x (t : Fin cfg1.N) (r : Fin 256) (n : Fin 512) : iblk1 V c 0 t (ix2 r n) = V c main_arg0 (ix2 ⟨256 * t.val + r.val, row_lt (lt1 t) r⟩ n) := by
  blk_ext [iblk1, idx1 t]

theorem blk1_h (t : Fin cfg1.N) (r : Fin 32) (n : Fin 512) : iblk1 V c 1 t (ix2 r n) = V c main_arg0 (ix2 ⟨32 * (8 * t.val - 1) + r.val, halo_lt (lt1 t) r⟩ n) := by
  blk_ext [iblk1, idx1 t]

theorem blk1_w (t : Fin cfg1.N) (k : Fin 31) (n : Fin 512) : iblk1 V c 2 t (ix2 k n) = V c main_arg1 (ix2 k n) := by
  blk_ext [iblk1, idx1 t]

theorem blk1_d (t : Fin cfg1.N) (r : Fin 256) (n : Fin 512) : iblk1 V c 3 t (ix2 r n) = V c main_arg3 (ix2 ⟨256 * t.val + r.val, row_lt (lt1 t) r⟩ n) := by
  blk_ext [iblk1, idx1 t]

theorem blk1_n (t : Fin cfg1.N) (r : Fin 32) (n : Fin 512) : iblk1 V c 4 t (ix2 r n) = V c main_arg3 (ix2 ⟨32 * min (8 * (t.val + 1)) 63 + r.val, next_lt (lt1 t) r⟩ n) := by
  blk_ext [iblk1, idx1 t]

/-- The rows that a point sees, delayed. -/
theorem window0 (t : Fin cfg0.N) (r : Fin 256) (k : Fin 31) (n : Fin 512) :
    joined (p := 32) (q := 256) (C := 512) (k0_pay2 (F := Ideal) (grid0.coords t) (iblk0 V c 1 t)) (iblk0 V c 0 t) (r.val + (2 + k.val)) n
      = delayed (V c main_arg0) (256 * t.val + r.val + k.val) n :=
  joined_delayed (lt0 t) (fun s m => (halo0 t _ s m).trans (by rw [blk0_h])) (blk0_x V c t) r k n

theorem window1 (t : Fin cfg1.N) (r : Fin 256) (k : Fin 31) (n : Fin 512) :
    joined (p := 32) (q := 256) (C := 512) (k1_pay2 (F := Ideal) (grid1.coords t) (iblk1 V c 1 t)) (iblk1 V c 0 t) (r.val + (2 + k.val)) n
      = delayed (V c main_arg0) (256 * t.val + r.val + k.val) n :=
  joined_delayed (lt1 t) (fun s m => (halo1 t _ s m).trans (by rw [blk1_h])) (blk1_x V c t) r k n

/-- The rows that a point sees, ahead. -/
theorem coming1 (t : Fin cfg1.N) (r : Fin 256) (k : Fin 31) (n : Fin 512) :
    joined (p := 256) (q := 32) (C := 512) (iblk1 V c 3 t) (k1_pay5 (F := Ideal) (grid1.coords t) (iblk1 V c 4 t)) (r.val + (30 - k.val)) n
      = ahead (V c main_arg3) (256 * t.val + r.val + (30 - k.val)) n :=
  joined_ahead (lt1 t) (fun s m => (next1 t _ s m).trans (by rw [blk1_n])) (blk1_d V c t) r k n

/-- A block's part of the gradient at the weights. -/
theorem part1 (t : Fin cfg1.N) (k : Fin 31) (n : Fin 512) :
    tapSum (k1_pay2 (F := Ideal) (grid1.coords t) (iblk1 V c 1 t)) (iblk1 V c 0 t) (iblk1 V c 3 t) k n
      = ∑ r : Fin 256, rowf (tap (V c main_arg0) (V c main_arg3) k n) (256 * t.val + r.val) := by
  refine sum_congr rfl fun r _ => ?_
  rw [window1, blk1_d, rowf_of _ (row_lt (lt1 t) r)]
  rfl

/-- A column's sum over a block. -/
def colSum (d : S256x512.Idx → EReal) (n : Fin 512) : EReal := ∑ r : Fin 256, d (ix2 r n)

/-- A block's part of the gradient at the offsets. -/
theorem rest1 (t : Fin cfg1.N) (n : Fin 512) :
    colSum (iblk1 V c 3 t) n = ∑ r : Fin 256, rowf (fun s : Fin 2048 => V c main_arg3 (ix2 s n)) (256 * t.val + r.val) := by
  refine sum_congr rfl fun r _ => ?_
  rw [blk1_d, rowf_of _ (row_lt (lt1 t) r)]

/-! ## What the points leave -/

theorem left_y (t : Fin cfg0.N) (r : Fin 256) (n : Fin 512) : outsAt0 V c t (ix2 r n) = convOn (V c main_arg0) (V c main_arg1) (V c main_v0) (ix2 ⟨256 * t.val + r.val, row_lt (lt0 t) r⟩ n) := by
  rw [outsAt0, out_fwd]
  refine congrArg₂ (· + ·) (blk0_b V c t n) (sum_congr rfl fun k _ => congrArg₂ (· * ·) (blk0_w V c t k n) (window0 V c t r k n))

theorem left_dx (t : Fin cfg1.N) (r : Fin 256) (n : Fin 512) : (outsAt1 V c t.val t.isLt).1 (ix2 r n) = gradOn (V c main_arg3) (V c main_arg1) (ix2 ⟨256 * t.val + r.val, row_lt (lt1 t) r⟩ n) := by
  have := lt1 t
  by_cases h : t.val % 8 = 0
  · rw [outsAt1_A V c t h]
    dsimp only
    rw [out_A5]
    exact sum_congr rfl fun k _ => congrArg₂ (· * ·) (blk1_w V c t k n) (coming1 V c t r k n)
  · rw [outsAt1_B V c t h]
    dsimp only
    rw [out_B5]
    exact sum_congr rfl fun k _ => congrArg₂ (· * ·) (blk1_w V c t k n) (coming1 V c t r k n)

theorem left_dw (k : Fin 31) (b : Fin 512) : ∀ (n : ℕ) (h : n < cfg1.N), (outsAt1 V c n h).2.1 (ix2 k b) = ∑ r ∈ range (256 * (n + 1)), rowf (tap (V c main_arg0) (V c main_arg3) k b) r
  | 0, h => by
    rw [show outsAt1 V c 0 h = _ from outsAt1_A V c ⟨0, h⟩ rfl]
    dsimp only
    rw [out_A6, sum_first]
    exact part1 V c ⟨0, h⟩ k b
  | n + 1, h => by
    have hn : ¬(n + 1) % 8 = 0 := by have : cfg1.N = 8 := rfl; omega
    rw [show outsAt1 V c (n + 1) h = _ from outsAt1_B V c ⟨n + 1, h⟩ hn]
    dsimp only
    rw [out_B6, sum_next]
    exact congrArg₂ (· + ·) (left_dw k b n _) (part1 V c ⟨n + 1, h⟩ k b)

theorem left_db (b : Fin 512) : ∀ (n : ℕ) (h : n < cfg1.N), (outsAt1 V c n h).2.2 (ix2 0 b) = ∑ r ∈ range (256 * (n + 1)), rowf (fun s : Fin 2048 => V c main_arg3 (ix2 s b)) r
  | 0, h => by
    rw [show outsAt1 V c 0 h = _ from outsAt1_A V c ⟨0, h⟩ rfl]
    dsimp only
    rw [out_A7, sum_first]
    exact rest1 V c ⟨0, h⟩ b
  | n + 1, h => by
    have hn : ¬(n + 1) % 8 = 0 := by have : cfg1.N = 8 := rfl; omega
    rw [show outsAt1 V c (n + 1) h = _ from outsAt1_B V c ⟨n + 1, h⟩ hn]
    dsimp only
    rw [out_B7, sum_next]
    exact congrArg₂ (· + ·) (left_db b n _) (rest1 V c ⟨n + 1, h⟩ b)

/-! ## The whole arrays -/

theorem final_y : (dat0 V c).arrAt 4 cfg0.N = (convOn (V c main_arg0) (V c main_arg1) (V c main_v0) : Shape.Idx S2048x512 → EReal) := by
  refine (dat0 V c).arrAt_eq_of_covers 4 (convOn (V c main_arg0) (V c main_arg1) (V c main_v0) : Shape.Idx S2048x512 → EReal) (by decide +kernel) fun t _ j => ?_
  blk_simp
  rw [after0_4]
  refine Eq.trans (congrArg _ (eq_ix2 j)) ((left_y V c t (j 0) (j 1)).trans (congrArg (convOn (V c main_arg0) (V c main_arg1) (V c main_v0) : Shape.Idx S2048x512 → EReal) ((congrArg₂ ix2 (Fin.ext ?_) (Fin.ext ?_)).trans (eq_ix2 _).symm)))
  · blk_simp [idx0 t]
    exact congrArg (· + _) (mul_comm 256 _)
  · blk_simp [idx0 t]

theorem final_dx : (dat1 V c).arrAt 5 cfg1.N = (gradOn (V c main_arg3) (V c main_arg1) : Shape.Idx S2048x512 → EReal) := by
  refine (dat1 V c).arrAt_eq_of_covers 5 (gradOn (V c main_arg3) (V c main_arg1) : Shape.Idx S2048x512 → EReal) (by decide +kernel) fun t _ j => ?_
  blk_simp
  rw [after1_5]
  refine Eq.trans (congrArg _ (eq_ix2 j)) ((left_dx V c t (j 0) (j 1)).trans (congrArg (gradOn (V c main_arg3) (V c main_arg1) : Shape.Idx S2048x512 → EReal) ((congrArg₂ ix2 (Fin.ext ?_) (Fin.ext ?_)).trans (eq_ix2 _).symm)))
  · blk_simp [idx1 t]
    exact congrArg (· + _) (mul_comm 256 _)
  · blk_simp [idx1 t]

theorem final_dw : (dat1 V c).arrAt 6 cfg1.N = (tapsOn (V c main_arg0) (V c main_arg3) : Shape.Idx S31x512 → EReal) := by
  refine (dat1 V c).arrAt_eq_of_covers 6 (tapsOn (V c main_arg0) (V c main_arg3) : Shape.Idx S31x512 → EReal) (by decide +kernel) fun t hf j => ?_
  have ht : t.val = 7 := (by decide +kernel : ∀ t : Fin cfg1.N, win1_6.flush t = true → t.val = 7) t hf
  blk_simp
  rw [after1_6]
  refine Eq.trans (congrArg _ (eq_ix2 j)) ((left_dw V c (j 0) (j 1) t.val t.isLt).trans ?_)
  rw [ht]
  refine (sum_rowf _).trans ?_
  show tapsOn (V c main_arg0) (V c main_arg3) (ix2 (j 0) (j 1)) = _
  refine congrArg (tapsOn (V c main_arg0) (V c main_arg3) : Shape.Idx S31x512 → EReal) ((congrArg₂ ix2 (Fin.ext ?_) (Fin.ext ?_)).trans (eq_ix2 _).symm)
  · blk_simp [idx1 t]
  · blk_simp [idx1 t]

theorem final_db : (dat1 V c).arrAt 7 cfg1.N = (sumsOn (V c main_arg3) : Shape.Idx S1x512 → EReal) := by
  refine (dat1 V c).arrAt_eq_of_covers 7 (sumsOn (V c main_arg3) : Shape.Idx S1x512 → EReal) (by decide +kernel) fun t hf j => ?_
  have ht : t.val = 7 := (by decide +kernel : ∀ t : Fin cfg1.N, win1_7.flush t = true → t.val = 7) t hf
  blk_simp
  rw [after1_7]
  have hj : j = ix2 0 (j 1) := (eq_ix2 j).trans (congrArg (fun i => ix2 i (j 1)) (Subsingleton.elim _ _))
  refine Eq.trans (congrArg _ hj) ((left_db V c (j 1) t.val t.isLt).trans ?_)
  rw [ht]
  refine (sum_rowf _).trans (sum_congr rfl fun r _ => congrArg (fun k => V c main_arg3 (ix2 r k)) (Fin.ext ?_))
  blk_simp [idx1 t]

end Cert.Rows.Conv
-- ==== Proof.ConvRun.lean ====
/-
  The run of the forward and backward calls of the convolution of 31 rows, with its results.
-/
module
public import proofs.«01_k».proof.Proof.ConvArray
public import Idealize.ShloMosaic.Lib.Tactic.CleanTypes
@[expose] public section
set_option maxRecDepth 16384
noncomputable section
namespace Cert.Rows.Conv
open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every array that outlives the calls at the contents that the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-! ## The arrays between the calls -/

variable (c : Dev nD)

/-- An array of the launch. -/
abbrev arg (b : Ref sig .tc) := m ((c.tc : Thread nD τ).loc b)

/-- A vector stood up as one row. -/
def one {N : ℕ} (v : Shape.Idx ⟨1, ![N]⟩ → EReal) : Shape.Idx ⟨2, ![1, N]⟩ → EReal := fun j => v (ix1 (j 1))

theorem W1_b : W1 m ρ c (Proc.devRef .tc main_v0) = one (N := 512) (arg m c main_arg2) := by
  have e : W1 m ρ c (Proc.devRef .tc main_v0) = broadcastInDim S1x512 ![1] bcast_S512_S1x512_1 (arg m c main_arg2) := by
    unfold W1
    after_results
  rw [e]
  funext j
  idx_vars j
  pointwise []
  rfl

/-- The arrays of the launch at the second call's start. -/
theorem W2_launched (r : Ref sig .tc) (h0 : r ∉ hostOps0_W) (h1 : ∀ w : Fin cfg0.W, Pipeline.arrRef spec0 w = r → (cfg0.win w).isOut = false) :
    W2 m ρ c (Proc.devRef .tc r) = arg m c r := (W2_of m ρ c r h1).trans (W1_of m ρ c r h0)

/-! ## The results -/

theorem W3_y : W3 m ρ c (Proc.devRef .tc main_v1) = (convOn (arg m c main_arg0) (arg m c main_arg1) (one (N := 512) (arg m c main_arg2)) : Shape.Idx S2048x512 → EReal) :=
  (W3_of m ρ c main_v1 (by decide)).trans ((W2_arr m ρ c 4).trans ((final_y (V1 m ρ) c).trans
    (congr (congrArg₂ convOn (W1_of m ρ c main_arg0 (by decide)) (W1_of m ρ c main_arg1 (by decide))) (W1_b m ρ c))))

theorem W3_dx : W3 m ρ c (Proc.devRef .tc main_v2_0) = (gradOn (arg m c main_arg3) (arg m c main_arg1) : Shape.Idx S2048x512 → EReal) :=
  (W3_arr m ρ c 5).trans ((final_dx (V2 m ρ) c).trans
    (congrArg₂ gradOn (W2_launched m ρ c main_arg3 (by decide) (by decide)) (W2_launched m ρ c main_arg1 (by decide) (by decide))))

theorem W3_dw : W3 m ρ c (Proc.devRef .tc main_v2_1) = (tapsOn (arg m c main_arg0) (arg m c main_arg3) : Shape.Idx S31x512 → EReal) :=
  (W3_arr m ρ c 6).trans ((final_dw (V2 m ρ) c).trans
    (congrArg₂ tapsOn (W2_launched m ρ c main_arg0 (by decide) (by decide)) (W2_launched m ρ c main_arg3 (by decide) (by decide))))

theorem W3_db : W3 m ρ c (Proc.devRef .tc main_v2_2) = (sumsOn (arg m c main_arg3) : Shape.Idx S1x512 → EReal) :=
  (W3_arr m ρ c 7).trans ((final_db (V2 m ρ) c).trans (congrArg sumsOn (W2_launched m ρ c main_arg3 (by decide) (by decide))))

end Cert.Rows.Conv
-- ==== Proof.ConvRef.lean ====
/-
  What the reference of the convolution of 31 rows computes.
-/
module
public import proofs.«01_k».proof.Proof.ConvRun
public import proofs.«01_k».proof.Proof.Gen.ConvRefIdeal.Run
public import Idealize.ShloMosaic.Lib.KernelVsHost
@[expose] public section
set_option maxRecDepth 16384
noncomputable section
namespace Cert.Rows.ConvRef
open Finset Idealize.ShloMosaic Idealize.ShloMosaic.TcCoe Idealize.SL.Sem Cert.ConvRefIdeal Cert.ConvRefIdeal.Gen Cert.ConvRefIdeal.Value
open Cert.Rows.Conv (delayed ahead convOn gradOn tap tapsOn sumsOn one sum_taps)

variable (V : Valuation τ sig (Elt Ideal))

/-- The arguments: the rows, the weights, the offsets and the gradient at the results. -/
abbrev rows : FVec Ideal S2048x512 .f32 := V (Proc.devRef .tc main_arg0)
abbrev weights : FVec Ideal S31x512 .f32 := V (Proc.devRef .tc main_arg1)
abbrev offsets : FVec Ideal S512 .f32 := V (Proc.devRef .tc main_arg2)
abbrev grads : FVec Ideal S2048x512 .f32 := V (Proc.devRef .tc main_arg3)

/-! ## The windows -/

/-- The rows after 30 rows of zeros. -/
theorem rows_at (s : Fin 2078) (n : Fin 512) : res_main_v1 V (ix2 s n) = delayed (rows V) s.val n := by
  unfold res_main_v1 delayed
  by_cases h : 30 ≤ s.val
  · rw [dif_pos ⟨h, s.isLt⟩]
    refine concatenate_pair_apply_right (t := S2078x512) (s₁ := S30x512) (s₂ := S2048x512) 0 _ _ concatenates_S30x512_S2048x512_S2078x512_d0 (ix2 s n) rfl rfl (ix2 ⟨s.val - 30, by omega⟩ n) ?_ ?_
    · intro b hb
      match b with
      | ⟨0, _⟩ => exact absurd rfl hb
      | ⟨1, _⟩ => rfl
    · show s.val - 30 + 30 = s.val
      omega
  · rw [dif_neg (by omega)]
    refine (concatenate_pair_apply_left (t := S2078x512) (s₁ := S30x512) (s₂ := S2048x512) 0 _ _ concatenates_S30x512_S2048x512_S2078x512_d0 (ix2 s n) rfl (ix2 ⟨s.val, by omega⟩ n) ?_).trans ?_
    · intro b
      match b with
      | ⟨0, _⟩ => rfl
      | ⟨1, _⟩ => rfl
    · pointwise []

theorem slices (k : Fin 31) : S2078x512.Slices ![k.val, 0] S2048x512 := by
  revert k
  decide

/-- Window `k` of rows `v`. -/
def window (v : FVec Ideal S2078x512 .f32) (k : Fin 31) : FVec Ideal S1x2048x512 .f32 :=
  broadcastInDim S1x2048x512 ![1, 2] bcast_S2048x512_S1x2048x512_1_2 (extractStridedSlice S2048x512 ![k.val, 0] v (slices k))

theorem window_at (v : FVec Ideal S2078x512 .f32) (k : Fin 31) (t : Fin 2048) (n : Fin 512) : window v k (ix3 0 t n) = v (ix2 ⟨k.val + t.val, by omega⟩ n) := by
  unfold window
  pointwise []

/-- The first 16 windows and the 15 after them. -/
def early (v : FVec Ideal S2078x512 .f32) : FVec Ideal S16x2048x512 .f32 :=
  concatenate S16x2048x512 0 (List.ofFn fun k : Fin 16 => (⟨S1x2048x512, window v ⟨k.val, by omega⟩⟩ : (s : Shape) × (s.Idx → EReal))) concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S1x2048x512_S16x2048x512_d0

def late (v : FVec Ideal S2078x512 .f32) : FVec Ideal S15x2048x512 .f32 :=
  concatenate S15x2048x512 0 (List.ofFn fun k : Fin 15 => (⟨S1x2048x512, window v ⟨16 + k.val, by omega⟩⟩ : (s : Shape) × (s.Idx → EReal))) concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S15x2048x512_d0

theorem windows_eq : res_main_v67 V = concatenate S31x2048x512 0 [⟨S16x2048x512, early (res_main_v1 V)⟩, ⟨S15x2048x512, late (res_main_v1 V)⟩] concatenates_S16x2048x512_S15x2048x512_S31x2048x512_d0 := rfl

theorem early_at (v : FVec Ideal S2078x512 .f32) (k : Fin 16) (t : Fin 2048) (n : Fin 512) : early v (ix3 k t n) = v (ix2 ⟨k.val + t.val, by omega⟩ n) := by
  unfold early
  refine (concatenate_ofFn_unit_apply (t := S16x2048x512) (s₁ := S1x2048x512) 0 (fun k : Fin 16 => window v ⟨k.val, by omega⟩) concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S1x2048x512_S16x2048x512_d0 rfl rfl (ix3 k t n) k rfl (ix3 0 t n) ?_).trans (window_at v _ t n)
  intro b hb
  match b with
  | ⟨0, _⟩ => exact absurd rfl hb
  | ⟨1, _⟩ => rfl
  | ⟨2, _⟩ => rfl

theorem late_at (v : FVec Ideal S2078x512 .f32) (k : Fin 15) (t : Fin 2048) (n : Fin 512) : late v (ix3 k t n) = v (ix2 ⟨16 + k.val + t.val, by omega⟩ n) := by
  unfold late
  refine (concatenate_ofFn_unit_apply (t := S15x2048x512) (s₁ := S1x2048x512) 0 (fun k : Fin 15 => window v ⟨16 + k.val, by omega⟩) concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S15x2048x512_d0 rfl rfl (ix3 k t n) k rfl (ix3 0 t n) ?_).trans (window_at v _ t n)
  intro b hb
  match b with
  | ⟨0, _⟩ => exact absurd rfl hb
  | ⟨1, _⟩ => rfl
  | ⟨2, _⟩ => rfl

theorem windows_at (k : Fin 31) (t : Fin 2048) (n : Fin 512) : res_main_v67 V (ix3 k t n) = delayed (rows V) (t.val + k.val) n := by
  rw [windows_eq]
  by_cases h : k.val < 16
  · refine (concatenate_pair_apply_left (t := S31x2048x512) (s₁ := S16x2048x512) (s₂ := S15x2048x512) 0 _ _ concatenates_S16x2048x512_S15x2048x512_S31x2048x512_d0 (ix3 k t n) rfl (ix3 ⟨k.val, h⟩ t n) ?_).trans
      ((early_at _ _ t n).trans ((rows_at V _ n).trans (congrArg (fun s => delayed (rows V) s n) (Nat.add_comm _ _))))
    intro b
    match b with
    | ⟨0, _⟩ => rfl
    | ⟨1, _⟩ => rfl
    | ⟨2, _⟩ => rfl
  · refine (concatenate_pair_apply_right (t := S31x2048x512) (s₁ := S16x2048x512) (s₂ := S15x2048x512) 0 _ _ concatenates_S16x2048x512_S15x2048x512_S31x2048x512_d0 (ix3 k t n) rfl rfl (ix3 ⟨k.val - 16, by omega⟩ t n) ?_ ?_).trans
      ((late_at _ _ t n).trans ((rows_at V _ n).trans (congrArg (fun s => delayed (rows V) s n) (by show 16 + (k.val - 16) + t.val = t.val + k.val; omega))))
    · intro b hb
      match b with
      | ⟨0, _⟩ => exact absurd rfl hb
      | ⟨1, _⟩ => rfl
      | ⟨2, _⟩ => rfl
    · show k.val - 16 + 16 = k.val
      omega

/-! ## The results -/

theorem ref_y : addf (Host.reduceAdd (mulf (broadcastInDim S31x2048x512 ![0, 1, 2] bcast_S31x1x512_S31x2048x512_0_1_2 (res_main_v68 V)) (res_main_v67 V)) (constant S_ .f32 0x00000000#32 : FVec Ideal S_ .f32) reducesTo_S31x2048x512_S2048x512_d0 h_S_)
      (broadcastInDim S2048x512 ![0, 1] bcast_S1x512_S2048x512_0_1 (broadcastInDim S1x512 ![1] bcast_S512_S1x512_1 (offsets V)))
    = (convOn (rows V) (weights V) (one (N := 512) (offsets V)) : Shape.Idx S2048x512 → EReal) := by
  funext j
  idx_vars j
  unfold res_main_v68
  pointwise [windows_at]
  exact add_comm _ _

theorem ref_dw : Host.reduceAdd (shapeCast S31x1x512 (Host.reduceAdd (mulf (res_main_v79 V) (res_main_v67 V)) (constant S_ .f32 0x00000000#32 : FVec Ideal S_ .f32) reducesTo_S31x2048x512_S31x512_d1 h_S_) shapeCasts_S31x512_S31x1x512) (constant S_ .f32 0x00000000#32 : FVec Ideal S_ .f32) reducesTo_S31x1x512_S31x512_d1 h_S_
    = (tapsOn (rows V) (grads V) : Shape.Idx S31x512 → EReal) := by
  funext j
  idx_vars j
  unfold res_main_v79
  pointwise [windows_at]
  exact Fin.sum_univ_one _

theorem ref_db : broadcastInDim S1x512 ![1] bcast_S512_S1x512_1 (Host.reduceAdd (shapeCast S1x512 (Host.reduceAdd (grads V) (constant S_ .f32 0x00000000#32 : FVec Ideal S_ .f32) reducesTo_S2048x512_S512_d0 h_S_) shapeCasts_S512_S1x512) (constant S_ .f32 0x00000000#32 : FVec Ideal S_ .f32) reducesTo_S1x512_S512_d0 h_S_)
    = (sumsOn (grads V) : Shape.Idx S1x512 → EReal) := by
  funext j
  idx_vars j
  pointwise []
  exact Fin.sum_univ_one _

/-! ## The gradient at the rows -/

theorem add_at {s : Shape} (x y : FVec Ideal s .f32) (j : s.Idx) : addf x y j = x j + y j := rfl

/-- Window `k`'s part of the gradient, back among the rows. -/
theorem pad_at {k : ℕ} (hk : k < 31) {hi : Fin 2 → ℕ} (hs : S31x2048x512.Slices ![k, 0, 0] S1x2048x512) (hp : S2048x512.Pads ![k, 0] hi ![0, 0] S2078x512) (t : Fin 2048) (n : Fin 512) :
    pad S2078x512 ![k, 0] hi ![0, 0] (shapeCast S2048x512 (extractStridedSlice S1x2048x512 ![k, 0, 0] (res_main_v81 V) hs) shapeCasts_S1x2048x512_S2048x512) (constant S_ .f32 0x00000000#32 : FVec Ideal S_ .f32) hp h_S_ (ix2 ⟨30 + t.val, by omega⟩ n)
      = weights V (ix2 ⟨k, hk⟩ n) * ahead (grads V) (t.val + (30 - k)) n := by
  unfold ahead
  by_cases h : t.val + (30 - k) < 2048
  · rw [dif_pos h]
    refine (pad_apply_of_inside (s := S2048x512) (t := S2078x512) ![k, 0] hi ![0, 0] _ _ hp h_S_ _ (ix2 ⟨t.val + (30 - k), h⟩ n) ?_).trans ?_
    · intro a
      match a with
      | ⟨0, _⟩ => show 30 + t.val = k + (t.val + (30 - k)) * (0 + 1); omega
      | ⟨1, _⟩ => show n.val = 0 + n.val * (0 + 1); omega
    · unfold res_main_v81 res_main_v68 res_main_v79
      pointwise []
  · rw [dif_neg h, mul_zero]
    refine (pad_apply_of_not_inside (s := S2048x512) (t := S2078x512) ![k, 0] hi ![0, 0] _ _ hp h_S_ _ 0 ?_).trans ?_
    · show ¬(k ≤ 30 + t.val ∧ (30 + t.val - k) % (0 + 1) = 0 ∧ (30 + t.val - k) / (0 + 1) < 2048)
      omega
    · pointwise []

theorem tail_at (z : FVec Ideal S2078x512 .f32) (t : Fin 2048) (n : Fin 512) : extractStridedSlice S2048x512 ![30, 0] z slices_S2078x512_S2048x512_30_0 (ix2 t n) = z (ix2 ⟨30 + t.val, by omega⟩ n) := by
  pointwise []

theorem ref_dx : extractStridedSlice S2048x512 ![30, 0] (res_main_v208 V) slices_S2078x512_S2048x512_30_0 = (gradOn (grads V) (weights V) : Shape.Idx S2048x512 → EReal) := by
  funext j
  idx_vars j
  rw [tail_at]
  show _ = ∑ k : Fin 31, weights V (ix2 k j1) * ahead (grads V) (j0.val + (30 - k.val)) j1
  rw [← Equiv.sum_comp Fin.revPerm, ← zero_add (∑ k : Fin 31, _), ← sum_taps, zero_add]
  unfold res_main_v208 res_main_v206 res_main_v176
  simp only [add_at]
  iterate 31 rw [pad_at V (hk := ?_)]
  · rfl
  all_goals decide

end Cert.Rows.ConvRef
-- ==== Proof.LossArray.lean ====
/-
  The arrays that the loss head leaves, and what its reference computes.
-/
module
public import proofs.«01_k».proof.Proof.RowMath
public import Idealize.ShloMosaic.Lib.Pipeline.ValueKit
public import proofs.«01_k».proof.Proof.Gen.LossIdeal.Value
public import proofs.«01_k».proof.Proof.Gen.LossRefIdeal.Run
@[expose] public section
set_option maxRecDepth 16384
noncomputable section
namespace Cert.Rows.Loss
open Finset Idealize.ShloMosaic Idealize.ShloMosaic.TcCoe Idealize.ShloMosaic.Tactic Idealize.SL.Sem Cert.LossIdeal Cert.LossIdeal.Gen
open Idealize.ShloMosaic.Pipeline (Dat)

/-! ## The formulas -/

/-- One over the number of a row's entries. -/
def perLen : EReal := Ideal.ofBits .f32 981467136#32

/-- One half. -/
def half : EReal := Ideal.ofBits .f32 1056964608#32

theorem half_eq : half = ((1 / 2 : ℝ) : EReal) := by
  unfold half
  simp [Ideal.ofBits, Ideal.ieee, -EReal.coe_mul]
  norm_num

theorem perLen_eq : perLen = ((1 / 1024 : ℝ) : EReal) := by
  unfold perLen
  simp [Ideal.ofBits, Ideal.ieee, -EReal.coe_mul]
  norm_num

theorem two_eq : Ideal.ofBits .f32 1073741824#32 = ((2 : ℝ) : EReal) := by
  simp [Ideal.ofBits, Ideal.ieee, -EReal.coe_mul]
  norm_num

theorem len_eq : Ideal.ofBits .f32 1149239296#32 = ((1024 : ℝ) : EReal) := by
  simp [Ideal.ofBits, Ideal.ieee, -EReal.coe_mul]
  norm_num

/-- A quotient by the number of a row's entries. -/
theorem div_len (x : EReal) : Ideal.div x (Ideal.ofBits .f32 1149239296#32) = x * perLen := by
  rw [len_eq, perLen_eq]
  unfold Ideal.div
  rw [if_neg (by norm_num), ← EReal.coe_inv, one_div]

/-- The mean of the squared differences of one row. -/
def rowLoss (y t : Fin 1024 → EReal) : EReal := (∑ k, (y k - t k) * (y k - t k)) * perLen

theorem square_nonneg (x : EReal) : 0 ≤ x * x := by
  rcases le_total 0 x with h | h
  · exact mul_nonneg h h
  · have h' : 0 ≤ -x := EReal.neg_nonneg.mpr h
    have e := mul_nonneg h' h'
    rwa [EReal.neg_mul, mul_comm x (-x), EReal.neg_mul, neg_neg] at e

theorem rowLoss_nonneg (y t : Fin 1024 → EReal) : 0 ≤ rowLoss y t := by
  refine mul_nonneg (sum_nonneg fun k _ => square_nonneg _) ?_
  rw [perLen_eq]
  exact EReal.coe_nonneg.mpr (by norm_num)

/-- The gradient at the output: the difference over the number of a row's entries. -/
def gradOn (y t : Shape.Idx S2048x1024 → EReal) : Shape.Idx S2048x1024 → EReal := fun j => (y j - t j) * perLen

/-- Half the sum of the rows' means, in every entry. -/
def lossOn (y t : Shape.Idx S2048x1024 → EReal) : Shape.Idx S1x128 → EReal := fun _ => half * ∑ r : Fin 2048, rowLoss (row y r) (row t r)

/-! ## A point's arithmetic -/

theorem part_eq (y t : FVec Ideal S256x1024 .f32) (l : FVec Ideal S1x128 .f32) (j : Shape.Idx S1x128) :
    k0_pay4 (F := Ideal) y t l j = l j + half * ∑ r : Fin 256, rowLoss (row y r) (row t r) := by
  unfold k0_pay4 k0_pay1
  idx_vars j
  pointwise []
  rfl

theorem zero_eq (j : Shape.Idx S1x128) : k0_pay3 (F := Ideal) j = 0 := by
  unfold k0_pay3
  pointwise []

theorem grad_eq (y t : FVec Ideal S256x1024 .f32) (j : Shape.Idx S256x1024) : k0_pay2 (F := Ideal) y t j = (y j - t j) * perLen := by
  unfold k0_pay2 k0_pay1
  idx_vars j
  pointwise []
  rfl

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val, 0] ∧ win0_3.index t = ![0, 0] := by
  decide +kernel

theorem bound (t : Fin cfg0.N) (r : Fin 256) : 256 * t.val + r.val < 2048 := by
  have h := t.isLt
  have : cfg0.N = 8 := rfl
  omega

/-- A row of a point's block is a row of the whole array. -/
theorem row_y (t : Fin cfg0.N) (r : Fin 256) :
    row (M := 256) (N := 1024) (iblk m c 0 t) r = row (M := 2048) (N := 1024) (m ((c.tc : Thread nD τ).loc main_arg0)) ⟨256 * t.val + r.val, bound t r⟩ := by
  funext k
  unfold row
  rw [← V_main_arg0 m c]
  blk_ext [iblk, idx t]

theorem row_t (t : Fin cfg0.N) (r : Fin 256) :
    row (M := 256) (N := 1024) (iblk m c 1 t) r = row (M := 2048) (N := 1024) (m ((c.tc : Thread nD τ).loc main_arg1)) ⟨256 * t.val + r.val, bound t r⟩ := by
  funext k
  unfold row
  rw [← V_main_arg1 m c]
  blk_ext [iblk, idx t]

/-- What the first point leaves. -/
theorem first_point (h : 0 < cfg0.N) : outsAt0 m c 0 h = (k0_pay2 (F := Ideal) (iblk m c 0 ⟨0, h⟩) (iblk m c 1 ⟨0, h⟩), k0_pay4 (iblk m c 0 ⟨0, h⟩) (iblk m c 1 ⟨0, h⟩) (k0_pay3 (F := Ideal))) := by
  rw [show outsAt0 m c 0 h = _ from outsAt0_A m c ⟨0, h⟩ rfl]
  refine Prod.ext ?_ ?_
  · frame_out
  · frame_out

/-- What another point leaves, over what the point before left. -/
theorem next_point (n : ℕ) (h : n + 1 < cfg0.N) : outsAt0 m c (n + 1) h = (k0_pay2 (F := Ideal) (iblk m c 0 ⟨n + 1, h⟩) (iblk m c 1 ⟨n + 1, h⟩),
    k0_pay4 (iblk m c 0 ⟨n + 1, h⟩) (iblk m c 1 ⟨n + 1, h⟩) (outsAt0 m c n (Nat.lt_of_succ_lt h)).2) := by
  rw [show outsAt0 m c (n + 1) h = _ from outsAt0_B m c ⟨n + 1, h⟩ (by have : cfg0.N = 8 := rfl; simp; omega)]
  refine Prod.ext ?_ ?_
  · frame_out
  · frame_out
    rfl

/-- What a point leaves at the gradient. -/
theorem left_y (t : Fin cfg0.N) : (outsAt0 m c t.val t.isLt).1 = k0_pay2 (F := Ideal) (iblk m c 0 t) (iblk m c 1 t) := by
  obtain ⟨n, h⟩ := t
  cases n with
  | zero => exact congrArg (·.1) (first_point m c h)
  | succ n => exact congrArg (·.1) (next_point m c n h)

/-- The loss of a row of the whole arrays. -/
def lossAt (r : Fin 2048) : EReal := rowLoss (row (M := 2048) (N := 1024) (m ((c.tc : Thread nD τ).loc main_arg0)) r) (row (M := 2048) (N := 1024) (m ((c.tc : Thread nD τ).loc main_arg1)) r)

theorem lossAt_nonneg (r : ℕ) : 0 ≤ rowf (lossAt m c) r := by
  unfold rowf
  split
  · exact rowLoss_nonneg _ _
  · exact le_rfl

theorem point_loss (t : Fin cfg0.N) : ∑ r : Fin 256, rowLoss (row (M := 256) (N := 1024) (iblk m c 0 t) r) (row (M := 256) (N := 1024) (iblk m c 1 t) r)
    = ∑ r : Fin 256, rowf (lossAt m c) (256 * t.val + r.val) :=
  sum_congr rfl fun r _ => by rw [row_y, row_t, rowf_of (lossAt m c) (bound t r), lossAt]

/-- What a point leaves at the loss: half the sum over the rows of the points up to it. -/
theorem left_l : ∀ (n : ℕ) (h : n < cfg0.N), (outsAt0 m c n h).2 = (fun _ => half * ∑ r ∈ range (256 * (n + 1)), rowf (lossAt m c) r : Shape.Idx S1x128 → EReal)
  | 0, h => by
    rw [first_point]
    dsimp only
    funext j
    rw [part_eq, zero_eq, zero_add, sum_first]
    exact congrArg (half * ·) (point_loss m c ⟨0, h⟩)
  | n + 1, h => by
    rw [next_point]
    dsimp only
    funext j
    rw [part_eq, sum_next, EReal.left_distrib_of_nonneg (sum_nonneg fun r _ => lossAt_nonneg m c r) (sum_nonneg fun r _ => lossAt_nonneg m c _)]
    exact congrArg₂ (· + ·) (congrFun (left_l n _) j) (congrArg (half * ·) (point_loss m c ⟨n + 1, h⟩))

/-! ## The whole arrays -/

theorem final_y : (dats m 0 c).arrAt 2 cfg0.N = (gradOn (m ((c.tc : Thread nD τ).loc main_arg0)) (m ((c.tc : Thread nD τ).loc main_arg1)) : Shape.Idx S2048x1024 → EReal) := by
  refine (dats m 0 c).arrAt_eq_of_covers 2 (gradOn (m ((c.tc : Thread nD τ).loc main_arg0)) (m ((c.tc : Thread nD τ).loc main_arg1)) : Shape.Idx S2048x1024 → EReal) (by decide +kernel) fun t _ j => ?_
  blk_simp
  rw [after0_2, left_y, grad_eq]
  unfold gradOn
  refine congrArg (· * perLen) (congrArg₂ (· - ·) ?_ ?_)
  · rw [← V_main_arg0 m c]
    blk_ext [iblk, idx t]
  · rw [← V_main_arg1 m c]
    blk_ext [iblk, idx t]

theorem final_l : (dats m 0 c).arrAt 3 cfg0.N = (lossOn (m ((c.tc : Thread nD τ).loc main_arg0)) (m ((c.tc : Thread nD τ).loc main_arg1)) : Shape.Idx S1x128 → EReal) := by
  refine (dats m 0 c).arrAt_eq_of_covers 3 (lossOn (m ((c.tc : Thread nD τ).loc main_arg0)) (m ((c.tc : Thread nD τ).loc main_arg1)) : Shape.Idx S1x128 → EReal) (by decide +kernel) fun t hf j => ?_
  have ht : t.val = 7 := (by decide +kernel : ∀ t : Fin cfg0.N, win0_3.flush t = true → t.val = 7) t hf
  blk_simp
  rw [after0_3, left_l]
  rw [ht]
  exact congrArg (half * ·) (sum_rowf (lossAt m c))

end Cert.Rows.Loss

/-! ## The reference -/

namespace Cert.Rows.LossRef
open Finset Idealize.ShloMosaic Idealize.ShloMosaic.TcCoe Idealize.SL.Sem Cert.LossRefIdeal Cert.LossRefIdeal.Gen

theorem ref_y (y t : FVec Ideal S2048x1024 .f32) :
    mulf (broadcastInDim S2048x1024 ![0] bcast_S2048_S2048x1024_0 (Host.divf (broadcastInDim S2048 ![] bcast_S_S2048 (mulf (constant S_ .f32 0x3F000000#32 : FVec Ideal S_ .f32) (constant S_ .f32 0x3F800000#32 : FVec Ideal S_ .f32))) (broadcastInDim S2048 ![] bcast_S_S2048 (constant S_ .f32 0x44800000#32 : FVec Ideal S_ .f32)))) (mulf (broadcastInDim S2048x1024 ![] bcast_S_S2048x1024 (constant S_ .f32 0x40000000#32 : FVec Ideal S_ .f32)) (subf y t))
      = (Loss.gradOn y t : Shape.Idx S2048x1024 → EReal) := by
  funext j
  idx_vars j
  pointwise []
  show Ideal.div Loss.half _ * _ = _ * Loss.perLen
  rw [Loss.div_len, Loss.two_eq, mul_comm Loss.half, mul_assoc, ← mul_assoc Loss.half, Loss.half_eq, ← EReal.coe_mul,
    show (1 / 2 * 2 : ℝ) = 1 by norm_num, EReal.coe_one, one_mul, mul_comm]

theorem ref_l (y t : FVec Ideal S2048x1024 .f32) :
    broadcastInDim S1x128 ![] bcast_S_S1x128 (mulf (constant S_ .f32 0x3F000000#32 : FVec Ideal S_ .f32) (Host.reduceAdd (Host.divf (Host.reduceAdd (mulf (subf y t) (subf y t)) (constant S_ .f32 0x00000000#32 : FVec Ideal S_ .f32) reducesTo_S2048x1024_S2048_d1 h_S_) (broadcastInDim S2048 ![] bcast_S_S2048 (constant S_ .f32 0x44800000#32 : FVec Ideal S_ .f32))) (constant S_ .f32 0x00000000#32 : FVec Ideal S_ .f32) reducesTo_S2048_S_d0 h_S_))
      = (Loss.lossOn y t : Shape.Idx S1x128 → EReal) := by
  funext j
  idx_vars j
  pointwise []
  exact congrArg (Loss.half * ·) (sum_congr rfl fun r _ => Loss.div_len _)

end Cert.Rows.LossRef
-- ==== Proof.GateBlock.lean ====
/-
  The gradient of the gated mixer over one chunk of 128 rows.
-/
module
public import proofs.«01_k».proof.Proof.BranchSpatial
public import proofs.«01_k».proof.Proof.Gen.GateGradIdeal.Value
@[expose] public section
set_option maxRecDepth 16384
noncomputable section
namespace Cert.Rows.Gate
open Finset Idealize.ShloMosaic Idealize.ShloMosaic.TcCoe Idealize.ShloMosaic.Tactic Idealize.SL.Sem Cert.GateGradIdeal Cert.GateGradIdeal.Gen
open Cert.Rows.Branch (gelu tril mixed headOf select_tril select_low side puts side_eq puts_eq)

/-! ## What the call computes -/

/-- The gradient `d` at `gelu z`, brought to `z`. -/
def geluBack (z d : EReal) : EReal :=
  d * (Ideal.ofBits .f32 0x3F000000#32 * (1 + Ideal.tanh (Ideal.ofBits .f32 0x3F4C422A#32 * (z + Ideal.ofBits .f32 0x3D372713#32 * (z * (z * z))))))
    + Ideal.ofBits .f32 0x3F4C422A#32 * (Ideal.ofBits .f32 0x3F000000#32 * (z * d) * ((1 + Ideal.tanh (Ideal.ofBits .f32 0x3F4C422A#32 * (z + Ideal.ofBits .f32 0x3D372713#32 * (z * (z * z)))))
      * (1 - Ideal.tanh (Ideal.ofBits .f32 0x3F4C422A#32 * (z + Ideal.ofBits .f32 0x3D372713#32 * (z * (z * z)))))))
    + Ideal.ofBits .f32 0x3D372713#32 * (Ideal.ofBits .f32 0x3F4C422A#32 * (Ideal.ofBits .f32 0x3F000000#32 * (z * d) * ((1 + Ideal.tanh (Ideal.ofBits .f32 0x3F4C422A#32 * (z + Ideal.ofBits .f32 0x3D372713#32 * (z * (z * z)))))
      * (1 - Ideal.tanh (Ideal.ofBits .f32 0x3F4C422A#32 * (z + Ideal.ofBits .f32 0x3D372713#32 * (z * (z * z)))))))) * (Ideal.ofBits .f32 0x40400000#32 * (z * z))

/-- The gradient at a position's value: the triangle of the column's head, read down a column, over the gradients `e` at the mixed values. -/
def mixedBack (w : Shape.Idx S8x128x128 → EReal) (e : Fin 128 → EReal) (h : Fin 8) (s : Fin 128) : EReal := ∑ r, tril w h r s * e r

/-! ## Two heads at a time -/

/-- Two heads: the second one's triangle over the upper lanes, the first one's over the lower lanes. -/
def pairBack (w0 w1 e : FVec Ideal S128x128 .f32) : FVec Ideal S128x128 .f32 :=
  addf (select k0_pay28 (broadcast S128x128 (Scalar.ofBits .f32 0x00000000#32)) (matmul dot_S128x128_S128x128_S128x128_0_0_1_1_n_n none
      (truncf .bf16 (select k0_pay27 w1 (broadcast S128x128 (Scalar.ofBits .f32 0x00000000#32))) bitsLt_bf16_f32) (truncf .bf16 e bitsLt_bf16_f32) (constant S128x128 .f32 0x00000000#32)))
    (select k0_pay28 (matmul dot_S128x128_S128x128_S128x128_0_0_1_1_n_n none
      (truncf .bf16 (select k0_pay27 w0 (broadcast S128x128 (Scalar.ofBits .f32 0x00000000#32))) bitsLt_bf16_f32) (truncf .bf16 e bitsLt_bf16_f32) (constant S128x128 .f32 0x00000000#32))
      (broadcast S128x128 (Scalar.ofBits .f32 0x00000000#32)))

theorem pairBack_eq (w0 w1 e : FVec Ideal S128x128 .f32) (s l : Fin 128) :
    pairBack w0 w1 e (ix2 s l) = ∑ r : Fin 128, (if s ≤ r then (if l.val < 64 then w0 (ix2 r s) else w1 (ix2 r s)) else 0) * e (ix2 r l) := by
  unfold pairBack k0_pay27 k0_pay28
  pointwise [select_tril, select_low]
  by_cases h : l.val < 64
  · simp only [if_pos h, zero_add]
  · simp only [if_neg h, add_zero]

/-- The eight heads, two by two. -/
def piecesBack (w : Vec Ideal S8x128x128 .f32) (e : FVec Ideal S128x512 .f32) : Fin 4 → FVec Ideal S128x128 .f32 :=
  ![pairBack (shapeCast S128x128 (extractStridedSlice S1x128x128 ![0, 0, 0] w slices_S8x128x128_o0_0_0_S1x128x128) shapeCasts_S1x128x128_S128x128)
      (shapeCast S128x128 (extractStridedSlice S1x128x128 ![1, 0, 0] w slices_S8x128x128_o1_0_0_S1x128x128) shapeCasts_S1x128x128_S128x128)
      (extractStridedSlice S128x128 ![0, 0] e slices_S128x512_o0_0_S128x128),
    pairBack (shapeCast S128x128 (extractStridedSlice S1x128x128 ![2, 0, 0] w slices_S8x128x128_o2_0_0_S1x128x128) shapeCasts_S1x128x128_S128x128)
      (shapeCast S128x128 (extractStridedSlice S1x128x128 ![3, 0, 0] w slices_S8x128x128_o3_0_0_S1x128x128) shapeCasts_S1x128x128_S128x128)
      (extractStridedSlice S128x128 ![0, 128] e slices_S128x512_o0_128_S128x128),
    pairBack (shapeCast S128x128 (extractStridedSlice S1x128x128 ![4, 0, 0] w slices_S8x128x128_o4_0_0_S1x128x128) shapeCasts_S1x128x128_S128x128)
      (shapeCast S128x128 (extractStridedSlice S1x128x128 ![5, 0, 0] w slices_S8x128x128_o5_0_0_S1x128x128) shapeCasts_S1x128x128_S128x128)
      (extractStridedSlice S128x128 ![0, 256] e slices_S128x512_o0_256_S128x128),
    pairBack (shapeCast S128x128 (extractStridedSlice S1x128x128 ![6, 0, 0] w slices_S8x128x128_o6_0_0_S1x128x128) shapeCasts_S1x128x128_S128x128)
      (shapeCast S128x128 (extractStridedSlice S1x128x128 ![7, 0, 0] w slices_S8x128x128_o7_0_0_S1x128x128) shapeCasts_S1x128x128_S128x128)
      (extractStridedSlice S128x128 ![0, 384] e slices_S128x512_o0_384_S128x128)]

theorem piecesBack_eq (w : Vec Ideal S8x128x128 .f32) (e : FVec Ideal S128x512 .f32) (p : Fin 4) (s l : Fin 128) :
    piecesBack w e p (ix2 s l) = mixedBack w (fun r => e (ix2 r ⟨128 * p.val + l.val, by omega⟩)) ⟨2 * p.val + l.val / 64, by omega⟩ s := by
  have hl : ∀ q : Fin 4, (if l.val < 64 then (⟨2 * q.val, by omega⟩ : Fin 8) else ⟨2 * q.val + 1, by omega⟩) = ⟨2 * q.val + l.val / 64, by omega⟩ := fun q => by
    split <;> exact Fin.ext (by simp only; omega)
  unfold mixedBack tril
  rw [← hl]
  fin_cases p
  all_goals
    refine (pairBack_eq _ _ _ s l).trans (Finset.sum_congr rfl fun r _ => congrArg₂ (· * ·) ?_ ?_)
    · pointwise []
      split
      · split <;> rfl
      · rfl
    · pointwise []

/-- Four blocks of columns, each among zeros, added up. -/
def spread (y : Fin 4 → FVec Ideal S128x128 .f32) : FVec Ideal S128x512 .f32 :=
  addf (addf (addf
    (concatenate S128x512 1 [⟨S128x384, broadcast S128x384 (Scalar.ofBits (F := Ideal) .f32 0x00000000#32)⟩, ⟨S128x128, y 3⟩] concatenates_S128x384_S128x128_S128x512_d1)
    (concatenate S128x512 1 [⟨S128x384, concatenate S128x384 1 [⟨S128x256, broadcast S128x256 (Scalar.ofBits (F := Ideal) .f32 0x00000000#32)⟩, ⟨S128x128, y 2⟩] concatenates_S128x256_S128x128_S128x384_d1⟩,
      ⟨S128x128, broadcast S128x128 (Scalar.ofBits (F := Ideal) .f32 0x00000000#32)⟩] concatenates_S128x384_S128x128_S128x512_d1))
    (concatenate S128x512 1 [⟨S128x256, concatenate S128x256 1 [⟨S128x128, broadcast S128x128 (Scalar.ofBits (F := Ideal) .f32 0x00000000#32)⟩, ⟨S128x128, y 1⟩] concatenates_S128x128_S128x128_S128x256_d1⟩,
      ⟨S128x256, broadcast S128x256 (Scalar.ofBits (F := Ideal) .f32 0x00000000#32)⟩] concatenates_S128x256_S128x256_S128x512_d1))
    (concatenate S128x512 1 [⟨S128x128, y 0⟩, ⟨S128x384, broadcast S128x384 (Scalar.ofBits (F := Ideal) .f32 0x00000000#32)⟩] concatenates_S128x128_S128x384_S128x512_d1)

theorem spread_eq (y : Fin 4 → FVec Ideal S128x128 .f32) (p : Fin 4) (s l : Fin 128) : spread y (ix2 s ⟨128 * p.val + l.val, by omega⟩) = y p (ix2 s l) := by
  have hl := l.isLt
  unfold spread
  fin_cases p
  all_goals
    pointwise []
    split_ifs <;> first | omega | simp only [zero_add, add_zero]

/-- The gradient at the normalised rows. -/
def backs (w : Vec Ideal S8x128x128 .f32) (e : FVec Ideal S128x512 .f32) : FVec Ideal S128x512 .f32 := spread (piecesBack w e)

theorem backs_eq (w : Vec Ideal S8x128x128 .f32) (e : FVec Ideal S128x512 .f32) (s : Fin 128) (n : Fin 512) :
    backs w e (ix2 s n) = mixedBack w (fun r => e (ix2 r n)) (headOf n) s := by
  have e1 : (⟨128 * (n.val / 128) + n.val % 128, by omega⟩ : Fin 512) = n := Fin.ext (by simp only; omega)
  have e2 : (⟨2 * (n.val / 128) + n.val % 128 / 64, by omega⟩ : Fin 8) = headOf n := Fin.ext (by simp only [headOf]; omega)
  refine (congrArg (fun k => backs w e (ix2 s k)) e1.symm).trans ((spread_eq (piecesBack w e) ⟨n.val / 128, by omega⟩ s ⟨n.val % 128, by omega⟩).trans ((piecesBack_eq w e _ s _).trans ?_))
  exact congrArg₂ (fun (a : Fin 512) (b : Fin 8) => mixedBack w (fun r => e (ix2 r a)) b s) e1 e2

/-! ## The point's arithmetic -/

variable (u v : Vec Ideal S128x512 .bf16) (g b : Vec Ideal S1x512 .f32) (w : Vec Ideal S8x128x128 .f32) (o : Vec Ideal S128x8 .f32) (d : Vec Ideal S128x512 .f32)

/-- The gradient at the mixed values. -/
def cot : FVec Ideal S128x512 .f32 := k0_pay63 (k0_pay14 u) d

/-- The gradient at the normalised rows, as the call takes it together. -/
def atNorms (e : FVec Ideal S128x512 .f32) : FVec Ideal S128x512 .f32 :=
  k0_pay99 k0_pay28 (k0_pay36 w k0_pay27) (k0_pay37 w k0_pay27) (k0_pay82 e) (k0_pay90 (k0_pay88 k0_pay28 (k0_pay48 w k0_pay27) (k0_pay49 w k0_pay27) e))
    (k0_pay94 k0_pay28 (k0_pay42 w k0_pay27) (k0_pay44 k0_pay27 (k0_pay43 w) (Scalar.ofBits .f32 0x00000000#32)) (k0_pay83 e)) k0_pay95

theorem atNorms_eq (e : FVec Ideal S128x512 .f32) :
    k0_pay105 k0_pay28 (k0_pay30 w k0_pay27) (atNorms w e) (k0_pay102 k0_pay28 (k0_pay31 w k0_pay27) (k0_pay81 e)) (k0_pay103 (k0_pay81 e)) = backs w e := rfl

theorem cot_eq (j : Shape.Idx S128x512) : cot u d j = gelu (u j) * d j := by
  unfold cot k0_pay63 k0_pay14 k0_pay13 k0_pay11 k0_pay5
  idx_vars j
  pointwise []
  rfl

/-- The second half's values before their norms. -/
def vals (r : Fin 128) : Fin 512 → EReal := fun k => gelu (v (ix2 r k))

theorem smooth_eq (j : Shape.Idx S128x512) : mulf (k0_pay6 v) (k0_pay20 (k0_pay6 v) (k0_pay15 v)) j = vals v (j 0) (j 1) := by
  unfold k0_pay20 k0_pay18 k0_pay15 k0_pay6
  idx_vars j
  pointwise []
  rfl

theorem cen_eq (j : Shape.Idx S128x512) : k0_pay21 (F := Ideal) (k0_pay6 v) (k0_pay15 v) j = cen (vals v (j 0)) (j 1) := by
  unfold k0_pay21 cen
  idx_vars j
  pointwise [smooth_eq]
  rfl

theorem variance_eq (j : Shape.Idx S128x1) : k0_pay22 (F := Ideal) (k0_pay6 v) (k0_pay15 v) j = variance (vals v (j 0)) := by
  unfold k0_pay22
  idx_vars j
  pointwise [cen_eq]
  rfl

theorem rsqrt_eq (j : Shape.Idx S128x1) : k0_pay23 (F := Ideal) (k0_pay6 v) (k0_pay15 v) j = Ideal.rsqrt (variance (vals v (j 0))) := by
  rw [← variance_eq]
  rfl

theorem half_eq (j : Shape.Idx S128x1) :
    k0_pay24 (F := Ideal) (k0_pay6 v) (k0_pay15 v) j = Ideal.ofBits .f32 3204448256#32 * Ideal.div (Ideal.rsqrt (variance (vals v (j 0)))) (variance (vals v (j 0))) := by
  rw [← rsqrt_eq, ← variance_eq]
  rfl

theorem nrm_eq (j : Shape.Idx S128x512) : k0_pay25 (F := Ideal) (k0_pay6 v) (k0_pay15 v) j = nrm (vals v (j 0)) (j 1) := by
  unfold k0_pay25 nrm
  idx_vars j
  pointwise [cen_eq, rsqrt_eq]

theorem pre_eq (j : Shape.Idx S128x512) : k0_pay26 (F := Ideal) (k0_pay6 v) (k0_pay7 g) (k0_pay8 b) (k0_pay15 v) j = pre (vals v (j 0)) (row g 0) (row b 0) (j 1) := by
  unfold k0_pay26 k0_pay7 k0_pay8
  idx_vars j
  pointwise [nrm_eq]
  rfl

/-- The gradient at the first half. -/
def firstBack : FVec Ideal S128x512 .bf16 :=
  k0_pay109 (k0_pay5 u) (k0_pay10 u) (k0_pay12 u) (k0_pay13 u) (mulf d (addf (side w (k0_pay26 (F := Ideal) (k0_pay6 v) (k0_pay7 g) (k0_pay8 b) (k0_pay15 v))) (puts o)))

theorem firstBack_eq (j : Shape.Idx S128x512) :
    firstBack u v g b w o d j = geluBack (u j) (d j * (mixed w (fun s => pre (vals v s) (row g 0) (row b 0) (j 1)) (headOf (j 1)) (j 0) + o (ix2 (j 0) (headOf (j 1))))) := by
  unfold firstBack k0_pay109 k0_pay13 k0_pay12 k0_pay11 k0_pay10 k0_pay5
  idx_vars j
  pointwise [side_eq, puts_eq, pre_eq]
  rfl

/-- The gradient at the second half's values, from the one at their norms. -/
def valuesBack (e : FVec Ideal S128x512 .f32) : FVec Ideal S128x512 .f32 :=
  k0_pay108 (k0_pay7 g) (k0_pay21 (k0_pay6 v) (k0_pay15 v)) (k0_pay23 (k0_pay6 v) (k0_pay15 v)) (k0_pay24 (k0_pay6 v) (k0_pay15 v)) k0_pay28 (k0_pay30 w k0_pay27) (atNorms w e)
    (k0_pay102 k0_pay28 (k0_pay31 w k0_pay27) (k0_pay81 e)) (k0_pay103 (k0_pay81 e))

/-- A row's gradient at the norms. -/
def ndRow (e : FVec Ideal S128x512 .f32) (s : Fin 128) : Fin 512 → EReal := fun n => mixedBack w (fun r => e (ix2 r n)) (headOf n) s

theorem valuesBack_eq (e : FVec Ideal S128x512 .f32) (j : Shape.Idx S128x512) : valuesBack v g w e j = cenBack (vals v (j 0)) (row g 0) (ndRow w e (j 0)) (j 1) := by
  unfold valuesBack k0_pay108
  rw [atNorms_eq]
  unfold k0_pay7
  idx_vars j
  pointwise [cen_eq, rsqrt_eq, half_eq, backs_eq]
  rfl

/-- The gradient at the second half. -/
def secondBack (e : FVec Ideal S128x512 .f32) : FVec Ideal S128x512 .bf16 :=
  k0_pay110 (k0_pay6 v) (k0_pay17 (k0_pay16 v) (Scalar.ofBits .f32 0x40400000#32)) (k0_pay19 (k0_pay6 v) (k0_pay15 v)) (k0_pay20 (k0_pay6 v) (k0_pay15 v)) (valuesBack v g w e) (Scalar.ofBits .f32 0x00000000#32)

theorem secondBack_eq (e : FVec Ideal S128x512 .f32) (j : Shape.Idx S128x512) :
    secondBack v g w e j = geluBack (v j) (nrmBack (vals v (j 0)) (row g 0) (ndRow w e (j 0)) (j 1)) := by
  unfold secondBack k0_pay110 k0_pay20 k0_pay19 k0_pay18 k0_pay17 k0_pay16 k0_pay15 k0_pay6
  idx_vars j
  pointwise [valuesBack_eq]
  simp only [zero_sub]
  rfl

/-- The sum of a chunk's gradients at the norms' offsets. -/
def partB (e : FVec Ideal S128x512 .f32) : FVec Ideal S1x512 .f32 :=
  k0_pay106 k0_pay28 (k0_pay30 w k0_pay27) (atNorms w e) (k0_pay102 k0_pay28 (k0_pay31 w k0_pay27) (k0_pay81 e)) (k0_pay103 (k0_pay81 e))

/-- The sum of a chunk's gradients at the norms' weights. -/
def partG (e : FVec Ideal S128x512 .f32) : FVec Ideal S1x512 .f32 :=
  k0_pay107 (k0_pay25 (k0_pay6 v) (k0_pay15 v)) k0_pay28 (k0_pay30 w k0_pay27) (atNorms w e) (k0_pay102 k0_pay28 (k0_pay31 w k0_pay27) (k0_pay81 e)) (k0_pay103 (k0_pay81 e))

theorem partB_eq (e : FVec Ideal S128x512 .f32) (j : Shape.Idx S1x512) : partB w e j = ∑ s : Fin 128, ndRow w e s (j 1) := by
  unfold partB k0_pay106
  rw [atNorms_eq]
  idx_vars j
  pointwise [backs_eq]
  rfl

theorem partG_eq (e : FVec Ideal S128x512 .f32) (j : Shape.Idx S1x512) : partG v w e j = ∑ s : Fin 128, nrm (vals v s) (j 1) * ndRow w e s (j 1) := by
  unfold partG k0_pay107
  rw [atNorms_eq]
  idx_vars j
  pointwise [backs_eq, nrm_eq]
  rfl

theorem added1 (x y : FVec Ideal S1x512 .f32) (j : Shape.Idx S1x512) : k0_pay1 x y j = y j + x j := by
  unfold k0_pay1
  idx_vars j
  pointwise []

theorem added2 (x y : FVec Ideal S1x512 .f32) (j : Shape.Idx S1x512) : k0_pay2 x y j = y j + x j := by
  unfold k0_pay2
  idx_vars j
  pointwise []

theorem added3 (x y : FVec Ideal S8x128x128 .f32) (j : Shape.Idx S8x128x128) : k0_pay3 x y j = y j + x j := by
  unfold k0_pay3
  idx_vars j
  pointwise []

theorem added4 (x y : FVec Ideal S128x8 .f32) (j : Shape.Idx S128x8) : k0_pay4 x y j = y j + x j := by
  unfold k0_pay4
  idx_vars j
  pointwise []

end Cert.Rows.Gate
-- ==== Proof.GateParams.lean ====
/-
  The gradient of the gated mixer over one chunk of 128 rows, at its triangles and its offsets.
-/
module
public import proofs.«01_k».proof.Proof.GateBlock
@[expose] public section
set_option maxRecDepth 16384
noncomputable section
namespace Cert.Rows.Gate
open Finset Idealize.ShloMosaic Idealize.ShloMosaic.TcCoe Idealize.ShloMosaic.Tactic Idealize.SL.Sem Cert.GateGradIdeal Cert.GateGradIdeal.Gen
open Cert.Rows.Branch (gelu headOf headCol sum_head select_tril select_low select_head)

/-! ## The offsets -/

/-- A chunk's gradient at an offset: the sum over the head's columns. -/
def offPart (e : Fin 512 → EReal) (h : Fin 8) : EReal := ∑ k, e (headCol h k)

variable (e x : FVec Ideal S128x512 .f32)

/-- The values of the heads left after the last `n` heads are set to zero. -/
def lefts : ℕ → FVec Ideal S128x512 .f32
  | 0 => e
  | n + 1 => select (cmpi .eq k0_pay53 (broadcast S128x512 (BitVec.ofNat 32 (7 - n)))) (broadcast S128x512 (Scalar.ofBits (F := Ideal) .f32 0x00000000#32)) (lefts n)

theorem lefts_eq (s : Fin 128) (n : Fin 512) : ∀ i : ℕ, i ≤ 7 → lefts e i (ix2 s n) = if (headOf n).val + i < 8 then e (ix2 s n) else 0
  | 0, _ => by rw [if_pos (by omega)]; rfl
  | i + 1, hi => by
    have ih := lefts_eq s n i (by omega)
    unfold lefts k0_pay53
    pointwise []
    refine (select_head n ⟨7 - i, by omega⟩ _ _).trans ?_
    rw [ih]
    simp only [Fin.ext_iff]
    split_ifs <;> first | omega | rfl

/-- One head's sum. -/
def offCol (h : Fin 8) : FVec Ideal S128x1 .f32 :=
  shapeCast S128x1 (multiReduction .add [1] S128 (select (cmpi .eq k0_pay53 (broadcast S128x512 (BitVec.ofNat 32 h.val))) (lefts e (7 - h.val)) (broadcast S128x512 (Scalar.ofBits (F := Ideal) .f32 0x00000000#32)))
    0x00000000#32 reduces_S128x512_S128 (.inl rfl) rfl) shapeCasts_S128_S128x1

theorem offCol_eq (h : Fin 8) (s : Fin 128) : offCol e h (ix2 s 0) = offPart (row e s) h := by
  refine Eq.trans ?_ (sum_head (row e s) h)
  unfold offCol k0_pay53
  pointwise [select_head]
  refine Finset.sum_congr rfl fun n _ => ?_
  rw [lefts_eq e s n _ (by omega)]
  split_ifs with h1 h2
  · rfl
  · rw [h1] at h2; omega
  · rfl

/-- Eight columns, each among zeros, added up. -/
def spreadCols (y : Fin 8 → FVec Ideal S128x1 .f32) : FVec Ideal S128x8 .f32 :=
  addf (addf (addf (addf (addf (addf (addf (concatenate S128x8 1 [⟨S128x7, broadcast S128x7 (Scalar.ofBits (F := Ideal) .f32 0x00000000#32)⟩, ⟨S128x1, y 7⟩] concatenates_S128x7_S128x1_S128x8_d1)
    (concatenate S128x8 1 [⟨S128x7, concatenate S128x7 1 [⟨S128x6, broadcast S128x6 (Scalar.ofBits (F := Ideal) .f32 0x00000000#32)⟩, ⟨S128x1, y 6⟩] concatenates_S128x6_S128x1_S128x7_d1⟩, ⟨S128x1, broadcast S128x1 (Scalar.ofBits (F := Ideal) .f32 0x00000000#32)⟩] concatenates_S128x7_S128x1_S128x8_d1))
    (concatenate S128x8 1 [⟨S128x6, concatenate S128x6 1 [⟨S128x5, broadcast S128x5 (Scalar.ofBits (F := Ideal) .f32 0x00000000#32)⟩, ⟨S128x1, y 5⟩] concatenates_S128x5_S128x1_S128x6_d1⟩, ⟨S128x2, broadcast S128x2 (Scalar.ofBits (F := Ideal) .f32 0x00000000#32)⟩] concatenates_S128x6_S128x2_S128x8_d1))
    (concatenate S128x8 1 [⟨S128x5, concatenate S128x5 1 [⟨S128x4, broadcast S128x4 (Scalar.ofBits (F := Ideal) .f32 0x00000000#32)⟩, ⟨S128x1, y 4⟩] concatenates_S128x4_S128x1_S128x5_d1⟩, ⟨S128x3, broadcast S128x3 (Scalar.ofBits (F := Ideal) .f32 0x00000000#32)⟩] concatenates_S128x5_S128x3_S128x8_d1))
    (concatenate S128x8 1 [⟨S128x4, concatenate S128x4 1 [⟨S128x3, broadcast S128x3 (Scalar.ofBits (F := Ideal) .f32 0x00000000#32)⟩, ⟨S128x1, y 3⟩] concatenates_S128x3_S128x1_S128x4_d1⟩, ⟨S128x4, broadcast S128x4 (Scalar.ofBits (F := Ideal) .f32 0x00000000#32)⟩] concatenates_S128x4_S128x4_S128x8_d1))
    (concatenate S128x8 1 [⟨S128x3, concatenate S128x3 1 [⟨S128x2, broadcast S128x2 (Scalar.ofBits (F := Ideal) .f32 0x00000000#32)⟩, ⟨S128x1, y 2⟩] concatenates_S128x2_S128x1_S128x3_d1⟩, ⟨S128x5, broadcast S128x5 (Scalar.ofBits (F := Ideal) .f32 0x00000000#32)⟩] concatenates_S128x3_S128x5_S128x8_d1))
    (concatenate S128x8 1 [⟨S128x2, concatenate S128x2 1 [⟨S128x1, broadcast S128x1 (Scalar.ofBits (F := Ideal) .f32 0x00000000#32)⟩, ⟨S128x1, y 1⟩] concatenates_S128x1_S128x1_S128x2_d1⟩, ⟨S128x6, broadcast S128x6 (Scalar.ofBits (F := Ideal) .f32 0x00000000#32)⟩] concatenates_S128x2_S128x6_S128x8_d1))
    (concatenate S128x8 1 [⟨S128x1, y 0⟩, ⟨S128x7, broadcast S128x7 (Scalar.ofBits (F := Ideal) .f32 0x00000000#32)⟩] concatenates_S128x1_S128x7_S128x8_d1)

theorem spreadCols_eq (y : Fin 8 → FVec Ideal S128x1 .f32) (s : Fin 128) (h : Fin 8) : spreadCols y (ix2 s h) = y h (ix2 s 0) := by
  unfold spreadCols
  fin_cases h
  all_goals
    pointwise []

/-- The gradient at the offsets, as the call takes it together. -/
def atOffsets (u : Vec Ideal S128x512 .bf16) (d : Vec Ideal S128x512 .f32) : FVec Ideal S128x8 .f32 :=
  k0_pay80 k0_pay54 k0_pay56 (k0_pay76 (k0_pay58 k0_pay53) (k0_pay59 k0_pay53) (k0_pay60 k0_pay53) (k0_pay61 k0_pay53) (k0_pay66 (k0_pay14 u) k0_pay53 d) (k0_pay67 (k0_pay14 u) k0_pay53 d) (Scalar.ofBits .f32 0x00000000#32))
    (k0_pay78 (k0_pay57 k0_pay53) (k0_pay58 k0_pay53) (k0_pay59 k0_pay53) (k0_pay60 k0_pay53) (k0_pay61 k0_pay53) (k0_pay66 (k0_pay14 u) k0_pay53 d))
    (k0_pay79 (k0_pay57 k0_pay53) (k0_pay58 k0_pay53) (k0_pay59 k0_pay53) (k0_pay60 k0_pay53) (k0_pay61 k0_pay53) (k0_pay66 (k0_pay14 u) k0_pay53 d))

theorem atOffsets_eq (u : Vec Ideal S128x512 .bf16) (d : Vec Ideal S128x512 .f32) (j : Shape.Idx S128x8) : atOffsets u d j = offPart (fun n => gelu (u (ix2 (j 0) n)) * d (ix2 (j 0) n)) (j 1) := by
  idx_vars j
  refine (congrFun (show atOffsets u d = spreadCols (offCol (cot u d)) from rfl) _).trans ((spreadCols_eq _ j0 j1).trans ((offCol_eq _ j1 j0).trans ?_))
  exact sum_congr rfl fun k _ => cot_eq u d (ix2 j0 (headCol j1 k))

/-! ## The triangles -/

/-- A chunk's gradient at an entry of a triangle: the products over the head's columns. -/
def triPart (e x : Fin 128 → Fin 512 → EReal) (h : Fin 8) (r s : Fin 128) : EReal := if s ≤ r then ∑ k, e r (headCol h k) * x s (headCol h k) else 0

/-- The first and the second of two heads. -/
def low (a : FVec Ideal S128x128 .f32) : FVec Ideal S128x128 .f32 := select k0_pay28 a (broadcast S128x128 (Scalar.ofBits (F := Ideal) .f32 0x00000000#32))
def high (a : FVec Ideal S128x128 .f32) : FVec Ideal S128x128 .f32 := select k0_pay28 (broadcast S128x128 (Scalar.ofBits (F := Ideal) .f32 0x00000000#32)) a

/-- The products of one head. -/
def slab (c a : FVec Ideal S128x128 .f32) : FVec Ideal S1x128x128 .f32 :=
  shapeCast S1x128x128 (select k0_pay27 (matmul dot_S128x128_S128x128_S128x128_1_1_0_0_n_n none (truncf .bf16 c bitsLt_bf16_f32) (truncf .bf16 a bitsLt_bf16_f32) (constant S128x128 .f32 0x00000000#32))
    (broadcast S128x128 (Scalar.ofBits (F := Ideal) .f32 0x00000000#32))) shapeCasts_S128x128_S1x128x128

theorem slab_low (c a : FVec Ideal S128x128 .f32) (r s : Fin 128) :
    slab c (low a) (ix3 0 r s) = if s ≤ r then ∑ k : Fin 64, c (ix2 r ⟨k.val, by omega⟩) * a (ix2 s ⟨k.val, by omega⟩) else 0 := by
  unfold slab low k0_pay27 k0_pay28
  pointwise [select_tril, select_low]
  simp only [mul_zero, sum_const_zero, add_zero]

theorem slab_high (c a : FVec Ideal S128x128 .f32) (r s : Fin 128) :
    slab c (high a) (ix3 0 r s) = if s ≤ r then ∑ k : Fin 64, c (ix2 r ⟨64 + k.val, by omega⟩) * a (ix2 s ⟨64 + k.val, by omega⟩) else 0 := by
  unfold slab high k0_pay27 k0_pay28
  pointwise [select_tril, select_low]
  simp only [mul_zero, sum_const_zero, zero_add]

/-- The products of the eight heads. -/
def slabs : Fin 8 → FVec Ideal S1x128x128 .f32 :=
  ![slab (extractStridedSlice S128x128 ![0, 0] e slices_S128x512_o0_0_S128x128) (low (extractStridedSlice S128x128 ![0, 0] x slices_S128x512_o0_0_S128x128)),
    slab (extractStridedSlice S128x128 ![0, 0] e slices_S128x512_o0_0_S128x128) (high (extractStridedSlice S128x128 ![0, 0] x slices_S128x512_o0_0_S128x128)),
    slab (extractStridedSlice S128x128 ![0, 128] e slices_S128x512_o0_128_S128x128) (low (extractStridedSlice S128x128 ![0, 128] x slices_S128x512_o0_128_S128x128)),
    slab (extractStridedSlice S128x128 ![0, 128] e slices_S128x512_o0_128_S128x128) (high (extractStridedSlice S128x128 ![0, 128] x slices_S128x512_o0_128_S128x128)),
    slab (extractStridedSlice S128x128 ![0, 256] e slices_S128x512_o0_256_S128x128) (low (extractStridedSlice S128x128 ![0, 256] x slices_S128x512_o0_256_S128x128)),
    slab (extractStridedSlice S128x128 ![0, 256] e slices_S128x512_o0_256_S128x128) (high (extractStridedSlice S128x128 ![0, 256] x slices_S128x512_o0_256_S128x128)),
    slab (extractStridedSlice S128x128 ![0, 384] e slices_S128x512_o0_384_S128x128) (low (extractStridedSlice S128x128 ![0, 384] x slices_S128x512_o0_384_S128x128)),
    slab (extractStridedSlice S128x128 ![0, 384] e slices_S128x512_o0_384_S128x128) (high (extractStridedSlice S128x128 ![0, 384] x slices_S128x512_o0_384_S128x128))]

theorem slabs_eq (h : Fin 8) (r s : Fin 128) : slabs e x h (ix3 0 r s) = triPart (row e) (row x) h r s := by
  unfold triPart
  fin_cases h
  iterate 4
    · refine (slab_low _ _ r s).trans (if_congr Iff.rfl (sum_congr rfl fun k _ => ?_) rfl)
      pointwise [row, headCol]
    · refine (slab_high _ _ r s).trans (if_congr Iff.rfl (sum_congr rfl fun k _ => ?_) rfl)
      pointwise [row, headCol]
      try simp only [← Nat.add_assoc, Nat.reduceAdd]

/-- Eight slabs, each among zeros, added up. -/
def spreadSlabs (y : Fin 8 → FVec Ideal S1x128x128 .f32) : FVec Ideal S8x128x128 .f32 :=
  addf (addf (addf (addf (addf (addf (addf (concatenate S8x128x128 0 [⟨S7x128x128, broadcast S7x128x128 (Scalar.ofBits (F := Ideal) .f32 0x00000000#32)⟩, ⟨S1x128x128, y 7⟩] concatenates_S7x128x128_S1x128x128_S8x128x128_d0)
    (concatenate S8x128x128 0 [⟨S7x128x128, concatenate S7x128x128 0 [⟨S6x128x128, broadcast S6x128x128 (Scalar.ofBits (F := Ideal) .f32 0x00000000#32)⟩, ⟨S1x128x128, y 6⟩] concatenates_S6x128x128_S1x128x128_S7x128x128_d0⟩, ⟨S1x128x128, broadcast S1x128x128 (Scalar.ofBits (F := Ideal) .f32 0x00000000#32)⟩] concatenates_S7x128x128_S1x128x128_S8x128x128_d0))
    (concatenate S8x128x128 0 [⟨S6x128x128, concatenate S6x128x128 0 [⟨S5x128x128, broadcast S5x128x128 (Scalar.ofBits (F := Ideal) .f32 0x00000000#32)⟩, ⟨S1x128x128, y 5⟩] concatenates_S5x128x128_S1x128x128_S6x128x128_d0⟩, ⟨S2x128x128, broadcast S2x128x128 (Scalar.ofBits (F := Ideal) .f32 0x00000000#32)⟩] concatenates_S6x128x128_S2x128x128_S8x128x128_d0))
    (concatenate S8x128x128 0 [⟨S5x128x128, concatenate S5x128x128 0 [⟨S4x128x128, broadcast S4x128x128 (Scalar.ofBits (F := Ideal) .f32 0x00000000#32)⟩, ⟨S1x128x128, y 4⟩] concatenates_S4x128x128_S1x128x128_S5x128x128_d0⟩, ⟨S3x128x128, broadcast S3x128x128 (Scalar.ofBits (F := Ideal) .f32 0x00000000#32)⟩] concatenates_S5x128x128_S3x128x128_S8x128x128_d0))
    (concatenate S8x128x128 0 [⟨S4x128x128, concatenate S4x128x128 0 [⟨S3x128x128, broadcast S3x128x128 (Scalar.ofBits (F := Ideal) .f32 0x00000000#32)⟩, ⟨S1x128x128, y 3⟩] concatenates_S3x128x128_S1x128x128_S4x128x128_d0⟩, ⟨S4x128x128, broadcast S4x128x128 (Scalar.ofBits (F := Ideal) .f32 0x00000000#32)⟩] concatenates_S4x128x128_S4x128x128_S8x128x128_d0))
    (concatenate S8x128x128 0 [⟨S3x128x128, concatenate S3x128x128 0 [⟨S2x128x128, broadcast S2x128x128 (Scalar.ofBits (F := Ideal) .f32 0x00000000#32)⟩, ⟨S1x128x128, y 2⟩] concatenates_S2x128x128_S1x128x128_S3x128x128_d0⟩, ⟨S5x128x128, broadcast S5x128x128 (Scalar.ofBits (F := Ideal) .f32 0x00000000#32)⟩] concatenates_S3x128x128_S5x128x128_S8x128x128_d0))
    (concatenate S8x128x128 0 [⟨S2x128x128, concatenate S2x128x128 0 [⟨S1x128x128, broadcast S1x128x128 (Scalar.ofBits (F := Ideal) .f32 0x00000000#32)⟩, ⟨S1x128x128, y 1⟩] concatenates_S1x128x128_S1x128x128_S2x128x128_d0⟩, ⟨S6x128x128, broadcast S6x128x128 (Scalar.ofBits (F := Ideal) .f32 0x00000000#32)⟩] concatenates_S2x128x128_S6x128x128_S8x128x128_d0))
    (concatenate S8x128x128 0 [⟨S1x128x128, y 0⟩, ⟨S7x128x128, broadcast S7x128x128 (Scalar.ofBits (F := Ideal) .f32 0x00000000#32)⟩] concatenates_S1x128x128_S7x128x128_S8x128x128_d0)

theorem spreadSlabs_eq (y : Fin 8 → FVec Ideal S1x128x128 .f32) (h : Fin 8) (r s : Fin 128) : spreadSlabs y (ix3 h r s) = y h (ix3 0 r s) := by
  unfold spreadSlabs
  fin_cases h
  all_goals
    pointwise []

variable (v : Vec Ideal S128x512 .bf16) (g b : Vec Ideal S1x512 .f32)

/-- The second half's rows, normalised. -/
def normsOf : FVec Ideal S128x512 .f32 := k0_pay26 (k0_pay6 v) (k0_pay7 g) (k0_pay8 b) (k0_pay15 v)

/-- The gradient at the triangles, as the call takes it together. -/
def atTriangles : FVec Ideal S8x128x128 .f32 :=
  k0_pay104 k0_pay27 (k0_pay32 k0_pay28 (k0_pay29 (k0_pay6 v) (k0_pay7 g) (k0_pay8 b) (k0_pay15 v)))
    (k0_pay98 k0_pay27 (k0_pay38 (normsOf v g b) k0_pay28) (k0_pay39 (normsOf v g b) k0_pay28) (k0_pay82 e)
      (k0_pay93 k0_pay27 (k0_pay45 k0_pay28 (k0_pay41 (normsOf v g b))) (k0_pay46 k0_pay28 (k0_pay41 (normsOf v g b))) (k0_pay83 e) (k0_pay87 (k0_pay50 (normsOf v g b) k0_pay28) e)
        (k0_pay89 k0_pay27 (k0_pay51 (normsOf v g b) k0_pay28) e) (Scalar.ofBits .f32 0x00000000#32)))
    (k0_pay101 (k0_pay33 k0_pay28 (k0_pay29 (k0_pay6 v) (k0_pay7 g) (k0_pay8 b) (k0_pay15 v))) (k0_pay81 e)) (k0_pay103 (k0_pay81 e))

theorem atTriangles_eq (j : Shape.Idx S8x128x128) :
    atTriangles e v g b j = triPart (row e) (fun s => pre (vals v s) (row g 0) (row b 0)) (j 0) (j 1) (j 2) := by
  idx_vars j
  refine (congrFun (show atTriangles e v g b = spreadSlabs (slabs e (normsOf v g b)) from rfl) _).trans ((spreadSlabs_eq _ j0 j1 j2).trans ((slabs_eq _ _ j0 j1 j2).trans ?_))
  exact congrArg (fun x => triPart (row e) x j0 j1 j2) (funext fun s => funext fun n => pre_eq v g b (ix2 s n))

end Cert.Rows.Gate
-- ==== Proof.GateArray.lean ====
/-
  The arrays that the gradient of the gated mixer leaves.
-/
module
public import proofs.«01_k».proof.Proof.GateParams
public import proofs.«01_k».proof.Proof.BranchRun
public import Idealize.ShloMosaic.Lib.Pipeline.ValueKit
@[expose] public section
set_option maxRecDepth 16384
noncomputable section
namespace Cert.Rows.Gate
open Finset Idealize.ShloMosaic Idealize.ShloMosaic.TcCoe Idealize.ShloMosaic.Tactic Idealize.SL.Sem Cert.GateGradIdeal Cert.GateGradIdeal.Gen
open Idealize.ShloMosaic.Pipeline (Dat)
open Cert.Rows.Branch (gelu tril mixed headOf headCol zc posOf rowAt one flip)

/-! ## The gradients -/

section
variable (z : Shape.Idx S2048x6656 → EReal) (g b : S512.Idx → EReal) (w : Shape.Idx S8x128x128 → EReal) (o : Shape.Idx S8x128 → EReal) (d : Shape.Idx S2048x512 → EReal)

/-- A row of a chunk, in the whole array. -/
def rowOf (q : Fin 16) (s : Fin 128) : Fin 2048 := ⟨128 * q.val + s.val, by omega⟩

/-- A row's values before their norms, the norms, and the gradient at the mixed values. -/
def valRow (r : Fin 2048) : Fin 512 → EReal := fun k => gelu (z (ix2 r (zc 1 k)))
def preRow (r : Fin 2048) : Fin 512 → EReal := pre (valRow z r) (fun k => g (ix1 k)) (fun k => b (ix1 k))
def cotRow (r : Fin 2048) : Fin 512 → EReal := fun n => gelu (z (ix2 r (zc 0 n))) * d (ix2 r n)

/-- The gradient at a row's norms. -/
def normRow (r : Fin 2048) : Fin 512 → EReal := fun n => mixedBack w (fun s => cotRow z d (rowAt r s) n) (headOf n) (posOf r)

/-- The gradients at the two halves. -/
def gradU : Shape.Idx S2048x512 → EReal := fun j => geluBack (z (ix2 (j 0) (zc 0 (j 1))))
  (d j * (mixed w (fun s => preRow z g b (rowAt (j 0) s) (j 1)) (headOf (j 1)) (posOf (j 0)) + o (ix2 (headOf (j 1)) (posOf (j 0)))))
def gradV : Shape.Idx S2048x512 → EReal := fun j => geluBack (z (ix2 (j 0) (zc 1 (j 1)))) (nrmBack (valRow z (j 0)) (fun k => g (ix1 k)) (normRow z w d (j 0)) (j 1))

/-- The gradients at the norms' weights and offsets. -/
def gradG : Shape.Idx S1x512 → EReal := fun j => ∑ r : Fin 2048, nrm (valRow z r) (j 1) * normRow z w d r (j 1)
def gradB : Shape.Idx S1x512 → EReal := fun j => ∑ r : Fin 2048, normRow z w d r (j 1)

/-- The gradients at the triangles and at their offsets. -/
def gradW : Shape.Idx S8x128x128 → EReal := fun j => ∑ q : Fin 16, triPart (fun r => cotRow z d (rowOf q r)) (fun s => preRow z g b (rowOf q s)) (j 0) (j 1) (j 2)
def gradO : Shape.Idx S128x8 → EReal := fun j => ∑ q : Fin 16, offPart (cotRow z d (rowOf q (j 0))) (j 1)
end

/-! ## What the points leave -/

variable (m : (ℓ : Loc nD τ sig) → Buf (Elt Ideal) ℓ) (c : Dev nD)

/-- A point's gradient at the mixed values. -/
def cotOf (t : Fin cfg0.N) : FVec Ideal S128x512 .f32 := cot (iblk m c 0 t) (iblk m c 6 t)

theorem N_eq : cfg0.N = 16 := by decide

theorem offsets_same (o : FVec Ideal S128x8 .f32) : k0_pay9 o = o := by
  funext j
  unfold k0_pay9
  idx_vars j
  pointwise []

theorem first_point (h : 0 < cfg0.N) : outsAt0 m c 0 h = (firstBack (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩),
    secondBack (iblk m c 1 ⟨0, h⟩) (iblk m c 2 ⟨0, h⟩) (iblk m c 4 ⟨0, h⟩) (cotOf m c ⟨0, h⟩), partG (iblk m c 1 ⟨0, h⟩) (iblk m c 4 ⟨0, h⟩) (cotOf m c ⟨0, h⟩), partB (iblk m c 4 ⟨0, h⟩) (cotOf m c ⟨0, h⟩),
    atTriangles (cotOf m c ⟨0, h⟩) (iblk m c 1 ⟨0, h⟩) (iblk m c 2 ⟨0, h⟩) (iblk m c 3 ⟨0, h⟩), atOffsets (iblk m c 0 ⟨0, h⟩) (iblk m c 6 ⟨0, h⟩)) := by
  rw [show outsAt0 m c 0 h = _ from outsAt0_A m c ⟨0, h⟩ rfl (by simp) rfl (by simp) rfl (by simp) rfl (by simp)]
  refine congrArg₂ Prod.mk ?_ (congrArg₂ Prod.mk ?_ (congrArg₂ Prod.mk ?_ (congrArg₂ Prod.mk ?_ (congrArg₂ Prod.mk ?_ ?_))))
  · frame_out
    rw [offsets_same]
    rfl
  · frame_out
    rfl
  · frame_out
    rfl
  · frame_out
    rfl
  · frame_out
    rfl
  · frame_out
    rfl

theorem next_point (n : ℕ) (h : n + 1 < cfg0.N) : outsAt0 m c (n + 1) h = (firstBack (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩),
    secondBack (iblk m c 1 ⟨n + 1, h⟩) (iblk m c 2 ⟨n + 1, h⟩) (iblk m c 4 ⟨n + 1, h⟩) (cotOf m c ⟨n + 1, h⟩), k0_pay1 (partG (iblk m c 1 ⟨n + 1, h⟩) (iblk m c 4 ⟨n + 1, h⟩) (cotOf m c ⟨n + 1, h⟩)) (outsAt0 m c n (Nat.lt_of_succ_lt h)).2.2.1, k0_pay2 (partB (iblk m c 4 ⟨n + 1, h⟩) (cotOf m c ⟨n + 1, h⟩)) (outsAt0 m c n (Nat.lt_of_succ_lt h)).2.2.2.1,
    k0_pay3 (atTriangles (cotOf m c ⟨n + 1, h⟩) (iblk m c 1 ⟨n + 1, h⟩) (iblk m c 2 ⟨n + 1, h⟩) (iblk m c 3 ⟨n + 1, h⟩)) (outsAt0 m c n (Nat.lt_of_succ_lt h)).2.2.2.2.1, k0_pay4 (atOffsets (iblk m c 0 ⟨n + 1, h⟩) (iblk m c 6 ⟨n + 1, h⟩)) (outsAt0 m c n (Nat.lt_of_succ_lt h)).2.2.2.2.2) := by
  have hN : n + 1 < 16 := lt_of_lt_of_eq h N_eq
  have h0 : ¬(n + 1) % 16 = 0 := by omega
  have h1 : 1 ≤ n + 1 := by omega
  rw [show outsAt0 m c (n + 1) h = _ from outsAt0_B m c ⟨n + 1, h⟩ h0 h1 h0 h1 h0 h1 h0 h1]
  refine congrArg₂ Prod.mk ?_ (congrArg₂ Prod.mk ?_ (congrArg₂ Prod.mk ?_ (congrArg₂ Prod.mk ?_ (congrArg₂ Prod.mk ?_ ?_))))
  · frame_out
    rw [offsets_same]
    rfl
  · frame_out
    rfl
  · frame_out
    rfl
  · frame_out
    rfl
  · frame_out
    rfl
  · frame_out
    rfl

/-! ## The blocks -/

/-- The arrays of the launch. -/
abbrev arrZ : Shape.Idx S2048x6656 → EReal := m ((c.tc : Thread nD τ).loc main_arg0)
abbrev arrG : S512.Idx → EReal := m ((c.tc : Thread nD τ).loc main_arg1)
abbrev arrB : S512.Idx → EReal := m ((c.tc : Thread nD τ).loc main_arg2)
abbrev arrW : Shape.Idx S8x128x128 → EReal := m ((c.tc : Thread nD τ).loc main_arg3)
abbrev arrO : Shape.Idx S8x128 → EReal := m ((c.tc : Thread nD τ).loc main_arg4)
abbrev arrD : Shape.Idx S2048x512 → EReal := m ((c.tc : Thread nD τ).loc main_arg5)

theorem V_z : V m c main_v0 = arrZ m c := by
  have e : V m c main_v0 = (truncf .bf16 (arrZ m c : FVec Ideal S2048x6656 .f32) bitsLt_bf16_f32 : FVec Ideal S2048x6656 .bf16) := by
    unfold V
    after_results
  rw [e]
  funext j
  idx_vars j
  pointwise []

theorem V_g : V m c main_v1 = one (N := 512) (arrG m c) := by
  have e : V m c main_v1 = broadcastInDim S1x512 ![1] bcast_S512_S1x512_1 (arrG m c) := by
    unfold V
    after_results
  rw [e]
  funext j
  idx_vars j
  pointwise []
  rfl

theorem V_b : V m c main_v2 = one (N := 512) (arrB m c) := by
  have e : V m c main_v2 = broadcastInDim S1x512 ![1] bcast_S512_S1x512_1 (arrB m c) := by
    unfold V
    after_results
  rw [e]
  funext j
  idx_vars j
  pointwise []
  rfl

theorem V_o : V m c main_v3 = flip (arrO m c) := by
  have e : V m c main_v3 = transpose S128x8 [1, 0] (arrO m c) transposes_S8x128_S128x8_1_0 := by
    unfold V
    after_results
  rw [e]
  funext j
  idx_vars j
  pointwise []
  rfl

theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] ∧ win0_7.index t = ![t.val, 0] ∧ win0_8.index t = ![t.val, 0]
    ∧ win0_9.index t = ![0, 0] ∧ win0_10.index t = ![0, 0] ∧ win0_11.index t = ![0, 0, 0] ∧ win0_12.index t = ![0, 0] := by decide +kernel

/-- A row of a point's block, in the whole array. -/
def rowOn (t : Fin cfg0.N) (r : Fin 128) : Fin 2048 := ⟨128 * t.val + r.val, by have := t.isLt; have : cfg0.N = 16 := rfl; omega⟩

theorem posOf_on (t : Fin cfg0.N) (r : Fin 128) : posOf (rowOn t r) = r := Fin.ext (by simp only [posOf, rowOn]; omega)
theorem rowAt_on (t : Fin cfg0.N) (r s : Fin 128) : rowAt (rowOn t r) s = rowOn t s := Fin.ext (by simp only [rowAt, rowOn]; omega)

theorem block_u (t : Fin cfg0.N) (j : Shape.Idx S128x512) : iblk m c 0 t j = arrZ m c (ix2 (rowOn t (j 0)) (zc 0 (j 1))) := by
  rw [← V_z m c]
  blk_ext [iblk, idx t, rowOn, zc]

theorem block_v (t : Fin cfg0.N) (j : Shape.Idx S128x512) : iblk m c 1 t j = arrZ m c (ix2 (rowOn t (j 0)) (zc 1 (j 1))) := by
  rw [← V_z m c]
  blk_ext [iblk, idx t, rowOn, zc]

theorem block_g (t : Fin cfg0.N) : row (M := 1) (N := 512) (iblk m c 2 t) 0 = fun k => arrG m c (ix1 k) := by
  funext k
  refine Eq.trans ?_ (congrFun (V_g m c) (ix2 0 k))
  unfold row
  blk_ext [iblk, idx t]

theorem block_b (t : Fin cfg0.N) : row (M := 1) (N := 512) (iblk m c 3 t) 0 = fun k => arrB m c (ix1 k) := by
  funext k
  refine Eq.trans ?_ (congrFun (V_b m c) (ix2 0 k))
  unfold row
  blk_ext [iblk, idx t]

theorem block_w (t : Fin cfg0.N) : (iblk m c 4 t : Shape.Idx S8x128x128 → EReal) = arrW m c := by
  refine Eq.trans ?_ (V_main_arg3 m c)
  funext j
  blk_ext [iblk, idx t]

theorem block_o (t : Fin cfg0.N) : (iblk m c 5 t : Shape.Idx S128x8 → EReal) = flip (arrO m c) := by
  refine Eq.trans ?_ (V_o m c)
  funext j
  blk_ext [iblk, idx t]

theorem block_d (t : Fin cfg0.N) (j : Shape.Idx S128x512) : iblk m c 6 t j = arrD m c (ix2 (rowOn t (j 0)) (j 1)) := by
  refine Eq.trans ?_ (congrFun (V_main_arg5 m c) _)
  blk_ext [iblk, idx t, rowOn]

theorem vals_on (t : Fin cfg0.N) : vals (iblk m c 1 t) = fun s => valRow (arrZ m c) (rowOn t s) := by
  funext s k
  exact congrArg gelu (block_v m c t (ix2 s k))

theorem cotOf_on (t : Fin cfg0.N) (s : Fin 128) (n : Fin 512) : cotOf m c t (ix2 s n) = cotRow (arrZ m c) (arrD m c) (rowOn t s) n := by
  unfold cotOf
  rw [cot_eq, block_u, block_d]
  rfl

theorem row_on (t : Fin cfg0.N) : row (M := 128) (N := 512) (cotOf m c t) = fun s => cotRow (arrZ m c) (arrD m c) (rowOn t s) := by
  funext s n
  exact cotOf_on m c t s n

theorem ndRow_on (t : Fin cfg0.N) (s : Fin 128) : ndRow (iblk m c 4 t) (cotOf m c t) s = normRow (arrZ m c) (arrW m c) (arrD m c) (rowOn t s) := by
  funext n
  unfold ndRow normRow
  rw [block_w, posOf_on]
  simp only [rowAt_on, cotOf_on]

/-! ## The sums of the points up to one -/

theorem left_u : ∀ (n : ℕ) (h : n < cfg0.N), (outsAt0 m c n h).1 = firstBack (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)
  | 0, h => by rw [first_point]
  | n + 1, h => by rw [next_point]

theorem left_v : ∀ (n : ℕ) (h : n < cfg0.N), (outsAt0 m c n h).2.1 = secondBack (iblk m c 1 ⟨n, h⟩) (iblk m c 2 ⟨n, h⟩) (iblk m c 4 ⟨n, h⟩) (cotOf m c ⟨n, h⟩)
  | 0, h => by rw [first_point]
  | n + 1, h => by rw [next_point]

theorem left_g : ∀ (n : ℕ) (h : n < cfg0.N), (outsAt0 m c n h).2.2.1 = (fun j => ∑ r ∈ range (128 * (n + 1)), rowf (fun r : Fin 2048 => nrm (valRow (arrZ m c) r) (j 1) * normRow (arrZ m c) (arrW m c) (arrD m c) r (j 1)) r : Shape.Idx S1x512 → EReal)
  | 0, h => by
    rw [first_point]
    funext j
    refine (partG_eq _ _ _ j).trans (Eq.trans ?_ (sum_first _ _).symm)
    refine sum_congr rfl fun r _ => ?_
    rw [vals_on, ndRow_on, rowf_of]
    rfl
  | n + 1, h => by
    rw [next_point]
    funext j
    refine (added1 _ _ j).trans (Eq.trans ?_ (sum_next _ _ _).symm)
    refine congrArg₂ (· + ·) (congrFun (left_g n _) j) ((partG_eq _ _ _ j).trans (sum_congr rfl fun r _ => ?_))
    rw [vals_on, ndRow_on, rowf_of]
    rfl

theorem left_b : ∀ (n : ℕ) (h : n < cfg0.N), (outsAt0 m c n h).2.2.2.1 = (fun j => ∑ r ∈ range (128 * (n + 1)), rowf (fun r : Fin 2048 => normRow (arrZ m c) (arrW m c) (arrD m c) r (j 1)) r : Shape.Idx S1x512 → EReal)
  | 0, h => by
    rw [first_point]
    funext j
    refine (partB_eq _ _ j).trans (Eq.trans ?_ (sum_first _ _).symm)
    refine sum_congr rfl fun r _ => ?_
    rw [ndRow_on, rowf_of]
    rfl
  | n + 1, h => by
    rw [next_point]
    funext j
    refine (added2 _ _ j).trans (Eq.trans ?_ (sum_next _ _ _).symm)
    refine congrArg₂ (· + ·) (congrFun (left_b n _) j) ((partB_eq _ _ j).trans (sum_congr rfl fun r _ => ?_))
    rw [ndRow_on, rowf_of]
    rfl

/-- A chunk's parts of the gradients at the triangles and at their offsets. -/
def triOf (q : Fin 16) (j : Shape.Idx S8x128x128) : EReal := triPart (fun r => cotRow (arrZ m c) (arrD m c) (rowOf q r)) (fun s => preRow (arrZ m c) (arrG m c) (arrB m c) (rowOf q s)) (j 0) (j 1) (j 2)
def offOf (q : Fin 16) (j : Shape.Idx S128x8) : EReal := offPart (cotRow (arrZ m c) (arrD m c) (rowOf q (j 0))) (j 1)

theorem tri_on (n : ℕ) (h : n < cfg0.N) (j : Shape.Idx S8x128x128) : atTriangles (cotOf m c ⟨n, h⟩) (iblk m c 1 ⟨n, h⟩) (iblk m c 2 ⟨n, h⟩) (iblk m c 3 ⟨n, h⟩) j = rowf (fun q : Fin 16 => triOf m c q j) n := by
  rw [atTriangles_eq, row_on, vals_on, block_g, block_b, rowf_of _ (lt_of_lt_of_eq h N_eq)]
  rfl

theorem off_on (n : ℕ) (h : n < cfg0.N) (j : Shape.Idx S128x8) : atOffsets (iblk m c 0 ⟨n, h⟩) (iblk m c 6 ⟨n, h⟩) j = rowf (fun q : Fin 16 => offOf m c q j) n := by
  rw [atOffsets_eq, rowf_of _ (lt_of_lt_of_eq h N_eq)]
  simp only [block_u, block_d]
  rfl

theorem left_w : ∀ (n : ℕ) (h : n < cfg0.N), (outsAt0 m c n h).2.2.2.2.1 = (fun j => ∑ q ∈ range (n + 1), rowf (fun q : Fin 16 => triOf m c q j) q : Shape.Idx S8x128x128 → EReal)
  | 0, h => by
    rw [first_point]
    funext j
    exact (tri_on m c 0 h j).trans (sum_range_one _).symm
  | n + 1, h => by
    rw [next_point]
    funext j
    exact (added3 _ _ j).trans ((congrArg₂ (· + ·) (congrFun (left_w n _) j) (tri_on m c (n + 1) h j)).trans (sum_range_succ _ _).symm)

theorem left_o : ∀ (n : ℕ) (h : n < cfg0.N), (outsAt0 m c n h).2.2.2.2.2 = (fun j => ∑ q ∈ range (n + 1), rowf (fun q : Fin 16 => offOf m c q j) q : Shape.Idx S128x8 → EReal)
  | 0, h => by
    rw [first_point]
    funext j
    exact (off_on m c 0 h j).trans (sum_range_one _).symm
  | n + 1, h => by
    rw [next_point]
    funext j
    exact (added4 _ _ j).trans ((congrArg₂ (· + ·) (congrFun (left_o n _) j) (off_on m c (n + 1) h j)).trans (sum_range_succ _ _).symm)

/-! ## The whole arrays -/

theorem gradU_on (z : Shape.Idx S2048x6656 → EReal) (g b : S512.Idx → EReal) (w : Shape.Idx S8x128x128 → EReal) (o : Shape.Idx S8x128 → EReal) (d : Shape.Idx S2048x512 → EReal)
    (t : Fin cfg0.N) (s : Fin 128) (n : Fin 512) : gradU z g b w o d (ix2 (rowOn t s) n) = geluBack (z (ix2 (rowOn t s) (zc 0 n)))
      (d (ix2 (rowOn t s) n) * (mixed w (fun r => preRow z g b (rowOn t r) n) (headOf n) s + o (ix2 (headOf n) s))) := by
  show geluBack (z (ix2 (rowOn t s) (zc 0 n))) (d (ix2 (rowOn t s) n) * (mixed w (fun r => preRow z g b (rowAt (rowOn t s) r) n) (headOf n) (posOf (rowOn t s)) + o (ix2 (headOf n) (posOf (rowOn t s))))) = _
  simp only [posOf_on, rowAt_on]

theorem final_u : (dats m 0 c).arrAt 7 cfg0.N = (gradU (arrZ m c) (arrG m c) (arrB m c) (arrW m c) (arrO m c) (arrD m c) : Shape.Idx S2048x512 → EReal) := by
  refine (dats m 0 c).arrAt_eq_of_covers 7 _ (by decide +kernel) fun t _ j => ?_
  refine Eq.trans (b := gradU (arrZ m c) (arrG m c) (arrB m c) (arrW m c) (arrO m c) (arrD m c) (ix2 (rowOn t (j 0)) (j 1))) ?_ (congrArg _ ?_)
  · rw [after0_7, left_u]
    refine (firstBack_eq _ _ _ _ _ _ _ j).trans ?_
    rw [block_u, block_d, vals_on, block_g, block_b, block_w, block_o]
    refine Eq.trans ?_ (gradU_on _ _ _ _ _ _ t (j 0) (j 1)).symm
    rfl
  · blk_ext [idx t, rowOn]

theorem final_v : (dats m 0 c).arrAt 8 cfg0.N = (gradV (arrZ m c) (arrG m c) (arrW m c) (arrD m c) : Shape.Idx S2048x512 → EReal) := by
  refine (dats m 0 c).arrAt_eq_of_covers 8 _ (by decide +kernel) fun t _ j => ?_
  refine Eq.trans (b := gradV (arrZ m c) (arrG m c) (arrW m c) (arrD m c) (ix2 (rowOn t (j 0)) (j 1))) ?_ (congrArg _ ?_)
  · rw [after0_8, left_v]
    refine (secondBack_eq _ _ _ _ j).trans ?_
    rw [block_v, vals_on, block_g]
    exact congrArg (fun e : Fin 512 → EReal => geluBack (arrZ m c (ix2 (rowOn t (j 0)) (zc 1 (j 1)))) (nrmBack (valRow (arrZ m c) (rowOn t (j 0))) (fun k => arrG m c (ix1 k)) e (j 1))) (ndRow_on m c t (j 0))
  · blk_ext [idx t, rowOn]

theorem final_g : (dats m 0 c).arrAt 9 cfg0.N = (gradG (arrZ m c) (arrW m c) (arrD m c) : Shape.Idx S1x512 → EReal) := by
  refine (dats m 0 c).arrAt_eq_of_covers 9 _ (by decide +kernel) fun t hf j => ?_
  have ht : t.val = 15 := (by decide +kernel : ∀ t : Fin cfg0.N, win0_9.flush t = true → t.val = 15) t hf
  blk_simp
  rw [after0_9, left_g]
  rw [ht]
  refine (sum_rowf _).trans ?_
  refine sum_congr rfl fun r _ => congrArg (fun k : Fin 512 => nrm (valRow (arrZ m c) r) k * normRow (arrZ m c) (arrW m c) (arrD m c) r k) (Fin.ext ?_)
  blk_simp [idx t]

theorem final_b : (dats m 0 c).arrAt 10 cfg0.N = (gradB (arrZ m c) (arrW m c) (arrD m c) : Shape.Idx S1x512 → EReal) := by
  refine (dats m 0 c).arrAt_eq_of_covers 10 _ (by decide +kernel) fun t hf j => ?_
  have ht : t.val = 15 := (by decide +kernel : ∀ t : Fin cfg0.N, win0_10.flush t = true → t.val = 15) t hf
  blk_simp
  rw [after0_10, left_b]
  rw [ht]
  refine (sum_rowf _).trans ?_
  refine sum_congr rfl fun r _ => congrArg (normRow (arrZ m c) (arrW m c) (arrD m c) r) (Fin.ext ?_)
  blk_simp [idx t]

theorem final_w : (dats m 0 c).arrAt 11 cfg0.N = (gradW (arrZ m c) (arrG m c) (arrB m c) (arrD m c) : Shape.Idx S8x128x128 → EReal) := by
  refine (dats m 0 c).arrAt_eq_of_covers 11 _ (by decide +kernel) fun t hf j => ?_
  have ht : t.val = 15 := (by decide +kernel : ∀ t : Fin cfg0.N, win0_11.flush t = true → t.val = 15) t hf
  refine Eq.trans (b := gradW (arrZ m c) (arrG m c) (arrB m c) (arrD m c) j) ?_ (congrArg _ ?_)
  · rw [after0_11, left_w]
    rw [ht]
    exact sum_rowf _
  · blk_ext [idx t]

theorem final_o : (dats m 0 c).arrAt 12 cfg0.N = (gradO (arrZ m c) (arrD m c) : Shape.Idx S128x8 → EReal) := by
  refine (dats m 0 c).arrAt_eq_of_covers 12 _ (by decide +kernel) fun t hf j => ?_
  have ht : t.val = 15 := (by decide +kernel : ∀ t : Fin cfg0.N, win0_12.flush t = true → t.val = 15) t hf
  refine Eq.trans (b := gradO (arrZ m c) (arrD m c) j) ?_ (congrArg _ ?_)
  · rw [after0_12, left_o]
    rw [ht]
    exact sum_rowf _
  · blk_ext [idx t]

end Cert.Rows.Gate
-- ==== Proof.GateRef.lean ====
/-
  What the reference of the gated mixer's gradient computes.
-/
module
public import proofs.«01_k».proof.Proof.GateArray
public import proofs.«01_k».proof.Proof.BranchRef
public import proofs.«01_k».proof.Proof.NormArray
public import proofs.«01_k».proof.Proof.Gen.GateGradRefIdeal.Run
@[expose] public section
set_option maxRecDepth 16384
noncomputable section
namespace Cert.Rows.GateRef
open Finset Idealize.ShloMosaic Idealize.ShloMosaic.TcCoe Idealize.SL.Sem Cert.GateGradRefIdeal Cert.GateGradRefIdeal.Gen Cert.GateGradRefIdeal.Value
open Cert.Rows.Branch (gelu tril mixed headOf laneOf headCol zc posOf rowAt one flip headCol_of)
open Cert.Rows.BranchRef (half0 half1 lower mixing half0_eq half1_eq lower_eq chunks_eq mixing_eq unchunk_eq row_half1)
open Cert.Rows.NormRef (normed normed_eq normedBack centredBack_eq)
open Cert.Rows.Gate (geluBack mixedBack triPart offPart rowOf valRow preRow cotRow normRow)

variable (V : Valuation τ sig (Elt Ideal))

/-- The arrays of the launch. -/
abbrev arrZ : FVec Ideal S2048x6656 .f32 := V (Proc.devRef .tc main_arg0)
abbrev arrG : FVec Ideal S512 .f32 := V (Proc.devRef .tc main_arg1)
abbrev arrB : FVec Ideal S512 .f32 := V (Proc.devRef .tc main_arg2)
abbrev arrW : FVec Ideal S8x128x128 .f32 := V (Proc.devRef .tc main_arg3)
abbrev arrO : FVec Ideal S8x128 .f32 := V (Proc.devRef .tc main_arg4)
abbrev arrD : FVec Ideal S2048x512 .f32 := V (Proc.devRef .tc main_arg5)

/-! ## The forward values -/

theorem first_half : res_main_v23 V = half0 (arrZ V) := rfl
theorem second_half : res_main_v24 V = half1 (arrZ V) := rfl
theorem triangles : res_main_v55_0 V = lower (arrW V) := rfl
theorem norms : res_main_v43 V = normed (half1 (arrZ V)) := rfl
theorem norms_chunks : res_main_v50 V = shapeCast S16x128x8x64 (BranchRef.inner (half1 (arrZ V)) (arrG V) (arrB V)) shapeCasts_S2048x512_S16x128x8x64 := rfl
theorem mixed_rows : res_main_v63 V = shapeCast S2048x512 (mixing (BranchRef.inner (half1 (arrZ V)) (arrG V) (arrB V)) (arrW V) (arrO V)) shapeCasts_S16x128x8x64_S2048x512 := rfl

theorem inner_eq (r : Fin 2048) (n : Fin 512) : BranchRef.inner (half1 (arrZ V)) (arrG V) (arrB V) (ix2 r n) = preRow (arrZ V) (arrG V) (arrB V) r n := by
  rw [BranchRef.inner_eq, row_half1]
  rfl

theorem v50_eq (q : Fin 16) (s : Fin 128) (h : Fin 8) (k : Fin 64) : res_main_v50 V (ix4 q s h k) = preRow (arrZ V) (arrG V) (arrB V) (rowOf q s) (headCol h k) :=
  (congrFun (norms_chunks V) _).trans ((chunks_eq _ q s h k).trans (inner_eq V _ _))

theorem v63_eq (r : Fin 2048) (n : Fin 512) : res_main_v63 V (ix2 r n)
    = mixed (arrW V) (fun s => preRow (arrZ V) (arrG V) (arrB V) (rowAt r s) n) (headOf n) (posOf r) + arrO V (ix2 (headOf n) (posOf r)) := by
  refine (congrFun (mixed_rows V) _).trans ((unchunk_eq _ r n).trans ((mixing_eq _ _ _ _ _ _ _).trans ?_))
  simp only [inner_eq, headCol_of]
  rfl

theorem v67_eq (q : Fin 16) (s : Fin 128) (h : Fin 8) (k : Fin 64) : res_main_v67 V (ix4 q s h k) = cotRow (arrZ V) (arrD V) (rowOf q s) (headCol h k) := by
  unfold res_main_v67
  rw [first_half]
  refine (chunks_eq _ q s h k).trans ?_
  pointwise [half0_eq]
  rfl

/-! ## The gradient at the norms -/

theorem v79_eq (r : Fin 2048) (n : Fin 512) : res_main_v79 V (ix2 r n) = normRow (arrZ V) (arrW V) (arrD V) r n := by
  unfold res_main_v79 res_main_v74
  rw [triangles]
  refine (unchunk_eq _ r n).trans ?_
  pointwise [v67_eq, lower_eq, headCol_of]
  exact sum_congr rfl fun s _ => mul_comm _ _

theorem row_v79 (r : Fin 2048) : row (M := 2048) (N := 512) (res_main_v79 V) r = normRow (arrZ V) (arrW V) (arrD V) r := funext fun n => v79_eq V r n

theorem normedBack_eq (r : Fin 2048) (n : Fin 512) : normedBack (half1 (arrZ V)) (arrG V) (res_main_v79 V) (ix2 r n)
    = nrmBack (valRow (arrZ V) r) (fun k => arrG V (ix1 k)) (normRow (arrZ V) (arrW V) (arrD V) r) n := by
  unfold normedBack
  pointwise [centredBack_eq, row_v79, row_half1]
  rfl

/-! ## The gradients at the halves -/

theorem v111_first (r : Fin 2048) (n : Fin 512) : res_main_v111 V (ix2 r ⟨n.val, by omega⟩) = arrD V (ix2 r n) * res_main_v63 V (ix2 r n) := by
  unfold res_main_v111
  pointwise []

theorem v111_second (r : Fin 2048) (n : Fin 512) : res_main_v111 V (ix2 r ⟨512 + n.val, by omega⟩) = normedBack (half1 (arrZ V)) (arrG V) (res_main_v79 V) (ix2 r n) := by
  unfold res_main_v111 normedBack
  rw [show res_main_v102 V = NormRef.centredBack (half1 (arrZ V)) (arrG V) (res_main_v79 V) from rfl]
  pointwise []

theorem v124_eq (r : Fin 2048) (n : Fin 1024) : res_main_v124 V (ix2 r n) = geluBack (arrZ V (ix2 r ⟨n.val, by omega⟩)) (res_main_v111 V (ix2 r n)) := by
  unfold res_main_v124 res_main_v118 res_main_v21 res_main_v12 res_main_v0
  pointwise [mul_assoc]
  unfold geluBack
  simp only [mul_assoc]

theorem ref_u : extractStridedSlice S2048x512 ![0, 0] (res_main_v124 V) slices_S2048x1024_S2048x512_0_0
    = (Gate.gradU (arrZ V) (arrG V) (arrB V) (arrW V) (arrO V) (arrD V) : Shape.Idx S2048x512 → EReal) := by
  funext j
  idx_vars j
  pointwise [v124_eq, v111_first, v63_eq]
  rw [show (⟨j1.val, by omega⟩ : Fin 6656) = zc 0 j1 from Fin.ext (by simp only [zc]; omega)]
  rfl

theorem ref_v : extractStridedSlice S2048x512 ![0, 512] (res_main_v124 V) slices_S2048x1024_S2048x512_0_512
    = (Gate.gradV (arrZ V) (arrG V) (arrW V) (arrD V) : Shape.Idx S2048x512 → EReal) := by
  funext j
  idx_vars j
  pointwise [v124_eq, v111_second, normedBack_eq]
  rfl

/-! ## The gradients at the parameters -/

theorem ref_g : broadcastInDim S1x512 ![1] bcast_S512_S1x512_1 (Host.reduceAdd (shapeCast S1x512 (Host.reduceAdd (mulf (res_main_v43 V) (res_main_v79 V)) (constant S_ .f32 0x00000000#32 : FVec Ideal S_ .f32) reducesTo_S2048x512_S512_d0 h_S_) shapeCasts_S512_S1x512) (constant S_ .f32 0x00000000#32 : FVec Ideal S_ .f32) reducesTo_S1x512_S512_d0 h_S_)
    = (Gate.gradG (arrZ V) (arrW V) (arrD V) : Shape.Idx S1x512 → EReal) := by
  rw [norms]
  funext j
  idx_vars j
  pointwise [normed_eq, v79_eq, row_half1]
  exact Fin.sum_univ_one _

theorem ref_b : broadcastInDim S1x512 ![1] bcast_S512_S1x512_1 (Host.reduceAdd (shapeCast S1x512 (Host.reduceAdd (res_main_v79 V) (constant S_ .f32 0x00000000#32 : FVec Ideal S_ .f32) reducesTo_S2048x512_S512_d0 h_S_) shapeCasts_S512_S1x512) (constant S_ .f32 0x00000000#32 : FVec Ideal S_ .f32) reducesTo_S1x512_S512_d0 h_S_)
    = (Gate.gradB (arrZ V) (arrW V) (arrD V) : Shape.Idx S1x512 → EReal) := by
  funext j
  idx_vars j
  pointwise [v79_eq]
  exact Fin.sum_univ_one _

theorem ref_w : select (res_main_v55_1 V) (Host.dotGeneral (φ₁ := .f32) (φ₂ := .f32) dot_S8x16x64x128_S16x128x8x64_S8x128x128_12_03_3_1_0_2 none (res_main_v74 V) (res_main_v50 V)) (broadcastInDim S8x128x128 ![] bcast_S_S8x128x128 (constant S_ .f32 0x00000000#32 : FVec Ideal S_ .f32))
    = (Gate.gradW (arrZ V) (arrG V) (arrB V) (arrD V) : Shape.Idx S8x128x128 → EReal) := by
  unfold res_main_v55_1 res_main_v74
  funext j
  idx_vars j
  pointwise [BranchRef.select_below, v67_eq, v50_eq]
  refine (BranchRef.select_below j1 j2 _ _).trans ?_
  show _ = ∑ q : Fin 16, if j2 ≤ j1 then _ else 0
  by_cases h : j2 ≤ j1
  · simp only [if_pos h]
    rfl
  · simp only [if_neg h, sum_const_zero]

/-- A sum over the first and the last of four axes. -/
theorem sum_ends {L M N K : ℕ} (h : (⟨4, ![L, M, N, K]⟩ : Shape).ReducesTo [0, 3] ⟨2, ![M, N]⟩) (v : Shape.Idx ⟨4, ![L, M, N, K]⟩ → EReal) (b : EReal) (s : Fin M) (i : Fin N) :
    Ideal.hostReduceAdd h v b (ix2 s i) = b + ∑ q, ∑ k, v (ix4 q s i k) := by
  refine congrArg (b + ·) ((Finset.sum_filter_eq_sum_of_fiber _ (fun p : Fin L × Fin K => ix4 p.1 s i p.2) (fun _ _ e => Prod.ext (congrFun e 0) (congrFun e 3)) (fun x => ?_) v).trans ?_)
  · constructor
    · intro e
      refine ⟨(x 0, x 3), ?_⟩
      funext a
      apply Fin.ext
      match a with
      | ⟨0, _⟩ => rfl
      | ⟨1, _⟩ => exact (congrArg Fin.val (congrFun e (0 : Fin 2))).symm
      | ⟨2, _⟩ => exact (congrArg Fin.val (congrFun e (1 : Fin 2))).symm
      | ⟨3, _⟩ => rfl
    · rintro ⟨p, rfl⟩
      funext a
      apply Fin.ext
      match a with
      | ⟨0, _⟩ => rfl
      | ⟨1, _⟩ => rfl
  · simp only [Fintype.sum_prod_type]

theorem ref_o : transpose S128x8 [1, 0] (transpose S8x128 [1, 0] (Host.reduceAdd (broadcastInDim S128x8x1 ![0, 1] bcast_S128x8_S128x8x1_0_1 (Host.reduceAdd (shapeCast S1x128x8x1 (Host.reduceAdd (res_main_v67 V) (constant S_ .f32 0x00000000#32 : FVec Ideal S_ .f32) reducesTo_S16x128x8x64_S128x8_d0_3 h_S_) shapeCasts_S128x8_S1x128x8x1) (constant S_ .f32 0x00000000#32 : FVec Ideal S_ .f32) reducesTo_S1x128x8x1_S128x8_d0_3 h_S_)) (constant S_ .f32 0x00000000#32 : FVec Ideal S_ .f32) reducesTo_S128x8x1_S128x8_d2 h_S_) transposes_S128x8_S8x128_1_0) transposes_S8x128_S128x8_1_0
    = (Gate.gradO (arrZ V) (arrD V) : Shape.Idx S128x8 → EReal) := by
  funext j
  idx_vars j
  pointwise [v67_eq, sum_ends]
  exact (Fin.sum_univ_one _).trans ((Fin.sum_univ_one _).trans (Fin.sum_univ_one _))

end Cert.Rows.GateRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Run
public import proofs.«01_k».proof.Proof.Gen.RmsGrad
public import proofs.«01_k».proof.Proof.Gen.RmsGrad.Skeleton
public import proofs.«01_k».proof.Proof.Gen.RmsGrad.Launch
public import proofs.«01_k».proof.Proof.Gen.RmsGrad.Points
public import proofs.«01_k».proof.Proof.Gen.RmsGrad.Frame
public import proofs.«01_k».proof.Proof.Gen.RmsGradIdeal
public import proofs.«01_k».proof.Proof.Gen.RmsGradIdeal.Skeleton
public import proofs.«01_k».proof.Proof.Gen.RmsGradIdeal.Launch
public import proofs.«01_k».proof.Proof.Gen.RmsGradIdeal.Points
public import proofs.«01_k».proof.Proof.Gen.RmsGradIdeal.Frame
public import proofs.«01_k».proof.Proof.Gen.RmsGradIdeal.Value
public import proofs.«01_k».proof.Proof.Gen.RmsGradRefIdeal
public import proofs.«01_k».proof.Proof.Gen.RmsGradRefIdeal.Run
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.MergeGrad
public import proofs.«01_k».proof.Proof.Gen.MergeGrad.Skeleton
public import proofs.«01_k».proof.Proof.Gen.MergeGrad.Launch
public import proofs.«01_k».proof.Proof.Gen.MergeGrad.Points
public import proofs.«01_k».proof.Proof.Gen.MergeGrad.Frame
public import proofs.«01_k».proof.Proof.Gen.MergeGradIdeal
public import proofs.«01_k».proof.Proof.Gen.MergeGradIdeal.Skeleton
public import proofs.«01_k».proof.Proof.Gen.MergeGradIdeal.Launch
public import proofs.«01_k».proof.Proof.Gen.MergeGradIdeal.Points
public import proofs.«01_k».proof.Proof.Gen.MergeGradIdeal.Frame
public import proofs.«01_k».proof.Proof.Gen.MergeGradIdeal.Value
public import proofs.«01_k».proof.Proof.Gen.MergeGradRefIdeal
public import proofs.«01_k».proof.Proof.Gen.MergeGradRefIdeal.Run
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardRefIdeal
public import proofs.«01_k».proof.Proof.Gen.ForwardRefIdeal.Run
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchRefIdeal
public import proofs.«01_k».proof.Proof.Gen.BranchRefIdeal.Run
public import proofs.«01_k».proof.Proof.Gen.HeadGrad
public import proofs.«01_k».proof.Proof.Gen.HeadGrad.Skeleton
public import proofs.«01_k».proof.Proof.Gen.HeadGrad.Launch
public import proofs.«01_k».proof.Proof.Gen.HeadGrad.Points
public import proofs.«01_k».proof.Proof.Gen.HeadGrad.Frame
public import proofs.«01_k».proof.Proof.Gen.HeadGradIdeal
public import proofs.«01_k».proof.Proof.Gen.HeadGradIdeal.Skeleton
public import proofs.«01_k».proof.Proof.Gen.HeadGradIdeal.Launch
public import proofs.«01_k».proof.Proof.Gen.HeadGradIdeal.Points
public import proofs.«01_k».proof.Proof.Gen.HeadGradIdeal.Frame
public import proofs.«01_k».proof.Proof.Gen.HeadGradIdeal.Value
public import proofs.«01_k».proof.Proof.Gen.HeadGradRefIdeal
public import proofs.«01_k».proof.Proof.Gen.HeadGradRefIdeal.Run
public import proofs.«01_k».proof.Proof.HeadRef
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.GateGrad
public import proofs.«01_k».proof.Proof.Gen.GateGrad.Skeleton
public import proofs.«01_k».proof.Proof.Gen.GateGrad.Launch
public import proofs.«01_k».proof.Proof.Gen.GateGrad.Points
public import proofs.«01_k».proof.Proof.Gen.GateGrad.Frame
public import proofs.«01_k».proof.Proof.Gen.GateGradIdeal
public import proofs.«01_k».proof.Proof.Gen.GateGradIdeal.Skeleton
public import proofs.«01_k».proof.Proof.Gen.GateGradIdeal.Launch
public import proofs.«01_k».proof.Proof.Gen.GateGradIdeal.Points
public import proofs.«01_k».proof.Proof.Gen.GateGradIdeal.Frame
public import proofs.«01_k».proof.Proof.Gen.GateGradIdeal.Value
public import proofs.«01_k».proof.Proof.Gen.GateGradRefIdeal
public import proofs.«01_k».proof.Proof.Gen.GateGradRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.KerRun
public import proofs.«01_k».proof.Proof.RefResults
public import proofs.«01_k».proof.Proof.Finite
public import proofs.«01_k».proof.Proof.InRun
public import proofs.«01_k».proof.Proof.OutRun
public import proofs.«01_k».proof.Proof.OutRef
public import proofs.«01_k».proof.Proof.MixRun
public import proofs.«01_k».proof.Proof.MixRef
public import proofs.«01_k».proof.Proof.RmsArray
public import proofs.«01_k».proof.Proof.NormArray
public import proofs.«01_k».proof.Proof.MergeArray
public import proofs.«01_k».proof.Proof.ForwardRun
public import proofs.«01_k».proof.Proof.ForwardRef
public import proofs.«01_k».proof.Proof.BranchRun
public import proofs.«01_k».proof.Proof.BranchRef
public import proofs.«01_k».proof.Proof.ConvRef
public import proofs.«01_k».proof.Proof.LossArray
public import proofs.«01_k».proof.Proof.GateRef
public import Idealize.ShloMosaic.Adequacy
public import Idealize.ShloMosaic.Init

@[expose] public section

noncomputable section

namespace Cert.Proof

open Idealize.ShloMosaic Idealize.SL.Sem Cert.Attn

/-- The side condition of the precondition's one broadcast. -/
theorem pre_finite_facts : Cert.Pre_finite.Facts := ⟨by decide⟩

/-- The kernel as printed. -/
theorem frame_kernel : Cert.quiescent_Kernel := by
  intro m ρ _
  exact Cert.Kernel.Gen.frame m ρ

/-- The idealized kernel. -/
theorem frame_ideal : Cert.quiescent_KernelIdeal := by
  intro m ρ _
  exact Cert.KernelIdeal.Gen.frame m ρ

/-- The idealized reference: it has no semaphores, and writes none of its arguments. -/
theorem frame_reference : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run m ρ)

/-- The value claim. The common results, on every device, of the operands' real entries: the attention of the scaled
    queries, its gradient at the scaled queries, at the keys and at the values. -/
theorem algebraic [Cert.Pre_finite.Facts] : Cert.algebraic_KernelIdeal_ReferenceIdeal_pre_finite := by
  intro m ρ m' ρ' hpre hag
  let Q (c : Dev Cert.KernelIdeal.nD) := vals (m ((c.tc : Thread Cert.KernelIdeal.nD Cert.KernelIdeal.τ).loc Cert.KernelIdeal.main_arg0))
  let K (c : Dev Cert.KernelIdeal.nD) := vals (m ((c.tc : Thread Cert.KernelIdeal.nD Cert.KernelIdeal.τ).loc Cert.KernelIdeal.main_arg1))
  let X (c : Dev Cert.KernelIdeal.nD) := vals (m ((c.tc : Thread Cert.KernelIdeal.nD Cert.KernelIdeal.τ).loc Cert.KernelIdeal.main_arg2))
  let G (c : Dev Cert.KernelIdeal.nD) := vals (m ((c.tc : Thread Cert.KernelIdeal.nD Cert.KernelIdeal.τ).loc Cert.KernelIdeal.main_arg3))
  have hq := fun c : Dev Cert.KernelIdeal.nD => eq_up_of_finite _ (hpre c).1
  have hk := fun c : Dev Cert.KernelIdeal.nD => eq_up_of_finite _ (hpre c).2.1
  have hx := fun c : Dev Cert.KernelIdeal.nD => eq_up_of_finite _ (hpre c).2.2.1
  have hg := fun c : Dev Cert.KernelIdeal.nD => eq_up_of_finite _ (hpre c).2.2.2
  refine ⟨fun c => (up (specO (scl (Q c)) (K c) (X c)) : FVec Ideal Cert.KernelIdeal.S2048x512 .bf16),
    fun c => (up (specDq (scl (Q c)) (K c) (X c) (G c)) : FVec Ideal Cert.KernelIdeal.S2048x512 .f32),
    fun c => (up (specDk (scl (Q c)) (K c) (X c) (G c) 2048) : FVec Ideal Cert.KernelIdeal.S2048x512 .f32),
    fun c => (up (specDv (scl (Q c)) (K c) (G c) 2048) : FVec Ideal Cert.KernelIdeal.S2048x512 .f32), ?_, ?_⟩
  · refine (θ_run Cert.KernelIdeal.defs _ _).mono (fun r h c => ?_) (ker_run m ρ)
    have rd := fun b hb => h c _ (Cert.KernelIdeal.Gen.mem_uc b hb)
    exact ⟨(rd Cert.KernelIdeal.main_v5_0 (by decide)).trans (W3_o m ρ c (Q c) (K c) (X c) (hq c) (hk c) (hx c)),
      (rd Cert.KernelIdeal.main_v6_0 (by decide)).trans (W3_dq m ρ c (Q c) (K c) (X c) (G c) (hq c) (hk c) (hx c) (hg c)),
      (rd Cert.KernelIdeal.main_v6_1 (by decide)).trans (W3_dk m ρ c (Q c) (K c) (X c) (G c) (hq c) (hk c) (hx c) (hg c)),
      (rd Cert.KernelIdeal.main_v6_2 (by decide)).trans (W3_dv m ρ c (Q c) (K c) (X c) (G c) (hq c) (hk c) (hx c) (hg c)),
      (rd Cert.KernelIdeal.main_arg0 (by decide)).trans (Cert.KernelIdeal.Gen.W3_main_arg0 m ρ c),
      (rd Cert.KernelIdeal.main_arg1 (by decide)).trans (Cert.KernelIdeal.Gen.W3_main_arg1 m ρ c),
      (rd Cert.KernelIdeal.main_arg2 (by decide)).trans (Cert.KernelIdeal.Gen.W3_main_arg2 m ρ c),
      (rd Cert.KernelIdeal.main_arg3 (by decide)).trans (Cert.KernelIdeal.Gen.W3_main_arg3 m ρ c)⟩
  · refine (θ_run Cert.ReferenceIdeal.defs _ _).mono (fun r h c => ?_) (Cert.ReferenceIdeal.Value.run m' ρ')
    have h0 := (hag c).1.trans (hq c)
    have h1 := (hag c).2.1.trans (hk c)
    have h2 := (hag c).2.2.1.trans (hx c)
    have h3 := (hag c).2.2.2.trans (hg c)
    exact ⟨(h c).1.trans (ref_o (StableHlo.launchContents m' c) (Q c) (K c) (X c) (G c) h0 h1 h2 h3),
      (h c).2.1.trans (ref_dq (StableHlo.launchContents m' c) (Q c) (K c) (X c) (G c) h0 h1 h2 h3),
      (h c).2.2.1.trans (ref_dk (StableHlo.launchContents m' c) (Q c) (K c) (X c) (G c) h0 h1 h2 h3),
      (h c).2.2.2.1.trans (ref_dv (StableHlo.launchContents m' c) (Q c) (K c) (X c) (G c) h0 h1 h2 h3),
      (h c).2.2.2.2⟩

/-- The input projection as printed. -/
theorem frame_in : Cert.quiescent_InProj := fun m ρ _ => Cert.InProj.Gen.frame m ρ

/-- The idealized input projection. -/
theorem frame_in_ideal : Cert.quiescent_InProjIdeal := fun m ρ _ => Cert.InProjIdeal.Gen.frame m ρ

/-- The idealized reference of the input projection. -/
theorem frame_in_reference : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run m ρ)

/-- The value claim of the input projection: the product, and its gradients at the transposed weights and at the rows. -/
theorem algebraic_in : Cert.algebraic_InProjIdeal_InProjRefIdeal := by
  intro m ρ m' ρ' _ hag
  let H (c : Dev Cert.InProjIdeal.nD) := m ((c.tc : Thread Cert.InProjIdeal.nD Cert.InProjIdeal.τ).loc Cert.InProjIdeal.main_arg0)
  let Wt (c : Dev Cert.InProjIdeal.nD) := m ((c.tc : Thread Cert.InProjIdeal.nD Cert.InProjIdeal.τ).loc Cert.InProjIdeal.main_arg1)
  let Dz (c : Dev Cert.InProjIdeal.nD) := m ((c.tc : Thread Cert.InProjIdeal.nD Cert.InProjIdeal.τ).loc Cert.InProjIdeal.main_arg2)
  refine ⟨fun c => (Dense.prodNN (H c) (Wt c) : Shape.Idx Cert.InProjIdeal.S2048x6656 → EReal),
    fun c => (Dense.prodTN (Dz c) (H c) : Shape.Idx Cert.InProjIdeal.S6656x1024 → EReal),
    fun c => (Dense.prodNT (Dz c) (Wt c) : Shape.Idx Cert.InProjIdeal.S2048x1024 → EReal), ?_, ?_⟩
  · refine (θ_run Cert.InProjIdeal.defs _ _).mono (fun r h c => ?_) (Dense.In.run m ρ)
    have rd := fun b hb => h c _ (Cert.InProjIdeal.Gen.mem_uc b hb)
    exact ⟨(rd Cert.InProjIdeal.main_v4 (by decide)).trans (Dense.In.W4_z m ρ c (H c) (Wt c) rfl rfl),
      (rd Cert.InProjIdeal.main_v5 (by decide)).trans (Dense.In.W4_dw m ρ c (H c) (Dz c) rfl rfl),
      (rd Cert.InProjIdeal.main_v6 (by decide)).trans (Dense.In.W4_dh m ρ c (Wt c) (Dz c) rfl rfl),
      (rd Cert.InProjIdeal.main_arg0 (by decide)).trans (Cert.InProjIdeal.Gen.W4_main_arg0 m ρ c),
      (rd Cert.InProjIdeal.main_arg1 (by decide)).trans (Cert.InProjIdeal.Gen.W4_main_arg1 m ρ c),
      (rd Cert.InProjIdeal.main_arg2 (by decide)).trans (Cert.InProjIdeal.Gen.W4_main_arg2 m ρ c)⟩
  · refine (θ_run Cert.InProjRefIdeal.defs _ _).mono (fun r h c => ?_) (Cert.InProjRefIdeal.Value.run m' ρ')
    obtain ⟨h0, h1, h2⟩ := hag c
    refine ⟨(h c).1.trans ?_, (h c).2.1.trans ?_, (h c).2.2.1.trans ?_, (h c).2.2.2⟩
    · rw [h0, h1]; exact Dense.InRef.ref_z (H c) (Wt c)
    · rw [h0, h2]; exact Dense.InRef.ref_dw (H c) (Dz c)
    · rw [h1, h2]; exact Dense.InRef.ref_dh (Wt c) (Dz c)

/-- The output projections. -/
theorem frame_out : Cert.quiescent_OutProj := fun m ρ _ => Cert.OutProj.Gen.frame m ρ

/-- The idealized output projections. -/
theorem frame_out_ideal : Cert.quiescent_OutProjIdeal := fun m ρ _ => Cert.OutProjIdeal.Gen.frame m ρ

/-- The idealized reference of the output projections. -/
theorem frame_out_reference : Cert.quiescent_OutProjRefIdeal := fun m ρ _ =>
  (θ_run Cert.OutProjRefIdeal.defs _ _).mono (fun r h => ⟨fun c => (h c).2.2.2.2.2.2.2.2.2.2.2.2, sem_eq_zero_of_no_sems (by decide) r.2⟩)
    (Cert.OutProjRefIdeal.Value.run m ρ)

/-- The value claim of the output projections: the branches' products, the last product with the residual, and all their gradients. -/
theorem algebraic_out : Cert.algebraic_OutProjIdeal_OutProjRefIdeal := by
  intro m ρ m' ρ' _ hag
  let A (c : Dev Cert.OutProjIdeal.nD) := Dense.Out.arg m c
  refine ⟨fun c => (Dense.prodNN (A c Cert.OutProjIdeal.main_arg1) (A c Cert.OutProjIdeal.main_arg4) : Shape.Idx Cert.OutProjIdeal.S2048x1024 → EReal),
    fun c => (Dense.prodNN (A c Cert.OutProjIdeal.main_arg2) (A c Cert.OutProjIdeal.main_arg5) : Shape.Idx Cert.OutProjIdeal.S2048x1024 → EReal),
    fun c => (Dense.prodNN (A c Cert.OutProjIdeal.main_arg3) (A c Cert.OutProjIdeal.main_arg6) : Shape.Idx Cert.OutProjIdeal.S2048x1024 → EReal),
    fun c => (fun i => Dense.prodNN (A c Cert.OutProjIdeal.main_arg7) (A c Cert.OutProjIdeal.main_arg8) i + (A c Cert.OutProjIdeal.main_arg0) i : Shape.Idx Cert.OutProjIdeal.S2048x1024 → EReal),
    fun c => (Dense.prodTN (A c Cert.OutProjIdeal.main_arg7) (A c Cert.OutProjIdeal.main_arg9) : Shape.Idx Cert.OutProjIdeal.S1024x1024 → EReal),
    fun c => (Dense.prodNT (A c Cert.OutProjIdeal.main_arg9) (A c Cert.OutProjIdeal.main_arg8) : Shape.Idx Cert.OutProjIdeal.S2048x1024 → EReal),
    fun c => (Dense.prodNT (A c Cert.OutProjIdeal.main_arg10) (A c Cert.OutProjIdeal.main_arg4) : Shape.Idx Cert.OutProjIdeal.S2048x512 → EReal),
    fun c => (Dense.prodNT (A c Cert.OutProjIdeal.main_arg11) (A c Cert.OutProjIdeal.main_arg5) : Shape.Idx Cert.OutProjIdeal.S2048x512 → EReal),
    fun c => (Dense.prodNT (A c Cert.OutProjIdeal.main_arg12) (A c Cert.OutProjIdeal.main_arg6) : Shape.Idx Cert.OutProjIdeal.S2048x512 → EReal),
    fun c => (Dense.Out.slabs (Dense.prodTN (A c Cert.OutProjIdeal.main_arg1) (A c Cert.OutProjIdeal.main_arg10)) : Shape.Idx Cert.OutProjIdeal.S8x512x128 → EReal),
    fun c => (Dense.Out.slabs (Dense.prodTN (A c Cert.OutProjIdeal.main_arg2) (A c Cert.OutProjIdeal.main_arg11)) : Shape.Idx Cert.OutProjIdeal.S8x512x128 → EReal),
    fun c => (Dense.Out.slabs (Dense.prodTN (A c Cert.OutProjIdeal.main_arg3) (A c Cert.OutProjIdeal.main_arg12)) : Shape.Idx Cert.OutProjIdeal.S8x512x128 → EReal), ?_, ?_⟩
  · refine (θ_run Cert.OutProjIdeal.defs _ _).mono (fun r h c => ?_) (Dense.Out.run m ρ)
    have rd := fun b hb => h c _ (Cert.OutProjIdeal.Gen.mem_uc b hb)
    exact ⟨(rd Cert.OutProjIdeal.main_v11_0 (by decide)).trans (Dense.Out.W9_ya m ρ c),
      (rd Cert.OutProjIdeal.main_v11_1 (by decide)).trans (Dense.Out.W9_yb m ρ c),
      (rd Cert.OutProjIdeal.main_v11_2 (by decide)).trans (Dense.Out.W9_yc m ρ c),
      (rd Cert.OutProjIdeal.main_v12 (by decide)).trans (Dense.Out.W9_x1 m ρ c),
      (rd Cert.OutProjIdeal.main_v13 (by decide)).trans (Dense.Out.W9_dw_out m ρ c),
      (rd Cert.OutProjIdeal.main_v14 (by decide)).trans (Dense.Out.W9_dmerged m ρ c),
      (rd Cert.OutProjIdeal.main_v15_0 (by decide)).trans (Dense.Out.W9_da m ρ c),
      (rd Cert.OutProjIdeal.main_v15_1 (by decide)).trans (Dense.Out.W9_db m ρ c),
      (rd Cert.OutProjIdeal.main_v15_2 (by decide)).trans (Dense.Out.W9_dc m ρ c),
      (rd Cert.OutProjIdeal.main_v18 (by decide)).trans (Dense.Out.W9_dw_a m ρ c),
      (rd Cert.OutProjIdeal.main_v17 (by decide)).trans (Dense.Out.W9_dw_b m ρ c),
      (rd Cert.OutProjIdeal.main_v16 (by decide)).trans (Dense.Out.W9_dw_c m ρ c),
      (rd Cert.OutProjIdeal.main_arg0 (by decide)).trans (Cert.OutProjIdeal.Gen.W9_main_arg0 m ρ c),
      (rd Cert.OutProjIdeal.main_arg1 (by decide)).trans (Cert.OutProjIdeal.Gen.W9_main_arg1 m ρ c),
      (rd Cert.OutProjIdeal.main_arg2 (by decide)).trans (Cert.OutProjIdeal.Gen.W9_main_arg2 m ρ c),
      (rd Cert.OutProjIdeal.main_arg3 (by decide)).trans (Cert.OutProjIdeal.Gen.W9_main_arg3 m ρ c),
      (rd Cert.OutProjIdeal.main_arg4 (by decide)).trans (Cert.OutProjIdeal.Gen.W9_main_arg4 m ρ c),
      (rd Cert.OutProjIdeal.main_arg5 (by decide)).trans (Cert.OutProjIdeal.Gen.W9_main_arg5 m ρ c),
      (rd Cert.OutProjIdeal.main_arg6 (by decide)).trans (Cert.OutProjIdeal.Gen.W9_main_arg6 m ρ c),
      (rd Cert.OutProjIdeal.main_arg7 (by decide)).trans (Cert.OutProjIdeal.Gen.W9_main_arg7 m ρ c),
      (rd Cert.OutProjIdeal.main_arg8 (by decide)).trans (Cert.OutProjIdeal.Gen.W9_main_arg8 m ρ c),
      (rd Cert.OutProjIdeal.main_arg9 (by decide)).trans (Cert.OutProjIdeal.Gen.W9_main_arg9 m ρ c),
      (rd Cert.OutProjIdeal.main_arg10 (by decide)).trans (Cert.OutProjIdeal.Gen.W9_main_arg10 m ρ c),
      (rd Cert.OutProjIdeal.main_arg11 (by decide)).trans (Cert.OutProjIdeal.Gen.W9_main_arg11 m ρ c),
      (rd Cert.OutProjIdeal.main_arg12 (by decide)).trans (Cert.OutProjIdeal.Gen.W9_main_arg12 m ρ c)⟩
  · refine (θ_run Cert.OutProjRefIdeal.defs _ _).mono (fun r h c => ?_) (Cert.OutProjRefIdeal.Value.run m' ρ')
    obtain ⟨e0, e1, e2, e3, e4, e5, e6, e7, e8, e9, e10, e11, e12⟩ := hag c
    obtain ⟨r0, r1, r2, r3, r4, r5, r6, r7, r8, r9, r10, r11, rest⟩ := h c
    refine ⟨r0.trans ?_, r1.trans ?_, r2.trans ?_, r3.trans ?_, r4.trans ?_, r5.trans ?_, r6.trans ?_, r7.trans ?_, r8.trans ?_, r9.trans ?_, r10.trans ?_, r11.trans ?_, rest⟩
    · rw [e1, e4]; exact Dense.OutRef.ref_y (A c Cert.OutProjIdeal.main_arg1) (A c Cert.OutProjIdeal.main_arg4)
    · rw [e2, e5]; exact Dense.OutRef.ref_y (A c Cert.OutProjIdeal.main_arg2) (A c Cert.OutProjIdeal.main_arg5)
    · rw [e3, e6]; exact Dense.OutRef.ref_y (A c Cert.OutProjIdeal.main_arg3) (A c Cert.OutProjIdeal.main_arg6)
    · rw [e0, e7, e8]; exact Dense.OutRef.ref_x1 (A c Cert.OutProjIdeal.main_arg0) (A c Cert.OutProjIdeal.main_arg7) (A c Cert.OutProjIdeal.main_arg8)
    · rw [e7, e9]; exact Dense.OutRef.ref_dw (A c Cert.OutProjIdeal.main_arg7) (A c Cert.OutProjIdeal.main_arg9)
    · rw [e9, e8]; exact Dense.OutRef.ref_dm (A c Cert.OutProjIdeal.main_arg9) (A c Cert.OutProjIdeal.main_arg8)
    · rw [e10, e4]; exact Dense.OutRef.ref_da (A c Cert.OutProjIdeal.main_arg10) (A c Cert.OutProjIdeal.main_arg4)
    · rw [e11, e5]; exact Dense.OutRef.ref_da (A c Cert.OutProjIdeal.main_arg11) (A c Cert.OutProjIdeal.main_arg5)
    · rw [e12, e6]; exact Dense.OutRef.ref_da (A c Cert.OutProjIdeal.main_arg12) (A c Cert.OutProjIdeal.main_arg6)
    · rw [e1, e10]; exact Dense.OutRef.ref_slabs (A c Cert.OutProjIdeal.main_arg1) (A c Cert.OutProjIdeal.main_arg10)
    · rw [e2, e11]; exact Dense.OutRef.ref_slabs (A c Cert.OutProjIdeal.main_arg2) (A c Cert.OutProjIdeal.main_arg11)
    · rw [e3, e12]; exact Dense.OutRef.ref_slabs (A c Cert.OutProjIdeal.main_arg3) (A c Cert.OutProjIdeal.main_arg12)

/-- The channel mixer. -/
theorem frame_mix : Cert.quiescent_Mixer := fun m ρ _ => Cert.Mixer.Gen.frame m ρ

/-- The idealized channel mixer. -/
theorem frame_mix_ideal : Cert.quiescent_MixerIdeal := fun m ρ _ => Cert.MixerIdeal.Gen.frame m ρ

/-- The idealized reference of the channel mixer. -/
theorem frame_mix_reference : Cert.quiescent_MixerRefIdeal := fun m ρ _ =>
  (θ_run Cert.MixerRefIdeal.defs _ _).mono (fun r h => ⟨fun c => (h c).2.2.2.2.2, sem_eq_zero_of_no_sems (by decide) r.2⟩)
    (Cert.MixerRefIdeal.Value.run m ρ)

/-- The value claim of the channel mixer: its output with the residual, and its products' gradients. -/
theorem algebraic_mix : Cert.algebraic_MixerIdeal_MixerRefIdeal := by
  intro m ρ m' ρ' _ hag
  let A (c : Dev Cert.MixerIdeal.nD) := Dense.Mix.arg m c
  refine ⟨fun c => (fun i => Dense.prodNN (Dense.Mix.acts m c) (A c Cert.MixerIdeal.main_arg5) i + (A c Cert.MixerIdeal.main_arg0) i : Shape.Idx Cert.MixerIdeal.S2048x1024 → EReal),
    fun c => (Dense.prodTN (Dense.Mix.acts m c) (A c Cert.MixerIdeal.main_arg6) : Shape.Idx Cert.MixerIdeal.S2816x1024 → EReal),
    fun c => (Dense.prodNT (A c Cert.MixerIdeal.main_arg6) (A c Cert.MixerIdeal.main_arg5) : Shape.Idx Cert.MixerIdeal.S2048x2816 → EReal),
    fun c => (Dense.prodTN (A c Cert.MixerIdeal.main_arg7) (A c Cert.MixerIdeal.main_arg1) : Shape.Idx Cert.MixerIdeal.S5632x1024 → EReal),
    fun c => (Dense.prodNT (A c Cert.MixerIdeal.main_arg7) (A c Cert.MixerIdeal.main_arg2) : Shape.Idx Cert.MixerIdeal.S2048x1024 → EReal), ?_, ?_⟩
  · refine (θ_run Cert.MixerIdeal.defs _ _).mono (fun r h c => ?_) (Dense.Mix.run m ρ)
    have rd := fun b hb => h c _ (Cert.MixerIdeal.Gen.mem_uc b hb)
    exact ⟨(rd Cert.MixerIdeal.main_v17 (by decide)).trans (Dense.Mix.W8_y m ρ c),
      (rd Cert.MixerIdeal.main_v18 (by decide)).trans (Dense.Mix.W8_dw_down m ρ c),
      (rd Cert.MixerIdeal.main_v19 (by decide)).trans (Dense.Mix.W8_dact m ρ c),
      (rd Cert.MixerIdeal.main_v20 (by decide)).trans (Dense.Mix.W8_dw_up m ρ c),
      (rd Cert.MixerIdeal.main_v21 (by decide)).trans (Dense.Mix.W8_dh m ρ c),
      (rd Cert.MixerIdeal.main_arg0 (by decide)).trans (Cert.MixerIdeal.Gen.W8_main_arg0 m ρ c),
      (rd Cert.MixerIdeal.main_arg1 (by decide)).trans (Cert.MixerIdeal.Gen.W8_main_arg1 m ρ c),
      (rd Cert.MixerIdeal.main_arg2 (by decide)).trans (Cert.MixerIdeal.Gen.W8_main_arg2 m ρ c),
      (rd Cert.MixerIdeal.main_arg3 (by decide)).trans (Cert.MixerIdeal.Gen.W8_main_arg3 m ρ c),
      (rd Cert.MixerIdeal.main_arg4 (by decide)).trans (Cert.MixerIdeal.Gen.W8_main_arg4 m ρ c),
      (rd Cert.MixerIdeal.main_arg5 (by decide)).trans (Cert.MixerIdeal.Gen.W8_main_arg5 m ρ c),
      (rd Cert.MixerIdeal.main_arg6 (by decide)).trans (Cert.MixerIdeal.Gen.W8_main_arg6 m ρ c),
      (rd Cert.MixerIdeal.main_arg7 (by decide)).trans (Cert.MixerIdeal.Gen.W8_main_arg7 m ρ c)⟩
  · refine (θ_run Cert.MixerRefIdeal.defs _ _).mono (fun r h c => ?_) (Cert.MixerRefIdeal.Value.run m' ρ')
    obtain ⟨e0, e1, e2, e3, e4, e5, e6, e7⟩ := hag c
    obtain ⟨r0, r1, r2, r3, r4, rest⟩ := h c
    refine ⟨r0.trans ?_, r1.trans ?_, r2.trans ?_, r3.trans ?_, r4.trans ?_, rest⟩
    · exact Dense.MixRef.res_y m' c _ _ _ _ _ _ e0 e1 e2 e3 e4 e5
    · exact Dense.MixRef.res_dw_down m' c _ _ _ _ _ e1 e2 e3 e4 e6
    · rw [e6, e5]; exact Dense.MixRef.ref_dact (A c Cert.MixerIdeal.main_arg6) (A c Cert.MixerIdeal.main_arg5)
    · rw [e7, e1]; exact Dense.MixRef.ref_dw_up (A c Cert.MixerIdeal.main_arg1) (A c Cert.MixerIdeal.main_arg7)
    · rw [e7, e2]; exact Dense.MixRef.ref_dh (A c Cert.MixerIdeal.main_arg7) (A c Cert.MixerIdeal.main_arg2)

/-- The gradient of the root mean square norm. -/
theorem frame_rms : Cert.quiescent_RmsGrad := fun m ρ _ => Cert.RmsGrad.Gen.frame m ρ

/-- The idealized gradient of the root mean square norm. -/
theorem frame_rms_ideal : Cert.quiescent_RmsGradIdeal := fun m ρ _ => Cert.RmsGradIdeal.Gen.frame m ρ

/-- The idealized reference of the gradient of the root mean square norm. -/
theorem frame_rms_reference : Cert.quiescent_RmsGradRefIdeal := fun m ρ _ =>
  (θ_run Cert.RmsGradRefIdeal.defs _ _).mono (fun r h => ⟨fun c => (h c).2.2, sem_eq_zero_of_no_sems (by decide) r.2⟩)
    (Cert.RmsGradRefIdeal.Value.run m ρ)

/-- The value claim of the gradient of the root mean square norm: at the rows, with the residual's, and at the weights. -/
theorem algebraic_rms : Cert.algebraic_RmsGradIdeal_RmsGradRefIdeal := by
  intro m ρ m' ρ' _ hag
  let A0 (c : Dev Cert.RmsGradIdeal.nD) := m ((c.tc : Thread Cert.RmsGradIdeal.nD Cert.RmsGradIdeal.τ).loc Cert.RmsGradIdeal.main_arg0)
  let A1 (c : Dev Cert.RmsGradIdeal.nD) := m ((c.tc : Thread Cert.RmsGradIdeal.nD Cert.RmsGradIdeal.τ).loc Cert.RmsGradIdeal.main_arg1)
  let A2 (c : Dev Cert.RmsGradIdeal.nD) := m ((c.tc : Thread Cert.RmsGradIdeal.nD Cert.RmsGradIdeal.τ).loc Cert.RmsGradIdeal.main_arg2)
  let A3 (c : Dev Cert.RmsGradIdeal.nD) := m ((c.tc : Thread Cert.RmsGradIdeal.nD Cert.RmsGradIdeal.τ).loc Cert.RmsGradIdeal.main_arg3)
  refine ⟨fun c => (Rows.Rms.gradX (A0 c) (A1 c) (A2 c) (A3 c) : Shape.Idx Cert.RmsGradIdeal.S2048x1024 → EReal),
    fun c => (Rows.Rms.gradG (A0 c) (A2 c) : Shape.Idx Cert.RmsGradIdeal.S1x1024 → EReal),
    ?_, ?_⟩
  · refine (θ_run Cert.RmsGradIdeal.defs _ _).mono (fun r h c => ?_) (Cert.RmsGradIdeal.Value.run_blocks m ρ)
    obtain ⟨r0, r1, rest⟩ := h c
    exact ⟨r0.trans (Rows.Rms.final_x m c), r1.trans (Rows.Rms.final_g m c), rest⟩
  · refine (θ_run Cert.RmsGradRefIdeal.defs _ _).mono (fun r h c => ?_) (Cert.RmsGradRefIdeal.Value.run m' ρ')
    obtain ⟨e0, e1, e2, e3⟩ := hag c
    obtain ⟨r0, r1, rest⟩ := h c
    refine ⟨r0.trans ?_, r1.trans ?_, rest⟩
    · rw [e0, e1, e2, e3]; exact Rows.RmsRef.ref_x (A0 c) (A2 c) (A3 c) (A1 c)
    · rw [e0, e2]; exact Rows.RmsRef.ref_g (A0 c) (A2 c)

/-- The gradient of the layer norm and its swish. -/
theorem frame_norm : Cert.quiescent_NormGrad := fun m ρ _ => Cert.NormGrad.Gen.frame m ρ

/-- The idealized gradient of the layer norm and its swish. -/
theorem frame_norm_ideal : Cert.quiescent_NormGradIdeal := fun m ρ _ => Cert.NormGradIdeal.Gen.frame m ρ

/-- The idealized reference of the gradient of the layer norm and its swish. -/
theorem frame_norm_reference : Cert.quiescent_NormGradRefIdeal := fun m ρ _ =>
  (θ_run Cert.NormGradRefIdeal.defs _ _).mono (fun r h => ⟨fun c => (h c).2.2.2, sem_eq_zero_of_no_sems (by decide) r.2⟩)
    (Cert.NormGradRefIdeal.Value.run m ρ)

/-- The value claim of the gradient of the layer norm and its swish: at the rows, at the weights and at the offsets. -/
theorem algebraic_norm : Cert.algebraic_NormGradIdeal_NormGradRefIdeal := by
  intro m ρ m' ρ' _ hag
  let A0 (c : Dev Cert.NormGradIdeal.nD) := m ((c.tc : Thread Cert.NormGradIdeal.nD Cert.NormGradIdeal.τ).loc Cert.NormGradIdeal.main_arg0)
  let A1 (c : Dev Cert.NormGradIdeal.nD) := m ((c.tc : Thread Cert.NormGradIdeal.nD Cert.NormGradIdeal.τ).loc Cert.NormGradIdeal.main_arg1)
  let A2 (c : Dev Cert.NormGradIdeal.nD) := m ((c.tc : Thread Cert.NormGradIdeal.nD Cert.NormGradIdeal.τ).loc Cert.NormGradIdeal.main_arg2)
  let A3 (c : Dev Cert.NormGradIdeal.nD) := m ((c.tc : Thread Cert.NormGradIdeal.nD Cert.NormGradIdeal.τ).loc Cert.NormGradIdeal.main_arg3)
  refine ⟨fun c => (Rows.Norm.gradX (A0 c) (A1 c) (A2 c) (A3 c) : Shape.Idx Cert.NormGradIdeal.S2048x512 → EReal),
    fun c => (Rows.Norm.gradG (A0 c) (A1 c) (A2 c) (A3 c) : Shape.Idx Cert.NormGradIdeal.S1x512 → EReal),
    fun c => (Rows.Norm.gradB (A0 c) (A1 c) (A2 c) (A3 c) : Shape.Idx Cert.NormGradIdeal.S1x512 → EReal),
    ?_, ?_⟩
  · refine (θ_run Cert.NormGradIdeal.defs _ _).mono (fun r h c => ?_) (Cert.NormGradIdeal.Value.run_blocks m ρ)
    obtain ⟨r0, r1, r2, rest⟩ := h c
    exact ⟨r0.trans (Rows.Norm.final_x c m), r1.trans (Rows.Norm.final_g c m), r2.trans (Rows.Norm.final_b c m), rest⟩
  · refine (θ_run Cert.NormGradRefIdeal.defs _ _).mono (fun r h c => ?_) (Cert.NormGradRefIdeal.Value.run m' ρ')
    obtain ⟨e0, e1, e2, e3⟩ := hag c
    obtain ⟨r0, r1, r2, rest⟩ := h c
    refine ⟨r0.trans ?_, r1.trans ?_, r2.trans ?_, rest⟩
    · exact Rows.NormRef.res_x (A0 c) (A1 c) (A2 c) (A3 c) m' c e0 e1 e2 e3
    · exact Rows.NormRef.res_g (A0 c) (A1 c) (A2 c) (A3 c) m' c e0 e1 e2 e3
    · exact Rows.NormRef.res_b (A0 c) (A1 c) (A2 c) (A3 c) m' c e0 e1 e2 e3

/-- The gradient of the gated merge. -/
theorem frame_merge : Cert.quiescent_MergeGrad := fun m ρ _ => Cert.MergeGrad.Gen.frame m ρ

/-- The idealized gradient of the gated merge. -/
theorem frame_merge_ideal : Cert.quiescent_MergeGradIdeal := fun m ρ _ => Cert.MergeGradIdeal.Gen.frame m ρ

/-- The idealized reference of the gradient of the gated merge. -/
theorem frame_merge_reference : Cert.quiescent_MergeGradRefIdeal := fun m ρ _ =>
  (θ_run Cert.MergeGradRefIdeal.defs _ _).mono (fun r h => ⟨fun c => (h c).2.2.2.2.2.2.2.2.2, sem_eq_zero_of_no_sems (by decide) r.2⟩)
    (Cert.MergeGradRefIdeal.Value.run m ρ)

set_option maxHeartbeats 1600000 in
/-- The value claim of the gradient of the gated merge: at the projection, at the branches and at the gates' offsets. -/
theorem algebraic_merge : Cert.algebraic_MergeGradIdeal_MergeGradRefIdeal := by
  intro m ρ m' ρ' _ hag
  let A0 (c : Dev Cert.MergeGradIdeal.nD) := m ((c.tc : Thread Cert.MergeGradIdeal.nD Cert.MergeGradIdeal.τ).loc Cert.MergeGradIdeal.main_arg0)
  let A1 (c : Dev Cert.MergeGradIdeal.nD) := m ((c.tc : Thread Cert.MergeGradIdeal.nD Cert.MergeGradIdeal.τ).loc Cert.MergeGradIdeal.main_arg1)
  let A2 (c : Dev Cert.MergeGradIdeal.nD) := m ((c.tc : Thread Cert.MergeGradIdeal.nD Cert.MergeGradIdeal.τ).loc Cert.MergeGradIdeal.main_arg2)
  let A3 (c : Dev Cert.MergeGradIdeal.nD) := m ((c.tc : Thread Cert.MergeGradIdeal.nD Cert.MergeGradIdeal.τ).loc Cert.MergeGradIdeal.main_arg3)
  let A4 (c : Dev Cert.MergeGradIdeal.nD) := m ((c.tc : Thread Cert.MergeGradIdeal.nD Cert.MergeGradIdeal.τ).loc Cert.MergeGradIdeal.main_arg4)
  let A5 (c : Dev Cert.MergeGradIdeal.nD) := m ((c.tc : Thread Cert.MergeGradIdeal.nD Cert.MergeGradIdeal.τ).loc Cert.MergeGradIdeal.main_arg5)
  refine ⟨fun c => (Rows.Merge.gradZ 0 (A0 c) (A1 c) (A4 c) (A5 c) : Shape.Idx Cert.MergeGradIdeal.S2048x1024 → EReal),
    fun c => (Rows.Merge.gradZ 1 (A0 c) (A2 c) (A4 c) (A5 c) : Shape.Idx Cert.MergeGradIdeal.S2048x1024 → EReal),
    fun c => (Rows.Merge.gradZ 2 (A0 c) (A3 c) (A4 c) (A5 c) : Shape.Idx Cert.MergeGradIdeal.S2048x1024 → EReal),
    fun c => (Rows.Merge.gradY 0 (A0 c) (A4 c) (A5 c) : Shape.Idx Cert.MergeGradIdeal.S2048x1024 → EReal),
    fun c => (Rows.Merge.gradY 1 (A0 c) (A4 c) (A5 c) : Shape.Idx Cert.MergeGradIdeal.S2048x1024 → EReal),
    fun c => (Rows.Merge.gradY 2 (A0 c) (A4 c) (A5 c) : Shape.Idx Cert.MergeGradIdeal.S2048x1024 → EReal),
    fun c => (Rows.Merge.gradB 0 (A0 c) (A1 c) (A4 c) (A5 c) : Shape.Idx Cert.MergeGradIdeal.S1x1024 → EReal),
    fun c => (Rows.Merge.gradB 1 (A0 c) (A2 c) (A4 c) (A5 c) : Shape.Idx Cert.MergeGradIdeal.S1x1024 → EReal),
    fun c => (Rows.Merge.gradB 2 (A0 c) (A3 c) (A4 c) (A5 c) : Shape.Idx Cert.MergeGradIdeal.S1x1024 → EReal),
    ?_, ?_⟩
  · refine (θ_run Cert.MergeGradIdeal.defs _ _).mono (fun r h c => ?_) (Cert.MergeGradIdeal.Value.run_blocks m ρ)
    obtain ⟨r0, r1, r2, r3, r4, r5, r6, r7, r8, rest⟩ := h c
    exact ⟨r0.trans (Rows.Merge.final_z0 m c), r1.trans (Rows.Merge.final_z1 m c), r2.trans (Rows.Merge.final_z2 m c), r3.trans (Rows.Merge.final_y0 m c), r4.trans (Rows.Merge.final_y1 m c), r5.trans (Rows.Merge.final_y2 m c), r6.trans (Rows.Merge.final_b0 m c), r7.trans (Rows.Merge.final_b1 m c), r8.trans (Rows.Merge.final_b2 m c), rest⟩
  · refine (θ_run Cert.MergeGradRefIdeal.defs _ _).mono (fun r h c => ?_) (Cert.MergeGradRefIdeal.Value.run m' ρ')
    obtain ⟨e0, e1, e2, e3, e4, e5⟩ := hag c
    obtain ⟨r0, r1, r2, r3, r4, r5, r6, r7, r8, rest⟩ := h c
    refine ⟨r0.trans ?_, r1.trans ?_, r2.trans ?_, r3.trans ?_, r4.trans ?_, r5.trans ?_, r6.trans ?_, r7.trans ?_, r8.trans ?_, rest⟩
    · rw [e0, e1, e2, e3, e4, e5]; exact Rows.MergeRef.ref_z0 (A0 c) (A1 c) (A2 c) (A3 c) (A4 c) (A5 c)
    · rw [e0, e1, e2, e3, e4, e5]; exact Rows.MergeRef.ref_z1 (A0 c) (A1 c) (A2 c) (A3 c) (A4 c) (A5 c)
    · rw [e0, e1, e2, e3, e4, e5]; exact Rows.MergeRef.ref_z2 (A0 c) (A1 c) (A2 c) (A3 c) (A4 c) (A5 c)
    · rw [e0, e4, e5]; exact Rows.MergeRef.ref_y0 (A0 c) (A4 c) (A5 c)
    · rw [e0, e4, e5]; exact Rows.MergeRef.ref_y1 (A0 c) (A4 c) (A5 c)
    · rw [e0, e4, e5]; exact Rows.MergeRef.ref_y2 (A0 c) (A4 c) (A5 c)
    · rw [e0, e1, e2, e3, e4, e5]; exact Rows.MergeRef.ref_b0 (A0 c) (A1 c) (A2 c) (A3 c) (A4 c) (A5 c)
    · rw [e0, e1, e2, e3, e4, e5]; exact Rows.MergeRef.ref_b1 (A0 c) (A1 c) (A2 c) (A3 c) (A4 c) (A5 c)
    · rw [e0, e1, e2, e3, e4, e5]; exact Rows.MergeRef.ref_b2 (A0 c) (A1 c) (A2 c) (A3 c) (A4 c) (A5 c)

/-- The forward calls of the norms, the gated linear unit and the merge. -/
theorem frame_forward : Cert.quiescent_Forward := fun m ρ _ => Cert.Forward.Gen.frame m ρ

/-- Those calls, idealized. -/
theorem frame_forward_ideal : Cert.quiescent_ForwardIdeal := fun m ρ _ => Cert.ForwardIdeal.Gen.frame m ρ

/-- The idealized reference of those calls. -/
theorem frame_forward_reference : Cert.quiescent_ForwardRefIdeal := fun m ρ _ =>
  (θ_run Cert.ForwardRefIdeal.defs _ _).mono (fun r h => ⟨fun c => (h c).2.2.2.2.2.2, sem_eq_zero_of_no_sems (by decide) r.2⟩)
    (Cert.ForwardRefIdeal.Value.run m ρ)

/-- The value claim of those calls: the normalised rows, the gated linear unit and its gradients, the layer norm with its swish, and the merge. -/
theorem algebraic_forward : Cert.algebraic_ForwardIdeal_ForwardRefIdeal := by
  intro m ρ m' ρ' _ hag
  let A (c : Dev Cert.ForwardIdeal.nD) := Rows.Fwd.arg m c
  refine ⟨fun c => (Rows.Fwd.rmsOn (A c Cert.ForwardIdeal.main_arg0) (Rows.Fwd.one (N := 1024) (A c Cert.ForwardIdeal.main_arg1)) : Shape.Idx Cert.ForwardIdeal.S2048x1024 → EReal),
    fun c => (Rows.Fwd.gluOn (A c Cert.ForwardIdeal.main_arg2) : Shape.Idx Cert.ForwardIdeal.S2048x512 → EReal),
    fun c => (Rows.Fwd.gluP (A c Cert.ForwardIdeal.main_arg2) (A c Cert.ForwardIdeal.main_arg3) : Shape.Idx Cert.ForwardIdeal.S2048x512 → EReal),
    fun c => (Rows.Fwd.gluG (A c Cert.ForwardIdeal.main_arg2) (A c Cert.ForwardIdeal.main_arg3) : Shape.Idx Cert.ForwardIdeal.S2048x512 → EReal),
    fun c => (Rows.Fwd.swishOn (A c Cert.ForwardIdeal.main_arg4) (Rows.Fwd.one (N := 512) (A c Cert.ForwardIdeal.main_arg5)) (Rows.Fwd.one (N := 512) (A c Cert.ForwardIdeal.main_arg6)) : Shape.Idx Cert.ForwardIdeal.S2048x512 → EReal),
    fun c => (Rows.Fwd.mergeOn (A c Cert.ForwardIdeal.main_arg2) (A c Cert.ForwardIdeal.main_arg7) (A c Cert.ForwardIdeal.main_arg8) (A c Cert.ForwardIdeal.main_arg9)
      (Rows.Fwd.offsets 0 (A c Cert.ForwardIdeal.main_arg10)) (Rows.Fwd.offsets 1 (A c Cert.ForwardIdeal.main_arg10)) (Rows.Fwd.offsets 2 (A c Cert.ForwardIdeal.main_arg10)) : Shape.Idx Cert.ForwardIdeal.S2048x1024 → EReal),
    ?_, ?_⟩
  · refine (θ_run Cert.ForwardIdeal.defs _ _).mono (fun r h c => ?_) (Rows.Fwd.run m ρ)
    have rd := fun b hb => h c _ (Cert.ForwardIdeal.Gen.mem_uc b hb)
    exact ⟨(rd Cert.ForwardIdeal.main_v14 (by decide)).trans (Rows.Fwd.W7_h m ρ c),
      (rd Cert.ForwardIdeal.main_v15 (by decide)).trans (Rows.Fwd.W7_c0 m ρ c),
      (rd Cert.ForwardIdeal.main_v16_0 (by decide)).trans (Rows.Fwd.W7_dzp m ρ c),
      (rd Cert.ForwardIdeal.main_v16_1 (by decide)).trans (Rows.Fwd.W7_dzg m ρ c),
      (rd Cert.ForwardIdeal.main_v19 (by decide)).trans (Rows.Fwd.W7_c3 m ρ c),
      (rd Cert.ForwardIdeal.main_v20 (by decide)).trans (Rows.Fwd.W7_merged m ρ c),
      (rd Cert.ForwardIdeal.main_arg0 (by decide)).trans (Cert.ForwardIdeal.Gen.W7_main_arg0 m ρ c),
      (rd Cert.ForwardIdeal.main_arg1 (by decide)).trans (Cert.ForwardIdeal.Gen.W7_main_arg1 m ρ c),
      (rd Cert.ForwardIdeal.main_arg2 (by decide)).trans (Cert.ForwardIdeal.Gen.W7_main_arg2 m ρ c),
      (rd Cert.ForwardIdeal.main_arg3 (by decide)).trans (Cert.ForwardIdeal.Gen.W7_main_arg3 m ρ c),
      (rd Cert.ForwardIdeal.main_arg4 (by decide)).trans (Cert.ForwardIdeal.Gen.W7_main_arg4 m ρ c),
      (rd Cert.ForwardIdeal.main_arg5 (by decide)).trans (Cert.ForwardIdeal.Gen.W7_main_arg5 m ρ c),
      (rd Cert.ForwardIdeal.main_arg6 (by decide)).trans (Cert.ForwardIdeal.Gen.W7_main_arg6 m ρ c),
      (rd Cert.ForwardIdeal.main_arg7 (by decide)).trans (Cert.ForwardIdeal.Gen.W7_main_arg7 m ρ c),
      (rd Cert.ForwardIdeal.main_arg8 (by decide)).trans (Cert.ForwardIdeal.Gen.W7_main_arg8 m ρ c),
      (rd Cert.ForwardIdeal.main_arg9 (by decide)).trans (Cert.ForwardIdeal.Gen.W7_main_arg9 m ρ c),
      (rd Cert.ForwardIdeal.main_arg10 (by decide)).trans (Cert.ForwardIdeal.Gen.W7_main_arg10 m ρ c)⟩
  · refine (θ_run Cert.ForwardRefIdeal.defs _ _).mono (fun r h c => ?_) (Cert.ForwardRefIdeal.Value.run m' ρ')
    obtain ⟨e0, e1, e2, e3, e4, e5, e6, e7, e8, e9, e10⟩ := hag c
    obtain ⟨r0, r1, r2, r3, r4, r5, rest⟩ := h c
    refine ⟨r0.trans ?_, r1.trans ?_, r2.trans ?_, r3.trans ?_, r4.trans ?_, r5.trans ?_, rest⟩
    · rw [e0, e1]; exact Rows.FwdRef.ref_h (A c Cert.ForwardIdeal.main_arg0) (A c Cert.ForwardIdeal.main_arg1)
    · rw [e2]; exact Rows.FwdRef.ref_c0 (A c Cert.ForwardIdeal.main_arg2)
    · rw [e2, e3]; exact Rows.FwdRef.ref_dzp (A c Cert.ForwardIdeal.main_arg2) (A c Cert.ForwardIdeal.main_arg3)
    · rw [e2, e3]; exact Rows.FwdRef.ref_dzg (A c Cert.ForwardIdeal.main_arg2) (A c Cert.ForwardIdeal.main_arg3)
    · rw [e4, e5, e6]; exact Rows.FwdRef.ref_c3 (A c Cert.ForwardIdeal.main_arg4) (A c Cert.ForwardIdeal.main_arg5) (A c Cert.ForwardIdeal.main_arg6)
    · rw [e2, e7, e8, e9, e10]; exact Rows.FwdRef.ref_merged (A c Cert.ForwardIdeal.main_arg2) (A c Cert.ForwardIdeal.main_arg7) (A c Cert.ForwardIdeal.main_arg8) (A c Cert.ForwardIdeal.main_arg9) (A c Cert.ForwardIdeal.main_arg10)

/-- The forward calls of the gated mixer and of the norms of the queries and keys. -/
theorem frame_branch : Cert.quiescent_Branch := fun m ρ _ => Cert.Branch.Gen.frame m ρ

/-- Those calls, idealized. -/
theorem frame_branch_ideal : Cert.quiescent_BranchIdeal := fun m ρ _ => Cert.BranchIdeal.Gen.frame m ρ

/-- The idealized reference of those calls. -/
theorem frame_branch_reference : Cert.quiescent_BranchRefIdeal := fun m ρ _ =>
  (θ_run Cert.BranchRefIdeal.defs _ _).mono (fun r h => ⟨fun c => (h c).2.2.2.2, sem_eq_zero_of_no_sems (by decide) r.2⟩)
    (Cert.BranchRefIdeal.Value.run m ρ)

set_option maxHeartbeats 1600000 in
/-- The value claim of those calls: the gated mixer's output, the normalised queries and keys, and the values. -/
theorem algebraic_branch : Cert.algebraic_BranchIdeal_BranchRefIdeal := by
  intro m ρ m' ρ' _ hag
  let A (c : Dev Cert.BranchIdeal.nD) := Rows.Branch.arg m c
  refine ⟨fun c => (Rows.Branch.gatedOn (A c Cert.BranchIdeal.main_arg0) (Rows.Branch.one (N := 512) (A c Cert.BranchIdeal.main_arg1)) (Rows.Branch.one (N := 512) (A c Cert.BranchIdeal.main_arg2))
      (A c Cert.BranchIdeal.main_arg3) (Rows.Branch.flip (A c Cert.BranchIdeal.main_arg4)) : Shape.Idx Cert.BranchIdeal.S2048x512 → EReal),
    fun c => (Rows.Branch.queriesOn (A c Cert.BranchIdeal.main_arg0) (Rows.Branch.one (N := 64) (A c Cert.BranchIdeal.main_arg5)) : Shape.Idx Cert.BranchIdeal.S2048x512 → EReal),
    fun c => (Rows.Branch.normsOn 5 (A c Cert.BranchIdeal.main_arg0) (Rows.Branch.one (N := 64) (A c Cert.BranchIdeal.main_arg6)) : Shape.Idx Cert.BranchIdeal.S2048x512 → EReal),
    fun c => (Rows.Branch.valuesOn (A c Cert.BranchIdeal.main_arg0) : Shape.Idx Cert.BranchIdeal.S2048x512 → EReal),
    ?_, ?_⟩
  · refine (θ_run Cert.BranchIdeal.defs _ _).mono (fun r h c => ?_) (Rows.Branch.run m ρ)
    have rd := fun b hb => h c _ (Cert.BranchIdeal.Gen.mem_uc b hb)
    exact ⟨(rd Cert.BranchIdeal.main_v4 (by decide)).trans (Rows.Branch.W4_gated m ρ c),
      (rd Cert.BranchIdeal.main_v7_0 (by decide)).trans (Rows.Branch.W4_queries m ρ c),
      (rd Cert.BranchIdeal.main_v7_1 (by decide)).trans (Rows.Branch.W4_keys m ρ c),
      (rd Cert.BranchIdeal.main_v7_2 (by decide)).trans (Rows.Branch.W4_vals m ρ c),
      (rd Cert.BranchIdeal.main_arg0 (by decide)).trans (Cert.BranchIdeal.Gen.W4_main_arg0 m ρ c),
      (rd Cert.BranchIdeal.main_arg1 (by decide)).trans (Cert.BranchIdeal.Gen.W4_main_arg1 m ρ c),
      (rd Cert.BranchIdeal.main_arg2 (by decide)).trans (Cert.BranchIdeal.Gen.W4_main_arg2 m ρ c),
      (rd Cert.BranchIdeal.main_arg3 (by decide)).trans (Cert.BranchIdeal.Gen.W4_main_arg3 m ρ c),
      (rd Cert.BranchIdeal.main_arg4 (by decide)).trans (Cert.BranchIdeal.Gen.W4_main_arg4 m ρ c),
      (rd Cert.BranchIdeal.main_arg5 (by decide)).trans (Cert.BranchIdeal.Gen.W4_main_arg5 m ρ c),
      (rd Cert.BranchIdeal.main_arg6 (by decide)).trans (Cert.BranchIdeal.Gen.W4_main_arg6 m ρ c)⟩
  · refine (θ_run Cert.BranchRefIdeal.defs _ _).mono (fun r h c => ?_) (Cert.BranchRefIdeal.Value.run m' ρ')
    obtain ⟨e0, e1, e2, e3, e4, e5, e6⟩ := hag c
    obtain ⟨r0, r1, r2, r3, rest⟩ := h c
    refine ⟨r0.trans ?_, r1.trans ?_, r2.trans ?_, r3.trans ?_, rest⟩
    · unfold Cert.BranchRefIdeal.Value.res_main_v91
      rw [e0, e1, e2, e3, e4]
      exact Rows.BranchRef.ref_gated (A c Cert.BranchIdeal.main_arg0) (A c Cert.BranchIdeal.main_arg1) (A c Cert.BranchIdeal.main_arg2) (A c Cert.BranchIdeal.main_arg3) (A c Cert.BranchIdeal.main_arg4)
    · rw [e0, e5]; exact Rows.BranchRef.ref_q (A c Cert.BranchIdeal.main_arg0) (A c Cert.BranchIdeal.main_arg5)
    · rw [e0, e6]; exact Rows.BranchRef.ref_k (A c Cert.BranchIdeal.main_arg0) (A c Cert.BranchIdeal.main_arg6)
    · rw [e0]; exact Rows.BranchRef.ref_v (A c Cert.BranchIdeal.main_arg0)

/-- The gradient of the norms of the queries and the keys. -/
theorem frame_head : Cert.quiescent_HeadGrad := fun m ρ _ => Cert.HeadGrad.Gen.frame m ρ

/-- The idealized gradient of the norms of the queries and the keys. -/
theorem frame_head_ideal : Cert.quiescent_HeadGradIdeal := fun m ρ _ => Cert.HeadGradIdeal.Gen.frame m ρ

/-- The idealized reference of the gradient of the norms of the queries and the keys. -/
theorem frame_head_reference : Cert.quiescent_HeadGradRefIdeal := fun m ρ _ =>
  (θ_run Cert.HeadGradRefIdeal.defs _ _).mono (fun r h => ⟨fun c => (h c).2.2.2.2.2, sem_eq_zero_of_no_sems (by decide) r.2⟩)
    (Cert.HeadGradRefIdeal.Value.run m ρ)

/-- The value claim of the gradient of the norms of the queries and the keys: at both, at the values, and at the two norms' weights. -/
theorem algebraic_head : Cert.algebraic_HeadGradIdeal_HeadGradRefIdeal := by
  intro m ρ m' ρ' _ hag
  let A0 (c : Dev Cert.HeadGradIdeal.nD) := m ((c.tc : Thread Cert.HeadGradIdeal.nD Cert.HeadGradIdeal.τ).loc Cert.HeadGradIdeal.main_arg0)
  let A1 (c : Dev Cert.HeadGradIdeal.nD) := m ((c.tc : Thread Cert.HeadGradIdeal.nD Cert.HeadGradIdeal.τ).loc Cert.HeadGradIdeal.main_arg1)
  let A2 (c : Dev Cert.HeadGradIdeal.nD) := m ((c.tc : Thread Cert.HeadGradIdeal.nD Cert.HeadGradIdeal.τ).loc Cert.HeadGradIdeal.main_arg2)
  let A3 (c : Dev Cert.HeadGradIdeal.nD) := m ((c.tc : Thread Cert.HeadGradIdeal.nD Cert.HeadGradIdeal.τ).loc Cert.HeadGradIdeal.main_arg3)
  let A4 (c : Dev Cert.HeadGradIdeal.nD) := m ((c.tc : Thread Cert.HeadGradIdeal.nD Cert.HeadGradIdeal.τ).loc Cert.HeadGradIdeal.main_arg4)
  let A5 (c : Dev Cert.HeadGradIdeal.nD) := m ((c.tc : Thread Cert.HeadGradIdeal.nD Cert.HeadGradIdeal.τ).loc Cert.HeadGradIdeal.main_arg5)
  refine ⟨fun c => (Rows.Head.gradsQ (A0 c) (A1 c) (A3 c) : Shape.Idx Cert.HeadGradIdeal.S2048x512 → EReal),
    fun c => (Rows.Head.gradsK (A0 c) (A2 c) (A4 c) : Shape.Idx Cert.HeadGradIdeal.S2048x512 → EReal),
    fun c => (A5 c : Shape.Idx Cert.HeadGradIdeal.S2048x512 → EReal),
    fun c => (Rows.Head.weightsQ (A0 c) (A3 c) : Shape.Idx Cert.HeadGradIdeal.S1x64 → EReal),
    fun c => (Rows.Head.weightsK (A0 c) (A4 c) : Shape.Idx Cert.HeadGradIdeal.S1x64 → EReal),
    ?_, ?_⟩
  · refine (θ_run Cert.HeadGradIdeal.defs _ _).mono (fun r h c => ?_) (Cert.HeadGradIdeal.Value.run_blocks m ρ)
    obtain ⟨r0, r1, r2, r3, r4, rest⟩ := h c
    exact ⟨r0.trans (Rows.Head.final_q c m), r1.trans (Rows.Head.final_k c m), r2.trans (Rows.Head.final_v c m), r3.trans (Rows.Head.final_gq c m),
      r4.trans (Rows.Head.final_gk c m), rest⟩
  · refine (θ_run Cert.HeadGradRefIdeal.defs _ _).mono (fun r h c => ?_) (Cert.HeadGradRefIdeal.Value.run m' ρ')
    obtain ⟨e0, e1, e2, e3, e4, e5⟩ := hag c
    obtain ⟨r0, r1, r2, r3, r4, rest⟩ := h c
    refine ⟨r0.trans ?_, r1.trans ?_, r2.trans ?_, r3.trans ?_, r4.trans ?_, rest⟩
    · exact Rows.HeadRef.res_q (A0 c) (A3 c) m' c (A1 c) e0 e1 e3
    · exact Rows.HeadRef.res_k (A0 c) (A4 c) m' c (A2 c) e0 e2 e4
    · rw [e5]; exact Rows.HeadRef.ref_v (A5 c)
    · rw [e0, e3]; exact Rows.HeadRef.ref_gq (A0 c) (A3 c)
    · rw [e0, e4]; exact Rows.HeadRef.ref_gk (A0 c) (A4 c)

/-- The convolution of 31 rows and its gradient. -/
theorem frame_conv : Cert.quiescent_Conv := fun m ρ _ => Cert.Conv.Gen.frame m ρ

/-- The idealized convolution of 31 rows and its gradient. -/
theorem frame_conv_ideal : Cert.quiescent_ConvIdeal := fun m ρ _ => Cert.ConvIdeal.Gen.frame m ρ

/-- The idealized reference of the convolution of 31 rows and its gradient. -/
theorem frame_conv_reference : Cert.quiescent_ConvRefIdeal := fun m ρ _ =>
  (θ_run Cert.ConvRefIdeal.defs _ _).mono (fun r h => ⟨fun c => (h c).2.2.2.2, sem_eq_zero_of_no_sems (by decide) r.2⟩)
    (Cert.ConvRefIdeal.Value.run m ρ)

/-- The convolution of 31 rows: its output is the sum over the 31 delays of the weights times the delayed rows, with the
    offsets, and the three gradients are those of this sum at the rows, the weights and the offsets. -/
theorem algebraic_conv : Cert.algebraic_ConvIdeal_ConvRefIdeal := by
  intro m ρ m' ρ' _ hag
  let A (c : Dev Cert.ConvIdeal.nD) := Rows.Conv.arg m c
  refine ⟨fun c => (Rows.Conv.convOn (A c Cert.ConvIdeal.main_arg0) (A c Cert.ConvIdeal.main_arg1) (Rows.Conv.one (N := 512) (A c Cert.ConvIdeal.main_arg2)) : Shape.Idx Cert.ConvIdeal.S2048x512 → EReal),
    fun c => (Rows.Conv.gradOn (A c Cert.ConvIdeal.main_arg3) (A c Cert.ConvIdeal.main_arg1) : Shape.Idx Cert.ConvIdeal.S2048x512 → EReal),
    fun c => (Rows.Conv.tapsOn (A c Cert.ConvIdeal.main_arg0) (A c Cert.ConvIdeal.main_arg3) : Shape.Idx Cert.ConvIdeal.S31x512 → EReal),
    fun c => (Rows.Conv.sumsOn (A c Cert.ConvIdeal.main_arg3) : Shape.Idx Cert.ConvIdeal.S1x512 → EReal),
    ?_, ?_⟩
  · refine (θ_run Cert.ConvIdeal.defs _ _).mono (fun r h c => ?_) (Rows.Conv.run m ρ)
    have rd := fun b hb => h c _ (Cert.ConvIdeal.Gen.mem_uc b hb)
    exact ⟨(rd Cert.ConvIdeal.main_v1 (by decide)).trans (Rows.Conv.W3_y m ρ c),
      (rd Cert.ConvIdeal.main_v2_0 (by decide)).trans (Rows.Conv.W3_dx m ρ c),
      (rd Cert.ConvIdeal.main_v2_1 (by decide)).trans (Rows.Conv.W3_dw m ρ c),
      (rd Cert.ConvIdeal.main_v2_2 (by decide)).trans (Rows.Conv.W3_db m ρ c),
      (rd Cert.ConvIdeal.main_arg0 (by decide)).trans (Cert.ConvIdeal.Gen.W3_main_arg0 m ρ c),
      (rd Cert.ConvIdeal.main_arg1 (by decide)).trans (Cert.ConvIdeal.Gen.W3_main_arg1 m ρ c),
      (rd Cert.ConvIdeal.main_arg2 (by decide)).trans (Cert.ConvIdeal.Gen.W3_main_arg2 m ρ c),
      (rd Cert.ConvIdeal.main_arg3 (by decide)).trans (Cert.ConvIdeal.Gen.W3_main_arg3 m ρ c)⟩
  · refine (θ_run Cert.ConvRefIdeal.defs _ _).mono (fun r h c => ?_) (Cert.ConvRefIdeal.Value.run m' ρ')
    obtain ⟨e0, e1, e2, e3⟩ := hag c
    obtain ⟨r0, r1, r2, r3, rest⟩ := h c
    let V := StableHlo.launchContents m' c
    have a0 : Rows.ConvRef.rows V = A c Cert.ConvIdeal.main_arg0 := e0
    have a1 : Rows.ConvRef.weights V = A c Cert.ConvIdeal.main_arg1 := e1
    have a2 : Rows.ConvRef.offsets V = A c Cert.ConvIdeal.main_arg2 := e2
    have a3 : Rows.ConvRef.grads V = A c Cert.ConvIdeal.main_arg3 := e3
    exact ⟨r0.trans ((Rows.ConvRef.ref_y V).trans (congr (congrArg₂ Rows.Conv.convOn a0 a1) (congrArg (Rows.Conv.one (N := 512)) a2))),
      r1.trans ((Rows.ConvRef.ref_dx V).trans (congrArg₂ Rows.Conv.gradOn a3 a1)),
      r2.trans ((Rows.ConvRef.ref_dw V).trans (congrArg₂ Rows.Conv.tapsOn a0 a3)),
      r3.trans ((Rows.ConvRef.ref_db V).trans (congrArg Rows.Conv.sumsOn a3)), rest⟩

/-- The loss head. -/
theorem frame_loss : Cert.quiescent_Loss := fun m ρ _ => Cert.Loss.Gen.frame m ρ

/-- The idealized loss head. -/
theorem frame_loss_ideal : Cert.quiescent_LossIdeal := fun m ρ _ => Cert.LossIdeal.Gen.frame m ρ

/-- The idealized reference of the loss head. -/
theorem frame_loss_reference : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run m ρ)

/-- The value claim of the loss head: the loss, half the sum of the rows' mean squared differences, and its gradient at the
    output. -/
theorem algebraic_loss : Cert.algebraic_LossIdeal_LossRefIdeal := by
  intro m ρ m' ρ' _ hag
  let A0 (c : Dev Cert.LossIdeal.nD) := m ((c.tc : Thread Cert.LossIdeal.nD Cert.LossIdeal.τ).loc Cert.LossIdeal.main_arg0)
  let A1 (c : Dev Cert.LossIdeal.nD) := m ((c.tc : Thread Cert.LossIdeal.nD Cert.LossIdeal.τ).loc Cert.LossIdeal.main_arg1)
  refine ⟨fun c => (Rows.Loss.gradOn (A0 c) (A1 c) : Shape.Idx Cert.LossIdeal.S2048x1024 → EReal),
    fun c => (Rows.Loss.lossOn (A0 c) (A1 c) : Shape.Idx Cert.LossIdeal.S1x128 → EReal),
    ?_, ?_⟩
  · refine (θ_run Cert.LossIdeal.defs _ _).mono (fun r h c => ?_) (Cert.LossIdeal.Value.run_blocks m ρ)
    obtain ⟨r0, r1, rest⟩ := h c
    exact ⟨r0.trans (Rows.Loss.final_y m c), r1.trans (Rows.Loss.final_l m c), rest⟩
  · refine (θ_run Cert.LossRefIdeal.defs _ _).mono (fun r h c => ?_) (Cert.LossRefIdeal.Value.run m' ρ')
    obtain ⟨e0, e1⟩ := hag c
    obtain ⟨r0, r1, rest⟩ := h c
    refine ⟨r0.trans ?_, r1.trans ?_, rest⟩
    · rw [e0, e1]; exact Rows.LossRef.ref_y (A0 c) (A1 c)
    · rw [e0, e1]; exact Rows.LossRef.ref_l (A0 c) (A1 c)

/-- The gated mixer's gradient. -/
theorem frame_gate : Cert.quiescent_GateGrad := fun m ρ _ => Cert.GateGrad.Gen.frame m ρ

/-- The idealized gated mixer's gradient. -/
theorem frame_gate_ideal : Cert.quiescent_GateGradIdeal := fun m ρ _ => Cert.GateGradIdeal.Gen.frame m ρ

/-- The idealized reference of the gated mixer's gradient. -/
theorem frame_gate_reference : Cert.quiescent_GateGradRefIdeal := fun m ρ _ =>
  (θ_run Cert.GateGradRefIdeal.defs _ _).mono (fun r h => ⟨fun c => (h c).2.2.2.2.2.2, sem_eq_zero_of_no_sems (by decide) r.2⟩)
    (Cert.GateGradRefIdeal.Value.run m ρ)

/-- The value claim of the gated mixer's gradient: the gradients at the two halves, at the norm's weights and offsets, at the
    triangles and at their offsets. -/
theorem algebraic_gate : Cert.algebraic_GateGradIdeal_GateGradRefIdeal := by
  intro m ρ m' ρ' _ hag
  let A0 (c : Dev Cert.GateGradIdeal.nD) := m ((c.tc : Thread Cert.GateGradIdeal.nD Cert.GateGradIdeal.τ).loc Cert.GateGradIdeal.main_arg0)
  let A1 (c : Dev Cert.GateGradIdeal.nD) := m ((c.tc : Thread Cert.GateGradIdeal.nD Cert.GateGradIdeal.τ).loc Cert.GateGradIdeal.main_arg1)
  let A2 (c : Dev Cert.GateGradIdeal.nD) := m ((c.tc : Thread Cert.GateGradIdeal.nD Cert.GateGradIdeal.τ).loc Cert.GateGradIdeal.main_arg2)
  let A3 (c : Dev Cert.GateGradIdeal.nD) := m ((c.tc : Thread Cert.GateGradIdeal.nD Cert.GateGradIdeal.τ).loc Cert.GateGradIdeal.main_arg3)
  let A4 (c : Dev Cert.GateGradIdeal.nD) := m ((c.tc : Thread Cert.GateGradIdeal.nD Cert.GateGradIdeal.τ).loc Cert.GateGradIdeal.main_arg4)
  let A5 (c : Dev Cert.GateGradIdeal.nD) := m ((c.tc : Thread Cert.GateGradIdeal.nD Cert.GateGradIdeal.τ).loc Cert.GateGradIdeal.main_arg5)
  refine ⟨fun c => (Rows.Gate.gradU (A0 c) (A1 c) (A2 c) (A3 c) (A4 c) (A5 c) : Shape.Idx Cert.GateGradIdeal.S2048x512 → EReal),
    fun c => (Rows.Gate.gradV (A0 c) (A1 c) (A3 c) (A5 c) : Shape.Idx Cert.GateGradIdeal.S2048x512 → EReal),
    fun c => (Rows.Gate.gradG (A0 c) (A3 c) (A5 c) : Shape.Idx Cert.GateGradIdeal.S1x512 → EReal),
    fun c => (Rows.Gate.gradB (A0 c) (A3 c) (A5 c) : Shape.Idx Cert.GateGradIdeal.S1x512 → EReal),
    fun c => (Rows.Gate.gradW (A0 c) (A1 c) (A2 c) (A5 c) : Shape.Idx Cert.GateGradIdeal.S8x128x128 → EReal),
    fun c => (Rows.Gate.gradO (A0 c) (A5 c) : Shape.Idx Cert.GateGradIdeal.S128x8 → EReal), ?_, ?_⟩
  · refine (θ_run Cert.GateGradIdeal.defs _ _).mono (fun r h c => ?_) (Cert.GateGradIdeal.Value.run_blocks m ρ)
    obtain ⟨r0, r1, r2, r3, r4, r5, rest⟩ := h c
    exact ⟨r0.trans (Rows.Gate.final_u m c), r1.trans (Rows.Gate.final_v m c), r2.trans (Rows.Gate.final_g m c), r3.trans (Rows.Gate.final_b m c),
      r4.trans (Rows.Gate.final_w m c), r5.trans (Rows.Gate.final_o m c), rest⟩
  · refine (θ_run Cert.GateGradRefIdeal.defs _ _).mono (fun r h c => ?_) (Cert.GateGradRefIdeal.Value.run m' ρ')
    obtain ⟨e0, e1, e2, e3, e4, e5⟩ := hag c
    obtain ⟨r0, r1, r2, r3, r4, r5, rest⟩ := h c
    dsimp only [A0, A1, A2, A3, A4, A5]
    rw [← e0, ← e1, ← e2, ← e3, ← e4, ← e5]
    exact ⟨r0.trans (Rows.GateRef.ref_u (StableHlo.launchContents m' c)), r1.trans (Rows.GateRef.ref_v (StableHlo.launchContents m' c)), r2.trans (Rows.GateRef.ref_g (StableHlo.launchContents m' c)),
      r3.trans (Rows.GateRef.ref_b (StableHlo.launchContents m' c)), r4.trans (Rows.GateRef.ref_w (StableHlo.launchContents m' c)), r5.trans (Rows.GateRef.ref_o (StableHlo.launchContents m' c)), rest⟩

theorem claim : Cert.Claim := ⟨Cert.Kernel.Gen.facts, Cert.KernelIdeal.Gen.facts, Cert.ReferenceIdeal.Gen.facts, Cert.InProj.Gen.facts,
  Cert.InProjIdeal.Gen.facts, Cert.InProjRefIdeal.Gen.facts, Cert.OutProj.Gen.facts, Cert.OutProjIdeal.Gen.facts, Cert.OutProjRefIdeal.Gen.facts,
  Cert.Mixer.Gen.facts, Cert.MixerIdeal.Gen.facts, Cert.MixerRefIdeal.Gen.facts,
  Cert.RmsGrad.Gen.facts, Cert.RmsGradIdeal.Gen.facts, Cert.RmsGradRefIdeal.Gen.facts, Cert.NormGrad.Gen.facts, Cert.NormGradIdeal.Gen.facts, Cert.NormGradRefIdeal.Gen.facts, Cert.MergeGrad.Gen.facts, Cert.MergeGradIdeal.Gen.facts, Cert.MergeGradRefIdeal.Gen.facts,
  Cert.Forward.Gen.facts, Cert.ForwardIdeal.Gen.facts, Cert.ForwardRefIdeal.Gen.facts,
  Cert.Branch.Gen.facts, Cert.BranchIdeal.Gen.facts, Cert.BranchRefIdeal.Gen.facts,
  Cert.HeadGrad.Gen.facts, Cert.HeadGradIdeal.Gen.facts, Cert.HeadGradRefIdeal.Gen.facts,
  Cert.Conv.Gen.facts, Cert.ConvIdeal.Gen.facts, Cert.ConvRefIdeal.Gen.facts,
  Cert.Loss.Gen.facts, Cert.LossIdeal.Gen.facts, Cert.LossRefIdeal.Gen.facts,
  Cert.GateGrad.Gen.facts, Cert.GateGradIdeal.Gen.facts, Cert.GateGradRefIdeal.Gen.facts, pre_finite_facts,
  frame_kernel, frame_ideal, fun m ρ _ => frame_ideal m ρ trivial, frame_reference, fun m ρ _ => frame_reference m ρ trivial,
  frame_in, frame_in_ideal, frame_in_reference, frame_out, frame_out_ideal, frame_out_reference, frame_mix, frame_mix_ideal, frame_mix_reference,
  frame_rms, frame_rms_ideal, frame_rms_reference, frame_norm, frame_norm_ideal, frame_norm_reference, frame_merge, frame_merge_ideal, frame_merge_reference,
  frame_forward, frame_forward_ideal, frame_forward_reference,
  frame_branch, frame_branch_ideal, frame_branch_reference, frame_head, frame_head_ideal, frame_head_reference,
  frame_conv, frame_conv_ideal, frame_conv_reference, frame_loss, frame_loss_ideal, frame_loss_reference,
  frame_gate, frame_gate_ideal, frame_gate_reference,
  trivial, @algebraic pre_finite_facts, trivial, algebraic_in, trivial, algebraic_out, trivial, algebraic_mix, trivial, algebraic_rms, trivial, algebraic_norm, trivial, algebraic_merge, trivial, algebraic_forward, trivial, algebraic_branch, trivial, algebraic_head, trivial, algebraic_conv, trivial, algebraic_loss, trivial, algebraic_gate⟩

end Cert.Proof

end
